-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_values [hPre_finite_values : Cert.Pre_finite_values.Facts] (m : (ℓ : Loc Cert.KernelIdeal.nD Cert.KernelIdeal.τ Cert.KernelIdeal.sig) → Buf (Elt Ideal) ℓ) : Prop :=
  ∀ c : Dev Cert.KernelIdeal.nD,
    (Cert.Pre_finite_values.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_values [hPre_finite_values : Cert.Pre_finite_values.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_values.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_values [hKernelIdeal : Cert.KernelIdeal.Facts] [hPre_finite_values : Cert.Pre_finite_values.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_values m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_values [hReferenceIdeal : Cert.ReferenceIdeal.Facts] [hPre_finite_values : Cert.Pre_finite_values.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_values m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def preserves_Kernel_KernelIdeal : Prop :=
  True

def algebraic_KernelIdeal_ReferenceIdeal_pre_finite_values [hKernelIdeal : Cert.KernelIdeal.Facts] [hReferenceIdeal : Cert.ReferenceIdeal.Facts] [hPre_finite_values : Cert.Pre_finite_values.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_values m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v8_0)) (v1 : (c : Dev Cert.Kernel2Ideal.nD) → Buf (Elt Ideal) ((c.tc : Thread Cert.Kernel2Ideal.nD Cert.Kernel2Ideal.τ).loc Cert.Kernel2Ideal.main_v8_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8_0) = v0 c
          ∧ r.2.mem ((c.tc : Thread Cert.Kernel2Ideal.nD Cert.Kernel2Ideal.τ).loc Cert.Kernel2Ideal.main_v8_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v56) = v0 c
          ∧ r.2.mem ((c.tc : Thread Cert.Reference2Ideal.nD Cert.Reference2Ideal.τ).loc Cert.Reference2Ideal.main_v57) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v4_0)) (v1 : (c : Dev Cert.Kernel3Ideal.nD) → Buf (Elt Ideal) ((c.tc : Thread Cert.Kernel3Ideal.nD Cert.Kernel3Ideal.τ).loc Cert.Kernel3Ideal.main_v4_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4_0) = v0 c
          ∧ r.2.mem ((c.tc : Thread Cert.Kernel3Ideal.nD Cert.Kernel3Ideal.τ).loc Cert.Kernel3Ideal.main_v4_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v14) = v0 c
          ∧ r.2.mem ((c.tc : Thread Cert.Reference3Ideal.nD Cert.Reference3Ideal.τ).loc Cert.Reference3Ideal.main_v16) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v38) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v1_0)) (v1 : (c : Dev Cert.Kernel5Ideal.nD) → Buf (Elt Ideal) ((c.tc : Thread Cert.Kernel5Ideal.nD Cert.Kernel5Ideal.τ).loc Cert.Kernel5Ideal.main_v1_1)) (v2 : (c : Dev Cert.Kernel5Ideal.nD) → Buf (Elt Ideal) ((c.tc : Thread Cert.Kernel5Ideal.nD Cert.Kernel5Ideal.τ).loc Cert.Kernel5Ideal.main_v1_2)) (v3 : (c : Dev Cert.Kernel5Ideal.nD) → Buf (Elt Ideal) ((c.tc : Thread Cert.Kernel5Ideal.nD Cert.Kernel5Ideal.τ).loc Cert.Kernel5Ideal.main_v1_3)) (v4 : (c : Dev Cert.Kernel5Ideal.nD) → Buf (Elt Ideal) ((c.tc : Thread Cert.Kernel5Ideal.nD Cert.Kernel5Ideal.τ).loc Cert.Kernel5Ideal.main_v1_4)) (v5 : (c : Dev Cert.Kernel5Ideal.nD) → Buf (Elt Ideal) ((c.tc : Thread Cert.Kernel5Ideal.nD Cert.Kernel5Ideal.τ).loc Cert.Kernel5Ideal.main_v1_5)) (v6 : (c : Dev Cert.Kernel5Ideal.nD) → Buf (Elt Ideal) ((c.tc : Thread Cert.Kernel5Ideal.nD Cert.Kernel5Ideal.τ).loc Cert.Kernel5Ideal.main_v1_6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1_0) = v0 c
          ∧ r.2.mem ((c.tc : Thread Cert.Kernel5Ideal.nD Cert.Kernel5Ideal.τ).loc Cert.Kernel5Ideal.main_v1_1) = v1 c
          ∧ r.2.mem ((c.tc : Thread Cert.Kernel5Ideal.nD Cert.Kernel5Ideal.τ).loc Cert.Kernel5Ideal.main_v1_2) = v2 c
          ∧ r.2.mem ((c.tc : Thread Cert.Kernel5Ideal.nD Cert.Kernel5Ideal.τ).loc Cert.Kernel5Ideal.main_v1_3) = v3 c
          ∧ r.2.mem ((c.tc : Thread Cert.Kernel5Ideal.nD Cert.Kernel5Ideal.τ).loc Cert.Kernel5Ideal.main_v1_4) = v4 c
          ∧ r.2.mem ((c.tc : Thread Cert.Kernel5Ideal.nD Cert.Kernel5Ideal.τ).loc Cert.Kernel5Ideal.main_v1_5) = v5 c
          ∧ r.2.mem ((c.tc : Thread Cert.Kernel5Ideal.nD Cert.Kernel5Ideal.τ).loc Cert.Kernel5Ideal.main_v1_6) = v6 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v17) = v0 c
          ∧ r.2.mem ((c.tc : Thread Cert.Reference5Ideal.nD Cert.Reference5Ideal.τ).loc Cert.Reference5Ideal.main_v26) = v1 c
          ∧ r.2.mem ((c.tc : Thread Cert.Reference5Ideal.nD Cert.Reference5Ideal.τ).loc Cert.Reference5Ideal.main_v27) = v2 c
          ∧ r.2.mem ((c.tc : Thread Cert.Reference5Ideal.nD Cert.Reference5Ideal.τ).loc Cert.Reference5Ideal.main_v28) = v3 c
          ∧ r.2.mem ((c.tc : Thread Cert.Reference5Ideal.nD Cert.Reference5Ideal.τ).loc Cert.Reference5Ideal.main_v29) = v4 c
          ∧ r.2.mem ((c.tc : Thread Cert.Reference5Ideal.nD Cert.Reference5Ideal.τ).loc Cert.Reference5Ideal.main_v30) = v5 c
          ∧ r.2.mem ((c.tc : Thread Cert.Reference5Ideal.nD Cert.Reference5Ideal.τ).loc Cert.Reference5Ideal.main_v31) = v6 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_values : Cert.Pre_finite_values.Facts),
    quiescent_Kernel (hKernel := hKernel)
    ∧ quiescent_KernelIdeal (hKernelIdeal := hKernelIdeal)
    ∧ quiescent_KernelIdeal_pre_finite_values (hKernelIdeal := hKernelIdeal) (hPre_finite_values := hPre_finite_values)
    ∧ quiescent_ReferenceIdeal (hReferenceIdeal := hReferenceIdeal)
    ∧ quiescent_ReferenceIdeal_pre_finite_values (hReferenceIdeal := hReferenceIdeal) (hPre_finite_values := hPre_finite_values)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite_values (hKernelIdeal := hKernelIdeal) (hReferenceIdeal := hReferenceIdeal) (hPre_finite_values := hPre_finite_values)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite_values.lean ====
abbrev S8x256x4096 : Shape := ⟨3, ![8, 256, 4096]⟩
abbrev S8x4096x256 : Shape := ⟨3, ![8, 4096, 256]⟩
abbrev S4x32 : Shape := ⟨2, ![4, 32]⟩
abbrev S64 : Shape := ⟨1, ![64]⟩
abbrev S_ : Shape := ⟨0, ![]⟩

class Facts : Prop where
  bitsLt_bf16_f32 : FTy.bits .bf16 < FTy.bits .f32
  bcast_S_S8x256x4096 : S_.BroadcastsInDim S8x256x4096 (![] : Fin 0 → Fin S8x256x4096.rank)
  reducesTo_S4x32_S_d0_1 : S4x32.ReducesTo [0, 1] S_
  h_S_ : 0 < S_.numel

variable [Facts]

def fn {F : FTy → Type} [FloatOps F] (main_arg0 : FVec F S8x256x4096 .bf16) (main_arg1 : FVec F S8x4096x256 .bf16) (main_arg2 : FVec F S8x256x4096 .bf16) (main_arg3 : FVec F S4x32 .f32) (main_arg4 : FVec F S64 .f32) : IVec S8x256x4096 1 :=
  let main_v0 : FVec F S8x256x4096 .f32 := (extf .f32 · bitsLt_bf16_f32) main_arg2
  let main_v1 : FVec F S8x256x4096 .f32 := Host.absf main_v0
  let main_cst : FVec F S_ .f32 := constant S_ .f32 0x7F800000#32
  let main_v2 : FVec F S8x256x4096 .f32 := broadcastInDim S8x256x4096 ![] bcast_S_S8x256x4096 main_cst
  let main_v3 : IVec S8x256x4096 1 := cmpf .olt main_v1 main_v2
  let main_v4 : FVec F S4x32 .f32 := Host.absf main_arg3
  let main_cst_0 : FVec F S_ .f32 := constant S_ .f32 0xFF800000#32
  let main_v5 : FVec F S_ .f32 := (fun x v => Host.reduce FloatOps.maximumf x v reducesTo_S4x32_S_d0_1 h_S_) main_v4 main_cst_0
  let main_cst_1 : FVec F S_ .f32 := constant S_ .f32 0x7F800000#32
  let main_v6 : IVec S_ 1 := cmpf .olt main_v5 main_cst_1
  let main_v7 : IVec S8x256x4096 1 := broadcastInDim S8x256x4096 ![] bcast_S_S8x256x4096 main_v6
  let main_v8 : IVec S8x256x4096 1 := andi main_v3 main_v7
  main_v8
-- ==== Kernel.lean ====
abbrev S8x256x4096 : Shape := ⟨3, ![8, 256, 4096]⟩
abbrev S8x4096x256 : Shape := ⟨3, ![8, 4096, 256]⟩
abbrev S4x32 : Shape := ⟨2, ![4, 32]⟩
abbrev S64 : Shape := ⟨1, ![64]⟩
abbrev S10 : Shape := ⟨1, ![10]⟩
abbrev S1x64 : Shape := ⟨2, ![1, 64]⟩
abbrev S4x64 : Shape := ⟨2, ![4, 64]⟩
abbrev S256 : Shape := ⟨1, ![256]⟩
abbrev S1x256 : Shape := ⟨2, ![1, 256]⟩
abbrev S1x256x1024 : Shape := ⟨3, ![1, 256, 1024]⟩
abbrev S1 : Shape := ⟨1, ![1]⟩
abbrev S1x1024x256 : Shape := ⟨3, ![1, 1024, 256]⟩
abbrev S8x256x1024 : Shape := ⟨3, ![8, 256, 1024]⟩
abbrev S8x1x1024 : Shape := ⟨3, ![8, 1, 1024]⟩
abbrev S8x64x1024 : Shape := ⟨3, ![8, 64, 1024]⟩
abbrev S256x1 : Shape := ⟨2, ![256, 1]⟩
abbrev S256x1024 : Shape := ⟨2, ![256, 1024]⟩
abbrev S1024x256 : Shape := ⟨2, ![1024, 256]⟩
abbrev S1024x1024 : Shape := ⟨2, ![1024, 1024]⟩
abbrev S1x1x1024 : Shape := ⟨3, ![1, 1, 1024]⟩
abbrev S1x1024 : Shape := ⟨2, ![1, 1024]⟩
abbrev S1024 : Shape := ⟨1, ![1024]⟩
abbrev S1x64x1024 : Shape := ⟨3, ![1, 64, 1024]⟩
abbrev S64x1024 : Shape := ⟨2, ![64, 1024]⟩
abbrev S1x32 : Shape := ⟨2, ![1, 32]⟩
abbrev S1x1 : Shape := ⟨2, ![1, 1]⟩

abbrev nBuf : Space → Nat
  | .hbm => 10
  | .vmem => 14
  | .smem => 2
  | _ => 0

abbrev bufTy : (tb : Table) → Fin (tcTables nBuf tb) → BufTy
  | .hbm, ⟨0, _⟩ => ⟨S8x256x4096, .bf16⟩
  | .hbm, ⟨1, _⟩ => ⟨S8x4096x256, .bf16⟩
  | .hbm, ⟨2, _⟩ => ⟨S8x256x4096, .bf16⟩
  | .hbm, ⟨3, _⟩ => ⟨S4x32, .f32⟩
  | .hbm, ⟨4, _⟩ => ⟨S64, .f32⟩
  | .hbm, ⟨5, _⟩ => ⟨S1x64, .f32⟩
  | .hbm, ⟨6, _⟩ => ⟨S4x64, .f32⟩
  | .hbm, ⟨7, _⟩ => ⟨S256, .f32⟩
  | .hbm, ⟨8, _⟩ => ⟨S1x256, .f32⟩
  | .hbm, ⟨9, _⟩ => ⟨S8x4096x256, .f32⟩
  | .local _ .vmem, ⟨0, _⟩ => ⟨S4x32, .f32⟩
  | .local _ .vmem, ⟨1, _⟩ => ⟨S1x256x1024, .bf16⟩
  | .local _ .vmem, ⟨2, _⟩ => ⟨S1x256x1024, .bf16⟩
  | .local _ .vmem, ⟨3, _⟩ => ⟨S1x1024x256, .bf16⟩
  | .local _ .vmem, ⟨4, _⟩ => ⟨S1x1024x256, .bf16⟩
  | .local _ .vmem, ⟨5, _⟩ => ⟨S1x256x1024, .bf16⟩
  | .local _ .vmem, ⟨6, _⟩ => ⟨S1x256x1024, .bf16⟩
  | .local _ .vmem, ⟨7, _⟩ => ⟨S1x256, .f32⟩
  | .local _ .vmem, ⟨8, _⟩ => ⟨S1x1024x256, .f32⟩
  | .local _ .vmem, ⟨9, _⟩ => ⟨S1x1024x256, .f32⟩
  | .local _ .vmem, ⟨10, _⟩ => ⟨S8x256x1024, .bf16⟩
  | .local _ .vmem, ⟨11, _⟩ => ⟨S8x1x1024, .f32⟩
  | .local _ .vmem, ⟨12, _⟩ => ⟨S8x1x1024, .f32⟩
  | .local _ .vmem, ⟨13, _⟩ => ⟨S8x64x1024, .f32⟩
  | .local _ .smem, ⟨0, _⟩ => ⟨S10, .i32⟩
  | .local _ .smem, ⟨1, _⟩ => ⟨S10, .i32⟩
  | _, _ => ⟨S8x256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 10], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond3 (v1 : BitVec 32) (v3 : BitVec 32) : BitVec 1 :=
  let v10 : BitVec 1 := Scalar.cmpi .eq v3 v1
  let v11 : BitVec 32 := Scalar.extui v10
  let c0_i32_2 : BitVec 32 := 0#32
  let v12 : BitVec 1 := Scalar.cmpi .ne v11 c0_i32_2
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (k0_off1_inb : ∀ i : grid0.Coords, ∀ a, (k0_off1 i) a + S1.size a ≤ S10.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k0_off1_inb i)) numel1_S1
  let c0_i32 : BitVec 32 := 0#32
  let c0_i32_0 : BitVec 32 := 0#32
  ![arg0.toNat, c0_i32.toNat, v1.toNat]

def cc0_transform_2 (k0_off1_inb : ∀ i : grid0.Coords, ∀ a, (k0_off1 i) a + S1.size a ≤ S10.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S10) ![v0.toNat] S1.size (k0_off1_inb i)) numel1_S1
  let c0_i32 : BitVec 32 := 0#32
  let c0_i32_0 : BitVec 32 := 0#32
  ![arg0.toNat, v1.toNat, c0_i32.toNat]

def cc0_transform_3 (k0_off1_inb : ∀ i : grid0.Coords, ∀ a, (k0_off1 i) a + S1.size a ≤ S10.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S10) ![v0.toNat] S1.size (k0_off1_inb i)) numel1_S1
  let c0_i32 : BitVec 32 := 0#32
  let c0_i32_0 : BitVec 32 := 0#32
  ![arg0.toNat, c0_i32.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (k0_off1_inb : ∀ i : grid0.Coords, ∀ a, (k0_off1 i) a + S1.size a ≤ S10.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k0_off1_inb i)) numel1_S1
  let c0_i32 : BitVec 32 := 0#32
  let c0_i32_0 : BitVec 32 := 0#32
  ![arg0.toNat, v1.toNat, c0_i32.toNat]

abbrev stage0_0 : Fin 1 → Memref sig .tc .vmem S4x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S8x256x4096 : Shape := ⟨3, ![8, 256, 4096]⟩
abbrev S8x4096x256 : Shape := ⟨3, ![8, 4096, 256]⟩
abbrev S4x32 : Shape := ⟨2, ![4, 32]⟩
abbrev S64 : Shape := ⟨1, ![64]⟩
abbrev S8x4096x4x2x32 : Shape := ⟨5, ![8, 4096, 4, 2, 32]⟩
abbrev S8x4096x4x64 : Shape := ⟨4, ![8, 4096, 4, 64]⟩
abbrev S1x32 : Shape := ⟨2, ![1, 32]⟩
abbrev S32 : Shape := ⟨1, ![32]⟩
abbrev S_ : Shape := ⟨0, ![]⟩
abbrev S8x4x2x4096x4096 : Shape := ⟨5, ![8, 4, 2, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4x2x4096 : Shape := ⟨4, ![8, 4, 2, 4096]⟩
abbrev S8x4x2x4096x1 : Shape := ⟨5, ![8, 4, 2, 4096, 1]⟩
abbrev S8x4x1x4096x4096 : Shape := ⟨5, ![8, 4, 1, 4096, 4096]⟩
abbrev S8x4x4096x4096 : Shape := ⟨4, ![8, 4, 4096, 4096]⟩
abbrev S8x4x64x4096 : Shape := ⟨4, ![8, 4, 64, 4096]⟩
abbrev S8x4096x4 : Shape := ⟨3, ![8, 4096, 4]⟩
abbrev S8x4096x4x1 : Shape := ⟨4, ![8, 4096, 4, 1]⟩
abbrev S1x1x1x64 : Shape := ⟨4, ![1, 1, 1, 64]⟩

abbrev nBuf : Space → Nat
  | .hbm => 88
  | .vmem => 0
  | .smem => 0
  | _ => 0

abbrev bufTy : (tb : Table) → Fin (tcTables nBuf tb) → BufTy
  | .hbm, ⟨0, _⟩ => ⟨S8x256x4096, .bf16⟩
  | .hbm, ⟨1, _⟩ => ⟨S8x4096x256, .bf16⟩
  | .hbm, ⟨2, _⟩ => ⟨S8x256x4096, .bf16⟩
  | .hbm, ⟨3, _⟩ => ⟨S4x32, .f32⟩
  | .hbm, ⟨4, _⟩ => ⟨S64, .f32⟩
  | .hbm, ⟨5, _⟩ => ⟨S8x256x4096, .f32⟩
  | .hbm, ⟨6, _⟩ => ⟨S8x4096x256, .f32⟩
  | .hbm, ⟨7, _⟩ => ⟨S8x4096x4x2x32, .f32⟩
  | .hbm, ⟨8, _⟩ => ⟨S8x4096x256, .f32⟩
  | .hbm, ⟨9, _⟩ => ⟨S8x4096x4x2x32, .f32⟩
  | .hbm, ⟨10, _⟩ => ⟨S8x256x4096, .f32⟩
  | .hbm, ⟨11, _⟩ => ⟨S8x4096x256, .f32⟩
  | .hbm, ⟨12, _⟩ => ⟨S8x4096x4x64, .f32⟩
  | .hbm, ⟨13, _⟩ => ⟨S1x32, .f32⟩
  | .hbm, ⟨14, _⟩ => ⟨S32, .f32⟩
  | .hbm, ⟨15, _⟩ => ⟨S1x32, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S1x32, .f32⟩
  | .hbm, ⟨22, _⟩ => ⟨S32, .f32⟩
  | .hbm, ⟨23, _⟩ => ⟨S1x32, .f32⟩
  | .hbm, ⟨24, _⟩ => ⟨S32, .f32⟩
  | .hbm, ⟨25, _⟩ => ⟨S32, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S8x4x2x4096x4096, .f32⟩
  | .hbm, ⟨33, _⟩ => ⟨S4096, .i32⟩
  | .hbm, ⟨34, _⟩ => ⟨S4096, .i32⟩
  | .hbm, ⟨35, _⟩ => ⟨S1x4096, .i32⟩
  | .hbm, ⟨36, _⟩ => ⟨S4096x1, .i32⟩
  | .hbm, ⟨37, _⟩ => ⟨S4096x4096, .i32⟩
  | .hbm, ⟨38, _⟩ => ⟨S4096x4096, .i32⟩
  | .hbm, ⟨39, _⟩ => ⟨S4096x4096, .i1⟩
  | .hbm, ⟨40, _⟩ => ⟨S_, .f32⟩
  | .hbm, ⟨41, _⟩ => ⟨S_, .f32⟩
  | .hbm, ⟨42, _⟩ => ⟨S8x4x2x4096x4096, .i1⟩
  | .hbm, ⟨43, _⟩ => ⟨S8x4x2x4096x4096, .f32⟩
  | .hbm, ⟨44, _⟩ => ⟨S8x4x2x4096x4096, .f32⟩
  | .hbm, ⟨45, _⟩ => ⟨S_, .f32⟩
  | .hbm, ⟨46, _⟩ => ⟨S8x4x2x4096, .f32⟩
  | .hbm, ⟨47, _⟩ => ⟨S_, .f32⟩
  | .hbm, ⟨48, _⟩ => ⟨S8x4x2x4096, .f32⟩
  | .hbm, ⟨49, _⟩ => ⟨S8x4x2x4096, .f32⟩
  | .hbm, ⟨50, _⟩ => ⟨S8x4x2x4096x1, .f32⟩
  | .hbm, ⟨51, _⟩ => ⟨S8x4x2x4096x4096, .f32⟩
  | .hbm, ⟨52, _⟩ => ⟨S8x4x2x4096x4096, .f32⟩
  | .hbm, ⟨53, _⟩ => ⟨S8x4x2x4096x4096, .f32⟩
  | .hbm, ⟨54, _⟩ => ⟨S_, .f32⟩
  | .hbm, ⟨55, _⟩ => ⟨S8x4x2x4096, .f32⟩
  | .hbm, ⟨56, _⟩ => ⟨S8x4x2x4096x1, .f32⟩
  | .hbm, ⟨57, _⟩ => ⟨S8x4x2x4096x4096, .f32⟩
  | .hbm, ⟨58, _⟩ => ⟨S8x4x2x4096x4096, .f32⟩
  | .hbm, ⟨59, _⟩ => ⟨S8x4x1x4096x4096, .f32⟩
  | .hbm, ⟨60, _⟩ => ⟨S8x4x4096x4096, .f32⟩
  | .hbm, ⟨61, _⟩ => ⟨S8x4x1x4096x4096, .f32⟩
  | .hbm, ⟨62, _⟩ => ⟨S8x4x4096x4096, .f32⟩
  | .hbm, ⟨63, _⟩ => ⟨S8x4x4096x4096, .f32⟩
  | .hbm, ⟨64, _⟩ => ⟨S8x4x4096x4096, .f32⟩
  | .hbm, ⟨65, _⟩ => ⟨S8x4x4096x4096, .f32⟩
  | .hbm, ⟨66, _⟩ => ⟨S8x4x64x4096, .f32⟩
  | .hbm, ⟨67, _⟩ => ⟨S8x4096x4x64, .f32⟩
  | .hbm, ⟨68, _⟩ => ⟨S8x4096x4x64, .f32⟩
  | .hbm, ⟨69, _⟩ => ⟨S_, .f32⟩
  | .hbm, ⟨70, _⟩ => ⟨S8x4096x4, .f32⟩
  | .hbm, ⟨71, _⟩ => ⟨S8x4096x4x1, .f32⟩
  | .hbm, ⟨72, _⟩ => ⟨S_, .f32⟩
  | .hbm, ⟨73, _⟩ => ⟨S8x4096x4x1, .f32⟩
  | .hbm, ⟨74, _⟩ => ⟨S8x4096x4x1, .f32⟩
  | .hbm, ⟨75, _⟩ => ⟨S_, .f32⟩
  | .hbm, ⟨76, _⟩ => ⟨S8x4096x4x1, .f32⟩
  | .hbm, ⟨77, _⟩ => ⟨S8x4096x4x1, .f32⟩
  | .hbm, ⟨78, _⟩ => ⟨S8x4096x4x1, .f32⟩
  | .hbm, ⟨79, _⟩ => ⟨S8x4096x4x64, .f32⟩
  | .hbm, ⟨80, _⟩ => ⟨S8x4096x4x64, .f32⟩
  | .hbm, ⟨81, _⟩ => ⟨S1x1x1x64, .f32⟩
  | .hbm, ⟨82, _⟩ => ⟨S8x4096x4x64, .f32⟩
  | .hbm, ⟨83, _⟩ => ⟨S8x4096x4x64, .f32⟩
  | .hbm, ⟨84, _⟩ => ⟨S_, .f32⟩
  | .hbm, ⟨85, _⟩ => ⟨S8x4096x4x64, .f32⟩
  | .hbm, ⟨86, _⟩ => ⟨S8x4096x4x64, .f32⟩
  | .hbm, ⟨87, _⟩ => ⟨S8x4096x256, .f32⟩
  | _, _ => ⟨S8x256x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_0 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_1 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_2 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_v32 : Ref sig .tc := ⟨.hbm, 44, rfl⟩
abbrev main_cst_3 : Ref sig .tc := ⟨.hbm, 45, rfl⟩
abbrev main_v33 : Ref sig .tc := ⟨.hbm, 46, rfl⟩
abbrev main_cst_4 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_5 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_6 : Ref sig .tc := ⟨.hbm, 69, rfl⟩
abbrev main_v54 : Ref sig .tc := ⟨.hbm, 70, rfl⟩
abbrev main_v55 : Ref sig .tc := ⟨.hbm, 71, rfl⟩
abbrev main_cst_7 : Ref sig .tc := ⟨.hbm, 72, rfl⟩
abbrev main_v56 : Ref sig .tc := ⟨.hbm, 73, rfl⟩
abbrev main_v57 : Ref sig .tc := ⟨.hbm, 74, rfl⟩
abbrev main_cst_8 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_cst_9 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩

abbrev nD : Nat := 1
abbrev τ : Topo := Topo.v7x

variable {F : FTy → Type} [FloatOps F]
-- ==== Kernel2.lean ====
abbrev S8x4096x1024 : Shape := ⟨3, ![8, 4096, 1024]⟩
abbrev S8x2x2816 : Shape := ⟨3, ![8, 2, 2816]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S1x1024 : Shape := ⟨2, ![1, 1024]⟩
abbrev S1024x2816 : Shape := ⟨2, ![1024, 2816]⟩
abbrev S1x2816 : Shape := ⟨2, ![1, 2816]⟩
abbrev S8x8x2816 : Shape := ⟨3, ![8, 8, 2816]⟩
abbrev S1x512x1024 : Shape := ⟨3, ![1, 512, 1024]⟩
abbrev S1x2x2816 : Shape := ⟨3, ![1, 2, 2816]⟩
abbrev S1x8x2816 : Shape := ⟨3, ![1, 8, 2816]⟩
abbrev S1x520x2816 : Shape := ⟨3, ![1, 520, 2816]⟩
abbrev S512x1024 : Shape := ⟨2, ![512, 1024]⟩
abbrev S512 : Shape := ⟨1, ![512]⟩
abbrev S512x1 : Shape := ⟨2, ![512, 1]⟩
abbrev S512x2816 : Shape := ⟨2, ![512, 2816]⟩
abbrev S1x512x2816 : Shape := ⟨3, ![1, 512, 2816]⟩
abbrev S1x1x2816 : Shape := ⟨3, ![1, 1, 2816]⟩

abbrev nBuf : Space → Nat
  | .hbm => 18
  | .vmem => 17
  | .smem => 0
  | _ => 0

abbrev bufTy : (tb : Table) → Fin (tcTables nBuf tb) → BufTy
  | .hbm, ⟨0, _⟩ => ⟨S8x4096x1024, .f32⟩
  | .hbm, ⟨1, _⟩ => ⟨S8x2x2816, .f32⟩
  | .hbm, ⟨2, _⟩ => ⟨S1024, .f32⟩
  | .hbm, ⟨3, _⟩ => ⟨S1024x5632, .f32⟩
  | .hbm, ⟨4, _⟩ => ⟨S3x2816, .f32⟩
  | .hbm, ⟨5, _⟩ => ⟨S2816, .f32⟩
  | .hbm, ⟨6, _⟩ => ⟨S2816x1024, .f32⟩
  | .hbm, ⟨7, _⟩ => ⟨S1024, .f32⟩
  | .hbm, ⟨8, _⟩ => ⟨S1x1024, .f32⟩
  | .hbm, ⟨9, _⟩ => ⟨S1024x2816, .f32⟩
  | .hbm, ⟨10, _⟩ => ⟨S1024x2816, .bf16⟩
  | .hbm, ⟨11, _⟩ => ⟨S1024x2816, .f32⟩
  | .hbm, ⟨12, _⟩ => ⟨S1024x2816, .bf16⟩
  | .hbm, ⟨13, _⟩ => ⟨S1x2816, .f32⟩
  | .hbm, ⟨14, _⟩ => ⟨S2816x1024, .bf16⟩
  | .hbm, ⟨15, _⟩ => ⟨S1x1024, .f32⟩
  | .hbm, ⟨16, _⟩ => ⟨S8x4096x1024, .f32⟩
  | .hbm, ⟨17, _⟩ => ⟨S8x8x2816, .f32⟩
  | .local _ .vmem, ⟨0, _⟩ => ⟨S1x512x1024, .f32⟩
  | .local _ .vmem, ⟨1, _⟩ => ⟨S1x512x1024, .f32⟩
  | .local _ .vmem, ⟨2, _⟩ => ⟨S1x2x2816, .f32⟩
  | .local _ .vmem, ⟨3, _⟩ => ⟨S1x2x2816, .f32⟩
  | .local _ .vmem, ⟨4, _⟩ => ⟨S1x1024, .f32⟩
  | .local _ .vmem, ⟨5, _⟩ => ⟨S1024x2816, .bf16⟩
  | .local _ .vmem, ⟨6, _⟩ => ⟨S1024x2816, .bf16⟩
  | .local _ .vmem, ⟨7, _⟩ => ⟨S3x2816, .f32⟩
  | .local _ .vmem, ⟨8, _⟩ => ⟨S1x2816, .f32⟩
  | .local _ .vmem, ⟨9, _⟩ => ⟨S2816x1024, .bf16⟩
  | .local _ .vmem, ⟨10, _⟩ => ⟨S1x1024, .f32⟩
  | .local _ .vmem, ⟨11, _⟩ => ⟨S1x512x1024, .f32⟩
  | .local _ .vmem, ⟨12, _⟩ => ⟨S1x512x1024, .f32⟩
  | .local _ .vmem, ⟨13, _⟩ => ⟨S1x8x2816, .f32⟩
  | .local _ .vmem, ⟨14, _⟩ => ⟨S1x8x2816, .f32⟩
  | .local _ .vmem, ⟨15, _⟩ => ⟨S1x8x2816, .f32⟩
  | .local _ .vmem, ⟨16, _⟩ => ⟨S1x520x2816, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S3x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x2816 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== Reference2Ideal.lean ====
abbrev S8x4096x1024 : Shape := ⟨3, ![8, 4096, 1024]⟩
abbrev S8x2x2816 : Shape := ⟨3, ![8, 2, 2816]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x5632 : Shape := ⟨3, ![8, 4096, 5632]⟩
abbrev S8x4096x2816 : Shape := ⟨3, ![8, 4096, 2816]⟩
abbrev S8x4098x2816 : Shape := ⟨3, ![8, 4098, 2816]⟩
abbrev S1x2816 : Shape := ⟨2, ![1, 2816]⟩
abbrev S1x1x2816 : Shape := ⟨3, ![1, 1, 2816]⟩
abbrev S8x8x2816 : Shape := ⟨3, ![8, 8, 2816]⟩

abbrev nBuf : Space → Nat
  | .hbm => 80
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x2x2816, .f32⟩
  | .hbm, ⟨2, _⟩ => ⟨S1024, .f32⟩
  | .hbm, ⟨3, _⟩ => ⟨S1024x5632, .f32⟩
  | .hbm, ⟨4, _⟩ => ⟨S3x2816, .f32⟩
  | .hbm, ⟨5, _⟩ => ⟨S2816, .f32⟩
  | .hbm, ⟨6, _⟩ => ⟨S2816x1024, .f32⟩
  | .hbm, ⟨7, _⟩ => ⟨S1024, .f32⟩
  | .hbm, ⟨8, _⟩ => ⟨S8x4096x1024, .f32⟩
  | .hbm, ⟨9, _⟩ => ⟨S_, .f32⟩
  | .hbm, ⟨10, _⟩ => ⟨S8x4096, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S_, .f32⟩
  | .hbm, ⟨16, _⟩ => ⟨S8x4096x1, .f32⟩
  | .hbm, ⟨17, _⟩ => ⟨S8x4096x1, .f32⟩
  | .hbm, ⟨18, _⟩ => ⟨S8x4096x1, .f32⟩
  | .hbm, ⟨19, _⟩ => ⟨S8x4096x1024, .f32⟩
  | .hbm, ⟨20, _⟩ => ⟨S8x4096x1024, .f32⟩
  | .hbm, ⟨21, _⟩ => ⟨S1x1x1024, .f32⟩
  | .hbm, ⟨22, _⟩ => ⟨S8x4096x1024, .f32⟩
  | .hbm, ⟨23, _⟩ => ⟨S8x4096x1024, .f32⟩
  | .hbm, ⟨24, _⟩ => ⟨S8x4096x5632, .f32⟩
  | .hbm, ⟨25, _⟩ => ⟨S8x4096x2816, .f32⟩
  | .hbm, ⟨26, _⟩ => ⟨S8x4096x2816, .f32⟩
  | .hbm, ⟨27, _⟩ => ⟨S8x4098x2816, .f32⟩
  | .hbm, ⟨28, _⟩ => ⟨S8x4096x2816, .f32⟩
  | .hbm, ⟨29, _⟩ => ⟨S1x2816, .f32⟩
  | .hbm, ⟨30, _⟩ => ⟨S2816, .f32⟩
  | .hbm, ⟨31, _⟩ => ⟨S1x1x2816, .f32⟩
  | .hbm, ⟨32, _⟩ => ⟨S8x4096x2816, .f32⟩
  | .hbm, ⟨33, _⟩ => ⟨S8x4096x2816, .f32⟩
  | .hbm, ⟨34, _⟩ => ⟨S8x4096x2816, .f32⟩
  | .hbm, ⟨35, _⟩ => ⟨S1x2816, .f32⟩
  | .hbm, ⟨36, _⟩ => ⟨S2816, .f32⟩
  | .hbm, ⟨37, _⟩ => ⟨S1x1x2816, .f32⟩
  | .hbm, ⟨38, _⟩ => ⟨S8x4096x2816, .f32⟩
  | .hbm, ⟨39, _⟩ => ⟨S8x4096x2816, .f32⟩
  | .hbm, ⟨40, _⟩ => ⟨S8x4096x2816, .f32⟩
  | .hbm, ⟨41, _⟩ => ⟨S8x4096x2816, .f32⟩
  | .hbm, ⟨42, _⟩ => ⟨S1x2816, .f32⟩
  | .hbm, ⟨43, _⟩ => ⟨S2816, .f32⟩
  | .hbm, ⟨44, _⟩ => ⟨S1x1x2816, .f32⟩
  | .hbm, ⟨45, _⟩ => ⟨S8x4096x2816, .f32⟩
  | .hbm, ⟨46, _⟩ => ⟨S8x4096x2816, .f32⟩
  | .hbm, ⟨47, _⟩ => ⟨S8x4096x2816, .f32⟩
  | .hbm, ⟨48, _⟩ => ⟨S1x1x2816, .f32⟩
  | .hbm, ⟨49, _⟩ => ⟨S8x4096x2816, .f32⟩
  | .hbm, ⟨50, _⟩ => ⟨S8x4096x2816, .f32⟩
  | .hbm, ⟨51, _⟩ => ⟨S8x4096x2816, .f32⟩
  | .hbm, ⟨52, _⟩ => ⟨S8x4096x2816, .f32⟩
  | .hbm, ⟨53, _⟩ => ⟨S_, .f32⟩
  | .hbm, ⟨54, _⟩ => ⟨S8x4096x2816, .f32⟩
  | .hbm, ⟨55, _⟩ => ⟨S8x4096x2816, .f32⟩
  | .hbm, ⟨56, _⟩ => ⟨S_, .f32⟩
  | .hbm, ⟨57, _⟩ => ⟨S8x4096x2816, .f32⟩
  | .hbm, ⟨58, _⟩ => ⟨S8x4096x2816, .f32⟩
  | .hbm, ⟨59, _⟩ => ⟨S8x4096x2816, .f32⟩
  | .hbm, ⟨60, _⟩ => ⟨S8x4096x2816, .f32⟩
  | .hbm, ⟨61, _⟩ => ⟨S8x4096x1024, .f32⟩
  | .hbm, ⟨62, _⟩ => ⟨S8x4096x1024, .f32⟩
  | .hbm, ⟨63, _⟩ => ⟨S8x4096x1024, .f32⟩
  | .hbm, ⟨64, _⟩ => ⟨S_, .f32⟩
  | .hbm, ⟨65, _⟩ => ⟨S8x4096, .f32⟩
  | .hbm, ⟨66, _⟩ => ⟨S8x4096x1, .f32⟩
  | .hbm, ⟨67, _⟩ => ⟨S_, .f32⟩
  | .hbm, ⟨68, _⟩ => ⟨S8x4096x1, .f32⟩
  | .hbm, ⟨69, _⟩ => ⟨S8x4096x1, .f32⟩
  | .hbm, ⟨70, _⟩ => ⟨S_, .f32⟩
  | .hbm, ⟨71, _⟩ => ⟨S8x4096x1, .f32⟩
  | .hbm, ⟨72, _⟩ => ⟨S8x4096x1, .f32⟩
  | .hbm, ⟨73, _⟩ => ⟨S8x4096x1, .f32⟩
  | .hbm, ⟨74, _⟩ => ⟨S8x4096x1024, .f32⟩
  | .hbm, ⟨75, _⟩ => ⟨S8x4096x1024, .f32⟩
  | .hbm, ⟨76, _⟩ => ⟨S1x1x1024, .f32⟩
  | .hbm, ⟨77, _⟩ => ⟨S8x4096x1024, .f32⟩
  | .hbm, ⟨78, _⟩ => ⟨S8x4096x1024, .f32⟩
  | .hbm, ⟨79, _⟩ => ⟨S8x8x2816, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_call0_v0 : Ref sig .tc := ⟨.hbm, 51, rfl⟩
abbrev main_call0_v1 : Ref sig .tc := ⟨.hbm, 52, rfl⟩
abbrev main_call0_cst : Ref sig .tc := ⟨.hbm, 53, rfl⟩
abbrev main_call0_v2 : Ref sig .tc := ⟨.hbm, 54, rfl⟩
abbrev main_call0_v3 : Ref sig .tc := ⟨.hbm, 55, rfl⟩
abbrev main_call0_cst_0 : Ref sig .tc := ⟨.hbm, 56, rfl⟩
abbrev main_call0_v4 : Ref sig .tc := ⟨.hbm, 57, rfl⟩
abbrev main_call0_v5 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_2 : Ref sig .tc := ⟨.hbm, 64, rfl⟩
abbrev main_v45 : Ref sig .tc := ⟨.hbm, 65, rfl⟩
abbrev main_v46 : Ref sig .tc := ⟨.hbm, 66, rfl⟩
abbrev main_cst_3 : Ref sig .tc := ⟨.hbm, 67, rfl⟩
abbrev main_v47 : Ref sig .tc := ⟨.hbm, 68, rfl⟩
abbrev main_v48 : Ref sig .tc := ⟨.hbm, 69, rfl⟩
abbrev main_cst_4 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩

abbrev nD : Nat := 1
abbrev τ : Topo := Topo.v7x

variable {F : FTy → Type} [FloatOps F]
-- ==== Kernel3.lean ====
abbrev S8x256x1024 : Shape := ⟨3, ![8, 256, 1024]⟩
abbrev S1024 : Shape := ⟨1, ![1024]⟩
abbrev S1024x512 : Shape := ⟨2, ![1024, 512]⟩
abbrev S2048x1024 : Shape := ⟨2, ![2048, 1024]⟩
abbrev S1x1024 : Shape := ⟨2, ![1, 1024]⟩
abbrev S2048x512 : Shape := ⟨2, ![2048, 512]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 10
  | .vmem => 9
  | .smem => 0
  | _ => 0

abbrev bufTy : (tb : Table) → Fin (tcTables nBuf tb) → BufTy
  | .hbm, ⟨0, _⟩ => ⟨S8x256x1024, .f32⟩
  | .hbm, ⟨1, _⟩ => ⟨S1024, .f32⟩
  | .hbm, ⟨2, _⟩ => ⟨S1024x512, .f32⟩
  | .hbm, ⟨3, _⟩ => ⟨S1024x512, .f32⟩
  | .hbm, ⟨4, _⟩ => ⟨S2048x1024, .f32⟩
  | .hbm, ⟨5, _⟩ => ⟨S1x1024, .f32⟩
  | .hbm, ⟨6, _⟩ => ⟨S1024x512, .bf16⟩
  | .hbm, ⟨7, _⟩ => ⟨S1024x512, .bf16⟩
  | .hbm, ⟨8, _⟩ => ⟨S2048x512, .f32⟩
  | .hbm, ⟨9, _⟩ => ⟨S2048x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S8x256x1024 : Shape := ⟨3, ![8, 256, 1024]⟩
abbrev S1024 : Shape := ⟨1, ![1024]⟩
abbrev S1024x512 : Shape := ⟨2, ![1024, 512]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S8x256x512 : Shape := ⟨3, ![8, 256, 512]⟩
abbrev S2048x512 : Shape := ⟨2, ![2048, 512]⟩

abbrev nBuf : Space → Nat
  | .hbm => 24
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1024, .f32⟩
  | .hbm, ⟨2, _⟩ => ⟨S1024x512, .f32⟩
  | .hbm, ⟨3, _⟩ => ⟨S1024x512, .f32⟩
  | .hbm, ⟨4, _⟩ => ⟨S8x256x1024, .f32⟩
  | .hbm, ⟨5, _⟩ => ⟨S_, .f32⟩
  | .hbm, ⟨6, _⟩ => ⟨S8x256, .f32⟩
  | .hbm, ⟨7, _⟩ => ⟨S8x256x1, .f32⟩
  | .hbm, ⟨8, _⟩ => ⟨S_, .f32⟩
  | .hbm, ⟨9, _⟩ => ⟨S8x256x1, .f32⟩
  | .hbm, ⟨10, _⟩ => ⟨S8x256x1, .f32⟩
  | .hbm, ⟨11, _⟩ => ⟨S_, .f32⟩
  | .hbm, ⟨12, _⟩ => ⟨S8x256x1, .f32⟩
  | .hbm, ⟨13, _⟩ => ⟨S8x256x1, .f32⟩
  | .hbm, ⟨14, _⟩ => ⟨S8x256x1, .f32⟩
  | .hbm, ⟨15, _⟩ => ⟨S8x256x1024, .f32⟩
  | .hbm, ⟨16, _⟩ => ⟨S8x256x1024, .f32⟩
  | .hbm, ⟨17, _⟩ => ⟨S1x1x1024, .f32⟩
  | .hbm, ⟨18, _⟩ => ⟨S8x256x1024, .f32⟩
  | .hbm, ⟨19, _⟩ => ⟨S8x256x1024, .f32⟩
  | .hbm, ⟨20, _⟩ => ⟨S8x256x512, .f32⟩
  | .hbm, ⟨21, _⟩ => ⟨S2048x512, .f32⟩
  | .hbm, ⟨22, _⟩ => ⟨S8x256x512, .f32⟩
  | .hbm, ⟨23, _⟩ => ⟨S2048x512, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel4.lean ====
abbrev S8x4096x1024 : Shape := ⟨3, ![8, 4096, 1024]⟩
abbrev S8x4096x384 : Shape := ⟨3, ![8, 4096, 384]⟩
abbrev S8x4096x256 : Shape := ⟨3, ![8, 4096, 256]⟩
abbrev S1024x1024 : Shape := ⟨2, ![1024, 1024]⟩
abbrev S1024 : Shape := ⟨1, ![1024]⟩
abbrev S1024x512 : Shape := ⟨2, ![1024, 512]⟩
abbrev S8x256x512 : Shape := ⟨3, ![8, 256, 512]⟩
abbrev S512x1024 : Shape := ⟨2, ![512, 1024]⟩
abbrev S1x1024 : Shape := ⟨2, ![1, 1024]⟩
abbrev S1x512x1024 : Shape := ⟨3, ![1, 512, 1024]⟩
abbrev S1x512x384 : Shape := ⟨3, ![1, 512, 384]⟩
abbrev S1x512x256 : Shape := ⟨3, ![1, 512, 256]⟩
abbrev S1x256x512 : Shape := ⟨3, ![1, 256, 512]⟩
abbrev S512x384 : Shape := ⟨2, ![512, 384]⟩
abbrev S512x256 : Shape := ⟨2, ![512, 256]⟩
abbrev S512 : Shape := ⟨1, ![512]⟩
abbrev S512x1 : Shape := ⟨2, ![512, 1]⟩
abbrev S512x512 : Shape := ⟨2, ![512, 512]⟩
abbrev S512x128 : Shape := ⟨2, ![512, 128]⟩
abbrev S1x512x128 : Shape := ⟨3, ![1, 512, 128]⟩
abbrev S1x256x128 : Shape := ⟨3, ![1, 256, 128]⟩
abbrev S1x512 : Shape := ⟨2, ![1, 512]⟩
abbrev S1x512x1 : Shape := ⟨3, ![1, 512, 1]⟩

abbrev nBuf : Space → Nat
  | .hbm => 15
  | .vmem => 18
  | .smem => 0
  | _ => 0

abbrev bufTy : (tb : Table) → Fin (tcTables nBuf tb) → BufTy
  | .hbm, ⟨0, _⟩ => ⟨S8x4096x1024, .f32⟩
  | .hbm, ⟨1, _⟩ => ⟨S8x4096x384, .f32⟩
  | .hbm, ⟨2, _⟩ => ⟨S8x4096x256, .f32⟩
  | .hbm, ⟨3, _⟩ => ⟨S8x4096x384, .f32⟩
  | .hbm, ⟨4, _⟩ => ⟨S1024x1024, .f32⟩
  | .hbm, ⟨5, _⟩ => ⟨S1024, .f32⟩
  | .hbm, ⟨6, _⟩ => ⟨S1024x512, .f32⟩
  | .hbm, ⟨7, _⟩ => ⟨S8x256x512, .f32⟩
  | .hbm, ⟨8, _⟩ => ⟨S8x256x512, .f32⟩
  | .hbm, ⟨9, _⟩ => ⟨S512x1024, .f32⟩
  | .hbm, ⟨10, _⟩ => ⟨S1024x1024, .bf16⟩
  | .hbm, ⟨11, _⟩ => ⟨S1x1024, .f32⟩
  | .hbm, ⟨12, _⟩ => ⟨S1024x512, .bf16⟩
  | .hbm, ⟨13, _⟩ => ⟨S512x1024, .bf16⟩
  | .hbm, ⟨14, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x384, .f32⟩
  | .local _ .vmem, ⟨3, _⟩ => ⟨S1x512x384, .f32⟩
  | .local _ .vmem, ⟨4, _⟩ => ⟨S1x512x256, .f32⟩
  | .local _ .vmem, ⟨5, _⟩ => ⟨S1x512x256, .f32⟩
  | .local _ .vmem, ⟨6, _⟩ => ⟨S1x512x384, .f32⟩
  | .local _ .vmem, ⟨7, _⟩ => ⟨S1x512x384, .f32⟩
  | .local _ .vmem, ⟨8, _⟩ => ⟨S1024x1024, .bf16⟩
  | .local _ .vmem, ⟨9, _⟩ => ⟨S1x1024, .f32⟩
  | .local _ .vmem, ⟨10, _⟩ => ⟨S1024x512, .bf16⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S512x1024, .bf16⟩
  | .local _ .vmem, ⟨16, _⟩ => ⟨S1x512x1024, .f32⟩
  | .local _ .vmem, ⟨17, _⟩ => ⟨S1x512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference4Ideal.lean ====
abbrev S8x4096x1024 : Shape := ⟨3, ![8, 4096, 1024]⟩
abbrev S8x4096x384 : Shape := ⟨3, ![8, 4096, 384]⟩
abbrev S8x4096x256 : Shape := ⟨3, ![8, 4096, 256]⟩
abbrev S1024x1024 : Shape := ⟨2, ![1024, 1024]⟩
abbrev S1024 : Shape := ⟨1, ![1024]⟩
abbrev S1024x512 : Shape := ⟨2, ![1024, 512]⟩
abbrev S8x256x512 : Shape := ⟨3, ![8, 256, 512]⟩
abbrev S512x1024 : Shape := ⟨2, ![512, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x512 : Shape := ⟨3, ![8, 4096, 512]⟩
abbrev S8x4096x4x128 : Shape := ⟨4, ![8, 4096, 4, 128]⟩
abbrev S8x256x4x128 : Shape := ⟨4, ![8, 256, 4, 128]⟩
abbrev S8x4x4096x256 : Shape := ⟨4, ![8, 4, 4096, 256]⟩
abbrev S8x4x4096 : Shape := ⟨3, ![8, 4, 4096]⟩
abbrev S8x4x4096x1 : Shape := ⟨4, ![8, 4, 4096, 1]⟩
abbrev S8x4x128x4096 : Shape := ⟨4, ![8, 4, 128, 4096]⟩

abbrev nBuf : Space → Nat
  | .hbm => 56
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x384, .f32⟩
  | .hbm, ⟨2, _⟩ => ⟨S8x4096x256, .f32⟩
  | .hbm, ⟨3, _⟩ => ⟨S8x4096x384, .f32⟩
  | .hbm, ⟨4, _⟩ => ⟨S1024x1024, .f32⟩
  | .hbm, ⟨5, _⟩ => ⟨S1024, .f32⟩
  | .hbm, ⟨6, _⟩ => ⟨S1024x512, .f32⟩
  | .hbm, ⟨7, _⟩ => ⟨S8x256x512, .f32⟩
  | .hbm, ⟨8, _⟩ => ⟨S8x256x512, .f32⟩
  | .hbm, ⟨9, _⟩ => ⟨S512x1024, .f32⟩
  | .hbm, ⟨10, _⟩ => ⟨S8x4096x1024, .f32⟩
  | .hbm, ⟨11, _⟩ => ⟨S8x4096x1024, .f32⟩
  | .hbm, ⟨12, _⟩ => ⟨S8x4096x1024, .f32⟩
  | .hbm, ⟨13, _⟩ => ⟨S8x4096x1024, .f32⟩
  | .hbm, ⟨14, _⟩ => ⟨S_, .f32⟩
  | .hbm, ⟨15, _⟩ => ⟨S8x4096, .f32⟩
  | .hbm, ⟨16, _⟩ => ⟨S8x4096x1, .f32⟩
  | .hbm, ⟨17, _⟩ => ⟨S_, .f32⟩
  | .hbm, ⟨18, _⟩ => ⟨S8x4096x1, .f32⟩
  | .hbm, ⟨19, _⟩ => ⟨S8x4096x1, .f32⟩
  | .hbm, ⟨20, _⟩ => ⟨S_, .f32⟩
  | .hbm, ⟨21, _⟩ => ⟨S8x4096x1, .f32⟩
  | .hbm, ⟨22, _⟩ => ⟨S8x4096x1, .f32⟩
  | .hbm, ⟨23, _⟩ => ⟨S8x4096x1, .f32⟩
  | .hbm, ⟨24, _⟩ => ⟨S8x4096x1024, .f32⟩
  | .hbm, ⟨25, _⟩ => ⟨S8x4096x1024, .f32⟩
  | .hbm, ⟨26, _⟩ => ⟨S1x1x1024, .f32⟩
  | .hbm, ⟨27, _⟩ => ⟨S8x4096x1024, .f32⟩
  | .hbm, ⟨28, _⟩ => ⟨S8x4096x1024, .f32⟩
  | .hbm, ⟨29, _⟩ => ⟨S8x4096x512, .f32⟩
  | .hbm, ⟨30, _⟩ => ⟨S8x4096x4x128, .f32⟩
  | .hbm, ⟨31, _⟩ => ⟨S8x256x4x128, .f32⟩
  | .hbm, ⟨32, _⟩ => ⟨S8x256x4x128, .f32⟩
  | .hbm, ⟨33, _⟩ => ⟨S8x4x4096x256, .f32⟩
  | .hbm, ⟨34, _⟩ => ⟨S_, .f32⟩
  | .hbm, ⟨35, _⟩ => ⟨S8x4x4096x256, .f32⟩
  | .hbm, ⟨36, _⟩ => ⟨S8x4x4096x256, .f32⟩
  | .hbm, ⟨37, _⟩ => ⟨S_, .f32⟩
  | .hbm, ⟨38, _⟩ => ⟨S8x4x4096, .f32⟩
  | .hbm, ⟨39, _⟩ => ⟨S_, .f32⟩
  | .hbm, ⟨40, _⟩ => ⟨S8x4x4096, .f32⟩
  | .hbm, ⟨41, _⟩ => ⟨S8x4x4096, .f32⟩
  | .hbm, ⟨42, _⟩ => ⟨S8x4x4096x1, .f32⟩
  | .hbm, ⟨43, _⟩ => ⟨S8x4x4096x256, .f32⟩
  | .hbm, ⟨44, _⟩ => ⟨S8x4x4096x256, .f32⟩
  | .hbm, ⟨45, _⟩ => ⟨S8x4x4096x256, .f32⟩
  | .hbm, ⟨46, _⟩ => ⟨S_, .f32⟩
  | .hbm, ⟨47, _⟩ => ⟨S8x4x4096, .f32⟩
  | .hbm, ⟨48, _⟩ => ⟨S8x4x4096x1, .f32⟩
  | .hbm, ⟨49, _⟩ => ⟨S8x4x4096x256, .f32⟩
  | .hbm, ⟨50, _⟩ => ⟨S8x4x4096x256, .f32⟩
  | .hbm, ⟨51, _⟩ => ⟨S8x4x128x4096, .f32⟩
  | .hbm, ⟨52, _⟩ => ⟨S8x4096x4x128, .f32⟩
  | .hbm, ⟨53, _⟩ => ⟨S8x4096x512, .f32⟩
  | .hbm, ⟨54, _⟩ => ⟨S8x4096x1024, .f32⟩
  | .hbm, ⟨55, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩

abbrev nD : Nat := 1
abbrev τ : Topo := Topo.v7x

variable {F : FTy → Type} [FloatOps F]
-- ==== Kernel5.lean ====
abbrev S8x4096x1024 : Shape := ⟨3, ![8, 4096, 1024]⟩
abbrev S1024 : Shape := ⟨1, ![1024]⟩
abbrev S2x1024x3724 : Shape := ⟨3, ![2, 1024, 3724]⟩
abbrev S1x1024 : Shape := ⟨2, ![1, 1024]⟩
abbrev S8x4096x1664 : Shape := ⟨3, ![8, 4096, 1664]⟩
abbrev S8x256x4096 : Shape := ⟨3, ![8, 256, 4096]⟩
abbrev S8x4096x256 : Shape := ⟨3, ![8, 4096, 256]⟩
abbrev S1x8x256x4096 : Shape := ⟨4, ![1, 8, 256, 4096]⟩
abbrev S8x4096x1408 : Shape := ⟨3, ![8, 4096, 1408]⟩
abbrev S1x512x1024 : Shape := ⟨3, ![1, 512, 1024]⟩
abbrev S1x1024x3724 : Shape := ⟨3, ![1, 1024, 3724]⟩
abbrev S1x512x1664 : Shape := ⟨3, ![1, 512, 1664]⟩
abbrev S1x256x512 : Shape := ⟨3, ![1, 256, 512]⟩
abbrev S1x512x256 : Shape := ⟨3, ![1, 512, 256]⟩
abbrev S1x1x256x512 : Shape := ⟨4, ![1, 1, 256, 512]⟩
abbrev S1x512x1408 : Shape := ⟨3, ![1, 512, 1408]⟩
abbrev S1024x1664 : Shape := ⟨2, ![1024, 1664]⟩
abbrev S1024x768 : Shape := ⟨2, ![1024, 768]⟩
abbrev S1024x1408 : Shape := ⟨2, ![1024, 1408]⟩
abbrev S1x1024x1536 : Shape := ⟨3, ![1, 1024, 1536]⟩
abbrev S1024x1536 : Shape := ⟨2, ![1024, 1536]⟩
abbrev S1x128 : Shape := ⟨2, ![1, 128]⟩
abbrev S1x1024x128 : Shape := ⟨3, ![1, 1024, 128]⟩
abbrev S1024x128 : Shape := ⟨2, ![1024, 128]⟩
abbrev S1x1024x768 : Shape := ⟨3, ![1, 1024, 768]⟩
abbrev S1x1024x1408 : Shape := ⟨3, ![1, 1024, 1408]⟩
abbrev S512x1024 : Shape := ⟨2, ![512, 1024]⟩
abbrev S512 : Shape := ⟨1, ![512]⟩
abbrev S512x1 : Shape := ⟨2, ![512, 1]⟩
abbrev S512x768 : Shape := ⟨2, ![512, 768]⟩
abbrev S512x256 : Shape := ⟨2, ![512, 256]⟩
abbrev S256x512 : Shape := ⟨2, ![256, 512]⟩
abbrev S512x1664 : Shape := ⟨2, ![512, 1664]⟩
abbrev S512x1408 : Shape := ⟨2, ![512, 1408]⟩

abbrev nBuf : Space → Nat
  | .hbm => 11
  | .vmem => 21
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S2x1024x3724, .f32⟩
  | .hbm, ⟨3, _⟩ => ⟨S1x1024, .f32⟩
  | .hbm, ⟨4, _⟩ => ⟨S8x4096x1664, .f32⟩
  | .hbm, ⟨5, _⟩ => ⟨S8x256x4096, .bf16⟩
  | .hbm, ⟨6, _⟩ => ⟨S8x4096x256, .bf16⟩
  | .hbm, ⟨7, _⟩ => ⟨S1x8x256x4096, .f32⟩
  | .hbm, ⟨8, _⟩ => ⟨S1x8x256x4096, .f32⟩
  | .hbm, ⟨9, _⟩ => ⟨S8x256x4096, .bf16⟩
  | .hbm, ⟨10, _⟩ => ⟨S8x4096x1408, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1024x3724, .f32⟩
  | .local _ .vmem, ⟨4, _⟩ => ⟨S1x512x1664, .f32⟩
  | .local _ .vmem, ⟨5, _⟩ => ⟨S1x512x1664, .f32⟩
  | .local _ .vmem, ⟨6, _⟩ => ⟨S1x256x512, .bf16⟩
  | .local _ .vmem, ⟨7, _⟩ => ⟨S1x256x512, .bf16⟩
  | .local _ .vmem, ⟨8, _⟩ => ⟨S1x512x256, .bf16⟩
  | .local _ .vmem, ⟨9, _⟩ => ⟨S1x512x256, .bf16⟩
  | .local _ .vmem, ⟨10, _⟩ => ⟨S1x1x256x512, .f32⟩
  | .local _ .vmem, ⟨11, _⟩ => ⟨S1x1x256x512, .f32⟩
  | .local _ .vmem, ⟨12, _⟩ => ⟨S1x1x256x512, .f32⟩
  | .local _ .vmem, ⟨13, _⟩ => ⟨S1x1x256x512, .f32⟩
  | .local _ .vmem, ⟨14, _⟩ => ⟨S1x256x512, .bf16⟩
  | .local _ .vmem, ⟨15, _⟩ => ⟨S1x256x512, .bf16⟩
  | .local _ .vmem, ⟨16, _⟩ => ⟨S1x512x1408, .f32⟩
  | .local _ .vmem, ⟨17, _⟩ => ⟨S1x512x1408, .f32⟩
  | .local _ .vmem, ⟨18, _⟩ => ⟨S1024x1664, .bf16⟩
  | .local _ .vmem, ⟨19, _⟩ => ⟨S1024x768, .bf16⟩
  | .local _ .vmem, ⟨20, _⟩ => ⟨S1024x1408, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev main_v1_4 : Ref sig .tc := ⟨.hbm, 8, rfl⟩
abbrev main_v1_5 : Ref sig .tc := ⟨.hbm, 9, rfl⟩
abbrev main_v1_6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024x3724 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x1664 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1408 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference5Ideal.lean ====
abbrev S8x4096x1024 : Shape := ⟨3, ![8, 4096, 1024]⟩
abbrev S1024 : Shape := ⟨1, ![1024]⟩
abbrev S2x1024x3724 : Shape := ⟨3, ![2, 1024, 3724]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1x1024x3724 : Shape := ⟨3, ![1, 1024, 3724]⟩
abbrev S1024x3724 : Shape := ⟨2, ![1024, 3724]⟩
abbrev S8x4096x3724 : Shape := ⟨3, ![8, 4096, 3724]⟩
abbrev S8x4096x1548 : Shape := ⟨3, ![8, 4096, 1548]⟩
abbrev S8x4096x1664 : Shape := ⟨3, ![8, 4096, 1664]⟩
abbrev S8x4096x256 : Shape := ⟨3, ![8, 4096, 256]⟩
abbrev S8x256x4096 : Shape := ⟨3, ![8, 256, 4096]⟩
abbrev S1x8x256x4096 : Shape := ⟨4, ![1, 8, 256, 4096]⟩
abbrev S8x4096x1408 : Shape := ⟨3, ![8, 4096, 1408]⟩

abbrev nBuf : Space → Nat
  | .hbm => 41
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S2x1024x3724, .f32⟩
  | .hbm, ⟨3, _⟩ => ⟨S8x4096x1024, .f32⟩
  | .hbm, ⟨4, _⟩ => ⟨S_, .f32⟩
  | .hbm, ⟨5, _⟩ => ⟨S8x4096, .f32⟩
  | .hbm, ⟨6, _⟩ => ⟨S8x4096x1, .f32⟩
  | .hbm, ⟨7, _⟩ => ⟨S_, .f32⟩
  | .hbm, ⟨8, _⟩ => ⟨S8x4096x1, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S8x4096x1, .f32⟩
  | .hbm, ⟨14, _⟩ => ⟨S8x4096x1024, .f32⟩
  | .hbm, ⟨15, _⟩ => ⟨S8x4096x1024, .f32⟩
  | .hbm, ⟨16, _⟩ => ⟨S1x1x1024, .f32⟩
  | .hbm, ⟨17, _⟩ => ⟨S8x4096x1024, .f32⟩
  | .hbm, ⟨18, _⟩ => ⟨S8x4096x1024, .f32⟩
  | .hbm, ⟨19, _⟩ => ⟨S1x1024x3724, .f32⟩
  | .hbm, ⟨20, _⟩ => ⟨S1024x3724, .f32⟩
  | .hbm, ⟨21, _⟩ => ⟨S8x4096x3724, .f32⟩
  | .hbm, ⟨22, _⟩ => ⟨S8x4096x1548, .f32⟩
  | .hbm, ⟨23, _⟩ => ⟨S_, .i32⟩
  | .hbm, ⟨24, _⟩ => ⟨S_, .f32⟩
  | .hbm, ⟨25, _⟩ => ⟨S8x4096x1664, .f32⟩
  | .hbm, ⟨26, _⟩ => ⟨S8x4096x256, .f32⟩
  | .hbm, ⟨27, _⟩ => ⟨S8x4096x256, .f32⟩
  | .hbm, ⟨28, _⟩ => ⟨S8x4096x256, .f32⟩
  | .hbm, ⟨29, _⟩ => ⟨S_, .f32⟩
  | .hbm, ⟨30, _⟩ => ⟨S8x4096x256, .f32⟩
  | .hbm, ⟨31, _⟩ => ⟨S8x4096x256, .f32⟩
  | .hbm, ⟨32, _⟩ => ⟨S8x256x4096, .f32⟩
  | .hbm, ⟨33, _⟩ => ⟨S8x256x4096, .f32⟩
  | .hbm, ⟨34, _⟩ => ⟨S8x256x4096, .f32⟩
  | .hbm, ⟨35, _⟩ => ⟨S8x256x4096, .bf16⟩
  | .hbm, ⟨36, _⟩ => ⟨S8x4096x256, .bf16⟩
  | .hbm, ⟨37, _⟩ => ⟨S1x8x256x4096, .f32⟩
  | .hbm, ⟨38, _⟩ => ⟨S1x8x256x4096, .f32⟩
  | .hbm, ⟨39, _⟩ => ⟨S8x256x4096, .bf16⟩
  | .hbm, ⟨40, _⟩ => ⟨S8x4096x1408, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_call0_v0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩

abbrev nD : Nat := 1
abbrev τ : Topo := Topo.v7x

variable {F : FTy → Type} [FloatOps F]
-- ==== Proof.RunI.Pins.lean ====
/- The two prefetched tables in closed form: the query tile and the key tile of each of the ten causal steps, and the pinning of a memory
   to them. (The idealized kernel.) -/
module

public import proofs.«01_k».proof.Proof.Gen.KernelIdeal
public import proofs.«01_k».proof.Proof.Gen.KernelIdeal.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
-- ONE DECLARATION AT A TIME: a per-path run alone peaks near 3 GB, and a decided theorem's kernel evaluation is freed
-- only when the next declaration begins (side by side, every finished one is held to the module's end)
set_option Elab.async false

noncomputable section

namespace Cert.KernelIdeal.Gen

open Cert.KernelIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the CLOSED instance `Ideal` (the frame claim's): every pinned word a `BitVec`. -/
local notation "𝕄" => MT nD τ sig Unit (Elt Ideal) ℕ (UR sig nD τ) ℕ

/-- The tables and scratches the kernel is handed, whole, at their literal types. -/
abbrev tbM0_0 : Memref sig .tc .smem S10 .i32 := Memref.whole main_c
abbrev tbM0_1 : Memref sig .tc .smem S10 .i32 := Memref.whole main_c_0
abbrev scM0_0 : Memref sig .tc .vmem S8x256x1024 .bf16 := Memref.whole cc0_scratch0
abbrev scM0_1 : Memref sig .tc .vmem S8x1x1024 .f32 := Memref.whole cc0_scratch1
abbrev scM0_2 : Memref sig .tc .vmem S8x1x1024 .f32 := Memref.whole cc0_scratch2
abbrev scM0_3 : Memref sig .tc .vmem S8x64x1024 .f32 := Memref.whole cc0_scratch3

/-! ## The pinned words: the tables and the steering windows' arrays, closed forms of the schedule index `ch` -/

/- `ch` indexes a family of schedules; here the family has one member, the ten causal steps. -/
variable (ch : Fin 1)

/-- The query tile of each of the ten steps. -/
def pinT_0 (ch : Fin 1) : S10.Idx → BitVec 32 := fun x => (([0#32, 1#32, 1#32, 2#32, 2#32, 2#32, 3#32, 3#32, 3#32, 3#32] : List (BitVec 32)).getD ((x 0).val) 0#32)

/-- The key tile of each of the ten steps. -/
def pinT_1 (ch : Fin 1) : S10.Idx → BitVec 32 := fun x => (([0#32, 0#32, 1#32, 0#32, 1#32, 2#32, 0#32, 1#32, 2#32, 3#32] : List (BitVec 32)).getD ((x 0).val) 0#32)

set_option backward.proofsInPublic true in
/-- The tables' contents the certificate is written at, member `ch`'s. -/
def pfN : pre0.Contents (Elt Ideal) := fun | ⟨0, _⟩ => pinT_0 ch | ⟨1, _⟩ => pinT_1 ch | ⟨_ + 2, h⟩ => absurd h (by simp)
/-- A window's blocks inside its array, entry by entry (the side condition's per-member proofs below assemble each
    entry's bound: a coordinate's, a constant's, or a table word's decided over the coordinates it is read at). -/
theorem okcons {n x lo hi : ℕ} {f g h : Fin n → ℕ} (h0 : (x + 1) * lo ≤ hi) (hr : ∀ a, (f a + 1) * g a ≤ h a) :
    ∀ a : Fin (n + 1), (Matrix.vecCons x f a + 1) * Matrix.vecCons lo g a ≤ Matrix.vecCons hi h a := by
  refine Fin.cases ?_ ?_
  · simpa only [Matrix.cons_val_zero] using h0
  · intro a; simpa only [Matrix.cons_val_succ] using hr a

/-- THE PINNING the certificate assumes of the launch memory: every table, and every steering window's array, holds
    member `ch`'s words. Proof.lean proves `∃ ch, Pinned ch m` from the precondition (the printed predicate decoded). -/
def Pinned (m : (ℓ : Loc nD τ sig) → Buf (Elt Ideal) ℓ) : Prop :=
  (∀ c : Dev nD, m ((c : Thread nD τ).loc main_c) = pinT_0 ch)
  ∧ (∀ c : Dev nD, m ((c : Thread nD τ).loc main_c_0) = pinT_1 ch)

end Cert.KernelIdeal.Gen

end
-- ==== Proof.RunI.Runs.lean ====
/- What one run of the body does on each of its four paths: first tile and diagonal (A), first tile below the diagonal (B), later
   tile on the diagonal (C), later tile below the diagonal (D). Each run names what the body leaves in the output block and in the four
   scratch buffers. (The idealized kernel.) -/
module

public import proofs.«01_k».proof.Proof.Gen.KernelIdeal.Skeleton
public import proofs.«01_k».proof.Proof.RunI.Pins

@[expose] public section

set_option maxRecDepth 16384
-- ONE DECLARATION AT A TIME: a per-path run alone peaks near 3 GB, and a decided theorem's kernel evaluation is freed
-- only when the next declaration begins (side by side, every finished one is held to the module's end)
set_option Elab.async false

noncomputable section

namespace Cert.KernelIdeal.Gen

open Cert.KernelIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the CLOSED instance `Ideal` (the frame claim's): every pinned word a `BitVec`. -/
local notation "𝕄" => MT nD τ sig Unit (Elt Ideal) ℕ (UR sig nD τ) ℕ

/-! ## The kernel body per control path, on symbolic staging memrefs: a subtype the run finds -/

/-- One staging buffer of output window 5, through which its contents are stated (`View.read_writes_of_cover`). -/
abbrev VO0_5 : View sig .tc .vmem S1x1024x256 .f32 := (Memref.whole cc0_stg5_0 : Memref sig .tc .vmem S1x1024x256 .f32).view

set_option backward.proofsInPublic true in
set_option maxHeartbeats 8000000 in
/-- PATH A (points 0, 10, … 70: 8 of 80): what the body leaves — per stored output its pieces (last first), per scratch its
    contents — WITH the proof that, on whole staging memrefs, from the inputs at their blocks, the tables, the outputs
    (5: stored) and the scratches (0: covered, 1: covered, 2: covered, 3: covered), under the path's decisions as
    hypotheses over the words the body reads (`hc0`; `hc1`; `k0_h3`), the body runs to the continuation holding all of it as stated. The
    skeleton (`Gen.*_eq_skeleton`) run by `sl_exec`, loops of literal trip count unrolled by the run, the others by `sl_unroll`. -/
noncomputable def kernelRun0_A (c : Dev nD) (i : grid0.Coords) (arg4 : Memref sig .tc .vmem S4x32 .f32) (harg4 : arg4.IsWhole) (arg5 : Memref sig .tc .vmem S1x256x1024 .bf16) (harg5 : arg5.IsWhole) (arg6 : Memref sig .tc .vmem S1x1024x256 .bf16) (harg6 : arg6.IsWhole) (arg7 : Memref sig .tc .vmem S1x256x1024 .bf16) (harg7 : arg7.IsWhole) (arg8 : Memref sig .tc .vmem S1x256 .f32) (harg8 : arg8.IsWhole) (arg9 : Memref sig .tc .vmem S1x1024x256 .f32) (harg9 : arg9.IsWhole) (T0 : (S10.Idx → Elt Ideal .i32)) (T1 : (S10.Idx → Elt Ideal .i32))
     (x0 : (S4x32.Idx → Elt Ideal .f32)) (x1 : (S1x256x1024.Idx → Elt Ideal .bf16)) (x2 : (S1x1024x256.Idx → Elt Ideal .bf16)) (x3 : (S1x256x1024.Idx → Elt Ideal .bf16)) (x4 : (S1x256.Idx → Elt Ideal .f32)) (hc0 : (Scalar.cmpi .ne (Scalar.extui (Scalar.cmpi .eq (View.readAt (Elt Ideal) (tbM0_1).view (Rect.unit (s := S10) (k0_off1 i) S1.size (k0_off1_inb i)).toLoadRect T1 (Shape.Idx.first (numel1_S1.symm ▸ Nat.one_pos))) 0#32)) 0#32) = 1#1) (hc1 : ¬((Scalar.cmpi .ne (Scalar.extui (Scalar.cmpi .slt (View.readAt (Elt Ideal) (tbM0_1).view (Rect.unit (s := S10) (k0_off1 i) S1.size (k0_off1_inb i)).toLoadRect T1 (Shape.Idx.first (numel1_S1.symm ▸ Nat.one_pos))) (View.readAt (Elt Ideal) (tbM0_0).view (Rect.unit (s := S10) (k0_off1 i) S1.size (k0_off1_inb i)).toLoadRect T0 (Shape.Idx.first (numel1_S1.symm ▸ Nat.one_pos))))) 0#32) = 1#1)) (k0_h3 : k0_cond3 (View.readAt (Elt Ideal) (tbM0_0).view (Rect.unit (s := S10) (k0_off1 i) S1.size (k0_off1_inb i)).toLoadRect T0 (Shape.Idx.first (numel1_S1.symm ▸ Nat.one_pos))) (View.readAt (Elt Ideal) (tbM0_1).view (Rect.unit (s := S10) (k0_off1 i) S1.size (k0_off1_inb i)).toLoadRect T1 (Shape.Idx.first (numel1_S1.symm ▸ Nat.one_pos))) = 1#1) :
    Σ' (out0 : List (View.Piece (Elt Ideal) S1x1024x256 .f32)) (out1 : Buf (Elt Ideal) ((c : Thread nD τ).loc cc0_scratch0)) (out2 : Buf (Elt Ideal) ((c : Thread nD τ).loc cc0_scratch1)) (out3 : Buf (Elt Ideal) ((c : Thread nD τ).loc cc0_scratch2)), { out4 : Buf (Elt Ideal) ((c : Thread nD τ).loc cc0_scratch3) //
      ∀ (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (xa3 : Buf (Elt Ideal) ((c : Thread nD τ).loc cc0_scratch3)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (tbM0_0.view.loc (c : Thread nD τ) ↦{fullShare.right} T0)
          ∗ (tbM0_1.view.loc (c : Thread nD τ) ↦{fullShare.right} T1)
          ∗ (∃ d, owns (c : Thread nD τ) arg9 fullShare d)
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (scM0_3.view.loc (c : Thread nD τ) ↦{fullShare} xa3)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (arg8.view.loc (c : Thread nD τ) ↦[arg8.view.set]{fullShare} arg8.view.rep x4)
              ∗ (tbM0_0.view.loc (c : Thread nD τ) ↦{fullShare.right} T0)
              ∗ (tbM0_1.view.loc (c : Thread nD τ) ↦{fullShare.right} T1)
              ∗ (∃ f, arg9.view.loc (c : Thread nD τ) ↦[arg9.view.set]{fullShare} arg9.view.writes (Elt Ideal) f out0)
              ∗ (scM0_0.view.loc (c : Thread nD τ) ↦{fullShare} out1)
              ∗ (scM0_1.view.loc (c : Thread nD τ) ↦{fullShare} out2)
              ∗ (scM0_2.view.loc (c : Thread nD τ) ↦{fullShare} out3)
              ∗ (scM0_3.view.loc (c : Thread nD τ) ↦{fullShare} out4)) -∗ K ⟨⟩))
          ⊢ wp frame (wpE (defs₀ (F := Ideal)) Variants.none c none) Set.univ (cc0_diff_attn_prompt i tbM0_0 (Memref.isWhole_whole _) tbM0_1 (Memref.isWhole_whole _) arg4 harg4 arg5 harg5 arg6 harg6 arg7 harg7 arg8 harg8 arg9 harg9 scM0_0 (Memref.isWhole_whole _) scM0_1 (Memref.isWhole_whole _) scM0_2 (Memref.isWhole_whole _) scM0_3 (Memref.isWhole_whole _)) K } :=
  ⟨_, _, _, _, _, fun (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (xa3 : Buf (Elt Ideal) ((c : Thread nD τ).loc cc0_scratch3)) K => by
    unfold owns
    rw [cc0_diff_attn_prompt_eq_skeleton]; unfold cc0_diff_attn_prompt_skel
    iintro ⟨H0, H1, H2, H3, H4, HT0, HT1, ⟨%d5, %f5, -, HO5⟩, HS0, HS1, HS2, HS3, Hk⟩
    have hS0 : scM0_0.IsWhole := Memref.isWhole_whole _
    have hS1 : scM0_1.IsWhole := Memref.isWhole_whole _
    have hS2 : scM0_2.IsWhole := Memref.isWhole_whole _
    have hS3 : scM0_3.IsWhole := Memref.isWhole_whole _
    have hT0 : tbM0_0.IsWhole := Memref.isWhole_whole _
    have hT1 : tbM0_1.IsWhole := Memref.isWhole_whole _
    sl_exec! (disch := first | (guard_target = Scalar.cmpi = _; exact hc0) | (guard_target = ¬(Scalar.cmpi = _); exact hc1) | (guard_target = k0_cond3 _ _ = _; exact k0_h3))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO5]; · iexists _; iexact HO5
    isplitl [HS0]; · iexact HS0
    isplitl [HS1]; · iexact HS1
    isplitl [HS2]; · iexact HS2
    iexact HS3⟩

/-- Path A's pieces for output 5 tile its block (1 store of `S1x1024x256`: the kernel evaluates the tiling, Lib/Ring.lean `Piece.tiledL`). -/
theorem cover0_A_5 (c : Dev nD) (i : grid0.Coords) (arg4 : Memref sig .tc .vmem S4x32 .f32) (harg4 : arg4.IsWhole) (arg5 : Memref sig .tc .vmem S1x256x1024 .bf16) (harg5 : arg5.IsWhole) (arg6 : Memref sig .tc .vmem S1x1024x256 .bf16) (harg6 : arg6.IsWhole) (arg7 : Memref sig .tc .vmem S1x256x1024 .bf16) (harg7 : arg7.IsWhole) (arg8 : Memref sig .tc .vmem S1x256 .f32) (harg8 : arg8.IsWhole) (arg9 : Memref sig .tc .vmem S1x1024x256 .f32) (harg9 : arg9.IsWhole) (T0 : (S10.Idx → Elt Ideal .i32)) (T1 : (S10.Idx → Elt Ideal .i32))
     (x0 : (S4x32.Idx → Elt Ideal .f32)) (x1 : (S1x256x1024.Idx → Elt Ideal .bf16)) (x2 : (S1x1024x256.Idx → Elt Ideal .bf16)) (x3 : (S1x256x1024.Idx → Elt Ideal .bf16)) (x4 : (S1x256.Idx → Elt Ideal .f32)) (hc0 : (Scalar.cmpi .ne (Scalar.extui (Scalar.cmpi .eq (View.readAt (Elt Ideal) (tbM0_1).view (Rect.unit (s := S10) (k0_off1 i) S1.size (k0_off1_inb i)).toLoadRect T1 (Shape.Idx.first (numel1_S1.symm ▸ Nat.one_pos))) 0#32)) 0#32) = 1#1) (hc1 : ¬((Scalar.cmpi .ne (Scalar.extui (Scalar.cmpi .slt (View.readAt (Elt Ideal) (tbM0_1).view (Rect.unit (s := S10) (k0_off1 i) S1.size (k0_off1_inb i)).toLoadRect T1 (Shape.Idx.first (numel1_S1.symm ▸ Nat.one_pos))) (View.readAt (Elt Ideal) (tbM0_0).view (Rect.unit (s := S10) (k0_off1 i) S1.size (k0_off1_inb i)).toLoadRect T0 (Shape.Idx.first (numel1_S1.symm ▸ Nat.one_pos))))) 0#32) = 1#1)) (k0_h3 : k0_cond3 (View.readAt (Elt Ideal) (tbM0_0).view (Rect.unit (s := S10) (k0_off1 i) S1.size (k0_off1_inb i)).toLoadRect T0 (Shape.Idx.first (numel1_S1.symm ▸ Nat.one_pos))) (View.readAt (Elt Ideal) (tbM0_1).view (Rect.unit (s := S10) (k0_off1 i) S1.size (k0_off1_inb i)).toLoadRect T1 (Shape.Idx.first (numel1_S1.symm ▸ Nat.one_pos))) = 1#1) (y : S1x1024x256.Idx) :
    ∃ pc ∈ (kernelRun0_A c i arg4 harg4 arg5 harg5 arg6 harg6 arg7 harg7 arg8 harg8 arg9 harg9 T0 T1 x0 x1 x2 x3 x4 hc0 hc1 k0_h3).1, y ∈ pc.1.set :=
  View.cover_of_tiledL (kernelRun0_A c i arg4 harg4 arg5 harg5 arg6 harg6 arg7 harg7 arg8 harg8 arg9 harg9 T0 T1 x0 x1 x2 x3 x4 hc0 hc1 k0_h3).1 S1x1024x256.size (by sl_kernel_rfl) y

/-- What path A leaves in output 5's staging buffer: its pieces read back over junk. -/
def out0_A_5 (c : Dev nD) (i : grid0.Coords) (arg4 : Memref sig .tc .vmem S4x32 .f32) (harg4 : arg4.IsWhole) (arg5 : Memref sig .tc .vmem S1x256x1024 .bf16) (harg5 : arg5.IsWhole) (arg6 : Memref sig .tc .vmem S1x1024x256 .bf16) (harg6 : arg6.IsWhole) (arg7 : Memref sig .tc .vmem S1x256x1024 .bf16) (harg7 : arg7.IsWhole) (arg8 : Memref sig .tc .vmem S1x256 .f32) (harg8 : arg8.IsWhole) (arg9 : Memref sig .tc .vmem S1x1024x256 .f32) (harg9 : arg9.IsWhole) (T0 : (S10.Idx → Elt Ideal .i32)) (T1 : (S10.Idx → Elt Ideal .i32))
     (x0 : (S4x32.Idx → Elt Ideal .f32)) (x1 : (S1x256x1024.Idx → Elt Ideal .bf16)) (x2 : (S1x1024x256.Idx → Elt Ideal .bf16)) (x3 : (S1x256x1024.Idx → Elt Ideal .bf16)) (x4 : (S1x256.Idx → Elt Ideal .f32)) (hc0 : (Scalar.cmpi .ne (Scalar.extui (Scalar.cmpi .eq (View.readAt (Elt Ideal) (tbM0_1).view (Rect.unit (s := S10) (k0_off1 i) S1.size (k0_off1_inb i)).toLoadRect T1 (Shape.Idx.first (numel1_S1.symm ▸ Nat.one_pos))) 0#32)) 0#32) = 1#1) (hc1 : ¬((Scalar.cmpi .ne (Scalar.extui (Scalar.cmpi .slt (View.readAt (Elt Ideal) (tbM0_1).view (Rect.unit (s := S10) (k0_off1 i) S1.size (k0_off1_inb i)).toLoadRect T1 (Shape.Idx.first (numel1_S1.symm ▸ Nat.one_pos))) (View.readAt (Elt Ideal) (tbM0_0).view (Rect.unit (s := S10) (k0_off1 i) S1.size (k0_off1_inb i)).toLoadRect T0 (Shape.Idx.first (numel1_S1.symm ▸ Nat.one_pos))))) 0#32) = 1#1)) (k0_h3 : k0_cond3 (View.readAt (Elt Ideal) (tbM0_0).view (Rect.unit (s := S10) (k0_off1 i) S1.size (k0_off1_inb i)).toLoadRect T0 (Shape.Idx.first (numel1_S1.symm ▸ Nat.one_pos))) (View.readAt (Elt Ideal) (tbM0_1).view (Rect.unit (s := S10) (k0_off1 i) S1.size (k0_off1_inb i)).toLoadRect T1 (Shape.Idx.first (numel1_S1.symm ▸ Nat.one_pos))) = 1#1) : (S1x1024x256.Idx → Elt Ideal .f32) :=
  VO0_5.read (Elt Ideal) (VO0_5.writes (Elt Ideal) VO0_5.junk (kernelRun0_A c i arg4 harg4 arg5 harg5 arg6 harg6 arg7 harg7 arg8 harg8 arg9 harg9 T0 T1 x0 x1 x2 x3 x4 hc0 hc1 k0_h3).1)

set_option backward.proofsInPublic true in
set_option maxHeartbeats 8000000 in
/-- PATH B (points 1, 3, … 76: 24 of 80): what the body leaves — per stored output its pieces (last first), per scratch its
    contents — WITH the proof that, on whole staging memrefs, from the inputs at their blocks, the tables, the outputs
    (5: idle) and the scratches (0: covered, 1: covered, 2: covered, 3: covered), under the path's decisions as
    hypotheses over the words the body reads (`hc0`; `hc1`; `k0_h3`), the body runs to the continuation holding all of it as stated. The
    skeleton (`Gen.*_eq_skeleton`) run by `sl_exec`, loops of literal trip count unrolled by the run, the others by `sl_unroll`. -/
noncomputable def kernelRun0_B (c : Dev nD) (i : grid0.Coords) (arg4 : Memref sig .tc .vmem S4x32 .f32) (harg4 : arg4.IsWhole) (arg5 : Memref sig .tc .vmem S1x256x1024 .bf16) (harg5 : arg5.IsWhole) (arg6 : Memref sig .tc .vmem S1x1024x256 .bf16) (harg6 : arg6.IsWhole) (arg7 : Memref sig .tc .vmem S1x256x1024 .bf16) (harg7 : arg7.IsWhole) (arg8 : Memref sig .tc .vmem S1x256 .f32) (harg8 : arg8.IsWhole) (arg9 : Memref sig .tc .vmem S1x1024x256 .f32) (harg9 : arg9.IsWhole) (T0 : (S10.Idx → Elt Ideal .i32)) (T1 : (S10.Idx → Elt Ideal .i32))
     (x0 : (S4x32.Idx → Elt Ideal .f32)) (x1 : (S1x256x1024.Idx → Elt Ideal .bf16)) (x2 : (S1x1024x256.Idx → Elt Ideal .bf16)) (x3 : (S1x256x1024.Idx → Elt Ideal .bf16)) (x4 : (S1x256.Idx → Elt Ideal .f32)) (hc0 : (Scalar.cmpi .ne (Scalar.extui (Scalar.cmpi .eq (View.readAt (Elt Ideal) (tbM0_1).view (Rect.unit (s := S10) (k0_off1 i) S1.size (k0_off1_inb i)).toLoadRect T1 (Shape.Idx.first (numel1_S1.symm ▸ Nat.one_pos))) 0#32)) 0#32) = 1#1) (hc1 : (Scalar.cmpi .ne (Scalar.extui (Scalar.cmpi .slt (View.readAt (Elt Ideal) (tbM0_1).view (Rect.unit (s := S10) (k0_off1 i) S1.size (k0_off1_inb i)).toLoadRect T1 (Shape.Idx.first (numel1_S1.symm ▸ Nat.one_pos))) (View.readAt (Elt Ideal) (tbM0_0).view (Rect.unit (s := S10) (k0_off1 i) S1.size (k0_off1_inb i)).toLoadRect T0 (Shape.Idx.first (numel1_S1.symm ▸ Nat.one_pos))))) 0#32) = 1#1) (k0_h3 : ¬(k0_cond3 (View.readAt (Elt Ideal) (tbM0_0).view (Rect.unit (s := S10) (k0_off1 i) S1.size (k0_off1_inb i)).toLoadRect T0 (Shape.Idx.first (numel1_S1.symm ▸ Nat.one_pos))) (View.readAt (Elt Ideal) (tbM0_1).view (Rect.unit (s := S10) (k0_off1 i) S1.size (k0_off1_inb i)).toLoadRect T1 (Shape.Idx.first (numel1_S1.symm ▸ Nat.one_pos))) = 1#1)) :
    Σ' (out0 : Buf (Elt Ideal) ((c : Thread nD τ).loc cc0_scratch0)) (out1 : Buf (Elt Ideal) ((c : Thread nD τ).loc cc0_scratch1)) (out2 : Buf (Elt Ideal) ((c : Thread nD τ).loc cc0_scratch2)), { out3 : Buf (Elt Ideal) ((c : Thread nD τ).loc cc0_scratch3) //
      ∀ (y5 : (S1x1024x256.Idx → Elt Ideal .f32)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (xa3 : Buf (Elt Ideal) ((c : Thread nD τ).loc cc0_scratch3)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (tbM0_0.view.loc (c : Thread nD τ) ↦{fullShare.right} T0)
          ∗ (tbM0_1.view.loc (c : Thread nD τ) ↦{fullShare.right} T1)
          ∗ owns (c : Thread nD τ) arg9 fullShare y5
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (scM0_3.view.loc (c : Thread nD τ) ↦{fullShare} xa3)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (arg8.view.loc (c : Thread nD τ) ↦[arg8.view.set]{fullShare} arg8.view.rep x4)
              ∗ (tbM0_0.view.loc (c : Thread nD τ) ↦{fullShare.right} T0)
              ∗ (tbM0_1.view.loc (c : Thread nD τ) ↦{fullShare.right} T1)
              ∗ owns (c : Thread nD τ) arg9 fullShare y5
              ∗ (scM0_0.view.loc (c : Thread nD τ) ↦{fullShare} out0)
              ∗ (scM0_1.view.loc (c : Thread nD τ) ↦{fullShare} out1)
              ∗ (scM0_2.view.loc (c : Thread nD τ) ↦{fullShare} out2)
              ∗ (scM0_3.view.loc (c : Thread nD τ) ↦{fullShare} out3)) -∗ K ⟨⟩))
          ⊢ wp frame (wpE (defs₀ (F := Ideal)) Variants.none c none) Set.univ (cc0_diff_attn_prompt i tbM0_0 (Memref.isWhole_whole _) tbM0_1 (Memref.isWhole_whole _) arg4 harg4 arg5 harg5 arg6 harg6 arg7 harg7 arg8 harg8 arg9 harg9 scM0_0 (Memref.isWhole_whole _) scM0_1 (Memref.isWhole_whole _) scM0_2 (Memref.isWhole_whole _) scM0_3 (Memref.isWhole_whole _)) K } :=
  ⟨_, _, _, _, fun (y5 : (S1x1024x256.Idx → Elt Ideal .f32)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (xa3 : Buf (Elt Ideal) ((c : Thread nD τ).loc cc0_scratch3)) K => by
    unfold owns
    rw [cc0_diff_attn_prompt_eq_skeleton]; unfold cc0_diff_attn_prompt_skel
    iintro ⟨H0, H1, H2, H3, H4, HT0, HT1, ⟨%f5, %hf5, HO5⟩, HS0, HS1, HS2, HS3, Hk⟩
    obtain rfl := harg9.eq_unread hf5
    have hS0 : scM0_0.IsWhole := Memref.isWhole_whole _
    have hS1 : scM0_1.IsWhole := Memref.isWhole_whole _
    have hS2 : scM0_2.IsWhole := Memref.isWhole_whole _
    have hS3 : scM0_3.IsWhole := Memref.isWhole_whole _
    have hT0 : tbM0_0.IsWhole := Memref.isWhole_whole _
    have hT1 : tbM0_1.IsWhole := Memref.isWhole_whole _
    sl_exec! (disch := first | (guard_target = Scalar.cmpi = _; exact hc0) | (guard_target = Scalar.cmpi = _; exact hc1) | (guard_target = ¬(k0_cond3 _ _ = _); exact k0_h3))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO5]
    · iexists _; isplitr; · ipureintro; exact harg9.read_unread _
      iexact HO5
    isplitl [HS0]; · iexact HS0
    isplitl [HS1]; · iexact HS1
    isplitl [HS2]; · iexact HS2
    iexact HS3⟩

set_option backward.proofsInPublic true in
set_option maxHeartbeats 8000000 in
/-- PATH C (points 2, 5, … 79: 24 of 80): what the body leaves — per stored output its pieces (last first), per scratch its
    contents — WITH the proof that, on whole staging memrefs, from the inputs at their blocks, the tables, the outputs
    (5: stored) and the scratches (0: carried, 1: carried, 2: carried, 3: carried), under the path's decisions as
    hypotheses over the words the body reads (`hc0`; `hc1`; `k0_h3`), the body runs to the continuation holding all of it as stated. The
    skeleton (`Gen.*_eq_skeleton`) run by `sl_exec`, loops of literal trip count unrolled by the run, the others by `sl_unroll`. -/
noncomputable def kernelRun0_C (c : Dev nD) (i : grid0.Coords) (arg4 : Memref sig .tc .vmem S4x32 .f32) (harg4 : arg4.IsWhole) (arg5 : Memref sig .tc .vmem S1x256x1024 .bf16) (harg5 : arg5.IsWhole) (arg6 : Memref sig .tc .vmem S1x1024x256 .bf16) (harg6 : arg6.IsWhole) (arg7 : Memref sig .tc .vmem S1x256x1024 .bf16) (harg7 : arg7.IsWhole) (arg8 : Memref sig .tc .vmem S1x256 .f32) (harg8 : arg8.IsWhole) (arg9 : Memref sig .tc .vmem S1x1024x256 .f32) (harg9 : arg9.IsWhole) (T0 : (S10.Idx → Elt Ideal .i32)) (T1 : (S10.Idx → Elt Ideal .i32))
     (x0 : (S4x32.Idx → Elt Ideal .f32)) (x1 : (S1x256x1024.Idx → Elt Ideal .bf16)) (x2 : (S1x1024x256.Idx → Elt Ideal .bf16)) (x3 : (S1x256x1024.Idx → Elt Ideal .bf16)) (x4 : (S1x256.Idx → Elt Ideal .f32)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (xa3 : Buf (Elt Ideal) ((c : Thread nD τ).loc cc0_scratch3)) (hc0 : ¬((Scalar.cmpi .ne (Scalar.extui (Scalar.cmpi .eq (View.readAt (Elt Ideal) (tbM0_1).view (Rect.unit (s := S10) (k0_off1 i) S1.size (k0_off1_inb i)).toLoadRect T1 (Shape.Idx.first (numel1_S1.symm ▸ Nat.one_pos))) 0#32)) 0#32) = 1#1)) (hc1 : ¬((Scalar.cmpi .ne (Scalar.extui (Scalar.cmpi .slt (View.readAt (Elt Ideal) (tbM0_1).view (Rect.unit (s := S10) (k0_off1 i) S1.size (k0_off1_inb i)).toLoadRect T1 (Shape.Idx.first (numel1_S1.symm ▸ Nat.one_pos))) (View.readAt (Elt Ideal) (tbM0_0).view (Rect.unit (s := S10) (k0_off1 i) S1.size (k0_off1_inb i)).toLoadRect T0 (Shape.Idx.first (numel1_S1.symm ▸ Nat.one_pos))))) 0#32) = 1#1)) (k0_h3 : k0_cond3 (View.readAt (Elt Ideal) (tbM0_0).view (Rect.unit (s := S10) (k0_off1 i) S1.size (k0_off1_inb i)).toLoadRect T0 (Shape.Idx.first (numel1_S1.symm ▸ Nat.one_pos))) (View.readAt (Elt Ideal) (tbM0_1).view (Rect.unit (s := S10) (k0_off1 i) S1.size (k0_off1_inb i)).toLoadRect T1 (Shape.Idx.first (numel1_S1.symm ▸ Nat.one_pos))) = 1#1) :
    Σ' (out0 : List (View.Piece (Elt Ideal) S1x1024x256 .f32)) (out1 : Buf (Elt Ideal) ((c : Thread nD τ).loc cc0_scratch0)) (out2 : Buf (Elt Ideal) ((c : Thread nD τ).loc cc0_scratch1)) (out3 : Buf (Elt Ideal) ((c : Thread nD τ).loc cc0_scratch2)), { out4 : Buf (Elt Ideal) ((c : Thread nD τ).loc cc0_scratch3) //
      ∀ (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (tbM0_0.view.loc (c : Thread nD τ) ↦{fullShare.right} T0)
          ∗ (tbM0_1.view.loc (c : Thread nD τ) ↦{fullShare.right} T1)
          ∗ (∃ d, owns (c : Thread nD τ) arg9 fullShare d)
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (scM0_3.view.loc (c : Thread nD τ) ↦{fullShare} xa3)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (arg8.view.loc (c : Thread nD τ) ↦[arg8.view.set]{fullShare} arg8.view.rep x4)
              ∗ (tbM0_0.view.loc (c : Thread nD τ) ↦{fullShare.right} T0)
              ∗ (tbM0_1.view.loc (c : Thread nD τ) ↦{fullShare.right} T1)
              ∗ (∃ f, arg9.view.loc (c : Thread nD τ) ↦[arg9.view.set]{fullShare} arg9.view.writes (Elt Ideal) f out0)
              ∗ (scM0_0.view.loc (c : Thread nD τ) ↦{fullShare} out1)
              ∗ (scM0_1.view.loc (c : Thread nD τ) ↦{fullShare} out2)
              ∗ (scM0_2.view.loc (c : Thread nD τ) ↦{fullShare} out3)
              ∗ (scM0_3.view.loc (c : Thread nD τ) ↦{fullShare} out4)) -∗ K ⟨⟩))
          ⊢ wp frame (wpE (defs₀ (F := Ideal)) Variants.none c none) Set.univ (cc0_diff_attn_prompt i tbM0_0 (Memref.isWhole_whole _) tbM0_1 (Memref.isWhole_whole _) arg4 harg4 arg5 harg5 arg6 harg6 arg7 harg7 arg8 harg8 arg9 harg9 scM0_0 (Memref.isWhole_whole _) scM0_1 (Memref.isWhole_whole _) scM0_2 (Memref.isWhole_whole _) scM0_3 (Memref.isWhole_whole _)) K } :=
  ⟨_, _, _, _, _, fun K => by
    unfold owns
    rw [cc0_diff_attn_prompt_eq_skeleton]; unfold cc0_diff_attn_prompt_skel
    iintro ⟨H0, H1, H2, H3, H4, HT0, HT1, ⟨%d5, %f5, -, HO5⟩, HS0, HS1, HS2, HS3, Hk⟩
    have hS0 : scM0_0.IsWhole := Memref.isWhole_whole _
    have hS1 : scM0_1.IsWhole := Memref.isWhole_whole _
    have hS2 : scM0_2.IsWhole := Memref.isWhole_whole _
    have hS3 : scM0_3.IsWhole := Memref.isWhole_whole _
    have hT0 : tbM0_0.IsWhole := Memref.isWhole_whole _
    have hT1 : tbM0_1.IsWhole := Memref.isWhole_whole _
    sl_exec! (disch := first | (guard_target = ¬(Scalar.cmpi = _); exact hc0) | (guard_target = ¬(Scalar.cmpi = _); exact hc1) | (guard_target = k0_cond3 _ _ = _; exact k0_h3))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO5]; · iexists _; iexact HO5
    isplitl [HS0]; · iexact HS0
    isplitl [HS1]; · iexact HS1
    isplitl [HS2]; · iexact HS2
    iexact HS3⟩

/-- Path C's pieces for output 5 tile its block (1 store of `S1x1024x256`: the kernel evaluates the tiling, Lib/Ring.lean `Piece.tiledL`). -/
theorem cover0_C_5 (c : Dev nD) (i : grid0.Coords) (arg4 : Memref sig .tc .vmem S4x32 .f32) (harg4 : arg4.IsWhole) (arg5 : Memref sig .tc .vmem S1x256x1024 .bf16) (harg5 : arg5.IsWhole) (arg6 : Memref sig .tc .vmem S1x1024x256 .bf16) (harg6 : arg6.IsWhole) (arg7 : Memref sig .tc .vmem S1x256x1024 .bf16) (harg7 : arg7.IsWhole) (arg8 : Memref sig .tc .vmem S1x256 .f32) (harg8 : arg8.IsWhole) (arg9 : Memref sig .tc .vmem S1x1024x256 .f32) (harg9 : arg9.IsWhole) (T0 : (S10.Idx → Elt Ideal .i32)) (T1 : (S10.Idx → Elt Ideal .i32))
     (x0 : (S4x32.Idx → Elt Ideal .f32)) (x1 : (S1x256x1024.Idx → Elt Ideal .bf16)) (x2 : (S1x1024x256.Idx → Elt Ideal .bf16)) (x3 : (S1x256x1024.Idx → Elt Ideal .bf16)) (x4 : (S1x256.Idx → Elt Ideal .f32)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (xa3 : Buf (Elt Ideal) ((c : Thread nD τ).loc cc0_scratch3)) (hc0 : ¬((Scalar.cmpi .ne (Scalar.extui (Scalar.cmpi .eq (View.readAt (Elt Ideal) (tbM0_1).view (Rect.unit (s := S10) (k0_off1 i) S1.size (k0_off1_inb i)).toLoadRect T1 (Shape.Idx.first (numel1_S1.symm ▸ Nat.one_pos))) 0#32)) 0#32) = 1#1)) (hc1 : ¬((Scalar.cmpi .ne (Scalar.extui (Scalar.cmpi .slt (View.readAt (Elt Ideal) (tbM0_1).view (Rect.unit (s := S10) (k0_off1 i) S1.size (k0_off1_inb i)).toLoadRect T1 (Shape.Idx.first (numel1_S1.symm ▸ Nat.one_pos))) (View.readAt (Elt Ideal) (tbM0_0).view (Rect.unit (s := S10) (k0_off1 i) S1.size (k0_off1_inb i)).toLoadRect T0 (Shape.Idx.first (numel1_S1.symm ▸ Nat.one_pos))))) 0#32) = 1#1)) (k0_h3 : k0_cond3 (View.readAt (Elt Ideal) (tbM0_0).view (Rect.unit (s := S10) (k0_off1 i) S1.size (k0_off1_inb i)).toLoadRect T0 (Shape.Idx.first (numel1_S1.symm ▸ Nat.one_pos))) (View.readAt (Elt Ideal) (tbM0_1).view (Rect.unit (s := S10) (k0_off1 i) S1.size (k0_off1_inb i)).toLoadRect T1 (Shape.Idx.first (numel1_S1.symm ▸ Nat.one_pos))) = 1#1) (y : S1x1024x256.Idx) :
    ∃ pc ∈ (kernelRun0_C c i arg4 harg4 arg5 harg5 arg6 harg6 arg7 harg7 arg8 harg8 arg9 harg9 T0 T1 x0 x1 x2 x3 x4 xa0 xa1 xa2 xa3 hc0 hc1 k0_h3).1, y ∈ pc.1.set :=
  View.cover_of_tiledL (kernelRun0_C c i arg4 harg4 arg5 harg5 arg6 harg6 arg7 harg7 arg8 harg8 arg9 harg9 T0 T1 x0 x1 x2 x3 x4 xa0 xa1 xa2 xa3 hc0 hc1 k0_h3).1 S1x1024x256.size (by sl_kernel_rfl) y

/-- What path C leaves in output 5's staging buffer: its pieces read back over junk. -/
def out0_C_5 (c : Dev nD) (i : grid0.Coords) (arg4 : Memref sig .tc .vmem S4x32 .f32) (harg4 : arg4.IsWhole) (arg5 : Memref sig .tc .vmem S1x256x1024 .bf16) (harg5 : arg5.IsWhole) (arg6 : Memref sig .tc .vmem S1x1024x256 .bf16) (harg6 : arg6.IsWhole) (arg7 : Memref sig .tc .vmem S1x256x1024 .bf16) (harg7 : arg7.IsWhole) (arg8 : Memref sig .tc .vmem S1x256 .f32) (harg8 : arg8.IsWhole) (arg9 : Memref sig .tc .vmem S1x1024x256 .f32) (harg9 : arg9.IsWhole) (T0 : (S10.Idx → Elt Ideal .i32)) (T1 : (S10.Idx → Elt Ideal .i32))
     (x0 : (S4x32.Idx → Elt Ideal .f32)) (x1 : (S1x256x1024.Idx → Elt Ideal .bf16)) (x2 : (S1x1024x256.Idx → Elt Ideal .bf16)) (x3 : (S1x256x1024.Idx → Elt Ideal .bf16)) (x4 : (S1x256.Idx → Elt Ideal .f32)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (xa3 : Buf (Elt Ideal) ((c : Thread nD τ).loc cc0_scratch3)) (hc0 : ¬((Scalar.cmpi .ne (Scalar.extui (Scalar.cmpi .eq (View.readAt (Elt Ideal) (tbM0_1).view (Rect.unit (s := S10) (k0_off1 i) S1.size (k0_off1_inb i)).toLoadRect T1 (Shape.Idx.first (numel1_S1.symm ▸ Nat.one_pos))) 0#32)) 0#32) = 1#1)) (hc1 : ¬((Scalar.cmpi .ne (Scalar.extui (Scalar.cmpi .slt (View.readAt (Elt Ideal) (tbM0_1).view (Rect.unit (s := S10) (k0_off1 i) S1.size (k0_off1_inb i)).toLoadRect T1 (Shape.Idx.first (numel1_S1.symm ▸ Nat.one_pos))) (View.readAt (Elt Ideal) (tbM0_0).view (Rect.unit (s := S10) (k0_off1 i) S1.size (k0_off1_inb i)).toLoadRect T0 (Shape.Idx.first (numel1_S1.symm ▸ Nat.one_pos))))) 0#32) = 1#1)) (k0_h3 : k0_cond3 (View.readAt (Elt Ideal) (tbM0_0).view (Rect.unit (s := S10) (k0_off1 i) S1.size (k0_off1_inb i)).toLoadRect T0 (Shape.Idx.first (numel1_S1.symm ▸ Nat.one_pos))) (View.readAt (Elt Ideal) (tbM0_1).view (Rect.unit (s := S10) (k0_off1 i) S1.size (k0_off1_inb i)).toLoadRect T1 (Shape.Idx.first (numel1_S1.symm ▸ Nat.one_pos))) = 1#1) : (S1x1024x256.Idx → Elt Ideal .f32) :=
  VO0_5.read (Elt Ideal) (VO0_5.writes (Elt Ideal) VO0_5.junk (kernelRun0_C c i arg4 harg4 arg5 harg5 arg6 harg6 arg7 harg7 arg8 harg8 arg9 harg9 T0 T1 x0 x1 x2 x3 x4 xa0 xa1 xa2 xa3 hc0 hc1 k0_h3).1)

set_option backward.proofsInPublic true in
set_option maxHeartbeats 8000000 in
/-- PATH D (points 4, 7, … 78: 24 of 80): what the body leaves — per stored output its pieces (last first), per scratch its
    contents — WITH the proof that, on whole staging memrefs, from the inputs at their blocks, the tables, the outputs
    (5: idle) and the scratches (0: carried, 1: carried, 2: carried, 3: carried), under the path's decisions as
    hypotheses over the words the body reads (`hc0`; `hc1`; `k0_h3`), the body runs to the continuation holding all of it as stated. The
    skeleton (`Gen.*_eq_skeleton`) run by `sl_exec`, loops of literal trip count unrolled by the run, the others by `sl_unroll`. -/
noncomputable def kernelRun0_D (c : Dev nD) (i : grid0.Coords) (arg4 : Memref sig .tc .vmem S4x32 .f32) (harg4 : arg4.IsWhole) (arg5 : Memref sig .tc .vmem S1x256x1024 .bf16) (harg5 : arg5.IsWhole) (arg6 : Memref sig .tc .vmem S1x1024x256 .bf16) (harg6 : arg6.IsWhole) (arg7 : Memref sig .tc .vmem S1x256x1024 .bf16) (harg7 : arg7.IsWhole) (arg8 : Memref sig .tc .vmem S1x256 .f32) (harg8 : arg8.IsWhole) (arg9 : Memref sig .tc .vmem S1x1024x256 .f32) (harg9 : arg9.IsWhole) (T0 : (S10.Idx → Elt Ideal .i32)) (T1 : (S10.Idx → Elt Ideal .i32))
     (x0 : (S4x32.Idx → Elt Ideal .f32)) (x1 : (S1x256x1024.Idx → Elt Ideal .bf16)) (x2 : (S1x1024x256.Idx → Elt Ideal .bf16)) (x3 : (S1x256x1024.Idx → Elt Ideal .bf16)) (x4 : (S1x256.Idx → Elt Ideal .f32)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (xa3 : Buf (Elt Ideal) ((c : Thread nD τ).loc cc0_scratch3)) (hc0 : ¬((Scalar.cmpi .ne (Scalar.extui (Scalar.cmpi .eq (View.readAt (Elt Ideal) (tbM0_1).view (Rect.unit (s := S10) (k0_off1 i) S1.size (k0_off1_inb i)).toLoadRect T1 (Shape.Idx.first (numel1_S1.symm ▸ Nat.one_pos))) 0#32)) 0#32) = 1#1)) (hc1 : (Scalar.cmpi .ne (Scalar.extui (Scalar.cmpi .slt (View.readAt (Elt Ideal) (tbM0_1).view (Rect.unit (s := S10) (k0_off1 i) S1.size (k0_off1_inb i)).toLoadRect T1 (Shape.Idx.first (numel1_S1.symm ▸ Nat.one_pos))) (View.readAt (Elt Ideal) (tbM0_0).view (Rect.unit (s := S10) (k0_off1 i) S1.size (k0_off1_inb i)).toLoadRect T0 (Shape.Idx.first (numel1_S1.symm ▸ Nat.one_pos))))) 0#32) = 1#1) (k0_h3 : ¬(k0_cond3 (View.readAt (Elt Ideal) (tbM0_0).view (Rect.unit (s := S10) (k0_off1 i) S1.size (k0_off1_inb i)).toLoadRect T0 (Shape.Idx.first (numel1_S1.symm ▸ Nat.one_pos))) (View.readAt (Elt Ideal) (tbM0_1).view (Rect.unit (s := S10) (k0_off1 i) S1.size (k0_off1_inb i)).toLoadRect T1 (Shape.Idx.first (numel1_S1.symm ▸ Nat.one_pos))) = 1#1)) :
    Σ' (out0 : Buf (Elt Ideal) ((c : Thread nD τ).loc cc0_scratch0)) (out1 : Buf (Elt Ideal) ((c : Thread nD τ).loc cc0_scratch1)) (out2 : Buf (Elt Ideal) ((c : Thread nD τ).loc cc0_scratch2)), { out3 : Buf (Elt Ideal) ((c : Thread nD τ).loc cc0_scratch3) //
      ∀ (y5 : (S1x1024x256.Idx → Elt Ideal .f32)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (tbM0_0.view.loc (c : Thread nD τ) ↦{fullShare.right} T0)
          ∗ (tbM0_1.view.loc (c : Thread nD τ) ↦{fullShare.right} T1)
          ∗ owns (c : Thread nD τ) arg9 fullShare y5
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (scM0_3.view.loc (c : Thread nD τ) ↦{fullShare} xa3)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (arg8.view.loc (c : Thread nD τ) ↦[arg8.view.set]{fullShare} arg8.view.rep x4)
              ∗ (tbM0_0.view.loc (c : Thread nD τ) ↦{fullShare.right} T0)
              ∗ (tbM0_1.view.loc (c : Thread nD τ) ↦{fullShare.right} T1)
              ∗ owns (c : Thread nD τ) arg9 fullShare y5
              ∗ (scM0_0.view.loc (c : Thread nD τ) ↦{fullShare} out0)
              ∗ (scM0_1.view.loc (c : Thread nD τ) ↦{fullShare} out1)
              ∗ (scM0_2.view.loc (c : Thread nD τ) ↦{fullShare} out2)
              ∗ (scM0_3.view.loc (c : Thread nD τ) ↦{fullShare} out3)) -∗ K ⟨⟩))
          ⊢ wp frame (wpE (defs₀ (F := Ideal)) Variants.none c none) Set.univ (cc0_diff_attn_prompt i tbM0_0 (Memref.isWhole_whole _) tbM0_1 (Memref.isWhole_whole _) arg4 harg4 arg5 harg5 arg6 harg6 arg7 harg7 arg8 harg8 arg9 harg9 scM0_0 (Memref.isWhole_whole _) scM0_1 (Memref.isWhole_whole _) scM0_2 (Memref.isWhole_whole _) scM0_3 (Memref.isWhole_whole _)) K } :=
  ⟨_, _, _, _, fun (y5 : (S1x1024x256.Idx → Elt Ideal .f32)) K => by
    unfold owns
    rw [cc0_diff_attn_prompt_eq_skeleton]; unfold cc0_diff_attn_prompt_skel
    iintro ⟨H0, H1, H2, H3, H4, HT0, HT1, ⟨%f5, %hf5, HO5⟩, HS0, HS1, HS2, HS3, Hk⟩
    obtain rfl := harg9.eq_unread hf5
    have hS0 : scM0_0.IsWhole := Memref.isWhole_whole _
    have hS1 : scM0_1.IsWhole := Memref.isWhole_whole _
    have hS2 : scM0_2.IsWhole := Memref.isWhole_whole _
    have hS3 : scM0_3.IsWhole := Memref.isWhole_whole _
    have hT0 : tbM0_0.IsWhole := Memref.isWhole_whole _
    have hT1 : tbM0_1.IsWhole := Memref.isWhole_whole _
    sl_exec! (disch := first | (guard_target = ¬(Scalar.cmpi = _); exact hc0) | (guard_target = Scalar.cmpi = _; exact hc1) | (guard_target = ¬(k0_cond3 _ _ = _); exact k0_h3))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO5]
    · iexists _; isplitr; · ipureintro; exact harg9.read_unread _
      iexact HO5
    isplitl [HS0]; · iexact HS0
    isplitl [HS1]; · iexact HS1
    isplitl [HS2]; · iexact HS2
    iexact HS3⟩

end Cert.KernelIdeal.Gen

end
-- ==== Proof.RunI.Ok0.lean ====
/- The pinned tables keep every block of every window inside its array. (The idealized kernel.) -/
module

public import proofs.«01_k».proof.Proof.RunI.Pins

@[expose] public section

set_option maxRecDepth 16384
-- ONE DECLARATION AT A TIME: a per-path run alone peaks near 3 GB, and a decided theorem's kernel evaluation is freed
-- only when the next declaration begins (side by side, every finished one is held to the module's end)
set_option Elab.async false

noncomputable section

namespace Cert.KernelIdeal.Gen

open Cert.KernelIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the CLOSED instance `Ideal` (the frame claim's): every pinned word a `BitVec`. -/
local notation "𝕄" => MT nD τ sig Unit (Elt Ideal) ℕ (UR sig nD τ) ℕ

theorem ok_pfN_0_0_inb : ∀ i : grid0.Coords, ∀ a, (cc0_transform_1 k0_off1_inb numel1_S1 (pfN (⟨0, by omega⟩ : Fin 1)) i a + 1) * S1x256x1024.size a ≤ S8x256x4096.size a := by decide +kernel
theorem ok_pfN_0_0 : (∀ i : grid0.Coords, ∃ h : (∀ a, (cc0_transform_1 k0_off1_inb numel1_S1 (pfN (⟨0, by omega⟩ : Fin 1)) i a + 1) * S1x256x1024.size a ≤ S8x256x4096.size a), EltTy.bits .bf16 = 32 ∨ (Rect.block (s := S8x256x4096) S1x256x1024.size (cc0_transform_1 k0_off1_inb numel1_S1 (pfN (⟨0, by omega⟩ : Fin 1)) i) h).WholeWords (EltTy.packing .bf16)) := fun i => ⟨ok_pfN_0_0_inb i, .inr (Affine.block_words_dvd (s := S8x256x4096) (p := EltTy.packing .bf16) (by decide) (by decide))⟩
theorem ok_pfN_0_1_inb : ∀ i : grid0.Coords, ∀ a, (cc0_transform_2 k0_off1_inb numel1_S1 (pfN (⟨0, by omega⟩ : Fin 1)) i a + 1) * S1x1024x256.size a ≤ S8x4096x256.size a := by decide +kernel
theorem ok_pfN_0_1 : (∀ i : grid0.Coords, ∃ h : (∀ a, (cc0_transform_2 k0_off1_inb numel1_S1 (pfN (⟨0, by omega⟩ : Fin 1)) i a + 1) * S1x1024x256.size a ≤ S8x4096x256.size a), EltTy.bits .bf16 = 32 ∨ (Rect.block (s := S8x4096x256) S1x1024x256.size (cc0_transform_2 k0_off1_inb numel1_S1 (pfN (⟨0, by omega⟩ : Fin 1)) i) h).WholeWords (EltTy.packing .bf16)) := fun i => ⟨ok_pfN_0_1_inb i, .inr (Affine.block_words_dvd (s := S8x4096x256) (p := EltTy.packing .bf16) (by decide) (by decide))⟩
theorem ok_pfN_0_2_inb : ∀ i : grid0.Coords, ∀ a, (cc0_transform_3 k0_off1_inb numel1_S1 (pfN (⟨0, by omega⟩ : Fin 1)) i a + 1) * S1x256x1024.size a ≤ S8x256x4096.size a := by decide +kernel
theorem ok_pfN_0_2 : (∀ i : grid0.Coords, ∃ h : (∀ a, (cc0_transform_3 k0_off1_inb numel1_S1 (pfN (⟨0, by omega⟩ : Fin 1)) i a + 1) * S1x256x1024.size a ≤ S8x256x4096.size a), EltTy.bits .bf16 = 32 ∨ (Rect.block (s := S8x256x4096) S1x256x1024.size (cc0_transform_3 k0_off1_inb numel1_S1 (pfN (⟨0, by omega⟩ : Fin 1)) i) h).WholeWords (EltTy.packing .bf16)) := fun i => ⟨ok_pfN_0_2_inb i, .inr (Affine.block_words_dvd (s := S8x256x4096) (p := EltTy.packing .bf16) (by decide) (by decide))⟩
theorem ok_pfN_0_3_inb : ∀ i : grid0.Coords, ∀ a, (cc0_transform_5 k0_off1_inb numel1_S1 (pfN (⟨0, by omega⟩ : Fin 1)) i a + 1) * S1x1024x256.size a ≤ S8x4096x256.size a := by decide +kernel
theorem ok_pfN_0_3 : (∀ i : grid0.Coords, ∃ h : (∀ a, (cc0_transform_5 k0_off1_inb numel1_S1 (pfN (⟨0, by omega⟩ : Fin 1)) i a + 1) * S1x1024x256.size a ≤ S8x4096x256.size a), EltTy.bits .f32 = 32 ∨ (Rect.block (s := S8x4096x256) S1x1024x256.size (cc0_transform_5 k0_off1_inb numel1_S1 (pfN (⟨0, by omega⟩ : Fin 1)) i) h).WholeWords (EltTy.packing .f32)) := fun i => ⟨ok_pfN_0_3_inb i, .inl rfl⟩
theorem ok_pfN_0 : ok0 (F := Ideal) (pfN (⟨0, by omega⟩ : Fin 1)) := ⟨ok_pfN_0_0, ok_pfN_0_1, ok_pfN_0_2, ok_pfN_0_3⟩

end Cert.KernelIdeal.Gen

end
-- ==== Proof.RunI.Cfg.lean ====
/- The configuration of the call at the pinned tables: its grid, windows, schedule and scratch buffers. (The idealized kernel.) -/
module

public import proofs.«01_k».proof.Proof.RunI.Ok0

@[expose] public section

set_option maxRecDepth 16384
-- ONE DECLARATION AT A TIME: a per-path run alone peaks near 3 GB, and a decided theorem's kernel evaluation is freed
-- only when the next declaration begins (side by side, every finished one is held to the module's end)
set_option Elab.async false

noncomputable section

namespace Cert.KernelIdeal.Gen

open Cert.KernelIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the CLOSED instance `Ideal` (the frame claim's): every pinned word a `BitVec`. -/
local notation "𝕄" => MT nD τ sig Unit (Elt Ideal) ℕ (UR sig nD τ) ℕ
variable (ch : Fin 1)

/-- The side condition holds of the pinned tables at EVERY member (the grid at them one runs, every block
    inside its array): decided member by member (Flash/OkJ.lean), matched here. -/
theorem ok_pfN : ∀ ch : Fin 1, ok0 (F := Ideal) (pfN ch) := fun ch => match ch with
  | ⟨0, _⟩ => ok_pfN_0
  | ⟨_ + 1, h⟩ => absurd h (by omega)

/-- The admissible contents, the pipeline at them (`cfgA ch`: member `ch`'s grid, 80 points), as @main's one. -/
def adm : (pcfg0 (F := Ideal)).Adm := ⟨pfN ch, ok_pfN ch⟩
abbrev cfgA : Pipeline.Cfg sig Λ₀ := cfg0 (F := Ideal) (adm ch)
abbrev pcs : Fin 1 → Pipeline.Cfg sig Λ₀ := Pipeline.pin (pcfgs (F := Ideal)) fun _ => adm ch

variable (m : (ℓ : Loc nD τ sig) → Buf (Elt Ideal) ℓ) (ρ : Dev nD → PrngReg)

/-! ## A point's coordinates, words and staging memrefs -/

/-- Point `t`'s coordinates. -/
abbrev crd (t : Fin (cfgA ch).N) : (cfgA ch).grid.Coords := (cfgA ch).grid.coords t

/-- Each window's current staging memref at point `t`, spelled as the pipeline passes it, and its wholeness. -/
abbrev ms0_0 (t : Fin (cfgA ch).N) : Memref sig .tc .vmem S4x32 .f32 := spec0_0.stage ((cfgA ch).slots t (0 : Fin 6))
abbrev hs0_0 (t : Fin (cfgA ch).N) : (ms0_0 ch t).IsWhole := hstage0_0 (((cfgA ch).slots t (0 : Fin 6)).cast nbuf0_0)
abbrev ms0_1 (t : Fin (cfgA ch).N) : Memref sig .tc .vmem S1x256x1024 .bf16 := spec0_1.stage ((cfgA ch).slots t (1 : Fin 6))
abbrev hs0_1 (t : Fin (cfgA ch).N) : (ms0_1 ch t).IsWhole := hstage0_1 (((cfgA ch).slots t (1 : Fin 6)).cast nbuf0_1)
abbrev ms0_2 (t : Fin (cfgA ch).N) : Memref sig .tc .vmem S1x1024x256 .bf16 := spec0_2.stage ((cfgA ch).slots t (2 : Fin 6))
abbrev hs0_2 (t : Fin (cfgA ch).N) : (ms0_2 ch t).IsWhole := hstage0_2 (((cfgA ch).slots t (2 : Fin 6)).cast nbuf0_2)
abbrev ms0_3 (t : Fin (cfgA ch).N) : Memref sig .tc .vmem S1x256x1024 .bf16 := spec0_3.stage ((cfgA ch).slots t (3 : Fin 6))
abbrev hs0_3 (t : Fin (cfgA ch).N) : (ms0_3 ch t).IsWhole := hstage0_3 (((cfgA ch).slots t (3 : Fin 6)).cast nbuf0_3)
abbrev ms0_4 (t : Fin (cfgA ch).N) : Memref sig .tc .vmem S1x256 .f32 := spec0_4.stage ((cfgA ch).slots t (4 : Fin 6))
abbrev hs0_4 (t : Fin (cfgA ch).N) : (ms0_4 ch t).IsWhole := hstage0_4 (((cfgA ch).slots t (4 : Fin 6)).cast nbuf0_4)
abbrev ms0_5 (t : Fin (cfgA ch).N) : Memref sig .tc .vmem S1x1024x256 .f32 := spec0_5.stage ((cfgA ch).slots t (5 : Fin 6))
abbrev hs0_5 (t : Fin (cfgA ch).N) : (ms0_5 ch t).IsWhole := hstage0_5 (((cfgA ch).slots t (5 : Fin 6)).cast nbuf0_5)

/-! ## The windows' blocks -/

/-- Window `w`'s block at point `t`, read off its array at launch. -/
def iblk (c : Dev nD) (w : Fin (cfgA ch).W) (t : Fin (cfgA ch).N) : (((cfgA ch).win w).xblock (crd ch t)).Idx → Elt Ideal ((cfgA ch).win w).elt :=
  (((cfgA ch).win w).blk t).view.read (Elt Ideal) ((s₀ m ρ).mem (((cfgA ch).win w).arr.view.loc (c : Thread nD τ)))

/-! ## The control's decisions at a point, at the pinned words (what tells the paths apart) -/

abbrev P0_0 (t : Fin (cfgA ch).N) : Prop := (Scalar.cmpi .ne (Scalar.extui (Scalar.cmpi .eq (View.readAt (Elt Ideal) (tbM0_1).view (Rect.unit (s := S10) (k0_off1 (crd ch t)) S1.size (k0_off1_inb (crd ch t))).toLoadRect (pinT_1 ch) (Shape.Idx.first (numel1_S1.symm ▸ Nat.one_pos))) 0#32)) 0#32) = 1#1
abbrev P0_1 (t : Fin (cfgA ch).N) : Prop := (Scalar.cmpi .ne (Scalar.extui (Scalar.cmpi .slt (View.readAt (Elt Ideal) (tbM0_1).view (Rect.unit (s := S10) (k0_off1 (crd ch t)) S1.size (k0_off1_inb (crd ch t))).toLoadRect (pinT_1 ch) (Shape.Idx.first (numel1_S1.symm ▸ Nat.one_pos))) (View.readAt (Elt Ideal) (tbM0_0).view (Rect.unit (s := S10) (k0_off1 (crd ch t)) S1.size (k0_off1_inb (crd ch t))).toLoadRect (pinT_0 ch) (Shape.Idx.first (numel1_S1.symm ▸ Nat.one_pos))))) 0#32) = 1#1

/-- Whether scratch 0 (`cc0_scratch0`) holds nothing a point has determined, before position `n`: until a path that stores it
    whole first (A, B) has run. -/
def sfresh0_0 : ℕ → Bool
  | 0 => true
  | n + 1 => if h : n < (cfgA ch).N then (if P0_0 ch ⟨n, h⟩ then (if P0_1 ch ⟨n, h⟩ then false else false) else (if P0_1 ch ⟨n, h⟩ then sfresh0_0 n else sfresh0_0 n)) else true

/-- Its CLOSED FORM: fresh before position `n` iff no point below `n` covers it — `n` at most member `ch`'s first covering
    point (read off the walk; the recursion's step is decided against it point by point, the recursion never run). -/
def sfirst0_0 (ch : Fin 1) : ℕ := 0
def sfrTab0_0 : ℕ → Bool := fun n => decide (n ≤ sfirst0_0 ch)

/-- Whether scratch 1 (`cc0_scratch1`) holds nothing a point has determined, before position `n`: until a path that stores it
    whole first (A, B) has run. -/
def sfresh0_1 : ℕ → Bool
  | 0 => true
  | n + 1 => if h : n < (cfgA ch).N then (if P0_0 ch ⟨n, h⟩ then (if P0_1 ch ⟨n, h⟩ then false else false) else (if P0_1 ch ⟨n, h⟩ then sfresh0_1 n else sfresh0_1 n)) else true

/-- Its CLOSED FORM: fresh before position `n` iff no point below `n` covers it — `n` at most member `ch`'s first covering
    point (read off the walk; the recursion's step is decided against it point by point, the recursion never run). -/
def sfirst0_1 (ch : Fin 1) : ℕ := 0
def sfrTab0_1 : ℕ → Bool := fun n => decide (n ≤ sfirst0_1 ch)

/-- Whether scratch 2 (`cc0_scratch2`) holds nothing a point has determined, before position `n`: until a path that stores it
    whole first (A, B) has run. -/
def sfresh0_2 : ℕ → Bool
  | 0 => true
  | n + 1 => if h : n < (cfgA ch).N then (if P0_0 ch ⟨n, h⟩ then (if P0_1 ch ⟨n, h⟩ then false else false) else (if P0_1 ch ⟨n, h⟩ then sfresh0_2 n else sfresh0_2 n)) else true

/-- Its CLOSED FORM: fresh before position `n` iff no point below `n` covers it — `n` at most member `ch`'s first covering
    point (read off the walk; the recursion's step is decided against it point by point, the recursion never run). -/
def sfirst0_2 (ch : Fin 1) : ℕ := 0
def sfrTab0_2 : ℕ → Bool := fun n => decide (n ≤ sfirst0_2 ch)

/-- Whether scratch 3 (`cc0_scratch3`) holds nothing a point has determined, before position `n`: until a path that stores it
    whole first (A, B) has run. -/
def sfresh0_3 : ℕ → Bool
  | 0 => true
  | n + 1 => if h : n < (cfgA ch).N then (if P0_0 ch ⟨n, h⟩ then (if P0_1 ch ⟨n, h⟩ then false else false) else (if P0_1 ch ⟨n, h⟩ then sfresh0_3 n else sfresh0_3 n)) else true

/-- Its CLOSED FORM: fresh before position `n` iff no point below `n` covers it — `n` at most member `ch`'s first covering
    point (read off the walk; the recursion's step is decided against it point by point, the recursion never run). -/
def sfirst0_3 (ch : Fin 1) : ℕ := 0
def sfrTab0_3 : ℕ → Bool := fun n => decide (n ≤ sfirst0_3 ch)

set_option backward.proofsInPublic true in
/-- Whether output 5 holds junk BEFORE each position `1 ‥ N` of member `ch`'s grid — nothing stored into it since
    its last write-back —: the classifier's table (written back at the point before, or idle there and junk
    before it) as a bitmask, bit `n` for position `n + 1`, which `frTab0_5_step` checks against the pipeline's
    own recursion point by point (a bit test is one kernel step; a list walk or the recursion, hundreds). -/
def frMask0_5 : Fin 1 → ℕ
  | ⟨0, _⟩ => 0xffffffffffffffffffff
  | ⟨_ + 1, h⟩ => absurd h (by omega)
/-- `(cfgA ch).fresh 5` TABULATED (TableIdle.lean `Cfg.fresh_tab`): true before the first point, then the table. -/
def frTab0_5 : ℕ → Bool
  | 0 => true
  | n + 1 => (frMask0_5 ch).testBit n

end Cert.KernelIdeal.Gen

end
-- ==== Proof.RunI.Facts.lean ====
/- Facts of the pinned schedule shared by the windows: which staging buffer a point uses, when a block is fetched or written back. (The idealized kernel.) -/
module

public import proofs.«01_k».proof.Proof.RunI.Cfg

@[expose] public section

set_option maxRecDepth 16384
-- ONE DECLARATION AT A TIME: a per-path run alone peaks near 3 GB, and a decided theorem's kernel evaluation is freed
-- only when the next declaration begins (side by side, every finished one is held to the module's end)
set_option Elab.async false

noncomputable section

namespace Cert.KernelIdeal.Gen

open Cert.KernelIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the CLOSED instance `Ideal` (the frame claim's): every pinned word a `BitVec`. -/
local notation "𝕄" => MT nD τ sig Unit (Elt Ideal) ℕ (UR sig nD τ) ℕ
variable (ch : Fin 1)
variable (m : (ℓ : Loc nD τ sig) → Buf (Elt Ideal) ℓ) (ρ : Dev nD → PrngReg)

/-! ## Every per-point fact as ONE proposition, decided member by member; the named facts its projections -/

/-- EVERY FACT THE CERTIFICATE DECIDES at point `t` of member `ch` past the checks — the freshness tables' steps, each
    path's hypotheses and schedule at its points —, as one proposition: ONE kernel evaluation per member
    decides it over the member's points, sharing each point's words, table reads and block indices between the
    facts (Lib/Decide.lean halves the range; a declaration per member bounds the kernel's evaluation cache). -/
abbrev FactsAt (ch : Fin 1) (t : Fin (cfgA ch).N) : Prop :=
  -- sfrTab0_0_step, sfrTab0_1_step, sfrTab0_2_step, sfrTab0_3_step, frTab0_5_step, hyps0_A, sched0_A, hyps0_B, sched0_B, hyps0_C, sched0_C, hyps0_D, sched0_D
  (sfrTab0_0 ch (t.val + 1) = (if P0_0 ch t then (if P0_1 ch t then false else false) else (if P0_1 ch t then sfrTab0_0 ch t.val else sfrTab0_0 ch t.val)))
  ∧ (sfrTab0_1 ch (t.val + 1) = (if P0_0 ch t then (if P0_1 ch t then false else false) else (if P0_1 ch t then sfrTab0_1 ch t.val else sfrTab0_1 ch t.val)))
  ∧ (sfrTab0_2 ch (t.val + 1) = (if P0_0 ch t then (if P0_1 ch t then false else false) else (if P0_1 ch t then sfrTab0_2 ch t.val else sfrTab0_2 ch t.val)))
  ∧ (sfrTab0_3 ch (t.val + 1) = (if P0_0 ch t then (if P0_1 ch t then false else false) else (if P0_1 ch t then sfrTab0_3 ch t.val else sfrTab0_3 ch t.val)))
  ∧ (frTab0_5 ch (t.val + 1) = (((cfgA ch).win (5 : Fin 6)).flush t || ((cfgA ch).idle (5 : Fin 6) ((cfgA ch).grid.coords t) && frTab0_5 ch t.val)))
  ∧ (P0_0 ch t → ¬P0_1 ch t → ((Scalar.cmpi .ne (Scalar.extui (Scalar.cmpi .eq (View.readAt (Elt Ideal) (tbM0_1).view (Rect.unit (s := S10) (k0_off1 (crd ch t)) S1.size (k0_off1_inb (crd ch t))).toLoadRect (pinT_1 ch) (Shape.Idx.first (numel1_S1.symm ▸ Nat.one_pos))) 0#32)) 0#32) = 1#1) ∧ ((¬((Scalar.cmpi .ne (Scalar.extui (Scalar.cmpi .slt (View.readAt (Elt Ideal) (tbM0_1).view (Rect.unit (s := S10) (k0_off1 (crd ch t)) S1.size (k0_off1_inb (crd ch t))).toLoadRect (pinT_1 ch) (Shape.Idx.first (numel1_S1.symm ▸ Nat.one_pos))) (View.readAt (Elt Ideal) (tbM0_0).view (Rect.unit (s := S10) (k0_off1 (crd ch t)) S1.size (k0_off1_inb (crd ch t))).toLoadRect (pinT_0 ch) (Shape.Idx.first (numel1_S1.symm ▸ Nat.one_pos))))) 0#32) = 1#1)) ∧ ((k0_cond3 (View.readAt (Elt Ideal) (tbM0_0).view (Rect.unit (s := S10) (k0_off1 (crd ch t)) S1.size (k0_off1_inb (crd ch t))).toLoadRect (pinT_0 ch) (Shape.Idx.first (numel1_S1.symm ▸ Nat.one_pos))) (View.readAt (Elt Ideal) (tbM0_1).view (Rect.unit (s := S10) (k0_off1 (crd ch t)) S1.size (k0_off1_inb (crd ch t))).toLoadRect (pinT_1 ch) (Shape.Idx.first (numel1_S1.symm ▸ Nat.one_pos))) = 1#1) ∧ (True))))
  ∧ (P0_0 ch t → ¬P0_1 ch t → (cfgA ch).idle (5 : Fin 6) ((cfgA ch).grid.coords t) = false ∧ ((cfgA ch).win (5 : Fin 6)).flush t = true ∧ frTab0_5 ch t.val = true ∧ sfrTab0_0 ch (t.val + 1) = false ∧ sfrTab0_1 ch (t.val + 1) = false ∧ sfrTab0_2 ch (t.val + 1) = false ∧ sfrTab0_3 ch (t.val + 1) = false)
  ∧ (P0_0 ch t → P0_1 ch t → ((Scalar.cmpi .ne (Scalar.extui (Scalar.cmpi .eq (View.readAt (Elt Ideal) (tbM0_1).view (Rect.unit (s := S10) (k0_off1 (crd ch t)) S1.size (k0_off1_inb (crd ch t))).toLoadRect (pinT_1 ch) (Shape.Idx.first (numel1_S1.symm ▸ Nat.one_pos))) 0#32)) 0#32) = 1#1) ∧ (((Scalar.cmpi .ne (Scalar.extui (Scalar.cmpi .slt (View.readAt (Elt Ideal) (tbM0_1).view (Rect.unit (s := S10) (k0_off1 (crd ch t)) S1.size (k0_off1_inb (crd ch t))).toLoadRect (pinT_1 ch) (Shape.Idx.first (numel1_S1.symm ▸ Nat.one_pos))) (View.readAt (Elt Ideal) (tbM0_0).view (Rect.unit (s := S10) (k0_off1 (crd ch t)) S1.size (k0_off1_inb (crd ch t))).toLoadRect (pinT_0 ch) (Shape.Idx.first (numel1_S1.symm ▸ Nat.one_pos))))) 0#32) = 1#1) ∧ ((¬(k0_cond3 (View.readAt (Elt Ideal) (tbM0_0).view (Rect.unit (s := S10) (k0_off1 (crd ch t)) S1.size (k0_off1_inb (crd ch t))).toLoadRect (pinT_0 ch) (Shape.Idx.first (numel1_S1.symm ▸ Nat.one_pos))) (View.readAt (Elt Ideal) (tbM0_1).view (Rect.unit (s := S10) (k0_off1 (crd ch t)) S1.size (k0_off1_inb (crd ch t))).toLoadRect (pinT_1 ch) (Shape.Idx.first (numel1_S1.symm ▸ Nat.one_pos))) = 1#1)) ∧ (True))))
  ∧ (P0_0 ch t → P0_1 ch t → (cfgA ch).idle (5 : Fin 6) ((cfgA ch).grid.coords t) = true ∧ ((cfgA ch).win (5 : Fin 6)).flush t = false ∧ frTab0_5 ch t.val = true ∧ sfrTab0_0 ch t.val = false ∧ sfrTab0_0 ch (t.val + 1) = false ∧ sfrTab0_1 ch t.val = false ∧ sfrTab0_1 ch (t.val + 1) = false ∧ sfrTab0_2 ch t.val = false ∧ sfrTab0_2 ch (t.val + 1) = false ∧ sfrTab0_3 ch t.val = false ∧ sfrTab0_3 ch (t.val + 1) = false)
  ∧ (¬P0_0 ch t → ¬P0_1 ch t → (¬((Scalar.cmpi .ne (Scalar.extui (Scalar.cmpi .eq (View.readAt (Elt Ideal) (tbM0_1).view (Rect.unit (s := S10) (k0_off1 (crd ch t)) S1.size (k0_off1_inb (crd ch t))).toLoadRect (pinT_1 ch) (Shape.Idx.first (numel1_S1.symm ▸ Nat.one_pos))) 0#32)) 0#32) = 1#1)) ∧ ((¬((Scalar.cmpi .ne (Scalar.extui (Scalar.cmpi .slt (View.readAt (Elt Ideal) (tbM0_1).view (Rect.unit (s := S10) (k0_off1 (crd ch t)) S1.size (k0_off1_inb (crd ch t))).toLoadRect (pinT_1 ch) (Shape.Idx.first (numel1_S1.symm ▸ Nat.one_pos))) (View.readAt (Elt Ideal) (tbM0_0).view (Rect.unit (s := S10) (k0_off1 (crd ch t)) S1.size (k0_off1_inb (crd ch t))).toLoadRect (pinT_0 ch) (Shape.Idx.first (numel1_S1.symm ▸ Nat.one_pos))))) 0#32) = 1#1)) ∧ ((k0_cond3 (View.readAt (Elt Ideal) (tbM0_0).view (Rect.unit (s := S10) (k0_off1 (crd ch t)) S1.size (k0_off1_inb (crd ch t))).toLoadRect (pinT_0 ch) (Shape.Idx.first (numel1_S1.symm ▸ Nat.one_pos))) (View.readAt (Elt Ideal) (tbM0_1).view (Rect.unit (s := S10) (k0_off1 (crd ch t)) S1.size (k0_off1_inb (crd ch t))).toLoadRect (pinT_1 ch) (Shape.Idx.first (numel1_S1.symm ▸ Nat.one_pos))) = 1#1) ∧ (True))))
  ∧ (¬P0_0 ch t → ¬P0_1 ch t → (cfgA ch).idle (5 : Fin 6) ((cfgA ch).grid.coords t) = false ∧ ((cfgA ch).win (5 : Fin 6)).flush t = true ∧ frTab0_5 ch t.val = true ∧ sfrTab0_0 ch t.val = false ∧ sfrTab0_0 ch (t.val + 1) = false ∧ sfrTab0_1 ch t.val = false ∧ sfrTab0_1 ch (t.val + 1) = false ∧ sfrTab0_2 ch t.val = false ∧ sfrTab0_2 ch (t.val + 1) = false ∧ sfrTab0_3 ch t.val = false ∧ sfrTab0_3 ch (t.val + 1) = false)
  ∧ (¬P0_0 ch t → P0_1 ch t → (¬((Scalar.cmpi .ne (Scalar.extui (Scalar.cmpi .eq (View.readAt (Elt Ideal) (tbM0_1).view (Rect.unit (s := S10) (k0_off1 (crd ch t)) S1.size (k0_off1_inb (crd ch t))).toLoadRect (pinT_1 ch) (Shape.Idx.first (numel1_S1.symm ▸ Nat.one_pos))) 0#32)) 0#32) = 1#1)) ∧ (((Scalar.cmpi .ne (Scalar.extui (Scalar.cmpi .slt (View.readAt (Elt Ideal) (tbM0_1).view (Rect.unit (s := S10) (k0_off1 (crd ch t)) S1.size (k0_off1_inb (crd ch t))).toLoadRect (pinT_1 ch) (Shape.Idx.first (numel1_S1.symm ▸ Nat.one_pos))) (View.readAt (Elt Ideal) (tbM0_0).view (Rect.unit (s := S10) (k0_off1 (crd ch t)) S1.size (k0_off1_inb (crd ch t))).toLoadRect (pinT_0 ch) (Shape.Idx.first (numel1_S1.symm ▸ Nat.one_pos))))) 0#32) = 1#1) ∧ ((¬(k0_cond3 (View.readAt (Elt Ideal) (tbM0_0).view (Rect.unit (s := S10) (k0_off1 (crd ch t)) S1.size (k0_off1_inb (crd ch t))).toLoadRect (pinT_0 ch) (Shape.Idx.first (numel1_S1.symm ▸ Nat.one_pos))) (View.readAt (Elt Ideal) (tbM0_1).view (Rect.unit (s := S10) (k0_off1 (crd ch t)) S1.size (k0_off1_inb (crd ch t))).toLoadRect (pinT_1 ch) (Shape.Idx.first (numel1_S1.symm ▸ Nat.one_pos))) = 1#1)) ∧ (True))))
  ∧ (¬P0_0 ch t → P0_1 ch t → (cfgA ch).idle (5 : Fin 6) ((cfgA ch).grid.coords t) = true ∧ ((cfgA ch).win (5 : Fin 6)).flush t = false ∧ frTab0_5 ch t.val = true ∧ sfrTab0_0 ch t.val = false ∧ sfrTab0_0 ch (t.val + 1) = false ∧ sfrTab0_1 ch t.val = false ∧ sfrTab0_1 ch (t.val + 1) = false ∧ sfrTab0_2 ch t.val = false ∧ sfrTab0_2 ch (t.val + 1) = false ∧ sfrTab0_3 ch t.val = false ∧ sfrTab0_3 ch (t.val + 1) = false)

set_option synthInstance.maxSize 65536 in
instance FactsAt.dec (ch : Fin 1) (t : Fin (cfgA ch).N) : Decidable (FactsAt ch t) :=
  @instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (inferInstance))))))))))))

end Cert.KernelIdeal.Gen

end
-- ==== Proof.RunI.Facts0.lean ====
/- The conditions of the body at each grid point: first key tile of a query tile, tile under the diagonal, tile on the diagonal. (The idealized kernel.) -/
module

public import proofs.«01_k».proof.Proof.RunI.Facts

@[expose] public section

set_option maxRecDepth 16384
-- ONE DECLARATION AT A TIME: a per-path run alone peaks near 3 GB, and a decided theorem's kernel evaluation is freed
-- only when the next declaration begins (side by side, every finished one is held to the module's end)
set_option Elab.async false

noncomputable section

namespace Cert.KernelIdeal.Gen

open Cert.KernelIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the CLOSED instance `Ideal` (the frame claim's): every pinned word a `BitVec`. -/
local notation "𝕄" => MT nD τ sig Unit (Elt Ideal) ℕ (UR sig nD τ) ℕ

theorem allFacts_0_0 : ∀ t : Fin (cfgA (⟨0, by omega⟩ : Fin 1)).N, 0 ≤ t.val → t.val < 10 → FactsAt (⟨0, by omega⟩ : Fin 1) t := by decide +kernel
theorem allFacts_0_1 : ∀ t : Fin (cfgA (⟨0, by omega⟩ : Fin 1)).N, 10 ≤ t.val → t.val < 20 → FactsAt (⟨0, by omega⟩ : Fin 1) t := by decide +kernel
theorem allFacts_0_2 : ∀ t : Fin (cfgA (⟨0, by omega⟩ : Fin 1)).N, 20 ≤ t.val → t.val < 30 → FactsAt (⟨0, by omega⟩ : Fin 1) t := by decide +kernel
theorem allFacts_0_3 : ∀ t : Fin (cfgA (⟨0, by omega⟩ : Fin 1)).N, 30 ≤ t.val → t.val < 40 → FactsAt (⟨0, by omega⟩ : Fin 1) t := by decide +kernel
theorem allFacts_0_4 : ∀ t : Fin (cfgA (⟨0, by omega⟩ : Fin 1)).N, 40 ≤ t.val → t.val < 50 → FactsAt (⟨0, by omega⟩ : Fin 1) t := by decide +kernel
theorem allFacts_0_5 : ∀ t : Fin (cfgA (⟨0, by omega⟩ : Fin 1)).N, 50 ≤ t.val → t.val < 60 → FactsAt (⟨0, by omega⟩ : Fin 1) t := by decide +kernel
theorem allFacts_0_6 : ∀ t : Fin (cfgA (⟨0, by omega⟩ : Fin 1)).N, 60 ≤ t.val → t.val < 70 → FactsAt (⟨0, by omega⟩ : Fin 1) t := by decide +kernel
theorem allFacts_0_7 : ∀ t : Fin (cfgA (⟨0, by omega⟩ : Fin 1)).N, 70 ≤ t.val → t.val < 80 → FactsAt (⟨0, by omega⟩ : Fin 1) t := by decide +kernel
theorem allFacts_0 : ∀ t : Fin (cfgA (⟨0, by omega⟩ : Fin 1)).N, FactsAt (⟨0, by omega⟩ : Fin 1) t := fun t => by
  have h0 : 0 ≤ t.val := Nat.zero_le _
  rcases Nat.lt_or_ge t.val 10 with h1 | h1; · exact allFacts_0_0 t h0 h1
  rcases Nat.lt_or_ge t.val 20 with h2 | h2; · exact allFacts_0_1 t h1 h2
  rcases Nat.lt_or_ge t.val 30 with h3 | h3; · exact allFacts_0_2 t h2 h3
  rcases Nat.lt_or_ge t.val 40 with h4 | h4; · exact allFacts_0_3 t h3 h4
  rcases Nat.lt_or_ge t.val 50 with h5 | h5; · exact allFacts_0_4 t h4 h5
  rcases Nat.lt_or_ge t.val 60 with h6 | h6; · exact allFacts_0_5 t h5 h6
  rcases Nat.lt_or_ge t.val 70 with h7 | h7; · exact allFacts_0_6 t h6 h7
  exact allFacts_0_7 t h7 t.isLt

end Cert.KernelIdeal.Gen

end
-- ==== Proof.RunI.Frame.lean ====
/- The trajectory of the output block and the four scratch buffers over the grid, and the body's triple at every point. (The idealized kernel.) -/
module

public import proofs.«01_k».proof.Proof.RunI.Runs
public import proofs.«01_k».proof.Proof.RunI.Facts0
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
-- ONE DECLARATION AT A TIME: a per-path run alone peaks near 3 GB, and a decided theorem's kernel evaluation is freed
-- only when the next declaration begins (side by side, every finished one is held to the module's end)
set_option Elab.async false

noncomputable section

namespace Cert.KernelIdeal.Gen

open Cert.KernelIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the CLOSED instance `Ideal` (the frame claim's): every pinned word a `BitVec`. -/
local notation "𝕄" => MT nD τ sig Unit (Elt Ideal) ℕ (UR sig nD τ) ℕ

/-- The proof's resource algebra: the rounds library's, for the pipeline's staging cells, embedded whole. -/
abbrev EP : Emb (UR sig nD τ) 𝕄 := emb₁

variable (ch : Fin 1)
variable (m : (ℓ : Loc nD τ sig) → Buf (Elt Ideal) ℓ) (ρ : Dev nD → PrngReg)

/-- The facts at every point of every member (decided member by member in slices of points, Flash/FactsJ.lean). -/
theorem allFacts : ∀ (ch : Fin 1) (t : Fin (cfgA ch).N), FactsAt ch t := fun ch => match ch with
  | ⟨0, _⟩ => allFacts_0
  | ⟨_ + 1, h⟩ => absurd h (by omega)

/-! ## The named facts — the freshness tables' steps, each path's hypotheses and schedule —: its projections -/

theorem sfrTab0_0_step : ∀ (ch : Fin 1) (t : Fin (cfgA ch).N), sfrTab0_0 ch (t.val + 1) = (if P0_0 ch t then (if P0_1 ch t then false else false) else (if P0_1 ch t then sfrTab0_0 ch t.val else sfrTab0_0 ch t.val)) := fun ch t => (allFacts ch t).1
theorem sfresh0_0_eq : ∀ n, n ≤ (cfgA ch).N → sfresh0_0 ch n = sfrTab0_0 ch n
  | 0, _ => by simp only [sfresh0_0, sfrTab0_0, Nat.zero_le, decide_true]
  | n + 1, h => by simp only [sfresh0_0, dif_pos (show n < (cfgA ch).N from h), sfresh0_0_eq n (Nat.le_of_lt h), sfrTab0_0_step ch ⟨n, h⟩]
theorem sfreshF0_0 (t : Fin (cfgA ch).N) : sfresh0_0 ch t.val = sfrTab0_0 ch t.val := sfresh0_0_eq ch t.val (Nat.le_of_lt t.isLt)
theorem sfreshS0_0 (t : Fin (cfgA ch).N) : sfresh0_0 ch (t.val + 1) = sfrTab0_0 ch (t.val + 1) := sfresh0_0_eq ch (t.val + 1) t.isLt

theorem sfrTab0_1_step : ∀ (ch : Fin 1) (t : Fin (cfgA ch).N), sfrTab0_1 ch (t.val + 1) = (if P0_0 ch t then (if P0_1 ch t then false else false) else (if P0_1 ch t then sfrTab0_1 ch t.val else sfrTab0_1 ch t.val)) := fun ch t => (allFacts ch t).2.1
theorem sfresh0_1_eq : ∀ n, n ≤ (cfgA ch).N → sfresh0_1 ch n = sfrTab0_1 ch n
  | 0, _ => by simp only [sfresh0_1, sfrTab0_1, Nat.zero_le, decide_true]
  | n + 1, h => by simp only [sfresh0_1, dif_pos (show n < (cfgA ch).N from h), sfresh0_1_eq n (Nat.le_of_lt h), sfrTab0_1_step ch ⟨n, h⟩]
theorem sfreshF0_1 (t : Fin (cfgA ch).N) : sfresh0_1 ch t.val = sfrTab0_1 ch t.val := sfresh0_1_eq ch t.val (Nat.le_of_lt t.isLt)
theorem sfreshS0_1 (t : Fin (cfgA ch).N) : sfresh0_1 ch (t.val + 1) = sfrTab0_1 ch (t.val + 1) := sfresh0_1_eq ch (t.val + 1) t.isLt

theorem sfrTab0_2_step : ∀ (ch : Fin 1) (t : Fin (cfgA ch).N), sfrTab0_2 ch (t.val + 1) = (if P0_0 ch t then (if P0_1 ch t then false else false) else (if P0_1 ch t then sfrTab0_2 ch t.val else sfrTab0_2 ch t.val)) := fun ch t => (allFacts ch t).2.2.1
theorem sfresh0_2_eq : ∀ n, n ≤ (cfgA ch).N → sfresh0_2 ch n = sfrTab0_2 ch n
  | 0, _ => by simp only [sfresh0_2, sfrTab0_2, Nat.zero_le, decide_true]
  | n + 1, h => by simp only [sfresh0_2, dif_pos (show n < (cfgA ch).N from h), sfresh0_2_eq n (Nat.le_of_lt h), sfrTab0_2_step ch ⟨n, h⟩]
theorem sfreshF0_2 (t : Fin (cfgA ch).N) : sfresh0_2 ch t.val = sfrTab0_2 ch t.val := sfresh0_2_eq ch t.val (Nat.le_of_lt t.isLt)
theorem sfreshS0_2 (t : Fin (cfgA ch).N) : sfresh0_2 ch (t.val + 1) = sfrTab0_2 ch (t.val + 1) := sfresh0_2_eq ch (t.val + 1) t.isLt

theorem sfrTab0_3_step : ∀ (ch : Fin 1) (t : Fin (cfgA ch).N), sfrTab0_3 ch (t.val + 1) = (if P0_0 ch t then (if P0_1 ch t then false else false) else (if P0_1 ch t then sfrTab0_3 ch t.val else sfrTab0_3 ch t.val)) := fun ch t => (allFacts ch t).2.2.2.1
theorem sfresh0_3_eq : ∀ n, n ≤ (cfgA ch).N → sfresh0_3 ch n = sfrTab0_3 ch n
  | 0, _ => by simp only [sfresh0_3, sfrTab0_3, Nat.zero_le, decide_true]
  | n + 1, h => by simp only [sfresh0_3, dif_pos (show n < (cfgA ch).N from h), sfresh0_3_eq n (Nat.le_of_lt h), sfrTab0_3_step ch ⟨n, h⟩]
theorem sfreshF0_3 (t : Fin (cfgA ch).N) : sfresh0_3 ch t.val = sfrTab0_3 ch t.val := sfresh0_3_eq ch t.val (Nat.le_of_lt t.isLt)
theorem sfreshS0_3 (t : Fin (cfgA ch).N) : sfresh0_3 ch (t.val + 1) = sfrTab0_3 ch (t.val + 1) := sfresh0_3_eq ch (t.val + 1) t.isLt

theorem frTab0_5_step : ∀ (ch : Fin 1) (t : Fin (cfgA ch).N),
    frTab0_5 ch (t.val + 1) = (((cfgA ch).win (5 : Fin 6)).flush t || ((cfgA ch).idle (5 : Fin 6) ((cfgA ch).grid.coords t) && frTab0_5 ch t.val)) := fun ch t => (allFacts ch t).2.2.2.2.1
theorem freshF0_5 (t : Fin (cfgA ch).N) : (cfgA ch).fresh (5 : Fin 6) t.val = frTab0_5 ch t.val :=
  Pipeline.Cfg.fresh_tab (cfgA ch) (5 : Fin 6) (frTab0_5 ch) rfl (frTab0_5_step ch) t.val (Nat.le_of_lt t.isLt)

/-- At a point of path A, the path's hypotheses hold of the words the body reads there (the pinned tables read,
    a pinned window's word AS the word `pinBlk ch t (r.idx x)`; the checks among them cited from `ChecksAt`). -/
theorem hyps0_A : ∀ (ch : Fin 1) (t : Fin (cfgA ch).N), P0_0 ch t → ¬P0_1 ch t →
    ((Scalar.cmpi .ne (Scalar.extui (Scalar.cmpi .eq (View.readAt (Elt Ideal) (tbM0_1).view (Rect.unit (s := S10) (k0_off1 (crd ch t)) S1.size (k0_off1_inb (crd ch t))).toLoadRect (pinT_1 ch) (Shape.Idx.first (numel1_S1.symm ▸ Nat.one_pos))) 0#32)) 0#32) = 1#1) ∧ ((¬((Scalar.cmpi .ne (Scalar.extui (Scalar.cmpi .slt (View.readAt (Elt Ideal) (tbM0_1).view (Rect.unit (s := S10) (k0_off1 (crd ch t)) S1.size (k0_off1_inb (crd ch t))).toLoadRect (pinT_1 ch) (Shape.Idx.first (numel1_S1.symm ▸ Nat.one_pos))) (View.readAt (Elt Ideal) (tbM0_0).view (Rect.unit (s := S10) (k0_off1 (crd ch t)) S1.size (k0_off1_inb (crd ch t))).toLoadRect (pinT_0 ch) (Shape.Idx.first (numel1_S1.symm ▸ Nat.one_pos))))) 0#32) = 1#1)) ∧ ((k0_cond3 (View.readAt (Elt Ideal) (tbM0_0).view (Rect.unit (s := S10) (k0_off1 (crd ch t)) S1.size (k0_off1_inb (crd ch t))).toLoadRect (pinT_0 ch) (Shape.Idx.first (numel1_S1.symm ▸ Nat.one_pos))) (View.readAt (Elt Ideal) (tbM0_1).view (Rect.unit (s := S10) (k0_off1 (crd ch t)) S1.size (k0_off1_inb (crd ch t))).toLoadRect (pinT_1 ch) (Shape.Idx.first (numel1_S1.symm ▸ Nat.one_pos))) = 1#1) ∧ (True))) := fun ch t => (allFacts ch t).2.2.2.2.2.1

theorem hypsR0_A : ∀ (ch : Fin 1) (t : Fin (cfgA ch).N), P0_0 ch t → ¬P0_1 ch t →
    ((Scalar.cmpi .ne (Scalar.extui (Scalar.cmpi .eq (View.readAt (Elt Ideal) (tbM0_1).view (Rect.unit (s := S10) (k0_off1 (crd ch t)) S1.size (k0_off1_inb (crd ch t))).toLoadRect (pinT_1 ch) (Shape.Idx.first (numel1_S1.symm ▸ Nat.one_pos))) 0#32)) 0#32) = 1#1) ∧ ((¬((Scalar.cmpi .ne (Scalar.extui (Scalar.cmpi .slt (View.readAt (Elt Ideal) (tbM0_1).view (Rect.unit (s := S10) (k0_off1 (crd ch t)) S1.size (k0_off1_inb (crd ch t))).toLoadRect (pinT_1 ch) (Shape.Idx.first (numel1_S1.symm ▸ Nat.one_pos))) (View.readAt (Elt Ideal) (tbM0_0).view (Rect.unit (s := S10) (k0_off1 (crd ch t)) S1.size (k0_off1_inb (crd ch t))).toLoadRect (pinT_0 ch) (Shape.Idx.first (numel1_S1.symm ▸ Nat.one_pos))))) 0#32) = 1#1)) ∧ ((k0_cond3 (View.readAt (Elt Ideal) (tbM0_0).view (Rect.unit (s := S10) (k0_off1 (crd ch t)) S1.size (k0_off1_inb (crd ch t))).toLoadRect (pinT_0 ch) (Shape.Idx.first (numel1_S1.symm ▸ Nat.one_pos))) (View.readAt (Elt Ideal) (tbM0_1).view (Rect.unit (s := S10) (k0_off1 (crd ch t)) S1.size (k0_off1_inb (crd ch t))).toLoadRect (pinT_1 ch) (Shape.Idx.first (numel1_S1.symm ▸ Nat.one_pos))) = 1#1) ∧ (True))) := hyps0_A

/-- At a point of path A: the idle table, the write-backs and which buffers hold junk (decided over the
    freshness tables `frTab`/`sfrTab`, restated over `Cfg.fresh`/`sfresh` by their agreement). -/
theorem sched0_A : ∀ (ch : Fin 1) (t : Fin (cfgA ch).N), P0_0 ch t → ¬P0_1 ch t →
    (cfgA ch).idle (5 : Fin 6) ((cfgA ch).grid.coords t) = false ∧ ((cfgA ch).win (5 : Fin 6)).flush t = true ∧ (cfgA ch).fresh (5 : Fin 6) t.val = true ∧ sfresh0_0 ch (t.val + 1) = false ∧ sfresh0_1 ch (t.val + 1) = false ∧ sfresh0_2 ch (t.val + 1) = false ∧ sfresh0_3 ch (t.val + 1) = false := by
  intro ch t; rw [freshF0_5 ch t, sfreshS0_0 ch t, sfreshS0_1 ch t, sfreshS0_2 ch t, sfreshS0_3 ch t]; exact (fun ch t => (allFacts ch t).2.2.2.2.2.2.1) ch t

/-- At a point of path B, the path's hypotheses hold of the words the body reads there (the pinned tables read,
    a pinned window's word AS the word `pinBlk ch t (r.idx x)`; the checks among them cited from `ChecksAt`). -/
theorem hyps0_B : ∀ (ch : Fin 1) (t : Fin (cfgA ch).N), P0_0 ch t → P0_1 ch t →
    ((Scalar.cmpi .ne (Scalar.extui (Scalar.cmpi .eq (View.readAt (Elt Ideal) (tbM0_1).view (Rect.unit (s := S10) (k0_off1 (crd ch t)) S1.size (k0_off1_inb (crd ch t))).toLoadRect (pinT_1 ch) (Shape.Idx.first (numel1_S1.symm ▸ Nat.one_pos))) 0#32)) 0#32) = 1#1) ∧ (((Scalar.cmpi .ne (Scalar.extui (Scalar.cmpi .slt (View.readAt (Elt Ideal) (tbM0_1).view (Rect.unit (s := S10) (k0_off1 (crd ch t)) S1.size (k0_off1_inb (crd ch t))).toLoadRect (pinT_1 ch) (Shape.Idx.first (numel1_S1.symm ▸ Nat.one_pos))) (View.readAt (Elt Ideal) (tbM0_0).view (Rect.unit (s := S10) (k0_off1 (crd ch t)) S1.size (k0_off1_inb (crd ch t))).toLoadRect (pinT_0 ch) (Shape.Idx.first (numel1_S1.symm ▸ Nat.one_pos))))) 0#32) = 1#1) ∧ ((¬(k0_cond3 (View.readAt (Elt Ideal) (tbM0_0).view (Rect.unit (s := S10) (k0_off1 (crd ch t)) S1.size (k0_off1_inb (crd ch t))).toLoadRect (pinT_0 ch) (Shape.Idx.first (numel1_S1.symm ▸ Nat.one_pos))) (View.readAt (Elt Ideal) (tbM0_1).view (Rect.unit (s := S10) (k0_off1 (crd ch t)) S1.size (k0_off1_inb (crd ch t))).toLoadRect (pinT_1 ch) (Shape.Idx.first (numel1_S1.symm ▸ Nat.one_pos))) = 1#1)) ∧ (True))) := fun ch t => (allFacts ch t).2.2.2.2.2.2.2.1

theorem hypsR0_B : ∀ (ch : Fin 1) (t : Fin (cfgA ch).N), P0_0 ch t → P0_1 ch t →
    ((Scalar.cmpi .ne (Scalar.extui (Scalar.cmpi .eq (View.readAt (Elt Ideal) (tbM0_1).view (Rect.unit (s := S10) (k0_off1 (crd ch t)) S1.size (k0_off1_inb (crd ch t))).toLoadRect (pinT_1 ch) (Shape.Idx.first (numel1_S1.symm ▸ Nat.one_pos))) 0#32)) 0#32) = 1#1) ∧ (((Scalar.cmpi .ne (Scalar.extui (Scalar.cmpi .slt (View.readAt (Elt Ideal) (tbM0_1).view (Rect.unit (s := S10) (k0_off1 (crd ch t)) S1.size (k0_off1_inb (crd ch t))).toLoadRect (pinT_1 ch) (Shape.Idx.first (numel1_S1.symm ▸ Nat.one_pos))) (View.readAt (Elt Ideal) (tbM0_0).view (Rect.unit (s := S10) (k0_off1 (crd ch t)) S1.size (k0_off1_inb (crd ch t))).toLoadRect (pinT_0 ch) (Shape.Idx.first (numel1_S1.symm ▸ Nat.one_pos))))) 0#32) = 1#1) ∧ ((¬(k0_cond3 (View.readAt (Elt Ideal) (tbM0_0).view (Rect.unit (s := S10) (k0_off1 (crd ch t)) S1.size (k0_off1_inb (crd ch t))).toLoadRect (pinT_0 ch) (Shape.Idx.first (numel1_S1.symm ▸ Nat.one_pos))) (View.readAt (Elt Ideal) (tbM0_1).view (Rect.unit (s := S10) (k0_off1 (crd ch t)) S1.size (k0_off1_inb (crd ch t))).toLoadRect (pinT_1 ch) (Shape.Idx.first (numel1_S1.symm ▸ Nat.one_pos))) = 1#1)) ∧ (True))) := hyps0_B

/-- At a point of path B: the idle table, the write-backs and which buffers hold junk (decided over the
    freshness tables `frTab`/`sfrTab`, restated over `Cfg.fresh`/`sfresh` by their agreement). -/
theorem sched0_B : ∀ (ch : Fin 1) (t : Fin (cfgA ch).N), P0_0 ch t → P0_1 ch t →
    (cfgA ch).idle (5 : Fin 6) ((cfgA ch).grid.coords t) = true ∧ ((cfgA ch).win (5 : Fin 6)).flush t = false ∧ (cfgA ch).fresh (5 : Fin 6) t.val = true ∧ sfresh0_0 ch t.val = false ∧ sfresh0_0 ch (t.val + 1) = false ∧ sfresh0_1 ch t.val = false ∧ sfresh0_1 ch (t.val + 1) = false ∧ sfresh0_2 ch t.val = false ∧ sfresh0_2 ch (t.val + 1) = false ∧ sfresh0_3 ch t.val = false ∧ sfresh0_3 ch (t.val + 1) = false := by
  intro ch t; rw [freshF0_5 ch t, sfreshF0_0 ch t, sfreshS0_0 ch t, sfreshF0_1 ch t, sfreshS0_1 ch t, sfreshF0_2 ch t, sfreshS0_2 ch t, sfreshF0_3 ch t, sfreshS0_3 ch t]; exact (fun ch t => (allFacts ch t).2.2.2.2.2.2.2.2.1) ch t

/-- At a point of path C, the path's hypotheses hold of the words the body reads there (the pinned tables read,
    a pinned window's word AS the word `pinBlk ch t (r.idx x)`; the checks among them cited from `ChecksAt`). -/
theorem hyps0_C : ∀ (ch : Fin 1) (t : Fin (cfgA ch).N), ¬P0_0 ch t → ¬P0_1 ch t →
    (¬((Scalar.cmpi .ne (Scalar.extui (Scalar.cmpi .eq (View.readAt (Elt Ideal) (tbM0_1).view (Rect.unit (s := S10) (k0_off1 (crd ch t)) S1.size (k0_off1_inb (crd ch t))).toLoadRect (pinT_1 ch) (Shape.Idx.first (numel1_S1.symm ▸ Nat.one_pos))) 0#32)) 0#32) = 1#1)) ∧ ((¬((Scalar.cmpi .ne (Scalar.extui (Scalar.cmpi .slt (View.readAt (Elt Ideal) (tbM0_1).view (Rect.unit (s := S10) (k0_off1 (crd ch t)) S1.size (k0_off1_inb (crd ch t))).toLoadRect (pinT_1 ch) (Shape.Idx.first (numel1_S1.symm ▸ Nat.one_pos))) (View.readAt (Elt Ideal) (tbM0_0).view (Rect.unit (s := S10) (k0_off1 (crd ch t)) S1.size (k0_off1_inb (crd ch t))).toLoadRect (pinT_0 ch) (Shape.Idx.first (numel1_S1.symm ▸ Nat.one_pos))))) 0#32) = 1#1)) ∧ ((k0_cond3 (View.readAt (Elt Ideal) (tbM0_0).view (Rect.unit (s := S10) (k0_off1 (crd ch t)) S1.size (k0_off1_inb (crd ch t))).toLoadRect (pinT_0 ch) (Shape.Idx.first (numel1_S1.symm ▸ Nat.one_pos))) (View.readAt (Elt Ideal) (tbM0_1).view (Rect.unit (s := S10) (k0_off1 (crd ch t)) S1.size (k0_off1_inb (crd ch t))).toLoadRect (pinT_1 ch) (Shape.Idx.first (numel1_S1.symm ▸ Nat.one_pos))) = 1#1) ∧ (True))) := fun ch t => (allFacts ch t).2.2.2.2.2.2.2.2.2.1

theorem hypsR0_C : ∀ (ch : Fin 1) (t : Fin (cfgA ch).N), ¬P0_0 ch t → ¬P0_1 ch t →
    (¬((Scalar.cmpi .ne (Scalar.extui (Scalar.cmpi .eq (View.readAt (Elt Ideal) (tbM0_1).view (Rect.unit (s := S10) (k0_off1 (crd ch t)) S1.size (k0_off1_inb (crd ch t))).toLoadRect (pinT_1 ch) (Shape.Idx.first (numel1_S1.symm ▸ Nat.one_pos))) 0#32)) 0#32) = 1#1)) ∧ ((¬((Scalar.cmpi .ne (Scalar.extui (Scalar.cmpi .slt (View.readAt (Elt Ideal) (tbM0_1).view (Rect.unit (s := S10) (k0_off1 (crd ch t)) S1.size (k0_off1_inb (crd ch t))).toLoadRect (pinT_1 ch) (Shape.Idx.first (numel1_S1.symm ▸ Nat.one_pos))) (View.readAt (Elt Ideal) (tbM0_0).view (Rect.unit (s := S10) (k0_off1 (crd ch t)) S1.size (k0_off1_inb (crd ch t))).toLoadRect (pinT_0 ch) (Shape.Idx.first (numel1_S1.symm ▸ Nat.one_pos))))) 0#32) = 1#1)) ∧ ((k0_cond3 (View.readAt (Elt Ideal) (tbM0_0).view (Rect.unit (s := S10) (k0_off1 (crd ch t)) S1.size (k0_off1_inb (crd ch t))).toLoadRect (pinT_0 ch) (Shape.Idx.first (numel1_S1.symm ▸ Nat.one_pos))) (View.readAt (Elt Ideal) (tbM0_1).view (Rect.unit (s := S10) (k0_off1 (crd ch t)) S1.size (k0_off1_inb (crd ch t))).toLoadRect (pinT_1 ch) (Shape.Idx.first (numel1_S1.symm ▸ Nat.one_pos))) = 1#1) ∧ (True))) := hyps0_C

/-- At a point of path C: the idle table, the write-backs and which buffers hold junk (decided over the
    freshness tables `frTab`/`sfrTab`, restated over `Cfg.fresh`/`sfresh` by their agreement). -/
theorem sched0_C : ∀ (ch : Fin 1) (t : Fin (cfgA ch).N), ¬P0_0 ch t → ¬P0_1 ch t →
    (cfgA ch).idle (5 : Fin 6) ((cfgA ch).grid.coords t) = false ∧ ((cfgA ch).win (5 : Fin 6)).flush t = true ∧ (cfgA ch).fresh (5 : Fin 6) t.val = true ∧ sfresh0_0 ch t.val = false ∧ sfresh0_0 ch (t.val + 1) = false ∧ sfresh0_1 ch t.val = false ∧ sfresh0_1 ch (t.val + 1) = false ∧ sfresh0_2 ch t.val = false ∧ sfresh0_2 ch (t.val + 1) = false ∧ sfresh0_3 ch t.val = false ∧ sfresh0_3 ch (t.val + 1) = false := by
  intro ch t; rw [freshF0_5 ch t, sfreshF0_0 ch t, sfreshS0_0 ch t, sfreshF0_1 ch t, sfreshS0_1 ch t, sfreshF0_2 ch t, sfreshS0_2 ch t, sfreshF0_3 ch t, sfreshS0_3 ch t]; exact (fun ch t => (allFacts ch t).2.2.2.2.2.2.2.2.2.2.1) ch t

/-- At a point of path D, the path's hypotheses hold of the words the body reads there (the pinned tables read,
    a pinned window's word AS the word `pinBlk ch t (r.idx x)`; the checks among them cited from `ChecksAt`). -/
theorem hyps0_D : ∀ (ch : Fin 1) (t : Fin (cfgA ch).N), ¬P0_0 ch t → P0_1 ch t →
    (¬((Scalar.cmpi .ne (Scalar.extui (Scalar.cmpi .eq (View.readAt (Elt Ideal) (tbM0_1).view (Rect.unit (s := S10) (k0_off1 (crd ch t)) S1.size (k0_off1_inb (crd ch t))).toLoadRect (pinT_1 ch) (Shape.Idx.first (numel1_S1.symm ▸ Nat.one_pos))) 0#32)) 0#32) = 1#1)) ∧ (((Scalar.cmpi .ne (Scalar.extui (Scalar.cmpi .slt (View.readAt (Elt Ideal) (tbM0_1).view (Rect.unit (s := S10) (k0_off1 (crd ch t)) S1.size (k0_off1_inb (crd ch t))).toLoadRect (pinT_1 ch) (Shape.Idx.first (numel1_S1.symm ▸ Nat.one_pos))) (View.readAt (Elt Ideal) (tbM0_0).view (Rect.unit (s := S10) (k0_off1 (crd ch t)) S1.size (k0_off1_inb (crd ch t))).toLoadRect (pinT_0 ch) (Shape.Idx.first (numel1_S1.symm ▸ Nat.one_pos))))) 0#32) = 1#1) ∧ ((¬(k0_cond3 (View.readAt (Elt Ideal) (tbM0_0).view (Rect.unit (s := S10) (k0_off1 (crd ch t)) S1.size (k0_off1_inb (crd ch t))).toLoadRect (pinT_0 ch) (Shape.Idx.first (numel1_S1.symm ▸ Nat.one_pos))) (View.readAt (Elt Ideal) (tbM0_1).view (Rect.unit (s := S10) (k0_off1 (crd ch t)) S1.size (k0_off1_inb (crd ch t))).toLoadRect (pinT_1 ch) (Shape.Idx.first (numel1_S1.symm ▸ Nat.one_pos))) = 1#1)) ∧ (True))) := fun ch t => (allFacts ch t).2.2.2.2.2.2.2.2.2.2.2.1

theorem hypsR0_D : ∀ (ch : Fin 1) (t : Fin (cfgA ch).N), ¬P0_0 ch t → P0_1 ch t →
    (¬((Scalar.cmpi .ne (Scalar.extui (Scalar.cmpi .eq (View.readAt (Elt Ideal) (tbM0_1).view (Rect.unit (s := S10) (k0_off1 (crd ch t)) S1.size (k0_off1_inb (crd ch t))).toLoadRect (pinT_1 ch) (Shape.Idx.first (numel1_S1.symm ▸ Nat.one_pos))) 0#32)) 0#32) = 1#1)) ∧ (((Scalar.cmpi .ne (Scalar.extui (Scalar.cmpi .slt (View.readAt (Elt Ideal) (tbM0_1).view (Rect.unit (s := S10) (k0_off1 (crd ch t)) S1.size (k0_off1_inb (crd ch t))).toLoadRect (pinT_1 ch) (Shape.Idx.first (numel1_S1.symm ▸ Nat.one_pos))) (View.readAt (Elt Ideal) (tbM0_0).view (Rect.unit (s := S10) (k0_off1 (crd ch t)) S1.size (k0_off1_inb (crd ch t))).toLoadRect (pinT_0 ch) (Shape.Idx.first (numel1_S1.symm ▸ Nat.one_pos))))) 0#32) = 1#1) ∧ ((¬(k0_cond3 (View.readAt (Elt Ideal) (tbM0_0).view (Rect.unit (s := S10) (k0_off1 (crd ch t)) S1.size (k0_off1_inb (crd ch t))).toLoadRect (pinT_0 ch) (Shape.Idx.first (numel1_S1.symm ▸ Nat.one_pos))) (View.readAt (Elt Ideal) (tbM0_1).view (Rect.unit (s := S10) (k0_off1 (crd ch t)) S1.size (k0_off1_inb (crd ch t))).toLoadRect (pinT_1 ch) (Shape.Idx.first (numel1_S1.symm ▸ Nat.one_pos))) = 1#1)) ∧ (True))) := hyps0_D

/-- At a point of path D: the idle table, the write-backs and which buffers hold junk (decided over the
    freshness tables `frTab`/`sfrTab`, restated over `Cfg.fresh`/`sfresh` by their agreement). -/
theorem sched0_D : ∀ (ch : Fin 1) (t : Fin (cfgA ch).N), ¬P0_0 ch t → P0_1 ch t →
    (cfgA ch).idle (5 : Fin 6) ((cfgA ch).grid.coords t) = true ∧ ((cfgA ch).win (5 : Fin 6)).flush t = false ∧ (cfgA ch).fresh (5 : Fin 6) t.val = true ∧ sfresh0_0 ch t.val = false ∧ sfresh0_0 ch (t.val + 1) = false ∧ sfresh0_1 ch t.val = false ∧ sfresh0_1 ch (t.val + 1) = false ∧ sfresh0_2 ch t.val = false ∧ sfresh0_2 ch (t.val + 1) = false ∧ sfresh0_3 ch t.val = false ∧ sfresh0_3 ch (t.val + 1) = false := by
  intro ch t; rw [freshF0_5 ch t, sfreshF0_0 ch t, sfreshS0_0 ch t, sfreshF0_1 ch t, sfreshS0_1 ch t, sfreshF0_2 ch t, sfreshS0_2 ch t, sfreshF0_3 ch t, sfreshS0_3 ch t]; exact (fun ch t => (allFacts ch t).2.2.2.2.2.2.2.2.2.2.2.2) ch t

/-! ## What the outputs and scratches hold after each point -/

/-- ONE STEP of the trajectory: what the outputs' current buffers and the scratches hold after the body at point `t`
    (output 5, scratch 0, scratch 1, scratch 2, scratch 3), from what they held before (`prev`): the path the decisions select at `t`, its
    run's contents; an output the path leaves idle keeps what it held (junk — `default`, named by nothing — where fresh). -/
def step0 (c : Dev nD) (t : Fin (cfgA ch).N) (prev : (S1x1024x256.Idx → Elt Ideal .f32) × Buf (Elt Ideal) ((c : Thread nD τ).loc cc0_scratch0) × Buf (Elt Ideal) ((c : Thread nD τ).loc cc0_scratch1) × Buf (Elt Ideal) ((c : Thread nD τ).loc cc0_scratch2) × Buf (Elt Ideal) ((c : Thread nD τ).loc cc0_scratch3)) : (S1x1024x256.Idx → Elt Ideal .f32) × Buf (Elt Ideal) ((c : Thread nD τ).loc cc0_scratch0) × Buf (Elt Ideal) ((c : Thread nD τ).loc cc0_scratch1) × Buf (Elt Ideal) ((c : Thread nD τ).loc cc0_scratch2) × Buf (Elt Ideal) ((c : Thread nD τ).loc cc0_scratch3) :=
  if q0 : P0_0 ch t then
    if q1 : P0_1 ch t then
      ((if (cfgA ch).fresh (5 : Fin 6) t.val then default else prev.1), (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) (hypsR0_B ch t q0 q1).1 (hypsR0_B ch t q0 q1).2.1 (hypsR0_B ch t q0 q1).2.2.1).1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) (hypsR0_B ch t q0 q1).1 (hypsR0_B ch t q0 q1).2.1 (hypsR0_B ch t q0 q1).2.2.1).2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) (hypsR0_B ch t q0 q1).1 (hypsR0_B ch t q0 q1).2.1 (hypsR0_B ch t q0 q1).2.2.1).2.2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) (hypsR0_B ch t q0 q1).1 (hypsR0_B ch t q0 q1).2.1 (hypsR0_B ch t q0 q1).2.2.1).2.2.2.1)
    else
      (out0_A_5 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) (hypsR0_A ch t q0 q1).1 (hypsR0_A ch t q0 q1).2.1 (hypsR0_A ch t q0 q1).2.2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) (hypsR0_A ch t q0 q1).1 (hypsR0_A ch t q0 q1).2.1 (hypsR0_A ch t q0 q1).2.2.1).2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) (hypsR0_A ch t q0 q1).1 (hypsR0_A ch t q0 q1).2.1 (hypsR0_A ch t q0 q1).2.2.1).2.2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) (hypsR0_A ch t q0 q1).1 (hypsR0_A ch t q0 q1).2.1 (hypsR0_A ch t q0 q1).2.2.1).2.2.2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) (hypsR0_A ch t q0 q1).1 (hypsR0_A ch t q0 q1).2.1 (hypsR0_A ch t q0 q1).2.2.1).2.2.2.2.1)
  else
    if q1 : P0_1 ch t then
      ((if (cfgA ch).fresh (5 : Fin 6) t.val then default else prev.1), (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.1 prev.2.2.1 prev.2.2.2.1 prev.2.2.2.2 (hypsR0_D ch t q0 q1).1 (hypsR0_D ch t q0 q1).2.1 (hypsR0_D ch t q0 q1).2.2.1).1, (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.1 prev.2.2.1 prev.2.2.2.1 prev.2.2.2.2 (hypsR0_D ch t q0 q1).1 (hypsR0_D ch t q0 q1).2.1 (hypsR0_D ch t q0 q1).2.2.1).2.1, (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.1 prev.2.2.1 prev.2.2.2.1 prev.2.2.2.2 (hypsR0_D ch t q0 q1).1 (hypsR0_D ch t q0 q1).2.1 (hypsR0_D ch t q0 q1).2.2.1).2.2.1, (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.1 prev.2.2.1 prev.2.2.2.1 prev.2.2.2.2 (hypsR0_D ch t q0 q1).1 (hypsR0_D ch t q0 q1).2.1 (hypsR0_D ch t q0 q1).2.2.1).2.2.2.1)
    else
      (out0_C_5 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.1 prev.2.2.1 prev.2.2.2.1 prev.2.2.2.2 (hypsR0_C ch t q0 q1).1 (hypsR0_C ch t q0 q1).2.1 (hypsR0_C ch t q0 q1).2.2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.1 prev.2.2.1 prev.2.2.2.1 prev.2.2.2.2 (hypsR0_C ch t q0 q1).1 (hypsR0_C ch t q0 q1).2.1 (hypsR0_C ch t q0 q1).2.2.1).2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.1 prev.2.2.1 prev.2.2.2.1 prev.2.2.2.2 (hypsR0_C ch t q0 q1).1 (hypsR0_C ch t q0 q1).2.1 (hypsR0_C ch t q0 q1).2.2.1).2.2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.1 prev.2.2.1 prev.2.2.2.1 prev.2.2.2.2 (hypsR0_C ch t q0 q1).1 (hypsR0_C ch t q0 q1).2.1 (hypsR0_C ch t q0 q1).2.2.1).2.2.2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.1 prev.2.2.1 prev.2.2.2.1 prev.2.2.2.2 (hypsR0_C ch t q0 q1).1 (hypsR0_C ch t q0 q1).2.1 (hypsR0_C ch t q0 q1).2.2.1).2.2.2.2.1)

/-- THE TRAJECTORY: after position `n`. -/
def traj0 (c : Dev nD) : (n : ℕ) → n < (cfgA ch).N → (S1x1024x256.Idx → Elt Ideal .f32) × Buf (Elt Ideal) ((c : Thread nD τ).loc cc0_scratch0) × Buf (Elt Ideal) ((c : Thread nD τ).loc cc0_scratch1) × Buf (Elt Ideal) ((c : Thread nD τ).loc cc0_scratch2) × Buf (Elt Ideal) ((c : Thread nD τ).loc cc0_scratch3)
  | 0, h => step0 ch m ρ c ⟨0, h⟩ (default, default, default, default, default)
  | n + 1, h => step0 ch m ρ c ⟨n + 1, h⟩ (traj0 c n (Nat.lt_of_succ_lt h))

/-- What they held BEFORE point `t` (junk before the first). -/
def prev0 (c : Dev nD) (t : Fin (cfgA ch).N) : (S1x1024x256.Idx → Elt Ideal .f32) × Buf (Elt Ideal) ((c : Thread nD τ).loc cc0_scratch0) × Buf (Elt Ideal) ((c : Thread nD τ).loc cc0_scratch1) × Buf (Elt Ideal) ((c : Thread nD τ).loc cc0_scratch2) × Buf (Elt Ideal) ((c : Thread nD τ).loc cc0_scratch3) :=
  if h : t.val = 0 then (default, default, default, default, default) else traj0 ch m ρ c (t.val - 1) (by omega)

theorem traj0_eq (c : Dev nD) (t : Fin (cfgA ch).N) : traj0 ch m ρ c t.val t.isLt = step0 ch m ρ c t (prev0 ch m ρ c t) := by
  obtain ⟨n, hn⟩ := t
  cases n with
  | zero => rfl
  | succ n => unfold prev0; simp only [Nat.add_one_ne_zero, dif_neg, not_false_eq_true]; rfl

/-- `step0` at a point of path A. -/
theorem step0_A (c : Dev nD) (t : Fin (cfgA ch).N) (prev : (S1x1024x256.Idx → Elt Ideal .f32) × Buf (Elt Ideal) ((c : Thread nD τ).loc cc0_scratch0) × Buf (Elt Ideal) ((c : Thread nD τ).loc cc0_scratch1) × Buf (Elt Ideal) ((c : Thread nD τ).loc cc0_scratch2) × Buf (Elt Ideal) ((c : Thread nD τ).loc cc0_scratch3)) (q0 : P0_0 ch t) (q1 : ¬P0_1 ch t) :
    step0 ch m ρ c t prev = (out0_A_5 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) (hypsR0_A ch t q0 q1).1 (hypsR0_A ch t q0 q1).2.1 (hypsR0_A ch t q0 q1).2.2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) (hypsR0_A ch t q0 q1).1 (hypsR0_A ch t q0 q1).2.1 (hypsR0_A ch t q0 q1).2.2.1).2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) (hypsR0_A ch t q0 q1).1 (hypsR0_A ch t q0 q1).2.1 (hypsR0_A ch t q0 q1).2.2.1).2.2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) (hypsR0_A ch t q0 q1).1 (hypsR0_A ch t q0 q1).2.1 (hypsR0_A ch t q0 q1).2.2.1).2.2.2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) (hypsR0_A ch t q0 q1).1 (hypsR0_A ch t q0 q1).2.1 (hypsR0_A ch t q0 q1).2.2.1).2.2.2.2.1) := by
  unfold step0; simp only [dif_pos q0, dif_neg q1]

/-- `step0` at a point of path B. -/
theorem step0_B (c : Dev nD) (t : Fin (cfgA ch).N) (prev : (S1x1024x256.Idx → Elt Ideal .f32) × Buf (Elt Ideal) ((c : Thread nD τ).loc cc0_scratch0) × Buf (Elt Ideal) ((c : Thread nD τ).loc cc0_scratch1) × Buf (Elt Ideal) ((c : Thread nD τ).loc cc0_scratch2) × Buf (Elt Ideal) ((c : Thread nD τ).loc cc0_scratch3)) (q0 : P0_0 ch t) (q1 : P0_1 ch t) :
    step0 ch m ρ c t prev = ((if (cfgA ch).fresh (5 : Fin 6) t.val then default else prev.1), (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) (hypsR0_B ch t q0 q1).1 (hypsR0_B ch t q0 q1).2.1 (hypsR0_B ch t q0 q1).2.2.1).1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) (hypsR0_B ch t q0 q1).1 (hypsR0_B ch t q0 q1).2.1 (hypsR0_B ch t q0 q1).2.2.1).2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) (hypsR0_B ch t q0 q1).1 (hypsR0_B ch t q0 q1).2.1 (hypsR0_B ch t q0 q1).2.2.1).2.2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) (hypsR0_B ch t q0 q1).1 (hypsR0_B ch t q0 q1).2.1 (hypsR0_B ch t q0 q1).2.2.1).2.2.2.1) := by
  unfold step0; simp only [dif_pos q0, dif_pos q1]

/-- `step0` at a point of path C. -/
theorem step0_C (c : Dev nD) (t : Fin (cfgA ch).N) (prev : (S1x1024x256.Idx → Elt Ideal .f32) × Buf (Elt Ideal) ((c : Thread nD τ).loc cc0_scratch0) × Buf (Elt Ideal) ((c : Thread nD τ).loc cc0_scratch1) × Buf (Elt Ideal) ((c : Thread nD τ).loc cc0_scratch2) × Buf (Elt Ideal) ((c : Thread nD τ).loc cc0_scratch3)) (q0 : ¬P0_0 ch t) (q1 : ¬P0_1 ch t) :
    step0 ch m ρ c t prev = (out0_C_5 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.1 prev.2.2.1 prev.2.2.2.1 prev.2.2.2.2 (hypsR0_C ch t q0 q1).1 (hypsR0_C ch t q0 q1).2.1 (hypsR0_C ch t q0 q1).2.2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.1 prev.2.2.1 prev.2.2.2.1 prev.2.2.2.2 (hypsR0_C ch t q0 q1).1 (hypsR0_C ch t q0 q1).2.1 (hypsR0_C ch t q0 q1).2.2.1).2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.1 prev.2.2.1 prev.2.2.2.1 prev.2.2.2.2 (hypsR0_C ch t q0 q1).1 (hypsR0_C ch t q0 q1).2.1 (hypsR0_C ch t q0 q1).2.2.1).2.2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.1 prev.2.2.1 prev.2.2.2.1 prev.2.2.2.2 (hypsR0_C ch t q0 q1).1 (hypsR0_C ch t q0 q1).2.1 (hypsR0_C ch t q0 q1).2.2.1).2.2.2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.1 prev.2.2.1 prev.2.2.2.1 prev.2.2.2.2 (hypsR0_C ch t q0 q1).1 (hypsR0_C ch t q0 q1).2.1 (hypsR0_C ch t q0 q1).2.2.1).2.2.2.2.1) := by
  unfold step0; simp only [dif_neg q0, dif_neg q1]

/-- `step0` at a point of path D. -/
theorem step0_D (c : Dev nD) (t : Fin (cfgA ch).N) (prev : (S1x1024x256.Idx → Elt Ideal .f32) × Buf (Elt Ideal) ((c : Thread nD τ).loc cc0_scratch0) × Buf (Elt Ideal) ((c : Thread nD τ).loc cc0_scratch1) × Buf (Elt Ideal) ((c : Thread nD τ).loc cc0_scratch2) × Buf (Elt Ideal) ((c : Thread nD τ).loc cc0_scratch3)) (q0 : ¬P0_0 ch t) (q1 : P0_1 ch t) :
    step0 ch m ρ c t prev = ((if (cfgA ch).fresh (5 : Fin 6) t.val then default else prev.1), (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.1 prev.2.2.1 prev.2.2.2.1 prev.2.2.2.2 (hypsR0_D ch t q0 q1).1 (hypsR0_D ch t q0 q1).2.1 (hypsR0_D ch t q0 q1).2.2.1).1, (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.1 prev.2.2.1 prev.2.2.2.1 prev.2.2.2.2 (hypsR0_D ch t q0 q1).1 (hypsR0_D ch t q0 q1).2.1 (hypsR0_D ch t q0 q1).2.2.1).2.1, (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.1 prev.2.2.1 prev.2.2.2.1 prev.2.2.2.2 (hypsR0_D ch t q0 q1).1 (hypsR0_D ch t q0 q1).2.1 (hypsR0_D ch t q0 q1).2.2.1).2.2.1, (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.1 prev.2.2.1 prev.2.2.2.1 prev.2.2.2.2 (hypsR0_D ch t q0 q1).1 (hypsR0_D ch t q0 q1).2.1 (hypsR0_D ch t q0 q1).2.2.1).2.2.2.1) := by
  unfold step0; simp only [dif_neg q0, dif_pos q1]

/-! ## The pipeline's proof data -/

/-- What the tracked buffers held before position `t` of `Fin (N+1)` (the invariant's index). -/
def prev0T (c : Dev nD) (t : Fin ((cfgA ch).N + 1)) : (S1x1024x256.Idx → Elt Ideal .f32) × Buf (Elt Ideal) ((c : Thread nD τ).loc cc0_scratch0) × Buf (Elt Ideal) ((c : Thread nD τ).loc cc0_scratch1) × Buf (Elt Ideal) ((c : Thread nD τ).loc cc0_scratch2) × Buf (Elt Ideal) ((c : Thread nD τ).loc cc0_scratch3) :=
  if h : t.val = 0 then (default, default, default, default, default) else traj0 ch m ρ c (t.val - 1) (by omega)

theorem prev0T_castSucc (c : Dev nD) (t : Fin (cfgA ch).N) : prev0T ch m ρ c t.castSucc = prev0 ch m ρ c t := by
  unfold prev0T prev0; simp only [Fin.val_castSucc]
theorem prev0T_succ (c : Dev nD) (t : Fin (cfgA ch).N) : prev0T ch m ρ c t.succ = traj0 ch m ρ c t.val t.isLt := by
  unfold prev0T; simp only [Fin.val_succ, Nat.add_one_ne_zero, ↓reduceDIte, Nat.add_one_sub_one]

/-- THE INVARIANT before point `t`: each scratch at what the trajectory says once a point has determined it (anything
    before), the body's halves of the tables. -/
def Phi (m : (ℓ : Loc nD τ sig) → Buf (Elt Ideal) ℓ) (ρ : Dev nD → PrngReg) (c : Dev nD) (t : Fin ((cfgA ch).N + 1)) : sProp 𝕄 :=
  iprop((∃ a, ⌜sfresh0_0 ch t.val = false → a = (prev0T ch m ρ c t).2.1⌝ ∗ (scM0_0.view.loc (c : Thread nD τ) ↦{fullShare} a)) ∗ (∃ a, ⌜sfresh0_1 ch t.val = false → a = (prev0T ch m ρ c t).2.2.1⌝ ∗ (scM0_1.view.loc (c : Thread nD τ) ↦{fullShare} a)) ∗ (∃ a, ⌜sfresh0_2 ch t.val = false → a = (prev0T ch m ρ c t).2.2.2.1⌝ ∗ (scM0_2.view.loc (c : Thread nD τ) ↦{fullShare} a)) ∗ (∃ a, ⌜sfresh0_3 ch t.val = false → a = (prev0T ch m ρ c t).2.2.2.2⌝ ∗ (scM0_3.view.loc (c : Thread nD τ) ↦{fullShare} a)) ∗ (tbM0_0.view.loc (c : Thread nD τ) ↦{fullShare.right} pinT_0 ch) ∗ (tbM0_1.view.loc (c : Thread nD τ) ↦{fullShare.right} pinT_1 ch))

/-- The proof data of the one pipeline on core `c`. -/
def dats (_ : Fin 1) (c : Dev nD) : Dat τ (Elt Ideal) Unit ℕ (UR sig nD τ) ℕ (cfgA ch) c where
  A w := (s₀ m ρ).mem (((cfgA ch).win w).arr.view.loc (c : Thread nD τ))
  after w t := match w with
    | ⟨0, _⟩ => iblk ch m ρ c (0 : Fin 6) t
    | ⟨1, _⟩ => iblk ch m ρ c (1 : Fin 6) t
    | ⟨2, _⟩ => iblk ch m ρ c (2 : Fin 6) t
    | ⟨3, _⟩ => iblk ch m ρ c (3 : Fin 6) t
    | ⟨4, _⟩ => iblk ch m ρ c (4 : Fin 6) t
    | ⟨5, _⟩ => (traj0 ch m ρ c t.val t.isLt).1
  Φ t := Phi ch m ρ c t
  q _ := fullShare
  owed _ := 0

theorem after0_0 (c : Dev nD) (t : Fin (cfgA ch).N) : (dats ch m ρ 0 c).after (0 : Fin 6) t = iblk ch m ρ c (0 : Fin 6) t := rfl
theorem after0_1 (c : Dev nD) (t : Fin (cfgA ch).N) : (dats ch m ρ 0 c).after (1 : Fin 6) t = iblk ch m ρ c (1 : Fin 6) t := rfl
theorem after0_2 (c : Dev nD) (t : Fin (cfgA ch).N) : (dats ch m ρ 0 c).after (2 : Fin 6) t = iblk ch m ρ c (2 : Fin 6) t := rfl
theorem after0_3 (c : Dev nD) (t : Fin (cfgA ch).N) : (dats ch m ρ 0 c).after (3 : Fin 6) t = iblk ch m ρ c (3 : Fin 6) t := rfl
theorem after0_4 (c : Dev nD) (t : Fin (cfgA ch).N) : (dats ch m ρ 0 c).after (4 : Fin 6) t = iblk ch m ρ c (4 : Fin 6) t := rfl
theorem after0_5 (c : Dev nD) (t : Fin (cfgA ch).N) : (dats ch m ρ 0 c).after (5 : Fin 6) t = (traj0 ch m ρ c t.val t.isLt).1 := rfl

/-! ## What each window's staging buffer holds when the body runs -/

/-- Input window 0 holds its block, fetched there or not (Lib/Pipeline/FrameBody.lean `Dat.before_in_eq_fetched`). -/
theorem before0_0 (c : Dev nD) (t : Fin (cfgA ch).N) (d) : (dats ch m ρ 0 c).before (0 : Fin 6) t d = iblk ch m ρ c (0 : Fin 6) t :=
  ((dats ch m ρ 0 c).before_in_eq_fetched (0 : Fin 6) rfl (fun _ => rfl) (fun _ _ _ => rfl) (fun t => by rw [after0_0]; unfold Dat.blockOf iblk; rfl) t d).trans
    (by unfold Dat.fetched Dat.blockOf iblk; rfl)

/-- Input window 1 holds its block, fetched there or not (Lib/Pipeline/FrameBody.lean `Dat.before_in_eq_fetched`). -/
theorem before0_1 (c : Dev nD) (t : Fin (cfgA ch).N) (d) : (dats ch m ρ 0 c).before (1 : Fin 6) t d = iblk ch m ρ c (1 : Fin 6) t :=
  ((dats ch m ρ 0 c).before_in_eq_fetched (1 : Fin 6) rfl (fun _ => rfl) (fun _ _ _ => rfl) (fun t => by rw [after0_1]; unfold Dat.blockOf iblk; rfl) t d).trans
    (by unfold Dat.fetched Dat.blockOf iblk; rfl)

/-- Input window 2 holds its block, fetched there or not (Lib/Pipeline/FrameBody.lean `Dat.before_in_eq_fetched`). -/
theorem before0_2 (c : Dev nD) (t : Fin (cfgA ch).N) (d) : (dats ch m ρ 0 c).before (2 : Fin 6) t d = iblk ch m ρ c (2 : Fin 6) t :=
  ((dats ch m ρ 0 c).before_in_eq_fetched (2 : Fin 6) rfl (fun _ => rfl) (fun _ _ _ => rfl) (fun t => by rw [after0_2]; unfold Dat.blockOf iblk; rfl) t d).trans
    (by unfold Dat.fetched Dat.blockOf iblk; rfl)

/-- Input window 3 holds its block, fetched there or not (Lib/Pipeline/FrameBody.lean `Dat.before_in_eq_fetched`). -/
theorem before0_3 (c : Dev nD) (t : Fin (cfgA ch).N) (d) : (dats ch m ρ 0 c).before (3 : Fin 6) t d = iblk ch m ρ c (3 : Fin 6) t :=
  ((dats ch m ρ 0 c).before_in_eq_fetched (3 : Fin 6) rfl (fun _ => rfl) (fun _ _ _ => rfl) (fun t => by rw [after0_3]; unfold Dat.blockOf iblk; rfl) t d).trans
    (by unfold Dat.fetched Dat.blockOf iblk; rfl)

/-- Input window 4 holds its block, fetched there or not (Lib/Pipeline/FrameBody.lean `Dat.before_in_eq_fetched`). -/
theorem before0_4 (c : Dev nD) (t : Fin (cfgA ch).N) (d) : (dats ch m ρ 0 c).before (4 : Fin 6) t d = iblk ch m ρ c (4 : Fin 6) t :=
  ((dats ch m ρ 0 c).before_in_eq_fetched (4 : Fin 6) rfl (fun _ => rfl) (fun _ _ _ => rfl) (fun t => by rw [after0_4]; unfold Dat.blockOf iblk; rfl) t d).trans
    (by unfold Dat.fetched Dat.blockOf iblk; rfl)

/-- Output 5's `after` carries through the points that leave it idle. -/
theorem hcarry0_5 (c : Dev nD) : ∀ (t : Fin (cfgA ch).N) (ht : t.val ≠ 0), (cfgA ch).idle (5 : Fin 6) ((cfgA ch).grid.coords t) = true → (cfgA ch).fresh (5 : Fin 6) t.val = false →
    (dats ch m ρ 0 c).after (5 : Fin 6) t = (dats ch m ρ 0 c).after (5 : Fin 6) ⟨t.val - 1, by omega⟩ := by
  intro t ht hi hf
  rw [after0_5, after0_5, traj0_eq]
  by_cases q0 : P0_0 ch t
  · by_cases q1 : P0_1 ch t
    · rw [step0_B ch m ρ c t _ q0 q1]
      simp only [hf, Bool.false_eq_true, ↓reduceIte]
      unfold prev0; rw [dif_neg ht]
    · obtain ⟨i5, -, -, -, -, -, -⟩ := sched0_A ch t q0 q1
      rw [i5] at hi; exact absurd hi (by decide)
  · by_cases q1 : P0_1 ch t
    · rw [step0_D ch m ρ c t _ q0 q1]
      simp only [hf, Bool.false_eq_true, ↓reduceIte]
      unfold prev0; rw [dif_neg ht]
    · obtain ⟨i5, -, -, -, -, -, -, -, -, -, -⟩ := sched0_C ch t q0 q1
      rw [i5] at hi; exact absurd hi (by decide)

/-- Output window 5 holds, when the body runs at `t`: junk if nothing was stored since its last write-back (`Cfg.fresh`),
    else what the point before left (TableIdle.lean `Dat.before_out_traj`). -/
theorem before0_5 (c : Dev nD) (t : Fin (cfgA ch).N) (d) :
    (dats ch m ρ 0 c).before (5 : Fin 6) t d = if (cfgA ch).fresh (5 : Fin 6) t.val then d else (prev0 ch m ρ c t).1 := by
  rw [(dats ch m ρ 0 c).before_out_traj (5 : Fin 6) rfl (fun _ _ => rfl) (hcarry0_5 ch m ρ c) t.val t rfl d]
  by_cases hf : (cfgA ch).fresh (5 : Fin 6) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_5]; unfold prev0; rw [dif_neg h0]

/-! ## The body obligation, at a generic point, by path -/

/-- The body at point `t` on its staging memrefs, as the pipeline calls it. -/
abbrev bodyAt0 (t : Fin (cfgA ch).N) : Prog (TpuEff nD τ sig (Elt Ideal) Λ₀ .tc) PUnit :=
  cc0_diff_attn_prompt (crd ch t) (Memref.whole main_c) (Memref.isWhole_whole _) (Memref.whole main_c_0) (Memref.isWhole_whole _) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (Memref.whole cc0_scratch0) (Memref.isWhole_whole _) (Memref.whole cc0_scratch1) (Memref.isWhole_whole _) (Memref.whole cc0_scratch2) (Memref.isWhole_whole _) (Memref.whole cc0_scratch3) (Memref.isWhole_whole _)

set_option maxHeartbeats 4000000 in
/-- THE BODY OBLIGATION at point `t`: the decisions there tell the path (`by_cases` on `P0_·`); its hypotheses and schedule are
    the decided facts'; the inputs hold their blocks, a live buffer what the trajectory says; the path's run applies; the
    idle windows' matches in the post reduce by the decided idle table. -/
theorem sound_body (hp : Pinned ch m) (c : Dev nD) (t : Fin (cfgA ch).N) :
    iprop((dats ch m ρ 0 c).Φ t.castSucc ∗ (dats ch m ρ 0 c).owesAt () t.castSucc
        ∗ (∃ d, owns (c : Thread nD τ) (ms0_0 ch t) fullShare ((dats ch m ρ 0 c).before (0 : Fin 6) t d))
        ∗ (∃ d, owns (c : Thread nD τ) (ms0_1 ch t) fullShare ((dats ch m ρ 0 c).before (1 : Fin 6) t d))
        ∗ (∃ d, owns (c : Thread nD τ) (ms0_2 ch t) fullShare ((dats ch m ρ 0 c).before (2 : Fin 6) t d))
        ∗ (∃ d, owns (c : Thread nD τ) (ms0_3 ch t) fullShare ((dats ch m ρ 0 c).before (3 : Fin 6) t d))
        ∗ (∃ d, owns (c : Thread nD τ) (ms0_4 ch t) fullShare ((dats ch m ρ 0 c).before (4 : Fin 6) t d))
        ∗ (∃ d, owns (c : Thread nD τ) (ms0_5 ch t) fullShare ((dats ch m ρ 0 c).before (5 : Fin 6) t d)))
      ⊢ wp frame (wpE (defs₀ (F := Ideal)) Variants.none c none) Set.univ (bodyAt0 ch t) fun _ =>
          iprop((dats ch m ρ 0 c).Φ t.succ ∗ (dats ch m ρ 0 c).owesAt () t.succ
            ∗ bigSep Finset.univ fun w : Fin (cfgA ch).W =>
                match (cfgA ch).idle w ((cfgA ch).grid.coords t) with
                | true =>
                  match ((cfgA ch).win w).flush t with
                  | false => iprop(∃ d, owns (c : Thread nD τ) (((cfgA ch).win w).stage ((cfgA ch).slots t w)) fullShare ((dats ch m ρ 0 c).before w t d))
                  | true => owns (c : Thread nD τ) (((cfgA ch).win w).stage ((cfgA ch).slots t w)) fullShare ((dats ch m ρ 0 c).after w t)
                | false => owns (c : Thread nD τ) (((cfgA ch).win w).stage ((cfgA ch).slots t w)) fullShare ((dats ch m ρ 0 c).after w t)) := by
  rw [bigSep_W0]
  by_cases q0 : P0_0 ch t
  · by_cases q1 : P0_1 ch t
    · obtain ⟨i5, f5, fr5, sf0, sfn0, sf1, sfn1, sf2, sfn2, sf3, sfn3⟩ := sched0_B ch t q0 q1
      have F0 := hypsR0_B ch t q0 q1
      have hc0 := F0.1; have F1 := F0.2
      have hc1 := F1.1; have F2 := F1.2
      have k0_h3 := F2.1; have F3 := F2.2
      clear F0 F1 F2 F3
      rewrite [i5]
      simp only [before0_0, before0_1, before0_2, before0_3, before0_4, before0_5, after0_0, after0_1, after0_2, after0_3, after0_4, after0_5, f5]
      simp only [fr5, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_B ch m ρ c t _ q0 q1]
      unfold Phi; simp only [prev0T_castSucc, prev0T_succ, traj0_eq, step0_B ch m ρ c t _ q0 q1, Fin.val_castSucc, Fin.val_succ]
      iintro ⟨⟨⟨%a0, %ha0, HS0⟩, ⟨%a1, %ha1, HS1⟩, ⟨%a2, %ha2, HS2⟩, ⟨%a3, %ha3, HS3⟩, HT0, HT1⟩, Ho, ⟨%d0, H0⟩, ⟨%d1, H1⟩, ⟨%d2, H2⟩, ⟨%d3, H3⟩, ⟨%d4, H4⟩, ⟨%d5, H5⟩⟩
      iapply ((kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) hc0 hc1 k0_h3).2.2.2.2 _ a0 a1 a2 a3 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [H5]; · iexact H5
      isplitl [HS0]; · iexact HS0
      isplitl [HS1]; · iexact HS1
      isplitl [HS2]; · iexact HS2
      isplitl [HS3]; · iexact HS3
      iintro ⟨H0, H1, H2, H3, H4, HT0, HT1, H5, HS0, HS1, HS2, HS3⟩
      isplitl [HS0 HS1 HS2 HS3 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HS2]
        · iexists _; isplitr; swap
          · iexact HS2
          · ipureintro; intro hn; first | rfl | exact absurd hn (by first | (rw [sfn2]; decide) | decide)
        isplitl [HS3]
        · iexists _; isplitr; swap
          · iexact HS3
          · ipureintro; intro hn; first | rfl | exact absurd hn (by first | (rw [sfn3]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      first | (iexists d5; iexact H5) | iexact H5
    · obtain ⟨i5, f5, fr5, sfn0, sfn1, sfn2, sfn3⟩ := sched0_A ch t q0 q1
      have F0 := hypsR0_A ch t q0 q1
      have hc0 := F0.1; have F1 := F0.2
      have hc1 := F1.1; have F2 := F1.2
      have k0_h3 := F2.1; have F3 := F2.2
      clear F0 F1 F2 F3
      rewrite [i5]
      simp only [before0_0, before0_1, before0_2, before0_3, before0_4, before0_5, after0_0, after0_1, after0_2, after0_3, after0_4, after0_5, f5]
      simp only [fr5, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_A ch m ρ c t _ q0 q1]
      unfold Phi; simp only [prev0T_castSucc, prev0T_succ, traj0_eq, step0_A ch m ρ c t _ q0 q1, Fin.val_castSucc, Fin.val_succ]
      iintro ⟨⟨⟨%a0, %ha0, HS0⟩, ⟨%a1, %ha1, HS1⟩, ⟨%a2, %ha2, HS2⟩, ⟨%a3, %ha3, HS3⟩, HT0, HT1⟩, Ho, ⟨%d0, H0⟩, ⟨%d1, H1⟩, ⟨%d2, H2⟩, ⟨%d3, H3⟩, ⟨%d4, H4⟩, ⟨%d5, H5⟩⟩
      iapply ((kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) hc0 hc1 k0_h3).2.2.2.2.2 a0 a1 a2 a3 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [H5]; · iexists _; iexact H5
      isplitl [HS0]; · iexact HS0
      isplitl [HS1]; · iexact HS1
      isplitl [HS2]; · iexact HS2
      isplitl [HS3]; · iexact HS3
      iintro ⟨H0, H1, H2, H3, H4, HT0, HT1, ⟨%e5, H5⟩, HS0, HS1, HS2, HS3⟩
      isplitl [HS0 HS1 HS2 HS3 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HS2]
        · iexists _; isplitr; swap
          · iexact HS2
          · ipureintro; intro hn; first | rfl | exact absurd hn (by first | (rw [sfn2]; decide) | decide)
        isplitl [HS3]
        · iexists _; isplitr; swap
          · iexact HS3
          · ipureintro; intro hn; first | rfl | exact absurd hn (by first | (rw [sfn3]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      unfold owns; iexists _; isplitr; swap
      · iexact H5
      · ipureintro; exact View.read_writes_of_cover _ _ _ _ _ (cover0_A_5 c _ _ _ _ _ _ _ _ _ _ _ _ _ _ _ _ _ _ _ _ _ _ _)
  · by_cases q1 : P0_1 ch t
    · obtain ⟨i5, f5, fr5, sf0, sfn0, sf1, sfn1, sf2, sfn2, sf3, sfn3⟩ := sched0_D ch t q0 q1
      have F0 := hypsR0_D ch t q0 q1
      have hc0 := F0.1; have F1 := F0.2
      have hc1 := F1.1; have F2 := F1.2
      have k0_h3 := F2.1; have F3 := F2.2
      clear F0 F1 F2 F3
      rewrite [i5]
      simp only [before0_0, before0_1, before0_2, before0_3, before0_4, before0_5, after0_0, after0_1, after0_2, after0_3, after0_4, after0_5, f5]
      simp only [fr5, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_D ch m ρ c t _ q0 q1]
      unfold Phi; simp only [prev0T_castSucc, prev0T_succ, traj0_eq, step0_D ch m ρ c t _ q0 q1, Fin.val_castSucc, Fin.val_succ]
      simp only [exists_held sf0, exists_held sf1, exists_held sf2, exists_held sf3]
      iintro ⟨⟨HS0, HS1, HS2, HS3, HT0, HT1⟩, Ho, ⟨%d0, H0⟩, ⟨%d1, H1⟩, ⟨%d2, H2⟩, ⟨%d3, H3⟩, ⟨%d4, H4⟩, ⟨%d5, H5⟩⟩
      iapply ((kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) _ _ _ _ hc0 hc1 k0_h3).2.2.2.2 _ _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [H5]; · iexact H5
      isplitl [HS0]; · iexact HS0
      isplitl [HS1]; · iexact HS1
      isplitl [HS2]; · iexact HS2
      isplitl [HS3]; · iexact HS3
      iintro ⟨H0, H1, H2, H3, H4, HT0, HT1, H5, HS0, HS1, HS2, HS3⟩
      isplitl [HS0 HS1 HS2 HS3 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HS2]
        · iexists _; isplitr; swap
          · iexact HS2
          · ipureintro; intro hn; first | rfl | exact absurd hn (by first | (rw [sfn2]; decide) | decide)
        isplitl [HS3]
        · iexists _; isplitr; swap
          · iexact HS3
          · ipureintro; intro hn; first | rfl | exact absurd hn (by first | (rw [sfn3]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      first | (iexists d5; iexact H5) | iexact H5
    · obtain ⟨i5, f5, fr5, sf0, sfn0, sf1, sfn1, sf2, sfn2, sf3, sfn3⟩ := sched0_C ch t q0 q1
      have F0 := hypsR0_C ch t q0 q1
      have hc0 := F0.1; have F1 := F0.2
      have hc1 := F1.1; have F2 := F1.2
      have k0_h3 := F2.1; have F3 := F2.2
      clear F0 F1 F2 F3
      rewrite [i5]
      simp only [before0_0, before0_1, before0_2, before0_3, before0_4, before0_5, after0_0, after0_1, after0_2, after0_3, after0_4, after0_5, f5]
      simp only [fr5, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_C ch m ρ c t _ q0 q1]
      unfold Phi; simp only [prev0T_castSucc, prev0T_succ, traj0_eq, step0_C ch m ρ c t _ q0 q1, Fin.val_castSucc, Fin.val_succ]
      simp only [exists_held sf0, exists_held sf1, exists_held sf2, exists_held sf3]
      iintro ⟨⟨HS0, HS1, HS2, HS3, HT0, HT1⟩, Ho, ⟨%d0, H0⟩, ⟨%d1, H1⟩, ⟨%d2, H2⟩, ⟨%d3, H3⟩, ⟨%d4, H4⟩, ⟨%d5, H5⟩⟩
      iapply ((kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) _ _ _ _ hc0 hc1 k0_h3).2.2.2.2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [H5]; · iexists _; iexact H5
      isplitl [HS0]; · iexact HS0
      isplitl [HS1]; · iexact HS1
      isplitl [HS2]; · iexact HS2
      isplitl [HS3]; · iexact HS3
      iintro ⟨H0, H1, H2, H3, H4, HT0, HT1, ⟨%e5, H5⟩, HS0, HS1, HS2, HS3⟩
      isplitl [HS0 HS1 HS2 HS3 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HS2]
        · iexists _; isplitr; swap
          · iexact HS2
          · ipureintro; intro hn; first | rfl | exact absurd hn (by first | (rw [sfn2]; decide) | decide)
        isplitl [HS3]
        · iexists _; isplitr; swap
          · iexact HS3
          · ipureintro; intro hn; first | rfl | exact absurd hn (by first | (rw [sfn3]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      unfold owns; iexists _; isplitr; swap
      · iexact H5
      · ipureintro; exact View.read_writes_of_cover _ _ _ _ _ (cover0_C_5 c _ _ _ _ _ _ _ _ _ _ _ _ _ _ _ _ _ _ _ _ _ _ _ _ _ _ _)

/-- The library's body obligation, at every point. -/
theorem body_obligation (hp : Pinned ch m) (c : Dev nD) : BodyObligation (dats ch m ρ 0 c) (defs₀ (F := Ideal)) Variants.none () Set.univ := fun t => by
  rw [bigSep_W0]
  exact sound_body ch m ρ hp c t

/-! ## The launch -/

/-- The rounds library's launch element. -/
def u₀ : UR sig nD τ :=
  initOf (Pipeline.cells (pcs ch) ((launch0 (F := Ideal)).cellOf_inj fun _ => adm ch))
    (Pipeline.launchToks (pcs ch) ((launch0 (F := Ideal)).cellOf_inj fun _ => adm ch))

theorem share_eq (c : Dev nD) (w : Fin (cfgA ch).W) : (dats ch m ρ 0 c).share w = fullShare := by unfold Dat.share; split <;> rfl

/-- The tables as the launch hands them to the region, one by one. -/
theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_c) ↦{q 0} v 0) ∗ (((c : Thread nD τ).loc main_c_0) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point from the tables and the scratch buffers (`hin`); -/
theorem phi0_intro (c : Dev nD) :
    iprop(BI.emp ∗ Pipeline.prefHeld pre0 c (fun _ => fullShare.right) (adm ch).1 ∗ Pipeline.scopedRest spec0 c) ⊢ (dats ch m ρ 0 c).Φ 0 := by
  rw [prefHeld_eq, scopedRest0_eq, show (dats ch m ρ 0 c).Φ 0 = Phi ch m ρ c 0 from rfl]
  unfold Phi
  iintro ⟨-, ⟨HT0, HT1⟩, ⟨%a0, HS0⟩, ⟨%a1, HS1⟩, ⟨%a2, HS2⟩, ⟨%a3, HS3⟩⟩
  isplitl [HS0]
  · iexists a0; isplitr; swap
    · iexact HS0
    · ipureintro; intro h; exact absurd (h.symm.trans (show sfresh0_0 ch 0 = true from rfl)) Bool.false_ne_true
  isplitl [HS1]
  · iexists a1; isplitr; swap
    · iexact HS1
    · ipureintro; intro h; exact absurd (h.symm.trans (show sfresh0_1 ch 0 = true from rfl)) Bool.false_ne_true
  isplitl [HS2]
  · iexists a2; isplitr; swap
    · iexact HS2
    · ipureintro; intro h; exact absurd (h.symm.trans (show sfresh0_2 ch 0 = true from rfl)) Bool.false_ne_true
  isplitl [HS3]
  · iexists a3; isplitr; swap
    · iexact HS3
    · ipureintro; intro h; exact absurd (h.symm.trans (show sfresh0_3 ch 0 = true from rfl)) Bool.false_ne_true
  isplitl [HT0]
  · iexact HT0
  iexact HT1

/-- at the last point it gives the scratch buffers back (`hout`), the tables let go. -/
theorem phiN_exit (c : Dev nD) : (dats ch m ρ 0 c).Φ (Fin.last (cfgA ch).N) ⊢ iprop(BI.emp ∗ Pipeline.scopedRest spec0 c) := by
  rw [scopedRest0_eq, show (dats ch m ρ 0 c).Φ (Fin.last (cfgA ch).N) = Phi ch m ρ c (Fin.last _) from rfl]
  unfold Phi
  iintro ⟨⟨%a0, -, HS0⟩, ⟨%a1, -, HS1⟩, ⟨%a2, -, HS2⟩, ⟨%a3, -, HS3⟩, -, -⟩
  isplitr; · iempintro
  isplitl [HS0]
  · iexists a0; iexact HS0
  isplitl [HS1]
  · iexists a1; iexact HS1
  isplitl [HS2]
  · iexists a2; iexact HS2
  iexists a3; iexact HS3

end Cert.KernelIdeal.Gen

end
-- ==== Proof.RunI.Launch.lean ====
module

public import proofs.«01_k».proof.Proof.RunI.Frame

@[expose] public section

set_option maxRecDepth 16384

noncomputable section

namespace Cert.KernelIdeal.Gen

open Cert.KernelIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg)

local notation "𝕄" => MT nD τ sig Unit (Elt Ideal) ℕ (UR sig nD τ) ℕ

variable (m : (ℓ : Loc nD τ sig) → Buf (Elt Ideal) ℓ) (ρ : Dev nD → PrngReg)

/-- The memory the region is entered with: the six host operations have filled the two tables and the tiled norm
    weights. -/
def entry : (ℓ : Loc nD τ sig) → Buf (Elt Ideal) ℓ := fun ℓ => StableHlo.after hostOps0 (fun b => m (ℓ.1, b)) ℓ.2

/-- A buffer no host operation writes is entered as launched. -/
theorem entry_of_not_written (c : Dev nD) (b : Ref sig .tc)
    (hb : b ≠ main_c ∧ b ≠ main_c_0 ∧ b ≠ main_v0 ∧ b ≠ main_v1 ∧ b ≠ main_v2 ∧ b ≠ main_v3) :
    entry m ((c : Thread nD τ).loc b) = m ((c : Thread nD τ).loc b) := by
  obtain ⟨h0, h1, h2, h3, h4, h5⟩ := hb
  refine StableHlo.after_of_forall_not_mem (b := Proc.devRef .tc b) hostOps0 (fun b => m (c, b)) ?_
  intro op hop
  simp only [List.mem_cons, List.mem_nil_iff, or_false] at hop
  rcases hop with rfl | rfl | rfl | rfl | rfl | rfl <;>
    simp only [StableHlo.unary_writes, StableHlo.reshape_writes, StableHlo.nullary_writes, Finset.mem_singleton] <;>
    exact StableHlo.devRef_ne_of_ne ‹_›

/-- Two tables of ten words agree once they agree at the ten row-major positions. -/
theorem table_eq {f : Fin S10.numel → BitVec 32} {l : List (BitVec 32)}
    (h : ∀ k : Fin 10, f (S10.rowMajor (fun a => match a with | ⟨0, _⟩ => k)) = l.getD k.val 0#32) :
    (fun i : S10.Idx => f (S10.rowMajor i)) = fun x => l.getD (x 0).val 0#32 := by
  funext x
  have hx : x = fun a => match a with | ⟨0, _⟩ => x 0 := by funext a; match a with | ⟨0, _⟩ => rfl
  rw [hx]; exact h (x 0)

/-- The tables the host filled are the ones the schedule was read off. -/
theorem entry_pinned : Pinned 0 (entry m) := by
  refine ⟨fun c => ?_, fun c => ?_⟩
  · have h : entry m ((c : Thread nD τ).loc main_c) = (fun i => lit0 (S10.rowMajor i) : S10.Idx → BitVec 32) := by
      show StableHlo.after hostOps0 _ (Proc.devRef .tc main_c) = _
      unfold hostOps0
      rw [StableHlo.after_cons, StableHlo.after_of_forall_not_mem]
      · exact StableHlo.nullary_result ..
      · intro op hop
        simp only [List.mem_cons, List.mem_nil_iff, or_false] at hop
        rcases hop with rfl | rfl | rfl | rfl | rfl <;>
          simp only [StableHlo.unary_writes, StableHlo.reshape_writes, StableHlo.nullary_writes, Finset.mem_singleton] <;>
          exact StableHlo.devRef_ne_of_ne (by decide)
    rw [h]
    exact table_eq (by decide)
  · have h : entry m ((c : Thread nD τ).loc main_c_0) = (fun i => lit1 (S10.rowMajor i) : S10.Idx → BitVec 32) := by
      show StableHlo.after hostOps0 _ (Proc.devRef .tc main_c_0) = _
      unfold hostOps0
      rw [StableHlo.after_cons, StableHlo.after_cons, StableHlo.after_of_forall_not_mem]
      · exact StableHlo.nullary_result ..
      · intro op hop
        simp only [List.mem_cons, List.mem_nil_iff, or_false] at hop
        rcases hop with rfl | rfl | rfl | rfl <;>
          simp only [StableHlo.unary_writes, StableHlo.reshape_writes, StableHlo.nullary_writes, Finset.mem_singleton] <;>
          exact StableHlo.devRef_ne_of_ne (by decide)
    rw [h]
    exact table_eq (by decide)

/-- What every run ends with: every window's array at the contents the proof data compute, the norm weights as launched. -/
def QC : PUnit × MemSt nD τ sig (Elt Ideal) → Prop := fun r =>
  ∀ c : Dev nD, (∀ w : Fin (cfgA 0).W, r.2.mem (((cfgA 0).win w).arr.view.loc (c : Thread nD τ)) = (dats 0 (entry m) ρ 0 c).arrAt w (cfgA 0).N)
    ∧ r.2.mem ((c : Thread nD τ).loc main_arg4) = m ((c : Thread nD τ).loc main_arg4)

theorem entry_pre (c : Dev nD) (j : Fin 2) : entry m ((c : Thread nD τ).loc (pre0.ref j)) = (adm 0).1 j := by
  fin_cases j
  · exact (entry_pinned m).1 c
  · exact (entry_pinned m).2 c

set_option backward.isDefEq.respectTransparency.types false in
set_option maxHeartbeats 4000000 in
/-- From any memory with zero counters: every weakly fair execution of @main terminates, every final state satisfies `QC`
    and has every semaphore counter at zero. -/
theorem run_main_quiescent : θ_run (defs (F := Ideal)) (onTc (τ := τ) (main (F := Ideal))) (s₀ m ρ) (fun r => QC m ρ r ∧ r.2.sem = fun _ => 0) :=
  Pipeline.θ_run_region_noSem_pf_quiescent pcfgs (fun _ => adm 0) (dats 0 (entry m) ρ) () ((launch0 (F := Ideal)).cellOf_inj fun _ => adm 0) (0 : Fin 1)
    (launch0 (F := Ideal)).win.to₀ (launch0 (F := Ideal)).pre EP defs₀ Variants.none m ρ main
    (hbody := fun c => (body_obligation 0 (entry m) ρ (entry_pinned m) c).loose) (hne := (launch0 (F := Ideal)).block_pos)
    (harr := (launch0 (F := Ideal)).arr_whole) (hstage := (launch0 (F := Ideal)).stage_whole) (howed := fun _ _ => rfl)
    (u₀ := u₀ 0) (hu₀ := .rfl)
    (V := fun c b => entry m ((c : Thread nD τ).loc b))
    (hmain := Pipeline.hmainP_prefix pcfgs (0 : Fin 1) defs₀ Variants.none m main hostOps0 hostOps0_sub
      ⟨rfl, rfl, rfl, rfl, rfl, rfl⟩ main_chain)
    (hsplit := fun c => Pipeline.arrays_split (pcs 0) (dats 0 (entry m) ρ) 0 (launch0 (F := Ideal)).win.arr_inj c (launch0 (F := Ideal)).arr_whole
      (share_eq 0 (entry m) ρ c) _ _ fun _ => rfl)
    (hpf := entry_pre m)
    (X := fun _ => iprop(emp)) (Y := fun _ => iprop(emp))
    (Z := fun c => ((c : Thread nD τ).loc main_arg4) ↦{fullShare} m ((c : Thread nD τ).loc main_arg4))
    (hX := fun c => by
      rw [unscopedRestP0_eq, entry_of_not_written m c main_arg4 (by decide)]
      iintro ⟨H4, -, -, -⟩
      isplitr; · iempintro
      iexact H4)
    (hin := phi0_intro 0 (entry m) ρ)
    (hout := phiN_exit 0 (entry m) ρ)
    (QY := fun c s => s.mem ((c : Thread nD τ).loc main_arg4) = m ((c : Thread nD τ).loc main_arg4))
    (hY := fun c s' => by
      iintro ⟨-, H4, HSI⟩
      icombine HSI H4 gives %h
      imodintro
      isplitr; · ipureintro; exact Buf.eq_of_forall_mem_univ h
      iexact HSI)
    (hQ := fun _ h hz => ⟨fun c => ⟨(h c).1, (h c).2.2⟩, hz⟩)

/-- THE FRAME: every weakly fair execution terminates, every argument array ends unchanged and every semaphore counter
    reads zero. -/
theorem frame :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => by
    have e (w : Fin 6) (hw : ((cfgA 0).win w).isOut = false) := ((h.1 c).1 w).trans ((dats 0 (entry m) ρ 0 c).arrAt_in w hw _)
    exact ⟨(e 1 rfl).trans (entry_of_not_written m c main_arg0 (by decide)),
      (e 2 rfl).trans (entry_of_not_written m c main_arg1 (by decide)),
      (e 3 rfl).trans (entry_of_not_written m c main_arg2 (by decide)),
      (e 0 rfl).trans (entry_of_not_written m c main_arg3 (by decide)),
      (h.1 c).2⟩, h.2⟩) (run_main_quiescent m ρ)

end Cert.KernelIdeal.Gen

end
-- ==== Proof.RunB.Runs.lean ====
/- What one run of the body does on each of its four paths: first tile and diagonal (A), first tile below the diagonal (B), later
   tile on the diagonal (C), later tile below the diagonal (D). Each run names what the body leaves in the output block and in the four
   scratch buffers. (The kernel.) -/
module

public import proofs.«01_k».proof.Proof.Gen.Kernel.Skeleton
public import proofs.«01_k».proof.Proof.RunB.Pins

@[expose] public section

set_option maxRecDepth 16384
-- ONE DECLARATION AT A TIME: a per-path run alone peaks near 3 GB, and a decided theorem's kernel evaluation is freed
-- only when the next declaration begins (side by side, every finished one is held to the module's end)
set_option Elab.async false

noncomputable section

namespace Cert.Kernel.Gen

open Cert.Kernel
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the bit-exact instance (the frame claim's): every pinned word a `BitVec`. -/
local notation "𝕄" => MT nD τ sig Unit (Elt Bits) ℕ (UR sig nD τ) ℕ

/-! ## The kernel body per control path, on symbolic staging memrefs: a subtype the run finds -/

/-- One staging buffer of output window 5, through which its contents are stated (`View.read_writes_of_cover`). -/
abbrev VO0_5 : View sig .tc .vmem S1x1024x256 .f32 := (Memref.whole cc0_stg5_0 : Memref sig .tc .vmem S1x1024x256 .f32).view

set_option backward.proofsInPublic true in
set_option maxHeartbeats 8000000 in
/-- PATH A (points 0, 10, … 70: 8 of 80): what the body leaves — per stored output its pieces (last first), per scratch its
    contents — WITH the proof that, on whole staging memrefs, from the inputs at their blocks, the tables, the outputs
    (5: stored) and the scratches (0: covered, 1: covered, 2: covered, 3: covered), under the path's decisions as
    hypotheses over the words the body reads (`hc0`; `hc1`; `k0_h3`), the body runs to the continuation holding all of it as stated. The
    skeleton (`Gen.*_eq_skeleton`) run by `sl_exec`, loops of literal trip count unrolled by the run, the others by `sl_unroll`. -/
noncomputable def kernelRun0_A (c : Dev nD) (i : grid0.Coords) (arg4 : Memref sig .tc .vmem S4x32 .f32) (harg4 : arg4.IsWhole) (arg5 : Memref sig .tc .vmem S1x256x1024 .bf16) (harg5 : arg5.IsWhole) (arg6 : Memref sig .tc .vmem S1x1024x256 .bf16) (harg6 : arg6.IsWhole) (arg7 : Memref sig .tc .vmem S1x256x1024 .bf16) (harg7 : arg7.IsWhole) (arg8 : Memref sig .tc .vmem S1x256 .f32) (harg8 : arg8.IsWhole) (arg9 : Memref sig .tc .vmem S1x1024x256 .f32) (harg9 : arg9.IsWhole) (T0 : (S10.Idx → Elt Bits .i32)) (T1 : (S10.Idx → Elt Bits .i32))
     (x0 : (S4x32.Idx → Elt Bits .f32)) (x1 : (S1x256x1024.Idx → Elt Bits .bf16)) (x2 : (S1x1024x256.Idx → Elt Bits .bf16)) (x3 : (S1x256x1024.Idx → Elt Bits .bf16)) (x4 : (S1x256.Idx → Elt Bits .f32)) (hc0 : (Scalar.cmpi .ne (Scalar.extui (Scalar.cmpi .eq (View.readAt (Elt Bits) (tbM0_1).view (Rect.unit (s := S10) (k0_off1 i) S1.size (k0_off1_inb i)).toLoadRect T1 (Shape.Idx.first (numel1_S1.symm ▸ Nat.one_pos))) 0#32)) 0#32) = 1#1) (hc1 : ¬((Scalar.cmpi .ne (Scalar.extui (Scalar.cmpi .slt (View.readAt (Elt Bits) (tbM0_1).view (Rect.unit (s := S10) (k0_off1 i) S1.size (k0_off1_inb i)).toLoadRect T1 (Shape.Idx.first (numel1_S1.symm ▸ Nat.one_pos))) (View.readAt (Elt Bits) (tbM0_0).view (Rect.unit (s := S10) (k0_off1 i) S1.size (k0_off1_inb i)).toLoadRect T0 (Shape.Idx.first (numel1_S1.symm ▸ Nat.one_pos))))) 0#32) = 1#1)) (k0_h3 : k0_cond3 (View.readAt (Elt Bits) (tbM0_0).view (Rect.unit (s := S10) (k0_off1 i) S1.size (k0_off1_inb i)).toLoadRect T0 (Shape.Idx.first (numel1_S1.symm ▸ Nat.one_pos))) (View.readAt (Elt Bits) (tbM0_1).view (Rect.unit (s := S10) (k0_off1 i) S1.size (k0_off1_inb i)).toLoadRect T1 (Shape.Idx.first (numel1_S1.symm ▸ Nat.one_pos))) = 1#1) :
    Σ' (out0 : List (View.Piece (Elt Bits) S1x1024x256 .f32)) (out1 : Buf (Elt Bits) ((c : Thread nD τ).loc cc0_scratch0)) (out2 : Buf (Elt Bits) ((c : Thread nD τ).loc cc0_scratch1)) (out3 : Buf (Elt Bits) ((c : Thread nD τ).loc cc0_scratch2)), { out4 : Buf (Elt Bits) ((c : Thread nD τ).loc cc0_scratch3) //
      ∀ (xa0 : Buf (Elt Bits) ((c : Thread nD τ).loc cc0_scratch0)) (xa1 : Buf (Elt Bits) ((c : Thread nD τ).loc cc0_scratch1)) (xa2 : Buf (Elt Bits) ((c : Thread nD τ).loc cc0_scratch2)) (xa3 : Buf (Elt Bits) ((c : Thread nD τ).loc cc0_scratch3)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (tbM0_0.view.loc (c : Thread nD τ) ↦{fullShare.right} T0)
          ∗ (tbM0_1.view.loc (c : Thread nD τ) ↦{fullShare.right} T1)
          ∗ (∃ d, owns (c : Thread nD τ) arg9 fullShare d)
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (scM0_3.view.loc (c : Thread nD τ) ↦{fullShare} xa3)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (arg8.view.loc (c : Thread nD τ) ↦[arg8.view.set]{fullShare} arg8.view.rep x4)
              ∗ (tbM0_0.view.loc (c : Thread nD τ) ↦{fullShare.right} T0)
              ∗ (tbM0_1.view.loc (c : Thread nD τ) ↦{fullShare.right} T1)
              ∗ (∃ f, arg9.view.loc (c : Thread nD τ) ↦[arg9.view.set]{fullShare} arg9.view.writes (Elt Bits) f out0)
              ∗ (scM0_0.view.loc (c : Thread nD τ) ↦{fullShare} out1)
              ∗ (scM0_1.view.loc (c : Thread nD τ) ↦{fullShare} out2)
              ∗ (scM0_2.view.loc (c : Thread nD τ) ↦{fullShare} out3)
              ∗ (scM0_3.view.loc (c : Thread nD τ) ↦{fullShare} out4)) -∗ K ⟨⟩))
          ⊢ wp frame (wpE (defs₀ (F := Bits)) Variants.none c none) Set.univ (cc0_diff_attn_prompt i tbM0_0 (Memref.isWhole_whole _) tbM0_1 (Memref.isWhole_whole _) arg4 harg4 arg5 harg5 arg6 harg6 arg7 harg7 arg8 harg8 arg9 harg9 scM0_0 (Memref.isWhole_whole _) scM0_1 (Memref.isWhole_whole _) scM0_2 (Memref.isWhole_whole _) scM0_3 (Memref.isWhole_whole _)) K } :=
  ⟨_, _, _, _, _, fun (xa0 : Buf (Elt Bits) ((c : Thread nD τ).loc cc0_scratch0)) (xa1 : Buf (Elt Bits) ((c : Thread nD τ).loc cc0_scratch1)) (xa2 : Buf (Elt Bits) ((c : Thread nD τ).loc cc0_scratch2)) (xa3 : Buf (Elt Bits) ((c : Thread nD τ).loc cc0_scratch3)) K => by
    unfold owns
    rw [cc0_diff_attn_prompt_eq_skeleton]; unfold cc0_diff_attn_prompt_skel
    iintro ⟨H0, H1, H2, H3, H4, HT0, HT1, ⟨%d5, %f5, -, HO5⟩, HS0, HS1, HS2, HS3, Hk⟩
    have hS0 : scM0_0.IsWhole := Memref.isWhole_whole _
    have hS1 : scM0_1.IsWhole := Memref.isWhole_whole _
    have hS2 : scM0_2.IsWhole := Memref.isWhole_whole _
    have hS3 : scM0_3.IsWhole := Memref.isWhole_whole _
    have hT0 : tbM0_0.IsWhole := Memref.isWhole_whole _
    have hT1 : tbM0_1.IsWhole := Memref.isWhole_whole _
    sl_exec! (disch := first | (guard_target = Scalar.cmpi = _; exact hc0) | (guard_target = ¬(Scalar.cmpi = _); exact hc1) | (guard_target = k0_cond3 _ _ = _; exact k0_h3))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO5]; · iexists _; iexact HO5
    isplitl [HS0]; · iexact HS0
    isplitl [HS1]; · iexact HS1
    isplitl [HS2]; · iexact HS2
    iexact HS3⟩

/-- Path A's pieces for output 5 tile its block (1 store of `S1x1024x256`: the kernel evaluates the tiling, Lib/Ring.lean `Piece.tiledL`). -/
theorem cover0_A_5 (c : Dev nD) (i : grid0.Coords) (arg4 : Memref sig .tc .vmem S4x32 .f32) (harg4 : arg4.IsWhole) (arg5 : Memref sig .tc .vmem S1x256x1024 .bf16) (harg5 : arg5.IsWhole) (arg6 : Memref sig .tc .vmem S1x1024x256 .bf16) (harg6 : arg6.IsWhole) (arg7 : Memref sig .tc .vmem S1x256x1024 .bf16) (harg7 : arg7.IsWhole) (arg8 : Memref sig .tc .vmem S1x256 .f32) (harg8 : arg8.IsWhole) (arg9 : Memref sig .tc .vmem S1x1024x256 .f32) (harg9 : arg9.IsWhole) (T0 : (S10.Idx → Elt Bits .i32)) (T1 : (S10.Idx → Elt Bits .i32))
     (x0 : (S4x32.Idx → Elt Bits .f32)) (x1 : (S1x256x1024.Idx → Elt Bits .bf16)) (x2 : (S1x1024x256.Idx → Elt Bits .bf16)) (x3 : (S1x256x1024.Idx → Elt Bits .bf16)) (x4 : (S1x256.Idx → Elt Bits .f32)) (hc0 : (Scalar.cmpi .ne (Scalar.extui (Scalar.cmpi .eq (View.readAt (Elt Bits) (tbM0_1).view (Rect.unit (s := S10) (k0_off1 i) S1.size (k0_off1_inb i)).toLoadRect T1 (Shape.Idx.first (numel1_S1.symm ▸ Nat.one_pos))) 0#32)) 0#32) = 1#1) (hc1 : ¬((Scalar.cmpi .ne (Scalar.extui (Scalar.cmpi .slt (View.readAt (Elt Bits) (tbM0_1).view (Rect.unit (s := S10) (k0_off1 i) S1.size (k0_off1_inb i)).toLoadRect T1 (Shape.Idx.first (numel1_S1.symm ▸ Nat.one_pos))) (View.readAt (Elt Bits) (tbM0_0).view (Rect.unit (s := S10) (k0_off1 i) S1.size (k0_off1_inb i)).toLoadRect T0 (Shape.Idx.first (numel1_S1.symm ▸ Nat.one_pos))))) 0#32) = 1#1)) (k0_h3 : k0_cond3 (View.readAt (Elt Bits) (tbM0_0).view (Rect.unit (s := S10) (k0_off1 i) S1.size (k0_off1_inb i)).toLoadRect T0 (Shape.Idx.first (numel1_S1.symm ▸ Nat.one_pos))) (View.readAt (Elt Bits) (tbM0_1).view (Rect.unit (s := S10) (k0_off1 i) S1.size (k0_off1_inb i)).toLoadRect T1 (Shape.Idx.first (numel1_S1.symm ▸ Nat.one_pos))) = 1#1) (y : S1x1024x256.Idx) :
    ∃ pc ∈ (kernelRun0_A c i arg4 harg4 arg5 harg5 arg6 harg6 arg7 harg7 arg8 harg8 arg9 harg9 T0 T1 x0 x1 x2 x3 x4 hc0 hc1 k0_h3).1, y ∈ pc.1.set :=
  View.cover_of_tiledL (kernelRun0_A c i arg4 harg4 arg5 harg5 arg6 harg6 arg7 harg7 arg8 harg8 arg9 harg9 T0 T1 x0 x1 x2 x3 x4 hc0 hc1 k0_h3).1 S1x1024x256.size (by sl_kernel_rfl) y

/-- What path A leaves in output 5's staging buffer: its pieces read back over junk. -/
def out0_A_5 (c : Dev nD) (i : grid0.Coords) (arg4 : Memref sig .tc .vmem S4x32 .f32) (harg4 : arg4.IsWhole) (arg5 : Memref sig .tc .vmem S1x256x1024 .bf16) (harg5 : arg5.IsWhole) (arg6 : Memref sig .tc .vmem S1x1024x256 .bf16) (harg6 : arg6.IsWhole) (arg7 : Memref sig .tc .vmem S1x256x1024 .bf16) (harg7 : arg7.IsWhole) (arg8 : Memref sig .tc .vmem S1x256 .f32) (harg8 : arg8.IsWhole) (arg9 : Memref sig .tc .vmem S1x1024x256 .f32) (harg9 : arg9.IsWhole) (T0 : (S10.Idx → Elt Bits .i32)) (T1 : (S10.Idx → Elt Bits .i32))
     (x0 : (S4x32.Idx → Elt Bits .f32)) (x1 : (S1x256x1024.Idx → Elt Bits .bf16)) (x2 : (S1x1024x256.Idx → Elt Bits .bf16)) (x3 : (S1x256x1024.Idx → Elt Bits .bf16)) (x4 : (S1x256.Idx → Elt Bits .f32)) (hc0 : (Scalar.cmpi .ne (Scalar.extui (Scalar.cmpi .eq (View.readAt (Elt Bits) (tbM0_1).view (Rect.unit (s := S10) (k0_off1 i) S1.size (k0_off1_inb i)).toLoadRect T1 (Shape.Idx.first (numel1_S1.symm ▸ Nat.one_pos))) 0#32)) 0#32) = 1#1) (hc1 : ¬((Scalar.cmpi .ne (Scalar.extui (Scalar.cmpi .slt (View.readAt (Elt Bits) (tbM0_1).view (Rect.unit (s := S10) (k0_off1 i) S1.size (k0_off1_inb i)).toLoadRect T1 (Shape.Idx.first (numel1_S1.symm ▸ Nat.one_pos))) (View.readAt (Elt Bits) (tbM0_0).view (Rect.unit (s := S10) (k0_off1 i) S1.size (k0_off1_inb i)).toLoadRect T0 (Shape.Idx.first (numel1_S1.symm ▸ Nat.one_pos))))) 0#32) = 1#1)) (k0_h3 : k0_cond3 (View.readAt (Elt Bits) (tbM0_0).view (Rect.unit (s := S10) (k0_off1 i) S1.size (k0_off1_inb i)).toLoadRect T0 (Shape.Idx.first (numel1_S1.symm ▸ Nat.one_pos))) (View.readAt (Elt Bits) (tbM0_1).view (Rect.unit (s := S10) (k0_off1 i) S1.size (k0_off1_inb i)).toLoadRect T1 (Shape.Idx.first (numel1_S1.symm ▸ Nat.one_pos))) = 1#1) : (S1x1024x256.Idx → Elt Bits .f32) :=
  VO0_5.read (Elt Bits) (VO0_5.writes (Elt Bits) VO0_5.junk (kernelRun0_A c i arg4 harg4 arg5 harg5 arg6 harg6 arg7 harg7 arg8 harg8 arg9 harg9 T0 T1 x0 x1 x2 x3 x4 hc0 hc1 k0_h3).1)

set_option backward.proofsInPublic true in
set_option maxHeartbeats 8000000 in
/-- PATH B (points 1, 3, … 76: 24 of 80): what the body leaves — per stored output its pieces (last first), per scratch its
    contents — WITH the proof that, on whole staging memrefs, from the inputs at their blocks, the tables, the outputs
    (5: idle) and the scratches (0: covered, 1: covered, 2: covered, 3: covered), under the path's decisions as
    hypotheses over the words the body reads (`hc0`; `hc1`; `k0_h3`), the body runs to the continuation holding all of it as stated. The
    skeleton (`Gen.*_eq_skeleton`) run by `sl_exec`, loops of literal trip count unrolled by the run, the others by `sl_unroll`. -/
noncomputable def kernelRun0_B (c : Dev nD) (i : grid0.Coords) (arg4 : Memref sig .tc .vmem S4x32 .f32) (harg4 : arg4.IsWhole) (arg5 : Memref sig .tc .vmem S1x256x1024 .bf16) (harg5 : arg5.IsWhole) (arg6 : Memref sig .tc .vmem S1x1024x256 .bf16) (harg6 : arg6.IsWhole) (arg7 : Memref sig .tc .vmem S1x256x1024 .bf16) (harg7 : arg7.IsWhole) (arg8 : Memref sig .tc .vmem S1x256 .f32) (harg8 : arg8.IsWhole) (arg9 : Memref sig .tc .vmem S1x1024x256 .f32) (harg9 : arg9.IsWhole) (T0 : (S10.Idx → Elt Bits .i32)) (T1 : (S10.Idx → Elt Bits .i32))
     (x0 : (S4x32.Idx → Elt Bits .f32)) (x1 : (S1x256x1024.Idx → Elt Bits .bf16)) (x2 : (S1x1024x256.Idx → Elt Bits .bf16)) (x3 : (S1x256x1024.Idx → Elt Bits .bf16)) (x4 : (S1x256.Idx → Elt Bits .f32)) (hc0 : (Scalar.cmpi .ne (Scalar.extui (Scalar.cmpi .eq (View.readAt (Elt Bits) (tbM0_1).view (Rect.unit (s := S10) (k0_off1 i) S1.size (k0_off1_inb i)).toLoadRect T1 (Shape.Idx.first (numel1_S1.symm ▸ Nat.one_pos))) 0#32)) 0#32) = 1#1) (hc1 : (Scalar.cmpi .ne (Scalar.extui (Scalar.cmpi .slt (View.readAt (Elt Bits) (tbM0_1).view (Rect.unit (s := S10) (k0_off1 i) S1.size (k0_off1_inb i)).toLoadRect T1 (Shape.Idx.first (numel1_S1.symm ▸ Nat.one_pos))) (View.readAt (Elt Bits) (tbM0_0).view (Rect.unit (s := S10) (k0_off1 i) S1.size (k0_off1_inb i)).toLoadRect T0 (Shape.Idx.first (numel1_S1.symm ▸ Nat.one_pos))))) 0#32) = 1#1) (k0_h3 : ¬(k0_cond3 (View.readAt (Elt Bits) (tbM0_0).view (Rect.unit (s := S10) (k0_off1 i) S1.size (k0_off1_inb i)).toLoadRect T0 (Shape.Idx.first (numel1_S1.symm ▸ Nat.one_pos))) (View.readAt (Elt Bits) (tbM0_1).view (Rect.unit (s := S10) (k0_off1 i) S1.size (k0_off1_inb i)).toLoadRect T1 (Shape.Idx.first (numel1_S1.symm ▸ Nat.one_pos))) = 1#1)) :
    Σ' (out0 : Buf (Elt Bits) ((c : Thread nD τ).loc cc0_scratch0)) (out1 : Buf (Elt Bits) ((c : Thread nD τ).loc cc0_scratch1)) (out2 : Buf (Elt Bits) ((c : Thread nD τ).loc cc0_scratch2)), { out3 : Buf (Elt Bits) ((c : Thread nD τ).loc cc0_scratch3) //
      ∀ (y5 : (S1x1024x256.Idx → Elt Bits .f32)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (xa3 : Buf (Elt Bits) ((c : Thread nD τ).loc cc0_scratch3)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (tbM0_0.view.loc (c : Thread nD τ) ↦{fullShare.right} T0)
          ∗ (tbM0_1.view.loc (c : Thread nD τ) ↦{fullShare.right} T1)
          ∗ owns (c : Thread nD τ) arg9 fullShare y5
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (scM0_3.view.loc (c : Thread nD τ) ↦{fullShare} xa3)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (arg8.view.loc (c : Thread nD τ) ↦[arg8.view.set]{fullShare} arg8.view.rep x4)
              ∗ (tbM0_0.view.loc (c : Thread nD τ) ↦{fullShare.right} T0)
              ∗ (tbM0_1.view.loc (c : Thread nD τ) ↦{fullShare.right} T1)
              ∗ owns (c : Thread nD τ) arg9 fullShare y5
              ∗ (scM0_0.view.loc (c : Thread nD τ) ↦{fullShare} out0)
              ∗ (scM0_1.view.loc (c : Thread nD τ) ↦{fullShare} out1)
              ∗ (scM0_2.view.loc (c : Thread nD τ) ↦{fullShare} out2)
              ∗ (scM0_3.view.loc (c : Thread nD τ) ↦{fullShare} out3)) -∗ K ⟨⟩))
          ⊢ wp frame (wpE (defs₀ (F := Bits)) Variants.none c none) Set.univ (cc0_diff_attn_prompt i tbM0_0 (Memref.isWhole_whole _) tbM0_1 (Memref.isWhole_whole _) arg4 harg4 arg5 harg5 arg6 harg6 arg7 harg7 arg8 harg8 arg9 harg9 scM0_0 (Memref.isWhole_whole _) scM0_1 (Memref.isWhole_whole _) scM0_2 (Memref.isWhole_whole _) scM0_3 (Memref.isWhole_whole _)) K } :=
  ⟨_, _, _, _, fun (y5 : (S1x1024x256.Idx → Elt Bits .f32)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (xa3 : Buf (Elt Bits) ((c : Thread nD τ).loc cc0_scratch3)) K => by
    unfold owns
    rw [cc0_diff_attn_prompt_eq_skeleton]; unfold cc0_diff_attn_prompt_skel
    iintro ⟨H0, H1, H2, H3, H4, HT0, HT1, ⟨%f5, %hf5, HO5⟩, HS0, HS1, HS2, HS3, Hk⟩
    obtain rfl := harg9.eq_unread hf5
    have hS0 : scM0_0.IsWhole := Memref.isWhole_whole _
    have hS1 : scM0_1.IsWhole := Memref.isWhole_whole _
    have hS2 : scM0_2.IsWhole := Memref.isWhole_whole _
    have hS3 : scM0_3.IsWhole := Memref.isWhole_whole _
    have hT0 : tbM0_0.IsWhole := Memref.isWhole_whole _
    have hT1 : tbM0_1.IsWhole := Memref.isWhole_whole _
    sl_exec! (disch := first | (guard_target = Scalar.cmpi = _; exact hc0) | (guard_target = Scalar.cmpi = _; exact hc1) | (guard_target = ¬(k0_cond3 _ _ = _); exact k0_h3))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO5]
    · iexists _; isplitr; · ipureintro; exact harg9.read_unread _
      iexact HO5
    isplitl [HS0]; · iexact HS0
    isplitl [HS1]; · iexact HS1
    isplitl [HS2]; · iexact HS2
    iexact HS3⟩

set_option backward.proofsInPublic true in
set_option maxHeartbeats 8000000 in
/-- PATH C (points 2, 5, … 79: 24 of 80): what the body leaves — per stored output its pieces (last first), per scratch its
    contents — WITH the proof that, on whole staging memrefs, from the inputs at their blocks, the tables, the outputs
    (5: stored) and the scratches (0: carried, 1: carried, 2: carried, 3: carried), under the path's decisions as
    hypotheses over the words the body reads (`hc0`; `hc1`; `k0_h3`), the body runs to the continuation holding all of it as stated. The
    skeleton (`Gen.*_eq_skeleton`) run by `sl_exec`, loops of literal trip count unrolled by the run, the others by `sl_unroll`. -/
noncomputable def kernelRun0_C (c : Dev nD) (i : grid0.Coords) (arg4 : Memref sig .tc .vmem S4x32 .f32) (harg4 : arg4.IsWhole) (arg5 : Memref sig .tc .vmem S1x256x1024 .bf16) (harg5 : arg5.IsWhole) (arg6 : Memref sig .tc .vmem S1x1024x256 .bf16) (harg6 : arg6.IsWhole) (arg7 : Memref sig .tc .vmem S1x256x1024 .bf16) (harg7 : arg7.IsWhole) (arg8 : Memref sig .tc .vmem S1x256 .f32) (harg8 : arg8.IsWhole) (arg9 : Memref sig .tc .vmem S1x1024x256 .f32) (harg9 : arg9.IsWhole) (T0 : (S10.Idx → Elt Bits .i32)) (T1 : (S10.Idx → Elt Bits .i32))
     (x0 : (S4x32.Idx → Elt Bits .f32)) (x1 : (S1x256x1024.Idx → Elt Bits .bf16)) (x2 : (S1x1024x256.Idx → Elt Bits .bf16)) (x3 : (S1x256x1024.Idx → Elt Bits .bf16)) (x4 : (S1x256.Idx → Elt Bits .f32)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (xa3 : Buf (Elt Bits) ((c : Thread nD τ).loc cc0_scratch3)) (hc0 : ¬((Scalar.cmpi .ne (Scalar.extui (Scalar.cmpi .eq (View.readAt (Elt Bits) (tbM0_1).view (Rect.unit (s := S10) (k0_off1 i) S1.size (k0_off1_inb i)).toLoadRect T1 (Shape.Idx.first (numel1_S1.symm ▸ Nat.one_pos))) 0#32)) 0#32) = 1#1)) (hc1 : ¬((Scalar.cmpi .ne (Scalar.extui (Scalar.cmpi .slt (View.readAt (Elt Bits) (tbM0_1).view (Rect.unit (s := S10) (k0_off1 i) S1.size (k0_off1_inb i)).toLoadRect T1 (Shape.Idx.first (numel1_S1.symm ▸ Nat.one_pos))) (View.readAt (Elt Bits) (tbM0_0).view (Rect.unit (s := S10) (k0_off1 i) S1.size (k0_off1_inb i)).toLoadRect T0 (Shape.Idx.first (numel1_S1.symm ▸ Nat.one_pos))))) 0#32) = 1#1)) (k0_h3 : k0_cond3 (View.readAt (Elt Bits) (tbM0_0).view (Rect.unit (s := S10) (k0_off1 i) S1.size (k0_off1_inb i)).toLoadRect T0 (Shape.Idx.first (numel1_S1.symm ▸ Nat.one_pos))) (View.readAt (Elt Bits) (tbM0_1).view (Rect.unit (s := S10) (k0_off1 i) S1.size (k0_off1_inb i)).toLoadRect T1 (Shape.Idx.first (numel1_S1.symm ▸ Nat.one_pos))) = 1#1) :
    Σ' (out0 : List (View.Piece (Elt Bits) S1x1024x256 .f32)) (out1 : Buf (Elt Bits) ((c : Thread nD τ).loc cc0_scratch0)) (out2 : Buf (Elt Bits) ((c : Thread nD τ).loc cc0_scratch1)) (out3 : Buf (Elt Bits) ((c : Thread nD τ).loc cc0_scratch2)), { out4 : Buf (Elt Bits) ((c : Thread nD τ).loc cc0_scratch3) //
      ∀ (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (tbM0_0.view.loc (c : Thread nD τ) ↦{fullShare.right} T0)
          ∗ (tbM0_1.view.loc (c : Thread nD τ) ↦{fullShare.right} T1)
          ∗ (∃ d, owns (c : Thread nD τ) arg9 fullShare d)
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (scM0_3.view.loc (c : Thread nD τ) ↦{fullShare} xa3)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (arg8.view.loc (c : Thread nD τ) ↦[arg8.view.set]{fullShare} arg8.view.rep x4)
              ∗ (tbM0_0.view.loc (c : Thread nD τ) ↦{fullShare.right} T0)
              ∗ (tbM0_1.view.loc (c : Thread nD τ) ↦{fullShare.right} T1)
              ∗ (∃ f, arg9.view.loc (c : Thread nD τ) ↦[arg9.view.set]{fullShare} arg9.view.writes (Elt Bits) f out0)
              ∗ (scM0_0.view.loc (c : Thread nD τ) ↦{fullShare} out1)
              ∗ (scM0_1.view.loc (c : Thread nD τ) ↦{fullShare} out2)
              ∗ (scM0_2.view.loc (c : Thread nD τ) ↦{fullShare} out3)
              ∗ (scM0_3.view.loc (c : Thread nD τ) ↦{fullShare} out4)) -∗ K ⟨⟩))
          ⊢ wp frame (wpE (defs₀ (F := Bits)) Variants.none c none) Set.univ (cc0_diff_attn_prompt i tbM0_0 (Memref.isWhole_whole _) tbM0_1 (Memref.isWhole_whole _) arg4 harg4 arg5 harg5 arg6 harg6 arg7 harg7 arg8 harg8 arg9 harg9 scM0_0 (Memref.isWhole_whole _) scM0_1 (Memref.isWhole_whole _) scM0_2 (Memref.isWhole_whole _) scM0_3 (Memref.isWhole_whole _)) K } :=
  ⟨_, _, _, _, _, fun K => by
    unfold owns
    rw [cc0_diff_attn_prompt_eq_skeleton]; unfold cc0_diff_attn_prompt_skel
    iintro ⟨H0, H1, H2, H3, H4, HT0, HT1, ⟨%d5, %f5, -, HO5⟩, HS0, HS1, HS2, HS3, Hk⟩
    have hS0 : scM0_0.IsWhole := Memref.isWhole_whole _
    have hS1 : scM0_1.IsWhole := Memref.isWhole_whole _
    have hS2 : scM0_2.IsWhole := Memref.isWhole_whole _
    have hS3 : scM0_3.IsWhole := Memref.isWhole_whole _
    have hT0 : tbM0_0.IsWhole := Memref.isWhole_whole _
    have hT1 : tbM0_1.IsWhole := Memref.isWhole_whole _
    sl_exec! (disch := first | (guard_target = ¬(Scalar.cmpi = _); exact hc0) | (guard_target = ¬(Scalar.cmpi = _); exact hc1) | (guard_target = k0_cond3 _ _ = _; exact k0_h3))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO5]; · iexists _; iexact HO5
    isplitl [HS0]; · iexact HS0
    isplitl [HS1]; · iexact HS1
    isplitl [HS2]; · iexact HS2
    iexact HS3⟩

/-- Path C's pieces for output 5 tile its block (1 store of `S1x1024x256`: the kernel evaluates the tiling, Lib/Ring.lean `Piece.tiledL`). -/
theorem cover0_C_5 (c : Dev nD) (i : grid0.Coords) (arg4 : Memref sig .tc .vmem S4x32 .f32) (harg4 : arg4.IsWhole) (arg5 : Memref sig .tc .vmem S1x256x1024 .bf16) (harg5 : arg5.IsWhole) (arg6 : Memref sig .tc .vmem S1x1024x256 .bf16) (harg6 : arg6.IsWhole) (arg7 : Memref sig .tc .vmem S1x256x1024 .bf16) (harg7 : arg7.IsWhole) (arg8 : Memref sig .tc .vmem S1x256 .f32) (harg8 : arg8.IsWhole) (arg9 : Memref sig .tc .vmem S1x1024x256 .f32) (harg9 : arg9.IsWhole) (T0 : (S10.Idx → Elt Bits .i32)) (T1 : (S10.Idx → Elt Bits .i32))
     (x0 : (S4x32.Idx → Elt Bits .f32)) (x1 : (S1x256x1024.Idx → Elt Bits .bf16)) (x2 : (S1x1024x256.Idx → Elt Bits .bf16)) (x3 : (S1x256x1024.Idx → Elt Bits .bf16)) (x4 : (S1x256.Idx → Elt Bits .f32)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (xa3 : Buf (Elt Bits) ((c : Thread nD τ).loc cc0_scratch3)) (hc0 : ¬((Scalar.cmpi .ne (Scalar.extui (Scalar.cmpi .eq (View.readAt (Elt Bits) (tbM0_1).view (Rect.unit (s := S10) (k0_off1 i) S1.size (k0_off1_inb i)).toLoadRect T1 (Shape.Idx.first (numel1_S1.symm ▸ Nat.one_pos))) 0#32)) 0#32) = 1#1)) (hc1 : ¬((Scalar.cmpi .ne (Scalar.extui (Scalar.cmpi .slt (View.readAt (Elt Bits) (tbM0_1).view (Rect.unit (s := S10) (k0_off1 i) S1.size (k0_off1_inb i)).toLoadRect T1 (Shape.Idx.first (numel1_S1.symm ▸ Nat.one_pos))) (View.readAt (Elt Bits) (tbM0_0).view (Rect.unit (s := S10) (k0_off1 i) S1.size (k0_off1_inb i)).toLoadRect T0 (Shape.Idx.first (numel1_S1.symm ▸ Nat.one_pos))))) 0#32) = 1#1)) (k0_h3 : k0_cond3 (View.readAt (Elt Bits) (tbM0_0).view (Rect.unit (s := S10) (k0_off1 i) S1.size (k0_off1_inb i)).toLoadRect T0 (Shape.Idx.first (numel1_S1.symm ▸ Nat.one_pos))) (View.readAt (Elt Bits) (tbM0_1).view (Rect.unit (s := S10) (k0_off1 i) S1.size (k0_off1_inb i)).toLoadRect T1 (Shape.Idx.first (numel1_S1.symm ▸ Nat.one_pos))) = 1#1) (y : S1x1024x256.Idx) :
    ∃ pc ∈ (kernelRun0_C c i arg4 harg4 arg5 harg5 arg6 harg6 arg7 harg7 arg8 harg8 arg9 harg9 T0 T1 x0 x1 x2 x3 x4 xa0 xa1 xa2 xa3 hc0 hc1 k0_h3).1, y ∈ pc.1.set :=
  View.cover_of_tiledL (kernelRun0_C c i arg4 harg4 arg5 harg5 arg6 harg6 arg7 harg7 arg8 harg8 arg9 harg9 T0 T1 x0 x1 x2 x3 x4 xa0 xa1 xa2 xa3 hc0 hc1 k0_h3).1 S1x1024x256.size (by sl_kernel_rfl) y

/-- What path C leaves in output 5's staging buffer: its pieces read back over junk. -/
def out0_C_5 (c : Dev nD) (i : grid0.Coords) (arg4 : Memref sig .tc .vmem S4x32 .f32) (harg4 : arg4.IsWhole) (arg5 : Memref sig .tc .vmem S1x256x1024 .bf16) (harg5 : arg5.IsWhole) (arg6 : Memref sig .tc .vmem S1x1024x256 .bf16) (harg6 : arg6.IsWhole) (arg7 : Memref sig .tc .vmem S1x256x1024 .bf16) (harg7 : arg7.IsWhole) (arg8 : Memref sig .tc .vmem S1x256 .f32) (harg8 : arg8.IsWhole) (arg9 : Memref sig .tc .vmem S1x1024x256 .f32) (harg9 : arg9.IsWhole) (T0 : (S10.Idx → Elt Bits .i32)) (T1 : (S10.Idx → Elt Bits .i32))
     (x0 : (S4x32.Idx → Elt Bits .f32)) (x1 : (S1x256x1024.Idx → Elt Bits .bf16)) (x2 : (S1x1024x256.Idx → Elt Bits .bf16)) (x3 : (S1x256x1024.Idx → Elt Bits .bf16)) (x4 : (S1x256.Idx → Elt Bits .f32)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (xa3 : Buf (Elt Bits) ((c : Thread nD τ).loc cc0_scratch3)) (hc0 : ¬((Scalar.cmpi .ne (Scalar.extui (Scalar.cmpi .eq (View.readAt (Elt Bits) (tbM0_1).view (Rect.unit (s := S10) (k0_off1 i) S1.size (k0_off1_inb i)).toLoadRect T1 (Shape.Idx.first (numel1_S1.symm ▸ Nat.one_pos))) 0#32)) 0#32) = 1#1)) (hc1 : ¬((Scalar.cmpi .ne (Scalar.extui (Scalar.cmpi .slt (View.readAt (Elt Bits) (tbM0_1).view (Rect.unit (s := S10) (k0_off1 i) S1.size (k0_off1_inb i)).toLoadRect T1 (Shape.Idx.first (numel1_S1.symm ▸ Nat.one_pos))) (View.readAt (Elt Bits) (tbM0_0).view (Rect.unit (s := S10) (k0_off1 i) S1.size (k0_off1_inb i)).toLoadRect T0 (Shape.Idx.first (numel1_S1.symm ▸ Nat.one_pos))))) 0#32) = 1#1)) (k0_h3 : k0_cond3 (View.readAt (Elt Bits) (tbM0_0).view (Rect.unit (s := S10) (k0_off1 i) S1.size (k0_off1_inb i)).toLoadRect T0 (Shape.Idx.first (numel1_S1.symm ▸ Nat.one_pos))) (View.readAt (Elt Bits) (tbM0_1).view (Rect.unit (s := S10) (k0_off1 i) S1.size (k0_off1_inb i)).toLoadRect T1 (Shape.Idx.first (numel1_S1.symm ▸ Nat.one_pos))) = 1#1) : (S1x1024x256.Idx → Elt Bits .f32) :=
  VO0_5.read (Elt Bits) (VO0_5.writes (Elt Bits) VO0_5.junk (kernelRun0_C c i arg4 harg4 arg5 harg5 arg6 harg6 arg7 harg7 arg8 harg8 arg9 harg9 T0 T1 x0 x1 x2 x3 x4 xa0 xa1 xa2 xa3 hc0 hc1 k0_h3).1)

set_option backward.proofsInPublic true in
set_option maxHeartbeats 8000000 in
/-- PATH D (points 4, 7, … 78: 24 of 80): what the body leaves — per stored output its pieces (last first), per scratch its
    contents — WITH the proof that, on whole staging memrefs, from the inputs at their blocks, the tables, the outputs
    (5: idle) and the scratches (0: carried, 1: carried, 2: carried, 3: carried), under the path's decisions as
    hypotheses over the words the body reads (`hc0`; `hc1`; `k0_h3`), the body runs to the continuation holding all of it as stated. The
    skeleton (`Gen.*_eq_skeleton`) run by `sl_exec`, loops of literal trip count unrolled by the run, the others by `sl_unroll`. -/
noncomputable def kernelRun0_D (c : Dev nD) (i : grid0.Coords) (arg4 : Memref sig .tc .vmem S4x32 .f32) (harg4 : arg4.IsWhole) (arg5 : Memref sig .tc .vmem S1x256x1024 .bf16) (harg5 : arg5.IsWhole) (arg6 : Memref sig .tc .vmem S1x1024x256 .bf16) (harg6 : arg6.IsWhole) (arg7 : Memref sig .tc .vmem S1x256x1024 .bf16) (harg7 : arg7.IsWhole) (arg8 : Memref sig .tc .vmem S1x256 .f32) (harg8 : arg8.IsWhole) (arg9 : Memref sig .tc .vmem S1x1024x256 .f32) (harg9 : arg9.IsWhole) (T0 : (S10.Idx → Elt Bits .i32)) (T1 : (S10.Idx → Elt Bits .i32))
     (x0 : (S4x32.Idx → Elt Bits .f32)) (x1 : (S1x256x1024.Idx → Elt Bits .bf16)) (x2 : (S1x1024x256.Idx → Elt Bits .bf16)) (x3 : (S1x256x1024.Idx → Elt Bits .bf16)) (x4 : (S1x256.Idx → Elt Bits .f32)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (xa3 : Buf (Elt Bits) ((c : Thread nD τ).loc cc0_scratch3)) (hc0 : ¬((Scalar.cmpi .ne (Scalar.extui (Scalar.cmpi .eq (View.readAt (Elt Bits) (tbM0_1).view (Rect.unit (s := S10) (k0_off1 i) S1.size (k0_off1_inb i)).toLoadRect T1 (Shape.Idx.first (numel1_S1.symm ▸ Nat.one_pos))) 0#32)) 0#32) = 1#1)) (hc1 : (Scalar.cmpi .ne (Scalar.extui (Scalar.cmpi .slt (View.readAt (Elt Bits) (tbM0_1).view (Rect.unit (s := S10) (k0_off1 i) S1.size (k0_off1_inb i)).toLoadRect T1 (Shape.Idx.first (numel1_S1.symm ▸ Nat.one_pos))) (View.readAt (Elt Bits) (tbM0_0).view (Rect.unit (s := S10) (k0_off1 i) S1.size (k0_off1_inb i)).toLoadRect T0 (Shape.Idx.first (numel1_S1.symm ▸ Nat.one_pos))))) 0#32) = 1#1) (k0_h3 : ¬(k0_cond3 (View.readAt (Elt Bits) (tbM0_0).view (Rect.unit (s := S10) (k0_off1 i) S1.size (k0_off1_inb i)).toLoadRect T0 (Shape.Idx.first (numel1_S1.symm ▸ Nat.one_pos))) (View.readAt (Elt Bits) (tbM0_1).view (Rect.unit (s := S10) (k0_off1 i) S1.size (k0_off1_inb i)).toLoadRect T1 (Shape.Idx.first (numel1_S1.symm ▸ Nat.one_pos))) = 1#1)) :
    Σ' (out0 : Buf (Elt Bits) ((c : Thread nD τ).loc cc0_scratch0)) (out1 : Buf (Elt Bits) ((c : Thread nD τ).loc cc0_scratch1)) (out2 : Buf (Elt Bits) ((c : Thread nD τ).loc cc0_scratch2)), { out3 : Buf (Elt Bits) ((c : Thread nD τ).loc cc0_scratch3) //
      ∀ (y5 : (S1x1024x256.Idx → Elt Bits .f32)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (tbM0_0.view.loc (c : Thread nD τ) ↦{fullShare.right} T0)
          ∗ (tbM0_1.view.loc (c : Thread nD τ) ↦{fullShare.right} T1)
          ∗ owns (c : Thread nD τ) arg9 fullShare y5
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (scM0_3.view.loc (c : Thread nD τ) ↦{fullShare} xa3)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (arg8.view.loc (c : Thread nD τ) ↦[arg8.view.set]{fullShare} arg8.view.rep x4)
              ∗ (tbM0_0.view.loc (c : Thread nD τ) ↦{fullShare.right} T0)
              ∗ (tbM0_1.view.loc (c : Thread nD τ) ↦{fullShare.right} T1)
              ∗ owns (c : Thread nD τ) arg9 fullShare y5
              ∗ (scM0_0.view.loc (c : Thread nD τ) ↦{fullShare} out0)
              ∗ (scM0_1.view.loc (c : Thread nD τ) ↦{fullShare} out1)
              ∗ (scM0_2.view.loc (c : Thread nD τ) ↦{fullShare} out2)
              ∗ (scM0_3.view.loc (c : Thread nD τ) ↦{fullShare} out3)) -∗ K ⟨⟩))
          ⊢ wp frame (wpE (defs₀ (F := Bits)) Variants.none c none) Set.univ (cc0_diff_attn_prompt i tbM0_0 (Memref.isWhole_whole _) tbM0_1 (Memref.isWhole_whole _) arg4 harg4 arg5 harg5 arg6 harg6 arg7 harg7 arg8 harg8 arg9 harg9 scM0_0 (Memref.isWhole_whole _) scM0_1 (Memref.isWhole_whole _) scM0_2 (Memref.isWhole_whole _) scM0_3 (Memref.isWhole_whole _)) K } :=
  ⟨_, _, _, _, fun (y5 : (S1x1024x256.Idx → Elt Bits .f32)) K => by
    unfold owns
    rw [cc0_diff_attn_prompt_eq_skeleton]; unfold cc0_diff_attn_prompt_skel
    iintro ⟨H0, H1, H2, H3, H4, HT0, HT1, ⟨%f5, %hf5, HO5⟩, HS0, HS1, HS2, HS3, Hk⟩
    obtain rfl := harg9.eq_unread hf5
    have hS0 : scM0_0.IsWhole := Memref.isWhole_whole _
    have hS1 : scM0_1.IsWhole := Memref.isWhole_whole _
    have hS2 : scM0_2.IsWhole := Memref.isWhole_whole _
    have hS3 : scM0_3.IsWhole := Memref.isWhole_whole _
    have hT0 : tbM0_0.IsWhole := Memref.isWhole_whole _
    have hT1 : tbM0_1.IsWhole := Memref.isWhole_whole _
    sl_exec! (disch := first | (guard_target = ¬(Scalar.cmpi = _); exact hc0) | (guard_target = Scalar.cmpi = _; exact hc1) | (guard_target = ¬(k0_cond3 _ _ = _); exact k0_h3))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO5]
    · iexists _; isplitr; · ipureintro; exact harg9.read_unread _
      iexact HO5
    isplitl [HS0]; · iexact HS0
    isplitl [HS1]; · iexact HS1
    isplitl [HS2]; · iexact HS2
    iexact HS3⟩

end Cert.Kernel.Gen

end
-- ==== Proof.RunB.Ok0.lean ====
/- The pinned tables keep every block of every window inside its array. (The kernel.) -/
module

public import proofs.«01_k».proof.Proof.RunB.Pins

@[expose] public section

set_option maxRecDepth 16384
-- ONE DECLARATION AT A TIME: a per-path run alone peaks near 3 GB, and a decided theorem's kernel evaluation is freed
-- only when the next declaration begins (side by side, every finished one is held to the module's end)
set_option Elab.async false

noncomputable section

namespace Cert.Kernel.Gen

open Cert.Kernel
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the bit-exact instance (the frame claim's): every pinned word a `BitVec`. -/
local notation "𝕄" => MT nD τ sig Unit (Elt Bits) ℕ (UR sig nD τ) ℕ

theorem ok_pfN_0_0_inb : ∀ i : grid0.Coords, ∀ a, (cc0_transform_1 k0_off1_inb numel1_S1 (pfN (⟨0, by omega⟩ : Fin 1)) i a + 1) * S1x256x1024.size a ≤ S8x256x4096.size a := by decide +kernel
theorem ok_pfN_0_0 : (∀ i : grid0.Coords, ∃ h : (∀ a, (cc0_transform_1 k0_off1_inb numel1_S1 (pfN (⟨0, by omega⟩ : Fin 1)) i a + 1) * S1x256x1024.size a ≤ S8x256x4096.size a), EltTy.bits .bf16 = 32 ∨ (Rect.block (s := S8x256x4096) S1x256x1024.size (cc0_transform_1 k0_off1_inb numel1_S1 (pfN (⟨0, by omega⟩ : Fin 1)) i) h).WholeWords (EltTy.packing .bf16)) := fun i => ⟨ok_pfN_0_0_inb i, .inr (Affine.block_words_dvd (s := S8x256x4096) (p := EltTy.packing .bf16) (by decide) (by decide))⟩
theorem ok_pfN_0_1_inb : ∀ i : grid0.Coords, ∀ a, (cc0_transform_2 k0_off1_inb numel1_S1 (pfN (⟨0, by omega⟩ : Fin 1)) i a + 1) * S1x1024x256.size a ≤ S8x4096x256.size a := by decide +kernel
theorem ok_pfN_0_1 : (∀ i : grid0.Coords, ∃ h : (∀ a, (cc0_transform_2 k0_off1_inb numel1_S1 (pfN (⟨0, by omega⟩ : Fin 1)) i a + 1) * S1x1024x256.size a ≤ S8x4096x256.size a), EltTy.bits .bf16 = 32 ∨ (Rect.block (s := S8x4096x256) S1x1024x256.size (cc0_transform_2 k0_off1_inb numel1_S1 (pfN (⟨0, by omega⟩ : Fin 1)) i) h).WholeWords (EltTy.packing .bf16)) := fun i => ⟨ok_pfN_0_1_inb i, .inr (Affine.block_words_dvd (s := S8x4096x256) (p := EltTy.packing .bf16) (by decide) (by decide))⟩
theorem ok_pfN_0_2_inb : ∀ i : grid0.Coords, ∀ a, (cc0_transform_3 k0_off1_inb numel1_S1 (pfN (⟨0, by omega⟩ : Fin 1)) i a + 1) * S1x256x1024.size a ≤ S8x256x4096.size a := by decide +kernel
theorem ok_pfN_0_2 : (∀ i : grid0.Coords, ∃ h : (∀ a, (cc0_transform_3 k0_off1_inb numel1_S1 (pfN (⟨0, by omega⟩ : Fin 1)) i a + 1) * S1x256x1024.size a ≤ S8x256x4096.size a), EltTy.bits .bf16 = 32 ∨ (Rect.block (s := S8x256x4096) S1x256x1024.size (cc0_transform_3 k0_off1_inb numel1_S1 (pfN (⟨0, by omega⟩ : Fin 1)) i) h).WholeWords (EltTy.packing .bf16)) := fun i => ⟨ok_pfN_0_2_inb i, .inr (Affine.block_words_dvd (s := S8x256x4096) (p := EltTy.packing .bf16) (by decide) (by decide))⟩
theorem ok_pfN_0_3_inb : ∀ i : grid0.Coords, ∀ a, (cc0_transform_5 k0_off1_inb numel1_S1 (pfN (⟨0, by omega⟩ : Fin 1)) i a + 1) * S1x1024x256.size a ≤ S8x4096x256.size a := by decide +kernel
theorem ok_pfN_0_3 : (∀ i : grid0.Coords, ∃ h : (∀ a, (cc0_transform_5 k0_off1_inb numel1_S1 (pfN (⟨0, by omega⟩ : Fin 1)) i a + 1) * S1x1024x256.size a ≤ S8x4096x256.size a), EltTy.bits .f32 = 32 ∨ (Rect.block (s := S8x4096x256) S1x1024x256.size (cc0_transform_5 k0_off1_inb numel1_S1 (pfN (⟨0, by omega⟩ : Fin 1)) i) h).WholeWords (EltTy.packing .f32)) := fun i => ⟨ok_pfN_0_3_inb i, .inl rfl⟩
theorem ok_pfN_0 : ok0 (F := Bits) (pfN (⟨0, by omega⟩ : Fin 1)) := ⟨ok_pfN_0_0, ok_pfN_0_1, ok_pfN_0_2, ok_pfN_0_3⟩

end Cert.Kernel.Gen

end
-- ==== Proof.RunB.Cfg.lean ====
/- The configuration of the call at the pinned tables: its grid, windows, schedule and scratch buffers. (The kernel.) -/
module

public import proofs.«01_k».proof.Proof.RunB.Ok0

@[expose] public section

set_option maxRecDepth 16384
-- ONE DECLARATION AT A TIME: a per-path run alone peaks near 3 GB, and a decided theorem's kernel evaluation is freed
-- only when the next declaration begins (side by side, every finished one is held to the module's end)
set_option Elab.async false

noncomputable section

namespace Cert.Kernel.Gen

open Cert.Kernel
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the bit-exact instance (the frame claim's): every pinned word a `BitVec`. -/
local notation "𝕄" => MT nD τ sig Unit (Elt Bits) ℕ (UR sig nD τ) ℕ
variable (ch : Fin 1)

/-- The side condition holds of the pinned tables at EVERY member (the grid at them one runs, every block
    inside its array): decided member by member (Flash/OkJ.lean), matched here. -/
theorem ok_pfN : ∀ ch : Fin 1, ok0 (F := Bits) (pfN ch) := fun ch => match ch with
  | ⟨0, _⟩ => ok_pfN_0
  | ⟨_ + 1, h⟩ => absurd h (by omega)

/-- The admissible contents, the pipeline at them (`cfgA ch`: member `ch`'s grid, 80 points), as @main's one. -/
def adm : (pcfg0 (F := Bits)).Adm := ⟨pfN ch, ok_pfN ch⟩
abbrev cfgA : Pipeline.Cfg sig Λ₀ := cfg0 (F := Bits) (adm ch)
abbrev pcs : Fin 1 → Pipeline.Cfg sig Λ₀ := Pipeline.pin (pcfgs (F := Bits)) fun _ => adm ch

variable (m : (ℓ : Loc nD τ sig) → Buf (Elt Bits) ℓ) (ρ : Dev nD → PrngReg)

/-! ## A point's coordinates, words and staging memrefs -/

/-- Point `t`'s coordinates. -/
abbrev crd (t : Fin (cfgA ch).N) : (cfgA ch).grid.Coords := (cfgA ch).grid.coords t

/-- Each window's current staging memref at point `t`, spelled as the pipeline passes it, and its wholeness. -/
abbrev ms0_0 (t : Fin (cfgA ch).N) : Memref sig .tc .vmem S4x32 .f32 := spec0_0.stage ((cfgA ch).slots t (0 : Fin 6))
abbrev hs0_0 (t : Fin (cfgA ch).N) : (ms0_0 ch t).IsWhole := hstage0_0 (((cfgA ch).slots t (0 : Fin 6)).cast nbuf0_0)
abbrev ms0_1 (t : Fin (cfgA ch).N) : Memref sig .tc .vmem S1x256x1024 .bf16 := spec0_1.stage ((cfgA ch).slots t (1 : Fin 6))
abbrev hs0_1 (t : Fin (cfgA ch).N) : (ms0_1 ch t).IsWhole := hstage0_1 (((cfgA ch).slots t (1 : Fin 6)).cast nbuf0_1)
abbrev ms0_2 (t : Fin (cfgA ch).N) : Memref sig .tc .vmem S1x1024x256 .bf16 := spec0_2.stage ((cfgA ch).slots t (2 : Fin 6))
abbrev hs0_2 (t : Fin (cfgA ch).N) : (ms0_2 ch t).IsWhole := hstage0_2 (((cfgA ch).slots t (2 : Fin 6)).cast nbuf0_2)
abbrev ms0_3 (t : Fin (cfgA ch).N) : Memref sig .tc .vmem S1x256x1024 .bf16 := spec0_3.stage ((cfgA ch).slots t (3 : Fin 6))
abbrev hs0_3 (t : Fin (cfgA ch).N) : (ms0_3 ch t).IsWhole := hstage0_3 (((cfgA ch).slots t (3 : Fin 6)).cast nbuf0_3)
abbrev ms0_4 (t : Fin (cfgA ch).N) : Memref sig .tc .vmem S1x256 .f32 := spec0_4.stage ((cfgA ch).slots t (4 : Fin 6))
abbrev hs0_4 (t : Fin (cfgA ch).N) : (ms0_4 ch t).IsWhole := hstage0_4 (((cfgA ch).slots t (4 : Fin 6)).cast nbuf0_4)
abbrev ms0_5 (t : Fin (cfgA ch).N) : Memref sig .tc .vmem S1x1024x256 .f32 := spec0_5.stage ((cfgA ch).slots t (5 : Fin 6))
abbrev hs0_5 (t : Fin (cfgA ch).N) : (ms0_5 ch t).IsWhole := hstage0_5 (((cfgA ch).slots t (5 : Fin 6)).cast nbuf0_5)

/-! ## The windows' blocks -/

/-- Window `w`'s block at point `t`, read off its array at launch. -/
def iblk (c : Dev nD) (w : Fin (cfgA ch).W) (t : Fin (cfgA ch).N) : (((cfgA ch).win w).xblock (crd ch t)).Idx → Elt Bits ((cfgA ch).win w).elt :=
  (((cfgA ch).win w).blk t).view.read (Elt Bits) ((s₀ m ρ).mem (((cfgA ch).win w).arr.view.loc (c : Thread nD τ)))

/-! ## The control's decisions at a point, at the pinned words (what tells the paths apart) -/

abbrev P0_0 (t : Fin (cfgA ch).N) : Prop := (Scalar.cmpi .ne (Scalar.extui (Scalar.cmpi .eq (View.readAt (Elt Bits) (tbM0_1).view (Rect.unit (s := S10) (k0_off1 (crd ch t)) S1.size (k0_off1_inb (crd ch t))).toLoadRect (pinT_1 ch) (Shape.Idx.first (numel1_S1.symm ▸ Nat.one_pos))) 0#32)) 0#32) = 1#1
abbrev P0_1 (t : Fin (cfgA ch).N) : Prop := (Scalar.cmpi .ne (Scalar.extui (Scalar.cmpi .slt (View.readAt (Elt Bits) (tbM0_1).view (Rect.unit (s := S10) (k0_off1 (crd ch t)) S1.size (k0_off1_inb (crd ch t))).toLoadRect (pinT_1 ch) (Shape.Idx.first (numel1_S1.symm ▸ Nat.one_pos))) (View.readAt (Elt Bits) (tbM0_0).view (Rect.unit (s := S10) (k0_off1 (crd ch t)) S1.size (k0_off1_inb (crd ch t))).toLoadRect (pinT_0 ch) (Shape.Idx.first (numel1_S1.symm ▸ Nat.one_pos))))) 0#32) = 1#1

/-- Whether scratch 0 (`cc0_scratch0`) holds nothing a point has determined, before position `n`: until a path that stores it
    whole first (A, B) has run. -/
def sfresh0_0 : ℕ → Bool
  | 0 => true
  | n + 1 => if h : n < (cfgA ch).N then (if P0_0 ch ⟨n, h⟩ then (if P0_1 ch ⟨n, h⟩ then false else false) else (if P0_1 ch ⟨n, h⟩ then sfresh0_0 n else sfresh0_0 n)) else true

/-- Its CLOSED FORM: fresh before position `n` iff no point below `n` covers it — `n` at most member `ch`'s first covering
    point (read off the walk; the recursion's step is decided against it point by point, the recursion never run). -/
def sfirst0_0 (ch : Fin 1) : ℕ := 0
def sfrTab0_0 : ℕ → Bool := fun n => decide (n ≤ sfirst0_0 ch)

/-- Whether scratch 1 (`cc0_scratch1`) holds nothing a point has determined, before position `n`: until a path that stores it
    whole first (A, B) has run. -/
def sfresh0_1 : ℕ → Bool
  | 0 => true
  | n + 1 => if h : n < (cfgA ch).N then (if P0_0 ch ⟨n, h⟩ then (if P0_1 ch ⟨n, h⟩ then false else false) else (if P0_1 ch ⟨n, h⟩ then sfresh0_1 n else sfresh0_1 n)) else true

/-- Its CLOSED FORM: fresh before position `n` iff no point below `n` covers it — `n` at most member `ch`'s first covering
    point (read off the walk; the recursion's step is decided against it point by point, the recursion never run). -/
def sfirst0_1 (ch : Fin 1) : ℕ := 0
def sfrTab0_1 : ℕ → Bool := fun n => decide (n ≤ sfirst0_1 ch)

/-- Whether scratch 2 (`cc0_scratch2`) holds nothing a point has determined, before position `n`: until a path that stores it
    whole first (A, B) has run. -/
def sfresh0_2 : ℕ → Bool
  | 0 => true
  | n + 1 => if h : n < (cfgA ch).N then (if P0_0 ch ⟨n, h⟩ then (if P0_1 ch ⟨n, h⟩ then false else false) else (if P0_1 ch ⟨n, h⟩ then sfresh0_2 n else sfresh0_2 n)) else true

/-- Its CLOSED FORM: fresh before position `n` iff no point below `n` covers it — `n` at most member `ch`'s first covering
    point (read off the walk; the recursion's step is decided against it point by point, the recursion never run). -/
def sfirst0_2 (ch : Fin 1) : ℕ := 0
def sfrTab0_2 : ℕ → Bool := fun n => decide (n ≤ sfirst0_2 ch)

/-- Whether scratch 3 (`cc0_scratch3`) holds nothing a point has determined, before position `n`: until a path that stores it
    whole first (A, B) has run. -/
def sfresh0_3 : ℕ → Bool
  | 0 => true
  | n + 1 => if h : n < (cfgA ch).N then (if P0_0 ch ⟨n, h⟩ then (if P0_1 ch ⟨n, h⟩ then false else false) else (if P0_1 ch ⟨n, h⟩ then sfresh0_3 n else sfresh0_3 n)) else true

/-- Its CLOSED FORM: fresh before position `n` iff no point below `n` covers it — `n` at most member `ch`'s first covering
    point (read off the walk; the recursion's step is decided against it point by point, the recursion never run). -/
def sfirst0_3 (ch : Fin 1) : ℕ := 0
def sfrTab0_3 : ℕ → Bool := fun n => decide (n ≤ sfirst0_3 ch)

set_option backward.proofsInPublic true in
/-- Whether output 5 holds junk BEFORE each position `1 ‥ N` of member `ch`'s grid — nothing stored into it since
    its last write-back —: the classifier's table (written back at the point before, or idle there and junk
    before it) as a bitmask, bit `n` for position `n + 1`, which `frTab0_5_step` checks against the pipeline's
    own recursion point by point (a bit test is one kernel step; a list walk or the recursion, hundreds). -/
def frMask0_5 : Fin 1 → ℕ
  | ⟨0, _⟩ => 0xffffffffffffffffffff
  | ⟨_ + 1, h⟩ => absurd h (by omega)
/-- `(cfgA ch).fresh 5` TABULATED (TableIdle.lean `Cfg.fresh_tab`): true before the first point, then the table. -/
def frTab0_5 : ℕ → Bool
  | 0 => true
  | n + 1 => (frMask0_5 ch).testBit n

end Cert.Kernel.Gen

end
-- ==== Proof.RunB.Facts.lean ====
/- Facts of the pinned schedule shared by the windows: which staging buffer a point uses, when a block is fetched or written back. (The kernel.) -/
module

public import proofs.«01_k».proof.Proof.RunB.Cfg

@[expose] public section

set_option maxRecDepth 16384
-- ONE DECLARATION AT A TIME: a per-path run alone peaks near 3 GB, and a decided theorem's kernel evaluation is freed
-- only when the next declaration begins (side by side, every finished one is held to the module's end)
set_option Elab.async false

noncomputable section

namespace Cert.Kernel.Gen

open Cert.Kernel
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the bit-exact instance (the frame claim's): every pinned word a `BitVec`. -/
local notation "𝕄" => MT nD τ sig Unit (Elt Bits) ℕ (UR sig nD τ) ℕ
variable (ch : Fin 1)
variable (m : (ℓ : Loc nD τ sig) → Buf (Elt Bits) ℓ) (ρ : Dev nD → PrngReg)

/-! ## Every per-point fact as ONE proposition, decided member by member; the named facts its projections -/

/-- EVERY FACT THE CERTIFICATE DECIDES at point `t` of member `ch` past the checks — the freshness tables' steps, each
    path's hypotheses and schedule at its points —, as one proposition: ONE kernel evaluation per member
    decides it over the member's points, sharing each point's words, table reads and block indices between the
    facts (Lib/Decide.lean halves the range; a declaration per member bounds the kernel's evaluation cache). -/
abbrev FactsAt (ch : Fin 1) (t : Fin (cfgA ch).N) : Prop :=
  -- sfrTab0_0_step, sfrTab0_1_step, sfrTab0_2_step, sfrTab0_3_step, frTab0_5_step, hyps0_A, sched0_A, hyps0_B, sched0_B, hyps0_C, sched0_C, hyps0_D, sched0_D
  (sfrTab0_0 ch (t.val + 1) = (if P0_0 ch t then (if P0_1 ch t then false else false) else (if P0_1 ch t then sfrTab0_0 ch t.val else sfrTab0_0 ch t.val)))
  ∧ (sfrTab0_1 ch (t.val + 1) = (if P0_0 ch t then (if P0_1 ch t then false else false) else (if P0_1 ch t then sfrTab0_1 ch t.val else sfrTab0_1 ch t.val)))
  ∧ (sfrTab0_2 ch (t.val + 1) = (if P0_0 ch t then (if P0_1 ch t then false else false) else (if P0_1 ch t then sfrTab0_2 ch t.val else sfrTab0_2 ch t.val)))
  ∧ (sfrTab0_3 ch (t.val + 1) = (if P0_0 ch t then (if P0_1 ch t then false else false) else (if P0_1 ch t then sfrTab0_3 ch t.val else sfrTab0_3 ch t.val)))
  ∧ (frTab0_5 ch (t.val + 1) = (((cfgA ch).win (5 : Fin 6)).flush t || ((cfgA ch).idle (5 : Fin 6) ((cfgA ch).grid.coords t) && frTab0_5 ch t.val)))
  ∧ (P0_0 ch t → ¬P0_1 ch t → ((Scalar.cmpi .ne (Scalar.extui (Scalar.cmpi .eq (View.readAt (Elt Bits) (tbM0_1).view (Rect.unit (s := S10) (k0_off1 (crd ch t)) S1.size (k0_off1_inb (crd ch t))).toLoadRect (pinT_1 ch) (Shape.Idx.first (numel1_S1.symm ▸ Nat.one_pos))) 0#32)) 0#32) = 1#1) ∧ ((¬((Scalar.cmpi .ne (Scalar.extui (Scalar.cmpi .slt (View.readAt (Elt Bits) (tbM0_1).view (Rect.unit (s := S10) (k0_off1 (crd ch t)) S1.size (k0_off1_inb (crd ch t))).toLoadRect (pinT_1 ch) (Shape.Idx.first (numel1_S1.symm ▸ Nat.one_pos))) (View.readAt (Elt Bits) (tbM0_0).view (Rect.unit (s := S10) (k0_off1 (crd ch t)) S1.size (k0_off1_inb (crd ch t))).toLoadRect (pinT_0 ch) (Shape.Idx.first (numel1_S1.symm ▸ Nat.one_pos))))) 0#32) = 1#1)) ∧ ((k0_cond3 (View.readAt (Elt Bits) (tbM0_0).view (Rect.unit (s := S10) (k0_off1 (crd ch t)) S1.size (k0_off1_inb (crd ch t))).toLoadRect (pinT_0 ch) (Shape.Idx.first (numel1_S1.symm ▸ Nat.one_pos))) (View.readAt (Elt Bits) (tbM0_1).view (Rect.unit (s := S10) (k0_off1 (crd ch t)) S1.size (k0_off1_inb (crd ch t))).toLoadRect (pinT_1 ch) (Shape.Idx.first (numel1_S1.symm ▸ Nat.one_pos))) = 1#1) ∧ (True))))
  ∧ (P0_0 ch t → ¬P0_1 ch t → (cfgA ch).idle (5 : Fin 6) ((cfgA ch).grid.coords t) = false ∧ ((cfgA ch).win (5 : Fin 6)).flush t = true ∧ frTab0_5 ch t.val = true ∧ sfrTab0_0 ch (t.val + 1) = false ∧ sfrTab0_1 ch (t.val + 1) = false ∧ sfrTab0_2 ch (t.val + 1) = false ∧ sfrTab0_3 ch (t.val + 1) = false)
  ∧ (P0_0 ch t → P0_1 ch t → ((Scalar.cmpi .ne (Scalar.extui (Scalar.cmpi .eq (View.readAt (Elt Bits) (tbM0_1).view (Rect.unit (s := S10) (k0_off1 (crd ch t)) S1.size (k0_off1_inb (crd ch t))).toLoadRect (pinT_1 ch) (Shape.Idx.first (numel1_S1.symm ▸ Nat.one_pos))) 0#32)) 0#32) = 1#1) ∧ (((Scalar.cmpi .ne (Scalar.extui (Scalar.cmpi .slt (View.readAt (Elt Bits) (tbM0_1).view (Rect.unit (s := S10) (k0_off1 (crd ch t)) S1.size (k0_off1_inb (crd ch t))).toLoadRect (pinT_1 ch) (Shape.Idx.first (numel1_S1.symm ▸ Nat.one_pos))) (View.readAt (Elt Bits) (tbM0_0).view (Rect.unit (s := S10) (k0_off1 (crd ch t)) S1.size (k0_off1_inb (crd ch t))).toLoadRect (pinT_0 ch) (Shape.Idx.first (numel1_S1.symm ▸ Nat.one_pos))))) 0#32) = 1#1) ∧ ((¬(k0_cond3 (View.readAt (Elt Bits) (tbM0_0).view (Rect.unit (s := S10) (k0_off1 (crd ch t)) S1.size (k0_off1_inb (crd ch t))).toLoadRect (pinT_0 ch) (Shape.Idx.first (numel1_S1.symm ▸ Nat.one_pos))) (View.readAt (Elt Bits) (tbM0_1).view (Rect.unit (s := S10) (k0_off1 (crd ch t)) S1.size (k0_off1_inb (crd ch t))).toLoadRect (pinT_1 ch) (Shape.Idx.first (numel1_S1.symm ▸ Nat.one_pos))) = 1#1)) ∧ (True))))
  ∧ (P0_0 ch t → P0_1 ch t → (cfgA ch).idle (5 : Fin 6) ((cfgA ch).grid.coords t) = true ∧ ((cfgA ch).win (5 : Fin 6)).flush t = false ∧ frTab0_5 ch t.val = true ∧ sfrTab0_0 ch t.val = false ∧ sfrTab0_0 ch (t.val + 1) = false ∧ sfrTab0_1 ch t.val = false ∧ sfrTab0_1 ch (t.val + 1) = false ∧ sfrTab0_2 ch t.val = false ∧ sfrTab0_2 ch (t.val + 1) = false ∧ sfrTab0_3 ch t.val = false ∧ sfrTab0_3 ch (t.val + 1) = false)
  ∧ (¬P0_0 ch t → ¬P0_1 ch t → (¬((Scalar.cmpi .ne (Scalar.extui (Scalar.cmpi .eq (View.readAt (Elt Bits) (tbM0_1).view (Rect.unit (s := S10) (k0_off1 (crd ch t)) S1.size (k0_off1_inb (crd ch t))).toLoadRect (pinT_1 ch) (Shape.Idx.first (numel1_S1.symm ▸ Nat.one_pos))) 0#32)) 0#32) = 1#1)) ∧ ((¬((Scalar.cmpi .ne (Scalar.extui (Scalar.cmpi .slt (View.readAt (Elt Bits) (tbM0_1).view (Rect.unit (s := S10) (k0_off1 (crd ch t)) S1.size (k0_off1_inb (crd ch t))).toLoadRect (pinT_1 ch) (Shape.Idx.first (numel1_S1.symm ▸ Nat.one_pos))) (View.readAt (Elt Bits) (tbM0_0).view (Rect.unit (s := S10) (k0_off1 (crd ch t)) S1.size (k0_off1_inb (crd ch t))).toLoadRect (pinT_0 ch) (Shape.Idx.first (numel1_S1.symm ▸ Nat.one_pos))))) 0#32) = 1#1)) ∧ ((k0_cond3 (View.readAt (Elt Bits) (tbM0_0).view (Rect.unit (s := S10) (k0_off1 (crd ch t)) S1.size (k0_off1_inb (crd ch t))).toLoadRect (pinT_0 ch) (Shape.Idx.first (numel1_S1.symm ▸ Nat.one_pos))) (View.readAt (Elt Bits) (tbM0_1).view (Rect.unit (s := S10) (k0_off1 (crd ch t)) S1.size (k0_off1_inb (crd ch t))).toLoadRect (pinT_1 ch) (Shape.Idx.first (numel1_S1.symm ▸ Nat.one_pos))) = 1#1) ∧ (True))))
  ∧ (¬P0_0 ch t → ¬P0_1 ch t → (cfgA ch).idle (5 : Fin 6) ((cfgA ch).grid.coords t) = false ∧ ((cfgA ch).win (5 : Fin 6)).flush t = true ∧ frTab0_5 ch t.val = true ∧ sfrTab0_0 ch t.val = false ∧ sfrTab0_0 ch (t.val + 1) = false ∧ sfrTab0_1 ch t.val = false ∧ sfrTab0_1 ch (t.val + 1) = false ∧ sfrTab0_2 ch t.val = false ∧ sfrTab0_2 ch (t.val + 1) = false ∧ sfrTab0_3 ch t.val = false ∧ sfrTab0_3 ch (t.val + 1) = false)
  ∧ (¬P0_0 ch t → P0_1 ch t → (¬((Scalar.cmpi .ne (Scalar.extui (Scalar.cmpi .eq (View.readAt (Elt Bits) (tbM0_1).view (Rect.unit (s := S10) (k0_off1 (crd ch t)) S1.size (k0_off1_inb (crd ch t))).toLoadRect (pinT_1 ch) (Shape.Idx.first (numel1_S1.symm ▸ Nat.one_pos))) 0#32)) 0#32) = 1#1)) ∧ (((Scalar.cmpi .ne (Scalar.extui (Scalar.cmpi .slt (View.readAt (Elt Bits) (tbM0_1).view (Rect.unit (s := S10) (k0_off1 (crd ch t)) S1.size (k0_off1_inb (crd ch t))).toLoadRect (pinT_1 ch) (Shape.Idx.first (numel1_S1.symm ▸ Nat.one_pos))) (View.readAt (Elt Bits) (tbM0_0).view (Rect.unit (s := S10) (k0_off1 (crd ch t)) S1.size (k0_off1_inb (crd ch t))).toLoadRect (pinT_0 ch) (Shape.Idx.first (numel1_S1.symm ▸ Nat.one_pos))))) 0#32) = 1#1) ∧ ((¬(k0_cond3 (View.readAt (Elt Bits) (tbM0_0).view (Rect.unit (s := S10) (k0_off1 (crd ch t)) S1.size (k0_off1_inb (crd ch t))).toLoadRect (pinT_0 ch) (Shape.Idx.first (numel1_S1.symm ▸ Nat.one_pos))) (View.readAt (Elt Bits) (tbM0_1).view (Rect.unit (s := S10) (k0_off1 (crd ch t)) S1.size (k0_off1_inb (crd ch t))).toLoadRect (pinT_1 ch) (Shape.Idx.first (numel1_S1.symm ▸ Nat.one_pos))) = 1#1)) ∧ (True))))
  ∧ (¬P0_0 ch t → P0_1 ch t → (cfgA ch).idle (5 : Fin 6) ((cfgA ch).grid.coords t) = true ∧ ((cfgA ch).win (5 : Fin 6)).flush t = false ∧ frTab0_5 ch t.val = true ∧ sfrTab0_0 ch t.val = false ∧ sfrTab0_0 ch (t.val + 1) = false ∧ sfrTab0_1 ch t.val = false ∧ sfrTab0_1 ch (t.val + 1) = false ∧ sfrTab0_2 ch t.val = false ∧ sfrTab0_2 ch (t.val + 1) = false ∧ sfrTab0_3 ch t.val = false ∧ sfrTab0_3 ch (t.val + 1) = false)

set_option synthInstance.maxSize 65536 in
instance FactsAt.dec (ch : Fin 1) (t : Fin (cfgA ch).N) : Decidable (FactsAt ch t) :=
  @instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (inferInstance))))))))))))

end Cert.Kernel.Gen

end
-- ==== Proof.RunB.Launch.lean ====
module

public import proofs.«01_k».proof.Proof.RunB.Frame

@[expose] public section

set_option maxRecDepth 16384

noncomputable section

namespace Cert.Kernel.Gen

open Cert.Kernel
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg)

local notation "𝕄" => MT nD τ sig Unit (Elt Bits) ℕ (UR sig nD τ) ℕ

variable (m : (ℓ : Loc nD τ sig) → Buf (Elt Bits) ℓ) (ρ : Dev nD → PrngReg)

/-- The memory the region is entered with: the six host operations have filled the two tables and the tiled norm
    weights. -/
def entry : (ℓ : Loc nD τ sig) → Buf (Elt Bits) ℓ := fun ℓ => StableHlo.after hostOps0 (fun b => m (ℓ.1, b)) ℓ.2

/-- A buffer no host operation writes is entered as launched. -/
theorem entry_of_not_written (c : Dev nD) (b : Ref sig .tc)
    (hb : b ≠ main_c ∧ b ≠ main_c_0 ∧ b ≠ main_v0 ∧ b ≠ main_v1 ∧ b ≠ main_v2 ∧ b ≠ main_v3) :
    entry m ((c : Thread nD τ).loc b) = m ((c : Thread nD τ).loc b) := by
  obtain ⟨h0, h1, h2, h3, h4, h5⟩ := hb
  refine StableHlo.after_of_forall_not_mem (b := Proc.devRef .tc b) hostOps0 (fun b => m (c, b)) ?_
  intro op hop
  simp only [List.mem_cons, List.mem_nil_iff, or_false] at hop
  rcases hop with rfl | rfl | rfl | rfl | rfl | rfl <;>
    simp only [StableHlo.unary_writes, StableHlo.reshape_writes, StableHlo.nullary_writes, Finset.mem_singleton] <;>
    exact StableHlo.devRef_ne_of_ne ‹_›

/-- Two tables of ten words agree once they agree at the ten row-major positions. -/
theorem table_eq {f : Fin S10.numel → BitVec 32} {l : List (BitVec 32)}
    (h : ∀ k : Fin 10, f (S10.rowMajor (fun a => match a with | ⟨0, _⟩ => k)) = l.getD k.val 0#32) :
    (fun i : S10.Idx => f (S10.rowMajor i)) = fun x => l.getD (x 0).val 0#32 := by
  funext x
  have hx : x = fun a => match a with | ⟨0, _⟩ => x 0 := by funext a; match a with | ⟨0, _⟩ => rfl
  rw [hx]; exact h (x 0)

/-- The tables the host filled are the ones the schedule was read off. -/
theorem entry_pinned : Pinned 0 (entry m) := by
  refine ⟨fun c => ?_, fun c => ?_⟩
  · have h : entry m ((c : Thread nD τ).loc main_c) = (fun i => lit0 (S10.rowMajor i) : S10.Idx → BitVec 32) := by
      show StableHlo.after hostOps0 _ (Proc.devRef .tc main_c) = _
      unfold hostOps0
      rw [StableHlo.after_cons, StableHlo.after_of_forall_not_mem]
      · exact StableHlo.nullary_result ..
      · intro op hop
        simp only [List.mem_cons, List.mem_nil_iff, or_false] at hop
        rcases hop with rfl | rfl | rfl | rfl | rfl <;>
          simp only [StableHlo.unary_writes, StableHlo.reshape_writes, StableHlo.nullary_writes, Finset.mem_singleton] <;>
          exact StableHlo.devRef_ne_of_ne (by decide)
    rw [h]
    exact table_eq (by decide)
  · have h : entry m ((c : Thread nD τ).loc main_c_0) = (fun i => lit1 (S10.rowMajor i) : S10.Idx → BitVec 32) := by
      show StableHlo.after hostOps0 _ (Proc.devRef .tc main_c_0) = _
      unfold hostOps0
      rw [StableHlo.after_cons, StableHlo.after_cons, StableHlo.after_of_forall_not_mem]
      · exact StableHlo.nullary_result ..
      · intro op hop
        simp only [List.mem_cons, List.mem_nil_iff, or_false] at hop
        rcases hop with rfl | rfl | rfl | rfl <;>
          simp only [StableHlo.unary_writes, StableHlo.reshape_writes, StableHlo.nullary_writes, Finset.mem_singleton] <;>
          exact StableHlo.devRef_ne_of_ne (by decide)
    rw [h]
    exact table_eq (by decide)

/-- What every run ends with: every window's array at the contents the proof data compute, the norm weights as launched. -/
def QC : PUnit × MemSt nD τ sig (Elt Bits) → Prop := fun r =>
  ∀ c : Dev nD, (∀ w : Fin (cfgA 0).W, r.2.mem (((cfgA 0).win w).arr.view.loc (c : Thread nD τ)) = (dats 0 (entry m) ρ 0 c).arrAt w (cfgA 0).N)
    ∧ r.2.mem ((c : Thread nD τ).loc main_arg4) = m ((c : Thread nD τ).loc main_arg4)

theorem entry_pre (c : Dev nD) (j : Fin 2) : entry m ((c : Thread nD τ).loc (pre0.ref j)) = (adm 0).1 j := by
  fin_cases j
  · exact (entry_pinned m).1 c
  · exact (entry_pinned m).2 c

set_option backward.isDefEq.respectTransparency.types false in
set_option maxHeartbeats 4000000 in
/-- From any memory with zero counters: every weakly fair execution of @main terminates, every final state satisfies `QC`
    and has every semaphore counter at zero. -/
theorem run_main_quiescent : θ_run (defs (F := Bits)) (onTc (τ := τ) (main (F := Bits))) (s₀ m ρ) (fun r => QC m ρ r ∧ r.2.sem = fun _ => 0) :=
  Pipeline.θ_run_region_noSem_pf_quiescent pcfgs (fun _ => adm 0) (dats 0 (entry m) ρ) () ((launch0 (F := Bits)).cellOf_inj fun _ => adm 0) (0 : Fin 1)
    (launch0 (F := Bits)).win.to₀ (launch0 (F := Bits)).pre EP defs₀ Variants.none m ρ main
    (hbody := fun c => (body_obligation 0 (entry m) ρ (entry_pinned m) c).loose) (hne := (launch0 (F := Bits)).block_pos)
    (harr := (launch0 (F := Bits)).arr_whole) (hstage := (launch0 (F := Bits)).stage_whole) (howed := fun _ _ => rfl)
    (u₀ := u₀ 0) (hu₀ := .rfl)
    (V := fun c b => entry m ((c : Thread nD τ).loc b))
    (hmain := Pipeline.hmainP_prefix pcfgs (0 : Fin 1) defs₀ Variants.none m main hostOps0 hostOps0_sub
      ⟨rfl, rfl, rfl, rfl, rfl, rfl⟩ main_chain)
    (hsplit := fun c => Pipeline.arrays_split (pcs 0) (dats 0 (entry m) ρ) 0 (launch0 (F := Bits)).win.arr_inj c (launch0 (F := Bits)).arr_whole
      (share_eq 0 (entry m) ρ c) _ _ fun _ => rfl)
    (hpf := entry_pre m)
    (X := fun _ => iprop(emp)) (Y := fun _ => iprop(emp))
    (Z := fun c => ((c : Thread nD τ).loc main_arg4) ↦{fullShare} m ((c : Thread nD τ).loc main_arg4))
    (hX := fun c => by
      rw [unscopedRestP0_eq, entry_of_not_written m c main_arg4 (by decide)]
      iintro ⟨H4, -, -, -⟩
      isplitr; · iempintro
      iexact H4)
    (hin := phi0_intro 0 (entry m) ρ)
    (hout := phiN_exit 0 (entry m) ρ)
    (QY := fun c s => s.mem ((c : Thread nD τ).loc main_arg4) = m ((c : Thread nD τ).loc main_arg4))
    (hY := fun c s' => by
      iintro ⟨-, H4, HSI⟩
      icombine HSI H4 gives %h
      imodintro
      isplitr; · ipureintro; exact Buf.eq_of_forall_mem_univ h
      iexact HSI)
    (hQ := fun _ h hz => ⟨fun c => ⟨(h c).1, (h c).2.2⟩, hz⟩)

/-- THE FRAME: every weakly fair execution terminates, every argument array ends unchanged and every semaphore counter
    reads zero. -/
theorem frame :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => by
    have e (w : Fin 6) (hw : ((cfgA 0).win w).isOut = false) := ((h.1 c).1 w).trans ((dats 0 (entry m) ρ 0 c).arrAt_in w hw _)
    exact ⟨(e 1 rfl).trans (entry_of_not_written m c main_arg0 (by decide)),
      (e 2 rfl).trans (entry_of_not_written m c main_arg1 (by decide)),
      (e 3 rfl).trans (entry_of_not_written m c main_arg2 (by decide)),
      (e 0 rfl).trans (entry_of_not_written m c main_arg3 (by decide)),
      (h.1 c).2⟩, h.2⟩) (run_main_quiescent m ρ)

end Cert.Kernel.Gen

end
-- ==== Proof.Found.lean ====
/- The contents a point leaves, as the writes of its path. -/
module

public import proofs.«01_k».proof.Proof.RunI.Frame

@[expose] public section

set_option maxRecDepth 16384
set_option maxHeartbeats 400000

noncomputable section

namespace Cert.KernelIdeal.Att

open Idealize.ShloMosaic Idealize.ShloMosaic.TcCoe Cert.KernelIdeal Cert.KernelIdeal.Gen
local notation "𝕀" => Idealize.ShloMosaic.Ideal

variable (m : (ℓ : Loc nD τ sig) → Buf (Elt 𝕀) ℓ) (ρ : Dev nD → PrngReg) (c : Dev nD)

/-- The masked queries after a first key tile on the diagonal. -/
theorem found_A0 (t : Fin (cfgA 0).N) (p) (q0 : P0_0 0 t) (q1 : ¬P0_1 0 t) : (step0 0 m ρ c t p).2.1
    = scM0_0.view.writes (Elt 𝕀) scM0_0.view.junk (kernelRun0_A.sl.HS0_8 (ms0_1 0 t) (iblk 0 m ρ c 1 t)) := by
  rw [step0_A 0 m ρ c t p q0 q1]
  delta kernelRun0_A
  dsimp only

/-- The maxima after a first key tile on the diagonal. -/
theorem found_A1 (t : Fin (cfgA 0).N) (p) (q0 : P0_0 0 t) (q1 : ¬P0_1 0 t) : (step0 0 m ρ c t p).2.2.1
    = scM0_1.view.writes (Elt 𝕀) scM0_1.view.junk (kernelRun0_A.sl.HS1_9 (ms0_1 0 t) (ms0_2 0 t) (iblk 0 m ρ c 1 t) (iblk 0 m ρ c 2 t)) := by
  rw [step0_A 0 m ρ c t p q0 q1]
  delta kernelRun0_A
  dsimp only

/-- The denominators after a first key tile on the diagonal. -/
theorem found_A2 (t : Fin (cfgA 0).N) (p) (q0 : P0_0 0 t) (q1 : ¬P0_1 0 t) : (step0 0 m ρ c t p).2.2.2.1
    = scM0_2.view.writes (Elt 𝕀) scM0_2.view.junk (kernelRun0_A.sl.HS2_9 (ms0_1 0 t) (ms0_2 0 t) (iblk 0 m ρ c 1 t) (iblk 0 m ρ c 2 t)) := by
  rw [step0_A 0 m ρ c t p q0 q1]
  delta kernelRun0_A
  dsimp only

/-- The weighted sums after a first key tile on the diagonal. -/
theorem found_A3 (t : Fin (cfgA 0).N) (p) (q0 : P0_0 0 t) (q1 : ¬P0_1 0 t) : (step0 0 m ρ c t p).2.2.2.2
    = scM0_3.view.writes (Elt 𝕀) scM0_3.view.junk (kernelRun0_A.sl.HS3_9 (ms0_1 0 t) (ms0_2 0 t) (ms0_3 0 t) (iblk 0 m ρ c 1 t) (iblk 0 m ρ c 2 t) (iblk 0 m ρ c 3 t)) := by
  rw [step0_A 0 m ρ c t p q0 q1]
  delta kernelRun0_A
  dsimp only

/-- The output block after a first key tile on the diagonal. -/
theorem found_AO (t : Fin (cfgA 0).N) (p) (q0 : P0_0 0 t) (q1 : ¬P0_1 0 t) : (step0 0 m ρ c t p).1
    = VO0_5.read (Elt 𝕀) (VO0_5.writes (Elt 𝕀) VO0_5.junk (kernelRun0_A.sl.HO5_1 (ms0_0 0 t) (ms0_1 0 t) (ms0_2 0 t) (ms0_3 0 t) (ms0_4 0 t) (iblk 0 m ρ c 0 t) (iblk 0 m ρ c 1 t) (iblk 0 m ρ c 2 t) (iblk 0 m ρ c 3 t) (iblk 0 m ρ c 4 t))) := by
  rw [step0_A 0 m ρ c t p q0 q1]
  delta out0_A_5 kernelRun0_A
  dsimp only

/-- The masked queries after a first key tile before the diagonal. -/
theorem found_B0 (t : Fin (cfgA 0).N) (p) (q0 : P0_0 0 t) (q1 : P0_1 0 t) : (step0 0 m ρ c t p).2.1
    = scM0_0.view.writes (Elt 𝕀) scM0_0.view.junk (kernelRun0_B.sl.HS0_8 (ms0_1 0 t) (iblk 0 m ρ c 1 t)) := by
  rw [step0_B 0 m ρ c t p q0 q1]
  delta kernelRun0_B
  dsimp only

/-- The maxima after a first key tile before the diagonal. -/
theorem found_B1 (t : Fin (cfgA 0).N) (p) (q0 : P0_0 0 t) (q1 : P0_1 0 t) : (step0 0 m ρ c t p).2.2.1
    = scM0_1.view.writes (Elt 𝕀) scM0_1.view.junk (kernelRun0_B.sl.HS1_9 (ms0_1 0 t) (ms0_2 0 t) (iblk 0 m ρ c 1 t) (iblk 0 m ρ c 2 t)) := by
  rw [step0_B 0 m ρ c t p q0 q1]
  delta kernelRun0_B
  dsimp only

/-- The denominators after a first key tile before the diagonal. -/
theorem found_B2 (t : Fin (cfgA 0).N) (p) (q0 : P0_0 0 t) (q1 : P0_1 0 t) : (step0 0 m ρ c t p).2.2.2.1
    = scM0_2.view.writes (Elt 𝕀) scM0_2.view.junk (kernelRun0_B.sl.HS2_9 (ms0_1 0 t) (ms0_2 0 t) (iblk 0 m ρ c 1 t) (iblk 0 m ρ c 2 t)) := by
  rw [step0_B 0 m ρ c t p q0 q1]
  delta kernelRun0_B
  dsimp only

/-- The weighted sums after a first key tile before the diagonal. -/
theorem found_B3 (t : Fin (cfgA 0).N) (p) (q0 : P0_0 0 t) (q1 : P0_1 0 t) : (step0 0 m ρ c t p).2.2.2.2
    = scM0_3.view.writes (Elt 𝕀) scM0_3.view.junk (kernelRun0_B.sl.HS3_9 (ms0_1 0 t) (ms0_2 0 t) (ms0_3 0 t) (iblk 0 m ρ c 1 t) (iblk 0 m ρ c 2 t) (iblk 0 m ρ c 3 t)) := by
  rw [step0_B 0 m ρ c t p q0 q1]
  delta kernelRun0_B
  dsimp only

/-- The masked queries after a later key tile on the diagonal. -/
theorem found_C0 (t : Fin (cfgA 0).N) (p) (q0 : ¬P0_0 0 t) (q1 : ¬P0_1 0 t) : (step0 0 m ρ c t p).2.1
    = p.2.1 := by
  rw [step0_C 0 m ρ c t p q0 q1]
  delta kernelRun0_C
  dsimp only

/-- The maxima after a later key tile on the diagonal. -/
theorem found_C1 (t : Fin (cfgA 0).N) (p) (q0 : ¬P0_0 0 t) (q1 : ¬P0_1 0 t) : (step0 0 m ρ c t p).2.2.1
    = scM0_1.view.writes (Elt 𝕀) scM0_1.view.junk (kernelRun0_C.sl.HS1_8 c (ms0_2 0 t) (iblk 0 m ρ c 2 t) p.2.1 p.2.2.1) := by
  rw [step0_C 0 m ρ c t p q0 q1]
  delta kernelRun0_C
  dsimp only

/-- The denominators after a later key tile on the diagonal. -/
theorem found_C2 (t : Fin (cfgA 0).N) (p) (q0 : ¬P0_0 0 t) (q1 : ¬P0_1 0 t) : (step0 0 m ρ c t p).2.2.2.1
    = scM0_2.view.writes (Elt 𝕀) scM0_2.view.junk (kernelRun0_C.sl.HS2_8 c (ms0_2 0 t) (iblk 0 m ρ c 2 t) p.2.1 p.2.2.1 p.2.2.2.1) := by
  rw [step0_C 0 m ρ c t p q0 q1]
  delta kernelRun0_C
  dsimp only

/-- The weighted sums after a later key tile on the diagonal. -/
theorem found_C3 (t : Fin (cfgA 0).N) (p) (q0 : ¬P0_0 0 t) (q1 : ¬P0_1 0 t) : (step0 0 m ρ c t p).2.2.2.2
    = scM0_3.view.writes (Elt 𝕀) scM0_3.view.junk (kernelRun0_C.sl.HS3_8 c (ms0_2 0 t) (ms0_3 0 t) (iblk 0 m ρ c 2 t) (iblk 0 m ρ c 3 t) p.2.1 p.2.2.1 p.2.2.2.2) := by
  rw [step0_C 0 m ρ c t p q0 q1]
  delta kernelRun0_C
  dsimp only

/-- The output block after a later key tile on the diagonal. -/
theorem found_CO (t : Fin (cfgA 0).N) (p) (q0 : ¬P0_0 0 t) (q1 : ¬P0_1 0 t) : (step0 0 m ρ c t p).1
    = VO0_5.read (Elt 𝕀) (VO0_5.writes (Elt 𝕀) VO0_5.junk (kernelRun0_C.sl.HO5_1 c (ms0_0 0 t) (ms0_2 0 t) (ms0_3 0 t) (ms0_4 0 t) (iblk 0 m ρ c 0 t) (iblk 0 m ρ c 2 t) (iblk 0 m ρ c 3 t) (iblk 0 m ρ c 4 t) p.2.1 p.2.2.1 p.2.2.2.1 p.2.2.2.2)) := by
  rw [step0_C 0 m ρ c t p q0 q1]
  delta out0_C_5 kernelRun0_C
  dsimp only

/-- The masked queries after a later key tile before the diagonal. -/
theorem found_D0 (t : Fin (cfgA 0).N) (p) (q0 : ¬P0_0 0 t) (q1 : P0_1 0 t) : (step0 0 m ρ c t p).2.1
    = p.2.1 := by
  rw [step0_D 0 m ρ c t p q0 q1]
  delta kernelRun0_D
  dsimp only

/-- The maxima after a later key tile before the diagonal. -/
theorem found_D1 (t : Fin (cfgA 0).N) (p) (q0 : ¬P0_0 0 t) (q1 : P0_1 0 t) : (step0 0 m ρ c t p).2.2.1
    = scM0_1.view.writes (Elt 𝕀) scM0_1.view.junk (kernelRun0_D.sl.HS1_8 c (ms0_2 0 t) (iblk 0 m ρ c 2 t) p.2.1 p.2.2.1) := by
  rw [step0_D 0 m ρ c t p q0 q1]
  delta kernelRun0_D
  dsimp only

/-- The denominators after a later key tile before the diagonal. -/
theorem found_D2 (t : Fin (cfgA 0).N) (p) (q0 : ¬P0_0 0 t) (q1 : P0_1 0 t) : (step0 0 m ρ c t p).2.2.2.1
    = scM0_2.view.writes (Elt 𝕀) scM0_2.view.junk (kernelRun0_D.sl.HS2_8 c (ms0_2 0 t) (iblk 0 m ρ c 2 t) p.2.1 p.2.2.1 p.2.2.2.1) := by
  rw [step0_D 0 m ρ c t p q0 q1]
  delta kernelRun0_D
  dsimp only

/-- The weighted sums after a later key tile before the diagonal. -/
theorem found_D3 (t : Fin (cfgA 0).N) (p) (q0 : ¬P0_0 0 t) (q1 : P0_1 0 t) : (step0 0 m ρ c t p).2.2.2.2
    = scM0_3.view.writes (Elt 𝕀) scM0_3.view.junk (kernelRun0_D.sl.HS3_8 c (ms0_2 0 t) (ms0_3 0 t) (iblk 0 m ρ c 2 t) (iblk 0 m ρ c 3 t) p.2.1 p.2.2.1 p.2.2.2.2) := by
  rw [step0_D 0 m ρ c t p q0 q1]
  delta kernelRun0_D
  dsimp only

end Cert.KernelIdeal.Att

end
-- ==== Proof.Tile.lean ====
/- One map of one key tile, as arrays: the scores, the new maximum, the new denominator, the new weighted sum. -/
module

public import proofs.«01_k».proof.Proof.RunI.Runs
public import Idealize.ShloMosaic.Lib.Pipeline.ValueKit
public import Idealize.ShloMosaic.Lib.WordCmp

@[expose] public section

set_option maxRecDepth 16384

noncomputable section

namespace Cert.KernelIdeal.Att

open Idealize.ShloMosaic Cert.KernelIdeal Cert.KernelIdeal.Gen
local notation "𝕀" => Idealize.ShloMosaic.Ideal

/-- The new maximum of every query: the old one against the greatest score of the tile. -/
def mNew (S : FVec 𝕀 S1024x1024 .f32) (M : FVec 𝕀 S1x1x1024 .f32) : FVec 𝕀 S1x1024 .f32 :=
  maximumf (shapeCast S1x1024 M shapeCasts_S1x1x1024_S1x1024)
    (shapeCast S1x1024 (multiReduction .maximumf [0] S1024 S 0xFF800000#32 reduces_S1024x1024_S1024 (.inl rfl) rfl) shapeCasts_S1024_S1x1024)

/-- How much the earlier tiles' sums shrink under the new maximum. -/
def shrink (S : FVec 𝕀 S1024x1024 .f32) (M : FVec 𝕀 S1x1x1024 .f32) : FVec 𝕀 S1x1024 .f32 :=
  exp (subf (shapeCast S1x1024 M shapeCasts_S1x1x1024_S1x1024) (mNew S M))

/-- The tile's exponentials under the new maximum. -/
def prob (S : FVec 𝕀 S1024x1024 .f32) (M : FVec 𝕀 S1x1x1024 .f32) : FVec 𝕀 S1024x1024 .f32 :=
  exp (subf S (broadcastTo S1024x1024 (mNew S M) broadcasts_S1x1024_S1024x1024))

/-- The maximum as it is stored. -/
def mOut (S : FVec 𝕀 S1024x1024 .f32) (M : FVec 𝕀 S1x1x1024 .f32) : FVec 𝕀 S1x1x1024 .f32 :=
  shapeCast S1x1x1024 (mNew S M) shapeCasts_S1x1024_S1x1x1024

/-- The denominator as it is stored. -/
def lOut (S : FVec 𝕀 S1024x1024 .f32) (M L : FVec 𝕀 S1x1x1024 .f32) : FVec 𝕀 S1x1x1024 .f32 :=
  shapeCast S1x1x1024 (addf (mulf (shrink S M) (shapeCast S1x1024 L shapeCasts_S1x1x1024_S1x1024))
    (shapeCast S1x1024 (multiReduction .add [0] S1024 (prob S M) 0x00000000#32 reduces_S1024x1024_S1024 (.inl rfl) rfl) shapeCasts_S1024_S1x1024))
    shapeCasts_S1x1024_S1x1x1024

/-- The weighted sum of the values as it is stored. -/
def aOut (S : FVec 𝕀 S1024x1024 .f32) (M : FVec 𝕀 S1x1x1024 .f32) (V : FVec 𝕀 S1x64x1024 .bf16) (A : FVec 𝕀 S1x64x1024 .f32) :
    FVec 𝕀 S1x64x1024 .f32 :=
  shapeCast S1x64x1024 (addf (mulf (broadcastTo S64x1024 (shrink S M) broadcasts_S1x1024_S64x1024) (shapeCast S64x1024 A shapeCasts_S1x64x1024_S64x1024))
    (matmul dot_S64x1024_S1024x1024_S64x1024_1_0_0_1_n_n none (shapeCast S64x1024 V shapeCasts_S1x64x1024_S64x1024)
      (truncf .bf16 (prob S M) bitsLt_bf16_f32) (constant S64x1024 .f32 0x00000000#32))) shapeCasts_S64x1024_S1x64x1024

/-- Map `h`'s slot of the eight maxima (or denominators). -/
def slot1 (h : Fin 8) (M : S8x1x1024.Idx → EReal) : FVec 𝕀 S1x1x1024 .f32 := fun x => M (ix3 h (x 1) (x 2))

/-- Map `h`'s slot of the eight masked query tiles. -/
def slotQ (h : Fin 8) (Q : S8x256x1024.Idx → EReal) : FVec 𝕀 S1x256x1024 .bf16 := fun x => Q (ix3 h (x 1) (x 2))

/-- Map `h`'s slot of the eight weighted sums. -/
def slotA (h : Fin 8) (A : S8x64x1024.Idx → EReal) : FVec 𝕀 S1x64x1024 .f32 := fun x => A (ix3 h (x 1) (x 2))

/-- The values' feature `e` of map `h`'s head among the 256 rows. -/
def vrow (h : Fin 8) (e : Fin 64) : Fin 256 := ⟨64 * (h.val / 2) + e.val, by omega⟩

/-- The 64 rows of values of map `h`'s head. -/
def slotV (h : Fin 8) (V : S1x256x1024.Idx → EReal) : FVec 𝕀 S1x64x1024 .bf16 := fun x => V (ix3 0 (vrow h (x 1)) (x 2))

/-- The word of minus infinity is the least extended real. -/
theorem bot_word : Idealize.ShloMosaic.Ideal.ofBits .f32 0xFF800000#32 = (⊥ : EReal) := by
  simp [Idealize.ShloMosaic.Ideal.ofBits, Idealize.ShloMosaic.Ideal.ieee]

theorem mOut_apply (S : FVec 𝕀 S1024x1024 .f32) (M : FVec 𝕀 S1x1x1024 .f32) (i : Fin 1024) :
    mOut S M (ix3 0 0 i) = max (M (ix3 0 0 i)) (Finset.univ.sup fun j : Fin 1024 => S (ix2 j i)) := by
  unfold mOut mNew
  pointwise
  rw [bot_word]
  rfl

theorem lOut_apply (S : FVec 𝕀 S1024x1024 .f32) (M L : FVec 𝕀 S1x1x1024 .f32) (i : Fin 1024) :
    lOut S M L (ix3 0 0 i) = Idealize.ShloMosaic.Ideal.exp (M (ix3 0 0 i) - mOut S M (ix3 0 0 i)) * L (ix3 0 0 i)
      + ∑ j : Fin 1024, Idealize.ShloMosaic.Ideal.exp (S (ix2 j i) - mOut S M (ix3 0 0 i)) := by
  unfold lOut shrink prob mOut
  pointwise

theorem aOut_apply (S : FVec 𝕀 S1024x1024 .f32) (M : FVec 𝕀 S1x1x1024 .f32) (V : FVec 𝕀 S1x64x1024 .bf16) (A : FVec 𝕀 S1x64x1024 .f32)
    (e : Fin 64) (i : Fin 1024) :
    aOut S M V A (ix3 0 e i) = Idealize.ShloMosaic.Ideal.exp (M (ix3 0 0 i) - mOut S M (ix3 0 0 i)) * A (ix3 0 e i)
      + ∑ j : Fin 1024, V (ix3 0 e j) * Idealize.ShloMosaic.Ideal.exp (S (ix2 j i) - mOut S M (ix3 0 0 i)) := by
  unfold aOut shrink prob mOut
  pointwise

/-- The scores of an off-diagonal tile. -/
theorem score_apply (K : FVec 𝕀 S1x1024x256 .bf16) (Q : FVec 𝕀 S1x256x1024 .bf16) (j i : Fin 1024) :
    (k0_pay20 K Q : FVec 𝕀 S1024x1024 .f32) (ix2 j i) = ∑ f : Fin 256, K (ix3 0 j f) * Q (ix3 0 f i) := by
  unfold k0_pay20
  pointwise

/-- The scores of a diagonal tile: a key after its query is masked. -/
theorem scoreDiag_apply (K : FVec 𝕀 S1x1024x256 .bf16) (Q : FVec 𝕀 S1x256x1024 .bf16) (j i : Fin 1024) :
    (k0_pay88 K Q : FVec 𝕀 S1024x1024 .f32) (ix2 j i) = if j.val ≤ i.val then ∑ f : Fin 256, K (ix3 0 j f) * Q (ix3 0 f i) else ⊥ := by
  unfold k0_pay88
  pointwise
  rw [bot_word, WordCmp.cmpi_sle_ofNat (by omega) (by omega), WordCmp.select_ofBool]
  simp

/-- Map `h`'s copy of the query tile: the rows of other maps are zero. -/
def qPay (h : Fin 8) (X : FVec 𝕀 S1x256x1024 .bf16) : FVec 𝕀 S1x256x1024 .bf16 :=
  shapeCast S1x256x1024 (select (broadcastTo S256x1024 (shapeCast S256x1 (cmpi .eq k0_pay9 (broadcast S256x1 (BitVec.ofNat 32 h.val))) shapeCasts_S256x1_S256x1)
    broadcasts_S256x1_S256x1024) (shapeCast S256x1024 X shapeCasts_S1x256x1024_S256x1024)
    (broadcast S256x1024 (Scalar.ofBits .bf16 0x0000#16 : 𝕀 .bf16))) shapeCasts_S256x1024_S1x256x1024

/-- Row `f` of the queries belongs to map `f / 32`: the word the kernel compares with. -/
theorem map_word (f : Fin 256) : k0_pay9 (ix2 f 0) = BitVec.ofNat 32 (f.val / 32) := by
  unfold k0_pay9
  pointwise
  revert f
  decide +kernel

theorem qPay_apply (h : Fin 8) (X : FVec 𝕀 S1x256x1024 .bf16) (f : Fin 256) (i : Fin 1024) :
    qPay h X (ix3 0 f i) = if f.val / 32 = h.val then X (ix3 0 f i) else 0 := by
  unfold qPay
  pointwise
  rw [map_word, WordCmp.cmpi_eq_ofNat (by omega) (by omega), WordCmp.select_ofBool]
  simp

/-- The eight new maxima, one slot each, from the key tile, the masked queries and the old maxima. -/
def mG (S : FVec 𝕀 S1x1024x256 .bf16 → FVec 𝕀 S1x256x1024 .bf16 → FVec 𝕀 S1024x1024 .f32) (K : S1x1024x256.Idx → EReal)
    (Q : S8x256x1024.Idx → EReal) (M : S8x1x1024.Idx → EReal) (h : Fin 8) : S1x1x1024.Idx → EReal :=
  mOut (S K (slotQ h Q)) (slot1 h M)

/-- The eight new denominators, one slot each. -/
def lG (S : FVec 𝕀 S1x1024x256 .bf16 → FVec 𝕀 S1x256x1024 .bf16 → FVec 𝕀 S1024x1024 .f32) (K : S1x1024x256.Idx → EReal)
    (Q : S8x256x1024.Idx → EReal) (M L : S8x1x1024.Idx → EReal) (h : Fin 8) : S1x1x1024.Idx → EReal :=
  lOut (S K (slotQ h Q)) (slot1 h M) (slot1 h L)

/-- The eight new weighted sums, one slot each. -/
def aG (S : FVec 𝕀 S1x1024x256 .bf16 → FVec 𝕀 S1x256x1024 .bf16 → FVec 𝕀 S1024x1024 .f32) (K : S1x1024x256.Idx → EReal)
    (Q : S8x256x1024.Idx → EReal) (M : S8x1x1024.Idx → EReal) (V : S1x256x1024.Idx → EReal) (A : S8x64x1024.Idx → EReal) (h : Fin 8) :
    S1x64x1024.Idx → EReal :=
  aOut (S K (slotQ h Q)) (slot1 h M) (slotV h V) (slotA h A)

/-- The eight masked copies of the query tile, one slot each. -/
def qG (X : S1x256x1024.Idx → EReal) (h : Fin 8) : S1x256x1024.Idx → EReal := qPay h X

/-- Equal key tiles, query slots and maxima give equal new maxima. -/
theorem mEq {S : FVec 𝕀 S1x1024x256 .bf16 → FVec 𝕀 S1x256x1024 .bf16 → FVec 𝕀 S1024x1024 .f32} {K K' Q Q' M M'}
    (hK : K = K') (hQ : Q = Q') (hM : M = M') : mOut (S K Q) M = mOut (S K' Q') M' := by
  rw [hK, hQ, hM]

/-- Equal inputs give equal new denominators. -/
theorem lEq {S : FVec 𝕀 S1x1024x256 .bf16 → FVec 𝕀 S1x256x1024 .bf16 → FVec 𝕀 S1024x1024 .f32} {K K' Q Q' M M' L L'}
    (hK : K = K') (hQ : Q = Q') (hM : M = M') (hL : L = L') : lOut (S K Q) M L = lOut (S K' Q') M' L' := by
  rw [hK, hQ, hM, hL]

/-- Equal inputs give equal new weighted sums. -/
theorem aEq {S : FVec 𝕀 S1x1024x256 .bf16 → FVec 𝕀 S1x256x1024 .bf16 → FVec 𝕀 S1024x1024 .f32} {K K' Q Q' M M' V V' A A'}
    (hK : K = K') (hQ : Q = Q') (hM : M = M') (hV : V = V') (hA : A = A') : aOut (S K Q) M V A = aOut (S K' Q') M' V' A' := by
  rw [hK, hQ, hM, hV, hA]

/-- A load of the whole key block reads the block. -/
theorem loadK (a : Memref sig .tc .vmem S1x1024x256 .bf16) (x : S1x1024x256.Idx → EReal) :
    View.readAt (Elt 𝕀) a.view (Rect.unit ![0, 0, 0] S1x1024x256.size inb_S1x1024x256_S1x1024x256_0_0_0).toLoadRect (a.view.rep x) = x := by
  rw [View.readAt_rep]
  funext y
  refine congrArg x ?_
  funext z
  refine Fin.ext ?_
  fin_cases z <;> simp [Rect.toLoadRect, Rect.unit, LoadRect.idx]

/-- A load of the whole query block reads the block. -/
theorem loadQ (a : Memref sig .tc .vmem S1x256x1024 .bf16) (x : S1x256x1024.Idx → EReal) :
    View.readAt (Elt 𝕀) a.view (Rect.unit ![0, 0, 0] S1x256x1024.size inb_S1x256x1024_S1x256x1024_0_0_0).toLoadRect (a.view.rep x) = x := by
  rw [View.readAt_rep]
  funext y
  refine congrArg x ?_
  funext z
  refine Fin.ext ?_
  fin_cases z <;> simp [Rect.toLoadRect, Rect.unit, LoadRect.idx]

/-- A load of 64 rows of the values from a head's first row reads that head's values. -/
theorem loadV (h : Fin 8) {o : ℕ} (ho : o = 64 * (h.val / 2)) (a : Memref sig .tc .vmem S1x256x1024 .bf16) (x : S1x256x1024.Idx → EReal)
    (inb : ∀ z, (![0, o, 0] : Fin 3 → ℕ) z + S1x64x1024.size z ≤ S1x256x1024.size z) :
    View.readAt (Elt 𝕀) a.view (Rect.unit (s := S1x256x1024) ![0, o, 0] S1x64x1024.size inb).toLoadRect (a.view.rep x) = slotV h x := by
  rw [View.readAt_rep]
  funext y
  refine congrArg x ?_
  funext z
  refine Fin.ext ?_
  subst ho
  have h0 : (y 0).val < 1 := (y 0).isLt
  fin_cases z <;> simp [Rect.toLoadRect, Rect.unit, LoadRect.idx, vrow]

end Cert.KernelIdeal.Att

end
-- ==== Proof.Online.lean ====
/- The running softmax of a flash-attention kernel over extended reals: keeping the largest score so far, the sum of the
   weights and the weighted sum of the values, rescaled whenever the largest score grows, is the softmax's own sums. -/
module

public import Idealize.ShloMosaic.PureOps.Ideal
public import Mathlib.Analysis.SpecialFunctions.Exp

@[expose] public section

noncomputable section

namespace Cert.Online

open Idealize.ShloMosaic

/-- The exponential of an extended real is a real number or the top. -/
theorem exp_nonneg (x : EReal) : 0 ≤ Ideal.exp x := by
  induction x with
  | bot => exact le_refl _
  | top => exact le_top
  | coe r => exact EReal.coe_nonneg.mpr (Real.exp_pos r).le

/-- The weight of a score `s` against a largest score `a`, as a real number. -/
def wt (s a : EReal) : ℝ := (Ideal.exp (s - a)).toReal

/-- Below the largest score the exponential is a real number. -/
theorem exp_eq_wt {s a : EReal} (h : s ≤ a) : Ideal.exp (s - a) = ((wt s a : ℝ) : EReal) := by
  unfold wt
  induction a with
  | bot =>
    obtain rfl : s = ⊥ := le_bot_iff.mp h
    rfl
  | top =>
    have : s - ⊤ = ⊥ := by rw [sub_eq_add_neg, EReal.neg_top, EReal.add_bot]
    rw [this]; rfl
  | coe a =>
    induction s with
    | bot => rw [EReal.bot_sub]; rfl
    | top => exact absurd h (by simp)
    | coe s => rw [← EReal.coe_sub]; rfl

theorem wt_nonneg (s a : EReal) : 0 ≤ wt s a := EReal.toReal_nonneg (exp_nonneg _)

/-- A key that is masked out has weight zero. -/
theorem wt_bot (a : EReal) : wt ⊥ a = 0 := by
  unfold wt; rw [EReal.bot_sub]; rfl

/-- Rescaling a weight from one largest score to a larger one. -/
theorem wt_mul {s a b : EReal} (h : s ≤ a) (h' : a ≤ b) : wt a b * wt s a = wt s b := by
  induction s with
  | bot => rw [wt_bot, wt_bot, mul_zero]
  | top =>
    obtain rfl : a = ⊤ := top_le_iff.mp h
    obtain rfl : b = ⊤ := top_le_iff.mp h'
    have : (⊤ : EReal) - ⊤ = ⊥ := by rw [sub_eq_add_neg, EReal.neg_top, EReal.add_bot]
    unfold wt; rw [this]
    show (0 : EReal).toReal * (0 : EReal).toReal = (0 : EReal).toReal
    simp
  | coe s =>
    induction a with
    | bot => exact absurd h (by simp)
    | top =>
      obtain rfl : b = ⊤ := top_le_iff.mp h'
      have h1 : ∀ x : EReal, wt x ⊤ = 0 := fun x => by
        unfold wt; rw [sub_eq_add_neg, EReal.neg_top, EReal.add_bot]; rfl
      rw [h1, h1, zero_mul]
    | coe a =>
      induction b with
      | bot => exact absurd h' (by simp)
      | top =>
        have h1 : ∀ x : EReal, wt x ⊤ = 0 := fun x => by
          unfold wt; rw [sub_eq_add_neg, EReal.neg_top, EReal.add_bot]; rfl
        rw [h1, h1, zero_mul]
      | coe b =>
        have hw : ∀ x y : ℝ, wt x y = Real.exp (x - y) := fun x y => by
          unfold wt; rw [← EReal.coe_sub]; rfl
        rw [hw, hw, hw, ← Real.exp_add]; congr 1; ring

/-- The largest of the first `n` scores. -/
def top (S : ℕ → EReal) (n : ℕ) : EReal := (Finset.range n).sup S
/-- The sum of the first `n` weights. -/
def den (S : ℕ → EReal) (n : ℕ) : ℝ := ∑ k ∈ Finset.range n, wt (S k) (top S n)
/-- The weighted sum of the first `n` values. -/
def num (S : ℕ → EReal) (v : ℕ → ℝ) (n : ℕ) : ℝ := ∑ k ∈ Finset.range n, wt (S k) (top S n) * v k

theorem top_zero (S : ℕ → EReal) : top S 0 = ⊥ := by simp [top]
theorem den_zero (S : ℕ → EReal) : den S 0 = 0 := by simp [den]
theorem num_zero (S : ℕ → EReal) (v : ℕ → ℝ) : num S v 0 = 0 := by simp [num]

theorem le_top {S : ℕ → EReal} {n k : ℕ} (h : k < n) : S k ≤ top S n := Finset.le_sup (Finset.mem_range.mpr h)

/-- One more tile of `t` keys: the largest score. -/
theorem top_add (S : ℕ → EReal) (n t : ℕ) :
    top S (n + t) = max (top S n) (Finset.univ.sup fun j : Fin t => S (n + j.val)) := by
  apply le_antisymm
  · refine Finset.sup_le fun k hk => ?_
    rw [Finset.mem_range] at hk
    by_cases h : k < n
    · exact (le_top h).trans (le_max_left _ _)
    · refine le_trans ?_ (le_max_right _ _)
      have : S k = (fun j : Fin t => S (n + j.val)) ⟨k - n, by omega⟩ := by
        show S k = S (n + (k - n)); congr 1; omega
      rw [this]; exact Finset.le_sup (f := fun j : Fin t => S (n + j.val)) (Finset.mem_univ _)
  · refine max_le (Finset.sup_le fun k hk => le_top (by rw [Finset.mem_range] at hk; omega)) ?_
    exact Finset.sup_le fun j _ => le_top (by omega)

theorem top_le_add (S : ℕ → EReal) (n t : ℕ) : top S n ≤ top S (n + t) := by rw [top_add]; exact le_max_left _ _

/-- One more tile of `t` keys: the weighted sum, in real numbers. -/
theorem num_add (S : ℕ → EReal) (v : ℕ → ℝ) (n t : ℕ) :
    num S v (n + t) = wt (top S n) (top S (n + t)) * num S v n
      + ∑ j : Fin t, wt (S (n + j.val)) (top S (n + t)) * v (n + j.val) := by
  unfold num
  rw [Finset.sum_range_add, Finset.mul_sum, Finset.sum_range (n := t)]
  congr 1
  refine Finset.sum_congr rfl fun k hk => ?_
  rw [← mul_assoc, wt_mul (le_top (Finset.mem_range.mp hk)) (top_le_add S n t)]

theorem den_eq_num (S : ℕ → EReal) (n : ℕ) : den S n = num S (fun _ => 1) n := by simp [den, num]

/-- One more tile of `t` keys: the sum of the weights, in real numbers. -/
theorem den_add (S : ℕ → EReal) (n t : ℕ) :
    den S (n + t) = wt (top S n) (top S (n + t)) * den S n + ∑ j : Fin t, wt (S (n + j.val)) (top S (n + t)) := by
  simp only [den_eq_num, num_add, mul_one]

/-- A finite sum of real numbers, summed as extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The kernel's new largest score, with the factor the old sums are rescaled by, in extended reals. -/
theorem den_step (S : ℕ → EReal) (n t : ℕ) {mn : EReal} (hm : mn = top S (n + t)) :
    Ideal.exp (top S n - mn) * (den S n : EReal) + ∑ j : Fin t, Ideal.exp (S (n + j.val) - mn) = (den S (n + t) : EReal) := by
  subst hm
  rw [exp_eq_wt (top_le_add S n t), den_add, EReal.coe_add, EReal.coe_mul, coe_sum]
  congr 1
  exact Finset.sum_congr rfl fun j _ => exp_eq_wt (le_top (by omega))

/-- The kernel's new weighted sum, in extended reals. -/
theorem num_step (S : ℕ → EReal) (v : ℕ → ℝ) (n t : ℕ) {mn : EReal} (hm : mn = top S (n + t)) :
    Ideal.exp (top S n - mn) * (num S v n : EReal) + ∑ j : Fin t, (v (n + j.val) : EReal) * Ideal.exp (S (n + j.val) - mn)
      = (num S v (n + t) : EReal) := by
  subst hm
  rw [exp_eq_wt (top_le_add S n t), num_add, EReal.coe_add, EReal.coe_mul, coe_sum]
  congr 1
  refine Finset.sum_congr rfl fun j _ => ?_
  rw [exp_eq_wt (le_top (by omega)), EReal.coe_mul, mul_comm]

/-- Keys past the `n`-th that are all masked out change nothing. -/
theorem top_masked (S : ℕ → EReal) {n N : ℕ} (h : n ≤ N) (hb : ∀ k, n ≤ k → S k = ⊥) : top S N = top S n := by
  refine le_antisymm (Finset.sup_le fun k hk => ?_) ?_
  · by_cases hk' : k < n
    · exact le_top hk'
    · rw [hb k (by omega)]; exact bot_le
  · obtain ⟨t, rfl⟩ := Nat.exists_eq_add_of_le h; exact top_le_add S n t

theorem num_masked (S : ℕ → EReal) (v : ℕ → ℝ) {n N : ℕ} (h : n ≤ N) (hb : ∀ k, n ≤ k → S k = ⊥) : num S v N = num S v n := by
  unfold num
  rw [top_masked S h hb]
  symm
  refine Finset.sum_subset (fun k hk => by rw [Finset.mem_range] at hk ⊢; omega) fun k _ hk => ?_
  rw [Finset.mem_range] at hk
  rw [hb k (by omega), wt_bot, zero_mul]

theorem den_masked (S : ℕ → EReal) {n N : ℕ} (h : n ≤ N) (hb : ∀ k, n ≤ k → S k = ⊥) : den S N = den S n := by
  simp only [den_eq_num, num_masked S _ h hb]

/-- The largest score over `N` keys, as the reference takes it. -/
theorem top_fin (S : ℕ → EReal) (N : ℕ) : top S N = Finset.univ.sup fun j : Fin N => S j.val := by
  have h := top_add S 0 N
  rw [top_zero, zero_add, max_eq_right bot_le] at h
  rw [h]; congr 1; funext j; rw [zero_add]

theorem den_fin (S : ℕ → EReal) (N : ℕ) :
    (den S N : EReal) = ∑ j : Fin N, Ideal.exp (S j.val - top S N) := by
  unfold den
  rw [Finset.sum_range (n := N), coe_sum]
  exact Finset.sum_congr rfl fun j _ => (exp_eq_wt (le_top j.isLt)).symm

/-- If the weights sum to zero, each is zero. -/
theorem wt_zero_of_den {S : ℕ → EReal} {N k : ℕ} (h : den S N = 0) (hk : k < N) : wt (S k) (top S N) = 0 :=
  (Finset.sum_eq_zero_iff_of_nonneg fun i _ => wt_nonneg _ _).mp h k (Finset.mem_range.mpr hk)

theorem num_zero_of_den {S : ℕ → EReal} (v : ℕ → ℝ) {N : ℕ} (h : den S N = 0) : num S v N = 0 :=
  Finset.sum_eq_zero fun k hk => by rw [wt_zero_of_den h (Finset.mem_range.mp hk), zero_mul]

/-! ## The two maps of differential attention -/

/-- The division of two real numbers, the divisor not zero. -/
theorem div_real {y : ℝ} (h : y ≠ 0) (x : ℝ) : Ideal.div (x : EReal) (y : EReal) = ((x / y : ℝ) : EReal) := by
  rw [Ideal.div_coe h, ← EReal.coe_mul]; congr 1; ring

theorem div_zero_zero : Ideal.div ((0 : ℝ) : EReal) ((0 : ℝ) : EReal) = ⊥ := by
  simp [Ideal.div]

/-- The output the kernel has before the norm: the two maps' quotients, the second times `lam` taken off. -/
def outK (S₀ S₁ : ℕ → EReal) (lam : ℝ) (N : ℕ) (v : ℕ → ℝ) : EReal :=
  Ideal.div (num S₀ v N : EReal) (den S₀ N : EReal) - (lam : EReal) * Ideal.div (num S₁ v N : EReal) (den S₁ N : EReal)

/-- The weight the reference gives key `k`: the difference of the two softmaxes. -/
def wR (S₀ S₁ : ℕ → EReal) (lam : ℝ) (N k : ℕ) : EReal :=
  Ideal.div (Ideal.exp (S₀ k - top S₀ N)) (den S₀ N : EReal)
    - (lam : EReal) * Ideal.div (Ideal.exp (S₁ k - top S₁ N)) (den S₁ N : EReal)

/-- The output the reference has before the norm. -/
def outR (S₀ S₁ : ℕ → EReal) (lam : ℝ) (N : ℕ) (v : ℕ → ℝ) : EReal :=
  ∑ k : Fin N, (v k.val : EReal) * wR S₀ S₁ lam N k.val

/-- Away from a vanishing sum of weights the two outputs are the same real number. -/
theorem out_eq_of_real {S₀ S₁ : ℕ → EReal} {lam : ℝ} {N : ℕ} (h₀ : den S₀ N ≠ 0) (h₁ : den S₁ N ≠ 0) (v : ℕ → ℝ) :
    outK S₀ S₁ lam N v = outR S₀ S₁ lam N v := by
  have hw : ∀ k : Fin N, (v k.val : EReal) * wR S₀ S₁ lam N k.val
      = ((v k.val * (wt (S₀ k.val) (top S₀ N) / den S₀ N - lam * (wt (S₁ k.val) (top S₁ N) / den S₁ N)) : ℝ) : EReal) := by
    intro k
    unfold wR
    rw [exp_eq_wt (le_top k.isLt), exp_eq_wt (le_top k.isLt), div_real h₀, div_real h₁, ← EReal.coe_mul, ← EReal.coe_sub,
      ← EReal.coe_mul]
  unfold outK outR
  rw [Finset.sum_congr rfl fun k _ => hw k, ← coe_sum, div_real h₀, div_real h₁, ← EReal.coe_mul, ← EReal.coe_sub]
  congr 1
  unfold num
  rw [Finset.sum_range (n := N), Finset.sum_range (n := N), Finset.sum_div, Finset.sum_div, Finset.mul_sum,
    ← Finset.sum_sub_distrib]
  exact Finset.sum_congr rfl fun k _ => by ring

/-- With the second map switched off its sum of weights does not matter. -/
theorem out_eq_of_lam_zero {S₀ S₁ : ℕ → EReal} {N : ℕ} (h₀ : den S₀ N ≠ 0) (v : ℕ → ℝ) :
    outK S₀ S₁ 0 N v = outR S₀ S₁ 0 N v := by
  have hw : ∀ k : Fin N, (v k.val : EReal) * wR S₀ S₁ 0 N k.val
      = ((v k.val * (wt (S₀ k.val) (top S₀ N) / den S₀ N) : ℝ) : EReal) := by
    intro k
    unfold wR
    rw [exp_eq_wt (le_top k.isLt), div_real h₀, EReal.coe_zero, zero_mul, sub_zero, ← EReal.coe_mul]
  unfold outK outR
  rw [Finset.sum_congr rfl fun k _ => hw k, ← coe_sum, div_real h₀, EReal.coe_zero, zero_mul, sub_zero]
  congr 1
  unfold num
  rw [Finset.sum_range (n := N), Finset.sum_div]
  exact Finset.sum_congr rfl fun k _ => by ring

theorem coe_mul_inf {c : EReal} (hc : c = ⊥ ∨ c = ⊤) (x : ℝ) : (x : EReal) * c = 0 ∨ (x : EReal) * c = ⊥ ∨ (x : EReal) * c = ⊤ := by
  rcases lt_trichotomy x 0 with h | rfl | h
  · rcases hc with rfl | rfl
    · right; right; exact EReal.coe_mul_bot_of_neg h
    · right; left; exact EReal.coe_mul_top_of_neg h
  · left; rw [EReal.coe_zero, zero_mul]
  · rcases hc with rfl | rfl
    · right; left; exact EReal.coe_mul_bot_of_pos h
    · right; right; exact EReal.coe_mul_top_of_pos h

theorem add_inf {x y : EReal} (hx : x = 0 ∨ x = ⊥ ∨ x = ⊤) (hy : y = 0 ∨ y = ⊥ ∨ y = ⊤) : x + y = 0 ∨ x + y = ⊥ ∨ x + y = ⊤ := by
  rcases hx with rfl | rfl | rfl <;> rcases hy with rfl | rfl | rfl <;> simp

theorem sum_inf {ι : Type*} (s : Finset ι) (f : ι → EReal) (h : ∀ i ∈ s, f i = 0 ∨ f i = ⊥ ∨ f i = ⊤) :
    ∑ i ∈ s, f i = 0 ∨ ∑ i ∈ s, f i = ⊥ ∨ ∑ i ∈ s, f i = ⊤ := by
  classical
  induction s using Finset.induction_on with
  | empty => left; simp
  | insert a s ha ih =>
    rw [Finset.sum_insert ha]
    exact add_inf (h a (Finset.mem_insert_self _ _)) (ih fun i hi => h i (Finset.mem_insert_of_mem hi))

/-- Where a sum of weights vanishes (every score is infinite) both outputs are zero or infinite throughout. -/
theorem out_inf {S₀ S₁ : ℕ → EReal} {lam : ℝ} {N : ℕ} (h : den S₀ N = 0 ∨ (den S₁ N = 0 ∧ lam ≠ 0)) :
    (∀ v, outK S₀ S₁ lam N v = 0 ∨ outK S₀ S₁ lam N v = ⊥ ∨ outK S₀ S₁ lam N v = ⊤)
      ∧ ∀ v, outR S₀ S₁ lam N v = 0 ∨ outR S₀ S₁ lam N v = ⊥ ∨ outR S₀ S₁ lam N v = ⊤ := by
  by_cases h₀ : den S₀ N = 0
  · have hb : ∀ y : EReal, ⊥ - y = ⊥ := fun y => EReal.bot_sub y
    refine ⟨fun v => ?_, fun v => sum_inf _ _ fun k _ => coe_mul_inf ?_ _⟩
    · right; left
      unfold outK; rw [h₀, num_zero_of_den v h₀, div_zero_zero, hb]
    · left
      unfold wR
      rw [exp_eq_wt (le_top k.isLt), wt_zero_of_den h₀ k.isLt, h₀, div_zero_zero, hb]
  · obtain ⟨h₁, hl⟩ : den S₁ N = 0 ∧ lam ≠ 0 := by
      rcases h with h | h
      · exact absurd h h₀
      · exact h
    have hc : ∀ x : ℝ, (x : EReal) - (lam : EReal) * ⊥ = ⊥ ∨ (x : EReal) - (lam : EReal) * ⊥ = ⊤ := by
      intro x
      rcases lt_or_gt_of_ne hl with hl | hl
      · left; rw [EReal.coe_mul_bot_of_neg hl, sub_eq_add_neg, EReal.neg_top, EReal.add_bot]
      · right; rw [EReal.coe_mul_bot_of_pos hl, sub_eq_add_neg, EReal.neg_bot, EReal.coe_add_top]
    refine ⟨fun v => ?_, fun v => sum_inf _ _ fun k _ => coe_mul_inf ?_ _⟩
    · right
      unfold outK; rw [h₁, num_zero_of_den v h₁, div_zero_zero, div_real h₀]; exact hc _
    · unfold wR
      rw [exp_eq_wt (le_top k.isLt), exp_eq_wt (le_top k.isLt), wt_zero_of_den h₁ k.isLt, h₁, div_zero_zero, div_real h₀]
      exact hc _

/-- A nonnegative sum with an infinite term is infinite. -/
theorem sum_top {ι : Type*} [DecidableEq ι] (s : Finset ι) (f : ι → EReal) (h0 : ∀ i ∈ s, 0 ≤ f i) {i : ι} (hi : i ∈ s) (h : f i = ⊤) :
    ∑ i ∈ s, f i = ⊤ := by
  refine top_le_iff.mp (h ▸ Finset.single_le_sum (f := f) h0 hi)

/-- The norm of an output over its `E` lanes. -/
def normed {E : ℕ} (D eps : EReal) (O : Fin E → EReal) (e : Fin E) : EReal :=
  O e * Ideal.rsqrt (Ideal.div (∑ e', O e' * O e') D + eps)

/-- An output that is zero or infinite throughout has a norm that is zero throughout. -/
theorem normed_inf {E : ℕ} {D eps : ℝ} (hD : 0 < D) (O : Fin E → EReal) (h : ∀ e, O e = 0 ∨ O e = ⊥ ∨ O e = ⊤) (e : Fin E) :
    normed (D : EReal) (eps : EReal) O e = 0 := by
  unfold normed
  by_cases h0 : ∀ e', O e' = 0
  · rw [h0 e, zero_mul]
  · obtain ⟨e', he'⟩ := not_forall.mp h0
    have hs : ∑ e', O e' * O e' = ⊤ := by
      refine sum_top _ _ (fun i _ => ?_) (Finset.mem_univ e') ?_
      · rcases h i with h | h | h <;> rw [h] <;> simp
      · rcases h e' with h | h | h
        · exact absurd h he'
        · rw [h]; simp
        · rw [h]; simp
    rw [hs, Ideal.div_coe hD.ne', EReal.top_mul_coe_of_pos (by positivity), EReal.top_add_coe]
    show O e * 0 = 0
    rw [mul_zero]

/-- The two outputs have the same norm, whatever the scores: the kernel's differential attention is the reference's. -/
theorem normed_out {E : ℕ} {D eps : ℝ} (hD : 0 < D) (S₀ S₁ : ℕ → EReal) (lam : ℝ) (N : ℕ) (v : Fin E → ℕ → ℝ) (e : Fin E) :
    normed (D : EReal) (eps : EReal) (fun e => outK S₀ S₁ lam N (v e)) e
      = normed (D : EReal) (eps : EReal) (fun e => outR S₀ S₁ lam N (v e)) e := by
  by_cases h : den S₀ N = 0 ∨ (den S₁ N = 0 ∧ lam ≠ 0)
  · obtain ⟨hK, hR⟩ := out_inf h
    rw [normed_inf hD _ (fun e => hK (v e)), normed_inf hD _ (fun e => hR (v e))]
  · rw [not_or, not_and, not_not] at h
    have : (fun e => outK S₀ S₁ lam N (v e)) = fun e => outR S₀ S₁ lam N (v e) := by
      funext e
      by_cases h₁ : den S₁ N = 0
      · obtain rfl := h.2 h₁
        exact out_eq_of_lam_zero h.1 _
      · exact out_eq_of_real h.1 h₁ _
    rw [this]

end Cert.Online

end
-- ==== Proof.Out.lean ====
/- What the kernel writes at a diagonal tile: the heads' outputs from the weighted sums and the denominators. -/
module

public import proofs.«01_k».proof.Proof.Tile
public import Idealize.ShloMosaic.Lib.VecWindow
public import proofs.«01_k».proof.Proof.Online

@[expose] public section

set_option maxRecDepth 16384
set_option maxHeartbeats 400000

noncomputable section

namespace Cert.KernelIdeal.Att

open Idealize.ShloMosaic Idealize.ShloMosaic.TcCoe Cert.KernelIdeal Cert.KernelIdeal.Gen Cert.Online
local notation "𝕀" => Idealize.ShloMosaic.Ideal

/-- The head width and the norm's epsilon, as the kernel has them. -/
def widthC : EReal := Idealize.ShloMosaic.Ideal.ofBits .f32 0x42800000#32
def epsC : EReal := Idealize.ShloMosaic.Ideal.ofBits .f32 0x358637BD#32
/-- The constant `lam_init` and one minus it. -/
def initC : EReal := Idealize.ShloMosaic.Ideal.ofBits .f32 0x3E4CCCCD#32
def restC : EReal := Idealize.ShloMosaic.Ideal.ofBits .f32 0x3F4CCCCD#32

/-- One head before the norm: the first map's quotient, less `w` times the second's. -/
def headO (w : EReal) (a0 a1 : FVec 𝕀 S1x64x1024 .f32) (l0 l1 : FVec 𝕀 S1x1x1024 .f32) (i : Fin 1024) (e : Fin 64) : EReal :=
  Idealize.ShloMosaic.Ideal.div (a0 (ix3 0 e i)) (l0 (ix3 0 0 i)) - w * Idealize.ShloMosaic.Ideal.div (a1 (ix3 0 e i)) (l1 (ix3 0 0 i))

theorem head0_apply (w : FVec 𝕀 S1x1 .f32) (a0 a1 : FVec 𝕀 S1x64x1024 .f32) (l0 l1 : FVec 𝕀 S1x1x1024 .f32) (e : Fin 64) (i : Fin 1024) :
    k0_pay167 w a0 l0 a1 l1 (ix2 e i) = normed widthC epsC (headO (w (ix2 0 0)) a0 a1 l0 l1 i) e := by
  unfold k0_pay167 normed headO
  pointwise
  rfl

theorem head1_apply (w : FVec 𝕀 S1x1 .f32) (a0 a1 : FVec 𝕀 S1x64x1024 .f32) (l0 l1 : FVec 𝕀 S1x1x1024 .f32) (e : Fin 64) (i : Fin 1024) :
    k0_pay171 w (k0_pay168 a0 l0) (k0_pay169 a1) (k0_pay170 l1) (ix2 e i) = normed widthC epsC (headO (w (ix2 0 0)) a0 a1 l0 l1 i) e := by
  unfold k0_pay171 k0_pay168 k0_pay169 k0_pay170 normed headO
  pointwise
  rfl

theorem head2_apply (w : FVec 𝕀 S1x1 .f32) (a0 a1 : FVec 𝕀 S1x64x1024 .f32) (l0 l1 : FVec 𝕀 S1x1x1024 .f32) (e : Fin 64) (i : Fin 1024) :
    k0_pay172 w a0 l0 a1 l1 (ix2 e i) = normed widthC epsC (headO (w (ix2 0 0)) a0 a1 l0 l1 i) e := by
  unfold k0_pay172 normed headO
  pointwise
  rfl

/-- The written block, from the word of lambda, the eight weighted sums and denominators, and the norm's weights. -/
def outW (w : FVec 𝕀 S1x1 .f32) (a : Fin 8 → FVec 𝕀 S1x64x1024 .f32) (l : Fin 8 → FVec 𝕀 S1x1x1024 .f32) (s : FVec 𝕀 S1x256 .f32) :
    FVec 𝕀 S1x1024x256 .f32 :=
  k0_pay5 (k0_pay173 w (k0_pay167 w (a 0) (l 0) (a 1) (l 1)) (k0_pay171 w (k0_pay168 (a 2) (l 2)) (k0_pay169 (a 3)) (k0_pay170 (l 3)))
    (k0_pay172 w (a 4) (l 4) (a 5) (l 5)) (a 6) (l 6) (a 7) (l 7) s) (Scalar.ofBits .f32 0x3F4CCCCD#32 : 𝕀 .f32)

/-- The written block from equal words. -/
theorem outEq (a : Fin 8 → FVec 𝕀 S1x64x1024 .f32) (l : Fin 8 → FVec 𝕀 S1x1x1024 .f32) {w w' : FVec 𝕀 S1x1 .f32} {s s' : FVec 𝕀 S1x256 .f32}
    {a0 a1 a2 a3 a4 a5 a6 a7 : FVec 𝕀 S1x64x1024 .f32} {l0 l1 l2 l3 l4 l5 l6 l7 : FVec 𝕀 S1x1x1024 .f32} (hw : w = w') (hs : s = s')
    (ha0 : a0 = a 0) (ha1 : a1 = a 1) (ha2 : a2 = a 2) (ha3 : a3 = a 3) (ha4 : a4 = a 4) (ha5 : a5 = a 5) (ha6 : a6 = a 6) (ha7 : a7 = a 7)
    (hl0 : l0 = l 0) (hl1 : l1 = l 1) (hl2 : l2 = l 2) (hl3 : l3 = l 3) (hl4 : l4 = l 4) (hl5 : l5 = l 5) (hl6 : l6 = l 6) (hl7 : l7 = l 7) :
    k0_pay5 (k0_pay173 w (k0_pay167 w a0 l0 a1 l1) (k0_pay171 w (k0_pay168 a2 l2) (k0_pay169 a3) (k0_pay170 l3))
      (k0_pay172 w a4 l4 a5 l5) a6 l6 a7 l7 s) (Scalar.ofBits .f32 0x3F4CCCCD#32 : 𝕀 .f32) = outW w' a l s' := by
  subst hw hs ha0 ha1 ha2 ha3 ha4 ha5 ha6 ha7 hl0 hl1 hl2 hl3 hl4 hl5 hl6 hl7
  rfl

/-- Feature `64 h + e` of the written block, at query `i`. -/
theorem outW_apply (w : FVec 𝕀 S1x1 .f32) (a : Fin 8 → FVec 𝕀 S1x64x1024 .f32) (l : Fin 8 → FVec 𝕀 S1x1x1024 .f32) (s : FVec 𝕀 S1x256 .f32)
    (i : Fin 1024) (h : Fin 4) (e : Fin 64) :
    outW w a l s (ix3 0 i ⟨64 * h.val + e.val, by omega⟩) =
      normed widthC epsC (headO (w (ix2 0 0)) (a ⟨2 * h.val, by omega⟩) (a ⟨2 * h.val + 1, by omega⟩) (l ⟨2 * h.val, by omega⟩) (l ⟨2 * h.val + 1, by omega⟩) i) e
        * s (ix2 0 ⟨64 * h.val + e.val, by omega⟩) * restC := by
  unfold outW k0_pay5 k0_pay173
  pointwise
  congr 2
  obtain hh | hh | hh | hh : h = 0 ∨ h = 1 ∨ h = 2 ∨ h = 3 := by omega
  · subst hh
    rw [dif_pos (show 64 * (0 : Fin 4).val + e.val < 64 by simp)]
    refine (head0_apply ..).trans ?_
    exact congrArg _ (Fin.ext (by simp))
  · subst hh
    rw [dif_neg (show ¬ 64 * (1 : Fin 4).val + e.val < 64 by simp), dif_pos (show 64 * (1 : Fin 4).val + e.val - 64 < 64 by simp)]
    refine (head1_apply ..).trans ?_
    exact congrArg _ (Fin.ext (by simp))
  · subst hh
    have h2 : (2 : Fin 4).val = 2 := rfl
    rw [dif_neg (show ¬ 64 * (2 : Fin 4).val + e.val < 64 by omega), dif_neg (show ¬ 64 * (2 : Fin 4).val + e.val - 64 < 64 by omega),
      dif_pos (show 64 * (2 : Fin 4).val + e.val - 64 - 64 < 64 by omega)]
    refine (head2_apply ..).trans ?_
    exact congrArg _ (Fin.ext (by simp only [h2]; omega))
  · subst hh
    have h3 : (3 : Fin 4).val = 3 := rfl
    rw [dif_neg (show ¬ 64 * (3 : Fin 4).val + e.val < 64 by omega), dif_neg (show ¬ 64 * (3 : Fin 4).val + e.val - 64 < 64 by omega),
      dif_neg (show ¬ 64 * (3 : Fin 4).val + e.val - 64 - 64 < 64 by omega)]
    have he : (⟨64 * (3 : Fin 4).val + e.val - 64 - 64 - 64, by omega⟩ : Fin 64) = e := Fin.ext (by simp only [h3]; omega)
    rw [he]
    rfl

/-- The word of lambda, from its four rows. -/
theorem lam_apply (r0 r1 r2 r3 : FVec 𝕀 S1x32 .f32) :
    (k0_pay166 r0 r1 r2 r3 : FVec 𝕀 S1x1 .f32) (ix2 0 0) = Idealize.ShloMosaic.Ideal.exp (∑ d : Fin 32, r0 (ix2 0 d) * r1 (ix2 0 d))
      - Idealize.ShloMosaic.Ideal.exp (∑ d : Fin 32, r2 (ix2 0 d) * r3 (ix2 0 d)) + initC := by
  unfold k0_pay166
  pointwise
  rfl

/-- Row `k` of the weights of lambda. -/
def lamRow (k : Fin 4) (x : S4x32.Idx → EReal) : FVec 𝕀 S1x32 .f32 := fun y => x (ix2 k (y 1))

/-- The word of lambda from its weights. -/
def lamW (x : S4x32.Idx → EReal) : FVec 𝕀 S1x1 .f32 := k0_pay166 (lamRow 0 x) (lamRow 1 x) (lamRow 2 x) (lamRow 3 x)

/-- A load of one row of the weights of lambda. -/
theorem loadRow (a : Memref sig .tc .vmem S4x32 .f32) (x : S4x32.Idx → EReal) {k : ℕ} (hk : k < 4)
    (inb : ∀ z, (![k, 0] : Fin 2 → ℕ) z + S1x32.size z ≤ S4x32.size z) :
    View.readAt (Elt 𝕀) a.view (Rect.unit (s := S4x32) ![k, 0] S1x32.size inb).toLoadRect (a.view.rep x) = lamRow ⟨k, hk⟩ x := by
  rw [View.readAt_rep]
  funext y
  refine congrArg x ?_
  funext z
  refine Fin.ext ?_
  have h0 : (y 0).val = 0 := Nat.lt_one_iff.mp (y 0).isLt
  fin_cases z
  · simpa [Rect.toLoadRect, Rect.unit, LoadRect.idx] using h0
  · simp [Rect.toLoadRect, Rect.unit, LoadRect.idx]

/-- A load of the norm's weights reads them. -/
theorem loadS (a : Memref sig .tc .vmem S1x256 .f32) (x : S1x256.Idx → EReal) :
    View.readAt (Elt 𝕀) a.view (Rect.unit ![0, 0] S1x256.size inb_S1x256_S1x256_0_0).toLoadRect (a.view.rep x) = x := by
  rw [View.readAt_rep]
  funext y
  refine congrArg x ?_
  funext z
  refine Fin.ext ?_
  fin_cases z <;> simp [Rect.toLoadRect, Rect.unit, LoadRect.idx]

/-- The word of lambda from the loaded rows. -/
theorem lamEq (a : Memref sig .tc .vmem S4x32 .f32) (x : S4x32.Idx → EReal) :
    k0_pay166 (View.readAt (Elt 𝕀) a.view (Rect.unit (s := S4x32) ![0, 0] S1x32.size inb_S4x32_S1x32_0_0).toLoadRect (a.view.rep x))
      (View.readAt (Elt 𝕀) a.view (Rect.unit (s := S4x32) ![1, 0] S1x32.size inb_S4x32_S1x32_1_0).toLoadRect (a.view.rep x))
      (View.readAt (Elt 𝕀) a.view (Rect.unit (s := S4x32) ![2, 0] S1x32.size inb_S4x32_S1x32_2_0).toLoadRect (a.view.rep x))
      (View.readAt (Elt 𝕀) a.view (Rect.unit (s := S4x32) ![3, 0] S1x32.size inb_S4x32_S1x32_3_0).toLoadRect (a.view.rep x)) = lamW x := by
  rw [loadRow a x (by decide), loadRow a x (by decide), loadRow a x (by decide), loadRow a x (by decide)]
  rfl

end Cert.KernelIdeal.Att

end
-- ==== Proof.Slots.lean ====
/- A buffer of eight slots, one per map: what is read back after a store into each slot, and what a load of a slot reads. -/
module

public import Idealize.ShloMosaic.Lib.Pipeline.ValueKit
public import Idealize.ShloMosaic.Lib.WritesUnit

@[expose] public section

noncomputable section

namespace Cert.Slots

open Idealize.ShloMosaic

variable {sig : RefSig} {κ : Kind} {sp : Space} {e : EltTy} {Val : EltTy → Type} {a b : ℕ}

/-- Eight slots of `a` rows and `b` columns. -/
abbrev Eight (a b : ℕ) : Shape := ⟨3, ![8, a, b]⟩
/-- One slot. -/
abbrev One (a b : ℕ) : Shape := ⟨3, ![1, a, b]⟩

variable (v : View sig κ sp (Eight a b) e) (f : v.ty.Contents Val)

/-- The newest store's slot reads what was stored. -/
theorem hit {k : ℕ} (inb : ∀ x, (![k, 0, 0] : Fin 3 → ℕ) x + (One a b).size x ≤ (Eight a b).size x) (w : (One a b).Idx → Val e)
    (L : List (View.Piece Val (Eight a b) e)) (y : (Eight a b).Idx) (h : (y 0).val = k) :
    v.read Val (v.writes Val f ((⟨Rect.unit ![k, 0, 0] (One a b).size inb, w⟩ : View.Piece Val (Eight a b) e) :: L)) y = w (ix3 0 (y 1) (y 2)) := by
  refine View.read_writes_cons_unit_of_mem v f inb w L y (ix3 0 (y 1) (y 2)) rfl ?_
  intro x
  fin_cases x
  · simpa using h
  · simp
  · simp

/-- Another slot reads what the earlier stores left. -/
theorem miss {k : ℕ} (inb : ∀ x, (![k, 0, 0] : Fin 3 → ℕ) x + (One a b).size x ≤ (Eight a b).size x) (w : (One a b).Idx → Val e)
    (L : List (View.Piece Val (Eight a b) e)) (y : (Eight a b).Idx) (h : (y 0).val ≠ k) :
    v.read Val (v.writes Val f ((⟨Rect.unit ![k, 0, 0] (One a b).size inb, w⟩ : View.Piece Val (Eight a b) e) :: L)) y
      = v.read Val (v.writes Val f L) y := by
  refine View.read_writes_cons_unit_of_not_mem v f inb w L y rfl 0 ?_
  simp
  omega

/-- After a store into each of the eight slots, every slot reads its own store, whatever was there before. -/
theorem read_slots (G : Fin 8 → (One a b).Idx → Val e) {w0 w1 w2 w3 w4 w5 w6 w7 : (One a b).Idx → Val e}
    (i7 : ∀ x, (![7, 0, 0] : Fin 3 → ℕ) x + (One a b).size x ≤ (Eight a b).size x)
    (i6 : ∀ x, (![6, 0, 0] : Fin 3 → ℕ) x + (One a b).size x ≤ (Eight a b).size x)
    (i5 : ∀ x, (![5, 0, 0] : Fin 3 → ℕ) x + (One a b).size x ≤ (Eight a b).size x)
    (i4 : ∀ x, (![4, 0, 0] : Fin 3 → ℕ) x + (One a b).size x ≤ (Eight a b).size x)
    (i3 : ∀ x, (![3, 0, 0] : Fin 3 → ℕ) x + (One a b).size x ≤ (Eight a b).size x)
    (i2 : ∀ x, (![2, 0, 0] : Fin 3 → ℕ) x + (One a b).size x ≤ (Eight a b).size x)
    (i1 : ∀ x, (![1, 0, 0] : Fin 3 → ℕ) x + (One a b).size x ≤ (Eight a b).size x)
    (i0 : ∀ x, (![0, 0, 0] : Fin 3 → ℕ) x + (One a b).size x ≤ (Eight a b).size x)
    (L : List (View.Piece Val (Eight a b) e))
    (h7 : w7 = G 7) (h6 : w6 = G 6) (h5 : w5 = G 5) (h4 : w4 = G 4) (h3 : w3 = G 3) (h2 : w2 = G 2) (h1 : w1 = G 1) (h0 : w0 = G 0) :
    v.read Val (v.writes Val f ((⟨Rect.unit ![7, 0, 0] (One a b).size i7, w7⟩ : View.Piece Val (Eight a b) e)
      :: ⟨Rect.unit ![6, 0, 0] (One a b).size i6, w6⟩ :: ⟨Rect.unit ![5, 0, 0] (One a b).size i5, w5⟩
      :: ⟨Rect.unit ![4, 0, 0] (One a b).size i4, w4⟩ :: ⟨Rect.unit ![3, 0, 0] (One a b).size i3, w3⟩
      :: ⟨Rect.unit ![2, 0, 0] (One a b).size i2, w2⟩ :: ⟨Rect.unit ![1, 0, 0] (One a b).size i1, w1⟩
      :: ⟨Rect.unit ![0, 0, 0] (One a b).size i0, w0⟩ :: L)) = fun y => G (y 0) (ix3 0 (y 1) (y 2)) := by
  subst h7 h6 h5 h4 h3 h2 h1 h0
  funext y
  have key : ∀ k : Fin 8, y 0 = k → (y 0).val = k.val := fun k h => by rw [h]
  obtain ⟨k, hk⟩ : ∃ k : Fin 8, y 0 = k := ⟨_, rfl⟩
  have hv := key k hk
  rw [hk]
  fin_cases k
  · rw [miss v f i7 _ _ y (by rw [hv]; decide), miss v f i6 _ _ y (by rw [hv]; decide), miss v f i5 _ _ y (by rw [hv]; decide),
      miss v f i4 _ _ y (by rw [hv]; decide), miss v f i3 _ _ y (by rw [hv]; decide), miss v f i2 _ _ y (by rw [hv]; decide),
      miss v f i1 _ _ y (by rw [hv]; decide)]
    exact hit v f i0 _ _ y hv
  · rw [miss v f i7 _ _ y (by rw [hv]; decide), miss v f i6 _ _ y (by rw [hv]; decide), miss v f i5 _ _ y (by rw [hv]; decide),
      miss v f i4 _ _ y (by rw [hv]; decide), miss v f i3 _ _ y (by rw [hv]; decide), miss v f i2 _ _ y (by rw [hv]; decide)]
    exact hit v f i1 _ _ y hv
  · rw [miss v f i7 _ _ y (by rw [hv]; decide), miss v f i6 _ _ y (by rw [hv]; decide), miss v f i5 _ _ y (by rw [hv]; decide),
      miss v f i4 _ _ y (by rw [hv]; decide), miss v f i3 _ _ y (by rw [hv]; decide)]
    exact hit v f i2 _ _ y hv
  · rw [miss v f i7 _ _ y (by rw [hv]; decide), miss v f i6 _ _ y (by rw [hv]; decide), miss v f i5 _ _ y (by rw [hv]; decide),
      miss v f i4 _ _ y (by rw [hv]; decide)]
    exact hit v f i3 _ _ y hv
  · rw [miss v f i7 _ _ y (by rw [hv]; decide), miss v f i6 _ _ y (by rw [hv]; decide), miss v f i5 _ _ y (by rw [hv]; decide)]
    exact hit v f i4 _ _ y hv
  · rw [miss v f i7 _ _ y (by rw [hv]; decide), miss v f i6 _ _ y (by rw [hv]; decide)]
    exact hit v f i5 _ _ y hv
  · rw [miss v f i7 _ _ y (by rw [hv]; decide)]
    exact hit v f i6 _ _ y hv
  · exact hit v f i7 _ _ y hv

/-- A load of slot `h` reads the buffer there. -/
theorem load (h : ℕ) (hh : h < 8) (inb : ∀ x, (![h, 0, 0] : Fin 3 → ℕ) x + (One a b).size x ≤ (Eight a b).size x) :
    v.readAt Val (Rect.unit (s := Eight a b) ![h, 0, 0] (One a b).size inb).toLoadRect f
      = fun x : (One a b).Idx => v.read Val f (ix3 ⟨h, hh⟩ (x 1) (x 2)) := by
  funext x
  refine congrArg (v.read Val f) ?_
  funext y
  fin_cases y
  · refine Fin.ext ?_
    have := (x 0).isLt
    have h0 : (x 0).val = 0 := by
      have : (x 0).val < 1 := (x 0).isLt
      omega
    show h + 1 * (x 0).val = h
    omega
  · refine Fin.ext ?_
    show 0 + 1 * (x 1).val = (x 1).val
    omega
  · refine Fin.ext ?_
    show 0 + 1 * (x 2).val = (x 2).val
    omega

variable [∀ e, Nonempty (Val e)]

/-- A load of slot `h` looks past a store into an earlier slot. -/
theorem skip (h : ℕ) {k : ℕ} (hk : k < h) (inb : ∀ x, (![h, 0, 0] : Fin 3 → ℕ) x + (One a b).size x ≤ (Eight a b).size x)
    (inb' : ∀ x, (![k, 0, 0] : Fin 3 → ℕ) x + (One a b).size x ≤ (Eight a b).size x) (w : (One a b).Idx → Val e)
    (L : List (View.Piece Val (Eight a b) e)) (hh : h < 8) :
    v.readCov ((⟨Rect.unit ![k, 0, 0] (One a b).size inb', w⟩ : View.Piece Val (Eight a b) e) :: L) (Rect.unit (s := Eight a b) ![h, 0, 0] (One a b).size inb).toLoadRect
      = v.readCov L (Rect.unit (s := Eight a b) ![h, 0, 0] (One a b).size inb).toLoadRect := by
  unfold View.readCov
  rw [load v _ h hh inb, load v _ h hh inb]
  funext x
  exact miss v _ inb' w L _ (show h ≠ k by omega)

/-- A load of slot `h` after one store of the whole buffer reads that store. -/
theorem fill (h : ℕ) (hh : h < 8) (inb : ∀ x, (![h, 0, 0] : Fin 3 → ℕ) x + (One a b).size x ≤ (Eight a b).size x)
    (inb' : ∀ x, (![0, 0, 0] : Fin 3 → ℕ) x + (Eight a b).size x ≤ (Eight a b).size x) (Z : (Eight a b).Idx → Val e) :
    v.readCov [(⟨Rect.unit ![0, 0, 0] (Eight a b).size inb', Z⟩ : View.Piece Val (Eight a b) e)] (Rect.unit (s := Eight a b) ![h, 0, 0] (One a b).size inb).toLoadRect
      = fun x : (One a b).Idx => Z (ix3 ⟨h, hh⟩ (x 1) (x 2)) := by
  unfold View.readCov
  rw [load v _ h hh inb]
  funext x
  refine View.read_writes_cons_unit_of_mem v _ inb' Z [] _ (ix3 ⟨h, hh⟩ (x 1) (x 2)) rfl ?_
  intro y
  fin_cases y <;> simp

end Cert.Slots

end
-- ==== Proof.StepD.lean ====
/- What a later key tile leaves in the scratch buffers, slot by slot: off the diagonal (D) and on it (C). -/
module

public import proofs.«01_k».proof.Proof.Tile
public import proofs.«01_k».proof.Proof.Slots

@[expose] public section

set_option maxRecDepth 16384
set_option maxHeartbeats 400000

noncomputable section

namespace Cert.KernelIdeal.Att

open Idealize.ShloMosaic Idealize.ShloMosaic.TcCoe Cert.KernelIdeal Cert.KernelIdeal.Gen
local notation "𝕀" => Idealize.ShloMosaic.Ideal

namespace D

variable (c : Dev nD) (arg6 : Memref sig .tc .vmem S1x1024x256 .bf16) (arg7 : Memref sig .tc .vmem S1x256x1024 .bf16)
  (x2 : S1x1024x256.Idx → EReal) (x3 : S1x256x1024.Idx → EReal)
  (xa0 : Buf (Elt 𝕀) ((c : Thread nD τ).loc cc0_scratch0)) (xa1 : Buf (Elt 𝕀) ((c : Thread nD τ).loc cc0_scratch1))
  (xa2 : Buf (Elt 𝕀) ((c : Thread nD τ).loc cc0_scratch2)) (xa3 : Buf (Elt 𝕀) ((c : Thread nD τ).loc cc0_scratch3))

/-- The maxima after a later key tile off the diagonal, slot by slot. -/
theorem m_read (f : scM0_1.view.ty.Contents (Elt 𝕀)) : scM0_1.view.read (Elt 𝕀) (scM0_1.view.writes (Elt 𝕀) f (kernelRun0_D.sl.HS1_8 c arg6 x2 xa0 xa1))
    = fun y : S8x1x1024.Idx => mG (k0_pay20 (F := 𝕀)) x2 (scM0_0.view.read (Elt 𝕀) xa0) (scM0_1.view.read (Elt 𝕀) xa1) (y 0) (ix3 0 (y 1) (y 2)) := by
  refine Slots.read_slots (Val := Elt 𝕀) (a := 1) (b := 1024) scM0_1.view _ (mG (k0_pay20 (F := 𝕀)) x2 (scM0_0.view.read (Elt 𝕀) xa0) (scM0_1.view.read (Elt 𝕀) xa1)) _ _ _ _ _ _ _ _ [] ?_ ?_ ?_ ?_ ?_ ?_ ?_ ?_
  · have e : mOut ((k0_pay20 (F := 𝕀)) (View.readAt (Elt 𝕀) arg6.view (Rect.unit ![0, 0, 0] S1x1024x256.size inb_S1x1024x256_S1x1024x256_0_0_0).toLoadRect (arg6.view.rep x2)) (View.readAt (Elt 𝕀) scM0_0.view (Rect.unit (s := S8x256x1024) ![7, 0, 0] S1x256x1024.size inb_S8x256x1024_S1x256x1024_7_0_0).toLoadRect xa0)) (View.readAt (Elt 𝕀) scM0_1.view (Rect.unit (s := S8x1x1024) ![7, 0, 0] S1x1x1024.size inb_S8x1x1024_S1x1x1024_7_0_0).toLoadRect xa1) = _ :=
      mEq (S := (k0_pay20 (F := 𝕀))) (loadK arg6 x2) (Slots.load (Val := Elt 𝕀) (a := 256) (b := 1024) scM0_0.view xa0 7 (by decide) inb_S8x256x1024_S1x256x1024_7_0_0) (Slots.load (Val := Elt 𝕀) (a := 1) (b := 1024) scM0_1.view xa1 7 (by decide) inb_S8x1x1024_S1x1x1024_7_0_0)
    exact Eq.trans (by rfl) e
  · have e : mOut ((k0_pay20 (F := 𝕀)) (View.readAt (Elt 𝕀) arg6.view (Rect.unit ![0, 0, 0] S1x1024x256.size inb_S1x1024x256_S1x1024x256_0_0_0).toLoadRect (arg6.view.rep x2)) (View.readAt (Elt 𝕀) scM0_0.view (Rect.unit (s := S8x256x1024) ![6, 0, 0] S1x256x1024.size inb_S8x256x1024_S1x256x1024_6_0_0).toLoadRect xa0)) (View.readAt (Elt 𝕀) scM0_1.view (Rect.unit (s := S8x1x1024) ![6, 0, 0] S1x1x1024.size inb_S8x1x1024_S1x1x1024_6_0_0).toLoadRect xa1) = _ :=
      mEq (S := (k0_pay20 (F := 𝕀))) (loadK arg6 x2) (Slots.load (Val := Elt 𝕀) (a := 256) (b := 1024) scM0_0.view xa0 6 (by decide) inb_S8x256x1024_S1x256x1024_6_0_0) (Slots.load (Val := Elt 𝕀) (a := 1) (b := 1024) scM0_1.view xa1 6 (by decide) inb_S8x1x1024_S1x1x1024_6_0_0)
    exact Eq.trans (by rfl) e
  · have e : mOut ((k0_pay20 (F := 𝕀)) (View.readAt (Elt 𝕀) arg6.view (Rect.unit ![0, 0, 0] S1x1024x256.size inb_S1x1024x256_S1x1024x256_0_0_0).toLoadRect (arg6.view.rep x2)) (View.readAt (Elt 𝕀) scM0_0.view (Rect.unit (s := S8x256x1024) ![5, 0, 0] S1x256x1024.size inb_S8x256x1024_S1x256x1024_5_0_0).toLoadRect xa0)) (View.readAt (Elt 𝕀) scM0_1.view (Rect.unit (s := S8x1x1024) ![5, 0, 0] S1x1x1024.size inb_S8x1x1024_S1x1x1024_5_0_0).toLoadRect xa1) = _ :=
      mEq (S := (k0_pay20 (F := 𝕀))) (loadK arg6 x2) (Slots.load (Val := Elt 𝕀) (a := 256) (b := 1024) scM0_0.view xa0 5 (by decide) inb_S8x256x1024_S1x256x1024_5_0_0) (Slots.load (Val := Elt 𝕀) (a := 1) (b := 1024) scM0_1.view xa1 5 (by decide) inb_S8x1x1024_S1x1x1024_5_0_0)
    exact Eq.trans (by rfl) e
  · have e : mOut ((k0_pay20 (F := 𝕀)) (View.readAt (Elt 𝕀) arg6.view (Rect.unit ![0, 0, 0] S1x1024x256.size inb_S1x1024x256_S1x1024x256_0_0_0).toLoadRect (arg6.view.rep x2)) (View.readAt (Elt 𝕀) scM0_0.view (Rect.unit (s := S8x256x1024) ![4, 0, 0] S1x256x1024.size inb_S8x256x1024_S1x256x1024_4_0_0).toLoadRect xa0)) (View.readAt (Elt 𝕀) scM0_1.view (Rect.unit (s := S8x1x1024) ![4, 0, 0] S1x1x1024.size inb_S8x1x1024_S1x1x1024_4_0_0).toLoadRect xa1) = _ :=
      mEq (S := (k0_pay20 (F := 𝕀))) (loadK arg6 x2) (Slots.load (Val := Elt 𝕀) (a := 256) (b := 1024) scM0_0.view xa0 4 (by decide) inb_S8x256x1024_S1x256x1024_4_0_0) (Slots.load (Val := Elt 𝕀) (a := 1) (b := 1024) scM0_1.view xa1 4 (by decide) inb_S8x1x1024_S1x1x1024_4_0_0)
    exact Eq.trans (by rfl) e
  · have e : mOut ((k0_pay20 (F := 𝕀)) (View.readAt (Elt 𝕀) arg6.view (Rect.unit ![0, 0, 0] S1x1024x256.size inb_S1x1024x256_S1x1024x256_0_0_0).toLoadRect (arg6.view.rep x2)) (View.readAt (Elt 𝕀) scM0_0.view (Rect.unit (s := S8x256x1024) ![3, 0, 0] S1x256x1024.size inb_S8x256x1024_S1x256x1024_3_0_0).toLoadRect xa0)) (View.readAt (Elt 𝕀) scM0_1.view (Rect.unit (s := S8x1x1024) ![3, 0, 0] S1x1x1024.size inb_S8x1x1024_S1x1x1024_3_0_0).toLoadRect xa1) = _ :=
      mEq (S := (k0_pay20 (F := 𝕀))) (loadK arg6 x2) (Slots.load (Val := Elt 𝕀) (a := 256) (b := 1024) scM0_0.view xa0 3 (by decide) inb_S8x256x1024_S1x256x1024_3_0_0) (Slots.load (Val := Elt 𝕀) (a := 1) (b := 1024) scM0_1.view xa1 3 (by decide) inb_S8x1x1024_S1x1x1024_3_0_0)
    exact Eq.trans (by rfl) e
  · have e : mOut ((k0_pay20 (F := 𝕀)) (View.readAt (Elt 𝕀) arg6.view (Rect.unit ![0, 0, 0] S1x1024x256.size inb_S1x1024x256_S1x1024x256_0_0_0).toLoadRect (arg6.view.rep x2)) (View.readAt (Elt 𝕀) scM0_0.view (Rect.unit (s := S8x256x1024) ![2, 0, 0] S1x256x1024.size inb_S8x256x1024_S1x256x1024_2_0_0).toLoadRect xa0)) (View.readAt (Elt 𝕀) scM0_1.view (Rect.unit (s := S8x1x1024) ![2, 0, 0] S1x1x1024.size inb_S8x1x1024_S1x1x1024_2_0_0).toLoadRect xa1) = _ :=
      mEq (S := (k0_pay20 (F := 𝕀))) (loadK arg6 x2) (Slots.load (Val := Elt 𝕀) (a := 256) (b := 1024) scM0_0.view xa0 2 (by decide) inb_S8x256x1024_S1x256x1024_2_0_0) (Slots.load (Val := Elt 𝕀) (a := 1) (b := 1024) scM0_1.view xa1 2 (by decide) inb_S8x1x1024_S1x1x1024_2_0_0)
    exact Eq.trans (by rfl) e
  · have e : mOut ((k0_pay20 (F := 𝕀)) (View.readAt (Elt 𝕀) arg6.view (Rect.unit ![0, 0, 0] S1x1024x256.size inb_S1x1024x256_S1x1024x256_0_0_0).toLoadRect (arg6.view.rep x2)) (View.readAt (Elt 𝕀) scM0_0.view (Rect.unit (s := S8x256x1024) ![1, 0, 0] S1x256x1024.size inb_S8x256x1024_S1x256x1024_1_0_0).toLoadRect xa0)) (View.readAt (Elt 𝕀) scM0_1.view (Rect.unit (s := S8x1x1024) ![1, 0, 0] S1x1x1024.size inb_S8x1x1024_S1x1x1024_1_0_0).toLoadRect xa1) = _ :=
      mEq (S := (k0_pay20 (F := 𝕀))) (loadK arg6 x2) (Slots.load (Val := Elt 𝕀) (a := 256) (b := 1024) scM0_0.view xa0 1 (by decide) inb_S8x256x1024_S1x256x1024_1_0_0) (Slots.load (Val := Elt 𝕀) (a := 1) (b := 1024) scM0_1.view xa1 1 (by decide) inb_S8x1x1024_S1x1x1024_1_0_0)
    exact Eq.trans (by rfl) e
  · have e : mOut ((k0_pay20 (F := 𝕀)) (View.readAt (Elt 𝕀) arg6.view (Rect.unit ![0, 0, 0] S1x1024x256.size inb_S1x1024x256_S1x1024x256_0_0_0).toLoadRect (arg6.view.rep x2)) (View.readAt (Elt 𝕀) scM0_0.view (Rect.unit (s := S8x256x1024) ![0, 0, 0] S1x256x1024.size inb_S8x256x1024_S1x256x1024_0_0_0).toLoadRect xa0)) (View.readAt (Elt 𝕀) scM0_1.view (Rect.unit (s := S8x1x1024) ![0, 0, 0] S1x1x1024.size inb_S8x1x1024_S1x1x1024_0_0_0).toLoadRect xa1) = _ :=
      mEq (S := (k0_pay20 (F := 𝕀))) (loadK arg6 x2) (Slots.load (Val := Elt 𝕀) (a := 256) (b := 1024) scM0_0.view xa0 0 (by decide) inb_S8x256x1024_S1x256x1024_0_0_0) (Slots.load (Val := Elt 𝕀) (a := 1) (b := 1024) scM0_1.view xa1 0 (by decide) inb_S8x1x1024_S1x1x1024_0_0_0)
    exact Eq.trans (by rfl) e

/-- The denominators after a later key tile off the diagonal, slot by slot. -/
theorem l_read (f : scM0_2.view.ty.Contents (Elt 𝕀)) : scM0_2.view.read (Elt 𝕀) (scM0_2.view.writes (Elt 𝕀) f (kernelRun0_D.sl.HS2_8 c arg6 x2 xa0 xa1 xa2))
    = fun y : S8x1x1024.Idx => lG (k0_pay20 (F := 𝕀)) x2 (scM0_0.view.read (Elt 𝕀) xa0) (scM0_1.view.read (Elt 𝕀) xa1) (scM0_2.view.read (Elt 𝕀) xa2) (y 0) (ix3 0 (y 1) (y 2)) := by
  refine Slots.read_slots (Val := Elt 𝕀) (a := 1) (b := 1024) scM0_2.view _ (lG (k0_pay20 (F := 𝕀)) x2 (scM0_0.view.read (Elt 𝕀) xa0) (scM0_1.view.read (Elt 𝕀) xa1) (scM0_2.view.read (Elt 𝕀) xa2)) _ _ _ _ _ _ _ _ [] ?_ ?_ ?_ ?_ ?_ ?_ ?_ ?_
  · have e : lOut ((k0_pay20 (F := 𝕀)) (View.readAt (Elt 𝕀) arg6.view (Rect.unit ![0, 0, 0] S1x1024x256.size inb_S1x1024x256_S1x1024x256_0_0_0).toLoadRect (arg6.view.rep x2)) (View.readAt (Elt 𝕀) scM0_0.view (Rect.unit (s := S8x256x1024) ![7, 0, 0] S1x256x1024.size inb_S8x256x1024_S1x256x1024_7_0_0).toLoadRect xa0)) (View.readAt (Elt 𝕀) scM0_1.view (Rect.unit (s := S8x1x1024) ![7, 0, 0] S1x1x1024.size inb_S8x1x1024_S1x1x1024_7_0_0).toLoadRect xa1) (View.readAt (Elt 𝕀) scM0_2.view (Rect.unit (s := S8x1x1024) ![7, 0, 0] S1x1x1024.size inb_S8x1x1024_S1x1x1024_7_0_0).toLoadRect xa2) = _ :=
      lEq (S := (k0_pay20 (F := 𝕀))) (loadK arg6 x2) (Slots.load (Val := Elt 𝕀) (a := 256) (b := 1024) scM0_0.view xa0 7 (by decide) inb_S8x256x1024_S1x256x1024_7_0_0) (Slots.load (Val := Elt 𝕀) (a := 1) (b := 1024) scM0_1.view xa1 7 (by decide) inb_S8x1x1024_S1x1x1024_7_0_0) (Slots.load (Val := Elt 𝕀) (a := 1) (b := 1024) scM0_2.view xa2 7 (by decide) inb_S8x1x1024_S1x1x1024_7_0_0)
    exact Eq.trans (by rfl) e
  · have e : lOut ((k0_pay20 (F := 𝕀)) (View.readAt (Elt 𝕀) arg6.view (Rect.unit ![0, 0, 0] S1x1024x256.size inb_S1x1024x256_S1x1024x256_0_0_0).toLoadRect (arg6.view.rep x2)) (View.readAt (Elt 𝕀) scM0_0.view (Rect.unit (s := S8x256x1024) ![6, 0, 0] S1x256x1024.size inb_S8x256x1024_S1x256x1024_6_0_0).toLoadRect xa0)) (View.readAt (Elt 𝕀) scM0_1.view (Rect.unit (s := S8x1x1024) ![6, 0, 0] S1x1x1024.size inb_S8x1x1024_S1x1x1024_6_0_0).toLoadRect xa1) (View.readAt (Elt 𝕀) scM0_2.view (Rect.unit (s := S8x1x1024) ![6, 0, 0] S1x1x1024.size inb_S8x1x1024_S1x1x1024_6_0_0).toLoadRect xa2) = _ :=
      lEq (S := (k0_pay20 (F := 𝕀))) (loadK arg6 x2) (Slots.load (Val := Elt 𝕀) (a := 256) (b := 1024) scM0_0.view xa0 6 (by decide) inb_S8x256x1024_S1x256x1024_6_0_0) (Slots.load (Val := Elt 𝕀) (a := 1) (b := 1024) scM0_1.view xa1 6 (by decide) inb_S8x1x1024_S1x1x1024_6_0_0) (Slots.load (Val := Elt 𝕀) (a := 1) (b := 1024) scM0_2.view xa2 6 (by decide) inb_S8x1x1024_S1x1x1024_6_0_0)
    exact Eq.trans (by rfl) e
  · have e : lOut ((k0_pay20 (F := 𝕀)) (View.readAt (Elt 𝕀) arg6.view (Rect.unit ![0, 0, 0] S1x1024x256.size inb_S1x1024x256_S1x1024x256_0_0_0).toLoadRect (arg6.view.rep x2)) (View.readAt (Elt 𝕀) scM0_0.view (Rect.unit (s := S8x256x1024) ![5, 0, 0] S1x256x1024.size inb_S8x256x1024_S1x256x1024_5_0_0).toLoadRect xa0)) (View.readAt (Elt 𝕀) scM0_1.view (Rect.unit (s := S8x1x1024) ![5, 0, 0] S1x1x1024.size inb_S8x1x1024_S1x1x1024_5_0_0).toLoadRect xa1) (View.readAt (Elt 𝕀) scM0_2.view (Rect.unit (s := S8x1x1024) ![5, 0, 0] S1x1x1024.size inb_S8x1x1024_S1x1x1024_5_0_0).toLoadRect xa2) = _ :=
      lEq (S := (k0_pay20 (F := 𝕀))) (loadK arg6 x2) (Slots.load (Val := Elt 𝕀) (a := 256) (b := 1024) scM0_0.view xa0 5 (by decide) inb_S8x256x1024_S1x256x1024_5_0_0) (Slots.load (Val := Elt 𝕀) (a := 1) (b := 1024) scM0_1.view xa1 5 (by decide) inb_S8x1x1024_S1x1x1024_5_0_0) (Slots.load (Val := Elt 𝕀) (a := 1) (b := 1024) scM0_2.view xa2 5 (by decide) inb_S8x1x1024_S1x1x1024_5_0_0)
    exact Eq.trans (by rfl) e
  · have e : lOut ((k0_pay20 (F := 𝕀)) (View.readAt (Elt 𝕀) arg6.view (Rect.unit ![0, 0, 0] S1x1024x256.size inb_S1x1024x256_S1x1024x256_0_0_0).toLoadRect (arg6.view.rep x2)) (View.readAt (Elt 𝕀) scM0_0.view (Rect.unit (s := S8x256x1024) ![4, 0, 0] S1x256x1024.size inb_S8x256x1024_S1x256x1024_4_0_0).toLoadRect xa0)) (View.readAt (Elt 𝕀) scM0_1.view (Rect.unit (s := S8x1x1024) ![4, 0, 0] S1x1x1024.size inb_S8x1x1024_S1x1x1024_4_0_0).toLoadRect xa1) (View.readAt (Elt 𝕀) scM0_2.view (Rect.unit (s := S8x1x1024) ![4, 0, 0] S1x1x1024.size inb_S8x1x1024_S1x1x1024_4_0_0).toLoadRect xa2) = _ :=
      lEq (S := (k0_pay20 (F := 𝕀))) (loadK arg6 x2) (Slots.load (Val := Elt 𝕀) (a := 256) (b := 1024) scM0_0.view xa0 4 (by decide) inb_S8x256x1024_S1x256x1024_4_0_0) (Slots.load (Val := Elt 𝕀) (a := 1) (b := 1024) scM0_1.view xa1 4 (by decide) inb_S8x1x1024_S1x1x1024_4_0_0) (Slots.load (Val := Elt 𝕀) (a := 1) (b := 1024) scM0_2.view xa2 4 (by decide) inb_S8x1x1024_S1x1x1024_4_0_0)
    exact Eq.trans (by rfl) e
  · have e : lOut ((k0_pay20 (F := 𝕀)) (View.readAt (Elt 𝕀) arg6.view (Rect.unit ![0, 0, 0] S1x1024x256.size inb_S1x1024x256_S1x1024x256_0_0_0).toLoadRect (arg6.view.rep x2)) (View.readAt (Elt 𝕀) scM0_0.view (Rect.unit (s := S8x256x1024) ![3, 0, 0] S1x256x1024.size inb_S8x256x1024_S1x256x1024_3_0_0).toLoadRect xa0)) (View.readAt (Elt 𝕀) scM0_1.view (Rect.unit (s := S8x1x1024) ![3, 0, 0] S1x1x1024.size inb_S8x1x1024_S1x1x1024_3_0_0).toLoadRect xa1) (View.readAt (Elt 𝕀) scM0_2.view (Rect.unit (s := S8x1x1024) ![3, 0, 0] S1x1x1024.size inb_S8x1x1024_S1x1x1024_3_0_0).toLoadRect xa2) = _ :=
      lEq (S := (k0_pay20 (F := 𝕀))) (loadK arg6 x2) (Slots.load (Val := Elt 𝕀) (a := 256) (b := 1024) scM0_0.view xa0 3 (by decide) inb_S8x256x1024_S1x256x1024_3_0_0) (Slots.load (Val := Elt 𝕀) (a := 1) (b := 1024) scM0_1.view xa1 3 (by decide) inb_S8x1x1024_S1x1x1024_3_0_0) (Slots.load (Val := Elt 𝕀) (a := 1) (b := 1024) scM0_2.view xa2 3 (by decide) inb_S8x1x1024_S1x1x1024_3_0_0)
    exact Eq.trans (by rfl) e
  · have e : lOut ((k0_pay20 (F := 𝕀)) (View.readAt (Elt 𝕀) arg6.view (Rect.unit ![0, 0, 0] S1x1024x256.size inb_S1x1024x256_S1x1024x256_0_0_0).toLoadRect (arg6.view.rep x2)) (View.readAt (Elt 𝕀) scM0_0.view (Rect.unit (s := S8x256x1024) ![2, 0, 0] S1x256x1024.size inb_S8x256x1024_S1x256x1024_2_0_0).toLoadRect xa0)) (View.readAt (Elt 𝕀) scM0_1.view (Rect.unit (s := S8x1x1024) ![2, 0, 0] S1x1x1024.size inb_S8x1x1024_S1x1x1024_2_0_0).toLoadRect xa1) (View.readAt (Elt 𝕀) scM0_2.view (Rect.unit (s := S8x1x1024) ![2, 0, 0] S1x1x1024.size inb_S8x1x1024_S1x1x1024_2_0_0).toLoadRect xa2) = _ :=
      lEq (S := (k0_pay20 (F := 𝕀))) (loadK arg6 x2) (Slots.load (Val := Elt 𝕀) (a := 256) (b := 1024) scM0_0.view xa0 2 (by decide) inb_S8x256x1024_S1x256x1024_2_0_0) (Slots.load (Val := Elt 𝕀) (a := 1) (b := 1024) scM0_1.view xa1 2 (by decide) inb_S8x1x1024_S1x1x1024_2_0_0) (Slots.load (Val := Elt 𝕀) (a := 1) (b := 1024) scM0_2.view xa2 2 (by decide) inb_S8x1x1024_S1x1x1024_2_0_0)
    exact Eq.trans (by rfl) e
  · have e : lOut ((k0_pay20 (F := 𝕀)) (View.readAt (Elt 𝕀) arg6.view (Rect.unit ![0, 0, 0] S1x1024x256.size inb_S1x1024x256_S1x1024x256_0_0_0).toLoadRect (arg6.view.rep x2)) (View.readAt (Elt 𝕀) scM0_0.view (Rect.unit (s := S8x256x1024) ![1, 0, 0] S1x256x1024.size inb_S8x256x1024_S1x256x1024_1_0_0).toLoadRect xa0)) (View.readAt (Elt 𝕀) scM0_1.view (Rect.unit (s := S8x1x1024) ![1, 0, 0] S1x1x1024.size inb_S8x1x1024_S1x1x1024_1_0_0).toLoadRect xa1) (View.readAt (Elt 𝕀) scM0_2.view (Rect.unit (s := S8x1x1024) ![1, 0, 0] S1x1x1024.size inb_S8x1x1024_S1x1x1024_1_0_0).toLoadRect xa2) = _ :=
      lEq (S := (k0_pay20 (F := 𝕀))) (loadK arg6 x2) (Slots.load (Val := Elt 𝕀) (a := 256) (b := 1024) scM0_0.view xa0 1 (by decide) inb_S8x256x1024_S1x256x1024_1_0_0) (Slots.load (Val := Elt 𝕀) (a := 1) (b := 1024) scM0_1.view xa1 1 (by decide) inb_S8x1x1024_S1x1x1024_1_0_0) (Slots.load (Val := Elt 𝕀) (a := 1) (b := 1024) scM0_2.view xa2 1 (by decide) inb_S8x1x1024_S1x1x1024_1_0_0)
    exact Eq.trans (by rfl) e
  · have e : lOut ((k0_pay20 (F := 𝕀)) (View.readAt (Elt 𝕀) arg6.view (Rect.unit ![0, 0, 0] S1x1024x256.size inb_S1x1024x256_S1x1024x256_0_0_0).toLoadRect (arg6.view.rep x2)) (View.readAt (Elt 𝕀) scM0_0.view (Rect.unit (s := S8x256x1024) ![0, 0, 0] S1x256x1024.size inb_S8x256x1024_S1x256x1024_0_0_0).toLoadRect xa0)) (View.readAt (Elt 𝕀) scM0_1.view (Rect.unit (s := S8x1x1024) ![0, 0, 0] S1x1x1024.size inb_S8x1x1024_S1x1x1024_0_0_0).toLoadRect xa1) (View.readAt (Elt 𝕀) scM0_2.view (Rect.unit (s := S8x1x1024) ![0, 0, 0] S1x1x1024.size inb_S8x1x1024_S1x1x1024_0_0_0).toLoadRect xa2) = _ :=
      lEq (S := (k0_pay20 (F := 𝕀))) (loadK arg6 x2) (Slots.load (Val := Elt 𝕀) (a := 256) (b := 1024) scM0_0.view xa0 0 (by decide) inb_S8x256x1024_S1x256x1024_0_0_0) (Slots.load (Val := Elt 𝕀) (a := 1) (b := 1024) scM0_1.view xa1 0 (by decide) inb_S8x1x1024_S1x1x1024_0_0_0) (Slots.load (Val := Elt 𝕀) (a := 1) (b := 1024) scM0_2.view xa2 0 (by decide) inb_S8x1x1024_S1x1x1024_0_0_0)
    exact Eq.trans (by rfl) e

/-- The weighted sums after a later key tile off the diagonal, slot by slot. -/
theorem a_read (f : scM0_3.view.ty.Contents (Elt 𝕀)) : scM0_3.view.read (Elt 𝕀) (scM0_3.view.writes (Elt 𝕀) f (kernelRun0_D.sl.HS3_8 c arg6 arg7 x2 x3 xa0 xa1 xa3))
    = fun y : S8x64x1024.Idx => aG (k0_pay20 (F := 𝕀)) x2 (scM0_0.view.read (Elt 𝕀) xa0) (scM0_1.view.read (Elt 𝕀) xa1) x3 (scM0_3.view.read (Elt 𝕀) xa3) (y 0) (ix3 0 (y 1) (y 2)) := by
  refine Slots.read_slots (Val := Elt 𝕀) (a := 64) (b := 1024) scM0_3.view _ (aG (k0_pay20 (F := 𝕀)) x2 (scM0_0.view.read (Elt 𝕀) xa0) (scM0_1.view.read (Elt 𝕀) xa1) x3 (scM0_3.view.read (Elt 𝕀) xa3)) _ _ _ _ _ _ _ _ [] ?_ ?_ ?_ ?_ ?_ ?_ ?_ ?_
  · have e : aOut ((k0_pay20 (F := 𝕀)) (View.readAt (Elt 𝕀) arg6.view (Rect.unit ![0, 0, 0] S1x1024x256.size inb_S1x1024x256_S1x1024x256_0_0_0).toLoadRect (arg6.view.rep x2)) (View.readAt (Elt 𝕀) scM0_0.view (Rect.unit (s := S8x256x1024) ![7, 0, 0] S1x256x1024.size inb_S8x256x1024_S1x256x1024_7_0_0).toLoadRect xa0)) (View.readAt (Elt 𝕀) scM0_1.view (Rect.unit (s := S8x1x1024) ![7, 0, 0] S1x1x1024.size inb_S8x1x1024_S1x1x1024_7_0_0).toLoadRect xa1) (View.readAt (Elt 𝕀) arg7.view (Rect.unit (s := S1x256x1024) ![0, 192, 0] S1x64x1024.size inb_S1x256x1024_S1x64x1024_0_192_0).toLoadRect (arg7.view.rep x3)) (View.readAt (Elt 𝕀) scM0_3.view (Rect.unit (s := S8x64x1024) ![7, 0, 0] S1x64x1024.size inb_S8x64x1024_S1x64x1024_7_0_0).toLoadRect xa3) = _ :=
      aEq (S := (k0_pay20 (F := 𝕀))) (loadK arg6 x2) (Slots.load (Val := Elt 𝕀) (a := 256) (b := 1024) scM0_0.view xa0 7 (by decide) inb_S8x256x1024_S1x256x1024_7_0_0) (Slots.load (Val := Elt 𝕀) (a := 1) (b := 1024) scM0_1.view xa1 7 (by decide) inb_S8x1x1024_S1x1x1024_7_0_0) (loadV 7 rfl arg7 x3 inb_S1x256x1024_S1x64x1024_0_192_0) (Slots.load (Val := Elt 𝕀) (a := 64) (b := 1024) scM0_3.view xa3 7 (by decide) inb_S8x64x1024_S1x64x1024_7_0_0)
    exact Eq.trans (by rfl) e
  · have e : aOut ((k0_pay20 (F := 𝕀)) (View.readAt (Elt 𝕀) arg6.view (Rect.unit ![0, 0, 0] S1x1024x256.size inb_S1x1024x256_S1x1024x256_0_0_0).toLoadRect (arg6.view.rep x2)) (View.readAt (Elt 𝕀) scM0_0.view (Rect.unit (s := S8x256x1024) ![6, 0, 0] S1x256x1024.size inb_S8x256x1024_S1x256x1024_6_0_0).toLoadRect xa0)) (View.readAt (Elt 𝕀) scM0_1.view (Rect.unit (s := S8x1x1024) ![6, 0, 0] S1x1x1024.size inb_S8x1x1024_S1x1x1024_6_0_0).toLoadRect xa1) (View.readAt (Elt 𝕀) arg7.view (Rect.unit (s := S1x256x1024) ![0, 192, 0] S1x64x1024.size inb_S1x256x1024_S1x64x1024_0_192_0).toLoadRect (arg7.view.rep x3)) (View.readAt (Elt 𝕀) scM0_3.view (Rect.unit (s := S8x64x1024) ![6, 0, 0] S1x64x1024.size inb_S8x64x1024_S1x64x1024_6_0_0).toLoadRect xa3) = _ :=
      aEq (S := (k0_pay20 (F := 𝕀))) (loadK arg6 x2) (Slots.load (Val := Elt 𝕀) (a := 256) (b := 1024) scM0_0.view xa0 6 (by decide) inb_S8x256x1024_S1x256x1024_6_0_0) (Slots.load (Val := Elt 𝕀) (a := 1) (b := 1024) scM0_1.view xa1 6 (by decide) inb_S8x1x1024_S1x1x1024_6_0_0) (loadV 6 rfl arg7 x3 inb_S1x256x1024_S1x64x1024_0_192_0) (Slots.load (Val := Elt 𝕀) (a := 64) (b := 1024) scM0_3.view xa3 6 (by decide) inb_S8x64x1024_S1x64x1024_6_0_0)
    exact Eq.trans (by rfl) e
  · have e : aOut ((k0_pay20 (F := 𝕀)) (View.readAt (Elt 𝕀) arg6.view (Rect.unit ![0, 0, 0] S1x1024x256.size inb_S1x1024x256_S1x1024x256_0_0_0).toLoadRect (arg6.view.rep x2)) (View.readAt (Elt 𝕀) scM0_0.view (Rect.unit (s := S8x256x1024) ![5, 0, 0] S1x256x1024.size inb_S8x256x1024_S1x256x1024_5_0_0).toLoadRect xa0)) (View.readAt (Elt 𝕀) scM0_1.view (Rect.unit (s := S8x1x1024) ![5, 0, 0] S1x1x1024.size inb_S8x1x1024_S1x1x1024_5_0_0).toLoadRect xa1) (View.readAt (Elt 𝕀) arg7.view (Rect.unit (s := S1x256x1024) ![0, 128, 0] S1x64x1024.size inb_S1x256x1024_S1x64x1024_0_128_0).toLoadRect (arg7.view.rep x3)) (View.readAt (Elt 𝕀) scM0_3.view (Rect.unit (s := S8x64x1024) ![5, 0, 0] S1x64x1024.size inb_S8x64x1024_S1x64x1024_5_0_0).toLoadRect xa3) = _ :=
      aEq (S := (k0_pay20 (F := 𝕀))) (loadK arg6 x2) (Slots.load (Val := Elt 𝕀) (a := 256) (b := 1024) scM0_0.view xa0 5 (by decide) inb_S8x256x1024_S1x256x1024_5_0_0) (Slots.load (Val := Elt 𝕀) (a := 1) (b := 1024) scM0_1.view xa1 5 (by decide) inb_S8x1x1024_S1x1x1024_5_0_0) (loadV 5 rfl arg7 x3 inb_S1x256x1024_S1x64x1024_0_128_0) (Slots.load (Val := Elt 𝕀) (a := 64) (b := 1024) scM0_3.view xa3 5 (by decide) inb_S8x64x1024_S1x64x1024_5_0_0)
    exact Eq.trans (by rfl) e
  · have e : aOut ((k0_pay20 (F := 𝕀)) (View.readAt (Elt 𝕀) arg6.view (Rect.unit ![0, 0, 0] S1x1024x256.size inb_S1x1024x256_S1x1024x256_0_0_0).toLoadRect (arg6.view.rep x2)) (View.readAt (Elt 𝕀) scM0_0.view (Rect.unit (s := S8x256x1024) ![4, 0, 0] S1x256x1024.size inb_S8x256x1024_S1x256x1024_4_0_0).toLoadRect xa0)) (View.readAt (Elt 𝕀) scM0_1.view (Rect.unit (s := S8x1x1024) ![4, 0, 0] S1x1x1024.size inb_S8x1x1024_S1x1x1024_4_0_0).toLoadRect xa1) (View.readAt (Elt 𝕀) arg7.view (Rect.unit (s := S1x256x1024) ![0, 128, 0] S1x64x1024.size inb_S1x256x1024_S1x64x1024_0_128_0).toLoadRect (arg7.view.rep x3)) (View.readAt (Elt 𝕀) scM0_3.view (Rect.unit (s := S8x64x1024) ![4, 0, 0] S1x64x1024.size inb_S8x64x1024_S1x64x1024_4_0_0).toLoadRect xa3) = _ :=
      aEq (S := (k0_pay20 (F := 𝕀))) (loadK arg6 x2) (Slots.load (Val := Elt 𝕀) (a := 256) (b := 1024) scM0_0.view xa0 4 (by decide) inb_S8x256x1024_S1x256x1024_4_0_0) (Slots.load (Val := Elt 𝕀) (a := 1) (b := 1024) scM0_1.view xa1 4 (by decide) inb_S8x1x1024_S1x1x1024_4_0_0) (loadV 4 rfl arg7 x3 inb_S1x256x1024_S1x64x1024_0_128_0) (Slots.load (Val := Elt 𝕀) (a := 64) (b := 1024) scM0_3.view xa3 4 (by decide) inb_S8x64x1024_S1x64x1024_4_0_0)
    exact Eq.trans (by rfl) e
  · have e : aOut ((k0_pay20 (F := 𝕀)) (View.readAt (Elt 𝕀) arg6.view (Rect.unit ![0, 0, 0] S1x1024x256.size inb_S1x1024x256_S1x1024x256_0_0_0).toLoadRect (arg6.view.rep x2)) (View.readAt (Elt 𝕀) scM0_0.view (Rect.unit (s := S8x256x1024) ![3, 0, 0] S1x256x1024.size inb_S8x256x1024_S1x256x1024_3_0_0).toLoadRect xa0)) (View.readAt (Elt 𝕀) scM0_1.view (Rect.unit (s := S8x1x1024) ![3, 0, 0] S1x1x1024.size inb_S8x1x1024_S1x1x1024_3_0_0).toLoadRect xa1) (View.readAt (Elt 𝕀) arg7.view (Rect.unit (s := S1x256x1024) ![0, 64, 0] S1x64x1024.size inb_S1x256x1024_S1x64x1024_0_64_0).toLoadRect (arg7.view.rep x3)) (View.readAt (Elt 𝕀) scM0_3.view (Rect.unit (s := S8x64x1024) ![3, 0, 0] S1x64x1024.size inb_S8x64x1024_S1x64x1024_3_0_0).toLoadRect xa3) = _ :=
      aEq (S := (k0_pay20 (F := 𝕀))) (loadK arg6 x2) (Slots.load (Val := Elt 𝕀) (a := 256) (b := 1024) scM0_0.view xa0 3 (by decide) inb_S8x256x1024_S1x256x1024_3_0_0) (Slots.load (Val := Elt 𝕀) (a := 1) (b := 1024) scM0_1.view xa1 3 (by decide) inb_S8x1x1024_S1x1x1024_3_0_0) (loadV 3 rfl arg7 x3 inb_S1x256x1024_S1x64x1024_0_64_0) (Slots.load (Val := Elt 𝕀) (a := 64) (b := 1024) scM0_3.view xa3 3 (by decide) inb_S8x64x1024_S1x64x1024_3_0_0)
    exact Eq.trans (by rfl) e
  · have e : aOut ((k0_pay20 (F := 𝕀)) (View.readAt (Elt 𝕀) arg6.view (Rect.unit ![0, 0, 0] S1x1024x256.size inb_S1x1024x256_S1x1024x256_0_0_0).toLoadRect (arg6.view.rep x2)) (View.readAt (Elt 𝕀) scM0_0.view (Rect.unit (s := S8x256x1024) ![2, 0, 0] S1x256x1024.size inb_S8x256x1024_S1x256x1024_2_0_0).toLoadRect xa0)) (View.readAt (Elt 𝕀) scM0_1.view (Rect.unit (s := S8x1x1024) ![2, 0, 0] S1x1x1024.size inb_S8x1x1024_S1x1x1024_2_0_0).toLoadRect xa1) (View.readAt (Elt 𝕀) arg7.view (Rect.unit (s := S1x256x1024) ![0, 64, 0] S1x64x1024.size inb_S1x256x1024_S1x64x1024_0_64_0).toLoadRect (arg7.view.rep x3)) (View.readAt (Elt 𝕀) scM0_3.view (Rect.unit (s := S8x64x1024) ![2, 0, 0] S1x64x1024.size inb_S8x64x1024_S1x64x1024_2_0_0).toLoadRect xa3) = _ :=
      aEq (S := (k0_pay20 (F := 𝕀))) (loadK arg6 x2) (Slots.load (Val := Elt 𝕀) (a := 256) (b := 1024) scM0_0.view xa0 2 (by decide) inb_S8x256x1024_S1x256x1024_2_0_0) (Slots.load (Val := Elt 𝕀) (a := 1) (b := 1024) scM0_1.view xa1 2 (by decide) inb_S8x1x1024_S1x1x1024_2_0_0) (loadV 2 rfl arg7 x3 inb_S1x256x1024_S1x64x1024_0_64_0) (Slots.load (Val := Elt 𝕀) (a := 64) (b := 1024) scM0_3.view xa3 2 (by decide) inb_S8x64x1024_S1x64x1024_2_0_0)
    exact Eq.trans (by rfl) e
  · have e : aOut ((k0_pay20 (F := 𝕀)) (View.readAt (Elt 𝕀) arg6.view (Rect.unit ![0, 0, 0] S1x1024x256.size inb_S1x1024x256_S1x1024x256_0_0_0).toLoadRect (arg6.view.rep x2)) (View.readAt (Elt 𝕀) scM0_0.view (Rect.unit (s := S8x256x1024) ![1, 0, 0] S1x256x1024.size inb_S8x256x1024_S1x256x1024_1_0_0).toLoadRect xa0)) (View.readAt (Elt 𝕀) scM0_1.view (Rect.unit (s := S8x1x1024) ![1, 0, 0] S1x1x1024.size inb_S8x1x1024_S1x1x1024_1_0_0).toLoadRect xa1) (View.readAt (Elt 𝕀) arg7.view (Rect.unit (s := S1x256x1024) ![0, 0, 0] S1x64x1024.size inb_S1x256x1024_S1x64x1024_0_0_0).toLoadRect (arg7.view.rep x3)) (View.readAt (Elt 𝕀) scM0_3.view (Rect.unit (s := S8x64x1024) ![1, 0, 0] S1x64x1024.size inb_S8x64x1024_S1x64x1024_1_0_0).toLoadRect xa3) = _ :=
      aEq (S := (k0_pay20 (F := 𝕀))) (loadK arg6 x2) (Slots.load (Val := Elt 𝕀) (a := 256) (b := 1024) scM0_0.view xa0 1 (by decide) inb_S8x256x1024_S1x256x1024_1_0_0) (Slots.load (Val := Elt 𝕀) (a := 1) (b := 1024) scM0_1.view xa1 1 (by decide) inb_S8x1x1024_S1x1x1024_1_0_0) (loadV 1 rfl arg7 x3 inb_S1x256x1024_S1x64x1024_0_0_0) (Slots.load (Val := Elt 𝕀) (a := 64) (b := 1024) scM0_3.view xa3 1 (by decide) inb_S8x64x1024_S1x64x1024_1_0_0)
    exact Eq.trans (by rfl) e
  · have e : aOut ((k0_pay20 (F := 𝕀)) (View.readAt (Elt 𝕀) arg6.view (Rect.unit ![0, 0, 0] S1x1024x256.size inb_S1x1024x256_S1x1024x256_0_0_0).toLoadRect (arg6.view.rep x2)) (View.readAt (Elt 𝕀) scM0_0.view (Rect.unit (s := S8x256x1024) ![0, 0, 0] S1x256x1024.size inb_S8x256x1024_S1x256x1024_0_0_0).toLoadRect xa0)) (View.readAt (Elt 𝕀) scM0_1.view (Rect.unit (s := S8x1x1024) ![0, 0, 0] S1x1x1024.size inb_S8x1x1024_S1x1x1024_0_0_0).toLoadRect xa1) (View.readAt (Elt 𝕀) arg7.view (Rect.unit (s := S1x256x1024) ![0, 0, 0] S1x64x1024.size inb_S1x256x1024_S1x64x1024_0_0_0).toLoadRect (arg7.view.rep x3)) (View.readAt (Elt 𝕀) scM0_3.view (Rect.unit (s := S8x64x1024) ![0, 0, 0] S1x64x1024.size inb_S8x64x1024_S1x64x1024_0_0_0).toLoadRect xa3) = _ :=
      aEq (S := (k0_pay20 (F := 𝕀))) (loadK arg6 x2) (Slots.load (Val := Elt 𝕀) (a := 256) (b := 1024) scM0_0.view xa0 0 (by decide) inb_S8x256x1024_S1x256x1024_0_0_0) (Slots.load (Val := Elt 𝕀) (a := 1) (b := 1024) scM0_1.view xa1 0 (by decide) inb_S8x1x1024_S1x1x1024_0_0_0) (loadV 0 rfl arg7 x3 inb_S1x256x1024_S1x64x1024_0_0_0) (Slots.load (Val := Elt 𝕀) (a := 64) (b := 1024) scM0_3.view xa3 0 (by decide) inb_S8x64x1024_S1x64x1024_0_0_0)
    exact Eq.trans (by rfl) e

end D

namespace C

variable (c : Dev nD) (arg6 : Memref sig .tc .vmem S1x1024x256 .bf16) (arg7 : Memref sig .tc .vmem S1x256x1024 .bf16)
  (x2 : S1x1024x256.Idx → EReal) (x3 : S1x256x1024.Idx → EReal)
  (xa0 : Buf (Elt 𝕀) ((c : Thread nD τ).loc cc0_scratch0)) (xa1 : Buf (Elt 𝕀) ((c : Thread nD τ).loc cc0_scratch1))
  (xa2 : Buf (Elt 𝕀) ((c : Thread nD τ).loc cc0_scratch2)) (xa3 : Buf (Elt 𝕀) ((c : Thread nD τ).loc cc0_scratch3))

/-- The maxima after a later key tile on the diagonal, slot by slot. -/
theorem m_read (f : scM0_1.view.ty.Contents (Elt 𝕀)) : scM0_1.view.read (Elt 𝕀) (scM0_1.view.writes (Elt 𝕀) f (kernelRun0_C.sl.HS1_8 c arg6 x2 xa0 xa1))
    = fun y : S8x1x1024.Idx => mG (k0_pay88 (F := 𝕀)) x2 (scM0_0.view.read (Elt 𝕀) xa0) (scM0_1.view.read (Elt 𝕀) xa1) (y 0) (ix3 0 (y 1) (y 2)) := by
  refine Slots.read_slots (Val := Elt 𝕀) (a := 1) (b := 1024) scM0_1.view _ (mG (k0_pay88 (F := 𝕀)) x2 (scM0_0.view.read (Elt 𝕀) xa0) (scM0_1.view.read (Elt 𝕀) xa1)) _ _ _ _ _ _ _ _ [] ?_ ?_ ?_ ?_ ?_ ?_ ?_ ?_
  · have e : mOut ((k0_pay88 (F := 𝕀)) (View.readAt (Elt 𝕀) arg6.view (Rect.unit ![0, 0, 0] S1x1024x256.size inb_S1x1024x256_S1x1024x256_0_0_0).toLoadRect (arg6.view.rep x2)) (View.readAt (Elt 𝕀) scM0_0.view (Rect.unit (s := S8x256x1024) ![7, 0, 0] S1x256x1024.size inb_S8x256x1024_S1x256x1024_7_0_0).toLoadRect xa0)) (View.readAt (Elt 𝕀) scM0_1.view (Rect.unit (s := S8x1x1024) ![7, 0, 0] S1x1x1024.size inb_S8x1x1024_S1x1x1024_7_0_0).toLoadRect xa1) = _ :=
      mEq (S := (k0_pay88 (F := 𝕀))) (loadK arg6 x2) (Slots.load (Val := Elt 𝕀) (a := 256) (b := 1024) scM0_0.view xa0 7 (by decide) inb_S8x256x1024_S1x256x1024_7_0_0) (Slots.load (Val := Elt 𝕀) (a := 1) (b := 1024) scM0_1.view xa1 7 (by decide) inb_S8x1x1024_S1x1x1024_7_0_0)
    exact Eq.trans (by rfl) e
  · have e : mOut ((k0_pay88 (F := 𝕀)) (View.readAt (Elt 𝕀) arg6.view (Rect.unit ![0, 0, 0] S1x1024x256.size inb_S1x1024x256_S1x1024x256_0_0_0).toLoadRect (arg6.view.rep x2)) (View.readAt (Elt 𝕀) scM0_0.view (Rect.unit (s := S8x256x1024) ![6, 0, 0] S1x256x1024.size inb_S8x256x1024_S1x256x1024_6_0_0).toLoadRect xa0)) (View.readAt (Elt 𝕀) scM0_1.view (Rect.unit (s := S8x1x1024) ![6, 0, 0] S1x1x1024.size inb_S8x1x1024_S1x1x1024_6_0_0).toLoadRect xa1) = _ :=
      mEq (S := (k0_pay88 (F := 𝕀))) (loadK arg6 x2) (Slots.load (Val := Elt 𝕀) (a := 256) (b := 1024) scM0_0.view xa0 6 (by decide) inb_S8x256x1024_S1x256x1024_6_0_0) (Slots.load (Val := Elt 𝕀) (a := 1) (b := 1024) scM0_1.view xa1 6 (by decide) inb_S8x1x1024_S1x1x1024_6_0_0)
    exact Eq.trans (by rfl) e
  · have e : mOut ((k0_pay88 (F := 𝕀)) (View.readAt (Elt 𝕀) arg6.view (Rect.unit ![0, 0, 0] S1x1024x256.size inb_S1x1024x256_S1x1024x256_0_0_0).toLoadRect (arg6.view.rep x2)) (View.readAt (Elt 𝕀) scM0_0.view (Rect.unit (s := S8x256x1024) ![5, 0, 0] S1x256x1024.size inb_S8x256x1024_S1x256x1024_5_0_0).toLoadRect xa0)) (View.readAt (Elt 𝕀) scM0_1.view (Rect.unit (s := S8x1x1024) ![5, 0, 0] S1x1x1024.size inb_S8x1x1024_S1x1x1024_5_0_0).toLoadRect xa1) = _ :=
      mEq (S := (k0_pay88 (F := 𝕀))) (loadK arg6 x2) (Slots.load (Val := Elt 𝕀) (a := 256) (b := 1024) scM0_0.view xa0 5 (by decide) inb_S8x256x1024_S1x256x1024_5_0_0) (Slots.load (Val := Elt 𝕀) (a := 1) (b := 1024) scM0_1.view xa1 5 (by decide) inb_S8x1x1024_S1x1x1024_5_0_0)
    exact Eq.trans (by rfl) e
  · have e : mOut ((k0_pay88 (F := 𝕀)) (View.readAt (Elt 𝕀) arg6.view (Rect.unit ![0, 0, 0] S1x1024x256.size inb_S1x1024x256_S1x1024x256_0_0_0).toLoadRect (arg6.view.rep x2)) (View.readAt (Elt 𝕀) scM0_0.view (Rect.unit (s := S8x256x1024) ![4, 0, 0] S1x256x1024.size inb_S8x256x1024_S1x256x1024_4_0_0).toLoadRect xa0)) (View.readAt (Elt 𝕀) scM0_1.view (Rect.unit (s := S8x1x1024) ![4, 0, 0] S1x1x1024.size inb_S8x1x1024_S1x1x1024_4_0_0).toLoadRect xa1) = _ :=
      mEq (S := (k0_pay88 (F := 𝕀))) (loadK arg6 x2) (Slots.load (Val := Elt 𝕀) (a := 256) (b := 1024) scM0_0.view xa0 4 (by decide) inb_S8x256x1024_S1x256x1024_4_0_0) (Slots.load (Val := Elt 𝕀) (a := 1) (b := 1024) scM0_1.view xa1 4 (by decide) inb_S8x1x1024_S1x1x1024_4_0_0)
    exact Eq.trans (by rfl) e
  · have e : mOut ((k0_pay88 (F := 𝕀)) (View.readAt (Elt 𝕀) arg6.view (Rect.unit ![0, 0, 0] S1x1024x256.size inb_S1x1024x256_S1x1024x256_0_0_0).toLoadRect (arg6.view.rep x2)) (View.readAt (Elt 𝕀) scM0_0.view (Rect.unit (s := S8x256x1024) ![3, 0, 0] S1x256x1024.size inb_S8x256x1024_S1x256x1024_3_0_0).toLoadRect xa0)) (View.readAt (Elt 𝕀) scM0_1.view (Rect.unit (s := S8x1x1024) ![3, 0, 0] S1x1x1024.size inb_S8x1x1024_S1x1x1024_3_0_0).toLoadRect xa1) = _ :=
      mEq (S := (k0_pay88 (F := 𝕀))) (loadK arg6 x2) (Slots.load (Val := Elt 𝕀) (a := 256) (b := 1024) scM0_0.view xa0 3 (by decide) inb_S8x256x1024_S1x256x1024_3_0_0) (Slots.load (Val := Elt 𝕀) (a := 1) (b := 1024) scM0_1.view xa1 3 (by decide) inb_S8x1x1024_S1x1x1024_3_0_0)
    exact Eq.trans (by rfl) e
  · have e : mOut ((k0_pay88 (F := 𝕀)) (View.readAt (Elt 𝕀) arg6.view (Rect.unit ![0, 0, 0] S1x1024x256.size inb_S1x1024x256_S1x1024x256_0_0_0).toLoadRect (arg6.view.rep x2)) (View.readAt (Elt 𝕀) scM0_0.view (Rect.unit (s := S8x256x1024) ![2, 0, 0] S1x256x1024.size inb_S8x256x1024_S1x256x1024_2_0_0).toLoadRect xa0)) (View.readAt (Elt 𝕀) scM0_1.view (Rect.unit (s := S8x1x1024) ![2, 0, 0] S1x1x1024.size inb_S8x1x1024_S1x1x1024_2_0_0).toLoadRect xa1) = _ :=
      mEq (S := (k0_pay88 (F := 𝕀))) (loadK arg6 x2) (Slots.load (Val := Elt 𝕀) (a := 256) (b := 1024) scM0_0.view xa0 2 (by decide) inb_S8x256x1024_S1x256x1024_2_0_0) (Slots.load (Val := Elt 𝕀) (a := 1) (b := 1024) scM0_1.view xa1 2 (by decide) inb_S8x1x1024_S1x1x1024_2_0_0)
    exact Eq.trans (by rfl) e
  · have e : mOut ((k0_pay88 (F := 𝕀)) (View.readAt (Elt 𝕀) arg6.view (Rect.unit ![0, 0, 0] S1x1024x256.size inb_S1x1024x256_S1x1024x256_0_0_0).toLoadRect (arg6.view.rep x2)) (View.readAt (Elt 𝕀) scM0_0.view (Rect.unit (s := S8x256x1024) ![1, 0, 0] S1x256x1024.size inb_S8x256x1024_S1x256x1024_1_0_0).toLoadRect xa0)) (View.readAt (Elt 𝕀) scM0_1.view (Rect.unit (s := S8x1x1024) ![1, 0, 0] S1x1x1024.size inb_S8x1x1024_S1x1x1024_1_0_0).toLoadRect xa1) = _ :=
      mEq (S := (k0_pay88 (F := 𝕀))) (loadK arg6 x2) (Slots.load (Val := Elt 𝕀) (a := 256) (b := 1024) scM0_0.view xa0 1 (by decide) inb_S8x256x1024_S1x256x1024_1_0_0) (Slots.load (Val := Elt 𝕀) (a := 1) (b := 1024) scM0_1.view xa1 1 (by decide) inb_S8x1x1024_S1x1x1024_1_0_0)
    exact Eq.trans (by rfl) e
  · have e : mOut ((k0_pay88 (F := 𝕀)) (View.readAt (Elt 𝕀) arg6.view (Rect.unit ![0, 0, 0] S1x1024x256.size inb_S1x1024x256_S1x1024x256_0_0_0).toLoadRect (arg6.view.rep x2)) (View.readAt (Elt 𝕀) scM0_0.view (Rect.unit (s := S8x256x1024) ![0, 0, 0] S1x256x1024.size inb_S8x256x1024_S1x256x1024_0_0_0).toLoadRect xa0)) (View.readAt (Elt 𝕀) scM0_1.view (Rect.unit (s := S8x1x1024) ![0, 0, 0] S1x1x1024.size inb_S8x1x1024_S1x1x1024_0_0_0).toLoadRect xa1) = _ :=
      mEq (S := (k0_pay88 (F := 𝕀))) (loadK arg6 x2) (Slots.load (Val := Elt 𝕀) (a := 256) (b := 1024) scM0_0.view xa0 0 (by decide) inb_S8x256x1024_S1x256x1024_0_0_0) (Slots.load (Val := Elt 𝕀) (a := 1) (b := 1024) scM0_1.view xa1 0 (by decide) inb_S8x1x1024_S1x1x1024_0_0_0)
    exact Eq.trans (by rfl) e

/-- The denominators after a later key tile on the diagonal, slot by slot. -/
theorem l_read (f : scM0_2.view.ty.Contents (Elt 𝕀)) : scM0_2.view.read (Elt 𝕀) (scM0_2.view.writes (Elt 𝕀) f (kernelRun0_C.sl.HS2_8 c arg6 x2 xa0 xa1 xa2))
    = fun y : S8x1x1024.Idx => lG (k0_pay88 (F := 𝕀)) x2 (scM0_0.view.read (Elt 𝕀) xa0) (scM0_1.view.read (Elt 𝕀) xa1) (scM0_2.view.read (Elt 𝕀) xa2) (y 0) (ix3 0 (y 1) (y 2)) := by
  refine Slots.read_slots (Val := Elt 𝕀) (a := 1) (b := 1024) scM0_2.view _ (lG (k0_pay88 (F := 𝕀)) x2 (scM0_0.view.read (Elt 𝕀) xa0) (scM0_1.view.read (Elt 𝕀) xa1) (scM0_2.view.read (Elt 𝕀) xa2)) _ _ _ _ _ _ _ _ [] ?_ ?_ ?_ ?_ ?_ ?_ ?_ ?_
  · have e : lOut ((k0_pay88 (F := 𝕀)) (View.readAt (Elt 𝕀) arg6.view (Rect.unit ![0, 0, 0] S1x1024x256.size inb_S1x1024x256_S1x1024x256_0_0_0).toLoadRect (arg6.view.rep x2)) (View.readAt (Elt 𝕀) scM0_0.view (Rect.unit (s := S8x256x1024) ![7, 0, 0] S1x256x1024.size inb_S8x256x1024_S1x256x1024_7_0_0).toLoadRect xa0)) (View.readAt (Elt 𝕀) scM0_1.view (Rect.unit (s := S8x1x1024) ![7, 0, 0] S1x1x1024.size inb_S8x1x1024_S1x1x1024_7_0_0).toLoadRect xa1) (View.readAt (Elt 𝕀) scM0_2.view (Rect.unit (s := S8x1x1024) ![7, 0, 0] S1x1x1024.size inb_S8x1x1024_S1x1x1024_7_0_0).toLoadRect xa2) = _ :=
      lEq (S := (k0_pay88 (F := 𝕀))) (loadK arg6 x2) (Slots.load (Val := Elt 𝕀) (a := 256) (b := 1024) scM0_0.view xa0 7 (by decide) inb_S8x256x1024_S1x256x1024_7_0_0) (Slots.load (Val := Elt 𝕀) (a := 1) (b := 1024) scM0_1.view xa1 7 (by decide) inb_S8x1x1024_S1x1x1024_7_0_0) (Slots.load (Val := Elt 𝕀) (a := 1) (b := 1024) scM0_2.view xa2 7 (by decide) inb_S8x1x1024_S1x1x1024_7_0_0)
    exact Eq.trans (by rfl) e
  · have e : lOut ((k0_pay88 (F := 𝕀)) (View.readAt (Elt 𝕀) arg6.view (Rect.unit ![0, 0, 0] S1x1024x256.size inb_S1x1024x256_S1x1024x256_0_0_0).toLoadRect (arg6.view.rep x2)) (View.readAt (Elt 𝕀) scM0_0.view (Rect.unit (s := S8x256x1024) ![6, 0, 0] S1x256x1024.size inb_S8x256x1024_S1x256x1024_6_0_0).toLoadRect xa0)) (View.readAt (Elt 𝕀) scM0_1.view (Rect.unit (s := S8x1x1024) ![6, 0, 0] S1x1x1024.size inb_S8x1x1024_S1x1x1024_6_0_0).toLoadRect xa1) (View.readAt (Elt 𝕀) scM0_2.view (Rect.unit (s := S8x1x1024) ![6, 0, 0] S1x1x1024.size inb_S8x1x1024_S1x1x1024_6_0_0).toLoadRect xa2) = _ :=
      lEq (S := (k0_pay88 (F := 𝕀))) (loadK arg6 x2) (Slots.load (Val := Elt 𝕀) (a := 256) (b := 1024) scM0_0.view xa0 6 (by decide) inb_S8x256x1024_S1x256x1024_6_0_0) (Slots.load (Val := Elt 𝕀) (a := 1) (b := 1024) scM0_1.view xa1 6 (by decide) inb_S8x1x1024_S1x1x1024_6_0_0) (Slots.load (Val := Elt 𝕀) (a := 1) (b := 1024) scM0_2.view xa2 6 (by decide) inb_S8x1x1024_S1x1x1024_6_0_0)
    exact Eq.trans (by rfl) e
  · have e : lOut ((k0_pay88 (F := 𝕀)) (View.readAt (Elt 𝕀) arg6.view (Rect.unit ![0, 0, 0] S1x1024x256.size inb_S1x1024x256_S1x1024x256_0_0_0).toLoadRect (arg6.view.rep x2)) (View.readAt (Elt 𝕀) scM0_0.view (Rect.unit (s := S8x256x1024) ![5, 0, 0] S1x256x1024.size inb_S8x256x1024_S1x256x1024_5_0_0).toLoadRect xa0)) (View.readAt (Elt 𝕀) scM0_1.view (Rect.unit (s := S8x1x1024) ![5, 0, 0] S1x1x1024.size inb_S8x1x1024_S1x1x1024_5_0_0).toLoadRect xa1) (View.readAt (Elt 𝕀) scM0_2.view (Rect.unit (s := S8x1x1024) ![5, 0, 0] S1x1x1024.size inb_S8x1x1024_S1x1x1024_5_0_0).toLoadRect xa2) = _ :=
      lEq (S := (k0_pay88 (F := 𝕀))) (loadK arg6 x2) (Slots.load (Val := Elt 𝕀) (a := 256) (b := 1024) scM0_0.view xa0 5 (by decide) inb_S8x256x1024_S1x256x1024_5_0_0) (Slots.load (Val := Elt 𝕀) (a := 1) (b := 1024) scM0_1.view xa1 5 (by decide) inb_S8x1x1024_S1x1x1024_5_0_0) (Slots.load (Val := Elt 𝕀) (a := 1) (b := 1024) scM0_2.view xa2 5 (by decide) inb_S8x1x1024_S1x1x1024_5_0_0)
    exact Eq.trans (by rfl) e
  · have e : lOut ((k0_pay88 (F := 𝕀)) (View.readAt (Elt 𝕀) arg6.view (Rect.unit ![0, 0, 0] S1x1024x256.size inb_S1x1024x256_S1x1024x256_0_0_0).toLoadRect (arg6.view.rep x2)) (View.readAt (Elt 𝕀) scM0_0.view (Rect.unit (s := S8x256x1024) ![4, 0, 0] S1x256x1024.size inb_S8x256x1024_S1x256x1024_4_0_0).toLoadRect xa0)) (View.readAt (Elt 𝕀) scM0_1.view (Rect.unit (s := S8x1x1024) ![4, 0, 0] S1x1x1024.size inb_S8x1x1024_S1x1x1024_4_0_0).toLoadRect xa1) (View.readAt (Elt 𝕀) scM0_2.view (Rect.unit (s := S8x1x1024) ![4, 0, 0] S1x1x1024.size inb_S8x1x1024_S1x1x1024_4_0_0).toLoadRect xa2) = _ :=
      lEq (S := (k0_pay88 (F := 𝕀))) (loadK arg6 x2) (Slots.load (Val := Elt 𝕀) (a := 256) (b := 1024) scM0_0.view xa0 4 (by decide) inb_S8x256x1024_S1x256x1024_4_0_0) (Slots.load (Val := Elt 𝕀) (a := 1) (b := 1024) scM0_1.view xa1 4 (by decide) inb_S8x1x1024_S1x1x1024_4_0_0) (Slots.load (Val := Elt 𝕀) (a := 1) (b := 1024) scM0_2.view xa2 4 (by decide) inb_S8x1x1024_S1x1x1024_4_0_0)
    exact Eq.trans (by rfl) e
  · have e : lOut ((k0_pay88 (F := 𝕀)) (View.readAt (Elt 𝕀) arg6.view (Rect.unit ![0, 0, 0] S1x1024x256.size inb_S1x1024x256_S1x1024x256_0_0_0).toLoadRect (arg6.view.rep x2)) (View.readAt (Elt 𝕀) scM0_0.view (Rect.unit (s := S8x256x1024) ![3, 0, 0] S1x256x1024.size inb_S8x256x1024_S1x256x1024_3_0_0).toLoadRect xa0)) (View.readAt (Elt 𝕀) scM0_1.view (Rect.unit (s := S8x1x1024) ![3, 0, 0] S1x1x1024.size inb_S8x1x1024_S1x1x1024_3_0_0).toLoadRect xa1) (View.readAt (Elt 𝕀) scM0_2.view (Rect.unit (s := S8x1x1024) ![3, 0, 0] S1x1x1024.size inb_S8x1x1024_S1x1x1024_3_0_0).toLoadRect xa2) = _ :=
      lEq (S := (k0_pay88 (F := 𝕀))) (loadK arg6 x2) (Slots.load (Val := Elt 𝕀) (a := 256) (b := 1024) scM0_0.view xa0 3 (by decide) inb_S8x256x1024_S1x256x1024_3_0_0) (Slots.load (Val := Elt 𝕀) (a := 1) (b := 1024) scM0_1.view xa1 3 (by decide) inb_S8x1x1024_S1x1x1024_3_0_0) (Slots.load (Val := Elt 𝕀) (a := 1) (b := 1024) scM0_2.view xa2 3 (by decide) inb_S8x1x1024_S1x1x1024_3_0_0)
    exact Eq.trans (by rfl) e
  · have e : lOut ((k0_pay88 (F := 𝕀)) (View.readAt (Elt 𝕀) arg6.view (Rect.unit ![0, 0, 0] S1x1024x256.size inb_S1x1024x256_S1x1024x256_0_0_0).toLoadRect (arg6.view.rep x2)) (View.readAt (Elt 𝕀) scM0_0.view (Rect.unit (s := S8x256x1024) ![2, 0, 0] S1x256x1024.size inb_S8x256x1024_S1x256x1024_2_0_0).toLoadRect xa0)) (View.readAt (Elt 𝕀) scM0_1.view (Rect.unit (s := S8x1x1024) ![2, 0, 0] S1x1x1024.size inb_S8x1x1024_S1x1x1024_2_0_0).toLoadRect xa1) (View.readAt (Elt 𝕀) scM0_2.view (Rect.unit (s := S8x1x1024) ![2, 0, 0] S1x1x1024.size inb_S8x1x1024_S1x1x1024_2_0_0).toLoadRect xa2) = _ :=
      lEq (S := (k0_pay88 (F := 𝕀))) (loadK arg6 x2) (Slots.load (Val := Elt 𝕀) (a := 256) (b := 1024) scM0_0.view xa0 2 (by decide) inb_S8x256x1024_S1x256x1024_2_0_0) (Slots.load (Val := Elt 𝕀) (a := 1) (b := 1024) scM0_1.view xa1 2 (by decide) inb_S8x1x1024_S1x1x1024_2_0_0) (Slots.load (Val := Elt 𝕀) (a := 1) (b := 1024) scM0_2.view xa2 2 (by decide) inb_S8x1x1024_S1x1x1024_2_0_0)
    exact Eq.trans (by rfl) e
  · have e : lOut ((k0_pay88 (F := 𝕀)) (View.readAt (Elt 𝕀) arg6.view (Rect.unit ![0, 0, 0] S1x1024x256.size inb_S1x1024x256_S1x1024x256_0_0_0).toLoadRect (arg6.view.rep x2)) (View.readAt (Elt 𝕀) scM0_0.view (Rect.unit (s := S8x256x1024) ![1, 0, 0] S1x256x1024.size inb_S8x256x1024_S1x256x1024_1_0_0).toLoadRect xa0)) (View.readAt (Elt 𝕀) scM0_1.view (Rect.unit (s := S8x1x1024) ![1, 0, 0] S1x1x1024.size inb_S8x1x1024_S1x1x1024_1_0_0).toLoadRect xa1) (View.readAt (Elt 𝕀) scM0_2.view (Rect.unit (s := S8x1x1024) ![1, 0, 0] S1x1x1024.size inb_S8x1x1024_S1x1x1024_1_0_0).toLoadRect xa2) = _ :=
      lEq (S := (k0_pay88 (F := 𝕀))) (loadK arg6 x2) (Slots.load (Val := Elt 𝕀) (a := 256) (b := 1024) scM0_0.view xa0 1 (by decide) inb_S8x256x1024_S1x256x1024_1_0_0) (Slots.load (Val := Elt 𝕀) (a := 1) (b := 1024) scM0_1.view xa1 1 (by decide) inb_S8x1x1024_S1x1x1024_1_0_0) (Slots.load (Val := Elt 𝕀) (a := 1) (b := 1024) scM0_2.view xa2 1 (by decide) inb_S8x1x1024_S1x1x1024_1_0_0)
    exact Eq.trans (by rfl) e
  · have e : lOut ((k0_pay88 (F := 𝕀)) (View.readAt (Elt 𝕀) arg6.view (Rect.unit ![0, 0, 0] S1x1024x256.size inb_S1x1024x256_S1x1024x256_0_0_0).toLoadRect (arg6.view.rep x2)) (View.readAt (Elt 𝕀) scM0_0.view (Rect.unit (s := S8x256x1024) ![0, 0, 0] S1x256x1024.size inb_S8x256x1024_S1x256x1024_0_0_0).toLoadRect xa0)) (View.readAt (Elt 𝕀) scM0_1.view (Rect.unit (s := S8x1x1024) ![0, 0, 0] S1x1x1024.size inb_S8x1x1024_S1x1x1024_0_0_0).toLoadRect xa1) (View.readAt (Elt 𝕀) scM0_2.view (Rect.unit (s := S8x1x1024) ![0, 0, 0] S1x1x1024.size inb_S8x1x1024_S1x1x1024_0_0_0).toLoadRect xa2) = _ :=
      lEq (S := (k0_pay88 (F := 𝕀))) (loadK arg6 x2) (Slots.load (Val := Elt 𝕀) (a := 256) (b := 1024) scM0_0.view xa0 0 (by decide) inb_S8x256x1024_S1x256x1024_0_0_0) (Slots.load (Val := Elt 𝕀) (a := 1) (b := 1024) scM0_1.view xa1 0 (by decide) inb_S8x1x1024_S1x1x1024_0_0_0) (Slots.load (Val := Elt 𝕀) (a := 1) (b := 1024) scM0_2.view xa2 0 (by decide) inb_S8x1x1024_S1x1x1024_0_0_0)
    exact Eq.trans (by rfl) e

/-- The weighted sums after a later key tile on the diagonal, slot by slot. -/
theorem a_read (f : scM0_3.view.ty.Contents (Elt 𝕀)) : scM0_3.view.read (Elt 𝕀) (scM0_3.view.writes (Elt 𝕀) f (kernelRun0_C.sl.HS3_8 c arg6 arg7 x2 x3 xa0 xa1 xa3))
    = fun y : S8x64x1024.Idx => aG (k0_pay88 (F := 𝕀)) x2 (scM0_0.view.read (Elt 𝕀) xa0) (scM0_1.view.read (Elt 𝕀) xa1) x3 (scM0_3.view.read (Elt 𝕀) xa3) (y 0) (ix3 0 (y 1) (y 2)) := by
  refine Slots.read_slots (Val := Elt 𝕀) (a := 64) (b := 1024) scM0_3.view _ (aG (k0_pay88 (F := 𝕀)) x2 (scM0_0.view.read (Elt 𝕀) xa0) (scM0_1.view.read (Elt 𝕀) xa1) x3 (scM0_3.view.read (Elt 𝕀) xa3)) _ _ _ _ _ _ _ _ [] ?_ ?_ ?_ ?_ ?_ ?_ ?_ ?_
  · have e : aOut ((k0_pay88 (F := 𝕀)) (View.readAt (Elt 𝕀) arg6.view (Rect.unit ![0, 0, 0] S1x1024x256.size inb_S1x1024x256_S1x1024x256_0_0_0).toLoadRect (arg6.view.rep x2)) (View.readAt (Elt 𝕀) scM0_0.view (Rect.unit (s := S8x256x1024) ![7, 0, 0] S1x256x1024.size inb_S8x256x1024_S1x256x1024_7_0_0).toLoadRect xa0)) (View.readAt (Elt 𝕀) scM0_1.view (Rect.unit (s := S8x1x1024) ![7, 0, 0] S1x1x1024.size inb_S8x1x1024_S1x1x1024_7_0_0).toLoadRect xa1) (View.readAt (Elt 𝕀) arg7.view (Rect.unit (s := S1x256x1024) ![0, 192, 0] S1x64x1024.size inb_S1x256x1024_S1x64x1024_0_192_0).toLoadRect (arg7.view.rep x3)) (View.readAt (Elt 𝕀) scM0_3.view (Rect.unit (s := S8x64x1024) ![7, 0, 0] S1x64x1024.size inb_S8x64x1024_S1x64x1024_7_0_0).toLoadRect xa3) = _ :=
      aEq (S := (k0_pay88 (F := 𝕀))) (loadK arg6 x2) (Slots.load (Val := Elt 𝕀) (a := 256) (b := 1024) scM0_0.view xa0 7 (by decide) inb_S8x256x1024_S1x256x1024_7_0_0) (Slots.load (Val := Elt 𝕀) (a := 1) (b := 1024) scM0_1.view xa1 7 (by decide) inb_S8x1x1024_S1x1x1024_7_0_0) (loadV 7 rfl arg7 x3 inb_S1x256x1024_S1x64x1024_0_192_0) (Slots.load (Val := Elt 𝕀) (a := 64) (b := 1024) scM0_3.view xa3 7 (by decide) inb_S8x64x1024_S1x64x1024_7_0_0)
    exact Eq.trans (by rfl) e
  · have e : aOut ((k0_pay88 (F := 𝕀)) (View.readAt (Elt 𝕀) arg6.view (Rect.unit ![0, 0, 0] S1x1024x256.size inb_S1x1024x256_S1x1024x256_0_0_0).toLoadRect (arg6.view.rep x2)) (View.readAt (Elt 𝕀) scM0_0.view (Rect.unit (s := S8x256x1024) ![6, 0, 0] S1x256x1024.size inb_S8x256x1024_S1x256x1024_6_0_0).toLoadRect xa0)) (View.readAt (Elt 𝕀) scM0_1.view (Rect.unit (s := S8x1x1024) ![6, 0, 0] S1x1x1024.size inb_S8x1x1024_S1x1x1024_6_0_0).toLoadRect xa1) (View.readAt (Elt 𝕀) arg7.view (Rect.unit (s := S1x256x1024) ![0, 192, 0] S1x64x1024.size inb_S1x256x1024_S1x64x1024_0_192_0).toLoadRect (arg7.view.rep x3)) (View.readAt (Elt 𝕀) scM0_3.view (Rect.unit (s := S8x64x1024) ![6, 0, 0] S1x64x1024.size inb_S8x64x1024_S1x64x1024_6_0_0).toLoadRect xa3) = _ :=
      aEq (S := (k0_pay88 (F := 𝕀))) (loadK arg6 x2) (Slots.load (Val := Elt 𝕀) (a := 256) (b := 1024) scM0_0.view xa0 6 (by decide) inb_S8x256x1024_S1x256x1024_6_0_0) (Slots.load (Val := Elt 𝕀) (a := 1) (b := 1024) scM0_1.view xa1 6 (by decide) inb_S8x1x1024_S1x1x1024_6_0_0) (loadV 6 rfl arg7 x3 inb_S1x256x1024_S1x64x1024_0_192_0) (Slots.load (Val := Elt 𝕀) (a := 64) (b := 1024) scM0_3.view xa3 6 (by decide) inb_S8x64x1024_S1x64x1024_6_0_0)
    exact Eq.trans (by rfl) e
  · have e : aOut ((k0_pay88 (F := 𝕀)) (View.readAt (Elt 𝕀) arg6.view (Rect.unit ![0, 0, 0] S1x1024x256.size inb_S1x1024x256_S1x1024x256_0_0_0).toLoadRect (arg6.view.rep x2)) (View.readAt (Elt 𝕀) scM0_0.view (Rect.unit (s := S8x256x1024) ![5, 0, 0] S1x256x1024.size inb_S8x256x1024_S1x256x1024_5_0_0).toLoadRect xa0)) (View.readAt (Elt 𝕀) scM0_1.view (Rect.unit (s := S8x1x1024) ![5, 0, 0] S1x1x1024.size inb_S8x1x1024_S1x1x1024_5_0_0).toLoadRect xa1) (View.readAt (Elt 𝕀) arg7.view (Rect.unit (s := S1x256x1024) ![0, 128, 0] S1x64x1024.size inb_S1x256x1024_S1x64x1024_0_128_0).toLoadRect (arg7.view.rep x3)) (View.readAt (Elt 𝕀) scM0_3.view (Rect.unit (s := S8x64x1024) ![5, 0, 0] S1x64x1024.size inb_S8x64x1024_S1x64x1024_5_0_0).toLoadRect xa3) = _ :=
      aEq (S := (k0_pay88 (F := 𝕀))) (loadK arg6 x2) (Slots.load (Val := Elt 𝕀) (a := 256) (b := 1024) scM0_0.view xa0 5 (by decide) inb_S8x256x1024_S1x256x1024_5_0_0) (Slots.load (Val := Elt 𝕀) (a := 1) (b := 1024) scM0_1.view xa1 5 (by decide) inb_S8x1x1024_S1x1x1024_5_0_0) (loadV 5 rfl arg7 x3 inb_S1x256x1024_S1x64x1024_0_128_0) (Slots.load (Val := Elt 𝕀) (a := 64) (b := 1024) scM0_3.view xa3 5 (by decide) inb_S8x64x1024_S1x64x1024_5_0_0)
    exact Eq.trans (by rfl) e
  · have e : aOut ((k0_pay88 (F := 𝕀)) (View.readAt (Elt 𝕀) arg6.view (Rect.unit ![0, 0, 0] S1x1024x256.size inb_S1x1024x256_S1x1024x256_0_0_0).toLoadRect (arg6.view.rep x2)) (View.readAt (Elt 𝕀) scM0_0.view (Rect.unit (s := S8x256x1024) ![4, 0, 0] S1x256x1024.size inb_S8x256x1024_S1x256x1024_4_0_0).toLoadRect xa0)) (View.readAt (Elt 𝕀) scM0_1.view (Rect.unit (s := S8x1x1024) ![4, 0, 0] S1x1x1024.size inb_S8x1x1024_S1x1x1024_4_0_0).toLoadRect xa1) (View.readAt (Elt 𝕀) arg7.view (Rect.unit (s := S1x256x1024) ![0, 128, 0] S1x64x1024.size inb_S1x256x1024_S1x64x1024_0_128_0).toLoadRect (arg7.view.rep x3)) (View.readAt (Elt 𝕀) scM0_3.view (Rect.unit (s := S8x64x1024) ![4, 0, 0] S1x64x1024.size inb_S8x64x1024_S1x64x1024_4_0_0).toLoadRect xa3) = _ :=
      aEq (S := (k0_pay88 (F := 𝕀))) (loadK arg6 x2) (Slots.load (Val := Elt 𝕀) (a := 256) (b := 1024) scM0_0.view xa0 4 (by decide) inb_S8x256x1024_S1x256x1024_4_0_0) (Slots.load (Val := Elt 𝕀) (a := 1) (b := 1024) scM0_1.view xa1 4 (by decide) inb_S8x1x1024_S1x1x1024_4_0_0) (loadV 4 rfl arg7 x3 inb_S1x256x1024_S1x64x1024_0_128_0) (Slots.load (Val := Elt 𝕀) (a := 64) (b := 1024) scM0_3.view xa3 4 (by decide) inb_S8x64x1024_S1x64x1024_4_0_0)
    exact Eq.trans (by rfl) e
  · have e : aOut ((k0_pay88 (F := 𝕀)) (View.readAt (Elt 𝕀) arg6.view (Rect.unit ![0, 0, 0] S1x1024x256.size inb_S1x1024x256_S1x1024x256_0_0_0).toLoadRect (arg6.view.rep x2)) (View.readAt (Elt 𝕀) scM0_0.view (Rect.unit (s := S8x256x1024) ![3, 0, 0] S1x256x1024.size inb_S8x256x1024_S1x256x1024_3_0_0).toLoadRect xa0)) (View.readAt (Elt 𝕀) scM0_1.view (Rect.unit (s := S8x1x1024) ![3, 0, 0] S1x1x1024.size inb_S8x1x1024_S1x1x1024_3_0_0).toLoadRect xa1) (View.readAt (Elt 𝕀) arg7.view (Rect.unit (s := S1x256x1024) ![0, 64, 0] S1x64x1024.size inb_S1x256x1024_S1x64x1024_0_64_0).toLoadRect (arg7.view.rep x3)) (View.readAt (Elt 𝕀) scM0_3.view (Rect.unit (s := S8x64x1024) ![3, 0, 0] S1x64x1024.size inb_S8x64x1024_S1x64x1024_3_0_0).toLoadRect xa3) = _ :=
      aEq (S := (k0_pay88 (F := 𝕀))) (loadK arg6 x2) (Slots.load (Val := Elt 𝕀) (a := 256) (b := 1024) scM0_0.view xa0 3 (by decide) inb_S8x256x1024_S1x256x1024_3_0_0) (Slots.load (Val := Elt 𝕀) (a := 1) (b := 1024) scM0_1.view xa1 3 (by decide) inb_S8x1x1024_S1x1x1024_3_0_0) (loadV 3 rfl arg7 x3 inb_S1x256x1024_S1x64x1024_0_64_0) (Slots.load (Val := Elt 𝕀) (a := 64) (b := 1024) scM0_3.view xa3 3 (by decide) inb_S8x64x1024_S1x64x1024_3_0_0)
    exact Eq.trans (by rfl) e
  · have e : aOut ((k0_pay88 (F := 𝕀)) (View.readAt (Elt 𝕀) arg6.view (Rect.unit ![0, 0, 0] S1x1024x256.size inb_S1x1024x256_S1x1024x256_0_0_0).toLoadRect (arg6.view.rep x2)) (View.readAt (Elt 𝕀) scM0_0.view (Rect.unit (s := S8x256x1024) ![2, 0, 0] S1x256x1024.size inb_S8x256x1024_S1x256x1024_2_0_0).toLoadRect xa0)) (View.readAt (Elt 𝕀) scM0_1.view (Rect.unit (s := S8x1x1024) ![2, 0, 0] S1x1x1024.size inb_S8x1x1024_S1x1x1024_2_0_0).toLoadRect xa1) (View.readAt (Elt 𝕀) arg7.view (Rect.unit (s := S1x256x1024) ![0, 64, 0] S1x64x1024.size inb_S1x256x1024_S1x64x1024_0_64_0).toLoadRect (arg7.view.rep x3)) (View.readAt (Elt 𝕀) scM0_3.view (Rect.unit (s := S8x64x1024) ![2, 0, 0] S1x64x1024.size inb_S8x64x1024_S1x64x1024_2_0_0).toLoadRect xa3) = _ :=
      aEq (S := (k0_pay88 (F := 𝕀))) (loadK arg6 x2) (Slots.load (Val := Elt 𝕀) (a := 256) (b := 1024) scM0_0.view xa0 2 (by decide) inb_S8x256x1024_S1x256x1024_2_0_0) (Slots.load (Val := Elt 𝕀) (a := 1) (b := 1024) scM0_1.view xa1 2 (by decide) inb_S8x1x1024_S1x1x1024_2_0_0) (loadV 2 rfl arg7 x3 inb_S1x256x1024_S1x64x1024_0_64_0) (Slots.load (Val := Elt 𝕀) (a := 64) (b := 1024) scM0_3.view xa3 2 (by decide) inb_S8x64x1024_S1x64x1024_2_0_0)
    exact Eq.trans (by rfl) e
  · have e : aOut ((k0_pay88 (F := 𝕀)) (View.readAt (Elt 𝕀) arg6.view (Rect.unit ![0, 0, 0] S1x1024x256.size inb_S1x1024x256_S1x1024x256_0_0_0).toLoadRect (arg6.view.rep x2)) (View.readAt (Elt 𝕀) scM0_0.view (Rect.unit (s := S8x256x1024) ![1, 0, 0] S1x256x1024.size inb_S8x256x1024_S1x256x1024_1_0_0).toLoadRect xa0)) (View.readAt (Elt 𝕀) scM0_1.view (Rect.unit (s := S8x1x1024) ![1, 0, 0] S1x1x1024.size inb_S8x1x1024_S1x1x1024_1_0_0).toLoadRect xa1) (View.readAt (Elt 𝕀) arg7.view (Rect.unit (s := S1x256x1024) ![0, 0, 0] S1x64x1024.size inb_S1x256x1024_S1x64x1024_0_0_0).toLoadRect (arg7.view.rep x3)) (View.readAt (Elt 𝕀) scM0_3.view (Rect.unit (s := S8x64x1024) ![1, 0, 0] S1x64x1024.size inb_S8x64x1024_S1x64x1024_1_0_0).toLoadRect xa3) = _ :=
      aEq (S := (k0_pay88 (F := 𝕀))) (loadK arg6 x2) (Slots.load (Val := Elt 𝕀) (a := 256) (b := 1024) scM0_0.view xa0 1 (by decide) inb_S8x256x1024_S1x256x1024_1_0_0) (Slots.load (Val := Elt 𝕀) (a := 1) (b := 1024) scM0_1.view xa1 1 (by decide) inb_S8x1x1024_S1x1x1024_1_0_0) (loadV 1 rfl arg7 x3 inb_S1x256x1024_S1x64x1024_0_0_0) (Slots.load (Val := Elt 𝕀) (a := 64) (b := 1024) scM0_3.view xa3 1 (by decide) inb_S8x64x1024_S1x64x1024_1_0_0)
    exact Eq.trans (by rfl) e
  · have e : aOut ((k0_pay88 (F := 𝕀)) (View.readAt (Elt 𝕀) arg6.view (Rect.unit ![0, 0, 0] S1x1024x256.size inb_S1x1024x256_S1x1024x256_0_0_0).toLoadRect (arg6.view.rep x2)) (View.readAt (Elt 𝕀) scM0_0.view (Rect.unit (s := S8x256x1024) ![0, 0, 0] S1x256x1024.size inb_S8x256x1024_S1x256x1024_0_0_0).toLoadRect xa0)) (View.readAt (Elt 𝕀) scM0_1.view (Rect.unit (s := S8x1x1024) ![0, 0, 0] S1x1x1024.size inb_S8x1x1024_S1x1x1024_0_0_0).toLoadRect xa1) (View.readAt (Elt 𝕀) arg7.view (Rect.unit (s := S1x256x1024) ![0, 0, 0] S1x64x1024.size inb_S1x256x1024_S1x64x1024_0_0_0).toLoadRect (arg7.view.rep x3)) (View.readAt (Elt 𝕀) scM0_3.view (Rect.unit (s := S8x64x1024) ![0, 0, 0] S1x64x1024.size inb_S8x64x1024_S1x64x1024_0_0_0).toLoadRect xa3) = _ :=
      aEq (S := (k0_pay88 (F := 𝕀))) (loadK arg6 x2) (Slots.load (Val := Elt 𝕀) (a := 256) (b := 1024) scM0_0.view xa0 0 (by decide) inb_S8x256x1024_S1x256x1024_0_0_0) (Slots.load (Val := Elt 𝕀) (a := 1) (b := 1024) scM0_1.view xa1 0 (by decide) inb_S8x1x1024_S1x1x1024_0_0_0) (loadV 0 rfl arg7 x3 inb_S1x256x1024_S1x64x1024_0_0_0) (Slots.load (Val := Elt 𝕀) (a := 64) (b := 1024) scM0_3.view xa3 0 (by decide) inb_S8x64x1024_S1x64x1024_0_0_0)
    exact Eq.trans (by rfl) e

end C

end Cert.KernelIdeal.Att

end
-- ==== Proof.OutC.lean ====
/- The block written at a diagonal tile that is a later key tile of its queries. -/
module

public import proofs.«01_k».proof.Proof.Out
public import proofs.«01_k».proof.Proof.StepD

@[expose] public section

set_option maxRecDepth 16384
set_option maxHeartbeats 400000

noncomputable section

namespace Cert.KernelIdeal.Att

open Idealize.ShloMosaic Idealize.ShloMosaic.TcCoe Cert.KernelIdeal Cert.KernelIdeal.Gen
local notation "𝕀" => Idealize.ShloMosaic.Ideal

namespace C

variable (c : Dev nD) (arg4 : Memref sig .tc .vmem S4x32 .f32) (arg6 : Memref sig .tc .vmem S1x1024x256 .bf16) (arg7 : Memref sig .tc .vmem S1x256x1024 .bf16)
  (arg8 : Memref sig .tc .vmem S1x256 .f32)
  (x0 : S4x32.Idx → EReal) (x2 : S1x1024x256.Idx → EReal) (x3 : S1x256x1024.Idx → EReal) (x4 : S1x256.Idx → EReal)
  (xa0 : Buf (Elt 𝕀) ((c : Thread nD τ).loc cc0_scratch0)) (xa1 : Buf (Elt 𝕀) ((c : Thread nD τ).loc cc0_scratch1))
  (xa2 : Buf (Elt 𝕀) ((c : Thread nD τ).loc cc0_scratch2)) (xa3 : Buf (Elt 𝕀) ((c : Thread nD τ).loc cc0_scratch3))

/-- A load of a slot of the denominators after a later key tile on the diagonal. -/
theorem l_after (h : ℕ) (hh : h < 8) (inb : ∀ x, (![h, 0, 0] : Fin 3 → ℕ) x + S1x1x1024.size x ≤ S8x1x1024.size x) :
    scM0_2.view.readCov (kernelRun0_C.sl.HS2_8 c arg6 x2 xa0 xa1 xa2) (Rect.unit (s := S8x1x1024) ![h, 0, 0] S1x1x1024.size inb).toLoadRect
      = slot1 ⟨h, hh⟩ (fun y : S8x1x1024.Idx => lG (k0_pay88 (F := 𝕀)) x2 (scM0_0.view.read (Elt 𝕀) xa0) (scM0_1.view.read (Elt 𝕀) xa1) (scM0_2.view.read (Elt 𝕀) xa2) (y 0) (ix3 0 (y 1) (y 2))) := by
  unfold View.readCov
  refine (Slots.load (Val := Elt 𝕀) (a := 1) (b := 1024) scM0_2.view _ h hh inb).trans ?_
  rw [l_read]
  rfl

/-- A load of a slot of the weighted sums after a later key tile on the diagonal. -/
theorem a_after (h : ℕ) (hh : h < 8) (inb : ∀ x, (![h, 0, 0] : Fin 3 → ℕ) x + S1x64x1024.size x ≤ S8x64x1024.size x) :
    scM0_3.view.readCov (kernelRun0_C.sl.HS3_8 c arg6 arg7 x2 x3 xa0 xa1 xa3) (Rect.unit (s := S8x64x1024) ![h, 0, 0] S1x64x1024.size inb).toLoadRect
      = slotA ⟨h, hh⟩ (fun y : S8x64x1024.Idx => aG (k0_pay88 (F := 𝕀)) x2 (scM0_0.view.read (Elt 𝕀) xa0) (scM0_1.view.read (Elt 𝕀) xa1) x3 (scM0_3.view.read (Elt 𝕀) xa3) (y 0) (ix3 0 (y 1) (y 2))) := by
  unfold View.readCov
  refine (Slots.load (Val := Elt 𝕀) (a := 64) (b := 1024) scM0_3.view _ h hh inb).trans ?_
  rw [a_read]
  rfl

/-- The block written at a later key tile on the diagonal. -/
theorem out_read (f : VO0_5.ty.Contents (Elt 𝕀)) : VO0_5.read (Elt 𝕀) (VO0_5.writes (Elt 𝕀) f (kernelRun0_C.sl.HO5_1 c arg4 arg6 arg7 arg8 x0 x2 x3 x4 xa0 xa1 xa2 xa3))
    = outW (lamW x0) (fun h => slotA h (fun y : S8x64x1024.Idx => aG (k0_pay88 (F := 𝕀)) x2 (scM0_0.view.read (Elt 𝕀) xa0) (scM0_1.view.read (Elt 𝕀) xa1) x3 (scM0_3.view.read (Elt 𝕀) xa3) (y 0) (ix3 0 (y 1) (y 2)))) (fun h => slot1 h (fun y : S8x1x1024.Idx => lG (k0_pay88 (F := 𝕀)) x2 (scM0_0.view.read (Elt 𝕀) xa0) (scM0_1.view.read (Elt 𝕀) xa1) (scM0_2.view.read (Elt 𝕀) xa2) (y 0) (ix3 0 (y 1) (y 2)))) x4 := by
  have e : k0_pay5 (k0_pay173 (k0_pay166 (View.readAt (Elt 𝕀) arg4.view (Rect.unit (s := S4x32) ![0, 0] S1x32.size inb_S4x32_S1x32_0_0).toLoadRect (arg4.view.rep x0)) (View.readAt (Elt 𝕀) arg4.view (Rect.unit (s := S4x32) ![1, 0] S1x32.size inb_S4x32_S1x32_1_0).toLoadRect (arg4.view.rep x0)) (View.readAt (Elt 𝕀) arg4.view (Rect.unit (s := S4x32) ![2, 0] S1x32.size inb_S4x32_S1x32_2_0).toLoadRect (arg4.view.rep x0)) (View.readAt (Elt 𝕀) arg4.view (Rect.unit (s := S4x32) ![3, 0] S1x32.size inb_S4x32_S1x32_3_0).toLoadRect (arg4.view.rep x0)))
      (k0_pay167 (k0_pay166 (View.readAt (Elt 𝕀) arg4.view (Rect.unit (s := S4x32) ![0, 0] S1x32.size inb_S4x32_S1x32_0_0).toLoadRect (arg4.view.rep x0)) (View.readAt (Elt 𝕀) arg4.view (Rect.unit (s := S4x32) ![1, 0] S1x32.size inb_S4x32_S1x32_1_0).toLoadRect (arg4.view.rep x0)) (View.readAt (Elt 𝕀) arg4.view (Rect.unit (s := S4x32) ![2, 0] S1x32.size inb_S4x32_S1x32_2_0).toLoadRect (arg4.view.rep x0)) (View.readAt (Elt 𝕀) arg4.view (Rect.unit (s := S4x32) ![3, 0] S1x32.size inb_S4x32_S1x32_3_0).toLoadRect (arg4.view.rep x0))) (scM0_3.view.readCov (kernelRun0_C.sl.HS3_8 c arg6 arg7 x2 x3 xa0 xa1 xa3) (Rect.unit (s := S8x64x1024) ![0, 0, 0] S1x64x1024.size inb_S8x64x1024_S1x64x1024_0_0_0).toLoadRect) (scM0_2.view.readCov (kernelRun0_C.sl.HS2_8 c arg6 x2 xa0 xa1 xa2) (Rect.unit (s := S8x1x1024) ![0, 0, 0] S1x1x1024.size inb_S8x1x1024_S1x1x1024_0_0_0).toLoadRect) (scM0_3.view.readCov (kernelRun0_C.sl.HS3_8 c arg6 arg7 x2 x3 xa0 xa1 xa3) (Rect.unit (s := S8x64x1024) ![1, 0, 0] S1x64x1024.size inb_S8x64x1024_S1x64x1024_1_0_0).toLoadRect) (scM0_2.view.readCov (kernelRun0_C.sl.HS2_8 c arg6 x2 xa0 xa1 xa2) (Rect.unit (s := S8x1x1024) ![1, 0, 0] S1x1x1024.size inb_S8x1x1024_S1x1x1024_1_0_0).toLoadRect))
      (k0_pay171 (k0_pay166 (View.readAt (Elt 𝕀) arg4.view (Rect.unit (s := S4x32) ![0, 0] S1x32.size inb_S4x32_S1x32_0_0).toLoadRect (arg4.view.rep x0)) (View.readAt (Elt 𝕀) arg4.view (Rect.unit (s := S4x32) ![1, 0] S1x32.size inb_S4x32_S1x32_1_0).toLoadRect (arg4.view.rep x0)) (View.readAt (Elt 𝕀) arg4.view (Rect.unit (s := S4x32) ![2, 0] S1x32.size inb_S4x32_S1x32_2_0).toLoadRect (arg4.view.rep x0)) (View.readAt (Elt 𝕀) arg4.view (Rect.unit (s := S4x32) ![3, 0] S1x32.size inb_S4x32_S1x32_3_0).toLoadRect (arg4.view.rep x0))) (k0_pay168 (scM0_3.view.readCov (kernelRun0_C.sl.HS3_8 c arg6 arg7 x2 x3 xa0 xa1 xa3) (Rect.unit (s := S8x64x1024) ![2, 0, 0] S1x64x1024.size inb_S8x64x1024_S1x64x1024_2_0_0).toLoadRect) (scM0_2.view.readCov (kernelRun0_C.sl.HS2_8 c arg6 x2 xa0 xa1 xa2) (Rect.unit (s := S8x1x1024) ![2, 0, 0] S1x1x1024.size inb_S8x1x1024_S1x1x1024_2_0_0).toLoadRect)) (k0_pay169 (scM0_3.view.readCov (kernelRun0_C.sl.HS3_8 c arg6 arg7 x2 x3 xa0 xa1 xa3) (Rect.unit (s := S8x64x1024) ![3, 0, 0] S1x64x1024.size inb_S8x64x1024_S1x64x1024_3_0_0).toLoadRect)) (k0_pay170 (scM0_2.view.readCov (kernelRun0_C.sl.HS2_8 c arg6 x2 xa0 xa1 xa2) (Rect.unit (s := S8x1x1024) ![3, 0, 0] S1x1x1024.size inb_S8x1x1024_S1x1x1024_3_0_0).toLoadRect)))
      (k0_pay172 (k0_pay166 (View.readAt (Elt 𝕀) arg4.view (Rect.unit (s := S4x32) ![0, 0] S1x32.size inb_S4x32_S1x32_0_0).toLoadRect (arg4.view.rep x0)) (View.readAt (Elt 𝕀) arg4.view (Rect.unit (s := S4x32) ![1, 0] S1x32.size inb_S4x32_S1x32_1_0).toLoadRect (arg4.view.rep x0)) (View.readAt (Elt 𝕀) arg4.view (Rect.unit (s := S4x32) ![2, 0] S1x32.size inb_S4x32_S1x32_2_0).toLoadRect (arg4.view.rep x0)) (View.readAt (Elt 𝕀) arg4.view (Rect.unit (s := S4x32) ![3, 0] S1x32.size inb_S4x32_S1x32_3_0).toLoadRect (arg4.view.rep x0))) (scM0_3.view.readCov (kernelRun0_C.sl.HS3_8 c arg6 arg7 x2 x3 xa0 xa1 xa3) (Rect.unit (s := S8x64x1024) ![4, 0, 0] S1x64x1024.size inb_S8x64x1024_S1x64x1024_4_0_0).toLoadRect) (scM0_2.view.readCov (kernelRun0_C.sl.HS2_8 c arg6 x2 xa0 xa1 xa2) (Rect.unit (s := S8x1x1024) ![4, 0, 0] S1x1x1024.size inb_S8x1x1024_S1x1x1024_4_0_0).toLoadRect) (scM0_3.view.readCov (kernelRun0_C.sl.HS3_8 c arg6 arg7 x2 x3 xa0 xa1 xa3) (Rect.unit (s := S8x64x1024) ![5, 0, 0] S1x64x1024.size inb_S8x64x1024_S1x64x1024_5_0_0).toLoadRect) (scM0_2.view.readCov (kernelRun0_C.sl.HS2_8 c arg6 x2 xa0 xa1 xa2) (Rect.unit (s := S8x1x1024) ![5, 0, 0] S1x1x1024.size inb_S8x1x1024_S1x1x1024_5_0_0).toLoadRect))
      (scM0_3.view.readCov (kernelRun0_C.sl.HS3_8 c arg6 arg7 x2 x3 xa0 xa1 xa3) (Rect.unit (s := S8x64x1024) ![6, 0, 0] S1x64x1024.size inb_S8x64x1024_S1x64x1024_6_0_0).toLoadRect) (scM0_2.view.readCov (kernelRun0_C.sl.HS2_8 c arg6 x2 xa0 xa1 xa2) (Rect.unit (s := S8x1x1024) ![6, 0, 0] S1x1x1024.size inb_S8x1x1024_S1x1x1024_6_0_0).toLoadRect) (scM0_3.view.readCov (kernelRun0_C.sl.HS3_8 c arg6 arg7 x2 x3 xa0 xa1 xa3) (Rect.unit (s := S8x64x1024) ![7, 0, 0] S1x64x1024.size inb_S8x64x1024_S1x64x1024_7_0_0).toLoadRect) (scM0_2.view.readCov (kernelRun0_C.sl.HS2_8 c arg6 x2 xa0 xa1 xa2) (Rect.unit (s := S8x1x1024) ![7, 0, 0] S1x1x1024.size inb_S8x1x1024_S1x1x1024_7_0_0).toLoadRect) (View.readAt (Elt 𝕀) arg8.view (Rect.unit ![0, 0] S1x256.size inb_S1x256_S1x256_0_0).toLoadRect (arg8.view.rep x4))) (Scalar.ofBits .f32 0x3F4CCCCD#32 : 𝕀 .f32) = _ :=
    outEq (fun h => slotA h (fun y : S8x64x1024.Idx => aG (k0_pay88 (F := 𝕀)) x2 (scM0_0.view.read (Elt 𝕀) xa0) (scM0_1.view.read (Elt 𝕀) xa1) x3 (scM0_3.view.read (Elt 𝕀) xa3) (y 0) (ix3 0 (y 1) (y 2)))) (fun h => slot1 h (fun y : S8x1x1024.Idx => lG (k0_pay88 (F := 𝕀)) x2 (scM0_0.view.read (Elt 𝕀) xa0) (scM0_1.view.read (Elt 𝕀) xa1) (scM0_2.view.read (Elt 𝕀) xa2) (y 0) (ix3 0 (y 1) (y 2))))
      (lamEq arg4 x0) (loadS arg8 x4)
      (a_after c arg6 arg7 x2 x3 xa0 xa1 xa3 0 (by decide) inb_S8x64x1024_S1x64x1024_0_0_0)
      (a_after c arg6 arg7 x2 x3 xa0 xa1 xa3 1 (by decide) inb_S8x64x1024_S1x64x1024_1_0_0)
      (a_after c arg6 arg7 x2 x3 xa0 xa1 xa3 2 (by decide) inb_S8x64x1024_S1x64x1024_2_0_0)
      (a_after c arg6 arg7 x2 x3 xa0 xa1 xa3 3 (by decide) inb_S8x64x1024_S1x64x1024_3_0_0)
      (a_after c arg6 arg7 x2 x3 xa0 xa1 xa3 4 (by decide) inb_S8x64x1024_S1x64x1024_4_0_0)
      (a_after c arg6 arg7 x2 x3 xa0 xa1 xa3 5 (by decide) inb_S8x64x1024_S1x64x1024_5_0_0)
      (a_after c arg6 arg7 x2 x3 xa0 xa1 xa3 6 (by decide) inb_S8x64x1024_S1x64x1024_6_0_0)
      (a_after c arg6 arg7 x2 x3 xa0 xa1 xa3 7 (by decide) inb_S8x64x1024_S1x64x1024_7_0_0)
      (l_after c arg6 x2 xa0 xa1 xa2 0 (by decide) inb_S8x1x1024_S1x1x1024_0_0_0)
      (l_after c arg6 x2 xa0 xa1 xa2 1 (by decide) inb_S8x1x1024_S1x1x1024_1_0_0)
      (l_after c arg6 x2 xa0 xa1 xa2 2 (by decide) inb_S8x1x1024_S1x1x1024_2_0_0)
      (l_after c arg6 x2 xa0 xa1 xa2 3 (by decide) inb_S8x1x1024_S1x1x1024_3_0_0)
      (l_after c arg6 x2 xa0 xa1 xa2 4 (by decide) inb_S8x1x1024_S1x1x1024_4_0_0)
      (l_after c arg6 x2 xa0 xa1 xa2 5 (by decide) inb_S8x1x1024_S1x1x1024_5_0_0)
      (l_after c arg6 x2 xa0 xa1 xa2 6 (by decide) inb_S8x1x1024_S1x1x1024_6_0_0)
      (l_after c arg6 x2 xa0 xa1 xa2 7 (by decide) inb_S8x1x1024_S1x1x1024_7_0_0)
  unfold kernelRun0_C.sl.HO5_1
  refine Eq.trans (View.read_writes_full VO0_5 f inb_S1x1024x256_S1x1024x256_0_0_0 _ []) ?_
  exact Eq.trans (by rfl) e

end C

end Cert.KernelIdeal.Att

end
-- ==== Proof.StepA.lean ====
/- What a first key tile leaves in the scratch buffers, slot by slot, on the diagonal. -/
module

public import proofs.«01_k».proof.Proof.Tile
public import proofs.«01_k».proof.Proof.Slots

@[expose] public section

set_option maxRecDepth 16384
set_option maxHeartbeats 400000

noncomputable section

namespace Cert.KernelIdeal.Att

open Idealize.ShloMosaic Idealize.ShloMosaic.TcCoe Cert.KernelIdeal Cert.KernelIdeal.Gen
local notation "𝕀" => Idealize.ShloMosaic.Ideal

namespace A

variable (arg5 : Memref sig .tc .vmem S1x256x1024 .bf16) (arg6 : Memref sig .tc .vmem S1x1024x256 .bf16) (arg7 : Memref sig .tc .vmem S1x256x1024 .bf16)
  (x1 : S1x256x1024.Idx → EReal) (x2 : S1x1024x256.Idx → EReal) (x3 : S1x256x1024.Idx → EReal)

/-- The eight masked copies of the query tile after a first key tile on the diagonal. -/
theorem q_read (f : scM0_0.view.ty.Contents (Elt 𝕀)) : scM0_0.view.read (Elt 𝕀) (scM0_0.view.writes (Elt 𝕀) f (kernelRun0_A.sl.HS0_8 arg5 x1))
    = fun y : S8x256x1024.Idx => qG x1 (y 0) (ix3 0 (y 1) (y 2)) := by
  refine Slots.read_slots (Val := Elt 𝕀) (a := 256) (b := 1024) scM0_0.view _ (qG x1) _ _ _ _ _ _ _ _ [] ?_ ?_ ?_ ?_ ?_ ?_ ?_ ?_
  · have e : qPay 7 (View.readAt (Elt 𝕀) arg5.view (Rect.unit ![0, 0, 0] S1x256x1024.size inb_S1x256x1024_S1x256x1024_0_0_0).toLoadRect (arg5.view.rep x1)) = _ :=
      congrArg (qPay 7) (loadQ arg5 x1)
    exact Eq.trans (by rfl) e
  · have e : qPay 6 (View.readAt (Elt 𝕀) arg5.view (Rect.unit ![0, 0, 0] S1x256x1024.size inb_S1x256x1024_S1x256x1024_0_0_0).toLoadRect (arg5.view.rep x1)) = _ :=
      congrArg (qPay 6) (loadQ arg5 x1)
    exact Eq.trans (by rfl) e
  · have e : qPay 5 (View.readAt (Elt 𝕀) arg5.view (Rect.unit ![0, 0, 0] S1x256x1024.size inb_S1x256x1024_S1x256x1024_0_0_0).toLoadRect (arg5.view.rep x1)) = _ :=
      congrArg (qPay 5) (loadQ arg5 x1)
    exact Eq.trans (by rfl) e
  · have e : qPay 4 (View.readAt (Elt 𝕀) arg5.view (Rect.unit ![0, 0, 0] S1x256x1024.size inb_S1x256x1024_S1x256x1024_0_0_0).toLoadRect (arg5.view.rep x1)) = _ :=
      congrArg (qPay 4) (loadQ arg5 x1)
    exact Eq.trans (by rfl) e
  · have e : qPay 3 (View.readAt (Elt 𝕀) arg5.view (Rect.unit ![0, 0, 0] S1x256x1024.size inb_S1x256x1024_S1x256x1024_0_0_0).toLoadRect (arg5.view.rep x1)) = _ :=
      congrArg (qPay 3) (loadQ arg5 x1)
    exact Eq.trans (by rfl) e
  · have e : qPay 2 (View.readAt (Elt 𝕀) arg5.view (Rect.unit ![0, 0, 0] S1x256x1024.size inb_S1x256x1024_S1x256x1024_0_0_0).toLoadRect (arg5.view.rep x1)) = _ :=
      congrArg (qPay 2) (loadQ arg5 x1)
    exact Eq.trans (by rfl) e
  · have e : qPay 1 (View.readAt (Elt 𝕀) arg5.view (Rect.unit ![0, 0, 0] S1x256x1024.size inb_S1x256x1024_S1x256x1024_0_0_0).toLoadRect (arg5.view.rep x1)) = _ :=
      congrArg (qPay 1) (loadQ arg5 x1)
    exact Eq.trans (by rfl) e
  · have e : qPay 0 (View.readAt (Elt 𝕀) arg5.view (Rect.unit ![0, 0, 0] S1x256x1024.size inb_S1x256x1024_S1x256x1024_0_0_0).toLoadRect (arg5.view.rep x1)) = _ :=
      congrArg (qPay 0) (loadQ arg5 x1)
    exact Eq.trans (by rfl) e

/-- A load of slot `h` after them. -/
theorem q_load (h : ℕ) (hh : h < 8) (inb : ∀ x, (![h, 0, 0] : Fin 3 → ℕ) x + S1x256x1024.size x ≤ S8x256x1024.size x) :
    scM0_0.view.readCov (kernelRun0_A.sl.HS0_8 arg5 x1) (Rect.unit (s := S8x256x1024) ![h, 0, 0] S1x256x1024.size inb).toLoadRect
      = slotQ ⟨h, hh⟩ (fun y : S8x256x1024.Idx => qG x1 (y 0) (ix3 0 (y 1) (y 2))) := by
  unfold View.readCov
  refine (Slots.load (Val := Elt 𝕀) (a := 256) (b := 1024) scM0_0.view _ h hh inb).trans ?_
  rw [q_read]
  rfl

/-- Slot 0 of the maxima is loaded as it was initialised. -/
theorem m_load0 : scM0_1.view.readCov (kernelRun0_A.sl.HS1_1) (Rect.unit (s := S8x1x1024) ![0, 0, 0] S1x1x1024.size inb_S8x1x1024_S1x1x1024_0_0_0).toLoadRect = slot1 0 (k0_pay6 (F := 𝕀)) :=
  Slots.fill (Val := Elt 𝕀) (a := 1) (b := 1024) scM0_1.view 0 (by decide) _ _ _

/-- Slot 1 of the maxima is loaded as it was initialised. -/
theorem m_load1 : scM0_1.view.readCov (kernelRun0_A.sl.HS1_2 arg5 arg6 x1 x2) (Rect.unit (s := S8x1x1024) ![1, 0, 0] S1x1x1024.size inb_S8x1x1024_S1x1x1024_1_0_0).toLoadRect = slot1 1 (k0_pay6 (F := 𝕀)) :=
  (Slots.skip (Val := Elt 𝕀) (a := 1) (b := 1024) scM0_1.view 1 (by decide) _ _ _ _ (by decide)).trans <| Slots.fill (Val := Elt 𝕀) (a := 1) (b := 1024) scM0_1.view 1 (by decide) _ _ _

/-- Slot 2 of the maxima is loaded as it was initialised. -/
theorem m_load2 : scM0_1.view.readCov (kernelRun0_A.sl.HS1_3 arg5 arg6 x1 x2) (Rect.unit (s := S8x1x1024) ![2, 0, 0] S1x1x1024.size inb_S8x1x1024_S1x1x1024_2_0_0).toLoadRect = slot1 2 (k0_pay6 (F := 𝕀)) :=
  (Slots.skip (Val := Elt 𝕀) (a := 1) (b := 1024) scM0_1.view 2 (by decide) _ _ _ _ (by decide)).trans <| (Slots.skip (Val := Elt 𝕀) (a := 1) (b := 1024) scM0_1.view 2 (by decide) _ _ _ _ (by decide)).trans <| Slots.fill (Val := Elt 𝕀) (a := 1) (b := 1024) scM0_1.view 2 (by decide) _ _ _

/-- Slot 3 of the maxima is loaded as it was initialised. -/
theorem m_load3 : scM0_1.view.readCov (kernelRun0_A.sl.HS1_4 arg5 arg6 x1 x2) (Rect.unit (s := S8x1x1024) ![3, 0, 0] S1x1x1024.size inb_S8x1x1024_S1x1x1024_3_0_0).toLoadRect = slot1 3 (k0_pay6 (F := 𝕀)) :=
  (Slots.skip (Val := Elt 𝕀) (a := 1) (b := 1024) scM0_1.view 3 (by decide) _ _ _ _ (by decide)).trans <| (Slots.skip (Val := Elt 𝕀) (a := 1) (b := 1024) scM0_1.view 3 (by decide) _ _ _ _ (by decide)).trans <| (Slots.skip (Val := Elt 𝕀) (a := 1) (b := 1024) scM0_1.view 3 (by decide) _ _ _ _ (by decide)).trans <| Slots.fill (Val := Elt 𝕀) (a := 1) (b := 1024) scM0_1.view 3 (by decide) _ _ _

/-- Slot 4 of the maxima is loaded as it was initialised. -/
theorem m_load4 : scM0_1.view.readCov (kernelRun0_A.sl.HS1_5 arg5 arg6 x1 x2) (Rect.unit (s := S8x1x1024) ![4, 0, 0] S1x1x1024.size inb_S8x1x1024_S1x1x1024_4_0_0).toLoadRect = slot1 4 (k0_pay6 (F := 𝕀)) :=
  (Slots.skip (Val := Elt 𝕀) (a := 1) (b := 1024) scM0_1.view 4 (by decide) _ _ _ _ (by decide)).trans <| (Slots.skip (Val := Elt 𝕀) (a := 1) (b := 1024) scM0_1.view 4 (by decide) _ _ _ _ (by decide)).trans <| (Slots.skip (Val := Elt 𝕀) (a := 1) (b := 1024) scM0_1.view 4 (by decide) _ _ _ _ (by decide)).trans <| (Slots.skip (Val := Elt 𝕀) (a := 1) (b := 1024) scM0_1.view 4 (by decide) _ _ _ _ (by decide)).trans <| Slots.fill (Val := Elt 𝕀) (a := 1) (b := 1024) scM0_1.view 4 (by decide) _ _ _

/-- Slot 5 of the maxima is loaded as it was initialised. -/
theorem m_load5 : scM0_1.view.readCov (kernelRun0_A.sl.HS1_6 arg5 arg6 x1 x2) (Rect.unit (s := S8x1x1024) ![5, 0, 0] S1x1x1024.size inb_S8x1x1024_S1x1x1024_5_0_0).toLoadRect = slot1 5 (k0_pay6 (F := 𝕀)) :=
  (Slots.skip (Val := Elt 𝕀) (a := 1) (b := 1024) scM0_1.view 5 (by decide) _ _ _ _ (by decide)).trans <| (Slots.skip (Val := Elt 𝕀) (a := 1) (b := 1024) scM0_1.view 5 (by decide) _ _ _ _ (by decide)).trans <| (Slots.skip (Val := Elt 𝕀) (a := 1) (b := 1024) scM0_1.view 5 (by decide) _ _ _ _ (by decide)).trans <| (Slots.skip (Val := Elt 𝕀) (a := 1) (b := 1024) scM0_1.view 5 (by decide) _ _ _ _ (by decide)).trans <| (Slots.skip (Val := Elt 𝕀) (a := 1) (b := 1024) scM0_1.view 5 (by decide) _ _ _ _ (by decide)).trans <| Slots.fill (Val := Elt 𝕀) (a := 1) (b := 1024) scM0_1.view 5 (by decide) _ _ _

/-- Slot 6 of the maxima is loaded as it was initialised. -/
theorem m_load6 : scM0_1.view.readCov (kernelRun0_A.sl.HS1_7 arg5 arg6 x1 x2) (Rect.unit (s := S8x1x1024) ![6, 0, 0] S1x1x1024.size inb_S8x1x1024_S1x1x1024_6_0_0).toLoadRect = slot1 6 (k0_pay6 (F := 𝕀)) :=
  (Slots.skip (Val := Elt 𝕀) (a := 1) (b := 1024) scM0_1.view 6 (by decide) _ _ _ _ (by decide)).trans <| (Slots.skip (Val := Elt 𝕀) (a := 1) (b := 1024) scM0_1.view 6 (by decide) _ _ _ _ (by decide)).trans <| (Slots.skip (Val := Elt 𝕀) (a := 1) (b := 1024) scM0_1.view 6 (by decide) _ _ _ _ (by decide)).trans <| (Slots.skip (Val := Elt 𝕀) (a := 1) (b := 1024) scM0_1.view 6 (by decide) _ _ _ _ (by decide)).trans <| (Slots.skip (Val := Elt 𝕀) (a := 1) (b := 1024) scM0_1.view 6 (by decide) _ _ _ _ (by decide)).trans <| (Slots.skip (Val := Elt 𝕀) (a := 1) (b := 1024) scM0_1.view 6 (by decide) _ _ _ _ (by decide)).trans <| Slots.fill (Val := Elt 𝕀) (a := 1) (b := 1024) scM0_1.view 6 (by decide) _ _ _

/-- Slot 7 of the maxima is loaded as it was initialised. -/
theorem m_load7 : scM0_1.view.readCov (kernelRun0_A.sl.HS1_8 arg5 arg6 x1 x2) (Rect.unit (s := S8x1x1024) ![7, 0, 0] S1x1x1024.size inb_S8x1x1024_S1x1x1024_7_0_0).toLoadRect = slot1 7 (k0_pay6 (F := 𝕀)) :=
  (Slots.skip (Val := Elt 𝕀) (a := 1) (b := 1024) scM0_1.view 7 (by decide) _ _ _ _ (by decide)).trans <| (Slots.skip (Val := Elt 𝕀) (a := 1) (b := 1024) scM0_1.view 7 (by decide) _ _ _ _ (by decide)).trans <| (Slots.skip (Val := Elt 𝕀) (a := 1) (b := 1024) scM0_1.view 7 (by decide) _ _ _ _ (by decide)).trans <| (Slots.skip (Val := Elt 𝕀) (a := 1) (b := 1024) scM0_1.view 7 (by decide) _ _ _ _ (by decide)).trans <| (Slots.skip (Val := Elt 𝕀) (a := 1) (b := 1024) scM0_1.view 7 (by decide) _ _ _ _ (by decide)).trans <| (Slots.skip (Val := Elt 𝕀) (a := 1) (b := 1024) scM0_1.view 7 (by decide) _ _ _ _ (by decide)).trans <| (Slots.skip (Val := Elt 𝕀) (a := 1) (b := 1024) scM0_1.view 7 (by decide) _ _ _ _ (by decide)).trans <| Slots.fill (Val := Elt 𝕀) (a := 1) (b := 1024) scM0_1.view 7 (by decide) _ _ _

/-- Slot 0 of the denominators is loaded as it was initialised. -/
theorem l_load0 : scM0_2.view.readCov (kernelRun0_A.sl.HS2_1) (Rect.unit (s := S8x1x1024) ![0, 0, 0] S1x1x1024.size inb_S8x1x1024_S1x1x1024_0_0_0).toLoadRect = slot1 0 (k0_pay7 (F := 𝕀)) :=
  Slots.fill (Val := Elt 𝕀) (a := 1) (b := 1024) scM0_2.view 0 (by decide) _ _ _

/-- Slot 1 of the denominators is loaded as it was initialised. -/
theorem l_load1 : scM0_2.view.readCov (kernelRun0_A.sl.HS2_2 arg5 arg6 x1 x2) (Rect.unit (s := S8x1x1024) ![1, 0, 0] S1x1x1024.size inb_S8x1x1024_S1x1x1024_1_0_0).toLoadRect = slot1 1 (k0_pay7 (F := 𝕀)) :=
  (Slots.skip (Val := Elt 𝕀) (a := 1) (b := 1024) scM0_2.view 1 (by decide) _ _ _ _ (by decide)).trans <| Slots.fill (Val := Elt 𝕀) (a := 1) (b := 1024) scM0_2.view 1 (by decide) _ _ _

/-- Slot 2 of the denominators is loaded as it was initialised. -/
theorem l_load2 : scM0_2.view.readCov (kernelRun0_A.sl.HS2_3 arg5 arg6 x1 x2) (Rect.unit (s := S8x1x1024) ![2, 0, 0] S1x1x1024.size inb_S8x1x1024_S1x1x1024_2_0_0).toLoadRect = slot1 2 (k0_pay7 (F := 𝕀)) :=
  (Slots.skip (Val := Elt 𝕀) (a := 1) (b := 1024) scM0_2.view 2 (by decide) _ _ _ _ (by decide)).trans <| (Slots.skip (Val := Elt 𝕀) (a := 1) (b := 1024) scM0_2.view 2 (by decide) _ _ _ _ (by decide)).trans <| Slots.fill (Val := Elt 𝕀) (a := 1) (b := 1024) scM0_2.view 2 (by decide) _ _ _

/-- Slot 3 of the denominators is loaded as it was initialised. -/
theorem l_load3 : scM0_2.view.readCov (kernelRun0_A.sl.HS2_4 arg5 arg6 x1 x2) (Rect.unit (s := S8x1x1024) ![3, 0, 0] S1x1x1024.size inb_S8x1x1024_S1x1x1024_3_0_0).toLoadRect = slot1 3 (k0_pay7 (F := 𝕀)) :=
  (Slots.skip (Val := Elt 𝕀) (a := 1) (b := 1024) scM0_2.view 3 (by decide) _ _ _ _ (by decide)).trans <| (Slots.skip (Val := Elt 𝕀) (a := 1) (b := 1024) scM0_2.view 3 (by decide) _ _ _ _ (by decide)).trans <| (Slots.skip (Val := Elt 𝕀) (a := 1) (b := 1024) scM0_2.view 3 (by decide) _ _ _ _ (by decide)).trans <| Slots.fill (Val := Elt 𝕀) (a := 1) (b := 1024) scM0_2.view 3 (by decide) _ _ _

/-- Slot 4 of the denominators is loaded as it was initialised. -/
theorem l_load4 : scM0_2.view.readCov (kernelRun0_A.sl.HS2_5 arg5 arg6 x1 x2) (Rect.unit (s := S8x1x1024) ![4, 0, 0] S1x1x1024.size inb_S8x1x1024_S1x1x1024_4_0_0).toLoadRect = slot1 4 (k0_pay7 (F := 𝕀)) :=
  (Slots.skip (Val := Elt 𝕀) (a := 1) (b := 1024) scM0_2.view 4 (by decide) _ _ _ _ (by decide)).trans <| (Slots.skip (Val := Elt 𝕀) (a := 1) (b := 1024) scM0_2.view 4 (by decide) _ _ _ _ (by decide)).trans <| (Slots.skip (Val := Elt 𝕀) (a := 1) (b := 1024) scM0_2.view 4 (by decide) _ _ _ _ (by decide)).trans <| (Slots.skip (Val := Elt 𝕀) (a := 1) (b := 1024) scM0_2.view 4 (by decide) _ _ _ _ (by decide)).trans <| Slots.fill (Val := Elt 𝕀) (a := 1) (b := 1024) scM0_2.view 4 (by decide) _ _ _

/-- Slot 5 of the denominators is loaded as it was initialised. -/
theorem l_load5 : scM0_2.view.readCov (kernelRun0_A.sl.HS2_6 arg5 arg6 x1 x2) (Rect.unit (s := S8x1x1024) ![5, 0, 0] S1x1x1024.size inb_S8x1x1024_S1x1x1024_5_0_0).toLoadRect = slot1 5 (k0_pay7 (F := 𝕀)) :=
  (Slots.skip (Val := Elt 𝕀) (a := 1) (b := 1024) scM0_2.view 5 (by decide) _ _ _ _ (by decide)).trans <| (Slots.skip (Val := Elt 𝕀) (a := 1) (b := 1024) scM0_2.view 5 (by decide) _ _ _ _ (by decide)).trans <| (Slots.skip (Val := Elt 𝕀) (a := 1) (b := 1024) scM0_2.view 5 (by decide) _ _ _ _ (by decide)).trans <| (Slots.skip (Val := Elt 𝕀) (a := 1) (b := 1024) scM0_2.view 5 (by decide) _ _ _ _ (by decide)).trans <| (Slots.skip (Val := Elt 𝕀) (a := 1) (b := 1024) scM0_2.view 5 (by decide) _ _ _ _ (by decide)).trans <| Slots.fill (Val := Elt 𝕀) (a := 1) (b := 1024) scM0_2.view 5 (by decide) _ _ _

/-- Slot 6 of the denominators is loaded as it was initialised. -/
theorem l_load6 : scM0_2.view.readCov (kernelRun0_A.sl.HS2_7 arg5 arg6 x1 x2) (Rect.unit (s := S8x1x1024) ![6, 0, 0] S1x1x1024.size inb_S8x1x1024_S1x1x1024_6_0_0).toLoadRect = slot1 6 (k0_pay7 (F := 𝕀)) :=
  (Slots.skip (Val := Elt 𝕀) (a := 1) (b := 1024) scM0_2.view 6 (by decide) _ _ _ _ (by decide)).trans <| (Slots.skip (Val := Elt 𝕀) (a := 1) (b := 1024) scM0_2.view 6 (by decide) _ _ _ _ (by decide)).trans <| (Slots.skip (Val := Elt 𝕀) (a := 1) (b := 1024) scM0_2.view 6 (by decide) _ _ _ _ (by decide)).trans <| (Slots.skip (Val := Elt 𝕀) (a := 1) (b := 1024) scM0_2.view 6 (by decide) _ _ _ _ (by decide)).trans <| (Slots.skip (Val := Elt 𝕀) (a := 1) (b := 1024) scM0_2.view 6 (by decide) _ _ _ _ (by decide)).trans <| (Slots.skip (Val := Elt 𝕀) (a := 1) (b := 1024) scM0_2.view 6 (by decide) _ _ _ _ (by decide)).trans <| Slots.fill (Val := Elt 𝕀) (a := 1) (b := 1024) scM0_2.view 6 (by decide) _ _ _

/-- Slot 7 of the denominators is loaded as it was initialised. -/
theorem l_load7 : scM0_2.view.readCov (kernelRun0_A.sl.HS2_8 arg5 arg6 x1 x2) (Rect.unit (s := S8x1x1024) ![7, 0, 0] S1x1x1024.size inb_S8x1x1024_S1x1x1024_7_0_0).toLoadRect = slot1 7 (k0_pay7 (F := 𝕀)) :=
  (Slots.skip (Val := Elt 𝕀) (a := 1) (b := 1024) scM0_2.view 7 (by decide) _ _ _ _ (by decide)).trans <| (Slots.skip (Val := Elt 𝕀) (a := 1) (b := 1024) scM0_2.view 7 (by decide) _ _ _ _ (by decide)).trans <| (Slots.skip (Val := Elt 𝕀) (a := 1) (b := 1024) scM0_2.view 7 (by decide) _ _ _ _ (by decide)).trans <| (Slots.skip (Val := Elt 𝕀) (a := 1) (b := 1024) scM0_2.view 7 (by decide) _ _ _ _ (by decide)).trans <| (Slots.skip (Val := Elt 𝕀) (a := 1) (b := 1024) scM0_2.view 7 (by decide) _ _ _ _ (by decide)).trans <| (Slots.skip (Val := Elt 𝕀) (a := 1) (b := 1024) scM0_2.view 7 (by decide) _ _ _ _ (by decide)).trans <| (Slots.skip (Val := Elt 𝕀) (a := 1) (b := 1024) scM0_2.view 7 (by decide) _ _ _ _ (by decide)).trans <| Slots.fill (Val := Elt 𝕀) (a := 1) (b := 1024) scM0_2.view 7 (by decide) _ _ _

/-- Slot 0 of the weighted sums is loaded as it was initialised. -/
theorem a_load0 : scM0_3.view.readCov (kernelRun0_A.sl.HS3_1) (Rect.unit (s := S8x64x1024) ![0, 0, 0] S1x64x1024.size inb_S8x64x1024_S1x64x1024_0_0_0).toLoadRect = slotA 0 (k0_pay8 (F := 𝕀)) :=
  Slots.fill (Val := Elt 𝕀) (a := 64) (b := 1024) scM0_3.view 0 (by decide) _ _ _

/-- Slot 1 of the weighted sums is loaded as it was initialised. -/
theorem a_load1 : scM0_3.view.readCov (kernelRun0_A.sl.HS3_2 arg5 arg6 arg7 x1 x2 x3) (Rect.unit (s := S8x64x1024) ![1, 0, 0] S1x64x1024.size inb_S8x64x1024_S1x64x1024_1_0_0).toLoadRect = slotA 1 (k0_pay8 (F := 𝕀)) :=
  (Slots.skip (Val := Elt 𝕀) (a := 64) (b := 1024) scM0_3.view 1 (by decide) _ _ _ _ (by decide)).trans <| Slots.fill (Val := Elt 𝕀) (a := 64) (b := 1024) scM0_3.view 1 (by decide) _ _ _

/-- Slot 2 of the weighted sums is loaded as it was initialised. -/
theorem a_load2 : scM0_3.view.readCov (kernelRun0_A.sl.HS3_3 arg5 arg6 arg7 x1 x2 x3) (Rect.unit (s := S8x64x1024) ![2, 0, 0] S1x64x1024.size inb_S8x64x1024_S1x64x1024_2_0_0).toLoadRect = slotA 2 (k0_pay8 (F := 𝕀)) :=
  (Slots.skip (Val := Elt 𝕀) (a := 64) (b := 1024) scM0_3.view 2 (by decide) _ _ _ _ (by decide)).trans <| (Slots.skip (Val := Elt 𝕀) (a := 64) (b := 1024) scM0_3.view 2 (by decide) _ _ _ _ (by decide)).trans <| Slots.fill (Val := Elt 𝕀) (a := 64) (b := 1024) scM0_3.view 2 (by decide) _ _ _

/-- Slot 3 of the weighted sums is loaded as it was initialised. -/
theorem a_load3 : scM0_3.view.readCov (kernelRun0_A.sl.HS3_4 arg5 arg6 arg7 x1 x2 x3) (Rect.unit (s := S8x64x1024) ![3, 0, 0] S1x64x1024.size inb_S8x64x1024_S1x64x1024_3_0_0).toLoadRect = slotA 3 (k0_pay8 (F := 𝕀)) :=
  (Slots.skip (Val := Elt 𝕀) (a := 64) (b := 1024) scM0_3.view 3 (by decide) _ _ _ _ (by decide)).trans <| (Slots.skip (Val := Elt 𝕀) (a := 64) (b := 1024) scM0_3.view 3 (by decide) _ _ _ _ (by decide)).trans <| (Slots.skip (Val := Elt 𝕀) (a := 64) (b := 1024) scM0_3.view 3 (by decide) _ _ _ _ (by decide)).trans <| Slots.fill (Val := Elt 𝕀) (a := 64) (b := 1024) scM0_3.view 3 (by decide) _ _ _

/-- Slot 4 of the weighted sums is loaded as it was initialised. -/
theorem a_load4 : scM0_3.view.readCov (kernelRun0_A.sl.HS3_5 arg5 arg6 arg7 x1 x2 x3) (Rect.unit (s := S8x64x1024) ![4, 0, 0] S1x64x1024.size inb_S8x64x1024_S1x64x1024_4_0_0).toLoadRect = slotA 4 (k0_pay8 (F := 𝕀)) :=
  (Slots.skip (Val := Elt 𝕀) (a := 64) (b := 1024) scM0_3.view 4 (by decide) _ _ _ _ (by decide)).trans <| (Slots.skip (Val := Elt 𝕀) (a := 64) (b := 1024) scM0_3.view 4 (by decide) _ _ _ _ (by decide)).trans <| (Slots.skip (Val := Elt 𝕀) (a := 64) (b := 1024) scM0_3.view 4 (by decide) _ _ _ _ (by decide)).trans <| (Slots.skip (Val := Elt 𝕀) (a := 64) (b := 1024) scM0_3.view 4 (by decide) _ _ _ _ (by decide)).trans <| Slots.fill (Val := Elt 𝕀) (a := 64) (b := 1024) scM0_3.view 4 (by decide) _ _ _

/-- Slot 5 of the weighted sums is loaded as it was initialised. -/
theorem a_load5 : scM0_3.view.readCov (kernelRun0_A.sl.HS3_6 arg5 arg6 arg7 x1 x2 x3) (Rect.unit (s := S8x64x1024) ![5, 0, 0] S1x64x1024.size inb_S8x64x1024_S1x64x1024_5_0_0).toLoadRect = slotA 5 (k0_pay8 (F := 𝕀)) :=
  (Slots.skip (Val := Elt 𝕀) (a := 64) (b := 1024) scM0_3.view 5 (by decide) _ _ _ _ (by decide)).trans <| (Slots.skip (Val := Elt 𝕀) (a := 64) (b := 1024) scM0_3.view 5 (by decide) _ _ _ _ (by decide)).trans <| (Slots.skip (Val := Elt 𝕀) (a := 64) (b := 1024) scM0_3.view 5 (by decide) _ _ _ _ (by decide)).trans <| (Slots.skip (Val := Elt 𝕀) (a := 64) (b := 1024) scM0_3.view 5 (by decide) _ _ _ _ (by decide)).trans <| (Slots.skip (Val := Elt 𝕀) (a := 64) (b := 1024) scM0_3.view 5 (by decide) _ _ _ _ (by decide)).trans <| Slots.fill (Val := Elt 𝕀) (a := 64) (b := 1024) scM0_3.view 5 (by decide) _ _ _

/-- Slot 6 of the weighted sums is loaded as it was initialised. -/
theorem a_load6 : scM0_3.view.readCov (kernelRun0_A.sl.HS3_7 arg5 arg6 arg7 x1 x2 x3) (Rect.unit (s := S8x64x1024) ![6, 0, 0] S1x64x1024.size inb_S8x64x1024_S1x64x1024_6_0_0).toLoadRect = slotA 6 (k0_pay8 (F := 𝕀)) :=
  (Slots.skip (Val := Elt 𝕀) (a := 64) (b := 1024) scM0_3.view 6 (by decide) _ _ _ _ (by decide)).trans <| (Slots.skip (Val := Elt 𝕀) (a := 64) (b := 1024) scM0_3.view 6 (by decide) _ _ _ _ (by decide)).trans <| (Slots.skip (Val := Elt 𝕀) (a := 64) (b := 1024) scM0_3.view 6 (by decide) _ _ _ _ (by decide)).trans <| (Slots.skip (Val := Elt 𝕀) (a := 64) (b := 1024) scM0_3.view 6 (by decide) _ _ _ _ (by decide)).trans <| (Slots.skip (Val := Elt 𝕀) (a := 64) (b := 1024) scM0_3.view 6 (by decide) _ _ _ _ (by decide)).trans <| (Slots.skip (Val := Elt 𝕀) (a := 64) (b := 1024) scM0_3.view 6 (by decide) _ _ _ _ (by decide)).trans <| Slots.fill (Val := Elt 𝕀) (a := 64) (b := 1024) scM0_3.view 6 (by decide) _ _ _

/-- Slot 7 of the weighted sums is loaded as it was initialised. -/
theorem a_load7 : scM0_3.view.readCov (kernelRun0_A.sl.HS3_8 arg5 arg6 arg7 x1 x2 x3) (Rect.unit (s := S8x64x1024) ![7, 0, 0] S1x64x1024.size inb_S8x64x1024_S1x64x1024_7_0_0).toLoadRect = slotA 7 (k0_pay8 (F := 𝕀)) :=
  (Slots.skip (Val := Elt 𝕀) (a := 64) (b := 1024) scM0_3.view 7 (by decide) _ _ _ _ (by decide)).trans <| (Slots.skip (Val := Elt 𝕀) (a := 64) (b := 1024) scM0_3.view 7 (by decide) _ _ _ _ (by decide)).trans <| (Slots.skip (Val := Elt 𝕀) (a := 64) (b := 1024) scM0_3.view 7 (by decide) _ _ _ _ (by decide)).trans <| (Slots.skip (Val := Elt 𝕀) (a := 64) (b := 1024) scM0_3.view 7 (by decide) _ _ _ _ (by decide)).trans <| (Slots.skip (Val := Elt 𝕀) (a := 64) (b := 1024) scM0_3.view 7 (by decide) _ _ _ _ (by decide)).trans <| (Slots.skip (Val := Elt 𝕀) (a := 64) (b := 1024) scM0_3.view 7 (by decide) _ _ _ _ (by decide)).trans <| (Slots.skip (Val := Elt 𝕀) (a := 64) (b := 1024) scM0_3.view 7 (by decide) _ _ _ _ (by decide)).trans <| Slots.fill (Val := Elt 𝕀) (a := 64) (b := 1024) scM0_3.view 7 (by decide) _ _ _

/-- The maxima after a first key tile on the diagonal, slot by slot. -/
theorem m_read (f : scM0_1.view.ty.Contents (Elt 𝕀)) : scM0_1.view.read (Elt 𝕀) (scM0_1.view.writes (Elt 𝕀) f (kernelRun0_A.sl.HS1_9 arg5 arg6 x1 x2))
    = fun y : S8x1x1024.Idx => mG (k0_pay88 (F := 𝕀)) x2 (fun y : S8x256x1024.Idx => qG x1 (y 0) (ix3 0 (y 1) (y 2))) (k0_pay6 (F := 𝕀)) (y 0) (ix3 0 (y 1) (y 2)) := by
  refine Slots.read_slots (Val := Elt 𝕀) (a := 1) (b := 1024) scM0_1.view _ (mG (k0_pay88 (F := 𝕀)) x2 (fun y : S8x256x1024.Idx => qG x1 (y 0) (ix3 0 (y 1) (y 2))) (k0_pay6 (F := 𝕀))) _ _ _ _ _ _ _ _ _ ?_ ?_ ?_ ?_ ?_ ?_ ?_ ?_
  · have e : mOut ((k0_pay88 (F := 𝕀)) (View.readAt (Elt 𝕀) arg6.view (Rect.unit ![0, 0, 0] S1x1024x256.size inb_S1x1024x256_S1x1024x256_0_0_0).toLoadRect (arg6.view.rep x2)) (scM0_0.view.readCov (kernelRun0_A.sl.HS0_8 arg5 x1) (Rect.unit (s := S8x256x1024) ![7, 0, 0] S1x256x1024.size inb_S8x256x1024_S1x256x1024_7_0_0).toLoadRect)) (scM0_1.view.readCov (kernelRun0_A.sl.HS1_8 arg5 arg6 x1 x2) (Rect.unit (s := S8x1x1024) ![7, 0, 0] S1x1x1024.size inb_S8x1x1024_S1x1x1024_7_0_0).toLoadRect) = _ :=
      mEq (S := (k0_pay88 (F := 𝕀))) (loadK arg6 x2) (q_load arg5 x1 7 (by decide) inb_S8x256x1024_S1x256x1024_7_0_0) (m_load7 arg5 arg6 x1 x2)
    exact Eq.trans (by rfl) e
  · have e : mOut ((k0_pay88 (F := 𝕀)) (View.readAt (Elt 𝕀) arg6.view (Rect.unit ![0, 0, 0] S1x1024x256.size inb_S1x1024x256_S1x1024x256_0_0_0).toLoadRect (arg6.view.rep x2)) (scM0_0.view.readCov (kernelRun0_A.sl.HS0_8 arg5 x1) (Rect.unit (s := S8x256x1024) ![6, 0, 0] S1x256x1024.size inb_S8x256x1024_S1x256x1024_6_0_0).toLoadRect)) (scM0_1.view.readCov (kernelRun0_A.sl.HS1_7 arg5 arg6 x1 x2) (Rect.unit (s := S8x1x1024) ![6, 0, 0] S1x1x1024.size inb_S8x1x1024_S1x1x1024_6_0_0).toLoadRect) = _ :=
      mEq (S := (k0_pay88 (F := 𝕀))) (loadK arg6 x2) (q_load arg5 x1 6 (by decide) inb_S8x256x1024_S1x256x1024_6_0_0) (m_load6 arg5 arg6 x1 x2)
    exact Eq.trans (by rfl) e
  · have e : mOut ((k0_pay88 (F := 𝕀)) (View.readAt (Elt 𝕀) arg6.view (Rect.unit ![0, 0, 0] S1x1024x256.size inb_S1x1024x256_S1x1024x256_0_0_0).toLoadRect (arg6.view.rep x2)) (scM0_0.view.readCov (kernelRun0_A.sl.HS0_8 arg5 x1) (Rect.unit (s := S8x256x1024) ![5, 0, 0] S1x256x1024.size inb_S8x256x1024_S1x256x1024_5_0_0).toLoadRect)) (scM0_1.view.readCov (kernelRun0_A.sl.HS1_6 arg5 arg6 x1 x2) (Rect.unit (s := S8x1x1024) ![5, 0, 0] S1x1x1024.size inb_S8x1x1024_S1x1x1024_5_0_0).toLoadRect) = _ :=
      mEq (S := (k0_pay88 (F := 𝕀))) (loadK arg6 x2) (q_load arg5 x1 5 (by decide) inb_S8x256x1024_S1x256x1024_5_0_0) (m_load5 arg5 arg6 x1 x2)
    exact Eq.trans (by rfl) e
  · have e : mOut ((k0_pay88 (F := 𝕀)) (View.readAt (Elt 𝕀) arg6.view (Rect.unit ![0, 0, 0] S1x1024x256.size inb_S1x1024x256_S1x1024x256_0_0_0).toLoadRect (arg6.view.rep x2)) (scM0_0.view.readCov (kernelRun0_A.sl.HS0_8 arg5 x1) (Rect.unit (s := S8x256x1024) ![4, 0, 0] S1x256x1024.size inb_S8x256x1024_S1x256x1024_4_0_0).toLoadRect)) (scM0_1.view.readCov (kernelRun0_A.sl.HS1_5 arg5 arg6 x1 x2) (Rect.unit (s := S8x1x1024) ![4, 0, 0] S1x1x1024.size inb_S8x1x1024_S1x1x1024_4_0_0).toLoadRect) = _ :=
      mEq (S := (k0_pay88 (F := 𝕀))) (loadK arg6 x2) (q_load arg5 x1 4 (by decide) inb_S8x256x1024_S1x256x1024_4_0_0) (m_load4 arg5 arg6 x1 x2)
    exact Eq.trans (by rfl) e
  · have e : mOut ((k0_pay88 (F := 𝕀)) (View.readAt (Elt 𝕀) arg6.view (Rect.unit ![0, 0, 0] S1x1024x256.size inb_S1x1024x256_S1x1024x256_0_0_0).toLoadRect (arg6.view.rep x2)) (scM0_0.view.readCov (kernelRun0_A.sl.HS0_8 arg5 x1) (Rect.unit (s := S8x256x1024) ![3, 0, 0] S1x256x1024.size inb_S8x256x1024_S1x256x1024_3_0_0).toLoadRect)) (scM0_1.view.readCov (kernelRun0_A.sl.HS1_4 arg5 arg6 x1 x2) (Rect.unit (s := S8x1x1024) ![3, 0, 0] S1x1x1024.size inb_S8x1x1024_S1x1x1024_3_0_0).toLoadRect) = _ :=
      mEq (S := (k0_pay88 (F := 𝕀))) (loadK arg6 x2) (q_load arg5 x1 3 (by decide) inb_S8x256x1024_S1x256x1024_3_0_0) (m_load3 arg5 arg6 x1 x2)
    exact Eq.trans (by rfl) e
  · have e : mOut ((k0_pay88 (F := 𝕀)) (View.readAt (Elt 𝕀) arg6.view (Rect.unit ![0, 0, 0] S1x1024x256.size inb_S1x1024x256_S1x1024x256_0_0_0).toLoadRect (arg6.view.rep x2)) (scM0_0.view.readCov (kernelRun0_A.sl.HS0_8 arg5 x1) (Rect.unit (s := S8x256x1024) ![2, 0, 0] S1x256x1024.size inb_S8x256x1024_S1x256x1024_2_0_0).toLoadRect)) (scM0_1.view.readCov (kernelRun0_A.sl.HS1_3 arg5 arg6 x1 x2) (Rect.unit (s := S8x1x1024) ![2, 0, 0] S1x1x1024.size inb_S8x1x1024_S1x1x1024_2_0_0).toLoadRect) = _ :=
      mEq (S := (k0_pay88 (F := 𝕀))) (loadK arg6 x2) (q_load arg5 x1 2 (by decide) inb_S8x256x1024_S1x256x1024_2_0_0) (m_load2 arg5 arg6 x1 x2)
    exact Eq.trans (by rfl) e
  · have e : mOut ((k0_pay88 (F := 𝕀)) (View.readAt (Elt 𝕀) arg6.view (Rect.unit ![0, 0, 0] S1x1024x256.size inb_S1x1024x256_S1x1024x256_0_0_0).toLoadRect (arg6.view.rep x2)) (scM0_0.view.readCov (kernelRun0_A.sl.HS0_8 arg5 x1) (Rect.unit (s := S8x256x1024) ![1, 0, 0] S1x256x1024.size inb_S8x256x1024_S1x256x1024_1_0_0).toLoadRect)) (scM0_1.view.readCov (kernelRun0_A.sl.HS1_2 arg5 arg6 x1 x2) (Rect.unit (s := S8x1x1024) ![1, 0, 0] S1x1x1024.size inb_S8x1x1024_S1x1x1024_1_0_0).toLoadRect) = _ :=
      mEq (S := (k0_pay88 (F := 𝕀))) (loadK arg6 x2) (q_load arg5 x1 1 (by decide) inb_S8x256x1024_S1x256x1024_1_0_0) (m_load1 arg5 arg6 x1 x2)
    exact Eq.trans (by rfl) e
  · have e : mOut ((k0_pay88 (F := 𝕀)) (View.readAt (Elt 𝕀) arg6.view (Rect.unit ![0, 0, 0] S1x1024x256.size inb_S1x1024x256_S1x1024x256_0_0_0).toLoadRect (arg6.view.rep x2)) (scM0_0.view.readCov (kernelRun0_A.sl.HS0_8 arg5 x1) (Rect.unit (s := S8x256x1024) ![0, 0, 0] S1x256x1024.size inb_S8x256x1024_S1x256x1024_0_0_0).toLoadRect)) (scM0_1.view.readCov (kernelRun0_A.sl.HS1_1) (Rect.unit (s := S8x1x1024) ![0, 0, 0] S1x1x1024.size inb_S8x1x1024_S1x1x1024_0_0_0).toLoadRect) = _ :=
      mEq (S := (k0_pay88 (F := 𝕀))) (loadK arg6 x2) (q_load arg5 x1 0 (by decide) inb_S8x256x1024_S1x256x1024_0_0_0) (m_load0 )
    exact Eq.trans (by rfl) e

/-- The denominators after a first key tile on the diagonal, slot by slot. -/
theorem l_read (f : scM0_2.view.ty.Contents (Elt 𝕀)) : scM0_2.view.read (Elt 𝕀) (scM0_2.view.writes (Elt 𝕀) f (kernelRun0_A.sl.HS2_9 arg5 arg6 x1 x2))
    = fun y : S8x1x1024.Idx => lG (k0_pay88 (F := 𝕀)) x2 (fun y : S8x256x1024.Idx => qG x1 (y 0) (ix3 0 (y 1) (y 2))) (k0_pay6 (F := 𝕀)) (k0_pay7 (F := 𝕀)) (y 0) (ix3 0 (y 1) (y 2)) := by
  refine Slots.read_slots (Val := Elt 𝕀) (a := 1) (b := 1024) scM0_2.view _ (lG (k0_pay88 (F := 𝕀)) x2 (fun y : S8x256x1024.Idx => qG x1 (y 0) (ix3 0 (y 1) (y 2))) (k0_pay6 (F := 𝕀)) (k0_pay7 (F := 𝕀))) _ _ _ _ _ _ _ _ _ ?_ ?_ ?_ ?_ ?_ ?_ ?_ ?_
  · have e : lOut ((k0_pay88 (F := 𝕀)) (View.readAt (Elt 𝕀) arg6.view (Rect.unit ![0, 0, 0] S1x1024x256.size inb_S1x1024x256_S1x1024x256_0_0_0).toLoadRect (arg6.view.rep x2)) (scM0_0.view.readCov (kernelRun0_A.sl.HS0_8 arg5 x1) (Rect.unit (s := S8x256x1024) ![7, 0, 0] S1x256x1024.size inb_S8x256x1024_S1x256x1024_7_0_0).toLoadRect)) (scM0_1.view.readCov (kernelRun0_A.sl.HS1_8 arg5 arg6 x1 x2) (Rect.unit (s := S8x1x1024) ![7, 0, 0] S1x1x1024.size inb_S8x1x1024_S1x1x1024_7_0_0).toLoadRect) (scM0_2.view.readCov (kernelRun0_A.sl.HS2_8 arg5 arg6 x1 x2) (Rect.unit (s := S8x1x1024) ![7, 0, 0] S1x1x1024.size inb_S8x1x1024_S1x1x1024_7_0_0).toLoadRect) = _ :=
      lEq (S := (k0_pay88 (F := 𝕀))) (loadK arg6 x2) (q_load arg5 x1 7 (by decide) inb_S8x256x1024_S1x256x1024_7_0_0) (m_load7 arg5 arg6 x1 x2) (l_load7 arg5 arg6 x1 x2)
    exact Eq.trans (by rfl) e
  · have e : lOut ((k0_pay88 (F := 𝕀)) (View.readAt (Elt 𝕀) arg6.view (Rect.unit ![0, 0, 0] S1x1024x256.size inb_S1x1024x256_S1x1024x256_0_0_0).toLoadRect (arg6.view.rep x2)) (scM0_0.view.readCov (kernelRun0_A.sl.HS0_8 arg5 x1) (Rect.unit (s := S8x256x1024) ![6, 0, 0] S1x256x1024.size inb_S8x256x1024_S1x256x1024_6_0_0).toLoadRect)) (scM0_1.view.readCov (kernelRun0_A.sl.HS1_7 arg5 arg6 x1 x2) (Rect.unit (s := S8x1x1024) ![6, 0, 0] S1x1x1024.size inb_S8x1x1024_S1x1x1024_6_0_0).toLoadRect) (scM0_2.view.readCov (kernelRun0_A.sl.HS2_7 arg5 arg6 x1 x2) (Rect.unit (s := S8x1x1024) ![6, 0, 0] S1x1x1024.size inb_S8x1x1024_S1x1x1024_6_0_0).toLoadRect) = _ :=
      lEq (S := (k0_pay88 (F := 𝕀))) (loadK arg6 x2) (q_load arg5 x1 6 (by decide) inb_S8x256x1024_S1x256x1024_6_0_0) (m_load6 arg5 arg6 x1 x2) (l_load6 arg5 arg6 x1 x2)
    exact Eq.trans (by rfl) e
  · have e : lOut ((k0_pay88 (F := 𝕀)) (View.readAt (Elt 𝕀) arg6.view (Rect.unit ![0, 0, 0] S1x1024x256.size inb_S1x1024x256_S1x1024x256_0_0_0).toLoadRect (arg6.view.rep x2)) (scM0_0.view.readCov (kernelRun0_A.sl.HS0_8 arg5 x1) (Rect.unit (s := S8x256x1024) ![5, 0, 0] S1x256x1024.size inb_S8x256x1024_S1x256x1024_5_0_0).toLoadRect)) (scM0_1.view.readCov (kernelRun0_A.sl.HS1_6 arg5 arg6 x1 x2) (Rect.unit (s := S8x1x1024) ![5, 0, 0] S1x1x1024.size inb_S8x1x1024_S1x1x1024_5_0_0).toLoadRect) (scM0_2.view.readCov (kernelRun0_A.sl.HS2_6 arg5 arg6 x1 x2) (Rect.unit (s := S8x1x1024) ![5, 0, 0] S1x1x1024.size inb_S8x1x1024_S1x1x1024_5_0_0).toLoadRect) = _ :=
      lEq (S := (k0_pay88 (F := 𝕀))) (loadK arg6 x2) (q_load arg5 x1 5 (by decide) inb_S8x256x1024_S1x256x1024_5_0_0) (m_load5 arg5 arg6 x1 x2) (l_load5 arg5 arg6 x1 x2)
    exact Eq.trans (by rfl) e
  · have e : lOut ((k0_pay88 (F := 𝕀)) (View.readAt (Elt 𝕀) arg6.view (Rect.unit ![0, 0, 0] S1x1024x256.size inb_S1x1024x256_S1x1024x256_0_0_0).toLoadRect (arg6.view.rep x2)) (scM0_0.view.readCov (kernelRun0_A.sl.HS0_8 arg5 x1) (Rect.unit (s := S8x256x1024) ![4, 0, 0] S1x256x1024.size inb_S8x256x1024_S1x256x1024_4_0_0).toLoadRect)) (scM0_1.view.readCov (kernelRun0_A.sl.HS1_5 arg5 arg6 x1 x2) (Rect.unit (s := S8x1x1024) ![4, 0, 0] S1x1x1024.size inb_S8x1x1024_S1x1x1024_4_0_0).toLoadRect) (scM0_2.view.readCov (kernelRun0_A.sl.HS2_5 arg5 arg6 x1 x2) (Rect.unit (s := S8x1x1024) ![4, 0, 0] S1x1x1024.size inb_S8x1x1024_S1x1x1024_4_0_0).toLoadRect) = _ :=
      lEq (S := (k0_pay88 (F := 𝕀))) (loadK arg6 x2) (q_load arg5 x1 4 (by decide) inb_S8x256x1024_S1x256x1024_4_0_0) (m_load4 arg5 arg6 x1 x2) (l_load4 arg5 arg6 x1 x2)
    exact Eq.trans (by rfl) e
  · have e : lOut ((k0_pay88 (F := 𝕀)) (View.readAt (Elt 𝕀) arg6.view (Rect.unit ![0, 0, 0] S1x1024x256.size inb_S1x1024x256_S1x1024x256_0_0_0).toLoadRect (arg6.view.rep x2)) (scM0_0.view.readCov (kernelRun0_A.sl.HS0_8 arg5 x1) (Rect.unit (s := S8x256x1024) ![3, 0, 0] S1x256x1024.size inb_S8x256x1024_S1x256x1024_3_0_0).toLoadRect)) (scM0_1.view.readCov (kernelRun0_A.sl.HS1_4 arg5 arg6 x1 x2) (Rect.unit (s := S8x1x1024) ![3, 0, 0] S1x1x1024.size inb_S8x1x1024_S1x1x1024_3_0_0).toLoadRect) (scM0_2.view.readCov (kernelRun0_A.sl.HS2_4 arg5 arg6 x1 x2) (Rect.unit (s := S8x1x1024) ![3, 0, 0] S1x1x1024.size inb_S8x1x1024_S1x1x1024_3_0_0).toLoadRect) = _ :=
      lEq (S := (k0_pay88 (F := 𝕀))) (loadK arg6 x2) (q_load arg5 x1 3 (by decide) inb_S8x256x1024_S1x256x1024_3_0_0) (m_load3 arg5 arg6 x1 x2) (l_load3 arg5 arg6 x1 x2)
    exact Eq.trans (by rfl) e
  · have e : lOut ((k0_pay88 (F := 𝕀)) (View.readAt (Elt 𝕀) arg6.view (Rect.unit ![0, 0, 0] S1x1024x256.size inb_S1x1024x256_S1x1024x256_0_0_0).toLoadRect (arg6.view.rep x2)) (scM0_0.view.readCov (kernelRun0_A.sl.HS0_8 arg5 x1) (Rect.unit (s := S8x256x1024) ![2, 0, 0] S1x256x1024.size inb_S8x256x1024_S1x256x1024_2_0_0).toLoadRect)) (scM0_1.view.readCov (kernelRun0_A.sl.HS1_3 arg5 arg6 x1 x2) (Rect.unit (s := S8x1x1024) ![2, 0, 0] S1x1x1024.size inb_S8x1x1024_S1x1x1024_2_0_0).toLoadRect) (scM0_2.view.readCov (kernelRun0_A.sl.HS2_3 arg5 arg6 x1 x2) (Rect.unit (s := S8x1x1024) ![2, 0, 0] S1x1x1024.size inb_S8x1x1024_S1x1x1024_2_0_0).toLoadRect) = _ :=
      lEq (S := (k0_pay88 (F := 𝕀))) (loadK arg6 x2) (q_load arg5 x1 2 (by decide) inb_S8x256x1024_S1x256x1024_2_0_0) (m_load2 arg5 arg6 x1 x2) (l_load2 arg5 arg6 x1 x2)
    exact Eq.trans (by rfl) e
  · have e : lOut ((k0_pay88 (F := 𝕀)) (View.readAt (Elt 𝕀) arg6.view (Rect.unit ![0, 0, 0] S1x1024x256.size inb_S1x1024x256_S1x1024x256_0_0_0).toLoadRect (arg6.view.rep x2)) (scM0_0.view.readCov (kernelRun0_A.sl.HS0_8 arg5 x1) (Rect.unit (s := S8x256x1024) ![1, 0, 0] S1x256x1024.size inb_S8x256x1024_S1x256x1024_1_0_0).toLoadRect)) (scM0_1.view.readCov (kernelRun0_A.sl.HS1_2 arg5 arg6 x1 x2) (Rect.unit (s := S8x1x1024) ![1, 0, 0] S1x1x1024.size inb_S8x1x1024_S1x1x1024_1_0_0).toLoadRect) (scM0_2.view.readCov (kernelRun0_A.sl.HS2_2 arg5 arg6 x1 x2) (Rect.unit (s := S8x1x1024) ![1, 0, 0] S1x1x1024.size inb_S8x1x1024_S1x1x1024_1_0_0).toLoadRect) = _ :=
      lEq (S := (k0_pay88 (F := 𝕀))) (loadK arg6 x2) (q_load arg5 x1 1 (by decide) inb_S8x256x1024_S1x256x1024_1_0_0) (m_load1 arg5 arg6 x1 x2) (l_load1 arg5 arg6 x1 x2)
    exact Eq.trans (by rfl) e
  · have e : lOut ((k0_pay88 (F := 𝕀)) (View.readAt (Elt 𝕀) arg6.view (Rect.unit ![0, 0, 0] S1x1024x256.size inb_S1x1024x256_S1x1024x256_0_0_0).toLoadRect (arg6.view.rep x2)) (scM0_0.view.readCov (kernelRun0_A.sl.HS0_8 arg5 x1) (Rect.unit (s := S8x256x1024) ![0, 0, 0] S1x256x1024.size inb_S8x256x1024_S1x256x1024_0_0_0).toLoadRect)) (scM0_1.view.readCov (kernelRun0_A.sl.HS1_1) (Rect.unit (s := S8x1x1024) ![0, 0, 0] S1x1x1024.size inb_S8x1x1024_S1x1x1024_0_0_0).toLoadRect) (scM0_2.view.readCov (kernelRun0_A.sl.HS2_1) (Rect.unit (s := S8x1x1024) ![0, 0, 0] S1x1x1024.size inb_S8x1x1024_S1x1x1024_0_0_0).toLoadRect) = _ :=
      lEq (S := (k0_pay88 (F := 𝕀))) (loadK arg6 x2) (q_load arg5 x1 0 (by decide) inb_S8x256x1024_S1x256x1024_0_0_0) (m_load0 ) (l_load0 )
    exact Eq.trans (by rfl) e

/-- The weighted sums after a first key tile on the diagonal, slot by slot. -/
theorem a_read (f : scM0_3.view.ty.Contents (Elt 𝕀)) : scM0_3.view.read (Elt 𝕀) (scM0_3.view.writes (Elt 𝕀) f (kernelRun0_A.sl.HS3_9 arg5 arg6 arg7 x1 x2 x3))
    = fun y : S8x64x1024.Idx => aG (k0_pay88 (F := 𝕀)) x2 (fun y : S8x256x1024.Idx => qG x1 (y 0) (ix3 0 (y 1) (y 2))) (k0_pay6 (F := 𝕀)) x3 (k0_pay8 (F := 𝕀)) (y 0) (ix3 0 (y 1) (y 2)) := by
  refine Slots.read_slots (Val := Elt 𝕀) (a := 64) (b := 1024) scM0_3.view _ (aG (k0_pay88 (F := 𝕀)) x2 (fun y : S8x256x1024.Idx => qG x1 (y 0) (ix3 0 (y 1) (y 2))) (k0_pay6 (F := 𝕀)) x3 (k0_pay8 (F := 𝕀))) _ _ _ _ _ _ _ _ _ ?_ ?_ ?_ ?_ ?_ ?_ ?_ ?_
  · have e : aOut ((k0_pay88 (F := 𝕀)) (View.readAt (Elt 𝕀) arg6.view (Rect.unit ![0, 0, 0] S1x1024x256.size inb_S1x1024x256_S1x1024x256_0_0_0).toLoadRect (arg6.view.rep x2)) (scM0_0.view.readCov (kernelRun0_A.sl.HS0_8 arg5 x1) (Rect.unit (s := S8x256x1024) ![7, 0, 0] S1x256x1024.size inb_S8x256x1024_S1x256x1024_7_0_0).toLoadRect)) (scM0_1.view.readCov (kernelRun0_A.sl.HS1_8 arg5 arg6 x1 x2) (Rect.unit (s := S8x1x1024) ![7, 0, 0] S1x1x1024.size inb_S8x1x1024_S1x1x1024_7_0_0).toLoadRect) (View.readAt (Elt 𝕀) arg7.view (Rect.unit (s := S1x256x1024) ![0, 192, 0] S1x64x1024.size inb_S1x256x1024_S1x64x1024_0_192_0).toLoadRect (arg7.view.rep x3)) (scM0_3.view.readCov (kernelRun0_A.sl.HS3_8 arg5 arg6 arg7 x1 x2 x3) (Rect.unit (s := S8x64x1024) ![7, 0, 0] S1x64x1024.size inb_S8x64x1024_S1x64x1024_7_0_0).toLoadRect) = _ :=
      aEq (S := (k0_pay88 (F := 𝕀))) (loadK arg6 x2) (q_load arg5 x1 7 (by decide) inb_S8x256x1024_S1x256x1024_7_0_0) (m_load7 arg5 arg6 x1 x2) (loadV 7 rfl arg7 x3 inb_S1x256x1024_S1x64x1024_0_192_0) (a_load7 arg5 arg6 arg7 x1 x2 x3)
    exact Eq.trans (by rfl) e
  · have e : aOut ((k0_pay88 (F := 𝕀)) (View.readAt (Elt 𝕀) arg6.view (Rect.unit ![0, 0, 0] S1x1024x256.size inb_S1x1024x256_S1x1024x256_0_0_0).toLoadRect (arg6.view.rep x2)) (scM0_0.view.readCov (kernelRun0_A.sl.HS0_8 arg5 x1) (Rect.unit (s := S8x256x1024) ![6, 0, 0] S1x256x1024.size inb_S8x256x1024_S1x256x1024_6_0_0).toLoadRect)) (scM0_1.view.readCov (kernelRun0_A.sl.HS1_7 arg5 arg6 x1 x2) (Rect.unit (s := S8x1x1024) ![6, 0, 0] S1x1x1024.size inb_S8x1x1024_S1x1x1024_6_0_0).toLoadRect) (View.readAt (Elt 𝕀) arg7.view (Rect.unit (s := S1x256x1024) ![0, 192, 0] S1x64x1024.size inb_S1x256x1024_S1x64x1024_0_192_0).toLoadRect (arg7.view.rep x3)) (scM0_3.view.readCov (kernelRun0_A.sl.HS3_7 arg5 arg6 arg7 x1 x2 x3) (Rect.unit (s := S8x64x1024) ![6, 0, 0] S1x64x1024.size inb_S8x64x1024_S1x64x1024_6_0_0).toLoadRect) = _ :=
      aEq (S := (k0_pay88 (F := 𝕀))) (loadK arg6 x2) (q_load arg5 x1 6 (by decide) inb_S8x256x1024_S1x256x1024_6_0_0) (m_load6 arg5 arg6 x1 x2) (loadV 6 rfl arg7 x3 inb_S1x256x1024_S1x64x1024_0_192_0) (a_load6 arg5 arg6 arg7 x1 x2 x3)
    exact Eq.trans (by rfl) e
  · have e : aOut ((k0_pay88 (F := 𝕀)) (View.readAt (Elt 𝕀) arg6.view (Rect.unit ![0, 0, 0] S1x1024x256.size inb_S1x1024x256_S1x1024x256_0_0_0).toLoadRect (arg6.view.rep x2)) (scM0_0.view.readCov (kernelRun0_A.sl.HS0_8 arg5 x1) (Rect.unit (s := S8x256x1024) ![5, 0, 0] S1x256x1024.size inb_S8x256x1024_S1x256x1024_5_0_0).toLoadRect)) (scM0_1.view.readCov (kernelRun0_A.sl.HS1_6 arg5 arg6 x1 x2) (Rect.unit (s := S8x1x1024) ![5, 0, 0] S1x1x1024.size inb_S8x1x1024_S1x1x1024_5_0_0).toLoadRect) (View.readAt (Elt 𝕀) arg7.view (Rect.unit (s := S1x256x1024) ![0, 128, 0] S1x64x1024.size inb_S1x256x1024_S1x64x1024_0_128_0).toLoadRect (arg7.view.rep x3)) (scM0_3.view.readCov (kernelRun0_A.sl.HS3_6 arg5 arg6 arg7 x1 x2 x3) (Rect.unit (s := S8x64x1024) ![5, 0, 0] S1x64x1024.size inb_S8x64x1024_S1x64x1024_5_0_0).toLoadRect) = _ :=
      aEq (S := (k0_pay88 (F := 𝕀))) (loadK arg6 x2) (q_load arg5 x1 5 (by decide) inb_S8x256x1024_S1x256x1024_5_0_0) (m_load5 arg5 arg6 x1 x2) (loadV 5 rfl arg7 x3 inb_S1x256x1024_S1x64x1024_0_128_0) (a_load5 arg5 arg6 arg7 x1 x2 x3)
    exact Eq.trans (by rfl) e
  · have e : aOut ((k0_pay88 (F := 𝕀)) (View.readAt (Elt 𝕀) arg6.view (Rect.unit ![0, 0, 0] S1x1024x256.size inb_S1x1024x256_S1x1024x256_0_0_0).toLoadRect (arg6.view.rep x2)) (scM0_0.view.readCov (kernelRun0_A.sl.HS0_8 arg5 x1) (Rect.unit (s := S8x256x1024) ![4, 0, 0] S1x256x1024.size inb_S8x256x1024_S1x256x1024_4_0_0).toLoadRect)) (scM0_1.view.readCov (kernelRun0_A.sl.HS1_5 arg5 arg6 x1 x2) (Rect.unit (s := S8x1x1024) ![4, 0, 0] S1x1x1024.size inb_S8x1x1024_S1x1x1024_4_0_0).toLoadRect) (View.readAt (Elt 𝕀) arg7.view (Rect.unit (s := S1x256x1024) ![0, 128, 0] S1x64x1024.size inb_S1x256x1024_S1x64x1024_0_128_0).toLoadRect (arg7.view.rep x3)) (scM0_3.view.readCov (kernelRun0_A.sl.HS3_5 arg5 arg6 arg7 x1 x2 x3) (Rect.unit (s := S8x64x1024) ![4, 0, 0] S1x64x1024.size inb_S8x64x1024_S1x64x1024_4_0_0).toLoadRect) = _ :=
      aEq (S := (k0_pay88 (F := 𝕀))) (loadK arg6 x2) (q_load arg5 x1 4 (by decide) inb_S8x256x1024_S1x256x1024_4_0_0) (m_load4 arg5 arg6 x1 x2) (loadV 4 rfl arg7 x3 inb_S1x256x1024_S1x64x1024_0_128_0) (a_load4 arg5 arg6 arg7 x1 x2 x3)
    exact Eq.trans (by rfl) e
  · have e : aOut ((k0_pay88 (F := 𝕀)) (View.readAt (Elt 𝕀) arg6.view (Rect.unit ![0, 0, 0] S1x1024x256.size inb_S1x1024x256_S1x1024x256_0_0_0).toLoadRect (arg6.view.rep x2)) (scM0_0.view.readCov (kernelRun0_A.sl.HS0_8 arg5 x1) (Rect.unit (s := S8x256x1024) ![3, 0, 0] S1x256x1024.size inb_S8x256x1024_S1x256x1024_3_0_0).toLoadRect)) (scM0_1.view.readCov (kernelRun0_A.sl.HS1_4 arg5 arg6 x1 x2) (Rect.unit (s := S8x1x1024) ![3, 0, 0] S1x1x1024.size inb_S8x1x1024_S1x1x1024_3_0_0).toLoadRect) (View.readAt (Elt 𝕀) arg7.view (Rect.unit (s := S1x256x1024) ![0, 64, 0] S1x64x1024.size inb_S1x256x1024_S1x64x1024_0_64_0).toLoadRect (arg7.view.rep x3)) (scM0_3.view.readCov (kernelRun0_A.sl.HS3_4 arg5 arg6 arg7 x1 x2 x3) (Rect.unit (s := S8x64x1024) ![3, 0, 0] S1x64x1024.size inb_S8x64x1024_S1x64x1024_3_0_0).toLoadRect) = _ :=
      aEq (S := (k0_pay88 (F := 𝕀))) (loadK arg6 x2) (q_load arg5 x1 3 (by decide) inb_S8x256x1024_S1x256x1024_3_0_0) (m_load3 arg5 arg6 x1 x2) (loadV 3 rfl arg7 x3 inb_S1x256x1024_S1x64x1024_0_64_0) (a_load3 arg5 arg6 arg7 x1 x2 x3)
    exact Eq.trans (by rfl) e
  · have e : aOut ((k0_pay88 (F := 𝕀)) (View.readAt (Elt 𝕀) arg6.view (Rect.unit ![0, 0, 0] S1x1024x256.size inb_S1x1024x256_S1x1024x256_0_0_0).toLoadRect (arg6.view.rep x2)) (scM0_0.view.readCov (kernelRun0_A.sl.HS0_8 arg5 x1) (Rect.unit (s := S8x256x1024) ![2, 0, 0] S1x256x1024.size inb_S8x256x1024_S1x256x1024_2_0_0).toLoadRect)) (scM0_1.view.readCov (kernelRun0_A.sl.HS1_3 arg5 arg6 x1 x2) (Rect.unit (s := S8x1x1024) ![2, 0, 0] S1x1x1024.size inb_S8x1x1024_S1x1x1024_2_0_0).toLoadRect) (View.readAt (Elt 𝕀) arg7.view (Rect.unit (s := S1x256x1024) ![0, 64, 0] S1x64x1024.size inb_S1x256x1024_S1x64x1024_0_64_0).toLoadRect (arg7.view.rep x3)) (scM0_3.view.readCov (kernelRun0_A.sl.HS3_3 arg5 arg6 arg7 x1 x2 x3) (Rect.unit (s := S8x64x1024) ![2, 0, 0] S1x64x1024.size inb_S8x64x1024_S1x64x1024_2_0_0).toLoadRect) = _ :=
      aEq (S := (k0_pay88 (F := 𝕀))) (loadK arg6 x2) (q_load arg5 x1 2 (by decide) inb_S8x256x1024_S1x256x1024_2_0_0) (m_load2 arg5 arg6 x1 x2) (loadV 2 rfl arg7 x3 inb_S1x256x1024_S1x64x1024_0_64_0) (a_load2 arg5 arg6 arg7 x1 x2 x3)
    exact Eq.trans (by rfl) e
  · have e : aOut ((k0_pay88 (F := 𝕀)) (View.readAt (Elt 𝕀) arg6.view (Rect.unit ![0, 0, 0] S1x1024x256.size inb_S1x1024x256_S1x1024x256_0_0_0).toLoadRect (arg6.view.rep x2)) (scM0_0.view.readCov (kernelRun0_A.sl.HS0_8 arg5 x1) (Rect.unit (s := S8x256x1024) ![1, 0, 0] S1x256x1024.size inb_S8x256x1024_S1x256x1024_1_0_0).toLoadRect)) (scM0_1.view.readCov (kernelRun0_A.sl.HS1_2 arg5 arg6 x1 x2) (Rect.unit (s := S8x1x1024) ![1, 0, 0] S1x1x1024.size inb_S8x1x1024_S1x1x1024_1_0_0).toLoadRect) (View.readAt (Elt 𝕀) arg7.view (Rect.unit (s := S1x256x1024) ![0, 0, 0] S1x64x1024.size inb_S1x256x1024_S1x64x1024_0_0_0).toLoadRect (arg7.view.rep x3)) (scM0_3.view.readCov (kernelRun0_A.sl.HS3_2 arg5 arg6 arg7 x1 x2 x3) (Rect.unit (s := S8x64x1024) ![1, 0, 0] S1x64x1024.size inb_S8x64x1024_S1x64x1024_1_0_0).toLoadRect) = _ :=
      aEq (S := (k0_pay88 (F := 𝕀))) (loadK arg6 x2) (q_load arg5 x1 1 (by decide) inb_S8x256x1024_S1x256x1024_1_0_0) (m_load1 arg5 arg6 x1 x2) (loadV 1 rfl arg7 x3 inb_S1x256x1024_S1x64x1024_0_0_0) (a_load1 arg5 arg6 arg7 x1 x2 x3)
    exact Eq.trans (by rfl) e
  · have e : aOut ((k0_pay88 (F := 𝕀)) (View.readAt (Elt 𝕀) arg6.view (Rect.unit ![0, 0, 0] S1x1024x256.size inb_S1x1024x256_S1x1024x256_0_0_0).toLoadRect (arg6.view.rep x2)) (scM0_0.view.readCov (kernelRun0_A.sl.HS0_8 arg5 x1) (Rect.unit (s := S8x256x1024) ![0, 0, 0] S1x256x1024.size inb_S8x256x1024_S1x256x1024_0_0_0).toLoadRect)) (scM0_1.view.readCov (kernelRun0_A.sl.HS1_1) (Rect.unit (s := S8x1x1024) ![0, 0, 0] S1x1x1024.size inb_S8x1x1024_S1x1x1024_0_0_0).toLoadRect) (View.readAt (Elt 𝕀) arg7.view (Rect.unit (s := S1x256x1024) ![0, 0, 0] S1x64x1024.size inb_S1x256x1024_S1x64x1024_0_0_0).toLoadRect (arg7.view.rep x3)) (scM0_3.view.readCov (kernelRun0_A.sl.HS3_1) (Rect.unit (s := S8x64x1024) ![0, 0, 0] S1x64x1024.size inb_S8x64x1024_S1x64x1024_0_0_0).toLoadRect) = _ :=
      aEq (S := (k0_pay88 (F := 𝕀))) (loadK arg6 x2) (q_load arg5 x1 0 (by decide) inb_S8x256x1024_S1x256x1024_0_0_0) (m_load0 ) (loadV 0 rfl arg7 x3 inb_S1x256x1024_S1x64x1024_0_0_0) (a_load0 )
    exact Eq.trans (by rfl) e

end A

end Cert.KernelIdeal.Att

end
-- ==== Proof.OutA.lean ====
/- The block written at a diagonal tile that is the first key tile of its queries. -/
module

public import proofs.«01_k».proof.Proof.Out
public import proofs.«01_k».proof.Proof.StepA

@[expose] public section

set_option maxRecDepth 16384
set_option maxHeartbeats 400000

noncomputable section

namespace Cert.KernelIdeal.Att

open Idealize.ShloMosaic Idealize.ShloMosaic.TcCoe Cert.KernelIdeal Cert.KernelIdeal.Gen
local notation "𝕀" => Idealize.ShloMosaic.Ideal

namespace A

variable (arg4 : Memref sig .tc .vmem S4x32 .f32) (arg5 : Memref sig .tc .vmem S1x256x1024 .bf16) (arg6 : Memref sig .tc .vmem S1x1024x256 .bf16)
  (arg7 : Memref sig .tc .vmem S1x256x1024 .bf16) (arg8 : Memref sig .tc .vmem S1x256 .f32)
  (x0 : S4x32.Idx → EReal) (x1 : S1x256x1024.Idx → EReal) (x2 : S1x1024x256.Idx → EReal) (x3 : S1x256x1024.Idx → EReal) (x4 : S1x256.Idx → EReal)

/-- A load of a slot of the denominators after a first key tile on the diagonal. -/
theorem l_after (h : ℕ) (hh : h < 8) (inb : ∀ x, (![h, 0, 0] : Fin 3 → ℕ) x + S1x1x1024.size x ≤ S8x1x1024.size x) :
    scM0_2.view.readCov (kernelRun0_A.sl.HS2_9 arg5 arg6 x1 x2) (Rect.unit (s := S8x1x1024) ![h, 0, 0] S1x1x1024.size inb).toLoadRect
      = slot1 ⟨h, hh⟩ (fun y : S8x1x1024.Idx => lG (k0_pay88 (F := 𝕀)) x2 (fun y : S8x256x1024.Idx => qG x1 (y 0) (ix3 0 (y 1) (y 2))) (k0_pay6 (F := 𝕀)) (k0_pay7 (F := 𝕀)) (y 0) (ix3 0 (y 1) (y 2))) := by
  unfold View.readCov
  refine (Slots.load (Val := Elt 𝕀) (a := 1) (b := 1024) scM0_2.view _ h hh inb).trans ?_
  rw [l_read]
  rfl

/-- A load of a slot of the weighted sums after a first key tile on the diagonal. -/
theorem a_after (h : ℕ) (hh : h < 8) (inb : ∀ x, (![h, 0, 0] : Fin 3 → ℕ) x + S1x64x1024.size x ≤ S8x64x1024.size x) :
    scM0_3.view.readCov (kernelRun0_A.sl.HS3_9 arg5 arg6 arg7 x1 x2 x3) (Rect.unit (s := S8x64x1024) ![h, 0, 0] S1x64x1024.size inb).toLoadRect
      = slotA ⟨h, hh⟩ (fun y : S8x64x1024.Idx => aG (k0_pay88 (F := 𝕀)) x2 (fun y : S8x256x1024.Idx => qG x1 (y 0) (ix3 0 (y 1) (y 2))) (k0_pay6 (F := 𝕀)) x3 (k0_pay8 (F := 𝕀)) (y 0) (ix3 0 (y 1) (y 2))) := by
  unfold View.readCov
  refine (Slots.load (Val := Elt 𝕀) (a := 64) (b := 1024) scM0_3.view _ h hh inb).trans ?_
  rw [a_read]
  rfl

/-- The block written at a first key tile on the diagonal. -/
theorem out_read (f : VO0_5.ty.Contents (Elt 𝕀)) : VO0_5.read (Elt 𝕀) (VO0_5.writes (Elt 𝕀) f (kernelRun0_A.sl.HO5_1 arg4 arg5 arg6 arg7 arg8 x0 x1 x2 x3 x4))
    = outW (lamW x0) (fun h => slotA h (fun y : S8x64x1024.Idx => aG (k0_pay88 (F := 𝕀)) x2 (fun y : S8x256x1024.Idx => qG x1 (y 0) (ix3 0 (y 1) (y 2))) (k0_pay6 (F := 𝕀)) x3 (k0_pay8 (F := 𝕀)) (y 0) (ix3 0 (y 1) (y 2)))) (fun h => slot1 h (fun y : S8x1x1024.Idx => lG (k0_pay88 (F := 𝕀)) x2 (fun y : S8x256x1024.Idx => qG x1 (y 0) (ix3 0 (y 1) (y 2))) (k0_pay6 (F := 𝕀)) (k0_pay7 (F := 𝕀)) (y 0) (ix3 0 (y 1) (y 2)))) x4 := by
  have e : k0_pay5 (k0_pay173 (k0_pay166 (View.readAt (Elt 𝕀) arg4.view (Rect.unit (s := S4x32) ![0, 0] S1x32.size inb_S4x32_S1x32_0_0).toLoadRect (arg4.view.rep x0)) (View.readAt (Elt 𝕀) arg4.view (Rect.unit (s := S4x32) ![1, 0] S1x32.size inb_S4x32_S1x32_1_0).toLoadRect (arg4.view.rep x0)) (View.readAt (Elt 𝕀) arg4.view (Rect.unit (s := S4x32) ![2, 0] S1x32.size inb_S4x32_S1x32_2_0).toLoadRect (arg4.view.rep x0)) (View.readAt (Elt 𝕀) arg4.view (Rect.unit (s := S4x32) ![3, 0] S1x32.size inb_S4x32_S1x32_3_0).toLoadRect (arg4.view.rep x0)))
      (k0_pay167 (k0_pay166 (View.readAt (Elt 𝕀) arg4.view (Rect.unit (s := S4x32) ![0, 0] S1x32.size inb_S4x32_S1x32_0_0).toLoadRect (arg4.view.rep x0)) (View.readAt (Elt 𝕀) arg4.view (Rect.unit (s := S4x32) ![1, 0] S1x32.size inb_S4x32_S1x32_1_0).toLoadRect (arg4.view.rep x0)) (View.readAt (Elt 𝕀) arg4.view (Rect.unit (s := S4x32) ![2, 0] S1x32.size inb_S4x32_S1x32_2_0).toLoadRect (arg4.view.rep x0)) (View.readAt (Elt 𝕀) arg4.view (Rect.unit (s := S4x32) ![3, 0] S1x32.size inb_S4x32_S1x32_3_0).toLoadRect (arg4.view.rep x0))) (scM0_3.view.readCov (kernelRun0_A.sl.HS3_9 arg5 arg6 arg7 x1 x2 x3) (Rect.unit (s := S8x64x1024) ![0, 0, 0] S1x64x1024.size inb_S8x64x1024_S1x64x1024_0_0_0).toLoadRect) (scM0_2.view.readCov (kernelRun0_A.sl.HS2_9 arg5 arg6 x1 x2) (Rect.unit (s := S8x1x1024) ![0, 0, 0] S1x1x1024.size inb_S8x1x1024_S1x1x1024_0_0_0).toLoadRect) (scM0_3.view.readCov (kernelRun0_A.sl.HS3_9 arg5 arg6 arg7 x1 x2 x3) (Rect.unit (s := S8x64x1024) ![1, 0, 0] S1x64x1024.size inb_S8x64x1024_S1x64x1024_1_0_0).toLoadRect) (scM0_2.view.readCov (kernelRun0_A.sl.HS2_9 arg5 arg6 x1 x2) (Rect.unit (s := S8x1x1024) ![1, 0, 0] S1x1x1024.size inb_S8x1x1024_S1x1x1024_1_0_0).toLoadRect))
      (k0_pay171 (k0_pay166 (View.readAt (Elt 𝕀) arg4.view (Rect.unit (s := S4x32) ![0, 0] S1x32.size inb_S4x32_S1x32_0_0).toLoadRect (arg4.view.rep x0)) (View.readAt (Elt 𝕀) arg4.view (Rect.unit (s := S4x32) ![1, 0] S1x32.size inb_S4x32_S1x32_1_0).toLoadRect (arg4.view.rep x0)) (View.readAt (Elt 𝕀) arg4.view (Rect.unit (s := S4x32) ![2, 0] S1x32.size inb_S4x32_S1x32_2_0).toLoadRect (arg4.view.rep x0)) (View.readAt (Elt 𝕀) arg4.view (Rect.unit (s := S4x32) ![3, 0] S1x32.size inb_S4x32_S1x32_3_0).toLoadRect (arg4.view.rep x0))) (k0_pay168 (scM0_3.view.readCov (kernelRun0_A.sl.HS3_9 arg5 arg6 arg7 x1 x2 x3) (Rect.unit (s := S8x64x1024) ![2, 0, 0] S1x64x1024.size inb_S8x64x1024_S1x64x1024_2_0_0).toLoadRect) (scM0_2.view.readCov (kernelRun0_A.sl.HS2_9 arg5 arg6 x1 x2) (Rect.unit (s := S8x1x1024) ![2, 0, 0] S1x1x1024.size inb_S8x1x1024_S1x1x1024_2_0_0).toLoadRect)) (k0_pay169 (scM0_3.view.readCov (kernelRun0_A.sl.HS3_9 arg5 arg6 arg7 x1 x2 x3) (Rect.unit (s := S8x64x1024) ![3, 0, 0] S1x64x1024.size inb_S8x64x1024_S1x64x1024_3_0_0).toLoadRect)) (k0_pay170 (scM0_2.view.readCov (kernelRun0_A.sl.HS2_9 arg5 arg6 x1 x2) (Rect.unit (s := S8x1x1024) ![3, 0, 0] S1x1x1024.size inb_S8x1x1024_S1x1x1024_3_0_0).toLoadRect)))
      (k0_pay172 (k0_pay166 (View.readAt (Elt 𝕀) arg4.view (Rect.unit (s := S4x32) ![0, 0] S1x32.size inb_S4x32_S1x32_0_0).toLoadRect (arg4.view.rep x0)) (View.readAt (Elt 𝕀) arg4.view (Rect.unit (s := S4x32) ![1, 0] S1x32.size inb_S4x32_S1x32_1_0).toLoadRect (arg4.view.rep x0)) (View.readAt (Elt 𝕀) arg4.view (Rect.unit (s := S4x32) ![2, 0] S1x32.size inb_S4x32_S1x32_2_0).toLoadRect (arg4.view.rep x0)) (View.readAt (Elt 𝕀) arg4.view (Rect.unit (s := S4x32) ![3, 0] S1x32.size inb_S4x32_S1x32_3_0).toLoadRect (arg4.view.rep x0))) (scM0_3.view.readCov (kernelRun0_A.sl.HS3_9 arg5 arg6 arg7 x1 x2 x3) (Rect.unit (s := S8x64x1024) ![4, 0, 0] S1x64x1024.size inb_S8x64x1024_S1x64x1024_4_0_0).toLoadRect) (scM0_2.view.readCov (kernelRun0_A.sl.HS2_9 arg5 arg6 x1 x2) (Rect.unit (s := S8x1x1024) ![4, 0, 0] S1x1x1024.size inb_S8x1x1024_S1x1x1024_4_0_0).toLoadRect) (scM0_3.view.readCov (kernelRun0_A.sl.HS3_9 arg5 arg6 arg7 x1 x2 x3) (Rect.unit (s := S8x64x1024) ![5, 0, 0] S1x64x1024.size inb_S8x64x1024_S1x64x1024_5_0_0).toLoadRect) (scM0_2.view.readCov (kernelRun0_A.sl.HS2_9 arg5 arg6 x1 x2) (Rect.unit (s := S8x1x1024) ![5, 0, 0] S1x1x1024.size inb_S8x1x1024_S1x1x1024_5_0_0).toLoadRect))
      (scM0_3.view.readCov (kernelRun0_A.sl.HS3_9 arg5 arg6 arg7 x1 x2 x3) (Rect.unit (s := S8x64x1024) ![6, 0, 0] S1x64x1024.size inb_S8x64x1024_S1x64x1024_6_0_0).toLoadRect) (scM0_2.view.readCov (kernelRun0_A.sl.HS2_9 arg5 arg6 x1 x2) (Rect.unit (s := S8x1x1024) ![6, 0, 0] S1x1x1024.size inb_S8x1x1024_S1x1x1024_6_0_0).toLoadRect) (scM0_3.view.readCov (kernelRun0_A.sl.HS3_9 arg5 arg6 arg7 x1 x2 x3) (Rect.unit (s := S8x64x1024) ![7, 0, 0] S1x64x1024.size inb_S8x64x1024_S1x64x1024_7_0_0).toLoadRect) (scM0_2.view.readCov (kernelRun0_A.sl.HS2_9 arg5 arg6 x1 x2) (Rect.unit (s := S8x1x1024) ![7, 0, 0] S1x1x1024.size inb_S8x1x1024_S1x1x1024_7_0_0).toLoadRect) (View.readAt (Elt 𝕀) arg8.view (Rect.unit ![0, 0] S1x256.size inb_S1x256_S1x256_0_0).toLoadRect (arg8.view.rep x4))) (Scalar.ofBits .f32 0x3F4CCCCD#32 : 𝕀 .f32) = _ :=
    outEq (fun h => slotA h (fun y : S8x64x1024.Idx => aG (k0_pay88 (F := 𝕀)) x2 (fun y : S8x256x1024.Idx => qG x1 (y 0) (ix3 0 (y 1) (y 2))) (k0_pay6 (F := 𝕀)) x3 (k0_pay8 (F := 𝕀)) (y 0) (ix3 0 (y 1) (y 2)))) (fun h => slot1 h (fun y : S8x1x1024.Idx => lG (k0_pay88 (F := 𝕀)) x2 (fun y : S8x256x1024.Idx => qG x1 (y 0) (ix3 0 (y 1) (y 2))) (k0_pay6 (F := 𝕀)) (k0_pay7 (F := 𝕀)) (y 0) (ix3 0 (y 1) (y 2))))
      (lamEq arg4 x0) (loadS arg8 x4)
      (a_after arg5 arg6 arg7 x1 x2 x3 0 (by decide) inb_S8x64x1024_S1x64x1024_0_0_0)
      (a_after arg5 arg6 arg7 x1 x2 x3 1 (by decide) inb_S8x64x1024_S1x64x1024_1_0_0)
      (a_after arg5 arg6 arg7 x1 x2 x3 2 (by decide) inb_S8x64x1024_S1x64x1024_2_0_0)
      (a_after arg5 arg6 arg7 x1 x2 x3 3 (by decide) inb_S8x64x1024_S1x64x1024_3_0_0)
      (a_after arg5 arg6 arg7 x1 x2 x3 4 (by decide) inb_S8x64x1024_S1x64x1024_4_0_0)
      (a_after arg5 arg6 arg7 x1 x2 x3 5 (by decide) inb_S8x64x1024_S1x64x1024_5_0_0)
      (a_after arg5 arg6 arg7 x1 x2 x3 6 (by decide) inb_S8x64x1024_S1x64x1024_6_0_0)
      (a_after arg5 arg6 arg7 x1 x2 x3 7 (by decide) inb_S8x64x1024_S1x64x1024_7_0_0)
      (l_after arg5 arg6 x1 x2 0 (by decide) inb_S8x1x1024_S1x1x1024_0_0_0)
      (l_after arg5 arg6 x1 x2 1 (by decide) inb_S8x1x1024_S1x1x1024_1_0_0)
      (l_after arg5 arg6 x1 x2 2 (by decide) inb_S8x1x1024_S1x1x1024_2_0_0)
      (l_after arg5 arg6 x1 x2 3 (by decide) inb_S8x1x1024_S1x1x1024_3_0_0)
      (l_after arg5 arg6 x1 x2 4 (by decide) inb_S8x1x1024_S1x1x1024_4_0_0)
      (l_after arg5 arg6 x1 x2 5 (by decide) inb_S8x1x1024_S1x1x1024_5_0_0)
      (l_after arg5 arg6 x1 x2 6 (by decide) inb_S8x1x1024_S1x1x1024_6_0_0)
      (l_after arg5 arg6 x1 x2 7 (by decide) inb_S8x1x1024_S1x1x1024_7_0_0)
  unfold kernelRun0_A.sl.HO5_1
  refine Eq.trans (View.read_writes_full VO0_5 f inb_S1x1024x256_S1x1024x256_0_0_0 _ []) ?_
  exact Eq.trans (by rfl) e

end A

end Cert.KernelIdeal.Att

end
-- ==== Proof.StepB.lean ====
/- What a first key tile leaves in the scratch buffers, slot by slot, off the diagonal. -/
module

public import proofs.«01_k».proof.Proof.Tile
public import proofs.«01_k».proof.Proof.Slots

@[expose] public section

set_option maxRecDepth 16384
set_option maxHeartbeats 400000

noncomputable section

namespace Cert.KernelIdeal.Att

open Idealize.ShloMosaic Idealize.ShloMosaic.TcCoe Cert.KernelIdeal Cert.KernelIdeal.Gen
local notation "𝕀" => Idealize.ShloMosaic.Ideal

namespace B

variable (arg5 : Memref sig .tc .vmem S1x256x1024 .bf16) (arg6 : Memref sig .tc .vmem S1x1024x256 .bf16) (arg7 : Memref sig .tc .vmem S1x256x1024 .bf16)
  (x1 : S1x256x1024.Idx → EReal) (x2 : S1x1024x256.Idx → EReal) (x3 : S1x256x1024.Idx → EReal)

/-- The eight masked copies of the query tile after a first key tile off the diagonal. -/
theorem q_read (f : scM0_0.view.ty.Contents (Elt 𝕀)) : scM0_0.view.read (Elt 𝕀) (scM0_0.view.writes (Elt 𝕀) f (kernelRun0_B.sl.HS0_8 arg5 x1))
    = fun y : S8x256x1024.Idx => qG x1 (y 0) (ix3 0 (y 1) (y 2)) := by
  refine Slots.read_slots (Val := Elt 𝕀) (a := 256) (b := 1024) scM0_0.view _ (qG x1) _ _ _ _ _ _ _ _ [] ?_ ?_ ?_ ?_ ?_ ?_ ?_ ?_
  · have e : qPay 7 (View.readAt (Elt 𝕀) arg5.view (Rect.unit ![0, 0, 0] S1x256x1024.size inb_S1x256x1024_S1x256x1024_0_0_0).toLoadRect (arg5.view.rep x1)) = _ :=
      congrArg (qPay 7) (loadQ arg5 x1)
    exact Eq.trans (by rfl) e
  · have e : qPay 6 (View.readAt (Elt 𝕀) arg5.view (Rect.unit ![0, 0, 0] S1x256x1024.size inb_S1x256x1024_S1x256x1024_0_0_0).toLoadRect (arg5.view.rep x1)) = _ :=
      congrArg (qPay 6) (loadQ arg5 x1)
    exact Eq.trans (by rfl) e
  · have e : qPay 5 (View.readAt (Elt 𝕀) arg5.view (Rect.unit ![0, 0, 0] S1x256x1024.size inb_S1x256x1024_S1x256x1024_0_0_0).toLoadRect (arg5.view.rep x1)) = _ :=
      congrArg (qPay 5) (loadQ arg5 x1)
    exact Eq.trans (by rfl) e
  · have e : qPay 4 (View.readAt (Elt 𝕀) arg5.view (Rect.unit ![0, 0, 0] S1x256x1024.size inb_S1x256x1024_S1x256x1024_0_0_0).toLoadRect (arg5.view.rep x1)) = _ :=
      congrArg (qPay 4) (loadQ arg5 x1)
    exact Eq.trans (by rfl) e
  · have e : qPay 3 (View.readAt (Elt 𝕀) arg5.view (Rect.unit ![0, 0, 0] S1x256x1024.size inb_S1x256x1024_S1x256x1024_0_0_0).toLoadRect (arg5.view.rep x1)) = _ :=
      congrArg (qPay 3) (loadQ arg5 x1)
    exact Eq.trans (by rfl) e
  · have e : qPay 2 (View.readAt (Elt 𝕀) arg5.view (Rect.unit ![0, 0, 0] S1x256x1024.size inb_S1x256x1024_S1x256x1024_0_0_0).toLoadRect (arg5.view.rep x1)) = _ :=
      congrArg (qPay 2) (loadQ arg5 x1)
    exact Eq.trans (by rfl) e
  · have e : qPay 1 (View.readAt (Elt 𝕀) arg5.view (Rect.unit ![0, 0, 0] S1x256x1024.size inb_S1x256x1024_S1x256x1024_0_0_0).toLoadRect (arg5.view.rep x1)) = _ :=
      congrArg (qPay 1) (loadQ arg5 x1)
    exact Eq.trans (by rfl) e
  · have e : qPay 0 (View.readAt (Elt 𝕀) arg5.view (Rect.unit ![0, 0, 0] S1x256x1024.size inb_S1x256x1024_S1x256x1024_0_0_0).toLoadRect (arg5.view.rep x1)) = _ :=
      congrArg (qPay 0) (loadQ arg5 x1)
    exact Eq.trans (by rfl) e

/-- A load of slot `h` after them. -/
theorem q_load (h : ℕ) (hh : h < 8) (inb : ∀ x, (![h, 0, 0] : Fin 3 → ℕ) x + S1x256x1024.size x ≤ S8x256x1024.size x) :
    scM0_0.view.readCov (kernelRun0_B.sl.HS0_8 arg5 x1) (Rect.unit (s := S8x256x1024) ![h, 0, 0] S1x256x1024.size inb).toLoadRect
      = slotQ ⟨h, hh⟩ (fun y : S8x256x1024.Idx => qG x1 (y 0) (ix3 0 (y 1) (y 2))) := by
  unfold View.readCov
  refine (Slots.load (Val := Elt 𝕀) (a := 256) (b := 1024) scM0_0.view _ h hh inb).trans ?_
  rw [q_read]
  rfl

/-- Slot 0 of the maxima is loaded as it was initialised. -/
theorem m_load0 : scM0_1.view.readCov (kernelRun0_B.sl.HS1_1) (Rect.unit (s := S8x1x1024) ![0, 0, 0] S1x1x1024.size inb_S8x1x1024_S1x1x1024_0_0_0).toLoadRect = slot1 0 (k0_pay6 (F := 𝕀)) :=
  Slots.fill (Val := Elt 𝕀) (a := 1) (b := 1024) scM0_1.view 0 (by decide) _ _ _

/-- Slot 1 of the maxima is loaded as it was initialised. -/
theorem m_load1 : scM0_1.view.readCov (kernelRun0_B.sl.HS1_2 arg5 arg6 x1 x2) (Rect.unit (s := S8x1x1024) ![1, 0, 0] S1x1x1024.size inb_S8x1x1024_S1x1x1024_1_0_0).toLoadRect = slot1 1 (k0_pay6 (F := 𝕀)) :=
  (Slots.skip (Val := Elt 𝕀) (a := 1) (b := 1024) scM0_1.view 1 (by decide) _ _ _ _ (by decide)).trans <| Slots.fill (Val := Elt 𝕀) (a := 1) (b := 1024) scM0_1.view 1 (by decide) _ _ _

/-- Slot 2 of the maxima is loaded as it was initialised. -/
theorem m_load2 : scM0_1.view.readCov (kernelRun0_B.sl.HS1_3 arg5 arg6 x1 x2) (Rect.unit (s := S8x1x1024) ![2, 0, 0] S1x1x1024.size inb_S8x1x1024_S1x1x1024_2_0_0).toLoadRect = slot1 2 (k0_pay6 (F := 𝕀)) :=
  (Slots.skip (Val := Elt 𝕀) (a := 1) (b := 1024) scM0_1.view 2 (by decide) _ _ _ _ (by decide)).trans <| (Slots.skip (Val := Elt 𝕀) (a := 1) (b := 1024) scM0_1.view 2 (by decide) _ _ _ _ (by decide)).trans <| Slots.fill (Val := Elt 𝕀) (a := 1) (b := 1024) scM0_1.view 2 (by decide) _ _ _

/-- Slot 3 of the maxima is loaded as it was initialised. -/
theorem m_load3 : scM0_1.view.readCov (kernelRun0_B.sl.HS1_4 arg5 arg6 x1 x2) (Rect.unit (s := S8x1x1024) ![3, 0, 0] S1x1x1024.size inb_S8x1x1024_S1x1x1024_3_0_0).toLoadRect = slot1 3 (k0_pay6 (F := 𝕀)) :=
  (Slots.skip (Val := Elt 𝕀) (a := 1) (b := 1024) scM0_1.view 3 (by decide) _ _ _ _ (by decide)).trans <| (Slots.skip (Val := Elt 𝕀) (a := 1) (b := 1024) scM0_1.view 3 (by decide) _ _ _ _ (by decide)).trans <| (Slots.skip (Val := Elt 𝕀) (a := 1) (b := 1024) scM0_1.view 3 (by decide) _ _ _ _ (by decide)).trans <| Slots.fill (Val := Elt 𝕀) (a := 1) (b := 1024) scM0_1.view 3 (by decide) _ _ _

/-- Slot 4 of the maxima is loaded as it was initialised. -/
theorem m_load4 : scM0_1.view.readCov (kernelRun0_B.sl.HS1_5 arg5 arg6 x1 x2) (Rect.unit (s := S8x1x1024) ![4, 0, 0] S1x1x1024.size inb_S8x1x1024_S1x1x1024_4_0_0).toLoadRect = slot1 4 (k0_pay6 (F := 𝕀)) :=
  (Slots.skip (Val := Elt 𝕀) (a := 1) (b := 1024) scM0_1.view 4 (by decide) _ _ _ _ (by decide)).trans <| (Slots.skip (Val := Elt 𝕀) (a := 1) (b := 1024) scM0_1.view 4 (by decide) _ _ _ _ (by decide)).trans <| (Slots.skip (Val := Elt 𝕀) (a := 1) (b := 1024) scM0_1.view 4 (by decide) _ _ _ _ (by decide)).trans <| (Slots.skip (Val := Elt 𝕀) (a := 1) (b := 1024) scM0_1.view 4 (by decide) _ _ _ _ (by decide)).trans <| Slots.fill (Val := Elt 𝕀) (a := 1) (b := 1024) scM0_1.view 4 (by decide) _ _ _

/-- Slot 5 of the maxima is loaded as it was initialised. -/
theorem m_load5 : scM0_1.view.readCov (kernelRun0_B.sl.HS1_6 arg5 arg6 x1 x2) (Rect.unit (s := S8x1x1024) ![5, 0, 0] S1x1x1024.size inb_S8x1x1024_S1x1x1024_5_0_0).toLoadRect = slot1 5 (k0_pay6 (F := 𝕀)) :=
  (Slots.skip (Val := Elt 𝕀) (a := 1) (b := 1024) scM0_1.view 5 (by decide) _ _ _ _ (by decide)).trans <| (Slots.skip (Val := Elt 𝕀) (a := 1) (b := 1024) scM0_1.view 5 (by decide) _ _ _ _ (by decide)).trans <| (Slots.skip (Val := Elt 𝕀) (a := 1) (b := 1024) scM0_1.view 5 (by decide) _ _ _ _ (by decide)).trans <| (Slots.skip (Val := Elt 𝕀) (a := 1) (b := 1024) scM0_1.view 5 (by decide) _ _ _ _ (by decide)).trans <| (Slots.skip (Val := Elt 𝕀) (a := 1) (b := 1024) scM0_1.view 5 (by decide) _ _ _ _ (by decide)).trans <| Slots.fill (Val := Elt 𝕀) (a := 1) (b := 1024) scM0_1.view 5 (by decide) _ _ _

/-- Slot 6 of the maxima is loaded as it was initialised. -/
theorem m_load6 : scM0_1.view.readCov (kernelRun0_B.sl.HS1_7 arg5 arg6 x1 x2) (Rect.unit (s := S8x1x1024) ![6, 0, 0] S1x1x1024.size inb_S8x1x1024_S1x1x1024_6_0_0).toLoadRect = slot1 6 (k0_pay6 (F := 𝕀)) :=
  (Slots.skip (Val := Elt 𝕀) (a := 1) (b := 1024) scM0_1.view 6 (by decide) _ _ _ _ (by decide)).trans <| (Slots.skip (Val := Elt 𝕀) (a := 1) (b := 1024) scM0_1.view 6 (by decide) _ _ _ _ (by decide)).trans <| (Slots.skip (Val := Elt 𝕀) (a := 1) (b := 1024) scM0_1.view 6 (by decide) _ _ _ _ (by decide)).trans <| (Slots.skip (Val := Elt 𝕀) (a := 1) (b := 1024) scM0_1.view 6 (by decide) _ _ _ _ (by decide)).trans <| (Slots.skip (Val := Elt 𝕀) (a := 1) (b := 1024) scM0_1.view 6 (by decide) _ _ _ _ (by decide)).trans <| (Slots.skip (Val := Elt 𝕀) (a := 1) (b := 1024) scM0_1.view 6 (by decide) _ _ _ _ (by decide)).trans <| Slots.fill (Val := Elt 𝕀) (a := 1) (b := 1024) scM0_1.view 6 (by decide) _ _ _

/-- Slot 7 of the maxima is loaded as it was initialised. -/
theorem m_load7 : scM0_1.view.readCov (kernelRun0_B.sl.HS1_8 arg5 arg6 x1 x2) (Rect.unit (s := S8x1x1024) ![7, 0, 0] S1x1x1024.size inb_S8x1x1024_S1x1x1024_7_0_0).toLoadRect = slot1 7 (k0_pay6 (F := 𝕀)) :=
  (Slots.skip (Val := Elt 𝕀) (a := 1) (b := 1024) scM0_1.view 7 (by decide) _ _ _ _ (by decide)).trans <| (Slots.skip (Val := Elt 𝕀) (a := 1) (b := 1024) scM0_1.view 7 (by decide) _ _ _ _ (by decide)).trans <| (Slots.skip (Val := Elt 𝕀) (a := 1) (b := 1024) scM0_1.view 7 (by decide) _ _ _ _ (by decide)).trans <| (Slots.skip (Val := Elt 𝕀) (a := 1) (b := 1024) scM0_1.view 7 (by decide) _ _ _ _ (by decide)).trans <| (Slots.skip (Val := Elt 𝕀) (a := 1) (b := 1024) scM0_1.view 7 (by decide) _ _ _ _ (by decide)).trans <| (Slots.skip (Val := Elt 𝕀) (a := 1) (b := 1024) scM0_1.view 7 (by decide) _ _ _ _ (by decide)).trans <| (Slots.skip (Val := Elt 𝕀) (a := 1) (b := 1024) scM0_1.view 7 (by decide) _ _ _ _ (by decide)).trans <| Slots.fill (Val := Elt 𝕀) (a := 1) (b := 1024) scM0_1.view 7 (by decide) _ _ _

/-- Slot 0 of the denominators is loaded as it was initialised. -/
theorem l_load0 : scM0_2.view.readCov (kernelRun0_B.sl.HS2_1) (Rect.unit (s := S8x1x1024) ![0, 0, 0] S1x1x1024.size inb_S8x1x1024_S1x1x1024_0_0_0).toLoadRect = slot1 0 (k0_pay7 (F := 𝕀)) :=
  Slots.fill (Val := Elt 𝕀) (a := 1) (b := 1024) scM0_2.view 0 (by decide) _ _ _

/-- Slot 1 of the denominators is loaded as it was initialised. -/
theorem l_load1 : scM0_2.view.readCov (kernelRun0_B.sl.HS2_2 arg5 arg6 x1 x2) (Rect.unit (s := S8x1x1024) ![1, 0, 0] S1x1x1024.size inb_S8x1x1024_S1x1x1024_1_0_0).toLoadRect = slot1 1 (k0_pay7 (F := 𝕀)) :=
  (Slots.skip (Val := Elt 𝕀) (a := 1) (b := 1024) scM0_2.view 1 (by decide) _ _ _ _ (by decide)).trans <| Slots.fill (Val := Elt 𝕀) (a := 1) (b := 1024) scM0_2.view 1 (by decide) _ _ _

/-- Slot 2 of the denominators is loaded as it was initialised. -/
theorem l_load2 : scM0_2.view.readCov (kernelRun0_B.sl.HS2_3 arg5 arg6 x1 x2) (Rect.unit (s := S8x1x1024) ![2, 0, 0] S1x1x1024.size inb_S8x1x1024_S1x1x1024_2_0_0).toLoadRect = slot1 2 (k0_pay7 (F := 𝕀)) :=
  (Slots.skip (Val := Elt 𝕀) (a := 1) (b := 1024) scM0_2.view 2 (by decide) _ _ _ _ (by decide)).trans <| (Slots.skip (Val := Elt 𝕀) (a := 1) (b := 1024) scM0_2.view 2 (by decide) _ _ _ _ (by decide)).trans <| Slots.fill (Val := Elt 𝕀) (a := 1) (b := 1024) scM0_2.view 2 (by decide) _ _ _

/-- Slot 3 of the denominators is loaded as it was initialised. -/
theorem l_load3 : scM0_2.view.readCov (kernelRun0_B.sl.HS2_4 arg5 arg6 x1 x2) (Rect.unit (s := S8x1x1024) ![3, 0, 0] S1x1x1024.size inb_S8x1x1024_S1x1x1024_3_0_0).toLoadRect = slot1 3 (k0_pay7 (F := 𝕀)) :=
  (Slots.skip (Val := Elt 𝕀) (a := 1) (b := 1024) scM0_2.view 3 (by decide) _ _ _ _ (by decide)).trans <| (Slots.skip (Val := Elt 𝕀) (a := 1) (b := 1024) scM0_2.view 3 (by decide) _ _ _ _ (by decide)).trans <| (Slots.skip (Val := Elt 𝕀) (a := 1) (b := 1024) scM0_2.view 3 (by decide) _ _ _ _ (by decide)).trans <| Slots.fill (Val := Elt 𝕀) (a := 1) (b := 1024) scM0_2.view 3 (by decide) _ _ _

/-- Slot 4 of the denominators is loaded as it was initialised. -/
theorem l_load4 : scM0_2.view.readCov (kernelRun0_B.sl.HS2_5 arg5 arg6 x1 x2) (Rect.unit (s := S8x1x1024) ![4, 0, 0] S1x1x1024.size inb_S8x1x1024_S1x1x1024_4_0_0).toLoadRect = slot1 4 (k0_pay7 (F := 𝕀)) :=
  (Slots.skip (Val := Elt 𝕀) (a := 1) (b := 1024) scM0_2.view 4 (by decide) _ _ _ _ (by decide)).trans <| (Slots.skip (Val := Elt 𝕀) (a := 1) (b := 1024) scM0_2.view 4 (by decide) _ _ _ _ (by decide)).trans <| (Slots.skip (Val := Elt 𝕀) (a := 1) (b := 1024) scM0_2.view 4 (by decide) _ _ _ _ (by decide)).trans <| (Slots.skip (Val := Elt 𝕀) (a := 1) (b := 1024) scM0_2.view 4 (by decide) _ _ _ _ (by decide)).trans <| Slots.fill (Val := Elt 𝕀) (a := 1) (b := 1024) scM0_2.view 4 (by decide) _ _ _

/-- Slot 5 of the denominators is loaded as it was initialised. -/
theorem l_load5 : scM0_2.view.readCov (kernelRun0_B.sl.HS2_6 arg5 arg6 x1 x2) (Rect.unit (s := S8x1x1024) ![5, 0, 0] S1x1x1024.size inb_S8x1x1024_S1x1x1024_5_0_0).toLoadRect = slot1 5 (k0_pay7 (F := 𝕀)) :=
  (Slots.skip (Val := Elt 𝕀) (a := 1) (b := 1024) scM0_2.view 5 (by decide) _ _ _ _ (by decide)).trans <| (Slots.skip (Val := Elt 𝕀) (a := 1) (b := 1024) scM0_2.view 5 (by decide) _ _ _ _ (by decide)).trans <| (Slots.skip (Val := Elt 𝕀) (a := 1) (b := 1024) scM0_2.view 5 (by decide) _ _ _ _ (by decide)).trans <| (Slots.skip (Val := Elt 𝕀) (a := 1) (b := 1024) scM0_2.view 5 (by decide) _ _ _ _ (by decide)).trans <| (Slots.skip (Val := Elt 𝕀) (a := 1) (b := 1024) scM0_2.view 5 (by decide) _ _ _ _ (by decide)).trans <| Slots.fill (Val := Elt 𝕀) (a := 1) (b := 1024) scM0_2.view 5 (by decide) _ _ _

/-- Slot 6 of the denominators is loaded as it was initialised. -/
theorem l_load6 : scM0_2.view.readCov (kernelRun0_B.sl.HS2_7 arg5 arg6 x1 x2) (Rect.unit (s := S8x1x1024) ![6, 0, 0] S1x1x1024.size inb_S8x1x1024_S1x1x1024_6_0_0).toLoadRect = slot1 6 (k0_pay7 (F := 𝕀)) :=
  (Slots.skip (Val := Elt 𝕀) (a := 1) (b := 1024) scM0_2.view 6 (by decide) _ _ _ _ (by decide)).trans <| (Slots.skip (Val := Elt 𝕀) (a := 1) (b := 1024) scM0_2.view 6 (by decide) _ _ _ _ (by decide)).trans <| (Slots.skip (Val := Elt 𝕀) (a := 1) (b := 1024) scM0_2.view 6 (by decide) _ _ _ _ (by decide)).trans <| (Slots.skip (Val := Elt 𝕀) (a := 1) (b := 1024) scM0_2.view 6 (by decide) _ _ _ _ (by decide)).trans <| (Slots.skip (Val := Elt 𝕀) (a := 1) (b := 1024) scM0_2.view 6 (by decide) _ _ _ _ (by decide)).trans <| (Slots.skip (Val := Elt 𝕀) (a := 1) (b := 1024) scM0_2.view 6 (by decide) _ _ _ _ (by decide)).trans <| Slots.fill (Val := Elt 𝕀) (a := 1) (b := 1024) scM0_2.view 6 (by decide) _ _ _

/-- Slot 7 of the denominators is loaded as it was initialised. -/
theorem l_load7 : scM0_2.view.readCov (kernelRun0_B.sl.HS2_8 arg5 arg6 x1 x2) (Rect.unit (s := S8x1x1024) ![7, 0, 0] S1x1x1024.size inb_S8x1x1024_S1x1x1024_7_0_0).toLoadRect = slot1 7 (k0_pay7 (F := 𝕀)) :=
  (Slots.skip (Val := Elt 𝕀) (a := 1) (b := 1024) scM0_2.view 7 (by decide) _ _ _ _ (by decide)).trans <| (Slots.skip (Val := Elt 𝕀) (a := 1) (b := 1024) scM0_2.view 7 (by decide) _ _ _ _ (by decide)).trans <| (Slots.skip (Val := Elt 𝕀) (a := 1) (b := 1024) scM0_2.view 7 (by decide) _ _ _ _ (by decide)).trans <| (Slots.skip (Val := Elt 𝕀) (a := 1) (b := 1024) scM0_2.view 7 (by decide) _ _ _ _ (by decide)).trans <| (Slots.skip (Val := Elt 𝕀) (a := 1) (b := 1024) scM0_2.view 7 (by decide) _ _ _ _ (by decide)).trans <| (Slots.skip (Val := Elt 𝕀) (a := 1) (b := 1024) scM0_2.view 7 (by decide) _ _ _ _ (by decide)).trans <| (Slots.skip (Val := Elt 𝕀) (a := 1) (b := 1024) scM0_2.view 7 (by decide) _ _ _ _ (by decide)).trans <| Slots.fill (Val := Elt 𝕀) (a := 1) (b := 1024) scM0_2.view 7 (by decide) _ _ _

/-- Slot 0 of the weighted sums is loaded as it was initialised. -/
theorem a_load0 : scM0_3.view.readCov (kernelRun0_B.sl.HS3_1) (Rect.unit (s := S8x64x1024) ![0, 0, 0] S1x64x1024.size inb_S8x64x1024_S1x64x1024_0_0_0).toLoadRect = slotA 0 (k0_pay8 (F := 𝕀)) :=
  Slots.fill (Val := Elt 𝕀) (a := 64) (b := 1024) scM0_3.view 0 (by decide) _ _ _

/-- Slot 1 of the weighted sums is loaded as it was initialised. -/
theorem a_load1 : scM0_3.view.readCov (kernelRun0_B.sl.HS3_2 arg5 arg6 arg7 x1 x2 x3) (Rect.unit (s := S8x64x1024) ![1, 0, 0] S1x64x1024.size inb_S8x64x1024_S1x64x1024_1_0_0).toLoadRect = slotA 1 (k0_pay8 (F := 𝕀)) :=
  (Slots.skip (Val := Elt 𝕀) (a := 64) (b := 1024) scM0_3.view 1 (by decide) _ _ _ _ (by decide)).trans <| Slots.fill (Val := Elt 𝕀) (a := 64) (b := 1024) scM0_3.view 1 (by decide) _ _ _

/-- Slot 2 of the weighted sums is loaded as it was initialised. -/
theorem a_load2 : scM0_3.view.readCov (kernelRun0_B.sl.HS3_3 arg5 arg6 arg7 x1 x2 x3) (Rect.unit (s := S8x64x1024) ![2, 0, 0] S1x64x1024.size inb_S8x64x1024_S1x64x1024_2_0_0).toLoadRect = slotA 2 (k0_pay8 (F := 𝕀)) :=
  (Slots.skip (Val := Elt 𝕀) (a := 64) (b := 1024) scM0_3.view 2 (by decide) _ _ _ _ (by decide)).trans <| (Slots.skip (Val := Elt 𝕀) (a := 64) (b := 1024) scM0_3.view 2 (by decide) _ _ _ _ (by decide)).trans <| Slots.fill (Val := Elt 𝕀) (a := 64) (b := 1024) scM0_3.view 2 (by decide) _ _ _

/-- Slot 3 of the weighted sums is loaded as it was initialised. -/
theorem a_load3 : scM0_3.view.readCov (kernelRun0_B.sl.HS3_4 arg5 arg6 arg7 x1 x2 x3) (Rect.unit (s := S8x64x1024) ![3, 0, 0] S1x64x1024.size inb_S8x64x1024_S1x64x1024_3_0_0).toLoadRect = slotA 3 (k0_pay8 (F := 𝕀)) :=
  (Slots.skip (Val := Elt 𝕀) (a := 64) (b := 1024) scM0_3.view 3 (by decide) _ _ _ _ (by decide)).trans <| (Slots.skip (Val := Elt 𝕀) (a := 64) (b := 1024) scM0_3.view 3 (by decide) _ _ _ _ (by decide)).trans <| (Slots.skip (Val := Elt 𝕀) (a := 64) (b := 1024) scM0_3.view 3 (by decide) _ _ _ _ (by decide)).trans <| Slots.fill (Val := Elt 𝕀) (a := 64) (b := 1024) scM0_3.view 3 (by decide) _ _ _

/-- Slot 4 of the weighted sums is loaded as it was initialised. -/
theorem a_load4 : scM0_3.view.readCov (kernelRun0_B.sl.HS3_5 arg5 arg6 arg7 x1 x2 x3) (Rect.unit (s := S8x64x1024) ![4, 0, 0] S1x64x1024.size inb_S8x64x1024_S1x64x1024_4_0_0).toLoadRect = slotA 4 (k0_pay8 (F := 𝕀)) :=
  (Slots.skip (Val := Elt 𝕀) (a := 64) (b := 1024) scM0_3.view 4 (by decide) _ _ _ _ (by decide)).trans <| (Slots.skip (Val := Elt 𝕀) (a := 64) (b := 1024) scM0_3.view 4 (by decide) _ _ _ _ (by decide)).trans <| (Slots.skip (Val := Elt 𝕀) (a := 64) (b := 1024) scM0_3.view 4 (by decide) _ _ _ _ (by decide)).trans <| (Slots.skip (Val := Elt 𝕀) (a := 64) (b := 1024) scM0_3.view 4 (by decide) _ _ _ _ (by decide)).trans <| Slots.fill (Val := Elt 𝕀) (a := 64) (b := 1024) scM0_3.view 4 (by decide) _ _ _

/-- Slot 5 of the weighted sums is loaded as it was initialised. -/
theorem a_load5 : scM0_3.view.readCov (kernelRun0_B.sl.HS3_6 arg5 arg6 arg7 x1 x2 x3) (Rect.unit (s := S8x64x1024) ![5, 0, 0] S1x64x1024.size inb_S8x64x1024_S1x64x1024_5_0_0).toLoadRect = slotA 5 (k0_pay8 (F := 𝕀)) :=
  (Slots.skip (Val := Elt 𝕀) (a := 64) (b := 1024) scM0_3.view 5 (by decide) _ _ _ _ (by decide)).trans <| (Slots.skip (Val := Elt 𝕀) (a := 64) (b := 1024) scM0_3.view 5 (by decide) _ _ _ _ (by decide)).trans <| (Slots.skip (Val := Elt 𝕀) (a := 64) (b := 1024) scM0_3.view 5 (by decide) _ _ _ _ (by decide)).trans <| (Slots.skip (Val := Elt 𝕀) (a := 64) (b := 1024) scM0_3.view 5 (by decide) _ _ _ _ (by decide)).trans <| (Slots.skip (Val := Elt 𝕀) (a := 64) (b := 1024) scM0_3.view 5 (by decide) _ _ _ _ (by decide)).trans <| Slots.fill (Val := Elt 𝕀) (a := 64) (b := 1024) scM0_3.view 5 (by decide) _ _ _

/-- Slot 6 of the weighted sums is loaded as it was initialised. -/
theorem a_load6 : scM0_3.view.readCov (kernelRun0_B.sl.HS3_7 arg5 arg6 arg7 x1 x2 x3) (Rect.unit (s := S8x64x1024) ![6, 0, 0] S1x64x1024.size inb_S8x64x1024_S1x64x1024_6_0_0).toLoadRect = slotA 6 (k0_pay8 (F := 𝕀)) :=
  (Slots.skip (Val := Elt 𝕀) (a := 64) (b := 1024) scM0_3.view 6 (by decide) _ _ _ _ (by decide)).trans <| (Slots.skip (Val := Elt 𝕀) (a := 64) (b := 1024) scM0_3.view 6 (by decide) _ _ _ _ (by decide)).trans <| (Slots.skip (Val := Elt 𝕀) (a := 64) (b := 1024) scM0_3.view 6 (by decide) _ _ _ _ (by decide)).trans <| (Slots.skip (Val := Elt 𝕀) (a := 64) (b := 1024) scM0_3.view 6 (by decide) _ _ _ _ (by decide)).trans <| (Slots.skip (Val := Elt 𝕀) (a := 64) (b := 1024) scM0_3.view 6 (by decide) _ _ _ _ (by decide)).trans <| (Slots.skip (Val := Elt 𝕀) (a := 64) (b := 1024) scM0_3.view 6 (by decide) _ _ _ _ (by decide)).trans <| Slots.fill (Val := Elt 𝕀) (a := 64) (b := 1024) scM0_3.view 6 (by decide) _ _ _

/-- Slot 7 of the weighted sums is loaded as it was initialised. -/
theorem a_load7 : scM0_3.view.readCov (kernelRun0_B.sl.HS3_8 arg5 arg6 arg7 x1 x2 x3) (Rect.unit (s := S8x64x1024) ![7, 0, 0] S1x64x1024.size inb_S8x64x1024_S1x64x1024_7_0_0).toLoadRect = slotA 7 (k0_pay8 (F := 𝕀)) :=
  (Slots.skip (Val := Elt 𝕀) (a := 64) (b := 1024) scM0_3.view 7 (by decide) _ _ _ _ (by decide)).trans <| (Slots.skip (Val := Elt 𝕀) (a := 64) (b := 1024) scM0_3.view 7 (by decide) _ _ _ _ (by decide)).trans <| (Slots.skip (Val := Elt 𝕀) (a := 64) (b := 1024) scM0_3.view 7 (by decide) _ _ _ _ (by decide)).trans <| (Slots.skip (Val := Elt 𝕀) (a := 64) (b := 1024) scM0_3.view 7 (by decide) _ _ _ _ (by decide)).trans <| (Slots.skip (Val := Elt 𝕀) (a := 64) (b := 1024) scM0_3.view 7 (by decide) _ _ _ _ (by decide)).trans <| (Slots.skip (Val := Elt 𝕀) (a := 64) (b := 1024) scM0_3.view 7 (by decide) _ _ _ _ (by decide)).trans <| (Slots.skip (Val := Elt 𝕀) (a := 64) (b := 1024) scM0_3.view 7 (by decide) _ _ _ _ (by decide)).trans <| Slots.fill (Val := Elt 𝕀) (a := 64) (b := 1024) scM0_3.view 7 (by decide) _ _ _

/-- The maxima after a first key tile off the diagonal, slot by slot. -/
theorem m_read (f : scM0_1.view.ty.Contents (Elt 𝕀)) : scM0_1.view.read (Elt 𝕀) (scM0_1.view.writes (Elt 𝕀) f (kernelRun0_B.sl.HS1_9 arg5 arg6 x1 x2))
    = fun y : S8x1x1024.Idx => mG (k0_pay20 (F := 𝕀)) x2 (fun y : S8x256x1024.Idx => qG x1 (y 0) (ix3 0 (y 1) (y 2))) (k0_pay6 (F := 𝕀)) (y 0) (ix3 0 (y 1) (y 2)) := by
  refine Slots.read_slots (Val := Elt 𝕀) (a := 1) (b := 1024) scM0_1.view _ (mG (k0_pay20 (F := 𝕀)) x2 (fun y : S8x256x1024.Idx => qG x1 (y 0) (ix3 0 (y 1) (y 2))) (k0_pay6 (F := 𝕀))) _ _ _ _ _ _ _ _ _ ?_ ?_ ?_ ?_ ?_ ?_ ?_ ?_
  · have e : mOut ((k0_pay20 (F := 𝕀)) (View.readAt (Elt 𝕀) arg6.view (Rect.unit ![0, 0, 0] S1x1024x256.size inb_S1x1024x256_S1x1024x256_0_0_0).toLoadRect (arg6.view.rep x2)) (scM0_0.view.readCov (kernelRun0_B.sl.HS0_8 arg5 x1) (Rect.unit (s := S8x256x1024) ![7, 0, 0] S1x256x1024.size inb_S8x256x1024_S1x256x1024_7_0_0).toLoadRect)) (scM0_1.view.readCov (kernelRun0_B.sl.HS1_8 arg5 arg6 x1 x2) (Rect.unit (s := S8x1x1024) ![7, 0, 0] S1x1x1024.size inb_S8x1x1024_S1x1x1024_7_0_0).toLoadRect) = _ :=
      mEq (S := (k0_pay20 (F := 𝕀))) (loadK arg6 x2) (q_load arg5 x1 7 (by decide) inb_S8x256x1024_S1x256x1024_7_0_0) (m_load7 arg5 arg6 x1 x2)
    exact Eq.trans (by rfl) e
  · have e : mOut ((k0_pay20 (F := 𝕀)) (View.readAt (Elt 𝕀) arg6.view (Rect.unit ![0, 0, 0] S1x1024x256.size inb_S1x1024x256_S1x1024x256_0_0_0).toLoadRect (arg6.view.rep x2)) (scM0_0.view.readCov (kernelRun0_B.sl.HS0_8 arg5 x1) (Rect.unit (s := S8x256x1024) ![6, 0, 0] S1x256x1024.size inb_S8x256x1024_S1x256x1024_6_0_0).toLoadRect)) (scM0_1.view.readCov (kernelRun0_B.sl.HS1_7 arg5 arg6 x1 x2) (Rect.unit (s := S8x1x1024) ![6, 0, 0] S1x1x1024.size inb_S8x1x1024_S1x1x1024_6_0_0).toLoadRect) = _ :=
      mEq (S := (k0_pay20 (F := 𝕀))) (loadK arg6 x2) (q_load arg5 x1 6 (by decide) inb_S8x256x1024_S1x256x1024_6_0_0) (m_load6 arg5 arg6 x1 x2)
    exact Eq.trans (by rfl) e
  · have e : mOut ((k0_pay20 (F := 𝕀)) (View.readAt (Elt 𝕀) arg6.view (Rect.unit ![0, 0, 0] S1x1024x256.size inb_S1x1024x256_S1x1024x256_0_0_0).toLoadRect (arg6.view.rep x2)) (scM0_0.view.readCov (kernelRun0_B.sl.HS0_8 arg5 x1) (Rect.unit (s := S8x256x1024) ![5, 0, 0] S1x256x1024.size inb_S8x256x1024_S1x256x1024_5_0_0).toLoadRect)) (scM0_1.view.readCov (kernelRun0_B.sl.HS1_6 arg5 arg6 x1 x2) (Rect.unit (s := S8x1x1024) ![5, 0, 0] S1x1x1024.size inb_S8x1x1024_S1x1x1024_5_0_0).toLoadRect) = _ :=
      mEq (S := (k0_pay20 (F := 𝕀))) (loadK arg6 x2) (q_load arg5 x1 5 (by decide) inb_S8x256x1024_S1x256x1024_5_0_0) (m_load5 arg5 arg6 x1 x2)
    exact Eq.trans (by rfl) e
  · have e : mOut ((k0_pay20 (F := 𝕀)) (View.readAt (Elt 𝕀) arg6.view (Rect.unit ![0, 0, 0] S1x1024x256.size inb_S1x1024x256_S1x1024x256_0_0_0).toLoadRect (arg6.view.rep x2)) (scM0_0.view.readCov (kernelRun0_B.sl.HS0_8 arg5 x1) (Rect.unit (s := S8x256x1024) ![4, 0, 0] S1x256x1024.size inb_S8x256x1024_S1x256x1024_4_0_0).toLoadRect)) (scM0_1.view.readCov (kernelRun0_B.sl.HS1_5 arg5 arg6 x1 x2) (Rect.unit (s := S8x1x1024) ![4, 0, 0] S1x1x1024.size inb_S8x1x1024_S1x1x1024_4_0_0).toLoadRect) = _ :=
      mEq (S := (k0_pay20 (F := 𝕀))) (loadK arg6 x2) (q_load arg5 x1 4 (by decide) inb_S8x256x1024_S1x256x1024_4_0_0) (m_load4 arg5 arg6 x1 x2)
    exact Eq.trans (by rfl) e
  · have e : mOut ((k0_pay20 (F := 𝕀)) (View.readAt (Elt 𝕀) arg6.view (Rect.unit ![0, 0, 0] S1x1024x256.size inb_S1x1024x256_S1x1024x256_0_0_0).toLoadRect (arg6.view.rep x2)) (scM0_0.view.readCov (kernelRun0_B.sl.HS0_8 arg5 x1) (Rect.unit (s := S8x256x1024) ![3, 0, 0] S1x256x1024.size inb_S8x256x1024_S1x256x1024_3_0_0).toLoadRect)) (scM0_1.view.readCov (kernelRun0_B.sl.HS1_4 arg5 arg6 x1 x2) (Rect.unit (s := S8x1x1024) ![3, 0, 0] S1x1x1024.size inb_S8x1x1024_S1x1x1024_3_0_0).toLoadRect) = _ :=
      mEq (S := (k0_pay20 (F := 𝕀))) (loadK arg6 x2) (q_load arg5 x1 3 (by decide) inb_S8x256x1024_S1x256x1024_3_0_0) (m_load3 arg5 arg6 x1 x2)
    exact Eq.trans (by rfl) e
  · have e : mOut ((k0_pay20 (F := 𝕀)) (View.readAt (Elt 𝕀) arg6.view (Rect.unit ![0, 0, 0] S1x1024x256.size inb_S1x1024x256_S1x1024x256_0_0_0).toLoadRect (arg6.view.rep x2)) (scM0_0.view.readCov (kernelRun0_B.sl.HS0_8 arg5 x1) (Rect.unit (s := S8x256x1024) ![2, 0, 0] S1x256x1024.size inb_S8x256x1024_S1x256x1024_2_0_0).toLoadRect)) (scM0_1.view.readCov (kernelRun0_B.sl.HS1_3 arg5 arg6 x1 x2) (Rect.unit (s := S8x1x1024) ![2, 0, 0] S1x1x1024.size inb_S8x1x1024_S1x1x1024_2_0_0).toLoadRect) = _ :=
      mEq (S := (k0_pay20 (F := 𝕀))) (loadK arg6 x2) (q_load arg5 x1 2 (by decide) inb_S8x256x1024_S1x256x1024_2_0_0) (m_load2 arg5 arg6 x1 x2)
    exact Eq.trans (by rfl) e
  · have e : mOut ((k0_pay20 (F := 𝕀)) (View.readAt (Elt 𝕀) arg6.view (Rect.unit ![0, 0, 0] S1x1024x256.size inb_S1x1024x256_S1x1024x256_0_0_0).toLoadRect (arg6.view.rep x2)) (scM0_0.view.readCov (kernelRun0_B.sl.HS0_8 arg5 x1) (Rect.unit (s := S8x256x1024) ![1, 0, 0] S1x256x1024.size inb_S8x256x1024_S1x256x1024_1_0_0).toLoadRect)) (scM0_1.view.readCov (kernelRun0_B.sl.HS1_2 arg5 arg6 x1 x2) (Rect.unit (s := S8x1x1024) ![1, 0, 0] S1x1x1024.size inb_S8x1x1024_S1x1x1024_1_0_0).toLoadRect) = _ :=
      mEq (S := (k0_pay20 (F := 𝕀))) (loadK arg6 x2) (q_load arg5 x1 1 (by decide) inb_S8x256x1024_S1x256x1024_1_0_0) (m_load1 arg5 arg6 x1 x2)
    exact Eq.trans (by rfl) e
  · have e : mOut ((k0_pay20 (F := 𝕀)) (View.readAt (Elt 𝕀) arg6.view (Rect.unit ![0, 0, 0] S1x1024x256.size inb_S1x1024x256_S1x1024x256_0_0_0).toLoadRect (arg6.view.rep x2)) (scM0_0.view.readCov (kernelRun0_B.sl.HS0_8 arg5 x1) (Rect.unit (s := S8x256x1024) ![0, 0, 0] S1x256x1024.size inb_S8x256x1024_S1x256x1024_0_0_0).toLoadRect)) (scM0_1.view.readCov (kernelRun0_B.sl.HS1_1) (Rect.unit (s := S8x1x1024) ![0, 0, 0] S1x1x1024.size inb_S8x1x1024_S1x1x1024_0_0_0).toLoadRect) = _ :=
      mEq (S := (k0_pay20 (F := 𝕀))) (loadK arg6 x2) (q_load arg5 x1 0 (by decide) inb_S8x256x1024_S1x256x1024_0_0_0) (m_load0 )
    exact Eq.trans (by rfl) e

/-- The denominators after a first key tile off the diagonal, slot by slot. -/
theorem l_read (f : scM0_2.view.ty.Contents (Elt 𝕀)) : scM0_2.view.read (Elt 𝕀) (scM0_2.view.writes (Elt 𝕀) f (kernelRun0_B.sl.HS2_9 arg5 arg6 x1 x2))
    = fun y : S8x1x1024.Idx => lG (k0_pay20 (F := 𝕀)) x2 (fun y : S8x256x1024.Idx => qG x1 (y 0) (ix3 0 (y 1) (y 2))) (k0_pay6 (F := 𝕀)) (k0_pay7 (F := 𝕀)) (y 0) (ix3 0 (y 1) (y 2)) := by
  refine Slots.read_slots (Val := Elt 𝕀) (a := 1) (b := 1024) scM0_2.view _ (lG (k0_pay20 (F := 𝕀)) x2 (fun y : S8x256x1024.Idx => qG x1 (y 0) (ix3 0 (y 1) (y 2))) (k0_pay6 (F := 𝕀)) (k0_pay7 (F := 𝕀))) _ _ _ _ _ _ _ _ _ ?_ ?_ ?_ ?_ ?_ ?_ ?_ ?_
  · have e : lOut ((k0_pay20 (F := 𝕀)) (View.readAt (Elt 𝕀) arg6.view (Rect.unit ![0, 0, 0] S1x1024x256.size inb_S1x1024x256_S1x1024x256_0_0_0).toLoadRect (arg6.view.rep x2)) (scM0_0.view.readCov (kernelRun0_B.sl.HS0_8 arg5 x1) (Rect.unit (s := S8x256x1024) ![7, 0, 0] S1x256x1024.size inb_S8x256x1024_S1x256x1024_7_0_0).toLoadRect)) (scM0_1.view.readCov (kernelRun0_B.sl.HS1_8 arg5 arg6 x1 x2) (Rect.unit (s := S8x1x1024) ![7, 0, 0] S1x1x1024.size inb_S8x1x1024_S1x1x1024_7_0_0).toLoadRect) (scM0_2.view.readCov (kernelRun0_B.sl.HS2_8 arg5 arg6 x1 x2) (Rect.unit (s := S8x1x1024) ![7, 0, 0] S1x1x1024.size inb_S8x1x1024_S1x1x1024_7_0_0).toLoadRect) = _ :=
      lEq (S := (k0_pay20 (F := 𝕀))) (loadK arg6 x2) (q_load arg5 x1 7 (by decide) inb_S8x256x1024_S1x256x1024_7_0_0) (m_load7 arg5 arg6 x1 x2) (l_load7 arg5 arg6 x1 x2)
    exact Eq.trans (by rfl) e
  · have e : lOut ((k0_pay20 (F := 𝕀)) (View.readAt (Elt 𝕀) arg6.view (Rect.unit ![0, 0, 0] S1x1024x256.size inb_S1x1024x256_S1x1024x256_0_0_0).toLoadRect (arg6.view.rep x2)) (scM0_0.view.readCov (kernelRun0_B.sl.HS0_8 arg5 x1) (Rect.unit (s := S8x256x1024) ![6, 0, 0] S1x256x1024.size inb_S8x256x1024_S1x256x1024_6_0_0).toLoadRect)) (scM0_1.view.readCov (kernelRun0_B.sl.HS1_7 arg5 arg6 x1 x2) (Rect.unit (s := S8x1x1024) ![6, 0, 0] S1x1x1024.size inb_S8x1x1024_S1x1x1024_6_0_0).toLoadRect) (scM0_2.view.readCov (kernelRun0_B.sl.HS2_7 arg5 arg6 x1 x2) (Rect.unit (s := S8x1x1024) ![6, 0, 0] S1x1x1024.size inb_S8x1x1024_S1x1x1024_6_0_0).toLoadRect) = _ :=
      lEq (S := (k0_pay20 (F := 𝕀))) (loadK arg6 x2) (q_load arg5 x1 6 (by decide) inb_S8x256x1024_S1x256x1024_6_0_0) (m_load6 arg5 arg6 x1 x2) (l_load6 arg5 arg6 x1 x2)
    exact Eq.trans (by rfl) e
  · have e : lOut ((k0_pay20 (F := 𝕀)) (View.readAt (Elt 𝕀) arg6.view (Rect.unit ![0, 0, 0] S1x1024x256.size inb_S1x1024x256_S1x1024x256_0_0_0).toLoadRect (arg6.view.rep x2)) (scM0_0.view.readCov (kernelRun0_B.sl.HS0_8 arg5 x1) (Rect.unit (s := S8x256x1024) ![5, 0, 0] S1x256x1024.size inb_S8x256x1024_S1x256x1024_5_0_0).toLoadRect)) (scM0_1.view.readCov (kernelRun0_B.sl.HS1_6 arg5 arg6 x1 x2) (Rect.unit (s := S8x1x1024) ![5, 0, 0] S1x1x1024.size inb_S8x1x1024_S1x1x1024_5_0_0).toLoadRect) (scM0_2.view.readCov (kernelRun0_B.sl.HS2_6 arg5 arg6 x1 x2) (Rect.unit (s := S8x1x1024) ![5, 0, 0] S1x1x1024.size inb_S8x1x1024_S1x1x1024_5_0_0).toLoadRect) = _ :=
      lEq (S := (k0_pay20 (F := 𝕀))) (loadK arg6 x2) (q_load arg5 x1 5 (by decide) inb_S8x256x1024_S1x256x1024_5_0_0) (m_load5 arg5 arg6 x1 x2) (l_load5 arg5 arg6 x1 x2)
    exact Eq.trans (by rfl) e
  · have e : lOut ((k0_pay20 (F := 𝕀)) (View.readAt (Elt 𝕀) arg6.view (Rect.unit ![0, 0, 0] S1x1024x256.size inb_S1x1024x256_S1x1024x256_0_0_0).toLoadRect (arg6.view.rep x2)) (scM0_0.view.readCov (kernelRun0_B.sl.HS0_8 arg5 x1) (Rect.unit (s := S8x256x1024) ![4, 0, 0] S1x256x1024.size inb_S8x256x1024_S1x256x1024_4_0_0).toLoadRect)) (scM0_1.view.readCov (kernelRun0_B.sl.HS1_5 arg5 arg6 x1 x2) (Rect.unit (s := S8x1x1024) ![4, 0, 0] S1x1x1024.size inb_S8x1x1024_S1x1x1024_4_0_0).toLoadRect) (scM0_2.view.readCov (kernelRun0_B.sl.HS2_5 arg5 arg6 x1 x2) (Rect.unit (s := S8x1x1024) ![4, 0, 0] S1x1x1024.size inb_S8x1x1024_S1x1x1024_4_0_0).toLoadRect) = _ :=
      lEq (S := (k0_pay20 (F := 𝕀))) (loadK arg6 x2) (q_load arg5 x1 4 (by decide) inb_S8x256x1024_S1x256x1024_4_0_0) (m_load4 arg5 arg6 x1 x2) (l_load4 arg5 arg6 x1 x2)
    exact Eq.trans (by rfl) e
  · have e : lOut ((k0_pay20 (F := 𝕀)) (View.readAt (Elt 𝕀) arg6.view (Rect.unit ![0, 0, 0] S1x1024x256.size inb_S1x1024x256_S1x1024x256_0_0_0).toLoadRect (arg6.view.rep x2)) (scM0_0.view.readCov (kernelRun0_B.sl.HS0_8 arg5 x1) (Rect.unit (s := S8x256x1024) ![3, 0, 0] S1x256x1024.size inb_S8x256x1024_S1x256x1024_3_0_0).toLoadRect)) (scM0_1.view.readCov (kernelRun0_B.sl.HS1_4 arg5 arg6 x1 x2) (Rect.unit (s := S8x1x1024) ![3, 0, 0] S1x1x1024.size inb_S8x1x1024_S1x1x1024_3_0_0).toLoadRect) (scM0_2.view.readCov (kernelRun0_B.sl.HS2_4 arg5 arg6 x1 x2) (Rect.unit (s := S8x1x1024) ![3, 0, 0] S1x1x1024.size inb_S8x1x1024_S1x1x1024_3_0_0).toLoadRect) = _ :=
      lEq (S := (k0_pay20 (F := 𝕀))) (loadK arg6 x2) (q_load arg5 x1 3 (by decide) inb_S8x256x1024_S1x256x1024_3_0_0) (m_load3 arg5 arg6 x1 x2) (l_load3 arg5 arg6 x1 x2)
    exact Eq.trans (by rfl) e
  · have e : lOut ((k0_pay20 (F := 𝕀)) (View.readAt (Elt 𝕀) arg6.view (Rect.unit ![0, 0, 0] S1x1024x256.size inb_S1x1024x256_S1x1024x256_0_0_0).toLoadRect (arg6.view.rep x2)) (scM0_0.view.readCov (kernelRun0_B.sl.HS0_8 arg5 x1) (Rect.unit (s := S8x256x1024) ![2, 0, 0] S1x256x1024.size inb_S8x256x1024_S1x256x1024_2_0_0).toLoadRect)) (scM0_1.view.readCov (kernelRun0_B.sl.HS1_3 arg5 arg6 x1 x2) (Rect.unit (s := S8x1x1024) ![2, 0, 0] S1x1x1024.size inb_S8x1x1024_S1x1x1024_2_0_0).toLoadRect) (scM0_2.view.readCov (kernelRun0_B.sl.HS2_3 arg5 arg6 x1 x2) (Rect.unit (s := S8x1x1024) ![2, 0, 0] S1x1x1024.size inb_S8x1x1024_S1x1x1024_2_0_0).toLoadRect) = _ :=
      lEq (S := (k0_pay20 (F := 𝕀))) (loadK arg6 x2) (q_load arg5 x1 2 (by decide) inb_S8x256x1024_S1x256x1024_2_0_0) (m_load2 arg5 arg6 x1 x2) (l_load2 arg5 arg6 x1 x2)
    exact Eq.trans (by rfl) e
  · have e : lOut ((k0_pay20 (F := 𝕀)) (View.readAt (Elt 𝕀) arg6.view (Rect.unit ![0, 0, 0] S1x1024x256.size inb_S1x1024x256_S1x1024x256_0_0_0).toLoadRect (arg6.view.rep x2)) (scM0_0.view.readCov (kernelRun0_B.sl.HS0_8 arg5 x1) (Rect.unit (s := S8x256x1024) ![1, 0, 0] S1x256x1024.size inb_S8x256x1024_S1x256x1024_1_0_0).toLoadRect)) (scM0_1.view.readCov (kernelRun0_B.sl.HS1_2 arg5 arg6 x1 x2) (Rect.unit (s := S8x1x1024) ![1, 0, 0] S1x1x1024.size inb_S8x1x1024_S1x1x1024_1_0_0).toLoadRect) (scM0_2.view.readCov (kernelRun0_B.sl.HS2_2 arg5 arg6 x1 x2) (Rect.unit (s := S8x1x1024) ![1, 0, 0] S1x1x1024.size inb_S8x1x1024_S1x1x1024_1_0_0).toLoadRect) = _ :=
      lEq (S := (k0_pay20 (F := 𝕀))) (loadK arg6 x2) (q_load arg5 x1 1 (by decide) inb_S8x256x1024_S1x256x1024_1_0_0) (m_load1 arg5 arg6 x1 x2) (l_load1 arg5 arg6 x1 x2)
    exact Eq.trans (by rfl) e
  · have e : lOut ((k0_pay20 (F := 𝕀)) (View.readAt (Elt 𝕀) arg6.view (Rect.unit ![0, 0, 0] S1x1024x256.size inb_S1x1024x256_S1x1024x256_0_0_0).toLoadRect (arg6.view.rep x2)) (scM0_0.view.readCov (kernelRun0_B.sl.HS0_8 arg5 x1) (Rect.unit (s := S8x256x1024) ![0, 0, 0] S1x256x1024.size inb_S8x256x1024_S1x256x1024_0_0_0).toLoadRect)) (scM0_1.view.readCov (kernelRun0_B.sl.HS1_1) (Rect.unit (s := S8x1x1024) ![0, 0, 0] S1x1x1024.size inb_S8x1x1024_S1x1x1024_0_0_0).toLoadRect) (scM0_2.view.readCov (kernelRun0_B.sl.HS2_1) (Rect.unit (s := S8x1x1024) ![0, 0, 0] S1x1x1024.size inb_S8x1x1024_S1x1x1024_0_0_0).toLoadRect) = _ :=
      lEq (S := (k0_pay20 (F := 𝕀))) (loadK arg6 x2) (q_load arg5 x1 0 (by decide) inb_S8x256x1024_S1x256x1024_0_0_0) (m_load0 ) (l_load0 )
    exact Eq.trans (by rfl) e

/-- The weighted sums after a first key tile off the diagonal, slot by slot. -/
theorem a_read (f : scM0_3.view.ty.Contents (Elt 𝕀)) : scM0_3.view.read (Elt 𝕀) (scM0_3.view.writes (Elt 𝕀) f (kernelRun0_B.sl.HS3_9 arg5 arg6 arg7 x1 x2 x3))
    = fun y : S8x64x1024.Idx => aG (k0_pay20 (F := 𝕀)) x2 (fun y : S8x256x1024.Idx => qG x1 (y 0) (ix3 0 (y 1) (y 2))) (k0_pay6 (F := 𝕀)) x3 (k0_pay8 (F := 𝕀)) (y 0) (ix3 0 (y 1) (y 2)) := by
  refine Slots.read_slots (Val := Elt 𝕀) (a := 64) (b := 1024) scM0_3.view _ (aG (k0_pay20 (F := 𝕀)) x2 (fun y : S8x256x1024.Idx => qG x1 (y 0) (ix3 0 (y 1) (y 2))) (k0_pay6 (F := 𝕀)) x3 (k0_pay8 (F := 𝕀))) _ _ _ _ _ _ _ _ _ ?_ ?_ ?_ ?_ ?_ ?_ ?_ ?_
  · have e : aOut ((k0_pay20 (F := 𝕀)) (View.readAt (Elt 𝕀) arg6.view (Rect.unit ![0, 0, 0] S1x1024x256.size inb_S1x1024x256_S1x1024x256_0_0_0).toLoadRect (arg6.view.rep x2)) (scM0_0.view.readCov (kernelRun0_B.sl.HS0_8 arg5 x1) (Rect.unit (s := S8x256x1024) ![7, 0, 0] S1x256x1024.size inb_S8x256x1024_S1x256x1024_7_0_0).toLoadRect)) (scM0_1.view.readCov (kernelRun0_B.sl.HS1_8 arg5 arg6 x1 x2) (Rect.unit (s := S8x1x1024) ![7, 0, 0] S1x1x1024.size inb_S8x1x1024_S1x1x1024_7_0_0).toLoadRect) (View.readAt (Elt 𝕀) arg7.view (Rect.unit (s := S1x256x1024) ![0, 192, 0] S1x64x1024.size inb_S1x256x1024_S1x64x1024_0_192_0).toLoadRect (arg7.view.rep x3)) (scM0_3.view.readCov (kernelRun0_B.sl.HS3_8 arg5 arg6 arg7 x1 x2 x3) (Rect.unit (s := S8x64x1024) ![7, 0, 0] S1x64x1024.size inb_S8x64x1024_S1x64x1024_7_0_0).toLoadRect) = _ :=
      aEq (S := (k0_pay20 (F := 𝕀))) (loadK arg6 x2) (q_load arg5 x1 7 (by decide) inb_S8x256x1024_S1x256x1024_7_0_0) (m_load7 arg5 arg6 x1 x2) (loadV 7 rfl arg7 x3 inb_S1x256x1024_S1x64x1024_0_192_0) (a_load7 arg5 arg6 arg7 x1 x2 x3)
    exact Eq.trans (by rfl) e
  · have e : aOut ((k0_pay20 (F := 𝕀)) (View.readAt (Elt 𝕀) arg6.view (Rect.unit ![0, 0, 0] S1x1024x256.size inb_S1x1024x256_S1x1024x256_0_0_0).toLoadRect (arg6.view.rep x2)) (scM0_0.view.readCov (kernelRun0_B.sl.HS0_8 arg5 x1) (Rect.unit (s := S8x256x1024) ![6, 0, 0] S1x256x1024.size inb_S8x256x1024_S1x256x1024_6_0_0).toLoadRect)) (scM0_1.view.readCov (kernelRun0_B.sl.HS1_7 arg5 arg6 x1 x2) (Rect.unit (s := S8x1x1024) ![6, 0, 0] S1x1x1024.size inb_S8x1x1024_S1x1x1024_6_0_0).toLoadRect) (View.readAt (Elt 𝕀) arg7.view (Rect.unit (s := S1x256x1024) ![0, 192, 0] S1x64x1024.size inb_S1x256x1024_S1x64x1024_0_192_0).toLoadRect (arg7.view.rep x3)) (scM0_3.view.readCov (kernelRun0_B.sl.HS3_7 arg5 arg6 arg7 x1 x2 x3) (Rect.unit (s := S8x64x1024) ![6, 0, 0] S1x64x1024.size inb_S8x64x1024_S1x64x1024_6_0_0).toLoadRect) = _ :=
      aEq (S := (k0_pay20 (F := 𝕀))) (loadK arg6 x2) (q_load arg5 x1 6 (by decide) inb_S8x256x1024_S1x256x1024_6_0_0) (m_load6 arg5 arg6 x1 x2) (loadV 6 rfl arg7 x3 inb_S1x256x1024_S1x64x1024_0_192_0) (a_load6 arg5 arg6 arg7 x1 x2 x3)
    exact Eq.trans (by rfl) e
  · have e : aOut ((k0_pay20 (F := 𝕀)) (View.readAt (Elt 𝕀) arg6.view (Rect.unit ![0, 0, 0] S1x1024x256.size inb_S1x1024x256_S1x1024x256_0_0_0).toLoadRect (arg6.view.rep x2)) (scM0_0.view.readCov (kernelRun0_B.sl.HS0_8 arg5 x1) (Rect.unit (s := S8x256x1024) ![5, 0, 0] S1x256x1024.size inb_S8x256x1024_S1x256x1024_5_0_0).toLoadRect)) (scM0_1.view.readCov (kernelRun0_B.sl.HS1_6 arg5 arg6 x1 x2) (Rect.unit (s := S8x1x1024) ![5, 0, 0] S1x1x1024.size inb_S8x1x1024_S1x1x1024_5_0_0).toLoadRect) (View.readAt (Elt 𝕀) arg7.view (Rect.unit (s := S1x256x1024) ![0, 128, 0] S1x64x1024.size inb_S1x256x1024_S1x64x1024_0_128_0).toLoadRect (arg7.view.rep x3)) (scM0_3.view.readCov (kernelRun0_B.sl.HS3_6 arg5 arg6 arg7 x1 x2 x3) (Rect.unit (s := S8x64x1024) ![5, 0, 0] S1x64x1024.size inb_S8x64x1024_S1x64x1024_5_0_0).toLoadRect) = _ :=
      aEq (S := (k0_pay20 (F := 𝕀))) (loadK arg6 x2) (q_load arg5 x1 5 (by decide) inb_S8x256x1024_S1x256x1024_5_0_0) (m_load5 arg5 arg6 x1 x2) (loadV 5 rfl arg7 x3 inb_S1x256x1024_S1x64x1024_0_128_0) (a_load5 arg5 arg6 arg7 x1 x2 x3)
    exact Eq.trans (by rfl) e
  · have e : aOut ((k0_pay20 (F := 𝕀)) (View.readAt (Elt 𝕀) arg6.view (Rect.unit ![0, 0, 0] S1x1024x256.size inb_S1x1024x256_S1x1024x256_0_0_0).toLoadRect (arg6.view.rep x2)) (scM0_0.view.readCov (kernelRun0_B.sl.HS0_8 arg5 x1) (Rect.unit (s := S8x256x1024) ![4, 0, 0] S1x256x1024.size inb_S8x256x1024_S1x256x1024_4_0_0).toLoadRect)) (scM0_1.view.readCov (kernelRun0_B.sl.HS1_5 arg5 arg6 x1 x2) (Rect.unit (s := S8x1x1024) ![4, 0, 0] S1x1x1024.size inb_S8x1x1024_S1x1x1024_4_0_0).toLoadRect) (View.readAt (Elt 𝕀) arg7.view (Rect.unit (s := S1x256x1024) ![0, 128, 0] S1x64x1024.size inb_S1x256x1024_S1x64x1024_0_128_0).toLoadRect (arg7.view.rep x3)) (scM0_3.view.readCov (kernelRun0_B.sl.HS3_5 arg5 arg6 arg7 x1 x2 x3) (Rect.unit (s := S8x64x1024) ![4, 0, 0] S1x64x1024.size inb_S8x64x1024_S1x64x1024_4_0_0).toLoadRect) = _ :=
      aEq (S := (k0_pay20 (F := 𝕀))) (loadK arg6 x2) (q_load arg5 x1 4 (by decide) inb_S8x256x1024_S1x256x1024_4_0_0) (m_load4 arg5 arg6 x1 x2) (loadV 4 rfl arg7 x3 inb_S1x256x1024_S1x64x1024_0_128_0) (a_load4 arg5 arg6 arg7 x1 x2 x3)
    exact Eq.trans (by rfl) e
  · have e : aOut ((k0_pay20 (F := 𝕀)) (View.readAt (Elt 𝕀) arg6.view (Rect.unit ![0, 0, 0] S1x1024x256.size inb_S1x1024x256_S1x1024x256_0_0_0).toLoadRect (arg6.view.rep x2)) (scM0_0.view.readCov (kernelRun0_B.sl.HS0_8 arg5 x1) (Rect.unit (s := S8x256x1024) ![3, 0, 0] S1x256x1024.size inb_S8x256x1024_S1x256x1024_3_0_0).toLoadRect)) (scM0_1.view.readCov (kernelRun0_B.sl.HS1_4 arg5 arg6 x1 x2) (Rect.unit (s := S8x1x1024) ![3, 0, 0] S1x1x1024.size inb_S8x1x1024_S1x1x1024_3_0_0).toLoadRect) (View.readAt (Elt 𝕀) arg7.view (Rect.unit (s := S1x256x1024) ![0, 64, 0] S1x64x1024.size inb_S1x256x1024_S1x64x1024_0_64_0).toLoadRect (arg7.view.rep x3)) (scM0_3.view.readCov (kernelRun0_B.sl.HS3_4 arg5 arg6 arg7 x1 x2 x3) (Rect.unit (s := S8x64x1024) ![3, 0, 0] S1x64x1024.size inb_S8x64x1024_S1x64x1024_3_0_0).toLoadRect) = _ :=
      aEq (S := (k0_pay20 (F := 𝕀))) (loadK arg6 x2) (q_load arg5 x1 3 (by decide) inb_S8x256x1024_S1x256x1024_3_0_0) (m_load3 arg5 arg6 x1 x2) (loadV 3 rfl arg7 x3 inb_S1x256x1024_S1x64x1024_0_64_0) (a_load3 arg5 arg6 arg7 x1 x2 x3)
    exact Eq.trans (by rfl) e
  · have e : aOut ((k0_pay20 (F := 𝕀)) (View.readAt (Elt 𝕀) arg6.view (Rect.unit ![0, 0, 0] S1x1024x256.size inb_S1x1024x256_S1x1024x256_0_0_0).toLoadRect (arg6.view.rep x2)) (scM0_0.view.readCov (kernelRun0_B.sl.HS0_8 arg5 x1) (Rect.unit (s := S8x256x1024) ![2, 0, 0] S1x256x1024.size inb_S8x256x1024_S1x256x1024_2_0_0).toLoadRect)) (scM0_1.view.readCov (kernelRun0_B.sl.HS1_3 arg5 arg6 x1 x2) (Rect.unit (s := S8x1x1024) ![2, 0, 0] S1x1x1024.size inb_S8x1x1024_S1x1x1024_2_0_0).toLoadRect) (View.readAt (Elt 𝕀) arg7.view (Rect.unit (s := S1x256x1024) ![0, 64, 0] S1x64x1024.size inb_S1x256x1024_S1x64x1024_0_64_0).toLoadRect (arg7.view.rep x3)) (scM0_3.view.readCov (kernelRun0_B.sl.HS3_3 arg5 arg6 arg7 x1 x2 x3) (Rect.unit (s := S8x64x1024) ![2, 0, 0] S1x64x1024.size inb_S8x64x1024_S1x64x1024_2_0_0).toLoadRect) = _ :=
      aEq (S := (k0_pay20 (F := 𝕀))) (loadK arg6 x2) (q_load arg5 x1 2 (by decide) inb_S8x256x1024_S1x256x1024_2_0_0) (m_load2 arg5 arg6 x1 x2) (loadV 2 rfl arg7 x3 inb_S1x256x1024_S1x64x1024_0_64_0) (a_load2 arg5 arg6 arg7 x1 x2 x3)
    exact Eq.trans (by rfl) e
  · have e : aOut ((k0_pay20 (F := 𝕀)) (View.readAt (Elt 𝕀) arg6.view (Rect.unit ![0, 0, 0] S1x1024x256.size inb_S1x1024x256_S1x1024x256_0_0_0).toLoadRect (arg6.view.rep x2)) (scM0_0.view.readCov (kernelRun0_B.sl.HS0_8 arg5 x1) (Rect.unit (s := S8x256x1024) ![1, 0, 0] S1x256x1024.size inb_S8x256x1024_S1x256x1024_1_0_0).toLoadRect)) (scM0_1.view.readCov (kernelRun0_B.sl.HS1_2 arg5 arg6 x1 x2) (Rect.unit (s := S8x1x1024) ![1, 0, 0] S1x1x1024.size inb_S8x1x1024_S1x1x1024_1_0_0).toLoadRect) (View.readAt (Elt 𝕀) arg7.view (Rect.unit (s := S1x256x1024) ![0, 0, 0] S1x64x1024.size inb_S1x256x1024_S1x64x1024_0_0_0).toLoadRect (arg7.view.rep x3)) (scM0_3.view.readCov (kernelRun0_B.sl.HS3_2 arg5 arg6 arg7 x1 x2 x3) (Rect.unit (s := S8x64x1024) ![1, 0, 0] S1x64x1024.size inb_S8x64x1024_S1x64x1024_1_0_0).toLoadRect) = _ :=
      aEq (S := (k0_pay20 (F := 𝕀))) (loadK arg6 x2) (q_load arg5 x1 1 (by decide) inb_S8x256x1024_S1x256x1024_1_0_0) (m_load1 arg5 arg6 x1 x2) (loadV 1 rfl arg7 x3 inb_S1x256x1024_S1x64x1024_0_0_0) (a_load1 arg5 arg6 arg7 x1 x2 x3)
    exact Eq.trans (by rfl) e
  · have e : aOut ((k0_pay20 (F := 𝕀)) (View.readAt (Elt 𝕀) arg6.view (Rect.unit ![0, 0, 0] S1x1024x256.size inb_S1x1024x256_S1x1024x256_0_0_0).toLoadRect (arg6.view.rep x2)) (scM0_0.view.readCov (kernelRun0_B.sl.HS0_8 arg5 x1) (Rect.unit (s := S8x256x1024) ![0, 0, 0] S1x256x1024.size inb_S8x256x1024_S1x256x1024_0_0_0).toLoadRect)) (scM0_1.view.readCov (kernelRun0_B.sl.HS1_1) (Rect.unit (s := S8x1x1024) ![0, 0, 0] S1x1x1024.size inb_S8x1x1024_S1x1x1024_0_0_0).toLoadRect) (View.readAt (Elt 𝕀) arg7.view (Rect.unit (s := S1x256x1024) ![0, 0, 0] S1x64x1024.size inb_S1x256x1024_S1x64x1024_0_0_0).toLoadRect (arg7.view.rep x3)) (scM0_3.view.readCov (kernelRun0_B.sl.HS3_1) (Rect.unit (s := S8x64x1024) ![0, 0, 0] S1x64x1024.size inb_S8x64x1024_S1x64x1024_0_0_0).toLoadRect) = _ :=
      aEq (S := (k0_pay20 (F := 𝕀))) (loadK arg6 x2) (q_load arg5 x1 0 (by decide) inb_S8x256x1024_S1x256x1024_0_0_0) (m_load0 ) (loadV 0 rfl arg7 x3 inb_S1x256x1024_S1x64x1024_0_0_0) (a_load0 )
    exact Eq.trans (by rfl) e

end B

end Cert.KernelIdeal.Att

end
-- ==== Proof.Sched.lean ====
/- The points of the grid: the batch, the query tile and the key tile of each, and the place of each window's block. -/
module

public import proofs.«01_k».proof.Proof.Tile
public import proofs.«01_k».proof.Proof.RunI.Frame
public import Idealize.ShloMosaic.Lib.Pipeline.ValueKit

@[expose] public section

set_option maxRecDepth 16384
set_option maxHeartbeats 400000

noncomputable section

namespace Cert.KernelIdeal.Att

open Idealize.ShloMosaic Idealize.ShloMosaic.TcCoe Cert.KernelIdeal Cert.KernelIdeal.Gen
local notation "𝕀" => Idealize.ShloMosaic.Ideal

/-- The batch of a point. -/
def tb (n : ℕ) : ℕ := n / 10
/-- The query tile of a point. -/
def tq (n : ℕ) : ℕ := [0, 1, 1, 2, 2, 2, 3, 3, 3, 3].getD (n % 10) 0
/-- The key tile of a point. -/
def tk (n : ℕ) : ℕ := [0, 0, 1, 0, 1, 2, 0, 1, 2, 3].getD (n % 10) 0

/-- The tiles of a point are within the array, and a point that is not the first of its row comes after the previous key tile. -/
theorem tiles : ∀ t : Fin 80, tb t.val < 8 ∧ tq t.val < 4 ∧ tk t.val ≤ tq t.val
    ∧ (tk t.val ≠ 0 → t.val ≠ 0 ∧ tb (t.val - 1) = tb t.val ∧ tq (t.val - 1) = tq t.val ∧ tk (t.val - 1) + 1 = tk t.val) := by decide +kernel

/-- The body's first condition: the key tile is the first. -/
theorem first_iff : ∀ t : Fin (cfgA 0).N, P0_0 0 t ↔ tk t.val = 0 := by decide +kernel
/-- The body's second condition: the key tile is before the query tile. -/
theorem before_iff : ∀ t : Fin (cfgA 0).N, P0_1 0 t ↔ tk t.val < tq t.val := by decide +kernel
/-- The output block is written back exactly where the key tile is the query tile. -/
theorem flush_iff : ∀ t : Fin (cfgA 0).N, ((cfgA 0).win 5).flush t = true ↔ tk t.val = tq t.val := by decide +kernel

/-- The windows' block indices at every point. -/
theorem idx : ∀ t : Fin (cfgA 0).N, ((cfgA 0).win 0).index t = ![0, 0] ∧ ((cfgA 0).win 1).index t = ![tb t.val, 0, tq t.val]
    ∧ ((cfgA 0).win 2).index t = ![tb t.val, tk t.val, 0] ∧ ((cfgA 0).win 3).index t = ![tb t.val, 0, tk t.val]
    ∧ ((cfgA 0).win 4).index t = ![0, 0] ∧ ((cfgA 0).win 5).index t = ![tb t.val, tq t.val, 0] := by decide +kernel

end Cert.KernelIdeal.Att

end
-- ==== Proof.Blocks.lean ====
/- Each input window's block, read at an index, is the argument array at the place of the block. -/
module

public import proofs.«01_k».proof.Proof.Sched

@[expose] public section

set_option maxRecDepth 16384
set_option maxHeartbeats 400000

noncomputable section

namespace Cert.KernelIdeal.Att

open Idealize.ShloMosaic Idealize.ShloMosaic.TcCoe Cert.KernelIdeal Cert.KernelIdeal.Gen
local notation "𝕀" => Idealize.ShloMosaic.Ideal

variable (m : (ℓ : Loc nD τ sig) → Buf (Elt 𝕀) ℓ) (ρ : Dev nD → PrngReg) (c : Dev nD) (t : Fin (cfgA 0).N)

/-- The queries' block. -/
theorem blk_q (x : S1x256x1024.Idx) (h : tb t.val < 8 ∧ tq t.val < 4) : iblk 0 m ρ c 1 t x
    = m ((c : Thread nD τ).loc main_arg0) (ix3 ⟨tb t.val, h.1⟩ (x 1) ⟨1024 * tq t.val + (x 2).val, by have := (x 2).isLt; simp at this; omega⟩) := by
  blk_ext [iblk, idx t]

/-- The keys' block. -/
theorem blk_k (x : S1x1024x256.Idx) (h : tb t.val < 8 ∧ tk t.val < 4) : iblk 0 m ρ c 2 t x
    = m ((c : Thread nD τ).loc main_arg1) (ix3 ⟨tb t.val, h.1⟩ ⟨1024 * tk t.val + (x 1).val, by have := (x 1).isLt; simp at this; omega⟩ (x 2)) := by
  blk_ext [iblk, idx t]

/-- The values' block. -/
theorem blk_v (x : S1x256x1024.Idx) (h : tb t.val < 8 ∧ tk t.val < 4) : iblk 0 m ρ c 3 t x
    = m ((c : Thread nD τ).loc main_arg2) (ix3 ⟨tb t.val, h.1⟩ (x 1) ⟨1024 * tk t.val + (x 2).val, by have := (x 2).isLt; simp at this; omega⟩) := by
  blk_ext [iblk, idx t]

/-- The parameters of the map difference: one block, the whole array. -/
theorem blk_l (x : S4x32.Idx) : iblk 0 m ρ c 0 t x = m ((c : Thread nD τ).loc main_arg3) (ix2 (x 0) (x 1)) := by
  blk_ext [iblk, idx t]

/-- The norm's scale over all four heads: one block, the whole array. -/
theorem blk_s (x : S1x256.Idx) : iblk 0 m ρ c 4 t x = m ((c : Thread nD τ).loc main_v3) (ix2 (x 0) (x 1)) := by
  blk_ext [iblk, idx t]

end Cert.KernelIdeal.Att

end
-- ==== Proof.State.lean ====
/- One point of the grid, as an equation between arrays: what the scratch buffers and the output block hold after it. -/
module

public import proofs.«01_k».proof.Proof.Found
public import proofs.«01_k».proof.Proof.OutC
public import proofs.«01_k».proof.Proof.OutA
public import proofs.«01_k».proof.Proof.StepB
public import proofs.«01_k».proof.Proof.Blocks

@[expose] public section

set_option maxRecDepth 16384
set_option maxHeartbeats 400000

noncomputable section

namespace Cert.KernelIdeal.Att

open Idealize.ShloMosaic Idealize.ShloMosaic.TcCoe Cert.KernelIdeal Cert.KernelIdeal.Gen
local notation "𝕀" => Idealize.ShloMosaic.Ideal
/-- How a tile of scores is made from a key tile and a query tile. -/
abbrev ScoreFn : Type := FVec 𝕀 S1x1024x256 .bf16 → FVec 𝕀 S1x256x1024 .bf16 → FVec 𝕀 S1024x1024 .f32

/-- The eight masked copies of a query tile. -/
def nQ (X : S1x256x1024.Idx → EReal) : S8x256x1024.Idx → EReal := fun y => qG X (y 0) (ix3 0 (y 1) (y 2))
/-- The eight new maxima. -/
def nM (S : ScoreFn) (K : S1x1024x256.Idx → EReal) (Q : S8x256x1024.Idx → EReal) (M : S8x1x1024.Idx → EReal) : S8x1x1024.Idx → EReal :=
  fun y => mG S K Q M (y 0) (ix3 0 (y 1) (y 2))
/-- The eight new denominators. -/
def nL (S : ScoreFn) (K : S1x1024x256.Idx → EReal) (Q : S8x256x1024.Idx → EReal) (M L : S8x1x1024.Idx → EReal) : S8x1x1024.Idx → EReal :=
  fun y => lG S K Q M L (y 0) (ix3 0 (y 1) (y 2))
/-- The eight new weighted sums. -/
def nA (S : ScoreFn) (K : S1x1024x256.Idx → EReal) (Q : S8x256x1024.Idx → EReal) (M : S8x1x1024.Idx → EReal) (V : S1x256x1024.Idx → EReal)
    (A : S8x64x1024.Idx → EReal) : S8x64x1024.Idx → EReal := fun y => aG S K Q M V A (y 0) (ix3 0 (y 1) (y 2))
/-- The output block made of the final sums. -/
def nO (x0 : S4x32.Idx → EReal) (L : S8x1x1024.Idx → EReal) (A : S8x64x1024.Idx → EReal) (x4 : S1x256.Idx → EReal) : S1x1024x256.Idx → EReal :=
  outW (lamW x0) (fun h => slotA h A) (fun h => slot1 h L) x4

variable (m : (ℓ : Loc nD τ sig) → Buf (Elt 𝕀) ℓ) (ρ : Dev nD → PrngReg) (c : Dev nD)

/-- What the output block and the scratch buffers hold. -/
abbrev Held (c : Dev nD) : Type := (S1x1024x256.Idx → Elt 𝕀 .f32) × Buf (Elt 𝕀) ((c : Thread nD τ).loc cc0_scratch0)
  × Buf (Elt 𝕀) ((c : Thread nD τ).loc cc0_scratch1) × Buf (Elt 𝕀) ((c : Thread nD τ).loc cc0_scratch2) × Buf (Elt 𝕀) ((c : Thread nD τ).loc cc0_scratch3)

variable {c}
/-- The masked queries held. -/
def rQ (p : Held c) : S8x256x1024.Idx → EReal := scM0_0.view.read (Elt 𝕀) p.2.1
/-- The maxima held. -/
def rM (p : Held c) : S8x1x1024.Idx → EReal := scM0_1.view.read (Elt 𝕀) p.2.2.1
/-- The denominators held. -/
def rL (p : Held c) : S8x1x1024.Idx → EReal := scM0_2.view.read (Elt 𝕀) p.2.2.2.1
/-- The weighted sums held. -/
def rA (p : Held c) : S8x64x1024.Idx → EReal := scM0_3.view.read (Elt 𝕀) p.2.2.2.2
variable (c)

/-- The scratch after a first key tile with scores `S`. -/
def FirstTile (S : ScoreFn) (t : Fin (cfgA 0).N) (p : Held c) : Prop :=
  rQ p = nQ (iblk 0 m ρ c 1 t) ∧ rM p = nM S (iblk 0 m ρ c 2 t) (nQ (iblk 0 m ρ c 1 t)) (k0_pay6 (F := 𝕀))
  ∧ rL p = nL S (iblk 0 m ρ c 2 t) (nQ (iblk 0 m ρ c 1 t)) (k0_pay6 (F := 𝕀)) (k0_pay7 (F := 𝕀))
  ∧ rA p = nA S (iblk 0 m ρ c 2 t) (nQ (iblk 0 m ρ c 1 t)) (k0_pay6 (F := 𝕀)) (iblk 0 m ρ c 3 t) (k0_pay8 (F := 𝕀))

/-- The scratch after a later key tile with scores `S`, from what it held. -/
def LaterTile (S : ScoreFn) (t : Fin (cfgA 0).N) (p p' : Held c) : Prop :=
  rQ p' = rQ p ∧ rM p' = nM S (iblk 0 m ρ c 2 t) (rQ p) (rM p) ∧ rL p' = nL S (iblk 0 m ρ c 2 t) (rQ p) (rM p) (rL p)
  ∧ rA p' = nA S (iblk 0 m ρ c 2 t) (rQ p) (rM p) (iblk 0 m ρ c 3 t) (rA p)

/-- The output block after a point that stores it. -/
def Stored (t : Fin (cfgA 0).N) (p : Held c) : Prop := p.1 = nO (iblk 0 m ρ c 0 t) (rL p) (rA p) (iblk 0 m ρ c 4 t)

/-- A first key tile on the diagonal. -/
theorem step_A (t : Fin (cfgA 0).N) (p : Held c) (q0 : P0_0 0 t) (q1 : ¬P0_1 0 t) :
    FirstTile m ρ c (k0_pay88 (F := 𝕀)) t (step0 0 m ρ c t p) := by
  refine ⟨?_, ?_, ?_, ?_⟩
  · exact (congrArg (scM0_0.view.read (Elt 𝕀)) (found_A0 m ρ c t p q0 q1)).trans (A.q_read _ _ _)
  · exact (congrArg (scM0_1.view.read (Elt 𝕀)) (found_A1 m ρ c t p q0 q1)).trans (A.m_read _ _ _ _ _)
  · exact (congrArg (scM0_2.view.read (Elt 𝕀)) (found_A2 m ρ c t p q0 q1)).trans (A.l_read _ _ _ _ _)
  · exact (congrArg (scM0_3.view.read (Elt 𝕀)) (found_A3 m ρ c t p q0 q1)).trans (A.a_read _ _ _ _ _ _ _)

/-- The output block: first key tile on the diagonal. -/
theorem out_A (t : Fin (cfgA 0).N) (p : Held c) (q0 : P0_0 0 t) (q1 : ¬P0_1 0 t) : Stored m ρ c t (step0 0 m ρ c t p) := by
  have h := step_A m ρ c t p q0 q1
  unfold Stored
  rw [h.2.2.1, h.2.2.2]
  exact (found_AO m ρ c t p q0 q1).trans (A.out_read _ _ _ _ _ _ _ _ _ _ _)

/-- A first key tile before the diagonal. -/
theorem step_B (t : Fin (cfgA 0).N) (p : Held c) (q0 : P0_0 0 t) (q1 : P0_1 0 t) :
    FirstTile m ρ c (k0_pay20 (F := 𝕀)) t (step0 0 m ρ c t p) := by
  refine ⟨?_, ?_, ?_, ?_⟩
  · exact (congrArg (scM0_0.view.read (Elt 𝕀)) (found_B0 m ρ c t p q0 q1)).trans (B.q_read _ _ _)
  · exact (congrArg (scM0_1.view.read (Elt 𝕀)) (found_B1 m ρ c t p q0 q1)).trans (B.m_read _ _ _ _ _)
  · exact (congrArg (scM0_2.view.read (Elt 𝕀)) (found_B2 m ρ c t p q0 q1)).trans (B.l_read _ _ _ _ _)
  · exact (congrArg (scM0_3.view.read (Elt 𝕀)) (found_B3 m ρ c t p q0 q1)).trans (B.a_read _ _ _ _ _ _ _)

/-- A later key tile on the diagonal. -/
theorem step_C (t : Fin (cfgA 0).N) (p : Held c) (q0 : ¬P0_0 0 t) (q1 : ¬P0_1 0 t) :
    LaterTile m ρ c (k0_pay88 (F := 𝕀)) t p (step0 0 m ρ c t p) := by
  refine ⟨?_, ?_, ?_, ?_⟩
  · exact (congrArg (scM0_0.view.read (Elt 𝕀)) (found_C0 m ρ c t p q0 q1))
  · exact (congrArg (scM0_1.view.read (Elt 𝕀)) (found_C1 m ρ c t p q0 q1)).trans (C.m_read _ _ _ _ _ _)
  · exact (congrArg (scM0_2.view.read (Elt 𝕀)) (found_C2 m ρ c t p q0 q1)).trans (C.l_read _ _ _ _ _ _ _)
  · exact (congrArg (scM0_3.view.read (Elt 𝕀)) (found_C3 m ρ c t p q0 q1)).trans (C.a_read _ _ _ _ _ _ _ _ _)

/-- The output block: later key tile on the diagonal. -/
theorem out_C (t : Fin (cfgA 0).N) (p : Held c) (q0 : ¬P0_0 0 t) (q1 : ¬P0_1 0 t) : Stored m ρ c t (step0 0 m ρ c t p) := by
  have h := step_C m ρ c t p q0 q1
  unfold Stored
  rw [h.2.2.1, h.2.2.2]
  exact (found_CO m ρ c t p q0 q1).trans (C.out_read _ _ _ _ _ _ _ _ _ _ _ _ _ _)

/-- A later key tile before the diagonal. -/
theorem step_D (t : Fin (cfgA 0).N) (p : Held c) (q0 : ¬P0_0 0 t) (q1 : P0_1 0 t) :
    LaterTile m ρ c (k0_pay20 (F := 𝕀)) t p (step0 0 m ρ c t p) := by
  refine ⟨?_, ?_, ?_, ?_⟩
  · exact (congrArg (scM0_0.view.read (Elt 𝕀)) (found_D0 m ρ c t p q0 q1))
  · exact (congrArg (scM0_1.view.read (Elt 𝕀)) (found_D1 m ρ c t p q0 q1)).trans (D.m_read _ _ _ _ _ _)
  · exact (congrArg (scM0_2.view.read (Elt 𝕀)) (found_D2 m ρ c t p q0 q1)).trans (D.l_read _ _ _ _ _ _ _)
  · exact (congrArg (scM0_3.view.read (Elt 𝕀)) (found_D3 m ρ c t p q0 q1)).trans (D.a_read _ _ _ _ _ _ _ _ _)

end Cert.KernelIdeal.Att

end
-- ==== Proof.Inv.lean ====
/- The scratch buffers after every point: the running maximum, denominator and weighted sums of every query. -/
module

public import proofs.«01_k».proof.Proof.State
public import proofs.«01_k».proof.Proof.Online

@[expose] public section

set_option maxRecDepth 16384
set_option maxHeartbeats 400000

noncomputable section

namespace Cert.KernelIdeal.Att

open Idealize.ShloMosaic Idealize.ShloMosaic.TcCoe Cert.KernelIdeal Cert.KernelIdeal.Gen Cert.Online
local notation "𝕀" => Idealize.ShloMosaic.Ideal

/-- Key `kk` as an index of the array. -/
def fi (kk : ℕ) : Fin 4096 := ⟨kk % 4096, Nat.mod_lt _ (by omega)⟩
/-- Feature `d` of map `h` among the 256. -/
def feat (h : Fin 8) (d : Fin 32) : Fin 256 := ⟨32 * h.val + d.val, by omega⟩

/-- The scores of one query against the keys, under map `h`: a key after the query is masked. -/
def sc (qt : S8x256x4096.Idx → EReal) (k : S8x4096x256.Idx → EReal) (b : Fin 8) (q : Fin 4096) (h : Fin 8) : ℕ → EReal := fun kk =>
  if kk ≤ q.val then ∑ d : Fin 32, k (ix3 b (fi kk) (feat h d)) * qt (ix3 b (feat h d) q) else ⊥
/-- One feature of the values, key by key. -/
def vl (vt : S8x256x4096.Idx → EReal) (b : Fin 8) (r : Fin 256) : ℕ → ℝ := fun kk => (vt (ix3 b r (fi kk))).toReal

/-- A product over all features with the other maps' features masked is the product over the map's own. -/
theorem dot_mask (a x : Fin 256 → EReal) (h : Fin 8) :
    ∑ f : Fin 256, a f * (if f.val / 32 = h.val then x f else 0) = ∑ d : Fin 32, a (feat h d) * x (feat h d) := by
  have inj : Function.Injective (feat h) := fun d d' e => by
    have := congrArg Fin.val e; simp only [feat] at this; exact Fin.ext (by omega)
  have e : (Finset.univ.filter fun f : Fin 256 => f.val / 32 = h.val) = Finset.univ.map ⟨feat h, inj⟩ := by
    ext f
    simp only [Finset.mem_filter, Finset.mem_univ, true_and, Finset.mem_map, Function.Embedding.coeFn_mk]
    constructor
    · intro hf
      exact ⟨⟨f.val - 32 * h.val, by omega⟩, Fin.ext (by simp only [feat]; omega)⟩
    · rintro ⟨d, rfl⟩
      simp only [feat]; omega
  simp only [mul_ite, mul_zero]
  rw [← Finset.sum_filter, e, Finset.sum_map]
  rfl

/-- One tile of 1024 keys, for one query and one map: the three running quantities go from the first `n` keys to the first `n + 1024`. -/
theorem tile_step (S : ScoreFn) (K : S1x1024x256.Idx → EReal) (Q : S8x256x1024.Idx → EReal) (M L : S8x1x1024.Idx → EReal)
    (V : S1x256x1024.Idx → EReal) (A : S8x64x1024.Idx → EReal) (h : Fin 8) (i : Fin 1024) (Sc : ℕ → EReal) (v : Fin 64 → ℕ → ℝ) (n : ℕ)
    (hS : ∀ j : Fin 1024, S K (slotQ h Q) (ix2 j i) = Sc (n + j.val))
    (hV : ∀ (e : Fin 64) (j : Fin 1024), V (ix3 0 (vrow h e) j) = (v e (n + j.val) : EReal))
    (hM : M (ix3 h 0 i) = top Sc n) (hL : L (ix3 h 0 i) = (den Sc n : EReal)) (hA : ∀ e, A (ix3 h e i) = (num Sc (v e) n : EReal)) :
    nM S K Q M (ix3 h 0 i) = top Sc (n + 1024) ∧ nL S K Q M L (ix3 h 0 i) = (den Sc (n + 1024) : EReal)
      ∧ ∀ e, nA S K Q M V A (ix3 h e i) = (num Sc (v e) (n + 1024) : EReal) := by
  have hM' : slot1 h M (ix3 0 0 i) = top Sc n := hM
  have hL' : slot1 h L (ix3 0 0 i) = (den Sc n : EReal) := hL
  have m1 : mOut (S K (slotQ h Q)) (slot1 h M) (ix3 0 0 i) = top Sc (n + 1024) := by
    rw [mOut_apply, top_add, hM']
    congr 1
    exact Finset.sup_congr rfl fun j _ => hS j
  refine ⟨m1, ?_, fun e => ?_⟩
  · have e1 : nL S K Q M L (ix3 h 0 i) = lOut (S K (slotQ h Q)) (slot1 h M) (slot1 h L) (ix3 0 0 i) := rfl
    rw [e1, lOut_apply, hM', hL', ← den_step Sc n 1024 m1]
    congr 1
    exact Finset.sum_congr rfl fun j _ => by rw [hS j]
  · have e1 : nA S K Q M V A (ix3 h e i) = aOut (S K (slotQ h Q)) (slot1 h M) (slotV h V) (slotA h A) (ix3 0 e i) := rfl
    have hA' : slotA h A (ix3 0 e i) = (num Sc (v e) n : EReal) := hA e
    rw [e1, aOut_apply, hM', hA', ← num_step Sc (v e) n 1024 m1]
    congr 1
    refine Finset.sum_congr rfl fun j _ => ?_
    have hv : slotV h V (ix3 0 e j) = (v e (n + j.val) : EReal) := hV e j
    rw [hS j, hv]

/-- The first maximum is the least extended real. -/
theorem pay6_apply (h : Fin 8) (i : Fin 1024) : k0_pay6 (F := 𝕀) (ix3 h 0 i) = (⊥ : EReal) := by
  unfold k0_pay6; pointwise; exact bot_word
/-- The first denominator is zero. -/
theorem pay7_apply (h : Fin 8) (i : Fin 1024) : k0_pay7 (F := 𝕀) (ix3 h 0 i) = (0 : EReal) := by
  unfold k0_pay7; pointwise
/-- The first weighted sums are zero. -/
theorem pay8_apply (h : Fin 8) (e : Fin 64) (i : Fin 1024) : k0_pay8 (F := 𝕀) (ix3 h e i) = (0 : EReal) := by
  unfold k0_pay8; pointwise

variable (m : (ℓ : Loc nD τ sig) → Buf (Elt 𝕀) ℓ) (ρ : Dev nD → PrngReg) (c : Dev nD)

/-- The queries, the keys and the values as arrays. -/
abbrev aq : S8x256x4096.Idx → EReal := m ((c : Thread nD τ).loc main_arg0)
abbrev ak : S8x4096x256.Idx → EReal := m ((c : Thread nD τ).loc main_arg1)
abbrev av : S8x256x4096.Idx → EReal := m ((c : Thread nD τ).loc main_arg2)

/-- The batch of a point, as an index. -/
def bt (t : Fin (cfgA 0).N) : Fin 8 := ⟨tb t.val, (tiles t).1⟩
/-- Query `i` of a point's query tile. -/
def qx (t : Fin (cfgA 0).N) (i : Fin 1024) : Fin 4096 := ⟨1024 * tq t.val + i.val, by have := (tiles t).2.1; omega⟩

/-- After point `t`, for every map and query of its tile: the running quantities over the keys up to its key tile. -/
def Inv (t : Fin (cfgA 0).N) (p : Held c) : Prop := ∀ (h : Fin 8) (i : Fin 1024),
  (∀ f : Fin 256, rQ p (ix3 h f i) = if f.val / 32 = h.val then aq m c (ix3 (bt t) f (qx t i)) else 0)
  ∧ rM p (ix3 h 0 i) = top (sc (aq m c) (ak m c) (bt t) (qx t i) h) (1024 * tk t.val + 1024)
  ∧ rL p (ix3 h 0 i) = (den (sc (aq m c) (ak m c) (bt t) (qx t i) h) (1024 * tk t.val + 1024) : EReal)
  ∧ ∀ e, rA p (ix3 h e i) = (num (sc (aq m c) (ak m c) (bt t) (qx t i) h) (vl (av m c) (bt t) (vrow h e)) (1024 * tk t.val + 1024) : EReal)

variable {m c}

/-- The key tile of a point. -/
abbrev kb (t : Fin (cfgA 0).N) : S1x1024x256.Idx → EReal := iblk 0 m ρ c 2 t

/-- The products of a key with a masked query. -/
theorem dot_tile (t : Fin (cfgA 0).N) (Q : S8x256x1024.Idx → EReal) (h : Fin 8) (i j : Fin 1024)
    (hQ : ∀ f : Fin 256, Q (ix3 h f i) = if f.val / 32 = h.val then aq m c (ix3 (bt t) f (qx t i)) else 0) :
    ∑ f : Fin 256, kb (m := m) (c := c) ρ t (ix3 0 j f) * slotQ h Q (ix3 0 f i)
      = ∑ d : Fin 32, ak m c (ix3 (bt t) (fi (1024 * tk t.val + j.val)) (feat h d)) * aq m c (ix3 (bt t) (feat h d) (qx t i)) := by
  have ht := tiles t
  rw [← dot_mask (fun f => ak m c (ix3 (bt t) (fi (1024 * tk t.val + j.val)) f)) (fun f => aq m c (ix3 (bt t) f (qx t i))) h]
  refine Finset.sum_congr rfl fun f _ => ?_
  have hq : slotQ h Q (ix3 0 f i) = if f.val / 32 = h.val then aq m c (ix3 (bt t) f (qx t i)) else 0 := hQ f
  rw [hq, show kb (m := m) (c := c) ρ t (ix3 0 j f) = _ from blk_k m ρ c t (ix3 0 j f) ⟨ht.1, by omega⟩]
  congr 2
  have : fi (1024 * tk t.val + j.val) = ⟨1024 * tk t.val + j.val, by omega⟩ := Fin.ext (Nat.mod_eq_of_lt (by omega))
  rw [this]
  rfl

/-- The scores of a tile before the diagonal: no key is masked. -/
theorem score_before (t : Fin (cfgA 0).N) (hb : tk t.val < tq t.val) (Q : S8x256x1024.Idx → EReal) (h : Fin 8) (i j : Fin 1024)
    (hQ : ∀ f : Fin 256, Q (ix3 h f i) = if f.val / 32 = h.val then aq m c (ix3 (bt t) f (qx t i)) else 0) :
    k0_pay20 (F := 𝕀) (iblk 0 m ρ c 2 t) (slotQ h Q) (ix2 j i) = sc (aq m c) (ak m c) (bt t) (qx t i) h (1024 * tk t.val + j.val) := by
  refine (score_apply _ _ j i).trans ((dot_tile ρ t Q h i j hQ).trans ?_)
  unfold sc
  rw [if_pos (by simp only [qx]; omega)]

/-- The scores of a tile on the diagonal: the keys after the query are masked. -/
theorem score_diag (t : Fin (cfgA 0).N) (hb : tk t.val = tq t.val) (Q : S8x256x1024.Idx → EReal) (h : Fin 8) (i j : Fin 1024)
    (hQ : ∀ f : Fin 256, Q (ix3 h f i) = if f.val / 32 = h.val then aq m c (ix3 (bt t) f (qx t i)) else 0) :
    k0_pay88 (F := 𝕀) (iblk 0 m ρ c 2 t) (slotQ h Q) (ix2 j i) = sc (aq m c) (ak m c) (bt t) (qx t i) h (1024 * tk t.val + j.val) := by
  have e := dot_tile ρ t Q h i j hQ
  refine (scoreDiag_apply (kb ρ t) (slotQ h Q) j i).trans ?_
  refine Eq.trans (congrArg (fun z : EReal => if j.val ≤ i.val then z else ⊥) e) ?_
  unfold sc
  by_cases hji : j.val ≤ i.val
  · rw [if_pos hji, if_pos (by simp only [qx]; omega)]
  · rw [if_neg hji, if_neg (by simp only [qx]; omega)]

/-- The values of a tile, key by key. -/
theorem value_tile (hv : ∀ x, av m c x = ((av m c x).toReal : EReal)) (t : Fin (cfgA 0).N) (h : Fin 8) (e : Fin 64) (j : Fin 1024) :
    iblk 0 m ρ c 3 t (ix3 0 (vrow h e) j) = (vl (av m c) (bt t) (vrow h e) (1024 * tk t.val + j.val) : EReal) := by
  have ht := tiles t
  rw [blk_v m ρ c t (ix3 0 (vrow h e) j) ⟨ht.1, by omega⟩]
  unfold vl
  rw [← hv]
  have : fi (1024 * tk t.val + j.val) = ⟨1024 * tk t.val + j.val, by omega⟩ := Fin.ext (Nat.mod_eq_of_lt (by omega))
  rw [this]
  rfl

/-- A first key tile establishes the running quantities. -/
theorem inv_first (hv : ∀ x, av m c x = ((av m c x).toReal : EReal)) (t : Fin (cfgA 0).N) (h0 : tk t.val = 0) (S : ScoreFn) (p : Held c)
    (hp : FirstTile m ρ c S t p)
    (hS : ∀ (Q : S8x256x1024.Idx → EReal) (h : Fin 8) (i j : Fin 1024),
      (∀ f : Fin 256, Q (ix3 h f i) = if f.val / 32 = h.val then aq m c (ix3 (bt t) f (qx t i)) else 0) →
      S (iblk 0 m ρ c 2 t) (slotQ h Q) (ix2 j i) = sc (aq m c) (ak m c) (bt t) (qx t i) h (1024 * tk t.val + j.val)) :
    Inv m c t p := by
  obtain ⟨eQ, eM, eL, eA⟩ := hp
  intro h i
  have ht := tiles t
  have hQ : ∀ f : Fin 256, nQ (iblk 0 m ρ c 1 t) (ix3 h f i) = if f.val / 32 = h.val then aq m c (ix3 (bt t) f (qx t i)) else 0 := fun f => by
    refine (qPay_apply h _ f i).trans ?_
    rw [blk_q m ρ c t (ix3 0 f i) ⟨ht.1, ht.2.1⟩]
    rfl
  obtain ⟨a1, a2, a3⟩ := tile_step S (iblk 0 m ρ c 2 t) (nQ (iblk 0 m ρ c 1 t)) (k0_pay6 (F := 𝕀)) (k0_pay7 (F := 𝕀)) (iblk 0 m ρ c 3 t) (k0_pay8 (F := 𝕀))
    h i (sc (aq m c) (ak m c) (bt t) (qx t i) h) (fun e => vl (av m c) (bt t) (vrow h e)) (1024 * tk t.val) (fun j => hS _ h i j hQ)
    (fun e j => value_tile ρ hv t h e j) (by rw [h0, mul_zero, top_zero]; exact pay6_apply h i)
    (by rw [h0, mul_zero, den_zero]; exact pay7_apply h i) (fun e => by rw [h0, mul_zero, num_zero]; exact pay8_apply h e i)
  exact ⟨fun f => by rw [eQ]; exact hQ f, by rw [eM]; exact a1, by rw [eL]; exact a2, fun e => by rw [eA]; exact a3 e⟩

/-- A later key tile carries the running quantities on. -/
theorem inv_later (hv : ∀ x, av m c x = ((av m c x).toReal : EReal)) (t t' : Fin (cfgA 0).N) (hb : tb t'.val = tb t.val) (hq : tq t'.val = tq t.val)
    (hk : tk t'.val + 1 = tk t.val) (S : ScoreFn) (p p' : Held c) (hp : LaterTile m ρ c S t p p') (hI : Inv m c t' p)
    (hS : ∀ (Q : S8x256x1024.Idx → EReal) (h : Fin 8) (i j : Fin 1024),
      (∀ f : Fin 256, Q (ix3 h f i) = if f.val / 32 = h.val then aq m c (ix3 (bt t) f (qx t i)) else 0) →
      S (iblk 0 m ρ c 2 t) (slotQ h Q) (ix2 j i) = sc (aq m c) (ak m c) (bt t) (qx t i) h (1024 * tk t.val + j.val)) :
    Inv m c t p' := by
  obtain ⟨eQ, eM, eL, eA⟩ := hp
  intro h i
  obtain ⟨hQ, hM, hL, hA⟩ := hI h i
  have e1 : bt t' = bt t := Fin.ext hb
  have e2 : qx t' i = qx t i := Fin.ext (by simp only [qx, hq])
  have e3 : 1024 * tk t'.val + 1024 = 1024 * tk t.val := by omega
  rw [e1, e2, e3] at hM hL
  simp only [e1, e2] at hQ
  simp only [e1, e2, e3] at hA
  obtain ⟨a1, a2, a3⟩ := tile_step S (iblk 0 m ρ c 2 t) (rQ p) (rM p) (rL p) (iblk 0 m ρ c 3 t) (rA p)
    h i (sc (aq m c) (ak m c) (bt t) (qx t i) h) (fun e => vl (av m c) (bt t) (vrow h e)) (1024 * tk t.val) (fun j => hS _ h i j hQ)
    (fun e j => value_tile ρ hv t h e j) hM hL hA
  exact ⟨fun f => by rw [eQ]; exact hQ f, by rw [eM]; exact a1, by rw [eL]; exact a2, fun e => by rw [eA]; exact a3 e⟩

/-- The running quantities after every point. -/
theorem inv_all (hv : ∀ x, av m c x = ((av m c x).toReal : EReal)) (n : ℕ) (hn : n < (cfgA 0).N) :
    Inv m c ⟨n, hn⟩ (traj0 0 m ρ c n hn) := by
  induction n with
  | zero =>
    rw [show traj0 0 m ρ c 0 hn = step0 0 m ρ c ⟨0, hn⟩ (prev0 0 m ρ c ⟨0, hn⟩) from traj0_eq 0 m ρ c ⟨0, hn⟩]
    have q0 : P0_0 0 ⟨0, hn⟩ := (first_iff ⟨0, hn⟩).mpr rfl
    have q1 : ¬P0_1 0 ⟨0, hn⟩ := fun q => absurd ((before_iff ⟨0, hn⟩).mp q) (Nat.lt_irrefl 0)
    exact inv_first ρ hv _ rfl _ _ (step_A m ρ c _ _ q0 q1) fun Q h i j hQ => score_diag ρ _ rfl Q h i j hQ
  | succ n ih =>
    have ih := ih (Nat.lt_of_succ_lt hn)
    rw [show traj0 0 m ρ c (n + 1) hn = step0 0 m ρ c ⟨n + 1, hn⟩ (traj0 0 m ρ c n (Nat.lt_of_succ_lt hn)) from rfl]
    have ht := tiles ⟨n + 1, hn⟩
    by_cases q0 : P0_0 0 ⟨n + 1, hn⟩
    · have h0 := (first_iff ⟨n + 1, hn⟩).mp q0
      by_cases q1 : P0_1 0 ⟨n + 1, hn⟩
      · exact inv_first ρ hv _ h0 _ _ (step_B m ρ c _ _ q0 q1) fun Q h i j hQ => score_before ρ _ ((before_iff _).mp q1) Q h i j hQ
      · have hd : tk (n + 1) = tq (n + 1) := Nat.le_antisymm ht.2.2.1 (Nat.not_lt.mp fun q => q1 ((before_iff _).mpr q))
        exact inv_first ρ hv _ h0 _ _ (step_A m ρ c _ _ q0 q1) fun Q h i j hQ => score_diag ρ _ hd Q h i j hQ
    · have h0 : tk (n + 1) ≠ 0 := fun q => q0 ((first_iff ⟨n + 1, hn⟩).mpr q)
      obtain ⟨-, hb, hq, hk⟩ := ht.2.2.2 h0
      by_cases q1 : P0_1 0 ⟨n + 1, hn⟩
      · exact inv_later ρ hv _ ⟨n, Nat.lt_of_succ_lt hn⟩ hb hq hk _ _ _ (step_D m ρ c _ _ q0 q1) ih
          fun Q h i j hQ => score_before ρ _ ((before_iff _).mp q1) Q h i j hQ
      · have hd : tk (n + 1) = tq (n + 1) := Nat.le_antisymm ht.2.2.1 (Nat.not_lt.mp fun q => q1 ((before_iff _).mpr q))
        exact inv_later ρ hv _ ⟨n, Nat.lt_of_succ_lt hn⟩ hb hq hk _ _ _ (step_C m ρ c _ _ q0 q1) ih
          fun Q h i j hQ => score_diag ρ _ hd Q h i j hQ

end Cert.KernelIdeal.Att

end
-- ==== Proof.Final.lean ====
/- The output array after the run: at every query and feature, the norm of the difference of the two quotients. -/
module

public import proofs.«01_k».proof.Proof.Inv

@[expose] public section

set_option maxRecDepth 16384
set_option maxHeartbeats 400000

noncomputable section

namespace Cert.KernelIdeal.Att

open Idealize.ShloMosaic Idealize.ShloMosaic.TcCoe Cert.KernelIdeal Cert.KernelIdeal.Gen Cert.Online
local notation "𝕀" => Idealize.ShloMosaic.Ideal

variable (m : (ℓ : Loc nD τ sig) → Buf (Elt 𝕀) ℓ) (ρ : Dev nD → PrngReg) (c : Dev nD)

/-- The parameters of the map difference and the norm's scale over the heads, as arrays. -/
abbrev al : S4x32.Idx → EReal := m ((c : Thread nD τ).loc main_arg3)
abbrev asc : S1x256.Idx → EReal := m ((c : Thread nD τ).loc main_v3)

/-- The first (`o = 0`) or second (`o = 1`) map of the head of feature `r`. -/
def mapOf (r : Fin 256) (o : Fin 2) : Fin 8 := ⟨2 * (r.val / 64) + o.val, by omega⟩

/-- The result at batch `b`, query `q`, feature `r`, from the kernel's side. -/
def resAt (qt : S8x256x4096.Idx → EReal) (k : S8x4096x256.Idx → EReal) (vt : S8x256x4096.Idx → EReal) (lam : ℝ) (s : Fin 256 → EReal)
    (b : Fin 8) (q : Fin 4096) (r : Fin 256) : EReal :=
  normed widthC epsC (fun e : Fin 64 => outK (sc qt k b q (mapOf r 0)) (sc qt k b q (mapOf r 1)) lam 4096 (vl vt b ⟨64 * (r.val / 64) + e.val, by omega⟩))
    ⟨r.val % 64, Nat.mod_lt _ (by omega)⟩ * s r * restC

/-- The lambda of the call. -/
def lamAt (x : S4x32.Idx → EReal) : EReal := lamW x (ix2 0 0)

variable {m c}

/-- Keys past a query's tile add nothing to its quotients. -/
theorem outK_tile (qt : S8x256x4096.Idx → EReal) (k : S8x4096x256.Idx → EReal) (b : Fin 8) (q : Fin 4096) (h₀ h₁ : Fin 8) (lam : ℝ) (v : ℕ → ℝ)
    {n : ℕ} (hn : n ≤ 4096) (hq : q.val < n) :
    outK (sc qt k b q h₀) (sc qt k b q h₁) lam n v = outK (sc qt k b q h₀) (sc qt k b q h₁) lam 4096 v := by
  have hb : ∀ h kk, n ≤ kk → sc qt k b q h kk = ⊥ := fun h kk hk => by unfold sc; rw [if_neg (by omega)]
  unfold outK
  rw [num_masked _ v hn (hb h₀), num_masked _ v hn (hb h₁), den_masked _ hn (hb h₀), den_masked _ hn (hb h₁)]

/-- The block written at a diagonal point. -/
theorem out_block (hv : ∀ x, av m c x = ((av m c x).toReal : EReal)) (hl : lamAt (al m c) = ((lamAt (al m c)).toReal : EReal))
    (t : Fin (cfgA 0).N) (hd : tk t.val = tq t.val) (i : Fin 1024) (r : Fin 256) :
    (traj0 0 m ρ c t.val t.isLt).1 (ix3 0 i r)
      = resAt (aq m c) (ak m c) (av m c) (lamAt (al m c)).toReal (fun r => asc m c (ix2 0 r)) (bt t) (qx t i) r := by
  have q1 : ¬P0_1 0 t := fun q => by have := (before_iff t).mp q; omega
  have hs : Stored m ρ c t (traj0 0 m ρ c t.val t.isLt) := by
    rw [traj0_eq]
    by_cases q0 : P0_0 0 t
    · exact out_A m ρ c t _ q0 q1
    · exact out_C m ρ c t _ q0 q1
  have ht := tiles t
  have hI := inv_all ρ hv t.val t.isLt
  obtain ⟨h, e, rfl⟩ : ∃ (h : Fin 4) (e : Fin 64), r = ⟨64 * h.val + e.val, by omega⟩ :=
    ⟨⟨r.val / 64, by omega⟩, ⟨r.val % 64, by omega⟩, Fin.ext (by simp only; omega)⟩
  have h0 : (iblk 0 m ρ c 0 t : S4x32.Idx → EReal) = al m c := funext fun x => by
    refine (blk_l m ρ c t x).trans (congrArg (al m c) ?_)
    funext z; fin_cases z <;> rfl
  have h4 : ∀ r, (iblk 0 m ρ c 4 t : S1x256.Idx → EReal) (ix2 0 r) = asc m c (ix2 0 r) := fun r => blk_s m ρ c t (ix2 0 r)
  rw [hs]
  refine (outW_apply _ _ _ _ i h e).trans ?_
  rw [h4, h0]
  unfold resAt
  have hh : (64 * h.val + e.val) / 64 = h.val := by omega
  have hm : (⟨(64 * h.val + e.val) % 64, Nat.mod_lt _ (by omega)⟩ : Fin 64) = e := Fin.ext (by simp only; omega)
  have hm0 : mapOf ⟨64 * h.val + e.val, by omega⟩ 0 = ⟨2 * h.val, by omega⟩ := Fin.ext (by simp [mapOf, hh])
  have hm1 : mapOf ⟨64 * h.val + e.val, by omega⟩ 1 = ⟨2 * h.val + 1, by omega⟩ := Fin.ext (by simp [mapOf, hh])
  rw [hm0, hm1, hm]
  congr 3
  funext e'
  rw [← outK_tile _ _ _ _ _ _ _ _ (n := 1024 * tk t.val + 1024) (by omega) (by simp only [qx]; omega)]
  unfold headO outK
  obtain ⟨-, -, l0, a0⟩ := hI ⟨2 * h.val, by omega⟩ i
  obtain ⟨-, -, l1, a1⟩ := hI ⟨2 * h.val + 1, by omega⟩ i
  have hr0 : vrow ⟨2 * h.val, by omega⟩ e' = ⟨64 * ((64 * h.val + e.val) / 64) + e'.val, by omega⟩ := Fin.ext (by simp only [vrow]; omega)
  have hr1 : vrow ⟨2 * h.val + 1, by omega⟩ e' = ⟨64 * ((64 * h.val + e.val) / 64) + e'.val, by omega⟩ := Fin.ext (by simp only [vrow]; omega)
  have a0 := a0 e'
  have a1 := a1 e'
  rw [hr0] at a0
  rw [hr1] at a1
  rw [← hl]
  exact congrArg₂ (· - ·) (congrArg₂ _ a0 l0) (congrArg (lamAt (al m c) * ·) (congrArg₂ _ a1 l1))

/-- The output array after the run. -/
theorem final (hv : ∀ x, av m c x = ((av m c x).toReal : EReal)) (hl : lamAt (al m c) = ((lamAt (al m c)).toReal : EReal)) :
    (dats 0 m ρ 0 c).arrAt 5 (cfgA 0).N = fun y : S8x4096x256.Idx =>
      resAt (aq m c) (ak m c) (av m c) (lamAt (al m c)).toReal (fun r => asc m c (ix2 0 r)) (y 0) (y 1) (y 2) := by
  refine (dats 0 m ρ 0 c).arrAt_eq_of_covers 5 _ (by decide +kernel) fun t hf y => ?_
  blk_simp
  rw [after0_5]
  have hy0 : (y 0).val = 0 := Nat.lt_one_iff.mp (y 0).isLt
  have e0 : (((cfgA 0).win 5).blk t).view.emb y 0 = bt t := Fin.ext (by blk_simp [idx t, bt])
  have e1 : (((cfgA 0).win 5).blk t).view.emb y 1 = qx t (y 1) := Fin.ext (by blk_simp [idx t, qx]; exact congrArg (· + (y 1).val) (Nat.mul_comm _ _))
  have e2 : (((cfgA 0).win 5).blk t).view.emb y 2 = y 2 := Fin.ext (by blk_simp [idx t])
  rw [e0, e1, e2]
  have ey : y = ix3 0 (y 1) (y 2) := by
    funext z; fin_cases z
    · exact Fin.ext hy0
    · rfl
    · rfl
  exact (congrArg (traj0 0 m ρ c t.val t.isLt).1 ey).trans (out_block ρ hv hl t ((flush_iff t).mp hf) (y 1) (y 2))

end Cert.KernelIdeal.Att

end
-- ==== Proof.RefSum.lean ====
/- The reference's two reductions over the keys, read at an index. -/
module

public import proofs.«01_k».proof.Proof.Gen.ReferenceIdeal.Run
public import proofs.«01_k».proof.Proof.Inv

@[expose] public section

set_option maxRecDepth 16384
set_option maxHeartbeats 400000

noncomputable section

namespace Cert.ReferenceIdeal.Att

open Idealize.ShloMosaic Idealize.ShloMosaic.TcCoe Cert.ReferenceIdeal Cert.ReferenceIdeal.Gen
local notation "𝕀" => Idealize.ShloMosaic.Ideal

/-- The largest along the last axis. -/
theorem max_last (x : FVec 𝕀 S8x4x2x4096x4096 .f32) (b : Fin 8) (h : Fin 4) (o : Fin 2) (i : Fin 4096) :
    Host.reduce FloatOps.maximumf x (constant S_ .f32 0xFF800000#32) reducesTo_S8x4x2x4096x4096_S8x4x2x4096_d4 h_S_ (ix4 b h o i)
      = Finset.univ.sup fun j : Fin 4096 => x (ix5 b h o i j) := by
  have hr : S8x4x2x4096x4096.Reduces [4] S8x4x2x4096 := by decide
  refine (Host.reduce_eq_fold_single FloatOps.maximumf x (constant S_ .f32 0xFF800000#32) reducesTo_S8x4x2x4096x4096_S8x4x2x4096_d4 hr h_S_ (ix4 b h o i)).trans ?_
  have hf : (x ∘ hr.lift (ix4 b h o i)) = fun j : Fin 4096 => x (ix5 b h o i j) := funext fun j => congrArg x (by funext z; apply Fin.ext; fin_cases z <;> rfl)
  refine (congrArg (fun f => Finset.fold max (Ideal.ofBits .f32 0xFF800000#32) f (Finset.univ : Finset (Fin 4096))) hf).trans ?_
  rw [Cert.KernelIdeal.Att.bot_word]
  rfl

/-- The sum along the last axis. -/
theorem sum_last (x : FVec 𝕀 S8x4x2x4096x4096 .f32) (b : Fin 8) (h : Fin 4) (o : Fin 2) (i : Fin 4096) :
    Host.reduceAdd x (constant S_ .f32 0x00000000#32) reducesTo_S8x4x2x4096x4096_S8x4x2x4096_d4 h_S_ (ix4 b h o i)
      = ∑ j : Fin 4096, x (ix5 b h o i j) := by
  pointwise

end Cert.ReferenceIdeal.Att

end
-- ==== Proof.RefSc.lean ====
/- The reference, read at an index: the masked scores. -/
module

public import proofs.«01_k».proof.Proof.Gen.ReferenceIdeal.Run
public import proofs.«01_k».proof.Proof.RefSum

@[expose] public section

set_option maxRecDepth 16384
set_option maxHeartbeats 400000

noncomputable section

namespace Cert.ReferenceIdeal.Att

open Cert.Online Idealize.ShloMosaic Idealize.ShloMosaic.TcCoe Cert.ReferenceIdeal Cert.ReferenceIdeal.Gen
local notation "𝕀" => Idealize.ShloMosaic.Ideal

variable (q : FVec 𝕀 S8x256x4096 .bf16) (k : FVec 𝕀 S8x4096x256 .bf16) (v : FVec 𝕀 S8x256x4096 .bf16) (lp : FVec 𝕀 S4x32 .f32) (sub : FVec 𝕀 S64 .f32)

/-- The keys that are not after the query. -/
def maskR : IVec S8x4x2x4096x4096 1 :=
  broadcastInDim S8x4x2x4096x4096 ![3, 4] bcast_S4096x4096_S8x4x2x4096x4096_3_4 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))

theorem sel_one (x y : EReal) : Scalar.select 1#1 x y = x := rfl
theorem sel_zero (x y : EReal) : Scalar.select 0#1 x y = y := rfl

/-- The masked scores. -/
def scR : FVec 𝕀 S8x4x2x4096x4096 .f32 :=
  select maskR (Host.dotGeneral dot_S8x4096x4x2x32_S8x4096x4x2x32_S8x4x2x4096x4096_4_4_1_1_023_023 none (shapeCast _ (transpose S8x4096x256 [0, 2, 1] (extf .f32 q bitsLt_bf16_f32) transposes_S8x256x4096_S8x4096x256_0_2_1) shapeCasts_S8x4096x256_S8x4096x4x2x32) (shapeCast _ (extf .f32 k bitsLt_bf16_f32) shapeCasts_S8x4096x256_S8x4096x4x2x32)) (broadcastInDim S8x4x2x4096x4096 ![] bcast_S_S8x4x2x4096x4096 (id (constant S_ .f32 0xFF800000#32)))

/-- The largest score of every query. -/
def mxR : FVec 𝕀 S8x4x2x4096 .f32 :=
  maximumf (broadcastInDim S8x4x2x4096 ![] bcast_S_S8x4x2x4096 (constant S_ .f32 0xFF800000#32)) (Host.reduce FloatOps.maximumf (scR q k) (constant S_ .f32 0xFF800000#32) reducesTo_S8x4x2x4096x4096_S8x4x2x4096_d4 h_S_)

/-- A key is kept where it is not after the query. -/
theorem mask_apply (b : Fin 8) (h : Fin 4) (o : Fin 2) (i j : Fin 4096) : maskR (ix5 b h o i j) = if j.val ≤ i.val then 1#1 else 0#1 := by
  unfold maskR
  pointwise
  rw [WordCmp.cmpi_sle_ofNat (by omega) (by omega)]
  by_cases hji : j.val ≤ i.val
  · simp [hji]
  · simp [hji]

/-- The map of head `h` and half `o`. -/
def mp (h : Fin 4) (o : Fin 2) : Fin 8 := ⟨2 * h.val + o.val, by omega⟩

/-- The reference's scores are the ones the kernel's sums are over. -/
theorem sc_apply (b : Fin 8) (h : Fin 4) (o : Fin 2) (i j : Fin 4096) : scR q k (ix5 b h o i j) = Cert.KernelIdeal.Att.sc q k b i (mp h o) j.val := by
  unfold scR
  pointwise [mask_apply]
  have hb : (id (constant S_ .f32 0xFF800000#32) : FVec 𝕀 S_ .f32) ix0 = (⊥ : EReal) := Cert.KernelIdeal.Att.bot_word
  rw [hb]
  have ej : Cert.KernelIdeal.Att.fi j.val = j := Fin.ext (Nat.mod_eq_of_lt j.isLt)
  unfold Cert.KernelIdeal.Att.sc
  rw [ej]
  by_cases hji : j.val ≤ i.val
  · rw [if_pos hji, if_pos hji]
    refine (sel_one _ _).trans ?_
    refine Finset.sum_congr rfl fun d _ => ?_
    have e : (⟨h.val * 64 + o.val * 32 + d.val, by omega⟩ : Fin 256) = Cert.KernelIdeal.Att.feat (mp h o) d := Fin.ext (by simp only [Cert.KernelIdeal.Att.feat, mp]; omega)
    rw [e]
    exact mul_comm _ _
  · rw [if_neg hji, if_neg hji]
    exact sel_zero _ _

end Cert.ReferenceIdeal.Att

end
-- ==== Proof.RefMx.lean ====
/- The reference, read at an index: the two softmaxes. -/
module

public import proofs.«01_k».proof.Proof.Gen.ReferenceIdeal.Run
public import proofs.«01_k».proof.Proof.RefSc

@[expose] public section

set_option maxRecDepth 16384
set_option maxHeartbeats 400000

noncomputable section

namespace Cert.ReferenceIdeal.Att

open Cert.Online Idealize.ShloMosaic Idealize.ShloMosaic.TcCoe Cert.ReferenceIdeal Cert.ReferenceIdeal.Gen
local notation "𝕀" => Idealize.ShloMosaic.Ideal

variable (q : FVec 𝕀 S8x256x4096 .bf16) (k : FVec 𝕀 S8x4096x256 .bf16) (v : FVec 𝕀 S8x256x4096 .bf16) (lp : FVec 𝕀 S4x32 .f32) (sub : FVec 𝕀 S64 .f32)

/-- A maximum with the smallest word. -/
theorem max_bot (x : FVec 𝕀 S8x4x2x4096 .f32) (y : S8x4x2x4096.Idx) :
    maximumf (broadcastInDim S8x4x2x4096 ![] bcast_S_S8x4x2x4096 (constant S_ .f32 0xFF800000#32)) x y = x y := by
  have e : maximumf (broadcastInDim S8x4x2x4096 ![] bcast_S_S8x4x2x4096 (constant S_ .f32 0xFF800000#32)) x y = max (Ideal.ofBits .f32 0xFF800000#32) (x y) := rfl
  rw [e, Cert.KernelIdeal.Att.bot_word]
  exact bot_sup_eq _

/-- The largest score of a query. -/
theorem mx_apply (b : Fin 8) (h : Fin 4) (o : Fin 2) (i : Fin 4096) : mxR q k (ix4 b h o i) = top (Cert.KernelIdeal.Att.sc q k b i (mp h o)) 4096 := by
  unfold mxR
  rw [max_bot, max_last, top_fin]
  exact Finset.sup_congr rfl fun j _ => sc_apply q k b h o i j

end Cert.ReferenceIdeal.Att

end
-- ==== Proof.RefWt.lean ====
/- The reference, read at an index: the softmaxes and their difference. -/
module

public import proofs.«01_k».proof.Proof.Gen.ReferenceIdeal.Run
public import proofs.«01_k».proof.Proof.RefMx

@[expose] public section

set_option maxRecDepth 16384
set_option maxHeartbeats 400000

noncomputable section

namespace Cert.ReferenceIdeal.Att

open Cert.Online Idealize.ShloMosaic Idealize.ShloMosaic.TcCoe Cert.ReferenceIdeal Cert.ReferenceIdeal.Gen
local notation "𝕀" => Idealize.ShloMosaic.Ideal

variable (q : FVec 𝕀 S8x256x4096 .bf16) (k : FVec 𝕀 S8x4096x256 .bf16) (lam : FVec 𝕀 S_ .f32)

/-- A value of every query spread over the keys. -/
def spread (y : FVec 𝕀 S8x4x2x4096 .f32) : FVec 𝕀 S8x4x2x4096x4096 .f32 :=
  broadcastInDim S8x4x2x4096x4096 ![0, 1, 2, 3, 4] bcast_S8x4x2x4096x1_S8x4x2x4096x4096_0_1_2_3_4 (broadcastInDim S8x4x2x4096x1 ![0, 1, 2, 3] bcast_S8x4x2x4096_S8x4x2x4096x1_0_1_2_3 y)

/-- The exponentials of the scores taken from the largest. -/
def exR : FVec 𝕀 S8x4x2x4096x4096 .f32 := Host.exp (subf (scR q k) (spread (mxR q k)))
/-- The softmaxes. -/
def prR : FVec 𝕀 S8x4x2x4096x4096 .f32 :=
  Host.divf (exR q k) (spread (Host.reduceAdd (exR q k) (constant S_ .f32 0x00000000#32) reducesTo_S8x4x2x4096x4096_S8x4x2x4096_d4 h_S_))
/-- The first half's entry less `lam` times the second's. -/
def lessR (p : FVec 𝕀 S8x4x2x4096x4096 .f32) : FVec 𝕀 S8x4x4096x4096 .f32 :=
  subf (shapeCast _ (extractStridedSlice S8x4x1x4096x4096 ![0, 0, 0, 0, 0] p slices_S8x4x2x4096x4096_S8x4x1x4096x4096_0_0_0_0_0) shapeCasts_S8x4x1x4096x4096_S8x4x4096x4096) (mulf (broadcastInDim S8x4x4096x4096 ![] bcast_S_S8x4x4096x4096 lam) (shapeCast _ (extractStridedSlice S8x4x1x4096x4096 ![0, 0, 1, 0, 0] p slices_S8x4x2x4096x4096_S8x4x1x4096x4096_0_0_1_0_0) shapeCasts_S8x4x1x4096x4096_S8x4x4096x4096))

theorem spread_apply (y : FVec 𝕀 S8x4x2x4096 .f32) (b : Fin 8) (h : Fin 4) (o : Fin 2) (i j : Fin 4096) : spread y (ix5 b h o i j) = y (ix4 b h o i) := by
  unfold spread
  pointwise

theorem expsub_apply (x y : FVec 𝕀 S8x4x2x4096x4096 .f32) (z : S8x4x2x4096x4096.Idx) : Host.exp (subf x y) z = Ideal.exp (x z - y z) := rfl
theorem div_apply (x y : FVec 𝕀 S8x4x2x4096x4096 .f32) (z : S8x4x2x4096x4096.Idx) : Host.divf x y z = Ideal.div (x z) (y z) := rfl

/-- The difference at an index. -/
theorem less_apply (p : FVec 𝕀 S8x4x2x4096x4096 .f32) (b : Fin 8) (h : Fin 4) (i j : Fin 4096) :
    lessR lam p (ix4 b h i j) = p (ix5 b h 0 i j) - lam ix0 * p (ix5 b h 1 i j) := by
  unfold lessR
  pointwise

/-- The exponentials at an index. -/
theorem ex_apply (b : Fin 8) (h : Fin 4) (o : Fin 2) (i j : Fin 4096) : exR q k (ix5 b h o i j)
    = Ideal.exp (Cert.KernelIdeal.Att.sc q k b i (mp h o) j.val - top (Cert.KernelIdeal.Att.sc q k b i (mp h o)) 4096) := by
  unfold exR
  rw [expsub_apply, spread_apply, sc_apply, mx_apply]

/-- The softmaxes at an index. -/
theorem pr_apply (b : Fin 8) (h : Fin 4) (o : Fin 2) (i j : Fin 4096) : prR q k (ix5 b h o i j)
    = Ideal.div (Ideal.exp (Cert.KernelIdeal.Att.sc q k b i (mp h o) j.val - top (Cert.KernelIdeal.Att.sc q k b i (mp h o)) 4096))
      (den (Cert.KernelIdeal.Att.sc q k b i (mp h o)) 4096 : EReal) := by
  unfold prR
  rw [div_apply, spread_apply, sum_last, ex_apply, den_fin]
  exact congrArg (Ideal.div _) (Finset.sum_congr rfl fun j _ => ex_apply q k b h o i j)

/-- The reference's weights are the differences of the two softmaxes. -/
theorem wt_apply (l : ℝ) (hl : lam ix0 = (l : EReal)) (b : Fin 8) (h : Fin 4) (i j : Fin 4096) : lessR lam (prR q k) (ix4 b h i j)
    = wR (Cert.KernelIdeal.Att.sc q k b i (mp h 0)) (Cert.KernelIdeal.Att.sc q k b i (mp h 1)) l 4096 j.val := by
  rw [less_apply, pr_apply, pr_apply, hl]
  rfl

end Cert.ReferenceIdeal.Att

end
-- ==== Proof.RefNm.lean ====
/- The reference, read at an index: the weighted values and their norm. -/
module

public import proofs.«01_k».proof.Proof.Gen.ReferenceIdeal.Run
public import proofs.«01_k».proof.Proof.RefSc
public import proofs.«01_k».proof.Proof.Out

@[expose] public section

set_option maxRecDepth 16384
set_option maxHeartbeats 400000

noncomputable section

namespace Cert.ReferenceIdeal.Att

open Cert.Online Idealize.ShloMosaic Idealize.ShloMosaic.TcCoe Cert.ReferenceIdeal Cert.ReferenceIdeal.Gen
local notation "𝕀" => Idealize.ShloMosaic.Ideal

variable (v : FVec 𝕀 S8x256x4096 .bf16) (w : FVec 𝕀 S8x4x4096x4096 .f32) (x : FVec 𝕀 S8x4096x4x64 .f32) (sub : FVec 𝕀 S64 .f32) (lp : FVec 𝕀 S4x32 .f32)

/-- The weighted values. -/
def ovR : FVec 𝕀 S8x4096x4x64 .f32 :=
  transpose S8x4096x4x64 [0, 3, 1, 2] (Host.dotGeneral dot_S8x4096x4x64_S8x4x4096x4096_S8x4x64x4096_1_3_3_2_02_01 none (shapeCast _ (transpose S8x4096x256 [0, 2, 1] (extf .f32 v bitsLt_bf16_f32) transposes_S8x256x4096_S8x4096x256_0_2_1) shapeCasts_S8x4096x256_S8x4096x4x64) w) transposes_S8x4x64x4096_S8x4096x4x64_0_3_1_2

/-- The norm, the scale and the last factor. -/
def nmR : FVec 𝕀 S8x4096x256 .f32 :=
  shapeCast _ (mulf (mulf (mulf x (broadcastInDim S8x4096x4x64 ![0, 1, 2, 3] bcast_S8x4096x4x1_S8x4096x4x64_0_1_2_3 (Host.rsqrt (addf (Host.divf (broadcastInDim S8x4096x4x1 ![0, 1, 2] bcast_S8x4096x4_S8x4096x4x1_0_1_2 (Host.reduceAdd (mulf x x) (constant S_ .f32 0x00000000#32) reducesTo_S8x4096x4x64_S8x4096x4_d3 h_S_)) (broadcastInDim S8x4096x4x1 ![] bcast_S_S8x4096x4x1 (constant S_ .f32 0x42800000#32))) (broadcastInDim S8x4096x4x1 ![] bcast_S_S8x4096x4x1 (constant S_ .f32 0x358637BD#32)))))) (broadcastInDim S8x4096x4x64 ![0, 1, 2, 3] bcast_S1x1x1x64_S8x4096x4x64_0_1_2_3 (broadcastInDim S1x1x1x64 ![3] bcast_S64_S1x1x1x64_3 sub))) (broadcastInDim S8x4096x4x64 ![] bcast_S_S8x4096x4x64 (constant S_ .f32 0x3F4CCCCD#32))) shapeCasts_S8x4096x4x64_S8x4096x256

/-- The factor between the two softmaxes. -/
def lamR : FVec 𝕀 S_ .f32 :=
  addf (subf (Host.exp (Host.reduceAdd (mulf (shapeCast _ (extractStridedSlice S1x32 ![0, 0] lp slices_S4x32_S1x32_0_0) shapeCasts_S1x32_S32) (shapeCast _ (extractStridedSlice S1x32 ![1, 0] lp slices_S4x32_S1x32_1_0) shapeCasts_S1x32_S32)) (constant S_ .f32 0x00000000#32) reducesTo_S32_S_d0 h_S_)) (Host.exp (Host.reduceAdd (mulf (shapeCast _ (extractStridedSlice S1x32 ![2, 0] lp slices_S4x32_S1x32_2_0) shapeCasts_S1x32_S32) (shapeCast _ (extractStridedSlice S1x32 ![3, 0] lp slices_S4x32_S1x32_3_0) shapeCasts_S1x32_S32)) (constant S_ .f32 0x00000000#32) reducesTo_S32_S_d0 h_S_))) (constant S_ .f32 0x3E4CCCCD#32)

/-- The weighted values at an index. -/
theorem ov_apply (b : Fin 8) (i : Fin 4096) (h : Fin 4) (e : Fin 64) :
    ovR v w (ix4 b i h e) = Finset.univ.sum fun j : Fin 4096 => (v (ix3 b ⟨h.val * 64 + e.val, by omega⟩ j) * w (ix4 b h i j) : EReal) := by
  unfold ovR
  pointwise

/-- The norm at an index. -/
theorem nm_apply (b : Fin 8) (i : Fin 4096) (r : Fin 256) :
    nmR x sub (ix3 b i r) = normed Cert.KernelIdeal.Att.widthC Cert.KernelIdeal.Att.epsC (fun e : Fin 64 => x (ix4 b i ⟨r.val / 64, by omega⟩ e)) ⟨r.val % 64, by omega⟩
      * sub (ix1 ⟨r.val % 64, by omega⟩) * Cert.KernelIdeal.Att.restC := by
  unfold nmR
  pointwise
  rfl

/-- The factor is the kernel's. -/
theorem lam_eq : lamR lp ix0 = Cert.KernelIdeal.Att.lamW lp (ix2 0 0) := by
  unfold lamR
  pointwise
  unfold Cert.KernelIdeal.Att.lamW
  rw [Cert.KernelIdeal.Att.lam_apply]
  rfl

end Cert.ReferenceIdeal.Att

end
-- ==== Proof.RefRes.lean ====
/- The reference, read at an index: the whole result. -/
module

public import proofs.«01_k».proof.Proof.Gen.ReferenceIdeal.Run
public import proofs.«01_k».proof.Proof.RefWt
public import proofs.«01_k».proof.Proof.RefNm

@[expose] public section

set_option maxRecDepth 16384
set_option maxHeartbeats 400000

noncomputable section

namespace Cert.ReferenceIdeal.Att

open Cert.Online Idealize.ShloMosaic Idealize.ShloMosaic.TcCoe Cert.ReferenceIdeal Cert.ReferenceIdeal.Gen
local notation "𝕀" => Idealize.ShloMosaic.Ideal

variable (q : FVec 𝕀 S8x256x4096 .bf16) (k : FVec 𝕀 S8x4096x256 .bf16) (v : FVec 𝕀 S8x256x4096 .bf16) (lp : FVec 𝕀 S4x32 .f32) (sub : FVec 𝕀 S64 .f32)

/-- The reference's result, from its arguments. -/
def resR : FVec 𝕀 S8x4096x256 .f32 := nmR (ovR v (lessR (lamR lp) (prR q k))) sub

/-- The reference's result at an index, where the values and the factor between the softmaxes are real numbers. -/
theorem res_apply (hv : ∀ x, v x = ((v x).toReal : EReal)) (l : ℝ) (hl : Cert.KernelIdeal.Att.lamW lp (ix2 0 0) = (l : EReal))
    (b : Fin 8) (i : Fin 4096) (r : Fin 256) : resR q k v lp sub (ix3 b i r)
      = normed Cert.KernelIdeal.Att.widthC Cert.KernelIdeal.Att.epsC (fun e : Fin 64 =>
          outR (Cert.KernelIdeal.Att.sc q k b i (mp ⟨r.val / 64, by omega⟩ 0)) (Cert.KernelIdeal.Att.sc q k b i (mp ⟨r.val / 64, by omega⟩ 1)) l 4096
            (Cert.KernelIdeal.Att.vl v b ⟨64 * (r.val / 64) + e.val, by omega⟩)) ⟨r.val % 64, by omega⟩
        * sub (ix1 ⟨r.val % 64, by omega⟩) * Cert.KernelIdeal.Att.restC := by
  unfold resR
  rw [nm_apply]
  congr 3
  funext e
  rw [ov_apply]
  unfold outR
  refine Finset.sum_congr rfl fun j _ => ?_
  rw [wt_apply q k (lamR lp) l ((lam_eq lp).trans hl)]
  have ej : Cert.KernelIdeal.Att.fi j.val = j := Fin.ext (Nat.mod_eq_of_lt j.isLt)
  have er : (⟨r.val / 64 * 64 + e.val, by omega⟩ : Fin 256) = ⟨64 * (r.val / 64) + e.val, by omega⟩ := Fin.ext (by simp only; omega)
  unfold Cert.KernelIdeal.Att.vl
  rw [ej, ← hv, er]

/-- The term the program's run ends with. -/
theorem res_eq (m : (ℓ : Loc nD τ sig) → Buf (Elt 𝕀) ℓ) (c : Dev nD) : Cert.ReferenceIdeal.Value.res_main_v68 m c
    = resR (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := by
  unfold Cert.ReferenceIdeal.Value.res_main_v68 resR nmR ovR lessR lamR prR exR spread mxR scR maskR
  rfl

end Cert.ReferenceIdeal.Att

end
-- ==== Proof.Bridge.lean ====
/- The kernel's result and the reference's, of the same arguments. -/
module

public import proofs.«01_k».proof.Proof.Final
public import proofs.«01_k».proof.Proof.RefRes

@[expose] public section

set_option maxRecDepth 16384
set_option maxHeartbeats 400000

noncomputable section

namespace Cert.KernelIdeal.Att

open Idealize.ShloMosaic Idealize.ShloMosaic.TcCoe Cert.KernelIdeal Cert.KernelIdeal.Gen Cert.Online
local notation "𝕀" => Idealize.ShloMosaic.Ideal

theorem width_real : widthC = ((64 : ℝ) : EReal) := by
  simp [widthC, Idealize.ShloMosaic.Ideal.ofBits, Idealize.ShloMosaic.Ideal.ieee]
  rw [← EReal.coe_mul]
  norm_num

theorem eps_real : ∃ x : ℝ, epsC = (x : EReal) := by
  simp [epsC, Idealize.ShloMosaic.Ideal.ofBits, Idealize.ShloMosaic.Ideal.ieee]
  exact ⟨_, (EReal.coe_mul _ _).symm⟩

theorem init_real : ∃ x : ℝ, initC = (x : EReal) := by
  simp [initC, Idealize.ShloMosaic.Ideal.ofBits, Idealize.ShloMosaic.Ideal.ieee]
  exact ⟨_, (EReal.coe_mul _ _).symm⟩

/-- Where its weights are real, so is lambda. -/
theorem lam_real (x : S4x32.Idx → EReal) (hx : ∀ y, x y = ((x y).toReal : EReal)) : lamAt x = ((lamAt x).toReal : EReal) := by
  have hp : ∀ a b : Fin 4, (∑ d : Fin 32, x (ix2 a d) * x (ix2 b d)) = ((∑ d : Fin 32, (x (ix2 a d)).toReal * (x (ix2 b d)).toReal : ℝ) : EReal) := by
    intro a b
    rw [coe_sum]
    refine Finset.sum_congr rfl fun d _ => ?_
    rw [EReal.coe_mul, ← hx, ← hx]
  obtain ⟨z, hz⟩ := init_real
  have e : lamAt x = Ideal.exp (∑ d : Fin 32, x (ix2 0 d) * x (ix2 1 d)) - Ideal.exp (∑ d : Fin 32, x (ix2 2 d) * x (ix2 3 d)) + initC := by
    unfold lamAt lamW
    rw [lam_apply]
    rfl
  rw [hp, hp, hz] at e
  obtain ⟨u, hu⟩ : ∃ u : ℝ, lamAt x = (u : EReal) := ⟨_, e.trans (by
    show ((Real.exp _ : ℝ) : EReal) - ((Real.exp _ : ℝ) : EReal) + (z : EReal) = _
    rw [← EReal.coe_sub, ← EReal.coe_add])⟩
  rw [hu, EReal.toReal_coe]

/-- The kernel's result at an index is the reference's of the same arguments. -/
theorem res_same (q : FVec 𝕀 S8x256x4096 .bf16) (k : FVec 𝕀 S8x4096x256 .bf16) (v : FVec 𝕀 S8x256x4096 .bf16) (lp : FVec 𝕀 S4x32 .f32) (sub : FVec 𝕀 S64 .f32)
    (hv : ∀ x, v x = ((v x).toReal : EReal)) (hl : lamAt lp = ((lamAt lp).toReal : EReal)) (s : Fin 256 → EReal) (hs : ∀ r, s r = sub (ix1 ⟨r.val % 64, by omega⟩))
    (b : Fin 8) (i : Fin 4096) (r : Fin 256) :
    resAt q k v (lamAt lp).toReal s b i r = Cert.ReferenceIdeal.Att.resR q k v lp sub (ix3 b i r) := by
  obtain ⟨z, hz⟩ := eps_real
  rw [Cert.ReferenceIdeal.Att.res_apply q k v lp sub hv (lamAt lp).toReal hl]
  unfold resAt
  rw [hs, width_real, hz, normed_out (by norm_num)]
  rfl

end Cert.KernelIdeal.Att

end
-- ==== Proof.Entered.lean ====
/- What the launch enters the kernel with. -/
module

public import proofs.«01_k».proof.Proof.RunI.Launch
public import proofs.«01_k».proof.Proof.Final

@[expose] public section

set_option maxRecDepth 16384
set_option maxHeartbeats 400000

noncomputable section

namespace Cert.KernelIdeal.Att

open Idealize.ShloMosaic Idealize.ShloMosaic.TcCoe Cert.KernelIdeal Cert.KernelIdeal.Gen
local notation "𝕀" => Idealize.ShloMosaic.Ideal

variable (m : (ℓ : Loc nD τ sig) → Buf (Elt 𝕀) ℓ) (c : Dev nD)

/-- The scale of a head, repeated for the four heads. -/
def tiled (s : FVec 𝕀 S64 .f32) : FVec 𝕀 S1x256 .f32 :=
  shapeCast S1x256 (shapeCast S256 (broadcastInDim S4x64 ![0, 1] bcast_S1x64_S4x64_0_1 (shapeCast S1x64 s shapeCasts_S64_S1x64)) shapeCasts_S4x64_S256) shapeCasts_S256_S1x256

theorem tiled_apply (s : FVec 𝕀 S64 .f32) (r : Fin 256) : tiled s (ix2 0 r) = s (ix1 ⟨r.val % 64, by omega⟩) := by
  unfold tiled
  pointwise

theorem scale_entered : asc (entry m) c = tiled (m ((c : Thread nD τ).loc main_arg4)) := by
  show StableHlo.after hostOps0 (fun b => m (c, b)) (Proc.devRef .tc main_v3) = _
  unfold hostOps0
  after_results_simp
  rfl

theorem q_entered : aq (entry m) c = m ((c : Thread nD τ).loc main_arg0) := entry_of_not_written m c main_arg0 (by decide)
theorem k_entered : ak (entry m) c = m ((c : Thread nD τ).loc main_arg1) := entry_of_not_written m c main_arg1 (by decide)
theorem v_entered : av (entry m) c = m ((c : Thread nD τ).loc main_arg2) := entry_of_not_written m c main_arg2 (by decide)
theorem l_entered : al (entry m) c = m ((c : Thread nD τ).loc main_arg3) := entry_of_not_written m c main_arg3 (by decide)

end Cert.KernelIdeal.Att

end
-- ==== Proof.Finite.lean ====
/- What the precondition says of the arguments, and what follows of the constants. -/
module

public import proofs.«01_k».proof.Defs
public import proofs.«01_k».proof.Proof.Gen.Pre_finite_values
public import proofs.«01_k».proof.Proof.Out
public import Idealize.ShloMosaic.Lib.ReduceAll

@[expose] public section

set_option maxRecDepth 16384
set_option maxHeartbeats 400000

noncomputable section

namespace Cert.Finite

open Idealize.ShloMosaic Idealize.ShloMosaic.TcCoe Cert.Online Cert.Pre_finite_values
local notation "𝕀" => Idealize.ShloMosaic.Ideal

theorem top_word : Ideal.ofBits .f32 0x7F800000#32 = (⊤ : EReal) := by
  simp [Ideal.ofBits, Ideal.ieee]

/-- A number whose size is under infinity is real. -/
theorem real_of_lt {x : EReal} (h : max x (-x) < ⊤) : x = ((x.toReal : ℝ) : EReal) := by
  rw [max_lt_iff] at h
  refine (EReal.coe_toReal (ne_of_lt h.1) ?_).symm
  rintro rfl
  simp at h

/-- An ordered comparison with infinity that came out one. -/
theorem lt_of_cmp {x : EReal} (h : Ideal.cmp .olt x (Ideal.ofBits .f32 0x7F800000#32) = 1#1) : x < ⊤ := by
  rw [top_word] at h
  by_contra hx
  simp [Ideal.cmp, hx] at h

/-- Every element is at most the largest of all. -/
theorem le_all (x : FVec 𝕀 S4x32 .f32) (init : FVec 𝕀 S_ .f32) (hr : S4x32.ReducesTo [0, 1] S_) (h0 : 0 < S_.numel) (y : S4x32.Idx) (j : S_.Idx) :
    (x y : EReal) ≤ Host.reduce FloatOps.maximumf x init hr h0 j := by
  rw [Host.reduce_eq_fold FloatOps.maximumf x init hr h0 j]
  have hy : y ∈ Finset.univ.filter fun i => hr.drop i = j := by
    rw [Finset.mem_filter]
    exact ⟨Finset.mem_univ _, funext fun a => Fin.elim0 a⟩
  exact (Finset.le_fold_max (x y : EReal)).2 (Or.inr ⟨y, hy, le_refl _⟩)

variable [Facts]

/-- Where the precondition holds, the values and the weights of lambda are real numbers. -/
theorem decode (a0 : FVec 𝕀 S8x256x4096 .bf16) (a1 : FVec 𝕀 S8x4096x256 .bf16) (a2 : FVec 𝕀 S8x256x4096 .bf16) (a3 : FVec 𝕀 S4x32 .f32) (a4 : FVec 𝕀 S64 .f32)
    (h : fn a0 a1 a2 a3 a4 = fun _ => 1#1) :
    (∀ x, (a2 x : EReal) = (((a2 x : EReal).toReal : ℝ) : EReal)) ∧ ∀ y, (a3 y : EReal) = (((a3 y : EReal).toReal : ℝ) : EReal) := by
  have hx : ∀ x, IntOp.andi (Ideal.cmp .olt (max (a2 x : EReal) (-(a2 x : EReal))) (Ideal.ofBits .f32 0x7F800000#32))
      (Ideal.cmp .olt (Host.reduce (α := 𝕀 .f32) (FloatOps.maximumf (F := 𝕀) (φ := .f32)) (Host.absf a3) (constant (F := 𝕀) S_ .f32 0xFF800000#32) Facts.reducesTo_S4x32_S_d0_1 Facts.h_S_ ix0) (Ideal.ofBits .f32 0x7F800000#32)) = 1#1 := by
    intro x
    have e := congrFun h x
    refine Eq.trans ?_ e
    unfold fn
    pointwise
    rfl
  refine ⟨fun x => real_of_lt (lt_of_cmp (IntOp.andi_eq_one.1 (hx x)).1), fun y => real_of_lt ?_⟩
  refine lt_of_le_of_lt ?_ (lt_of_cmp (IntOp.andi_eq_one.1 (hx (ix3 0 0 0))).2)
  exact le_all (Host.absf a3) _ _ _ y ix0

end Cert.Finite

end
-- ==== Proof.FfnMath.lean ====
/- The feed-forward block in plain sums of extended reals: the norm, the gate, the convolution over three rows, the sigmoid and the last norm. -/
module

public import Idealize.ShloMosaic.PureOps.Ideal
public import Mathlib.Analysis.SpecialFunctions.Trigonometric.DerivHyp

@[expose] public section

noncomputable section

namespace Cert.Ffn

open Idealize.ShloMosaic

/-- The number of features, the norm's small constant, one half and one, as the programs' words spell them. -/
def width : EReal := Ideal.ofBits .f32 0x44800000#32
def eps : EReal := Ideal.ofBits .f32 0x358637BD#32
def half : EReal := Ideal.ofBits .f32 0x3F000000#32
def one : EReal := Ideal.ofBits .f32 0x3F800000#32

/-- The norm of a row `a` with scale `g`. -/
def rms (a g : Fin 1024 → EReal) (d : Fin 1024) : EReal :=
  a d * Ideal.rsqrt (Ideal.div (∑ e, a e * a e) width + eps) * g d

/-- A row of the normed input times the weights `w`. -/
def proj (a g : Fin 1024 → EReal) (w : Fin 1024 → Fin 2816 → EReal) (f : Fin 2816) : EReal := ∑ d, rms a g d * w d f

/-- Three rows weighted and summed with a bias. -/
def conv (h0 h1 h2 w0 w1 w2 b : EReal) : EReal := h0 * w0 + h1 * w1 + h2 * w2 + b

/-- The sigmoid, by the hyperbolic tangent. -/
def sigm (y : EReal) : EReal := half * Ideal.tanh (half * y) + half

/-- The residual row plus the hidden row times the output weights. -/
def resid (a : Fin 1024 → EReal) (h : Fin 2816 → EReal) (w : Fin 2816 → Fin 1024 → EReal) (d : Fin 1024) : EReal :=
  a d + ∑ f, h f * w f d

theorem half_eq : half = ((1 / 2 : ℝ) : EReal) := by
  simp [half, Ideal.ofBits, Ideal.ieee]
  rw [← EReal.coe_mul]
  norm_num

theorem one_eq : one = ((1 : ℝ) : EReal) := by
  simp [one, Ideal.ofBits, Ideal.ieee]
  try rw [← EReal.coe_mul]
  try norm_num

/-- The sigmoid of the hyperbolic tangent is the one of the exponential, at infinite arguments too. -/
theorem sigm_eq (y : EReal) : sigm y = Ideal.div one (one + Ideal.exp (-y)) := by
  unfold sigm
  rw [half_eq, one_eq]
  induction y with
  | bot =>
    rw [EReal.coe_mul_bot_of_pos (by norm_num), Ideal.tanh_bot, EReal.neg_bot, Ideal.exp_top, EReal.coe_add_top]
    have e : (-1 : EReal) = ((-1 : ℝ) : EReal) := by norm_num
    rw [e, ← EReal.coe_mul, ← EReal.coe_add]
    unfold Ideal.div
    rw [if_neg (by simp)]
    simp
  | top =>
    rw [EReal.coe_mul_top_of_pos (by norm_num), Ideal.tanh_top, EReal.neg_top, Ideal.exp_bot, add_zero, Ideal.div_coe (by norm_num), mul_one, ← EReal.coe_add, ← EReal.coe_mul]
    norm_num
  | coe r =>
    rw [← EReal.coe_mul, Ideal.tanh_coe, ← EReal.coe_mul, ← EReal.coe_add, ← EReal.coe_neg, Ideal.exp_coe, ← EReal.coe_add,
      Ideal.div_coe (by positivity), ← EReal.coe_mul]
    congr 1
    rw [Real.tanh_eq_sinh_div_cosh, Real.sinh_eq, Real.cosh_eq]
    have e1 : Real.exp (1 / 2 * r) ≠ 0 := (Real.exp_pos _).ne'
    have e2 : Real.exp (-(1 / 2 * r)) = (Real.exp (1 / 2 * r))⁻¹ := Real.exp_neg _
    have e3 : Real.exp (-r) = (Real.exp (1 / 2 * r))⁻¹ * (Real.exp (1 / 2 * r))⁻¹ := by
      rw [← Real.exp_neg, ← Real.exp_add]
      congr 1
      ring
    rw [e2, e3]
    have hp : 0 < Real.exp (1 / 2 * r) := Real.exp_pos _
    generalize Real.exp (1 / 2 * r) = u at *
    have : u * u + 1 ≠ 0 := by positivity
    field_simp
    ring

/-- The kernel's order of the sum over three rows. -/
theorem conv_comm (h0 h1 h2 w0 w1 w2 b : EReal) : b + h2 * w2 + h0 * w0 + h1 * w1 = conv h0 h1 h2 w0 w1 w2 b := by
  unfold conv
  abel

end Cert.Ffn

end
-- ==== Proof.FfnPay.lean ====
/- The values a point of the feed-forward kernel computes, read at an index. -/
module

public import proofs.«01_k».proof.Proof.Gen.Kernel2Ideal.Skeleton
public import proofs.«01_k».proof.Proof.FfnMath
public import Idealize.ShloMosaic.Lib.Pipeline.ValueKit
public import Idealize.ShloMosaic.Lib.VecWindow
public import Idealize.ShloMosaic.Lib.WritesUnit

@[expose] public section

set_option maxRecDepth 16384
set_option maxHeartbeats 400000

noncomputable section

namespace Cert.Kernel2Ideal.Ffn

open Idealize.ShloMosaic Idealize.ShloMosaic.TcCoe Cert.Kernel2Ideal Cert.Kernel2Ideal.Gen Cert.Ffn
local notation "𝕀" => Idealize.ShloMosaic.Ideal

variable (x : FVec 𝕀 S1x512x1024 .f32) (n : FVec 𝕀 S1x1024 .f32) (w : FVec 𝕀 S1024x2816 .bf16)

/-- The normed rows. -/
theorem pay4_apply (r : Fin 512) (d : Fin 1024) : k0_pay4 (F := 𝕀) x n (ix2 r d) = rms (fun d => x (ix3 0 r d)) (fun d => n (ix2 0 d)) d := by
  unfold k0_pay4 k0_pay3
  pointwise
  rfl

/-- The gate's rows. -/
theorem pay5_apply (r : Fin 512) (f : Fin 2816) :
    k0_pay5 (F := 𝕀) x n w (ix3 0 r f) = proj (fun d => x (ix3 0 r d)) (fun d => n (ix2 0 d)) (fun d f => w (ix2 d f)) f := by
  unfold k0_pay5
  pointwise
  unfold proj
  exact Finset.sum_congr rfl fun d _ => congrArg (fun z : EReal => z * w (ix2 d f)) (pay4_apply x n r d)

/-- The values' rows. -/
theorem pay6_apply (r : Fin 512) (f : Fin 2816) :
    k0_pay6 (F := 𝕀) x n w (ix2 r f) = proj (fun d => x (ix3 0 r d)) (fun d => n (ix2 0 d)) (fun d f => w (ix2 d f)) f := by
  unfold k0_pay6
  pointwise
  unfold proj
  exact Finset.sum_congr rfl fun d _ => congrArg (fun z : EReal => z * w (ix2 d f)) (pay4_apply x n r d)

variable (G g0 g1 : FVec 𝕀 S1x512x2816 .f32) (b c0 c1 c2 : FVec 𝕀 S1x2816 .f32)

/-- The convolution's rows. -/
theorem pay11_apply (r : Fin 512) (f : Fin 2816) : k0_pay11 G b c2 g0 c0 g1 c1 (ix2 r f)
    = conv (g0 (ix3 0 r f)) (g1 (ix3 0 r f)) (G (ix3 0 r f)) (c0 (ix2 0 f)) (c1 (ix2 0 f)) (c2 (ix2 0 f)) (b (ix2 0 f)) := by
  unfold k0_pay11
  pointwise
  exact conv_comm _ _ _ _ _ _ _

/-- The tangent's rows. -/
theorem pay12_apply (r : Fin 512) (f : Fin 2816) : k0_pay12 G b c2 g0 c0 g1 c1 (ix2 r f)
    = Ideal.tanh (half * conv (g0 (ix3 0 r f)) (g1 (ix3 0 r f)) (G (ix3 0 r f)) (c0 (ix2 0 f)) (c1 (ix2 0 f)) (c2 (ix2 0 f)) (b (ix2 0 f))) := by
  unfold k0_pay12
  pointwise
  rw [pay11_apply]
  rfl

/-- The last eight gate rows. -/
theorem pay9_apply (i : Fin 8) (f : Fin 2816) : k0_pay9 G (ix3 0 i f) = G (ix3 0 ⟨504 + i.val, by omega⟩ f) := by
  unfold k0_pay9
  pointwise

theorem pay10_apply (i : Fin 8) (f : Fin 2816) : k0_pay10 G (ix3 0 i f) = G (ix3 0 ⟨504 + i.val, by omega⟩ f) := by
  unfold k0_pay10
  pointwise

variable (a : FVec 𝕀 S512x1024 .f32) (v y th : FVec 𝕀 S512x2816 .f32) (wo : FVec 𝕀 S2816x1024 .bf16) (gf : FVec 𝕀 S1x1024 .f32)

/-- The rows before the last norm. -/
def zrow (r : Fin 512) (d : Fin 1024) : EReal :=
  resid (fun d => a (ix2 r d)) (fun f => y (ix2 r f) * (half * th (ix2 r f) + half) * v (ix2 r f)) (fun f d => wo (ix2 f d)) d

/-- The rows written. -/
theorem pay1_apply (r : Fin 512) (d : Fin 1024) : k0_pay1 a v y th (k0_pay13 (F := 𝕀)) wo gf (ix3 0 r d)
    = rms (zrow a v y th wo r) (fun d => gf (ix2 0 d)) d := by
  unfold k0_pay1 k0_pay13
  pointwise
  rfl

end Cert.Kernel2Ideal.Ffn

end
-- ==== Proof.FfnRows.lean ====
/- A buffer of rows: what is read back after stores of some of its rows, and what a load of some of its rows reads. -/
module

public import Idealize.ShloMosaic.Lib.Pipeline.ValueKit
public import Idealize.ShloMosaic.Lib.WritesUnit

@[expose] public section

noncomputable section

namespace Cert.Rows

open Idealize.ShloMosaic

variable {sig : RefSig} {κ : Kind} {sp : Space} {e : EltTy} {Val : EltTy → Type} {n k b o : ℕ}

/-- `n` rows of `b` columns. -/
abbrev Tall (n b : ℕ) : Shape := ⟨3, ![1, n, b]⟩

variable (v : View sig κ sp (Tall n b) e) (f : v.ty.Contents Val)

/-- A row of the newest store reads what was stored. -/
theorem hit (inb : ∀ x, (![0, o, 0] : Fin 3 → ℕ) x + (Tall k b).size x ≤ (Tall n b).size x) (w : (Tall k b).Idx → Val e)
    (L : List (View.Piece Val (Tall n b) e)) (p : Fin n) (q : Fin k) (y : Fin b) (h : p.val = o + q.val) :
    v.read Val (v.writes Val f ((⟨Rect.unit ![0, o, 0] (Tall k b).size inb, w⟩ : View.Piece Val (Tall n b) e) :: L)) (ix3 0 p y) = w (ix3 0 q y) := by
  refine View.read_writes_cons_unit_of_mem v f inb w L (ix3 0 p y) (ix3 0 q y) rfl ?_
  intro x
  fin_cases x
  · simp
  · simpa using h
  · simp

/-- A row above the newest store reads what the earlier stores left. -/
theorem miss (inb : ∀ x, (![0, o, 0] : Fin 3 → ℕ) x + (Tall k b).size x ≤ (Tall n b).size x) (w : (Tall k b).Idx → Val e)
    (L : List (View.Piece Val (Tall n b) e)) (p : Fin n) (y : Fin b) (h : p.val < o) :
    v.read Val (v.writes Val f ((⟨Rect.unit ![0, o, 0] (Tall k b).size inb, w⟩ : View.Piece Val (Tall n b) e) :: L)) (ix3 0 p y)
      = v.read Val (v.writes Val f L) (ix3 0 p y) := by
  refine View.read_writes_cons_unit_of_not_mem v f inb w L (ix3 0 p y) rfl 1 ?_
  left
  simpa using h

/-- A load of rows from `o` on reads the rows from `o` on. -/
theorem load (inb : ∀ x, (![0, o, 0] : Fin 3 → ℕ) x + (Tall k b).size x ≤ (Tall n b).size x) (r : Fin k) (y : Fin b) (p : Fin n) (h : p.val = o + r.val) :
    v.readAt Val (Rect.unit (s := Tall n b) ![0, o, 0] (Tall k b).size inb).toLoadRect f (ix3 0 r y) = v.read Val f (ix3 0 p y) := by
  have e : (Rect.unit (s := Tall n b) ![0, o, 0] (Tall k b).size inb).toLoadRect.idx (ix3 0 r y) = ix3 0 p y := by
    funext x; apply Fin.ext; fin_cases x
    · rfl
    · show o + 1 * r.val = p.val; omega
    · show 0 + 1 * y.val = y.val; omega
  exact congrArg (v.read Val f) e

variable [∀ e, Nonempty (Val e)]

variable (ig : ∀ x, (![0, 8, 0] : Fin 3 → ℕ) x + (Tall k b).size x ≤ (Tall n b).size x)
    (ih : ∀ x, (![0, 6, 0] : Fin 3 → ℕ) x + (Tall 2 b).size x ≤ (Tall n b).size x)
    (ia : ∀ x, (![0, o, 0] : Fin 3 → ℕ) x + (Tall k b).size x ≤ (Tall n b).size x)
    (G : (Tall k b).Idx → Val e) (H : (Tall 2 b).Idx → Val e) (r : Fin k) (y : Fin b)

include ia in
theorem inside : o + r.val < n := by
  have h1 := ia 1
  have h2 := r.isLt
  simp at h1
  omega

/-- A row loaded after `k` rows were stored from row `8` on and two rows from row `6` on: one of the two. -/
theorem load_lo (q : Fin 2) (h : o + r.val = 6 + q.val) :
    v.readCov [(⟨Rect.unit ![0, 8, 0] (Tall k b).size ig, G⟩ : View.Piece Val (Tall n b) e), ⟨Rect.unit ![0, 6, 0] (Tall 2 b).size ih, H⟩]
        (Rect.unit (s := Tall n b) ![0, o, 0] (Tall k b).size ia).toLoadRect (ix3 0 r y) = H (ix3 0 q y) := by
  unfold View.readCov
  rw [load v _ ia r y ⟨o + r.val, inside ia r⟩ rfl, miss v _ ig G _ ⟨o + r.val, inside ia r⟩ y (by simp; omega)]
  exact hit v _ ih H [] ⟨o + r.val, inside ia r⟩ q y h

/-- And one of the `k`. -/
theorem load_hi (q : Fin k) (h : o + r.val = 8 + q.val) :
    v.readCov [(⟨Rect.unit ![0, 8, 0] (Tall k b).size ig, G⟩ : View.Piece Val (Tall n b) e), ⟨Rect.unit ![0, 6, 0] (Tall 2 b).size ih, H⟩]
        (Rect.unit (s := Tall n b) ![0, o, 0] (Tall k b).size ia).toLoadRect (ix3 0 r y) = G (ix3 0 q y) := by
  unfold View.readCov
  rw [load v _ ia r y ⟨o + r.val, inside ia r⟩ rfl]
  exact hit v _ ig G _ ⟨o + r.val, inside ia r⟩ q y h

end Cert.Rows

end
-- ==== Proof.FfnPoint.lean ====
/- What a point of the feed-forward kernel leaves in its output blocks and in the rows it carries, from its input blocks. -/
module

public import proofs.«01_k».proof.Proof.Gen.Kernel2Ideal.Value
public import proofs.«01_k».proof.Proof.FfnPay
public import proofs.«01_k».proof.Proof.FfnRows
public import Idealize.ShloMosaic.Lib.Pipeline.ReadBack

@[expose] public section

set_option maxRecDepth 16384
set_option maxHeartbeats 400000

noncomputable section

namespace Cert.Kernel2Ideal.Ffn

open Idealize.ShloMosaic Idealize.ShloMosaic.TcCoe Cert.Kernel2Ideal Cert.Kernel2Ideal.Gen Cert.Ffn
local notation "𝕀" => Idealize.ShloMosaic.Ideal

variable (G : FVec 𝕀 S1x512x2816 .f32) (H : FVec 𝕀 S1x2x2816 .f32)

/-- The gate's scratch: two rows of history, then the tile's rows. -/
abbrev gpL : List (View.Piece (Elt 𝕀) S1x520x2816 .f32) :=
  [⟨Rect.unit (s := S1x520x2816) ![0, 8, 0] S1x512x2816.size inb_S1x520x2816_S1x512x2816_0_8_0, G⟩,
   ⟨Rect.unit (s := S1x520x2816) ![0, 6, 0] S1x2x2816.size inb_S1x520x2816_S1x2x2816_0_6_0, H⟩]

/-- The rows two before, and one before. -/
def back2 : FVec 𝕀 S1x512x2816 .f32 := (View.whole cc0_scratch1).readCov (gpL G H) (Rect.unit (s := S1x520x2816) ![0, 6, 0] S1x512x2816.size inb_S1x520x2816_S1x512x2816_0_6_0).toLoadRect
def back1 : FVec 𝕀 S1x512x2816 .f32 := (View.whole cc0_scratch1).readCov (gpL G H) (Rect.unit (s := S1x520x2816) ![0, 7, 0] S1x512x2816.size inb_S1x520x2816_S1x512x2816_0_7_0).toLoadRect

theorem back2_apply (r : Fin 512) (f : Fin 2816) : back2 G H (ix3 0 r f)
    = if h : r.val < 2 then H (ix3 0 ⟨r.val, h⟩ f) else G (ix3 0 ⟨r.val - 2, by omega⟩ f) := by
  by_cases h : r.val < 2
  · refine (Cert.Rows.load_lo (n := 520) (k := 512) (b := 2816) (o := 6) (e := .f32) (Val := Elt 𝕀) (View.whole cc0_scratch1)
      inb_S1x520x2816_S1x512x2816_0_8_0 inb_S1x520x2816_S1x2x2816_0_6_0 inb_S1x520x2816_S1x512x2816_0_6_0 G H r f ⟨r.val, h⟩ (by show 6 + r.val = 6 + r.val; rfl)).trans ?_
    rw [dif_pos h]
  · refine (Cert.Rows.load_hi (n := 520) (k := 512) (b := 2816) (o := 6) (e := .f32) (Val := Elt 𝕀) (View.whole cc0_scratch1)
      inb_S1x520x2816_S1x512x2816_0_8_0 inb_S1x520x2816_S1x2x2816_0_6_0 inb_S1x520x2816_S1x512x2816_0_6_0 G H r f ⟨r.val - 2, by omega⟩ (by show 6 + r.val = 8 + (r.val - 2); omega)).trans ?_
    rw [dif_neg h]

theorem back1_apply (r : Fin 512) (f : Fin 2816) : back1 G H (ix3 0 r f)
    = if h : r.val < 1 then H (ix3 0 1 f) else G (ix3 0 ⟨r.val - 1, by omega⟩ f) := by
  by_cases h : r.val < 1
  · refine (Cert.Rows.load_lo (n := 520) (k := 512) (b := 2816) (o := 7) (e := .f32) (Val := Elt 𝕀) (View.whole cc0_scratch1)
      inb_S1x520x2816_S1x512x2816_0_8_0 inb_S1x520x2816_S1x2x2816_0_6_0 inb_S1x520x2816_S1x512x2816_0_7_0 G H r f 1 (by show 7 + r.val = 6 + 1; omega)).trans ?_
    rw [dif_pos h]
  · refine (Cert.Rows.load_hi (n := 520) (k := 512) (b := 2816) (o := 7) (e := .f32) (Val := Elt 𝕀) (View.whole cc0_scratch1)
      inb_S1x520x2816_S1x512x2816_0_8_0 inb_S1x520x2816_S1x2x2816_0_6_0 inb_S1x520x2816_S1x512x2816_0_7_0 G H r f ⟨r.val - 1, by omega⟩ (by show 7 + r.val = 8 + (r.val - 1); omega)).trans ?_
    rw [dif_neg h]

variable (x : FVec 𝕀 S1x512x1024 .f32) (n : FVec 𝕀 S1x1024 .f32) (wg wu : FVec 𝕀 S1024x2816 .bf16) (cw : FVec 𝕀 S3x2816 .f32)
  (cb : FVec 𝕀 S1x2816 .f32) (wo : FVec 𝕀 S2816x1024 .bf16) (gf : FVec 𝕀 S1x1024 .f32)

/-- The block a point writes, from its input blocks and the two rows before its tile. -/
def outK : FVec 𝕀 S1x512x1024 .f32 :=
  k0_pay1 (k0_pay3 x) (k0_pay6 x n wu)
    (k0_pay11 (k0_pay5 x n wg) cb (View.ld cw (Rect.unit (s := S3x2816) ![2, 0] S1x2816.size inb_S3x2816_S1x2816_2_0))
      (back2 (k0_pay8 (k0_pay5 x n wg)) H) (View.ld cw (Rect.unit (s := S3x2816) ![0, 0] S1x2816.size inb_S3x2816_S1x2816_0_0))
      (back1 (k0_pay8 (k0_pay5 x n wg)) H) (View.ld cw (Rect.unit (s := S3x2816) ![1, 0] S1x2816.size inb_S3x2816_S1x2816_1_0)))
    (k0_pay12 (k0_pay5 x n wg) cb (View.ld cw (Rect.unit (s := S3x2816) ![2, 0] S1x2816.size inb_S3x2816_S1x2816_2_0))
      (back2 (k0_pay8 (k0_pay5 x n wg)) H) (View.ld cw (Rect.unit (s := S3x2816) ![0, 0] S1x2816.size inb_S3x2816_S1x2816_0_0))
      (back1 (k0_pay8 (k0_pay5 x n wg)) H) (View.ld cw (Rect.unit (s := S3x2816) ![1, 0] S1x2816.size inb_S3x2816_S1x2816_1_0)))
    (k0_pay13 (F := 𝕀)) wo gf

variable (m : (ℓ : Loc nD τ sig) → Buf (Elt 𝕀) ℓ) (c : Dev nD) (t : Fin cfg0.N)

/-- The gate rows of a point. -/
def gateK (t : Fin cfg0.N) : FVec 𝕀 S1x512x2816 .f32 := k0_pay5 (iblk m c 0 t) (iblk m c 2 t) (iblk m c 3 t)

theorem tail_at : (outsAt0 m c t.val t.isLt).2.1 = k0_pay10 (gateK m c t) := by
  by_cases h0 : t.val % 8 = 0
  · rw [outsAt0_A m c t h0]
    frame_out
    rfl
  · rw [outsAt0_B m c t h0]
    frame_out
    rfl

theorem carry_at : (outsAt0 m c t.val t.isLt).2.2 = k0_pay9 (gateK m c t) := by
  by_cases h0 : t.val % 8 = 0
  · rw [outsAt0_A m c t h0]
    frame_out
    rfl
  · rw [outsAt0_B m c t h0]
    frame_out
    rfl

/-- The two rows before the tile, at the first tile of a sequence. -/
def histA : FVec 𝕀 S1x2x2816 .f32 :=
  k0_pay7 ((View.whole cc0_scratch0).readCov
    [⟨Rect.unit (s := S1x8x2816) ![0, 6, 0] S1x2x2816.size inb_S1x8x2816_S1x2x2816_0_6_0, k0_pay2 (iblk m c 1 t)⟩]
    (Rect.unit (s := S1x8x2816) ![0, 6, 0] S1x2x2816.size inb_S1x8x2816_S1x2x2816_0_6_0).toLoadRect)

/-- The two rows before the tile, at a later tile: the last two that the tile before carried. -/
def histB (C : FVec 𝕀 S1x8x2816 .f32) : FVec 𝕀 S1x2x2816 .f32 :=
  k0_pay7 (View.ld C (Rect.unit (s := S1x8x2816) ![0, 6, 0] S1x2x2816.size inb_S1x8x2816_S1x2x2816_0_6_0))

theorem out_A (h0 : t.val % 8 = 0) : (outsAt0 m c t.val t.isLt).1
    = outK (histA m c t) (iblk m c 0 t) (iblk m c 2 t) (iblk m c 3 t) (iblk m c 4 t) (iblk m c 5 t) (iblk m c 6 t) (iblk m c 7 t) (iblk m c 8 t) := by
  rw [outsAt0_A m c t h0]
  frame_out
  rfl

theorem out_B (h0 : ¬t.val % 8 = 0) : (outsAt0 m c t.val t.isLt).1
    = outK (histB (outsAt0 m c (t.val - 1) (Nat.lt_of_le_of_lt (Nat.sub_le _ _) t.isLt)).2.2)
        (iblk m c 0 t) (iblk m c 2 t) (iblk m c 3 t) (iblk m c 4 t) (iblk m c 5 t) (iblk m c 6 t) (iblk m c 7 t) (iblk m c 8 t) := by
  rw [outsAt0_B m c t h0]
  frame_out
  rw [read_unread_whole]
  rfl

theorem pay2_eq (X : FVec 𝕀 S1x2x2816 .f32) : k0_pay2 X = X := by
  funext y
  unfold k0_pay2
  pointwise

theorem pay7_eq (X : FVec 𝕀 S1x2x2816 .f32) : k0_pay7 X = X := by
  funext y
  unfold k0_pay7
  pointwise

theorem pay8_eq (X : FVec 𝕀 S1x512x2816 .f32) : k0_pay8 X = X := by
  funext y
  unfold k0_pay8
  pointwise

theorem histA_eq : histA m c t = iblk m c 1 t := by
  unfold histA
  rw [pay7_eq, pay2_eq]
  exact View.readCov_cons_toLoadRect _ _ _ _

theorem histB_apply (i : Fin 2) (f : Fin 2816) : histB (k0_pay9 G) (ix3 0 i f) = G (ix3 0 ⟨510 + i.val, by omega⟩ f) := by
  unfold histB
  rw [pay7_eq]
  have e : (Rect.unit (s := S1x8x2816) ![0, 6, 0] S1x2x2816.size inb_S1x8x2816_S1x2x2816_0_6_0).emb (ix3 0 i f) = ix3 0 ⟨6 + i.val, by omega⟩ f := by
    funext x; apply Fin.ext; fin_cases x
    · rfl
    · show 6 + 1 * i.val = 6 + i.val; omega
    · show 0 + 1 * f.val = f.val; omega
  refine (congrArg (k0_pay9 G) e).trans ((pay9_apply G _ f).trans ?_)
  congr 2
  apply Fin.ext
  simp
  omega

end Cert.Kernel2Ideal.Ffn

end
-- ==== Proof.FfnBlocks.lean ====
/- Each input block of the feed-forward kernel, read at an index, is an argument array at the place of the block. -/
module

public import proofs.«01_k».proof.Proof.Gen.Kernel2Ideal.Value
public import Idealize.ShloMosaic.Lib.Pipeline.ValueKit
public import Idealize.ShloMosaic.PureOps.Ideal

@[expose] public section

set_option maxRecDepth 16384
set_option maxHeartbeats 400000

noncomputable section

namespace Cert.Kernel2Ideal.Ffn

open Idealize.ShloMosaic Idealize.ShloMosaic.TcCoe Cert.Kernel2Ideal Cert.Kernel2Ideal.Gen
local notation "𝕀" => Idealize.ShloMosaic.Ideal

/-- The windows' block indices at every point: eight tiles of each of eight batches, and whole arrays. -/
theorem idx : ∀ t : Fin cfg0.N, (cfg0.win 0).index t = ![t.val / 8, t.val % 8, 0] ∧ (cfg0.win 1).index t = ![t.val / 8, 0, 0]
    ∧ (cfg0.win 2).index t = ![0, 0] ∧ (cfg0.win 3).index t = ![0, 0] ∧ (cfg0.win 4).index t = ![0, 0] ∧ (cfg0.win 5).index t = ![0, 0]
    ∧ (cfg0.win 6).index t = ![0, 0] ∧ (cfg0.win 7).index t = ![0, 0] ∧ (cfg0.win 8).index t = ![0, 0] := by decide +kernel

variable (m : (ℓ : Loc nD τ sig) → Buf (Elt 𝕀) ℓ) (c : Dev nD) (t : Fin cfg0.N)

theorem blk_x (x : S1x512x1024.Idx) (h : t.val < 64) : iblk m c 0 t x
    = V m c main_arg0 (ix3 ⟨t.val / 8, by omega⟩ ⟨512 * (t.val % 8) + (x 1).val, by have := (x 1).isLt; simp at this; omega⟩ (x 2)) := by
  blk_ext [iblk, idx t]

theorem blk_buf (x : S1x2x2816.Idx) (h : t.val < 64) : iblk m c 1 t x = V m c main_arg1 (ix3 ⟨t.val / 8, by omega⟩ (x 1) (x 2)) := by
  blk_ext [iblk, idx t]

theorem blk_n (x : S1x1024.Idx) : iblk m c 2 t x = V m c main_v0 (ix2 (x 0) (x 1)) := by blk_ext [iblk, idx t]
theorem blk_wg (x : S1024x2816.Idx) : iblk m c 3 t x = V m c main_v2 (ix2 (x 0) (x 1)) := by blk_ext [iblk, idx t]
theorem blk_wu (x : S1024x2816.Idx) : iblk m c 4 t x = V m c main_v4 (ix2 (x 0) (x 1)) := by blk_ext [iblk, idx t]
theorem blk_cw (x : S3x2816.Idx) : iblk m c 5 t x = V m c main_arg4 (ix2 (x 0) (x 1)) := by blk_ext [iblk, idx t]
theorem blk_cb (x : S1x2816.Idx) : iblk m c 6 t x = V m c main_v5 (ix2 (x 0) (x 1)) := by blk_ext [iblk, idx t]
theorem blk_wo (x : S2816x1024.Idx) : iblk m c 7 t x = V m c main_v6 (ix2 (x 0) (x 1)) := by blk_ext [iblk, idx t]
theorem blk_gf (x : S1x1024.Idx) : iblk m c 8 t x = V m c main_v7 (ix2 (x 0) (x 1)) := by blk_ext [iblk, idx t]

/-! What the host's lines before the kernel leave. -/

theorem in_x : V m c main_arg0 = m ((c : Thread nD τ).loc main_arg0) := by
  show StableHlo.after hostOps0 (fun b => m (c, b)) (Proc.devRef .tc main_arg0) = _
  unfold hostOps0
  after_results_simp

theorem in_buf : V m c main_arg1 = m ((c : Thread nD τ).loc main_arg1) := by
  show StableHlo.after hostOps0 (fun b => m (c, b)) (Proc.devRef .tc main_arg1) = _
  unfold hostOps0
  after_results_simp

theorem in_cw : V m c main_arg4 = m ((c : Thread nD τ).loc main_arg4) := by
  show StableHlo.after hostOps0 (fun b => m (c, b)) (Proc.devRef .tc main_arg4) = _
  unfold hostOps0
  after_results_simp

/-- A row, from its vector. -/
def rowN (s : FVec 𝕀 S1024 .f32) : FVec 𝕀 S1x1024 .f32 := shapeCast S1x1024 s shapeCasts_S1024_S1x1024
def rowB (s : FVec 𝕀 S2816 .f32) : FVec 𝕀 S1x2816 .f32 := shapeCast S1x2816 s shapeCasts_S2816_S1x2816
/-- The weight's first half of columns, and its second. -/
def colG (w : FVec 𝕀 S1024x5632 .f32) : FVec 𝕀 S1024x2816 .bf16 :=
  truncf .bf16 (extractStridedSlice S1024x2816 ![0, 0] w slices_S1024x5632_S1024x2816_0_0) bitsLt_bf16_f32
def colU (w : FVec 𝕀 S1024x5632 .f32) : FVec 𝕀 S1024x2816 .bf16 :=
  truncf .bf16 (extractStridedSlice S1024x2816 ![0, 2816] w slices_S1024x5632_S1024x2816_0_2816) bitsLt_bf16_f32

/-- The output weights, narrowed. -/
def wOut (w : FVec 𝕀 S2816x1024 .f32) : FVec 𝕀 S2816x1024 .bf16 := truncf .bf16 w bitsLt_bf16_f32

theorem wOut_apply (w : FVec 𝕀 S2816x1024 .f32) (f : Fin 2816) (d : Fin 1024) : wOut w (ix2 f d) = w (ix2 f d) := by
  unfold wOut
  pointwise
theorem rowN_apply (s : FVec 𝕀 S1024 .f32) (d : Fin 1024) : rowN s (ix2 0 d) = s (ix1 d) := by
  unfold rowN
  pointwise
theorem rowB_apply (s : FVec 𝕀 S2816 .f32) (d : Fin 2816) : rowB s (ix2 0 d) = s (ix1 d) := by
  unfold rowB
  pointwise
theorem colG_apply (w : FVec 𝕀 S1024x5632 .f32) (d : Fin 1024) (f : Fin 2816) : colG w (ix2 d f) = w (ix2 d ⟨f.val, by omega⟩) := by
  unfold colG
  pointwise
theorem colU_apply (w : FVec 𝕀 S1024x5632 .f32) (d : Fin 1024) (f : Fin 2816) : colU w (ix2 d f) = w (ix2 d ⟨2816 + f.val, by omega⟩) := by
  unfold colU
  pointwise

theorem in_n : V m c main_v0 = rowN (m ((c : Thread nD τ).loc main_arg2)) := by
  show StableHlo.after hostOps0 (fun b => m (c, b)) (Proc.devRef .tc main_v0) = _
  unfold hostOps0
  after_results_simp
  rfl

theorem in_wg : V m c main_v2 = colG (m ((c : Thread nD τ).loc main_arg3)) := by
  show StableHlo.after hostOps0 (fun b => m (c, b)) (Proc.devRef .tc main_v2) = _
  unfold hostOps0
  after_results_simp
  rfl

theorem in_wu : V m c main_v4 = colU (m ((c : Thread nD τ).loc main_arg3)) := by
  show StableHlo.after hostOps0 (fun b => m (c, b)) (Proc.devRef .tc main_v4) = _
  unfold hostOps0
  after_results_simp
  rfl

theorem in_cb : V m c main_v5 = rowB (m ((c : Thread nD τ).loc main_arg5)) := by
  show StableHlo.after hostOps0 (fun b => m (c, b)) (Proc.devRef .tc main_v5) = _
  unfold hostOps0
  after_results_simp
  rfl

theorem in_wo : V m c main_v6 = wOut (m ((c : Thread nD τ).loc main_arg6)) := by
  show StableHlo.after hostOps0 (fun b => m (c, b)) (Proc.devRef .tc main_v6) = _
  unfold hostOps0
  after_results_simp
  rfl

theorem in_gf : V m c main_v7 = rowN (m ((c : Thread nD τ).loc main_arg7)) := by
  show StableHlo.after hostOps0 (fun b => m (c, b)) (Proc.devRef .tc main_v7) = _
  unfold hostOps0
  after_results_simp
  rfl

end Cert.Kernel2Ideal.Ffn

end
-- ==== Proof.FfnWhole.lean ====
/- The feed-forward block over whole arrays: the gate with its history of two rows, the convolution, and the rows written. -/
module

public import proofs.«01_k».proof.Proof.FfnMath

@[expose] public section

noncomputable section

namespace Cert.Ffn

variable (x : Fin 8 → Fin 4096 → Fin 1024 → EReal) (buf : Fin 8 → Fin 2 → Fin 2816 → EReal) (n : Fin 1024 → EReal)
  (wi : Fin 1024 → Fin 5632 → EReal) (cw : Fin 3 → Fin 2816 → EReal) (cb : Fin 2816 → EReal) (wo : Fin 2816 → Fin 1024 → EReal) (gf : Fin 1024 → EReal)

/-- The gate: the first half of the input weights' columns. -/
def gate (b : Fin 8) (p : Fin 4096) (f : Fin 2816) : EReal := proj (x b p) n (fun d f => wi d ⟨f.val, by omega⟩) f

/-- The values: the second half. -/
def vals (b : Fin 8) (p : Fin 4096) (f : Fin 2816) : EReal := proj (x b p) n (fun d f => wi d ⟨2816 + f.val, by omega⟩) f

/-- The gate after the two rows kept from before it. -/
def rows (b : Fin 8) (q : Fin 4098) (f : Fin 2816) : EReal :=
  if h : q.val < 2 then buf b ⟨q.val, h⟩ f else gate x n wi b ⟨q.val - 2, by omega⟩ f

/-- The causal convolution of width three. -/
def conved (b : Fin 8) (p : Fin 4096) (f : Fin 2816) : EReal :=
  conv (rows x buf n wi b ⟨p.val, by omega⟩ f) (rows x buf n wi b ⟨1 + p.val, by omega⟩ f) (rows x buf n wi b ⟨2 + p.val, by omega⟩ f)
    (cw 0 f) (cw 1 f) (cw 2 f) (cb f)

/-- The hidden row. -/
def hidden (b : Fin 8) (p : Fin 4096) (f : Fin 2816) : EReal :=
  conved x buf n wi cw cb b p f * sigm (conved x buf n wi cw cb b p f) * vals x n wi b p f

/-- The row written. -/
def result (b : Fin 8) (p : Fin 4096) (d : Fin 1024) : EReal :=
  rms (resid (x b p) (hidden x buf n wi cw cb b p) wo) gf d

/-- The last eight rows of the gate and its history. -/
def tail (b : Fin 8) (i : Fin 8) (f : Fin 2816) : EReal := rows x buf n wi b ⟨4090 + i.val, by omega⟩ f

theorem rows_late (b : Fin 8) (q : Fin 4098) (p : Fin 4096) (f : Fin 2816) (h : q.val = 2 + p.val) : rows x buf n wi b q f = gate x n wi b p f := by
  unfold rows
  rw [dif_neg (by omega)]
  have e : (⟨q.val - 2, by omega⟩ : Fin 4096) = p := Fin.ext (by simp; omega)
  rw [e]

theorem rows_early (b : Fin 8) (q : Fin 4098) (i : Fin 2) (f : Fin 2816) (h : q.val = i.val) : rows x buf n wi b q f = buf b i f := by
  unfold rows
  rw [dif_pos (by omega)]
  have e : (⟨q.val, by omega⟩ : Fin 2) = i := Fin.ext h
  rw [e]

end Cert.Ffn

end
-- ==== Proof.FfnOut.lean ====
/- What the feed-forward kernel leaves in its two results, read at an index. -/
module

public import proofs.«01_k».proof.Proof.FfnPoint
public import proofs.«01_k».proof.Proof.FfnBlocks
public import proofs.«01_k».proof.Proof.FfnWhole

@[expose] public section

set_option maxRecDepth 16384
set_option maxHeartbeats 400000

noncomputable section

namespace Cert.Kernel2Ideal.Ffn

open Idealize.ShloMosaic Idealize.ShloMosaic.TcCoe Cert.Kernel2Ideal Cert.Kernel2Ideal.Gen Cert.Ffn
local notation "𝕀" => Idealize.ShloMosaic.Ideal

theorem proj_congr {a a' g g' : Fin 1024 → EReal} {w w' : Fin 1024 → Fin 2816 → EReal} (f : Fin 2816)
    (ha : ∀ d, a d = a' d) (hg : ∀ d, g d = g' d) (hw : ∀ d f, w d f = w' d f) : proj a g w f = proj a' g' w' f := by
  obtain rfl : a = a' := funext ha
  obtain rfl : g = g' := funext hg
  obtain rfl : w = w' := funext fun d => funext (hw d)
  rfl

theorem conv_congr {h0 h1 h2 w0 w1 w2 b h0' h1' h2' w0' w1' w2' b' : EReal} (e0 : h0 = h0') (e1 : h1 = h1') (e2 : h2 = h2')
    (f0 : w0 = w0') (f1 : w1 = w1') (f2 : w2 = w2') (g : b = b') : conv h0 h1 h2 w0 w1 w2 b = conv h0' h1' h2' w0' w1' w2' b' := by
  rw [e0, e1, e2, f0, f1, f2, g]

theorem last_congr {a a' g g' : Fin 1024 → EReal} {h h' : Fin 2816 → EReal} {w w' : Fin 2816 → Fin 1024 → EReal} (d : Fin 1024)
    (ha : ∀ d, a d = a' d) (hh : ∀ f, h f = h' f) (hw : ∀ f d, w f d = w' f d) (hg : ∀ d, g d = g' d) :
    rms (resid a h w) g d = rms (resid a' h' w') g' d := by
  obtain rfl : a = a' := funext ha
  obtain rfl : g = g' := funext hg
  obtain rfl : h = h' := funext hh
  obtain rfl : w = w' := funext fun f => funext (hw f)
  rfl

/-- A row of the weights of the convolution. -/
theorem tap (cw : FVec 𝕀 S3x2816 .f32) (k : Fin 3) (f : Fin 2816) (inb : ∀ x, (![k.val, 0] : Fin 2 → ℕ) x + S1x2816.size x ≤ S3x2816.size x) :
    View.ld (Val := Elt 𝕀) (e' := .f32) cw (Rect.unit (s := S3x2816) ![k.val, 0] S1x2816.size inb) (ix2 0 f) = cw (ix2 k f) := by
  have e : (Rect.unit (s := S3x2816) ![k.val, 0] S1x2816.size inb).emb (ix2 0 f) = ix2 k f := by
    funext x; apply Fin.ext; fin_cases x
    · show k.val + 1 * 0 = k.val; omega
    · show 0 + 1 * f.val = f.val; omega
  exact congrArg cw e

theorem pay3_apply (x : FVec 𝕀 S1x512x1024 .f32) (r : Fin 512) (d : Fin 1024) : k0_pay3 x (ix2 r d) = x (ix3 0 r d) := by
  unfold k0_pay3
  pointwise

section point

variable (H : FVec 𝕀 S1x2x2816 .f32) (x : FVec 𝕀 S1x512x1024 .f32) (n : FVec 𝕀 S1x1024 .f32) (wg wu : FVec 𝕀 S1024x2816 .bf16)
  (cw : FVec 𝕀 S3x2816 .f32) (cb : FVec 𝕀 S1x2816 .f32) (wo : FVec 𝕀 S2816x1024 .bf16) (gf : FVec 𝕀 S1x1024 .f32)

/-- The convolution at a row of a point. -/
def cK (r : Fin 512) (f : Fin 2816) : EReal :=
  conv (back2 (k0_pay5 x n wg) H (ix3 0 r f)) (back1 (k0_pay5 x n wg) H (ix3 0 r f)) (k0_pay5 (F := 𝕀) x n wg (ix3 0 r f))
    (cw (ix2 0 f)) (cw (ix2 1 f)) (cw (ix2 2 f)) (cb (ix2 0 f))

theorem outK_apply (r : Fin 512) (d : Fin 1024) : outK H x n wg wu cw cb wo gf (ix3 0 r d)
    = rms (resid (fun d => x (ix3 0 r d)) (fun f => cK H x n wg cw cb r f * sigm (cK H x n wg cw cb r f)
        * proj (fun d => x (ix3 0 r d)) (fun d => n (ix2 0 d)) (fun d f => wu (ix2 d f)) f) (fun f d => wo (ix2 f d))) (fun d => gf (ix2 0 d)) d := by
  unfold outK
  rw [pay1_apply]
  unfold zrow
  refine last_congr d (fun e => pay3_apply x r e) (fun f => ?_) (fun _ _ => rfl) (fun _ => rfl)
  rw [pay11_apply, pay12_apply, pay6_apply, pay8_eq]
  have t0 := tap cw 0 f inb_S3x2816_S1x2816_0_0
  have t1 := tap cw 1 f inb_S3x2816_S1x2816_1_0
  have t2 := tap cw 2 f inb_S3x2816_S1x2816_2_0
  unfold cK sigm
  rw [← t0, ← t1, ← t2]
  rfl

end point

variable (m : (ℓ : Loc nD τ sig) → Buf (Elt 𝕀) ℓ) (c : Dev nD)

/-- The arguments by their indices. -/
def kX : Fin 8 → Fin 4096 → Fin 1024 → EReal := fun b p d => m ((c : Thread nD τ).loc main_arg0) (ix3 b p d)
def kB : Fin 8 → Fin 2 → Fin 2816 → EReal := fun b i f => m ((c : Thread nD τ).loc main_arg1) (ix3 b i f)
def kN : Fin 1024 → EReal := fun d => m ((c : Thread nD τ).loc main_arg2) (ix1 d)
def kWi : Fin 1024 → Fin 5632 → EReal := fun d f => m ((c : Thread nD τ).loc main_arg3) (ix2 d f)
def kCw : Fin 3 → Fin 2816 → EReal := fun k f => m ((c : Thread nD τ).loc main_arg4) (ix2 k f)
def kCb : Fin 2816 → EReal := fun f => m ((c : Thread nD τ).loc main_arg5) (ix1 f)
def kWo : Fin 2816 → Fin 1024 → EReal := fun f d => m ((c : Thread nD τ).loc main_arg6) (ix2 f d)
def kG : Fin 1024 → EReal := fun d => m ((c : Thread nD τ).loc main_arg7) (ix1 d)

variable (t : Fin cfg0.N) (b : Fin 8)

theorem lt64 (t : Fin cfg0.N) : t.val < 64 := t.isLt

theorem s_x (r : Fin 512) (p : Fin 4096) (hp : p.val = 512 * (t.val % 8) + r.val) (hb : b.val = t.val / 8) (d : Fin 1024) :
    iblk m c 0 t (ix3 0 r d) = kX m c b p d := by
  refine (blk_x m c t (ix3 0 r d) (lt64 t)).trans ?_
  rw [in_x]
  unfold kX
  have e1 : (⟨t.val / 8, by have := lt64 t; omega⟩ : Fin 8) = b := Fin.ext hb.symm
  have e2 : (⟨512 * (t.val % 8) + r.val, by omega⟩ : Fin 4096) = p := Fin.ext hp.symm
  rw [← e1, ← e2]
  rfl

theorem s_buf (i : Fin 2) (f : Fin 2816) (hb : b.val = t.val / 8) : iblk m c 1 t (ix3 0 i f) = kB m c b i f := by
  refine (blk_buf m c t (ix3 0 i f) (lt64 t)).trans ?_
  rw [in_buf]
  unfold kB
  have e1 : (⟨t.val / 8, by have := lt64 t; omega⟩ : Fin 8) = b := Fin.ext hb.symm
  rw [← e1]
  rfl

theorem s_n (d : Fin 1024) : iblk m c 2 t (ix2 0 d) = kN m c d := by
  refine (blk_n m c t (ix2 0 d)).trans ?_
  rw [in_n]
  exact rowN_apply _ d

theorem s_wg (d : Fin 1024) (f : Fin 2816) : iblk m c 3 t (ix2 d f) = kWi m c d ⟨f.val, by omega⟩ := by
  refine (blk_wg m c t (ix2 d f)).trans ?_
  rw [in_wg]
  exact colG_apply _ d f

theorem s_wu (d : Fin 1024) (f : Fin 2816) : iblk m c 4 t (ix2 d f) = kWi m c d ⟨2816 + f.val, by omega⟩ := by
  refine (blk_wu m c t (ix2 d f)).trans ?_
  rw [in_wu]
  exact colU_apply _ d f

theorem s_cw (k : Fin 3) (f : Fin 2816) : iblk m c 5 t (ix2 k f) = kCw m c k f := by
  refine (blk_cw m c t (ix2 k f)).trans ?_
  rw [in_cw]
  rfl

theorem s_cb (f : Fin 2816) : iblk m c 6 t (ix2 0 f) = kCb m c f := by
  refine (blk_cb m c t (ix2 0 f)).trans ?_
  rw [in_cb]
  exact rowB_apply _ f

theorem s_wo (f : Fin 2816) (d : Fin 1024) : iblk m c 7 t (ix2 f d) = kWo m c f d := by
  refine (blk_wo m c t (ix2 f d)).trans ?_
  rw [in_wo]
  exact wOut_apply _ f d

theorem s_gf (d : Fin 1024) : iblk m c 8 t (ix2 0 d) = kG m c d := by
  refine (blk_gf m c t (ix2 0 d)).trans ?_
  rw [in_gf]
  exact rowN_apply _ d

/-- The gate rows of a point are rows of the gate. -/
theorem gate_at (r : Fin 512) (p : Fin 4096) (hp : p.val = 512 * (t.val % 8) + r.val) (hb : b.val = t.val / 8) (f : Fin 2816) :
    gateK m c t (ix3 0 r f) = gate (kX m c) (kN m c) (kWi m c) b p f := by
  unfold gateK gate
  rw [pay5_apply]
  exact proj_congr f (fun d => s_x m c t b r p hp hb d) (fun d => s_n m c t d) (fun d f => s_wg m c t d f)

/-- The rows of the gate and its history, of the arguments. -/
abbrev kRows : Fin 8 → Fin 4098 → Fin 2816 → EReal := rows (kX m c) (kB m c) (kN m c) (kWi m c)

section written

variable (H : FVec 𝕀 S1x2x2816 .f32)

/-- The row a point writes, where its history is the two rows before its tile. -/
theorem row_of (hH : ∀ (i : Fin 2) (f : Fin 2816) (q : Fin 4098), q.val = 512 * (t.val % 8) + i.val → H (ix3 0 i f) = kRows m c b q f)
    (r : Fin 512) (p : Fin 4096) (hp : p.val = 512 * (t.val % 8) + r.val) (hb : b.val = t.val / 8) (d : Fin 1024) :
    outK H (iblk m c 0 t) (iblk m c 2 t) (iblk m c 3 t) (iblk m c 4 t) (iblk m c 5 t) (iblk m c 6 t) (iblk m c 7 t) (iblk m c 8 t) (ix3 0 r d)
      = result (kX m c) (kB m c) (kN m c) (kWi m c) (kCw m c) (kCb m c) (kWo m c) (kG m c) b p d := by
  rw [outK_apply]
  unfold result
  have e2 (f : Fin 2816) : back2 (gateK m c t) H (ix3 0 r f) = kRows m c b ⟨p.val, by omega⟩ f := by
    rw [back2_apply]
    split
    · rename_i h
      exact hH ⟨r.val, h⟩ f _ hp
    · rename_i h
      rw [gate_at m c t b ⟨r.val - 2, by omega⟩ ⟨p.val - 2, by omega⟩ (by simp; omega) hb f]
      exact (rows_late _ _ _ _ b _ _ f (by simp; omega)).symm
  have e1 (f : Fin 2816) : back1 (gateK m c t) H (ix3 0 r f) = kRows m c b ⟨1 + p.val, by omega⟩ f := by
    rw [back1_apply]
    split
    · rename_i h
      exact hH 1 f _ (by simp; omega)
    · rename_i h
      rw [gate_at m c t b ⟨r.val - 1, by omega⟩ ⟨p.val - 1, by omega⟩ (by simp; omega) hb f]
      exact (rows_late _ _ _ _ b _ _ f (by simp; omega)).symm
  have e0 (f : Fin 2816) : gateK m c t (ix3 0 r f) = kRows m c b ⟨2 + p.val, by omega⟩ f := by
    rw [gate_at m c t b r p hp hb f]
    exact (rows_late _ _ _ _ b _ _ f rfl).symm
  have ec (f : Fin 2816) : cK H (iblk m c 0 t) (iblk m c 2 t) (iblk m c 3 t) (iblk m c 5 t) (iblk m c 6 t) r f
      = conved (kX m c) (kB m c) (kN m c) (kWi m c) (kCw m c) (kCb m c) b p f := by
    unfold conved
    exact conv_congr (e2 f) (e1 f) (e0 f) (s_cw m c t 0 f) (s_cw m c t 1 f) (s_cw m c t 2 f) (s_cb m c t f)
  refine last_congr d (fun e => s_x m c t b r p hp hb e) (fun f => ?_) (fun f e => s_wo m c t f e) (fun e => s_gf m c t e)
  unfold Cert.Ffn.hidden
  rw [ec f]
  refine congrArg₂ (fun u v : EReal => u * v) rfl ?_
  exact proj_congr f (fun e => s_x m c t b r p hp hb e) (fun e => s_n m c t e) (fun e f => s_wu m c t e f)

end written

/-- The row a point writes. -/
theorem row_at (r : Fin 512) (p : Fin 4096) (hp : p.val = 512 * (t.val % 8) + r.val) (hb : b.val = t.val / 8) (d : Fin 1024) :
    (outsAt0 m c t.val t.isLt).1 (ix3 0 r d)
      = result (kX m c) (kB m c) (kN m c) (kWi m c) (kCw m c) (kCb m c) (kWo m c) (kG m c) b p d := by
  by_cases h0 : t.val % 8 = 0
  · rw [out_A m c t h0, histA_eq]
    refine row_of m c t b _ (fun i f q hq => ?_) r p hp hb d
    exact (s_buf m c t b i f hb).trans (rows_early _ _ _ _ b q i f (by omega)).symm
  · have hk := lt64 t
    rw [out_B m c t h0]
    refine row_of m c t b _ (fun i f q hq => ?_) r p hp hb d
    have e := carry_at m c ⟨t.val - 1, Nat.lt_of_le_of_lt (Nat.sub_le _ _) t.isLt⟩
    rw [e, histB_apply]
    rw [gate_at m c ⟨t.val - 1, Nat.lt_of_le_of_lt (Nat.sub_le _ _) t.isLt⟩ b ⟨510 + i.val, by omega⟩ ⟨q.val - 2, by omega⟩ (by simp; omega) (by simp; omega) f]
    exact (rows_late _ _ _ _ b _ _ f (by simp; omega)).symm

/-- The first result. -/
theorem out_all (b : Fin 8) (p : Fin 4096) (d : Fin 1024) : Cert.Kernel2Ideal.Value.G9 m c (ix3 b p d)
    = result (kX m c) (kB m c) (kN m c) (kWi m c) (kCw m c) (kCb m c) (kWo m c) (kG m c) b p d := by
  have hv : Cert.Kernel2Ideal.Value.pt9Of (ix3 b p d) = 8 * b.val + p.val / 512 := by
    show 8 * (b.val / 1 - 0) + 1 * (p.val / 512 - 0) + 1 * (d.val / 1024 - 0) = _
    omega
  have hlt : Cert.Kernel2Ideal.Value.pt9Of (ix3 b p d) < cfg0.N := by
    rw [hv]; show _ < 64; omega
  unfold Cert.Kernel2Ideal.Value.G9
  rw [dif_pos hlt, ← Cert.Kernel2Ideal.Value.outsAt0_sweep m c _ hlt]
  have hl : Cert.Kernel2Ideal.Value.loc9Of (ix3 b p d) = ix3 0 ⟨p.val % 512, by omega⟩ d := by
    funext x; apply Fin.ext; fin_cases x
    · show b.val % 1 = 0; omega
    · rfl
    · show d.val % 1024 = d.val; omega
  rw [hl]
  exact row_at m c ⟨_, hlt⟩ b ⟨p.val % 512, by omega⟩ p (by simp only [hv]; omega) (by simp only [hv]; omega) d

/-- The second result. -/
theorem tail_all (b i : Fin 8) (f : Fin 2816) : Cert.Kernel2Ideal.Value.G10 m c (ix3 b i f)
    = tail (kX m c) (kB m c) (kN m c) (kWi m c) b i f := by
  have hv : Cert.Kernel2Ideal.Value.pt10Of (ix3 b i f) = 8 * b.val + 7 := by
    show 8 * (1 * (b.val / 1 - 0) + 1 * (i.val / 8 - 0) + 1 * (f.val / 2816 - 0)) + 7 = _
    omega
  have hlt : Cert.Kernel2Ideal.Value.pt10Of (ix3 b i f) < cfg0.N := by
    rw [hv]; show _ < 64; omega
  unfold Cert.Kernel2Ideal.Value.G10
  rw [dif_pos hlt, ← Cert.Kernel2Ideal.Value.outsAt0_sweep m c _ hlt]
  have hl : Cert.Kernel2Ideal.Value.loc10Of (ix3 b i f) = ix3 0 i f := by
    funext x; apply Fin.ext; fin_cases x
    · show b.val % 1 = 0; omega
    · show i.val % 8 = i.val; omega
    · show f.val % 2816 = f.val; omega
  rw [hl, tail_at m c ⟨_, hlt⟩, pay10_apply]
  rw [gate_at m c ⟨_, hlt⟩ b ⟨504 + i.val, by omega⟩ ⟨4088 + i.val, by omega⟩ (by simp only [hv]; omega) (by simp only [hv]; omega) f]
  unfold tail
  exact (rows_late _ _ _ _ b _ _ f (by simp; omega)).symm

end Cert.Kernel2Ideal.Ffn

end
-- ==== Proof.FfnRef.lean ====
/- The feed-forward reference, read at an index. -/
module

public import proofs.«01_k».proof.Proof.Gen.Reference2Ideal.Run
public import proofs.«01_k».proof.Proof.FfnWhole
public import Idealize.ShloMosaic.Lib.Pipeline.ValueKit
public import Idealize.ShloMosaic.PureOps.Ideal

@[expose] public section

set_option maxRecDepth 16384
set_option maxHeartbeats 400000

noncomputable section

namespace Cert.Reference2Ideal.Ffn

open Idealize.ShloMosaic Idealize.ShloMosaic.TcCoe Cert.Reference2Ideal Cert.Reference2Ideal.Gen Cert.Ffn
local notation "𝕀" => Idealize.ShloMosaic.Ideal

variable (x : FVec 𝕀 S8x4096x1024 .f32) (buf : FVec 𝕀 S8x2x2816 .f32) (n : FVec 𝕀 S1024 .f32) (wi : FVec 𝕀 S1024x5632 .f32)
  (cw : FVec 𝕀 S3x2816 .f32) (cb : FVec 𝕀 S2816 .f32) (wo : FVec 𝕀 S2816x1024 .f32) (gf : FVec 𝕀 S1024 .f32)

/-- The norm of the rows. -/
def normR : FVec 𝕀 S8x4096x1024 .f32 :=
  mulf (mulf x (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf x x) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 n))

variable (z : FVec 𝕀 S8x4096x1024 .f32) (y v h : FVec 𝕀 S8x4096x2816 .f32) (R : FVec 𝕀 S8x4098x2816 .f32)

/-- The gate and the values, of the normed rows. -/
def gateR : FVec 𝕀 S8x4096x2816 .f32 :=
  extractStridedSlice S8x4096x2816 ![0, 0, 0] (Host.dotGeneral dot_S8x4096x1024_S1024x5632_S8x4096x5632_2_0_01_1_n_n none z wi) slices_S8x4096x5632_S8x4096x2816_0_0_0
def valsR : FVec 𝕀 S8x4096x2816 .f32 :=
  extractStridedSlice S8x4096x2816 ![0, 0, 2816] (Host.dotGeneral dot_S8x4096x1024_S1024x5632_S8x4096x5632_2_0_01_1_n_n none z wi) slices_S8x4096x5632_S8x4096x2816_0_0_2816

/-- The gate after its history. -/
def rowsR : FVec 𝕀 S8x4098x2816 .f32 :=
  concatenate S8x4098x2816 1 [⟨S8x2x2816, buf⟩, ⟨S8x4096x2816, y⟩] concatenates_S8x2x2816_S8x4096x2816_S8x4098x2816_d1

/-- The convolution. -/
def convR : FVec 𝕀 S8x4096x2816 .f32 :=
  addf (addf (addf (mulf (extractStridedSlice S8x4096x2816 ![0, 0, 0] R slices_S8x4098x2816_S8x4096x2816_0_0_0) (broadcastInDim S8x4096x2816 ![0, 1, 2] bcast_S1x1x2816_S8x4096x2816_0_1_2 (broadcastInDim S1x1x2816 ![2] bcast_S2816_S1x1x2816_2 (shapeCast _ (extractStridedSlice S1x2816 ![0, 0] cw slices_S3x2816_S1x2816_0_0) shapeCasts_S1x2816_S2816)))) (mulf (extractStridedSlice S8x4096x2816 ![0, 1, 0] R slices_S8x4098x2816_S8x4096x2816_0_1_0) (broadcastInDim S8x4096x2816 ![0, 1, 2] bcast_S1x1x2816_S8x4096x2816_0_1_2 (broadcastInDim S1x1x2816 ![2] bcast_S2816_S1x1x2816_2 (shapeCast _ (extractStridedSlice S1x2816 ![1, 0] cw slices_S3x2816_S1x2816_1_0) shapeCasts_S1x2816_S2816))))) (mulf (extractStridedSlice S8x4096x2816 ![0, 2, 0] R slices_S8x4098x2816_S8x4096x2816_0_2_0) (broadcastInDim S8x4096x2816 ![0, 1, 2] bcast_S1x1x2816_S8x4096x2816_0_1_2 (broadcastInDim S1x1x2816 ![2] bcast_S2816_S1x1x2816_2 (shapeCast _ (extractStridedSlice S1x2816 ![2, 0] cw slices_S3x2816_S1x2816_2_0) shapeCasts_S1x2816_S2816))))) (broadcastInDim S8x4096x2816 ![0, 1, 2] bcast_S1x1x2816_S8x4096x2816_0_1_2 (broadcastInDim S1x1x2816 ![2] bcast_S2816_S1x1x2816_2 cb))

/-- The hidden rows. -/
def hidR : FVec 𝕀 S8x4096x2816 .f32 :=
  mulf (mulf y (Host.divf (broadcastInDim S8x4096x2816 ![] bcast_S_S8x4096x2816 (constant S_ .f32 0x3F800000#32)) (addf (broadcastInDim S8x4096x2816 ![] bcast_S_S8x4096x2816 (constant S_ .f32 0x3F800000#32)) (Host.exp (Host.negf y))))) v

/-- The rows before the last norm. -/
def resR : FVec 𝕀 S8x4096x1024 .f32 :=
  addf x (Host.dotGeneral dot_S8x4096x2816_S2816x1024_S8x4096x1024_2_0_01_1_n_n none h wo)

theorem normR_apply (b : Fin 8) (p : Fin 4096) (d : Fin 1024) :
    normR x n (ix3 b p d) = rms (fun d => x (ix3 b p d)) (fun d => n (ix1 d)) d := by
  unfold normR
  pointwise
  rfl

theorem gateR_apply (b : Fin 8) (p : Fin 4096) (f : Fin 2816) : gateR wi z (ix3 b p f)
    = Finset.univ.sum fun d : Fin 1024 => (z (ix3 b p d) * wi (ix2 d ⟨f.val, by omega⟩) : EReal) := by
  unfold gateR
  pointwise

theorem valsR_apply (b : Fin 8) (p : Fin 4096) (f : Fin 2816) : valsR wi z (ix3 b p f)
    = Finset.univ.sum fun d : Fin 1024 => (z (ix3 b p d) * wi (ix2 d ⟨2816 + f.val, by omega⟩) : EReal) := by
  unfold valsR
  pointwise

theorem rowsR_apply (b : Fin 8) (q : Fin 4098) (f : Fin 2816) : rowsR buf y (ix3 b q f)
    = if h : q.val < 2 then buf (ix3 b ⟨q.val, h⟩ f) else y (ix3 b ⟨q.val - 2, by omega⟩ f) := by
  unfold rowsR
  pointwise

theorem convR_apply (b : Fin 8) (p : Fin 4096) (f : Fin 2816) : convR cw cb R (ix3 b p f)
    = conv (R (ix3 b ⟨p.val, by omega⟩ f)) (R (ix3 b ⟨1 + p.val, by omega⟩ f)) (R (ix3 b ⟨2 + p.val, by omega⟩ f))
        (cw (ix2 0 f)) (cw (ix2 1 f)) (cw (ix2 2 f)) (cb (ix1 f)) := by
  unfold convR
  pointwise
  rfl

theorem hidR_apply (b : Fin 8) (p : Fin 4096) (f : Fin 2816) : hidR y v (ix3 b p f)
    = y (ix3 b p f) * sigm (y (ix3 b p f)) * v (ix3 b p f) := by
  rw [sigm_eq, one_eq, EReal.coe_one]
  unfold hidR
  pointwise

theorem resR_apply (b : Fin 8) (p : Fin 4096) (d : Fin 1024) : resR x wo h (ix3 b p d)
    = resid (fun d => x (ix3 b p d)) (fun f => h (ix3 b p f)) (fun f d => wo (ix2 f d)) d := by
  unfold resR
  pointwise
  rfl

/-- The arrays by their indices. -/
abbrev X := fun (b : Fin 8) (p : Fin 4096) (d : Fin 1024) => (x (ix3 b p d) : EReal)
abbrev B := fun (b : Fin 8) (i : Fin 2) (f : Fin 2816) => (buf (ix3 b i f) : EReal)
abbrev Nn := fun (d : Fin 1024) => (n (ix1 d) : EReal)
abbrev Wi := fun (d : Fin 1024) (f : Fin 5632) => (wi (ix2 d f) : EReal)
abbrev Cw := fun (k : Fin 3) (f : Fin 2816) => (cw (ix2 k f) : EReal)
abbrev Cb := fun (f : Fin 2816) => (cb (ix1 f) : EReal)
abbrev Wo := fun (f : Fin 2816) (d : Fin 1024) => (wo (ix2 f d) : EReal)

theorem gate_same (b : Fin 8) (p : Fin 4096) (f : Fin 2816) : gateR wi (normR x n) (ix3 b p f) = gate (X x) (Nn n) (Wi wi) b p f := by
  rw [gateR_apply]
  exact Finset.sum_congr rfl fun d _ => congrArg (fun u : EReal => u * wi (ix2 d ⟨f.val, by omega⟩)) (normR_apply x n b p d)

theorem vals_same (b : Fin 8) (p : Fin 4096) (f : Fin 2816) : valsR wi (normR x n) (ix3 b p f) = vals (X x) (Nn n) (Wi wi) b p f := by
  rw [valsR_apply]
  exact Finset.sum_congr rfl fun d _ => congrArg (fun u : EReal => u * wi (ix2 d ⟨2816 + f.val, by omega⟩)) (normR_apply x n b p d)

theorem rows_same (b : Fin 8) (q : Fin 4098) (f : Fin 2816) :
    rowsR buf (gateR wi (normR x n)) (ix3 b q f) = rows (X x) (B buf) (Nn n) (Wi wi) b q f := by
  rw [rowsR_apply]
  unfold rows
  split
  · rfl
  · exact gate_same x n wi b _ f

/-- The convolution of the arguments, and the hidden rows. -/
def cR : FVec 𝕀 S8x4096x2816 .f32 := convR cw cb (rowsR buf (gateR wi (normR x n)))
def hR : FVec 𝕀 S8x4096x2816 .f32 := hidR (cR x buf n wi cw cb) (valsR wi (normR x n))

theorem conv_same (b : Fin 8) (p : Fin 4096) (f : Fin 2816) :
    cR x buf n wi cw cb (ix3 b p f) = conved (X x) (B buf) (Nn n) (Wi wi) (Cw cw) (Cb cb) b p f := by
  unfold cR
  rw [convR_apply, rows_same, rows_same, rows_same]
  rfl

theorem hid_same (b : Fin 8) (p : Fin 4096) (f : Fin 2816) :
    hR x buf n wi cw cb (ix3 b p f) = hidden (X x) (B buf) (Nn n) (Wi wi) (Cw cw) (Cb cb) b p f := by
  unfold hR
  rw [hidR_apply, conv_same, vals_same]
  rfl

/-- The first result, and the second. -/
def outR : FVec 𝕀 S8x4096x1024 .f32 := normR (resR x wo (hR x buf n wi cw cb)) gf
def tailR : FVec 𝕀 S8x8x2816 .f32 :=
  extractStridedSlice S8x8x2816 ![0, 4090, 0] (rowsR buf (gateR wi (normR x n))) slices_S8x4098x2816_S8x8x2816_0_4090_0

theorem out_same (b : Fin 8) (p : Fin 4096) (d : Fin 1024) :
    outR x buf n wi cw cb wo gf (ix3 b p d) = result (X x) (B buf) (Nn n) (Wi wi) (Cw cw) (Cb cb) (Wo wo) (Nn gf) b p d := by
  unfold outR result
  rw [normR_apply]
  refine congrArg (fun a => rms a (Nn gf) d) ?_
  funext e
  refine (resR_apply x wo _ b p e).trans ?_
  exact congrArg (fun k => resid (X x b p) k (Wo wo) e) (funext fun f => hid_same x buf n wi cw cb b p f)

theorem slice_apply (b i : Fin 8) (f : Fin 2816) :
    extractStridedSlice S8x8x2816 ![0, 4090, 0] R slices_S8x4098x2816_S8x8x2816_0_4090_0 (ix3 b i f) = R (ix3 b ⟨4090 + i.val, by omega⟩ f) := by
  pointwise

theorem tail_same (b i : Fin 8) (f : Fin 2816) : tailR x buf n wi (ix3 b i f) = tail (X x) (B buf) (Nn n) (Wi wi) b i f := by
  unfold tailR tail
  rw [slice_apply, rows_same]

variable (m : (ℓ : Loc nD τ sig) → Buf (Elt 𝕀) ℓ) (c : Dev nD)

theorem res_eq : Cert.Reference2Ideal.Value.res_main_v56 m c
    = outR (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) := by
  unfold Cert.Reference2Ideal.Value.res_main_v56
  rfl

end Cert.Reference2Ideal.Ffn

end
-- ==== Proof.FfnSame.lean ====
/- The feed-forward kernel's results are the reference's, of the same arguments. -/
module

public import proofs.«01_k».proof.Proof.FfnOut
public import proofs.«01_k».proof.Proof.FfnRef

@[expose] public section

set_option maxRecDepth 16384

noncomputable section

namespace Cert.Kernel2Ideal.Ffn

open Idealize.ShloMosaic Idealize.ShloMosaic.TcCoe Cert.Kernel2Ideal Cert.Kernel2Ideal.Gen Cert.Ffn
local notation "𝕀" => Idealize.ShloMosaic.Ideal

variable (m : (ℓ : Loc nD τ sig) → Buf (Elt 𝕀) ℓ) (c : Dev nD)

theorem out_ref : Cert.Reference2Ideal.Ffn.outR (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
      = Cert.Kernel2Ideal.Value.G9 m c := by
  funext y
  rw [eq_ix3 y]
  refine (Cert.Reference2Ideal.Ffn.out_same _ _ _ _ _ _ _ _ (y 0) (y 1) (y 2)).trans ?_
  exact (out_all m c (y 0) (y 1) (y 2)).symm

theorem tail_ref : Cert.Reference2Ideal.Ffn.tailR (m ((c.tc : Thread nD τ).loc main_arg0)) (m ((c.tc : Thread nD τ).loc main_arg1))
    (m ((c.tc : Thread nD τ).loc main_arg2)) (m ((c.tc : Thread nD τ).loc main_arg3)) = Cert.Kernel2Ideal.Value.G10 m c := by
  funext y
  rw [eq_ix3 y]
  refine (Cert.Reference2Ideal.Ffn.tail_same _ _ _ _ (y 0) (y 1) (y 2)).trans ?_
  exact (tail_all m c (y 0) (y 1) (y 2)).symm

end Cert.Kernel2Ideal.Ffn

end
-- ==== Proof.MemMath.lean ====
/- A row of the normed rows times a weight of 512 columns. -/
module

public import proofs.«01_k».proof.Proof.FfnMath

@[expose] public section

noncomputable section

namespace Cert.Mem

open Idealize.ShloMosaic Cert.Ffn

/-- The row `a`, normed with the scale `g`, times the weights `w`. -/
def pj (a g : Fin 1024 → EReal) (w : Fin 1024 → Fin 512 → EReal) (f : Fin 512) : EReal := ∑ d, rms a g d * w d f

theorem pj_congr {a a' g g' : Fin 1024 → EReal} {w w' : Fin 1024 → Fin 512 → EReal} (f : Fin 512)
    (ha : ∀ d, a d = a' d) (hg : ∀ d, g d = g' d) (hw : ∀ d f, w d f = w' d f) : pj a g w f = pj a' g' w' f := by
  obtain rfl : a = a' := funext ha
  obtain rfl : g = g' := funext hg
  obtain rfl : w = w' := funext fun d => funext (hw d)
  rfl

end Cert.Mem

end
-- ==== Proof.MemKv.lean ====
/- The keys and the values of the memory: what the kernel leaves in its two results. -/
module

public import proofs.«01_k».proof.Proof.Gen.Kernel3Ideal.Value
public import proofs.«01_k».proof.Proof.MemMath
public import Idealize.ShloMosaic.Lib.Pipeline.ValueKit

@[expose] public section

set_option maxRecDepth 16384
set_option maxHeartbeats 400000

noncomputable section

namespace Cert.Kernel3Ideal.Kv

open Idealize.ShloMosaic Idealize.ShloMosaic.TcCoe Cert.Kernel3Ideal Cert.Kernel3Ideal.Gen Cert.Ffn Cert.Mem
local notation "𝕀" => Idealize.ShloMosaic.Ideal

section point

variable (x : FVec 𝕀 S512x1024 .f32) (n : FVec 𝕀 S1x1024 .f32) (w : FVec 𝕀 S1024x512 .bf16)

/-- The normed rows. -/
theorem pay1_apply (r : Fin 512) (d : Fin 1024) : k0_pay1 (F := 𝕀) x n (ix2 r d) = rms (fun d => x (ix2 r d)) (fun d => n (ix2 0 d)) d := by
  unfold k0_pay1
  pointwise
  rfl

/-- The keys' rows, and the values'. -/
theorem pay2_apply (r : Fin 512) (f : Fin 512) :
    k0_pay2 (F := 𝕀) x n w (ix2 r f) = pj (fun d => x (ix2 r d)) (fun d => n (ix2 0 d)) (fun d f => w (ix2 d f)) f := by
  unfold k0_pay2
  pointwise
  unfold pj
  exact Finset.sum_congr rfl fun d _ => congrArg (fun z : EReal => z * w (ix2 d f)) (pay1_apply x n r d)

theorem pay3_apply (r : Fin 512) (f : Fin 512) :
    k0_pay3 (F := 𝕀) x n w (ix2 r f) = pj (fun d => x (ix2 r d)) (fun d => n (ix2 0 d)) (fun d f => w (ix2 d f)) f := by
  unfold k0_pay3
  pointwise
  unfold pj
  exact Finset.sum_congr rfl fun d _ => congrArg (fun z : EReal => z * w (ix2 d f)) (pay1_apply x n r d)

end point

/-- The windows' block indices at every point: four tiles of rows, and whole arrays. -/
theorem idx : ∀ t : Fin cfg0.N, (cfg0.win 0).index t = ![t.val, 0] ∧ (cfg0.win 1).index t = ![0, 0] ∧ (cfg0.win 2).index t = ![0, 0]
    ∧ (cfg0.win 3).index t = ![0, 0] ∧ (cfg0.win 4).index t = ![t.val, 0] ∧ (cfg0.win 5).index t = ![t.val, 0] := by decide +kernel

variable (m : (ℓ : Loc nD τ sig) → Buf (Elt 𝕀) ℓ) (c : Dev nD) (t : Fin cfg0.N)

theorem lt4 (t : Fin cfg0.N) : t.val < 4 := t.isLt

theorem blk_x (r : Fin 512) (d : Fin 1024) : iblk m c 0 t (ix2 r d)
    = V m c main_v0 (ix2 ⟨512 * t.val + r.val, by have := lt4 t; omega⟩ d) := by
  blk_ext [iblk, idx t]
theorem blk_n (d : Fin 1024) : iblk m c 1 t (ix2 0 d) = V m c main_v1 (ix2 0 d) := by blk_ext [iblk, idx t]
theorem blk_k (d : Fin 1024) (f : Fin 512) : iblk m c 2 t (ix2 d f) = V m c main_v2 (ix2 d f) := by blk_ext [iblk, idx t]
theorem blk_v (d : Fin 1024) (f : Fin 512) : iblk m c 3 t (ix2 d f) = V m c main_v3 (ix2 d f) := by blk_ext [iblk, idx t]

/-- What the host's lines before the kernel leave: the rows of all batches after one another, and the weights narrowed. -/
def flat (s : FVec 𝕀 S8x256x1024 .f32) : FVec 𝕀 S2048x1024 .f32 := shapeCast S2048x1024 s shapeCasts_S8x256x1024_S2048x1024
def rowN (s : FVec 𝕀 S1024 .f32) : FVec 𝕀 S1x1024 .f32 := shapeCast S1x1024 s shapeCasts_S1024_S1x1024
def slim (w : FVec 𝕀 S1024x512 .f32) : FVec 𝕀 S1024x512 .bf16 := truncf .bf16 w bitsLt_bf16_f32

theorem flat_apply (s : FVec 𝕀 S8x256x1024 .f32) (p : Fin 2048) (d : Fin 1024) :
    flat s (ix2 p d) = s (ix3 ⟨p.val / 256, by omega⟩ ⟨p.val % 256, by omega⟩ d) := by
  unfold flat
  pointwise
theorem rowN_apply (s : FVec 𝕀 S1024 .f32) (d : Fin 1024) : rowN s (ix2 0 d) = s (ix1 d) := by
  unfold rowN
  pointwise
theorem slim_apply (w : FVec 𝕀 S1024x512 .f32) (d : Fin 1024) (f : Fin 512) : slim w (ix2 d f) = w (ix2 d f) := by
  unfold slim
  pointwise

theorem in_x : V m c main_v0 = flat (m ((c : Thread nD τ).loc main_arg0)) := by
  show StableHlo.after hostOps0 (fun b => m (c, b)) (Proc.devRef .tc main_v0) = _
  unfold hostOps0
  after_results_simp
  rfl
theorem in_n : V m c main_v1 = rowN (m ((c : Thread nD τ).loc main_arg1)) := by
  show StableHlo.after hostOps0 (fun b => m (c, b)) (Proc.devRef .tc main_v1) = _
  unfold hostOps0
  after_results_simp
  rfl
theorem in_k : V m c main_v2 = slim (m ((c : Thread nD τ).loc main_arg2)) := by
  show StableHlo.after hostOps0 (fun b => m (c, b)) (Proc.devRef .tc main_v2) = _
  unfold hostOps0
  after_results_simp
  rfl
theorem in_v : V m c main_v3 = slim (m ((c : Thread nD τ).loc main_arg3)) := by
  show StableHlo.after hostOps0 (fun b => m (c, b)) (Proc.devRef .tc main_v3) = _
  unfold hostOps0
  after_results_simp
  rfl

/-- The normed memory times a weight, batch after batch. -/
def res (a : FVec 𝕀 S8x256x1024 .f32) (n : FVec 𝕀 S1024 .f32) (w : FVec 𝕀 S1024x512 .f32) (p : Fin 2048) (f : Fin 512) : EReal :=
  pj (fun d => a (ix3 ⟨p.val / 256, by omega⟩ ⟨p.val % 256, by omega⟩ d)) (fun d => n (ix1 d)) (fun d f => w (ix2 d f)) f

theorem row_k (r f : Fin 512) : k0_pay2 (F := 𝕀) (iblk m c 0 t) (iblk m c 1 t) (iblk m c 2 t) (ix2 r f)
    = res (m ((c : Thread nD τ).loc main_arg0)) (m ((c : Thread nD τ).loc main_arg1)) (m ((c : Thread nD τ).loc main_arg2))
        ⟨512 * t.val + r.val, by have := lt4 t; omega⟩ f := by
  refine (pay2_apply _ _ _ r f).trans (pj_congr f (fun d => ?_) (fun d => ?_) (fun d f => ?_))
  · rw [blk_x, in_x]; exact flat_apply _ _ d
  · rw [blk_n, in_n]; exact rowN_apply _ d
  · rw [blk_k, in_k]; exact slim_apply _ d f

theorem row_v (r f : Fin 512) : k0_pay3 (F := 𝕀) (iblk m c 0 t) (iblk m c 1 t) (iblk m c 3 t) (ix2 r f)
    = res (m ((c : Thread nD τ).loc main_arg0)) (m ((c : Thread nD τ).loc main_arg1)) (m ((c : Thread nD τ).loc main_arg3))
        ⟨512 * t.val + r.val, by have := lt4 t; omega⟩ f := by
  refine (pay3_apply _ _ _ r f).trans (pj_congr f (fun d => ?_) (fun d => ?_) (fun d f => ?_))
  · rw [blk_x, in_x]; exact flat_apply _ _ d
  · rw [blk_n, in_n]; exact rowN_apply _ d
  · rw [blk_v, in_v]; exact slim_apply _ d f

/-- Where a block of the results lies. -/
theorem emb4 (y : S512x512.Idx) : ((cfg0.win 4).blk t).view.emb y = (ix2 ⟨512 * t.val + (y 0).val, by have := lt4 t; have := (y 0).isLt; simp at this; omega⟩ (y 1) : S2048x512.Idx) := by
  blk_ext [idx t]
theorem emb5 (y : S512x512.Idx) : ((cfg0.win 5).blk t).view.emb y = (ix2 ⟨512 * t.val + (y 0).val, by have := lt4 t; have := (y 0).isLt; simp at this; omega⟩ (y 1) : S2048x512.Idx) := by
  blk_ext [idx t]

/-- The keys. -/
theorem final_k : (dats m 0 c).arrAt 4 cfg0.N = (fun y => res (m ((c : Thread nD τ).loc main_arg0)) (m ((c : Thread nD τ).loc main_arg1))
    (m ((c : Thread nD τ).loc main_arg2)) (y 0) (y 1) : S2048x512.Idx → EReal) := by
  refine (dats m 0 c).arrAt_eq_of_covers 4 _ (by decide +kernel) fun t _ y => ?_
  blk_simp [idx t]
  rw [after0_4]
  frame_out
  refine Eq.trans ?_ (congrArg (fun i : S2048x512.Idx => res (m ((c : Thread nD τ).loc main_arg0)) (m ((c : Thread nD τ).loc main_arg1))
    (m ((c : Thread nD τ).loc main_arg2)) (i 0) (i 1)) (emb4 t y).symm)
  refine (congrArg _ (eq_ix2 (n0 := 512) (n1 := 512) y)).trans ?_
  exact row_k m c t (y 0) (y 1)

/-- The values. -/
theorem final_v : (dats m 0 c).arrAt 5 cfg0.N = (fun y => res (m ((c : Thread nD τ).loc main_arg0)) (m ((c : Thread nD τ).loc main_arg1))
    (m ((c : Thread nD τ).loc main_arg3)) (y 0) (y 1) : S2048x512.Idx → EReal) := by
  refine (dats m 0 c).arrAt_eq_of_covers 5 _ (by decide +kernel) fun t _ y => ?_
  blk_simp [idx t]
  rw [after0_5]
  frame_out
  refine Eq.trans ?_ (congrArg (fun i : S2048x512.Idx => res (m ((c : Thread nD τ).loc main_arg0)) (m ((c : Thread nD τ).loc main_arg1))
    (m ((c : Thread nD τ).loc main_arg3)) (i 0) (i 1)) (emb5 t y).symm)
  refine (congrArg _ (eq_ix2 (n0 := 512) (n1 := 512) y)).trans ?_
  exact row_v m c t (y 0) (y 1)

end Cert.Kernel3Ideal.Kv

end
-- ==== Proof.MemKvRef.lean ====
/- The reference of the memory's keys and values, read at an index. -/
module

public import proofs.«01_k».proof.Proof.Gen.Reference3Ideal.Run
public import proofs.«01_k».proof.Proof.MemMath
public import Idealize.ShloMosaic.Lib.Pipeline.ValueKit
public import Idealize.ShloMosaic.PureOps.Ideal

@[expose] public section

set_option maxRecDepth 16384
set_option maxHeartbeats 400000

noncomputable section

namespace Cert.Reference3Ideal.Kv

open Idealize.ShloMosaic Idealize.ShloMosaic.TcCoe Cert.Reference3Ideal Cert.Reference3Ideal.Gen Cert.Ffn Cert.Mem
local notation "𝕀" => Idealize.ShloMosaic.Ideal

variable (x : FVec 𝕀 S8x256x1024 .f32) (n : FVec 𝕀 S1024 .f32) (w : FVec 𝕀 S1024x512 .f32)

/-- The norm of the memory's rows. -/
def normR : FVec 𝕀 S8x256x1024 .f32 :=
  mulf (mulf x (broadcastInDim S8x256x1024 ![0, 1, 2] bcast_S8x256x1_S8x256x1024_0_1_2 (Host.rsqrt (addf (Host.divf (broadcastInDim S8x256x1 ![0, 1] bcast_S8x256_S8x256x1_0_1 (Host.reduceAdd (mulf x x) (constant S_ .f32 0x00000000#32) reducesTo_S8x256x1024_S8x256_d2 h_S_)) (broadcastInDim S8x256x1 ![] bcast_S_S8x256x1 (constant S_ .f32 0x44800000#32))) (broadcastInDim S8x256x1 ![] bcast_S_S8x256x1 (constant S_ .f32 0x358637BD#32)))))) (broadcastInDim S8x256x1024 ![0, 1, 2] bcast_S1x1x1024_S8x256x1024_0_1_2 (broadcastInDim S1x1x1024 ![2] bcast_S1024_S1x1x1024_2 n))

theorem normR_apply (b : Fin 8) (p : Fin 256) (d : Fin 1024) :
    normR x n (ix3 b p d) = rms (fun d => x (ix3 b p d)) (fun d => n (ix1 d)) d := by
  unfold normR
  pointwise
  rfl

variable (z : FVec 𝕀 S8x256x1024 .f32)

/-- Rows times a weight, batch after batch. -/
def dotR : FVec 𝕀 S2048x512 .f32 :=
  shapeCast _ (Host.dotGeneral dot_S8x256x1024_S1024x512_S8x256x512_2_0_01_1_n_n none z w) shapeCasts_S8x256x512_S2048x512

theorem dotR_apply (p : Fin 2048) (f : Fin 512) : dotR w z (ix2 p f)
    = Finset.univ.sum fun d : Fin 1024 => (z (ix3 ⟨p.val / 256, by omega⟩ ⟨p.val % 256, by omega⟩ d) * w (ix2 d f) : EReal) := by
  unfold dotR
  pointwise

theorem out_same (p : Fin 2048) (f : Fin 512) : dotR w (normR x n) (ix2 p f)
    = pj (fun d => x (ix3 ⟨p.val / 256, by omega⟩ ⟨p.val % 256, by omega⟩ d)) (fun d => n (ix1 d)) (fun d f => w (ix2 d f)) f := by
  rw [dotR_apply]
  unfold pj
  exact Finset.sum_congr rfl fun d _ => congrArg (fun u : EReal => u * w (ix2 d f)) (normR_apply x n _ _ d)

end Cert.Reference3Ideal.Kv

end
-- ==== Proof.MixMath.lean ====
/- A row of the mixed heads added to the input, and its attention over the memory, in plain sums of extended reals. -/
module

public import proofs.«01_k».proof.Proof.MemMath

@[expose] public section

noncomputable section

namespace Cert.Mem

open Idealize.ShloMosaic Cert.Ffn

/-- The three heads' columns beside one another. -/
def beside (a : Fin 384 → EReal) (b : Fin 256 → EReal) (c : Fin 384 → EReal) (e : Fin 1024) : EReal :=
  if h : e.val < 384 then a ⟨e.val, h⟩
  else if h' : e.val - 384 < 256 then b ⟨e.val - 384, h'⟩ else c ⟨e.val - 384 - 256, by omega⟩

/-- The row `x` plus the mixed heads times `w`. -/
def mixed (x : Fin 1024 → EReal) (a : Fin 384 → EReal) (b : Fin 256 → EReal) (c : Fin 384 → EReal) (w : Fin 1024 → Fin 1024 → EReal)
    (d : Fin 1024) : EReal := x d + ∑ e, beside a b c e * w e d

/-- The scores' factor, and the word the largest score starts from. -/
def factor : EReal := Ideal.ofBits .f32 0x3DB504F3#32
def low : EReal := Ideal.ofBits .f32 0xFF800000#32

/-- The largest of the scores `s`. -/
def most (s : Fin 256 → EReal) : EReal := Finset.fold max low s Finset.univ

/-- The weight of entry `j` under the scores `s`. -/
def soft (s : Fin 256 → EReal) (j : Fin 256) : EReal :=
  Ideal.div (Ideal.exp (s j - most s)) (∑ i, Ideal.exp (s i - most s))

/-- The score of the query `q` at the memory's entry `j`. -/
def score (q : Fin 128 → EReal) (k : Fin 256 → Fin 128 → EReal) (j : Fin 256) : EReal := (∑ d, q d * k j d) * factor

/-- One column of a head: the values weighted. -/
def head (q : Fin 128 → EReal) (k : Fin 256 → Fin 128 → EReal) (v : Fin 256 → EReal) : EReal := ∑ j, soft (score q k) j * v j

/-- Column `h * 128 + e` of the four heads. -/
def slot (h : Fin 4) (e : Fin 128) : Fin 512 := ⟨h.val * 128 + e.val, by omega⟩

/-- Column `f` of the four heads beside one another. -/
def heads (q : Fin 512 → EReal) (k v : Fin 256 → Fin 512 → EReal) (f : Fin 512) : EReal :=
  head (fun d => q (slot ⟨f.val / 128, by omega⟩ d)) (fun j d => k j (slot ⟨f.val / 128, by omega⟩ d)) fun j => v j f

theorem heads_slot (q : Fin 512 → EReal) (k v : Fin 256 → Fin 512 → EReal) (h : Fin 4) (e : Fin 128) :
    heads q k v (slot h e) = head (fun d => q (slot h d)) (fun j d => k j (slot h d)) fun j => v j (slot h e) := by
  unfold heads
  have e1 : (⟨(slot h e).val / 128, by omega⟩ : Fin 4) = h := Fin.ext (by simp only [slot]; omega)
  rw [e1]

/-- A row of the result. -/
def over (y : Fin 1024 → EReal) (n : Fin 1024 → EReal) (wq : Fin 1024 → Fin 512 → EReal) (k v : Fin 256 → Fin 512 → EReal)
    (wo : Fin 512 → Fin 1024 → EReal) (d : Fin 1024) : EReal := y d + ∑ f, heads (pj y n wq) k v f * wo f d

theorem mixed_congr {x x' : Fin 1024 → EReal} {a a' : Fin 384 → EReal} {b b' : Fin 256 → EReal} {c c' : Fin 384 → EReal}
    {w w' : Fin 1024 → Fin 1024 → EReal} (hx : ∀ d, x d = x' d) (ha : ∀ d, a d = a' d) (hb : ∀ d, b d = b' d) (hc : ∀ d, c d = c' d)
    (hw : ∀ e d, w e d = w' e d) : mixed x a b c w = mixed x' a' b' c' w' := by
  obtain rfl : x = x' := funext hx
  obtain rfl : a = a' := funext ha
  obtain rfl : b = b' := funext hb
  obtain rfl : c = c' := funext hc
  obtain rfl : w = w' := funext fun e => funext (hw e)
  rfl

theorem over_congr {y y' n n' : Fin 1024 → EReal} {wq wq' : Fin 1024 → Fin 512 → EReal} {k k' v v' : Fin 256 → Fin 512 → EReal}
    {wo wo' : Fin 512 → Fin 1024 → EReal} (d : Fin 1024) (hy : y = y') (hn : ∀ d, n d = n' d) (hq : ∀ d f, wq d f = wq' d f)
    (hk : ∀ j f, k j f = k' j f) (hv : ∀ j f, v j f = v' j f) (ho : ∀ f d, wo f d = wo' f d) :
    over y n wq k v wo d = over y' n' wq' k' v' wo' d := by
  subst hy
  obtain rfl : n = n' := funext hn
  obtain rfl : wq = wq' := funext fun e => funext (hq e)
  obtain rfl : k = k' := funext fun e => funext (hk e)
  obtain rfl : v = v' := funext fun e => funext (hv e)
  obtain rfl : wo = wo' := funext fun e => funext (ho e)
  rfl

theorem head_congr {q q' : Fin 128 → EReal} {k k' : Fin 256 → Fin 128 → EReal} {v v' : Fin 256 → EReal} (hq : ∀ d, q d = q' d)
    (hk : ∀ j d, k j d = k' j d) (hv : ∀ j, v j = v' j) : head q k v = head q' k' v' := by
  obtain rfl : q = q' := funext hq
  obtain rfl : k = k' := funext fun e => funext (hk e)
  obtain rfl : v = v' := funext hv
  rfl

end Cert.Mem

end
-- ==== Proof.MixPay.lean ====
/- What the kernel of the mixed heads and the memory computes of its blocks, read at an index. -/
module

public import proofs.«01_k».proof.Proof.Gen.Kernel4Ideal.Value
public import proofs.«01_k».proof.Proof.MixMath
public import Idealize.ShloMosaic.Lib.Pipeline.ValueKit

@[expose] public section

set_option maxRecDepth 16384
set_option maxHeartbeats 400000

noncomputable section

namespace Cert.Kernel4Ideal.Mix

open Idealize.ShloMosaic Idealize.ShloMosaic.TcCoe Cert.Kernel4Ideal Cert.Kernel4Ideal.Gen Cert.Ffn Cert.Mem
local notation "𝕀" => Idealize.ShloMosaic.Ideal

section mixed

variable (x : FVec 𝕀 S1x512x1024 .f32) (a : FVec 𝕀 S1x512x384 .f32) (b : FVec 𝕀 S1x512x256 .f32) (c : FVec 𝕀 S1x512x384 .f32) (w : FVec 𝕀 S1024x1024 .bf16)
  (n : FVec 𝕀 S1x1024 .f32) (wq : FVec 𝕀 S1024x512 .bf16)

/-- The rows with the mixed heads added. -/
theorem pay2_apply (r : Fin 512) (d : Fin 1024) : k0_pay2 (F := 𝕀) x a b c w (ix2 r d)
    = mixed (fun d => x (ix3 0 r d)) (fun d => a (ix3 0 r d)) (fun d => b (ix3 0 r d)) (fun d => c (ix3 0 r d)) (fun e d => w (ix2 e d)) d := by
  unfold k0_pay2
  pointwise
  rfl

/-- Rows normed and times the queries' weights. -/
def ask (y : FVec 𝕀 S512x1024 .f32) : FVec 𝕀 S512x512 .f32 :=
  matmul dot_S512x1024_S1024x512_S512x512_1_0_0_1_n_n none (truncf .bf16 (mulf (mulf y (broadcastTo S512x1024 (Idealize.ShloMosaic.rsqrt (addf (divf (shapeCast S512x1 (multiReduction .add [1] S512 (mulf y y) 0x00000000#32 reduces_S512x1024_S512 (.inl rfl) rfl) shapeCasts_S512_S512x1) (broadcast S512x1 (Scalar.ofBits .f32 0x44800000#32))) (broadcast S512x1 (Scalar.ofBits .f32 0x358637BD#32)))) broadcasts_S512x1_S512x1024)) (broadcastTo S512x1024 (shapeCast S1x1024 n shapeCasts_S1x1024_S1x1024) broadcasts_S1x1024_S512x1024)) bitsLt_bf16_f32) (shapeCast S1024x512 wq shapeCasts_S1024x512_S1024x512) (constant S512x512 .f32 0x00000000#32)

theorem ask_apply (y : FVec 𝕀 S512x1024 .f32) (r f : Fin 512) : ask n wq y (ix2 r f)
    = pj (fun d => y (ix2 r d)) (fun d => n (ix2 0 d)) (fun d f => wq (ix2 d f)) f := by
  unfold ask
  pointwise
  rfl

theorem pay3_eq : k0_pay3 (F := 𝕀) x a b c w n wq = ask n wq (k0_pay2 x a b c w) := rfl

end mixed

section heads

variable (q : FVec 𝕀 S1x512x128 .f32) (k v : FVec 𝕀 S1x256x128 .f32)

/-- One head of the attention over the memory. -/
theorem pay5_apply (r : Fin 512) (e : Fin 128) : k0_pay5 (F := 𝕀) q k v (ix2 r e)
    = head (fun d => q (ix3 0 r d)) (fun j d => k (ix3 0 j d)) fun j => v (ix3 0 j e) := by
  unfold k0_pay5
  pointwise
  rfl

variable (z : FVec 𝕀 S512x512 .f32)

/-- The queries of the four heads. -/
def part0 : FVec 𝕀 S1x512x128 .f32 := shapeCast S1x512x128 (extractStridedSlice S512x128 ![0, 0] z slices_S512x512_o0_0_S512x128) shapeCasts_S512x128_S1x512x128
def part1 : FVec 𝕀 S1x512x128 .f32 := shapeCast S1x512x128 (extractStridedSlice S512x128 ![0, 128] z slices_S512x512_o0_128_S512x128) shapeCasts_S512x128_S1x512x128
def part2 : FVec 𝕀 S1x512x128 .f32 := shapeCast S1x512x128 (extractStridedSlice S512x128 ![0, 256] z slices_S512x512_o0_256_S512x128) shapeCasts_S512x128_S1x512x128
def part3 : FVec 𝕀 S1x512x128 .f32 := shapeCast S1x512x128 (extractStridedSlice S512x128 ![0, 384] z slices_S512x512_o0_384_S512x128) shapeCasts_S512x128_S1x512x128

theorem part0_apply (r : Fin 512) (d : Fin 128) : part0 z (ix3 0 r d) = z (ix2 r (slot 0 d)) := by
  unfold part0
  pointwise
  exact congrArg (fun f => z (ix2 r f)) (Fin.ext (by simp [slot]))
theorem part1_apply (r : Fin 512) (d : Fin 128) : part1 z (ix3 0 r d) = z (ix2 r (slot 1 d)) := by
  unfold part1
  pointwise
  exact congrArg (fun f => z (ix2 r f)) (Fin.ext (by simp [slot]))
theorem part2_apply (r : Fin 512) (d : Fin 128) : part2 z (ix3 0 r d) = z (ix2 r (slot 2 d)) := by
  unfold part2
  pointwise
  exact congrArg (fun f => z (ix2 r f)) (Fin.ext (by simp [slot]))
theorem part3_apply (r : Fin 512) (d : Fin 128) : part3 z (ix3 0 r d) = z (ix2 r (slot 3 d)) := by
  unfold part3
  pointwise
  exact congrArg (fun f => z (ix2 r f)) (Fin.ext (by simp [slot]))

theorem second : k0_pay8 (k0_pay6 z k) (k0_pay7 v) = k0_pay5 (part1 z) k v := rfl
theorem third : k0_pay9 z k v = k0_pay5 (part2 z) k v := rfl

/-- The four heads beside one another, times the output weights, added to the rows. -/
def glue (y : FVec 𝕀 S512x1024 .f32) (h0 h1 h2 h3 : FVec 𝕀 S512x128 .f32) (wo : FVec 𝕀 S512x1024 .bf16) : FVec 𝕀 S1x512x1024 .f32 :=
  shapeCast S1x512x1024 (addf y (matmul dot_S512x512_S512x1024_S512x1024_1_0_0_1_n_n none (truncf .bf16 (concatenate S512x512 1 [⟨S512x128, h0⟩, ⟨S512x128, h1⟩, ⟨S512x128, h2⟩, ⟨S512x128, h3⟩] concatenates_S512x128_S512x128_S512x128_S512x128_S512x512_d1) bitsLt_bf16_f32) (shapeCast S512x1024 wo shapeCasts_S512x1024_S512x1024) (constant S512x1024 .f32 0x00000000#32))) shapeCasts_S512x1024_S1x512x1024

variable (y : FVec 𝕀 S512x1024 .f32) (h0 h1 h2 h3 : FVec 𝕀 S512x128 .f32) (wo : FVec 𝕀 S512x1024 .bf16)

theorem last : k0_pay1 y h0 h1 h2 v (k0_pay10 z k) wo = glue y h0 h1 h2 (k0_pay5 (part3 z) k v) wo := rfl

theorem glue_apply (r : Fin 512) (d : Fin 1024) (g : Fin 512 → EReal) (e0 : ∀ e, h0 (ix2 r e) = g (slot 0 e)) (e1 : ∀ e, h1 (ix2 r e) = g (slot 1 e))
    (e2 : ∀ e, h2 (ix2 r e) = g (slot 2 e)) (e3 : ∀ e, h3 (ix2 r e) = g (slot 3 e)) :
    glue y h0 h1 h2 h3 wo (ix3 0 r d) = (y (ix2 r d) + ∑ f, g f * wo (ix2 f d) : EReal) := by
  unfold glue
  pointwise
  simp only [e0, e1, e2, e3]
  refine congrArg (fun s : EReal => y (ix2 r d) + s) (Finset.sum_congr rfl fun f _ => congrArg (fun s : EReal => s * wo (ix2 f d)) ?_)
  split_ifs with i0 i1 i2 <;> exact congrArg g (Fin.ext (by simp only [slot]; omega))

/-- The whole of the result's block, the memory's columns read in four parts. -/
def whole (y : FVec 𝕀 S512x1024 .f32) (n : FVec 𝕀 S1x1024 .f32) (wq : FVec 𝕀 S1024x512 .bf16) (k0 k1 k2 k3 v0 v1 v2 v3 : FVec 𝕀 S1x256x128 .f32)
    (wo : FVec 𝕀 S512x1024 .bf16) : FVec 𝕀 S1x512x1024 .f32 :=
  glue y (k0_pay5 (part0 (ask n wq y)) k0 v0) (k0_pay5 (part1 (ask n wq y)) k1 v1) (k0_pay5 (part2 (ask n wq y)) k2 v2)
    (k0_pay5 (part3 (ask n wq y)) k3 v3) wo

/-- One head of the block is the head of the row. -/
theorem one (h : Fin 4) (p : FVec 𝕀 S1x512x128 .f32) (n : FVec 𝕀 S1x1024 .f32) (wq : FVec 𝕀 S1024x512 .bf16) (r : Fin 512) (e : Fin 128)
    (hp : ∀ d, p (ix3 0 r d) = ask n wq y (ix2 r (slot h d))) (K W : Fin 256 → Fin 512 → EReal)
    (hk : ∀ j d, k (ix3 0 j d) = K j (slot h d)) (hv : ∀ j d, v (ix3 0 j d) = W j (slot h d)) :
    k0_pay5 (F := 𝕀) p k v (ix2 r e)
      = heads (pj (fun d => y (ix2 r d)) (fun d => n (ix2 0 d)) fun d f => wq (ix2 d f)) K W (slot h e) :=
  (pay5_apply p k v r e).trans ((head_congr (fun d => (hp d).trans (ask_apply n wq y r _)) hk fun j => hv j e).trans (heads_slot _ K W h e).symm)

theorem whole_apply (n : FVec 𝕀 S1x1024 .f32) (wq : FVec 𝕀 S1024x512 .bf16) (k0 k1 k2 k3 v0 v1 v2 v3 : FVec 𝕀 S1x256x128 .f32)
    (K W : Fin 256 → Fin 512 → EReal) (r : Fin 512) (d : Fin 1024)
    (hk0 : ∀ j d, k0 (ix3 0 j d) = K j (slot 0 d)) (hk1 : ∀ j d, k1 (ix3 0 j d) = K j (slot 1 d))
    (hk2 : ∀ j d, k2 (ix3 0 j d) = K j (slot 2 d)) (hk3 : ∀ j d, k3 (ix3 0 j d) = K j (slot 3 d))
    (hv0 : ∀ j d, v0 (ix3 0 j d) = W j (slot 0 d)) (hv1 : ∀ j d, v1 (ix3 0 j d) = W j (slot 1 d))
    (hv2 : ∀ j d, v2 (ix3 0 j d) = W j (slot 2 d)) (hv3 : ∀ j d, v3 (ix3 0 j d) = W j (slot 3 d)) :
    whole y n wq k0 k1 k2 k3 v0 v1 v2 v3 wo (ix3 0 r d)
      = over (fun d => y (ix2 r d)) (fun d => n (ix2 0 d)) (fun d f => wq (ix2 d f)) K W (fun f d => wo (ix2 f d)) d :=
  glue_apply y _ _ _ _ wo r d _ (fun e => one k0 v0 y 0 _ n wq r e (part0_apply _ r) K W hk0 hv0)
    (fun e => one k1 v1 y 1 _ n wq r e (part1_apply _ r) K W hk1 hv1) (fun e => one k2 v2 y 2 _ n wq r e (part2_apply _ r) K W hk2 hv2)
    fun e => one k3 v3 y 3 _ n wq r e (part3_apply _ r) K W hk3 hv3

/-- The kernel's block is that one. -/
theorem block (x : FVec 𝕀 S1x512x1024 .f32) (a : FVec 𝕀 S1x512x384 .f32) (b : FVec 𝕀 S1x512x256 .f32) (c : FVec 𝕀 S1x512x384 .f32)
    (w : FVec 𝕀 S1024x1024 .bf16) (n : FVec 𝕀 S1x1024 .f32) (wq : FVec 𝕀 S1024x512 .bf16) (k0 k1 k2 k3 v0 v1 v2 v3 : FVec 𝕀 S1x256x128 .f32) :
    k0_pay1 (k0_pay2 x a b c w) (k0_pay5 (k0_pay4 x a b c w n wq) k0 v0) (k0_pay8 (k0_pay6 (k0_pay3 x a b c w n wq) k1) (k0_pay7 v1))
      (k0_pay9 (k0_pay3 x a b c w n wq) k2 v2) v3 (k0_pay10 (k0_pay3 x a b c w n wq) k3) wo
    = whole (k0_pay2 x a b c w) n wq k0 k1 k2 k3 v0 v1 v2 v3 wo := by
  have e4 : k0_pay4 x a b c w n wq = part0 (k0_pay3 x a b c w n wq) := rfl
  rw [last, second, third, e4, pay3_eq]
  rfl

end heads

end Cert.Kernel4Ideal.Mix

end
-- ==== Proof.MixOut.lean ====
/- The mixed heads and the memory's attention: what the kernel leaves in its result. -/
module

public import proofs.«01_k».proof.Proof.MixPay

@[expose] public section

set_option maxRecDepth 16384
set_option maxHeartbeats 400000

noncomputable section

namespace Cert.Kernel4Ideal.Mix

open Idealize.ShloMosaic Idealize.ShloMosaic.TcCoe Cert.Kernel4Ideal Cert.Kernel4Ideal.Gen Cert.Ffn Cert.Mem
local notation "𝕀" => Idealize.ShloMosaic.Ideal

/-- The windows' block indices at every point: eight tiles of rows in each of eight batches, the batch's memory, and whole arrays. -/
theorem idx : ∀ t : Fin cfg0.N, (cfg0.win 0).index t = ![t.val / 8, t.val % 8, 0] ∧ (cfg0.win 1).index t = ![t.val / 8, t.val % 8, 0]
    ∧ (cfg0.win 2).index t = ![t.val / 8, t.val % 8, 0] ∧ (cfg0.win 3).index t = ![t.val / 8, t.val % 8, 0] ∧ (cfg0.win 4).index t = ![0, 0]
    ∧ (cfg0.win 5).index t = ![0, 0] ∧ (cfg0.win 6).index t = ![0, 0] ∧ (cfg0.win 7).index t = ![t.val / 8, 0, 0]
    ∧ (cfg0.win 8).index t = ![t.val / 8, 0, 0] ∧ (cfg0.win 9).index t = ![0, 0] ∧ (cfg0.win 10).index t = ![t.val / 8, t.val % 8, 0] := by
  decide +kernel

variable (m : (ℓ : Loc nD τ sig) → Buf (Elt 𝕀) ℓ) (c : Dev nD) (t : Fin cfg0.N)

theorem lt64 (t : Fin cfg0.N) : t.val < 64 := t.isLt

/-- The batch of a point, and the row of a row of its tile. -/
def bat (t : Fin cfg0.N) : Fin 8 := ⟨t.val / 8, by have := lt64 t; omega⟩
def rowOf (t : Fin cfg0.N) (r : Fin 512) : Fin 4096 := ⟨512 * (t.val % 8) + r.val, by omega⟩

theorem blk_x (r : Fin 512) (d : Fin 1024) : iblk m c 0 t (ix3 0 r d) = V m c main_arg0 (ix3 (bat t) (rowOf t r) d) := by
  blk_ext [iblk, idx t, bat, rowOf]
theorem blk_a (r : Fin 512) (d : Fin 384) : iblk m c 1 t (ix3 0 r d) = V m c main_arg1 (ix3 (bat t) (rowOf t r) d) := by
  blk_ext [iblk, idx t, bat, rowOf]
theorem blk_b (r : Fin 512) (d : Fin 256) : iblk m c 2 t (ix3 0 r d) = V m c main_arg2 (ix3 (bat t) (rowOf t r) d) := by
  blk_ext [iblk, idx t, bat, rowOf]
theorem blk_c (r : Fin 512) (d : Fin 384) : iblk m c 3 t (ix3 0 r d) = V m c main_arg3 (ix3 (bat t) (rowOf t r) d) := by
  blk_ext [iblk, idx t, bat, rowOf]
theorem blk_w (e d : Fin 1024) : iblk m c 4 t (ix2 e d) = V m c main_v0 (ix2 e d) := by blk_ext [iblk, idx t]
theorem blk_n (d : Fin 1024) : iblk m c 5 t (ix2 0 d) = V m c main_v1 (ix2 0 d) := by blk_ext [iblk, idx t]
theorem blk_q (d : Fin 1024) (f : Fin 512) : iblk m c 6 t (ix2 d f) = V m c main_v2 (ix2 d f) := by blk_ext [iblk, idx t]
theorem blk_k (j : Fin 256) (f : Fin 512) : iblk m c 7 t (ix3 0 j f) = V m c main_arg7 (ix3 (bat t) j f) := by
  blk_ext [iblk, idx t, bat]
theorem blk_v (j : Fin 256) (f : Fin 512) : iblk m c 8 t (ix3 0 j f) = V m c main_arg8 (ix3 (bat t) j f) := by
  blk_ext [iblk, idx t, bat]
theorem blk_o (f : Fin 512) (d : Fin 1024) : iblk m c 9 t (ix2 f d) = V m c main_v3 (ix2 f d) := by blk_ext [iblk, idx t]

/-- What the host's lines before the kernel leave. -/
def slimW (w : FVec 𝕀 S1024x1024 .f32) : FVec 𝕀 S1024x1024 .bf16 := truncf .bf16 w bitsLt_bf16_f32
def rowN (s : FVec 𝕀 S1024 .f32) : FVec 𝕀 S1x1024 .f32 := shapeCast S1x1024 s shapeCasts_S1024_S1x1024
def slimQ (w : FVec 𝕀 S1024x512 .f32) : FVec 𝕀 S1024x512 .bf16 := truncf .bf16 w bitsLt_bf16_f32
def slimO (w : FVec 𝕀 S512x1024 .f32) : FVec 𝕀 S512x1024 .bf16 := truncf .bf16 w bitsLt_bf16_f32

theorem rowN_apply (s : FVec 𝕀 S1024 .f32) (d : Fin 1024) : rowN s (ix2 0 d) = s (ix1 d) := by
  unfold rowN
  pointwise

theorem in_x : V m c main_arg0 = m ((c : Thread nD τ).loc main_arg0) := by
  show StableHlo.after hostOps0 (fun b => m (c, b)) (Proc.devRef .tc main_arg0) = _
  unfold hostOps0
  after_results_simp
theorem in_a : V m c main_arg1 = m ((c : Thread nD τ).loc main_arg1) := by
  show StableHlo.after hostOps0 (fun b => m (c, b)) (Proc.devRef .tc main_arg1) = _
  unfold hostOps0
  after_results_simp
theorem in_b : V m c main_arg2 = m ((c : Thread nD τ).loc main_arg2) := by
  show StableHlo.after hostOps0 (fun b => m (c, b)) (Proc.devRef .tc main_arg2) = _
  unfold hostOps0
  after_results_simp
theorem in_c : V m c main_arg3 = m ((c : Thread nD τ).loc main_arg3) := by
  show StableHlo.after hostOps0 (fun b => m (c, b)) (Proc.devRef .tc main_arg3) = _
  unfold hostOps0
  after_results_simp
theorem in_w : V m c main_v0 = slimW (m ((c : Thread nD τ).loc main_arg4)) := by
  show StableHlo.after hostOps0 (fun b => m (c, b)) (Proc.devRef .tc main_v0) = _
  unfold hostOps0
  after_results_simp
  rfl
theorem in_n : V m c main_v1 = rowN (m ((c : Thread nD τ).loc main_arg5)) := by
  show StableHlo.after hostOps0 (fun b => m (c, b)) (Proc.devRef .tc main_v1) = _
  unfold hostOps0
  after_results_simp
  rfl
theorem in_q : V m c main_v2 = slimQ (m ((c : Thread nD τ).loc main_arg6)) := by
  show StableHlo.after hostOps0 (fun b => m (c, b)) (Proc.devRef .tc main_v2) = _
  unfold hostOps0
  after_results_simp
  rfl
theorem in_k : V m c main_arg7 = m ((c : Thread nD τ).loc main_arg7) := by
  show StableHlo.after hostOps0 (fun b => m (c, b)) (Proc.devRef .tc main_arg7) = _
  unfold hostOps0
  after_results_simp
theorem in_v : V m c main_arg8 = m ((c : Thread nD τ).loc main_arg8) := by
  show StableHlo.after hostOps0 (fun b => m (c, b)) (Proc.devRef .tc main_arg8) = _
  unfold hostOps0
  after_results_simp
theorem in_o : V m c main_v3 = slimO (m ((c : Thread nD τ).loc main_arg9)) := by
  show StableHlo.after hostOps0 (fun b => m (c, b)) (Proc.devRef .tc main_v3) = _
  unfold hostOps0
  after_results_simp
  rfl

/-- An entry of the result, of the arguments. -/
def res (x : FVec 𝕀 S8x4096x1024 .f32) (a : FVec 𝕀 S8x4096x384 .f32) (b : FVec 𝕀 S8x4096x256 .f32) (o : FVec 𝕀 S8x4096x384 .f32)
    (w : FVec 𝕀 S1024x1024 .f32) (n : FVec 𝕀 S1024 .f32) (wq : FVec 𝕀 S1024x512 .f32) (k v : FVec 𝕀 S8x256x512 .f32) (wo : FVec 𝕀 S512x1024 .f32)
    (i : Fin 8) (p : Fin 4096) (d : Fin 1024) : EReal :=
  over (mixed (fun d => x (ix3 i p d)) (fun d => a (ix3 i p d)) (fun d => b (ix3 i p d)) (fun d => o (ix3 i p d)) fun e d => w (ix2 e d))
    (fun d => n (ix1 d)) (fun d f => wq (ix2 d f)) (fun j f => k (ix3 i j f)) (fun j f => v (ix3 i j f)) (fun f d => wo (ix2 f d)) d

/-- The memory's columns in four parts. -/
def col0 (x : Vec 𝕀 S1x256x512 .f32) : FVec 𝕀 S1x256x128 .f32 := View.ld x r0_6
def col1 (x : Vec 𝕀 S1x256x512 .f32) : FVec 𝕀 S1x256x128 .f32 := View.ld x r0_7
def col2 (x : Vec 𝕀 S1x256x512 .f32) : FVec 𝕀 S1x256x128 .f32 := View.ld x r0_8
def col3 (x : Vec 𝕀 S1x256x512 .f32) : FVec 𝕀 S1x256x128 .f32 := View.ld x r0_9

theorem col0_apply (x : Vec 𝕀 S1x256x512 .f32) (j : Fin 256) (d : Fin 128) : col0 x (ix3 0 j d) = x (ix3 0 j (slot 0 d)) := by
  have e : r0_6.emb (ix3 0 j d) = ix3 0 j (slot 0 d) := by
    funext z; apply Fin.ext; fin_cases z
    · rfl
    · show 0 + 1 * j.val = j.val; omega
    · show 0 + 1 * d.val = 0 * 128 + d.val; omega
  exact congrArg x e
theorem col1_apply (x : Vec 𝕀 S1x256x512 .f32) (j : Fin 256) (d : Fin 128) : col1 x (ix3 0 j d) = x (ix3 0 j (slot 1 d)) := by
  have e : r0_7.emb (ix3 0 j d) = ix3 0 j (slot 1 d) := by
    funext z; apply Fin.ext; fin_cases z
    · rfl
    · show 0 + 1 * j.val = j.val; omega
    · show 128 + 1 * d.val = 1 * 128 + d.val; omega
  exact congrArg x e
theorem col2_apply (x : Vec 𝕀 S1x256x512 .f32) (j : Fin 256) (d : Fin 128) : col2 x (ix3 0 j d) = x (ix3 0 j (slot 2 d)) := by
  have e : r0_8.emb (ix3 0 j d) = ix3 0 j (slot 2 d) := by
    funext z; apply Fin.ext; fin_cases z
    · rfl
    · show 0 + 1 * j.val = j.val; omega
    · show 256 + 1 * d.val = 2 * 128 + d.val; omega
  exact congrArg x e
theorem col3_apply (x : Vec 𝕀 S1x256x512 .f32) (j : Fin 256) (d : Fin 128) : col3 x (ix3 0 j d) = x (ix3 0 j (slot 3 d)) := by
  have e : r0_9.emb (ix3 0 j d) = ix3 0 j (slot 3 d) := by
    funext z; apply Fin.ext; fin_cases z
    · rfl
    · show 0 + 1 * j.val = j.val; omega
    · show 384 + 1 * d.val = 3 * 128 + d.val; omega
  exact congrArg x e

/-- What a body leaves in the result's block. -/
theorem out_eq (x0 : Vec 𝕀 S1x512x1024 .f32) (x1 : Vec 𝕀 S1x512x384 .f32) (x2 : Vec 𝕀 S1x512x256 .f32) (x3 : Vec 𝕀 S1x512x384 .f32)
    (x4 : Vec 𝕀 S1024x1024 .bf16) (x5 : Vec 𝕀 S1x1024 .f32) (x6 : Vec 𝕀 S1024x512 .bf16) (x7 x8 : Vec 𝕀 S1x256x512 .f32)
    (x9 : Vec 𝕀 S512x1024 .bf16) : out0_10 x0 x1 x2 x3 x4 x5 x6 x7 x8 x9
      = whole (k0_pay2 x0 x1 x2 x3 x4) x5 x6 (col0 x7) (col1 x7) (col2 x7) (col3 x7) (col0 x8) (col1 x8) (col2 x8) (col3 x8) x9 := by
  have e : k0_pay11 x0 x1 x2 x3 x4 x5 x6 x7 x8 x9 = k0_pay3 x0 x1 x2 x3 x4 x5 x6 := by
    unfold k0_pay11
    simp (disch := decide) only [View.ld_unit_lit']
  unfold out0_10
  simp (disch := decide) only [View.ld_unit_lit', View.canon_cons_unit_lit']
  rw [e]
  exact block x9 x0 x1 x2 x3 x4 x5 x6 (col0 x7) (col1 x7) (col2 x7) (col3 x7) (col0 x8) (col1 x8) (col2 x8) (col3 x8)

theorem row_at (r : Fin 512) (d : Fin 1024) :
    whole (k0_pay2 (iblk m c 0 t) (iblk m c 1 t) (iblk m c 2 t) (iblk m c 3 t) (iblk m c 4 t)) (iblk m c 5 t) (iblk m c 6 t)
      (col0 (iblk m c 7 t)) (col1 (iblk m c 7 t)) (col2 (iblk m c 7 t)) (col3 (iblk m c 7 t))
      (col0 (iblk m c 8 t)) (col1 (iblk m c 8 t)) (col2 (iblk m c 8 t)) (col3 (iblk m c 8 t)) (iblk m c 9 t) (ix3 0 r d)
    = res (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (bat t) (rowOf t r) d := by
  refine (whole_apply _ _ _ _ _ _ _ _ _ _ _ _ (fun j f => iblk m c 7 t (ix3 0 j f)) (fun j f => iblk m c 8 t (ix3 0 j f)) r d
    (col0_apply _) (col1_apply _) (col2_apply _) (col3_apply _) (col0_apply _) (col1_apply _) (col2_apply _) (col3_apply _)).trans ?_
  refine over_congr d ((funext fun d => pay2_apply _ _ _ _ _ r d).trans (mixed_congr (fun d => ?_) (fun d => ?_) (fun d => ?_) (fun d => ?_) fun e d => ?_))
    (fun d => ?_) (fun d f => ?_) (fun j f => ?_) (fun j f => ?_) fun f d => ?_
  · rw [blk_x, in_x]
  · rw [blk_a, in_a]
  · rw [blk_b, in_b]
  · rw [blk_c, in_c]
  · rw [blk_w, in_w]; rfl
  · rw [blk_n, in_n]; exact rowN_apply _ d
  · rw [blk_q, in_q]; rfl
  · rw [blk_k, in_k]
  · rw [blk_v, in_v]
  · rw [blk_o, in_o]; rfl

/-- Where a block of the result lies. -/
theorem emb10 (y : S1x512x1024.Idx) : ((cfg0.win 10).blk t).view.emb y = (ix3 (bat t) (rowOf t ⟨(y 1).val, (y 1).isLt⟩) (y 2) : S8x4096x1024.Idx) := by
  blk_ext [idx t, bat, rowOf]

theorem eq_one (y : S1x512x1024.Idx) : y = ix3 0 ⟨(y 1).val, (y 1).isLt⟩ ⟨(y 2).val, (y 2).isLt⟩ := by
  have h : (y 0).val < 1 := (y 0).isLt
  funext a; apply Fin.ext; fin_cases a
  · show (y 0).val = 0; omega
  · rfl
  · rfl

/-- The result. -/
theorem final : (dats m 0 c).arrAt 10 cfg0.N = (fun y => res (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (y 0) (y 1) (y 2) : S8x4096x1024.Idx → EReal) := by
  refine (dats m 0 c).arrAt_eq_of_covers 10 _ (by decide +kernel) fun t _ y => ?_
  blk_simp [idx t]
  rw [after0_10, out_eq]
  refine Eq.trans ?_ (congrArg (fun i : S8x4096x1024.Idx => res (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (i 0) (i 1) (i 2)) (emb10 t y).symm)
  refine (congrArg _ (eq_one y)).trans ?_
  exact row_at m c t (y 1) (y 2)

end Cert.Kernel4Ideal.Mix

end
-- ==== Proof.MixRef.lean ====
/- The reference of the mixed heads and the memory, read at an index. -/
module

public import proofs.«01_k».proof.Proof.Gen.Reference4Ideal.Run
public import proofs.«01_k».proof.Proof.MixMath
public import Idealize.ShloMosaic.Lib.Pipeline.ValueKit
public import Idealize.ShloMosaic.PureOps.Ideal

@[expose] public section

set_option maxRecDepth 16384
set_option maxHeartbeats 400000

noncomputable section

namespace Cert.Reference4Ideal.Mix

open Idealize.ShloMosaic Idealize.ShloMosaic.TcCoe Cert.Reference4Ideal Cert.Reference4Ideal.Gen Cert.Ffn Cert.Mem
local notation "𝕀" => Idealize.ShloMosaic.Ideal

variable (x : FVec 𝕀 S8x4096x1024 .f32) (a : FVec 𝕀 S8x4096x384 .f32) (b : FVec 𝕀 S8x4096x256 .f32) (o : FVec 𝕀 S8x4096x384 .f32)
  (w : FVec 𝕀 S1024x1024 .f32)

/-- The rows with the mixed heads added. -/
def mixR : FVec 𝕀 S8x4096x1024 .f32 :=
  addf x (Host.dotGeneral dot_S8x4096x1024_S1024x1024_S8x4096x1024_2_0_01_1_n_n none (concatenate S8x4096x1024 2 [⟨S8x4096x384, a⟩, ⟨S8x4096x256, b⟩, ⟨S8x4096x384, o⟩] concatenates_S8x4096x384_S8x4096x256_S8x4096x384_S8x4096x1024_d2) w)

theorem mixR_apply (i : Fin 8) (p : Fin 4096) (d : Fin 1024) : mixR x a b o w (ix3 i p d)
    = mixed (fun d => x (ix3 i p d)) (fun d => a (ix3 i p d)) (fun d => b (ix3 i p d)) (fun d => o (ix3 i p d)) (fun e d => w (ix2 e d)) d := by
  unfold mixR
  pointwise
  rfl

variable (y : FVec 𝕀 S8x4096x1024 .f32) (n : FVec 𝕀 S1024 .f32) (wq : FVec 𝕀 S1024x512 .f32)

/-- The rows normed. -/
def normR : FVec 𝕀 S8x4096x1024 .f32 :=
  mulf (mulf y (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf y y) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 n))

theorem normR_apply (i : Fin 8) (p : Fin 4096) (d : Fin 1024) :
    normR y n (ix3 i p d) = rms (fun d => y (ix3 i p d)) (fun d => n (ix1 d)) d := by
  unfold normR
  pointwise
  rfl

/-- Rows times the queries' weights. -/
def askR : FVec 𝕀 S8x4096x512 .f32 :=
  Host.dotGeneral dot_S8x4096x1024_S1024x512_S8x4096x512_2_0_01_1_n_n none y wq

theorem askR_apply (i : Fin 8) (p : Fin 4096) (f : Fin 512) : askR (normR y n) wq (ix3 i p f)
    = pj (fun d => y (ix3 i p d)) (fun d => n (ix1 d)) (fun d f => wq (ix2 d f)) f := by
  refine Eq.trans (b := ∑ d : Fin 1024, (normR y n (ix3 i p d) * wq (ix2 d f) : EReal)) ?_ ?_
  · unfold askR
    pointwise
  · unfold pj
    exact Finset.sum_congr rfl fun d _ => congrArg (fun u : EReal => u * wq (ix2 d f)) (normR_apply y n i p d)

variable (z : FVec 𝕀 S8x4096x512 .f32) (k v : FVec 𝕀 S8x256x512 .f32)

/-- The scores. -/
def scoreR : FVec 𝕀 S8x4x4096x256 .f32 :=
  mulf (Host.dotGeneral dot_S8x4096x4x128_S8x256x4x128_S8x4x4096x256_3_3_1_1_02_02 none (shapeCast _ z shapeCasts_S8x4096x512_S8x4096x4x128) (shapeCast _ k shapeCasts_S8x256x512_S8x256x4x128)) (broadcastInDim S8x4x4096x256 ![] bcast_S_S8x4x4096x256 (constant S_ .f32 0x3DB504F3#32))

theorem scoreR_apply (i : Fin 8) (h : Fin 4) (p : Fin 4096) (j : Fin 256) : scoreR z k (ix4 i h p j)
    = score (fun d => z (ix3 i p (slot h d))) (fun j d => k (ix3 i j (slot h d))) j := by
  unfold scoreR
  pointwise
  rfl

variable (s : FVec 𝕀 S8x4x4096x256 .f32)

/-- A maximum with the lowest word. -/
theorem max_low (x : FVec 𝕀 S8x4x4096 .f32) (y : S8x4x4096.Idx) :
    maximumf (broadcastInDim S8x4x4096 ![] bcast_S_S8x4x4096 (constant S_ .f32 0xFF800000#32)) x y = max low (x y) := rfl

/-- The largest score of a query. -/
def mostR : FVec 𝕀 S8x4x4096 .f32 :=
  maximumf (broadcastInDim S8x4x4096 ![] bcast_S_S8x4x4096 (constant S_ .f32 0xFF800000#32)) (Host.reduce FloatOps.maximumf s (constant S_ .f32 0xFF800000#32) reducesTo_S8x4x4096x256_S8x4x4096_d3 h_S_)

theorem mostR_apply (i : Fin 8) (h : Fin 4) (p : Fin 4096) : mostR s (ix3 i h p) = most fun j => s (ix4 i h p j) := by
  have hr : S8x4x4096x256.Reduces [3] S8x4x4096 := by decide
  have hf : (s ∘ hr.lift (ix3 i h p)) = fun j : Fin 256 => s (ix4 i h p j) :=
    funext fun j => congrArg s (by funext z; apply Fin.ext; fin_cases z <;> rfl)
  have e : Host.reduce FloatOps.maximumf s (constant S_ .f32 0xFF800000#32) reducesTo_S8x4x4096x256_S8x4x4096_d3 h_S_ (ix3 i h p)
      = most fun j => s (ix4 i h p j) :=
    (Host.reduce_eq_fold_single FloatOps.maximumf s (constant S_ .f32 0xFF800000#32) reducesTo_S8x4x4096x256_S8x4x4096_d3 hr h_S_ (ix3 i h p)).trans
      (congrArg (fun f => Finset.fold max low f (Finset.univ : Finset (Fin 256))) hf)
  unfold mostR
  rw [max_low, e]
  exact max_eq_right (Finset.le_fold_max low |>.mpr (Or.inl le_rfl))

/-- The exponentials of the scores less the largest. -/
def expR (u : FVec 𝕀 S8x4x4096 .f32) : FVec 𝕀 S8x4x4096x256 .f32 :=
  Host.exp (subf s (broadcastInDim S8x4x4096x256 ![0, 1, 2, 3] bcast_S8x4x4096x1_S8x4x4096x256_0_1_2_3 (broadcastInDim S8x4x4096x1 ![0, 1, 2] bcast_S8x4x4096_S8x4x4096x1_0_1_2 u)))

theorem expR_apply (u : FVec 𝕀 S8x4x4096 .f32) (i : Fin 8) (h : Fin 4) (p : Fin 4096) (j : Fin 256) :
    expR s u (ix4 i h p j) = Ideal.exp (s (ix4 i h p j) - u (ix3 i h p)) := by
  unfold expR
  pointwise

/-- The weights. -/
def softR (p : FVec 𝕀 S8x4x4096x256 .f32) : FVec 𝕀 S8x4x4096x256 .f32 :=
  Host.divf p (broadcastInDim S8x4x4096x256 ![0, 1, 2, 3] bcast_S8x4x4096x1_S8x4x4096x256_0_1_2_3 (broadcastInDim S8x4x4096x1 ![0, 1, 2] bcast_S8x4x4096_S8x4x4096x1_0_1_2 (Host.reduceAdd p (constant S_ .f32 0x00000000#32) reducesTo_S8x4x4096x256_S8x4x4096_d3 h_S_)))

theorem softR_apply (i : Fin 8) (h : Fin 4) (p : Fin 4096) (j : Fin 256) :
    softR (expR s (mostR s)) (ix4 i h p j) = soft (fun j => s (ix4 i h p j)) j := by
  refine Eq.trans (b := Ideal.div (expR s (mostR s) (ix4 i h p j)) (∑ l : Fin 256, expR s (mostR s) (ix4 i h p l))) ?_ ?_
  · unfold softR
    pointwise
  · have e : ∀ l, expR s (mostR s) (ix4 i h p l) = Ideal.exp (s (ix4 i h p l) - most fun j => s (ix4 i h p j)) := fun l =>
      (expR_apply s _ i h p l).trans (congrArg (fun u : EReal => Ideal.exp (s (ix4 i h p l) - u)) (mostR_apply s i h p))
    exact congrArg₂ Ideal.div (e j) (Finset.sum_congr rfl fun l _ => e l)

/-- The heads beside one another. -/
def headsR (p : FVec 𝕀 S8x4x4096x256 .f32) : FVec 𝕀 S8x4096x512 .f32 :=
  shapeCast _ (transpose S8x4096x4x128 [0, 3, 1, 2] (Host.dotGeneral dot_S8x256x4x128_S8x4x4096x256_S8x4x128x4096_1_3_3_2_02_01 none (shapeCast _ v shapeCasts_S8x256x512_S8x256x4x128) p) transposes_S8x4x128x4096_S8x4096x4x128_0_3_1_2) shapeCasts_S8x4096x4x128_S8x4096x512

theorem headsR_apply (u : FVec 𝕀 S8x4x4096x256 .f32) (i : Fin 8) (p : Fin 4096) (f : Fin 512) : headsR v u (ix3 i p f)
    = (∑ j : Fin 256, v (ix3 i j f) * u (ix4 i ⟨f.val / 128, by omega⟩ p j) : EReal) := by
  unfold headsR
  pointwise

/-- The result. -/
def outR (wo : FVec 𝕀 S512x1024 .f32) : FVec 𝕀 S8x4096x1024 .f32 :=
  addf y (Host.dotGeneral dot_S8x4096x512_S512x1024_S8x4096x1024_2_0_01_1_n_n none z wo)

theorem outR_apply (wo : FVec 𝕀 S512x1024 .f32) (i : Fin 8) (p : Fin 4096) (d : Fin 1024) : outR y z wo (ix3 i p d)
    = (y (ix3 i p d) + ∑ f : Fin 512, z (ix3 i p f) * wo (ix2 f d) : EReal) := by
  unfold outR
  pointwise

/-- The reference's result, of its arguments. -/
def refR (wo : FVec 𝕀 S512x1024 .f32) : FVec 𝕀 S8x4096x1024 .f32 :=
  outR y (headsR v (softR (expR (scoreR (askR (normR y n) wq) k) (mostR (scoreR (askR (normR y n) wq) k))))) wo

theorem refR_apply (wo : FVec 𝕀 S512x1024 .f32) (i : Fin 8) (p : Fin 4096) (d : Fin 1024) : refR y n wq k v wo (ix3 i p d)
    = over (fun d => y (ix3 i p d)) (fun d => n (ix1 d)) (fun d f => wq (ix2 d f)) (fun j f => k (ix3 i j f)) (fun j f => v (ix3 i j f))
        (fun f d => wo (ix2 f d)) d := by
  unfold refR
  rw [outR_apply]
  refine congrArg (fun u : EReal => y (ix3 i p d) + u) (Finset.sum_congr rfl fun f _ => congrArg (fun u : EReal => u * wo (ix2 f d)) ?_)
  rw [headsR_apply]
  refine Finset.sum_congr rfl fun j _ => (mul_comm _ _).trans (congrArg (fun u : EReal => u * v (ix3 i j f)) ?_)
  rw [softR_apply]
  refine congrArg (fun s => soft s j) (funext fun j => ?_)
  rw [scoreR_apply]
  exact congrArg (fun q : Fin 128 → EReal => score q (fun j d => k (ix3 i j (slot ⟨f.val / 128, by omega⟩ d))) j)
    (funext fun e => askR_apply y n wq i p _)

/-- An entry of the reference's result. -/
theorem out_same (wo : FVec 𝕀 S512x1024 .f32) (i : Fin 8) (p : Fin 4096) (d : Fin 1024) : refR (mixR x a b o w) n wq k v wo (ix3 i p d)
    = over (mixed (fun d => x (ix3 i p d)) (fun d => a (ix3 i p d)) (fun d => b (ix3 i p d)) (fun d => o (ix3 i p d)) fun e d => w (ix2 e d))
        (fun d => n (ix1 d)) (fun d f => wq (ix2 d f)) (fun j f => k (ix3 i j f)) (fun j f => v (ix3 i j f)) (fun f d => wo (ix2 f d)) d :=
  (refR_apply _ n wq k v wo i p d).trans
    (over_congr d (funext fun d => mixR_apply x a b o w i p d) (fun _ => rfl) (fun _ _ => rfl) (fun _ _ => rfl) (fun _ _ => rfl) fun _ _ => rfl)

/-- The run's term is that one. -/
theorem res_eq (m : (ℓ : Loc nD τ sig) → Buf (Elt 𝕀) ℓ) (c : Dev nD) : Cert.Reference4Ideal.Value.res_main_v38 m c
    = refR (mixR (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4))) (m ((c.tc : Thread nD τ).loc main_arg5))
        (m ((c.tc : Thread nD τ).loc main_arg6)) (m ((c.tc : Thread nD τ).loc main_arg7)) (m ((c.tc : Thread nD τ).loc main_arg8))
        (m ((c.tc : Thread nD τ).loc main_arg9)) := rfl

end Cert.Reference4Ideal.Mix

end
-- ==== Proof.ProjMath.lean ====
/- The columns of the input projection. -/
module

public import proofs.«01_k».proof.Proof.FfnMath
public import Idealize.ShloMosaic.Lib.Pipeline.ValueKit

@[expose] public section

noncomputable section

namespace Cert.Proj

open Idealize.ShloMosaic Cert.Ffn

/-- A normed row against a column of a weight. -/
def dotc (a g w : Fin 1024 → EReal) : EReal := ∑ d, rms a g d * w d

theorem dotc_congr {a a' g g' w w' : Fin 1024 → EReal} (ha : ∀ d, a d = a' d) (hg : ∀ d, g d = g' d) (hw : ∀ d, w d = w' d) :
    dotc a g w = dotc a' g' w' := by
  obtain rfl : a = a' := funext ha
  obtain rfl : g = g' := funext hg
  obtain rfl : w = w' := funext hw
  rfl

theorem dotc_zero (a g : Fin 1024 → EReal) : dotc a g (fun _ => 0) = 0 := by
  unfold dotc
  simp

/-- The factor of the queries. -/
def factor : EReal := Ideal.ofBits .f32 0x3E3504F3#32

section columns

variable (x : (⟨3, ![8, 4096, 1024]⟩ : Shape).Idx → EReal) (n : (⟨1, ![1024]⟩ : Shape).Idx → EReal) (w : (⟨3, ![2, 1024, 3724]⟩ : Shape).Idx → EReal)
  (b : Fin 8) (p : Fin 4096)

/-- Column `f` of row `p` of batch `b`, of the first layer. -/
def col (f : Fin 3724) : EReal := dotc (fun d => x (ix3 b p d)) (fun d => n (ix1 d)) fun d => w (ix3 0 d f)

/-- The first columns, and zeros behind them. -/
def wide (e : Fin 1664) : EReal := if h : e.val < 1548 then col x n w b p ⟨e.val, by omega⟩ else 0
/-- The queries, scaled. -/
def query (e : Fin 256) : EReal := col x n w b p ⟨1548 + e.val, by omega⟩ * factor
def key (e : Fin 256) : EReal := col x n w b p ⟨1804 + e.val, by omega⟩
def value (e : Fin 256) : EReal := col x n w b p ⟨2060 + e.val, by omega⟩
/-- The last columns. -/
def rest (e : Fin 1408) : EReal := col x n w b p ⟨2316 + e.val, by omega⟩

end columns

end Cert.Proj

end
-- ==== Proof.ProjPay.lean ====
/- The arithmetic of a point of the input projection, read at an index. -/
module

public import proofs.«01_k».proof.Proof.Gen.Kernel5Ideal.Skeleton
public import proofs.«01_k».proof.Proof.ProjMath
public import Idealize.ShloMosaic.Lib.Pipeline.ValueKit
public import Idealize.ShloMosaic.PureOps.Ideal
public import Idealize.ShloMosaic.Lib.WordCmp

@[expose] public section

set_option maxRecDepth 16384
set_option maxHeartbeats 400000

noncomputable section

namespace Cert.Kernel5Ideal.Proj

open Idealize.ShloMosaic Cert.Kernel5Ideal Cert.Kernel5Ideal.Gen Cert.Ffn Cert.Proj
local notation "𝕀" => Idealize.ShloMosaic.Ideal

section norm

variable (x : FVec 𝕀 S1x512x1024 .f32) (n : FVec 𝕀 S1x1024 .f32)

theorem pay11_apply (r : Fin 512) (d : Fin 1024) :
    k0_pay11 (F := 𝕀) x n (ix2 r d) = rms (fun d => x (ix3 0 r d)) (fun d => n (ix2 0 d)) d := by
  unfold k0_pay11
  pointwise
  rfl

theorem pay5_apply (w : FVec 𝕀 S1024x1664 .bf16) (r : Fin 512) (e : Fin 1664) : k0_pay5 (F := 𝕀) (k0_pay11 (F := 𝕀) x n) w (ix3 0 r e)
    = dotc (fun d => x (ix3 0 r d)) (fun d => n (ix2 0 d)) (fun d => w (ix2 d e)) := by
  unfold k0_pay5 dotc
  pointwise
  exact Finset.sum_congr rfl fun d _ => congrArg (fun u : EReal => u * w (ix2 d e)) (pay11_apply x n r d)

theorem pay6_apply (w : FVec 𝕀 S1024x1408 .bf16) (r : Fin 512) (e : Fin 1408) : k0_pay6 (F := 𝕀) (k0_pay11 (F := 𝕀) x n) w (ix3 0 r e)
    = dotc (fun d => x (ix3 0 r d)) (fun d => n (ix2 0 d)) (fun d => w (ix2 d e)) := by
  unfold k0_pay6 dotc
  pointwise
  exact Finset.sum_congr rfl fun d _ => congrArg (fun u : EReal => u * w (ix2 d e)) (pay11_apply x n r d)

variable (w : FVec 𝕀 S1024x768 .bf16)

theorem pay12_apply (r : Fin 512) (e : Fin 768) : k0_pay12 (F := 𝕀) x n w (ix2 r e)
    = dotc (fun d => x (ix3 0 r d)) (fun d => n (ix2 0 d)) (fun d => w (ix2 d e)) := by
  unfold k0_pay12 dotc
  pointwise
  exact Finset.sum_congr rfl fun d _ => congrArg (fun u : EReal => u * w (ix2 d e)) (pay11_apply x n r d)

theorem pay13_apply (r : Fin 512) (e : Fin 256) : k0_pay13 (F := 𝕀) x n w (ix2 r e) = k0_pay12 (F := 𝕀) x n w (ix2 r ⟨256 + e.val, by omega⟩) := by
  unfold k0_pay13
  pointwise

theorem pay14_apply (r : Fin 512) (e : Fin 256) : k0_pay14 (F := 𝕀) x n w (ix2 e r) = k0_pay12 (F := 𝕀) x n w (ix2 r ⟨512 + e.val, by omega⟩) := by
  unfold k0_pay14
  pointwise

theorem pay15_apply (r : Fin 512) (e : Fin 256) : k0_pay15 (F := 𝕀) x n w (ix3 0 e r) = k0_pay12 (F := 𝕀) x n w (ix2 r ⟨e.val, by omega⟩) * factor := by
  unfold k0_pay15 factor
  pointwise

theorem pay16_apply (r : Fin 512) (e : Fin 256) : k0_pay16 (F := 𝕀) x n w (ix2 r e) = k0_pay13 (F := 𝕀) x n w (ix2 r e) := by
  unfold k0_pay16
  pointwise

end norm

theorem pay1_apply (v : FVec 𝕀 S512x256 .bf16) (r : Fin 512) (e : Fin 256) : k0_pay1 (F := 𝕀) v (ix3 0 r e) = v (ix2 r e) := by
  unfold k0_pay1
  pointwise

theorem pay2_apply (v : FVec 𝕀 S512x256 .f32) (r : Fin 512) (e : Fin 256) : k0_pay2 (F := 𝕀) v (ix4 0 0 e r) = v (ix2 r e) := by
  unfold k0_pay2
  pointwise

theorem pay3_apply (v : FVec 𝕀 S256x512 .f32) (r : Fin 512) (e : Fin 256) : k0_pay3 (F := 𝕀) v (ix4 0 0 e r) = v (ix2 e r) := by
  unfold k0_pay3
  pointwise

theorem pay4_apply (v : FVec 𝕀 S256x512 .f32) (r : Fin 512) (e : Fin 256) : k0_pay4 (F := 𝕀) v (ix3 0 e r) = v (ix2 e r) := by
  unfold k0_pay4
  pointwise

theorem pay7_apply (v : FVec 𝕀 S1x1024x1536 .f32) (d : Fin 1024) (e : Fin 1536) : k0_pay7 (F := 𝕀) v (ix2 d e) = v (ix3 0 d e) := by
  unfold k0_pay7
  pointwise

theorem pay9_apply (v : FVec 𝕀 S1x1024x768 .f32) (d : Fin 1024) (e : Fin 768) : k0_pay9 (F := 𝕀) v (ix2 d e) = v (ix3 0 d e) := by
  unfold k0_pay9
  pointwise

theorem pay10_apply (v : FVec 𝕀 S1x1024x1408 .f32) (d : Fin 1024) (e : Fin 1408) : k0_pay10 (F := 𝕀) v (ix2 d e) = v (ix3 0 d e) := by
  unfold k0_pay10
  pointwise

theorem pay8_apply (v : FVec 𝕀 S1x1024x128 .f32) (d : Fin 1024) (e : Fin 128) : k0_pay8 (F := 𝕀) v (ix2 d e)
    = if e.val < 12 then v (ix3 0 d e) else (0 : EReal) := by
  unfold k0_pay8
  pointwise
  rw [WordCmp.cmpi_slt_ofNat (by omega) (by omega), WordCmp.select_ofBool]
  by_cases h : e.val < 12 <;> simp [h]

end Cert.Kernel5Ideal.Proj

end
-- ==== Proof.ProjPoint.lean ====
/- What a point of the input projection writes and carries. -/
module

public import proofs.«01_k».proof.Proof.Gen.Kernel5Ideal.Value
public import proofs.«01_k».proof.Proof.ProjPay
public import Idealize.ShloMosaic.Lib.Pipeline.ReadBack

@[expose] public section

set_option maxRecDepth 16384
set_option maxHeartbeats 400000

noncomputable section

namespace Cert.Kernel5Ideal.Proj

open Idealize.ShloMosaic Idealize.ShloMosaic.TcCoe Cert.Kernel5Ideal Cert.Kernel5Ideal.Gen
local notation "𝕀" => Idealize.ShloMosaic.Ideal

section layer

variable (W : FVec 𝕀 S1x1024x3724 .f32)

/-- The stores of the first group of columns: all but the last, and the last behind the first twelve zeroed. -/
abbrev wideL : List (View.Piece (Elt 𝕀) S1024x1664 .bf16) :=
  [⟨Rect.unit (s := S1024x1664) ![0, 1536] S1024x128.size inb_S1024x1664_S1024x128_0_1536,
     k0_pay8 (F := 𝕀) (View.ld W (Rect.unit (s := S1x1024x3724) ![0, 0, 1536] S1x1024x128.size inb_S1x1024x3724_S1x1024x128_0_0_1536))⟩,
   ⟨Rect.unit (s := S1024x1664) ![0, 0] S1024x1536.size inb_S1024x1664_S1024x1536_0_0,
     k0_pay7 (F := 𝕀) (View.ld W (Rect.unit (s := S1x1024x3724) ![0, 0, 0] S1x1024x1536.size inb_S1x1024x3724_S1x1024x1536_0_0_0))⟩]

/-- The layer's three groups of columns, narrowed. -/
def colsA : FVec 𝕀 S1024x1664 .bf16 := View.canon (wideL W)
def colsB : FVec 𝕀 S1024x768 .bf16 := k0_pay9 (F := 𝕀) (View.ld W (Rect.unit (s := S1x1024x3724) ![0, 0, 1548] S1x1024x768.size inb_S1x1024x3724_S1x1024x768_0_0_1548))
def colsC : FVec 𝕀 S1024x1408 .bf16 := k0_pay10 (F := 𝕀) (View.ld W (Rect.unit (s := S1x1024x3724) ![0, 0, 2316] S1x1024x1408.size inb_S1x1024x3724_S1x1024x1408_0_0_2316))

theorem ld_at {k o : ℕ} (inb : ∀ x, (![0, 0, o] : Fin 3 → ℕ) x + (⟨3, ![1, 1024, k]⟩ : Shape).size x ≤ S1x1024x3724.size x)
    (d : Fin 1024) (e : Fin k) (f : Fin 3724) (h : f.val = o + e.val) :
    View.ld (Val := Elt 𝕀) (e' := .f32) W (Rect.unit (s := S1x1024x3724) ![0, 0, o] (⟨3, ![1, 1024, k]⟩ : Shape).size inb) (ix3 0 d e) = W (ix3 0 d f) := by
  have e : (Rect.unit (s := S1x1024x3724) ![0, 0, o] (⟨3, ![1, 1024, k]⟩ : Shape).size inb).emb (ix3 0 d e) = ix3 0 d f := by
    funext x; apply Fin.ext; fin_cases x
    · rfl
    · show 0 + 1 * d.val = d.val; omega
    · show o + 1 * e.val = f.val; omega
  exact congrArg W e

theorem colsB_apply (d : Fin 1024) (e : Fin 768) : colsB W (ix2 d e) = W (ix3 0 d ⟨1548 + e.val, by omega⟩) := by
  unfold colsB
  exact (pay9_apply _ d e).trans (ld_at W _ d e _ rfl)

theorem colsC_apply (d : Fin 1024) (e : Fin 1408) : colsC W (ix2 d e) = W (ix3 0 d ⟨2316 + e.val, by omega⟩) := by
  unfold colsC
  exact (pay10_apply _ d e).trans (ld_at W _ d e _ rfl)

theorem colsA_apply (d : Fin 1024) (e : Fin 1664) : colsA W (ix2 d e)
    = if h : e.val < 1548 then W (ix3 0 d ⟨e.val, by omega⟩) else (0 : EReal) := by
  unfold colsA wideL
  canon_tiles x hx using View.cover_of_tiledBy _ ![1024, 128] (by sl_kernel_rfl) _
  · have ex : x = ix2 d ⟨e.val - 1536, by have : e.val = 1536 + (x 1).val := hx1; omega⟩ := by
      funext a; apply Fin.ext; fin_cases a
      · exact hx0.symm
      · show (x 1).val = e.val - 1536
        have : e.val = 1536 + (x 1).val := hx1
        omega
    have he : e.val = 1536 + (x 1).val := hx1
    rw [ex, pay8_apply]
    by_cases h : e.val < 1548
    · rw [dif_pos h, if_pos (by show e.val - 1536 < 12; omega)]
      exact ld_at W _ d _ _ (by show e.val = 1536 + (e.val - 1536); omega)
    · rw [dif_neg h, if_neg (by show ¬e.val - 1536 < 12; omega)]
  · have he : e.val = (x 1).val := hx1
    have ex : x = ix2 d ⟨e.val, by omega⟩ := by
      funext a; apply Fin.ext; fin_cases a
      · exact hx0.symm
      · exact hx1.symm
    rw [ex, pay7_apply, dif_pos (by omega)]
    exact ld_at W _ d _ _ (by show e.val = 0 + e.val; omega)

theorem colsA_read : (View.whole cc0_scratch0).readCov (wideL W) (Rect.unit (s := S1024x1664) ![0, 0] S1024x1664.size inb_S1024x1664_S1024x1664_0_0).toLoadRect = colsA W := by
  rw [View.readCov_eq_canon']
  funext j
  refine congrArg (View.canon (wideL W)) ?_
  funext x; apply Fin.ext; fin_cases x
  · show 0 + 1 * (j 0).val = (j 0).val; omega
  · show 0 + 1 * (j 1).val = (j 1).val; omega

end layer

variable (m : (ℓ : Loc nD τ sig) → Buf (Elt 𝕀) ℓ) (c : Dev nD) (t : Fin cfg0.N)

/-- The layer's weights, as the first point finds them. -/
def layer : FVec 𝕀 S1x1024x3724 .f32 := iblk m c 2 ⟨0, by decide⟩

theorem first (h0 : t.val % 64 = 0) : t = ⟨0, by decide⟩ := by
  have h : t.val < 64 := t.isLt
  exact Fin.ext (by show t.val = 0; omega)

theorem carry_A (h0 : t.val % 64 = 0) : (outsAt0 m c t.val t.isLt).2.2.2.2.2.2.2 = (colsA (layer m c), colsB (layer m c), colsC (layer m c)) := by
  obtain rfl := first t h0
  rw [outsAt0_A m c _ h0]
  refine Prod.ext ?_ (Prod.ext ?_ ?_)
  · frame_out
    rfl
  · frame_out
    rfl
  · frame_out
    rfl

theorem carry_B (h0 : ¬t.val % 64 = 0) : (outsAt0 m c t.val t.isLt).2.2.2.2.2.2.2
    = (outsAt0 m c (t.val - 1) (Nat.lt_of_le_of_lt (Nat.sub_le _ _) t.isLt)).2.2.2.2.2.2.2 := by
  rw [outsAt0_B m c t h0]
  rfl

/-- Every point leaves the layer's columns in the scratch. -/
theorem carry : ∀ (n : ℕ) (hn : n < cfg0.N), (outsAt0 m c n hn).2.2.2.2.2.2.2 = (colsA (layer m c), colsB (layer m c), colsC (layer m c))
  | 0, hn => carry_A m c ⟨0, hn⟩ rfl
  | n + 1, hn => by
    have h : n + 1 < 64 := hn
    exact (carry_B m c ⟨n + 1, hn⟩ (by show ¬(n + 1) % 64 = 0; omega)).trans (carry n (Nat.lt_of_succ_lt hn))

theorem out3 : (outsAt0 m c t.val t.isLt).1 = k0_pay5 (F := 𝕀) (k0_pay11 (F := 𝕀) (iblk m c 0 t) (iblk m c 1 t)) (colsA (layer m c)) := by
  by_cases h0 : t.val % 64 = 0
  · obtain rfl := first t h0
    rw [outsAt0_A m c _ h0]
    frame_out
    exact congrArg (k0_pay5 (F := 𝕀) _) (colsA_read (layer m c))
  · have e := carry m c (t.val - 1) (Nat.lt_of_le_of_lt (Nat.sub_le _ _) t.isLt)
    rw [outsAt0_B m c t h0]
    frame_out
    rw [read_unread_whole, e]
    rfl

theorem out4 : (outsAt0 m c t.val t.isLt).2.1 = k0_pay15 (F := 𝕀) (iblk m c 0 t) (iblk m c 1 t) (colsB (layer m c)) := by
  by_cases h0 : t.val % 64 = 0
  · obtain rfl := first t h0
    rw [outsAt0_A m c _ h0]
    frame_out
    rfl
  · have e := carry m c (t.val - 1) (Nat.lt_of_le_of_lt (Nat.sub_le _ _) t.isLt)
    rw [outsAt0_B m c t h0]
    frame_out
    rw [read_unread_whole, e]

theorem out5 : (outsAt0 m c t.val t.isLt).2.2.1 = k0_pay1 (F := 𝕀) (k0_pay16 (F := 𝕀) (iblk m c 0 t) (iblk m c 1 t) (colsB (layer m c))) := by
  by_cases h0 : t.val % 64 = 0
  · obtain rfl := first t h0
    rw [outsAt0_A m c _ h0]
    frame_out
    rfl
  · have e := carry m c (t.val - 1) (Nat.lt_of_le_of_lt (Nat.sub_le _ _) t.isLt)
    rw [outsAt0_B m c t h0]
    frame_out
    rw [read_unread_whole, e]

theorem out6 : (outsAt0 m c t.val t.isLt).2.2.2.1 = k0_pay2 (F := 𝕀) (k0_pay13 (F := 𝕀) (iblk m c 0 t) (iblk m c 1 t) (colsB (layer m c))) := by
  by_cases h0 : t.val % 64 = 0
  · obtain rfl := first t h0
    rw [outsAt0_A m c _ h0]
    frame_out
    rfl
  · have e := carry m c (t.val - 1) (Nat.lt_of_le_of_lt (Nat.sub_le _ _) t.isLt)
    rw [outsAt0_B m c t h0]
    frame_out
    rw [read_unread_whole, e]

theorem out7 : (outsAt0 m c t.val t.isLt).2.2.2.2.1 = k0_pay3 (F := 𝕀) (k0_pay14 (F := 𝕀) (iblk m c 0 t) (iblk m c 1 t) (colsB (layer m c))) := by
  by_cases h0 : t.val % 64 = 0
  · obtain rfl := first t h0
    rw [outsAt0_A m c _ h0]
    frame_out
    rfl
  · have e := carry m c (t.val - 1) (Nat.lt_of_le_of_lt (Nat.sub_le _ _) t.isLt)
    rw [outsAt0_B m c t h0]
    frame_out
    rw [read_unread_whole, e]

theorem out8 : (outsAt0 m c t.val t.isLt).2.2.2.2.2.1 = k0_pay4 (F := 𝕀) (k0_pay14 (F := 𝕀) (iblk m c 0 t) (iblk m c 1 t) (colsB (layer m c))) := by
  by_cases h0 : t.val % 64 = 0
  · obtain rfl := first t h0
    rw [outsAt0_A m c _ h0]
    frame_out
    rfl
  · have e := carry m c (t.val - 1) (Nat.lt_of_le_of_lt (Nat.sub_le _ _) t.isLt)
    rw [outsAt0_B m c t h0]
    frame_out
    rw [read_unread_whole, e]

theorem out9 : (outsAt0 m c t.val t.isLt).2.2.2.2.2.2.1 = k0_pay6 (F := 𝕀) (k0_pay11 (F := 𝕀) (iblk m c 0 t) (iblk m c 1 t)) (colsC (layer m c)) := by
  by_cases h0 : t.val % 64 = 0
  · obtain rfl := first t h0
    rw [outsAt0_A m c _ h0]
    frame_out
    rfl
  · have e := carry m c (t.val - 1) (Nat.lt_of_le_of_lt (Nat.sub_le _ _) t.isLt)
    rw [outsAt0_B m c t h0]
    frame_out
    rw [read_unread_whole, e]

end Cert.Kernel5Ideal.Proj

end
-- ==== Proof.ProjOut.lean ====
/- What the input projection leaves in its seven results, read at an index. -/
module

public import proofs.«01_k».proof.Proof.ProjPoint

@[expose] public section

set_option maxRecDepth 16384
set_option maxHeartbeats 400000

noncomputable section

namespace Cert.Kernel5Ideal.Proj

open Idealize.ShloMosaic Idealize.ShloMosaic.TcCoe Cert.Kernel5Ideal Cert.Kernel5Ideal.Gen Cert.Proj
local notation "𝕀" => Idealize.ShloMosaic.Ideal

/-- The windows' block indices at every point: eight tiles of rows in each of eight batches, and whole arrays. -/
theorem idx : ∀ t : Fin cfg0.N, (cfg0.win 0).index t = ![t.val / 8, t.val % 8, 0] ∧ (cfg0.win 1).index t = ![0, 0] ∧ (cfg0.win 2).index t = ![0, 0, 0]
    ∧ (cfg0.win 3).index t = ![t.val / 8, t.val % 8, 0] ∧ (cfg0.win 4).index t = ![t.val / 8, 0, t.val % 8]
    ∧ (cfg0.win 5).index t = ![t.val / 8, t.val % 8, 0] ∧ (cfg0.win 6).index t = ![0, t.val / 8, 0, t.val % 8]
    ∧ (cfg0.win 7).index t = ![0, t.val / 8, 0, t.val % 8] ∧ (cfg0.win 8).index t = ![t.val / 8, 0, t.val % 8]
    ∧ (cfg0.win 9).index t = ![t.val / 8, t.val % 8, 0] := by
  decide +kernel

variable (m : (ℓ : Loc nD τ sig) → Buf (Elt 𝕀) ℓ) (c : Dev nD) (t : Fin cfg0.N)

theorem lt64 (t : Fin cfg0.N) : t.val < 64 := t.isLt

/-- The batch of a point, and the row of a row of its tile. -/
def bat (t : Fin cfg0.N) : Fin 8 := ⟨t.val / 8, by have := lt64 t; omega⟩
def rowOf (t : Fin cfg0.N) (r : Fin 512) : Fin 4096 := ⟨512 * (t.val % 8) + r.val, by omega⟩

theorem blk_x (r : Fin 512) (d : Fin 1024) : iblk m c 0 t (ix3 0 r d) = V m c main_arg0 (ix3 (bat t) (rowOf t r) d) := by
  blk_ext [iblk, idx t, bat, rowOf]
theorem blk_n (d : Fin 1024) : iblk m c 1 t (ix2 0 d) = V m c main_v0 (ix2 0 d) := by blk_ext [iblk, idx t]
theorem blk_w (d : Fin 1024) (f : Fin 3724) : iblk m c 2 t (ix3 0 d f) = V m c main_arg2 (ix3 0 d f) := by blk_ext [iblk, idx t]

/-- What the host's lines before the kernel leave. -/
def rowN (s : FVec 𝕀 S1024 .f32) : FVec 𝕀 S1x1024 .f32 := shapeCast S1x1024 s shapeCasts_S1024_S1x1024

theorem rowN_apply (s : FVec 𝕀 S1024 .f32) (d : Fin 1024) : rowN s (ix2 0 d) = s (ix1 d) := by
  unfold rowN
  pointwise

theorem in_x : V m c main_arg0 = m ((c : Thread nD τ).loc main_arg0) := by
  show StableHlo.after hostOps0 (fun b => m (c, b)) (Proc.devRef .tc main_arg0) = _
  unfold hostOps0
  after_results_simp
theorem in_n : V m c main_v0 = rowN (m ((c : Thread nD τ).loc main_arg1)) := by
  show StableHlo.after hostOps0 (fun b => m (c, b)) (Proc.devRef .tc main_v0) = _
  unfold hostOps0
  after_results_simp
  rfl
theorem in_w : V m c main_arg2 = m ((c : Thread nD τ).loc main_arg2) := by
  show StableHlo.after hostOps0 (fun b => m (c, b)) (Proc.devRef .tc main_arg2) = _
  unfold hostOps0
  after_results_simp

/-- The arguments. -/
abbrev aX : S8x4096x1024.Idx → EReal := m ((c : Thread nD τ).loc main_arg0)
abbrev aN : S1024.Idx → EReal := m ((c : Thread nD τ).loc main_arg1)
abbrev aW : S2x1024x3724.Idx → EReal := m ((c : Thread nD τ).loc main_arg2)

theorem s_x (r : Fin 512) (d : Fin 1024) : iblk m c 0 t (ix3 0 r d) = aX m c (ix3 (bat t) (rowOf t r) d) := by rw [blk_x, in_x]
theorem s_n (d : Fin 1024) : iblk m c 1 t (ix2 0 d) = aN m c (ix1 d) := by
  rw [blk_n, in_n]
  exact rowN_apply _ d
theorem s_w (d : Fin 1024) (f : Fin 3724) : layer m c (ix3 0 d f) = aW m c (ix3 0 d f) := by
  unfold layer
  rw [blk_w, in_w]

/-- A row of a point against columns that are the layer's. -/
theorem col_at (r : Fin 512) (f : Fin 3724) (w : Fin 1024 → EReal) (hw : ∀ d, w d = layer m c (ix3 0 d f)) :
    dotc (fun d => iblk m c 0 t (ix3 0 r d)) (fun d => iblk m c 1 t (ix2 0 d)) w = col (aX m c) (aN m c) (aW m c) (bat t) (rowOf t r) f :=
  dotc_congr (fun d => s_x m c t r d) (fun d => s_n m c t d) fun d => (hw d).trans (s_w m c d f)

theorem mid_at (r : Fin 512) (e : Fin 768) : k0_pay12 (F := 𝕀) (iblk m c 0 t) (iblk m c 1 t) (colsB (layer m c)) (ix2 r e)
    = col (aX m c) (aN m c) (aW m c) (bat t) (rowOf t r) ⟨1548 + e.val, by omega⟩ :=
  (pay12_apply _ _ _ r e).trans (col_at m c t r _ _ fun d => colsB_apply _ d e)

theorem row3 (r : Fin 512) (e : Fin 1664) : k0_pay5 (F := 𝕀) (k0_pay11 (iblk m c 0 t) (iblk m c 1 t)) (colsA (layer m c)) (ix3 0 r e)
    = wide (aX m c) (aN m c) (aW m c) (bat t) (rowOf t r) e := by
  rw [pay5_apply]
  unfold wide
  by_cases h : e.val < 1548
  · rw [dif_pos h]
    exact col_at m c t r _ _ fun d => (colsA_apply _ d e).trans (dif_pos h)
  · rw [dif_neg h]
    exact (dotc_congr (fun _ => rfl) (fun _ => rfl) fun d => (colsA_apply _ d e).trans (dif_neg h)).trans (dotc_zero _ _)

theorem row4 (e : Fin 256) (r : Fin 512) : k0_pay15 (F := 𝕀) (iblk m c 0 t) (iblk m c 1 t) (colsB (layer m c)) (ix3 0 e r)
    = query (aX m c) (aN m c) (aW m c) (bat t) (rowOf t r) e := by
  rw [pay15_apply, mid_at]
  rfl

theorem key_at (r : Fin 512) (e : Fin 256) : k0_pay13 (F := 𝕀) (iblk m c 0 t) (iblk m c 1 t) (colsB (layer m c)) (ix2 r e)
    = key (aX m c) (aN m c) (aW m c) (bat t) (rowOf t r) e := by
  rw [pay13_apply, mid_at]
  unfold key
  exact congrArg _ (Fin.ext (by show 1548 + (256 + e.val) = 1804 + e.val; omega))

theorem value_at (r : Fin 512) (e : Fin 256) : k0_pay14 (F := 𝕀) (iblk m c 0 t) (iblk m c 1 t) (colsB (layer m c)) (ix2 e r)
    = value (aX m c) (aN m c) (aW m c) (bat t) (rowOf t r) e := by
  rw [pay14_apply, mid_at]
  unfold value
  exact congrArg _ (Fin.ext (by show 1548 + (512 + e.val) = 2060 + e.val; omega))

theorem row5 (r : Fin 512) (e : Fin 256) : k0_pay1 (F := 𝕀) (k0_pay16 (iblk m c 0 t) (iblk m c 1 t) (colsB (layer m c))) (ix3 0 r e)
    = key (aX m c) (aN m c) (aW m c) (bat t) (rowOf t r) e :=
  (pay1_apply _ r e).trans ((pay16_apply _ _ _ r e).trans (key_at m c t r e))

theorem row6 (e : Fin 256) (r : Fin 512) : k0_pay2 (F := 𝕀) (k0_pay13 (iblk m c 0 t) (iblk m c 1 t) (colsB (layer m c))) (ix4 0 0 e r)
    = key (aX m c) (aN m c) (aW m c) (bat t) (rowOf t r) e := (pay2_apply _ r e).trans (key_at m c t r e)

theorem row7 (e : Fin 256) (r : Fin 512) : k0_pay3 (F := 𝕀) (k0_pay14 (iblk m c 0 t) (iblk m c 1 t) (colsB (layer m c))) (ix4 0 0 e r)
    = value (aX m c) (aN m c) (aW m c) (bat t) (rowOf t r) e := (pay3_apply _ r e).trans (value_at m c t r e)

theorem row8 (e : Fin 256) (r : Fin 512) : k0_pay4 (F := 𝕀) (k0_pay14 (iblk m c 0 t) (iblk m c 1 t) (colsB (layer m c))) (ix3 0 e r)
    = value (aX m c) (aN m c) (aW m c) (bat t) (rowOf t r) e := (pay4_apply _ r e).trans (value_at m c t r e)

theorem row9 (r : Fin 512) (e : Fin 1408) : k0_pay6 (F := 𝕀) (k0_pay11 (iblk m c 0 t) (iblk m c 1 t)) (colsC (layer m c)) (ix3 0 r e)
    = rest (aX m c) (aN m c) (aW m c) (bat t) (rowOf t r) e :=
  (pay6_apply _ _ _ r e).trans (col_at m c t r _ _ fun d => colsC_apply _ d e)

/-- An index of a block with one batch. -/
theorem one3 {a b : ℕ} (y : (⟨3, ![1, a, b]⟩ : Shape).Idx) : y = ix3 0 (y 1) (y 2) := by
  have h : (y 0).val < 1 := (y 0).isLt
  funext k; apply Fin.ext; fin_cases k
  · show (y 0).val = 0; omega
  · rfl
  · rfl
theorem one4 {a b : ℕ} (y : (⟨4, ![1, 1, a, b]⟩ : Shape).Idx) : y = ix4 0 0 (y 2) (y 3) := by
  have h : (y 0).val < 1 := (y 0).isLt
  have h' : (y 1).val < 1 := (y 1).isLt
  funext k; apply Fin.ext; fin_cases k
  · show (y 0).val = 0; omega
  · show (y 1).val = 0; omega
  · rfl
  · rfl

/-! Where a block of each result lies, and the result. -/

theorem emb3 (y : S1x512x1664.Idx) : ((cfg0.win 3).blk t).view.emb y = (ix3 (bat t) (rowOf t (y 1)) (y 2) : S8x4096x1664.Idx) := by
  blk_ext [idx t, bat, rowOf]

theorem final3 : (dats m 0 c).arrAt 3 cfg0.N = (fun y => wide (aX m c) (aN m c) (aW m c) (y 0) (y 1) (y 2) : S8x4096x1664.Idx → EReal) := by
  refine (dats m 0 c).arrAt_eq_of_covers 3 _ (by decide +kernel) fun t _ y => ?_
  blk_simp [idx t]
  rw [after0_3, out3]
  refine Eq.trans ?_ (congrArg (fun i : S8x4096x1664.Idx => wide (aX m c) (aN m c) (aW m c) (i 0) (i 1) (i 2)) (emb3 t y).symm)
  refine (congrArg _ (one3 y)).trans ?_
  exact row3 m c t (y 1) (y 2)

theorem emb4 (y : S1x256x512.Idx) : ((cfg0.win 4).blk t).view.emb y = (ix3 (bat t) (y 1) (rowOf t (y 2)) : S8x256x4096.Idx) := by
  blk_ext [idx t, bat, rowOf]

theorem final4 : (dats m 0 c).arrAt 4 cfg0.N = (fun y => query (aX m c) (aN m c) (aW m c) (y 0) (y 2) (y 1) : S8x256x4096.Idx → EReal) := by
  refine (dats m 0 c).arrAt_eq_of_covers 4 _ (by decide +kernel) fun t _ y => ?_
  blk_simp [idx t]
  rw [after0_4, out4]
  refine Eq.trans ?_ (congrArg (fun i : S8x256x4096.Idx => query (aX m c) (aN m c) (aW m c) (i 0) (i 2) (i 1)) (emb4 t y).symm)
  refine (congrArg _ (one3 y)).trans ?_
  exact row4 m c t (y 1) (y 2)

theorem emb5 (y : S1x512x256.Idx) : ((cfg0.win 5).blk t).view.emb y = (ix3 (bat t) (rowOf t (y 1)) (y 2) : S8x4096x256.Idx) := by
  blk_ext [idx t, bat, rowOf]

theorem final5 : (dats m 0 c).arrAt 5 cfg0.N = (fun y => key (aX m c) (aN m c) (aW m c) (y 0) (y 1) (y 2) : S8x4096x256.Idx → EReal) := by
  refine (dats m 0 c).arrAt_eq_of_covers 5 _ (by decide +kernel) fun t _ y => ?_
  blk_simp [idx t]
  rw [after0_5, out5]
  refine Eq.trans ?_ (congrArg (fun i : S8x4096x256.Idx => key (aX m c) (aN m c) (aW m c) (i 0) (i 1) (i 2)) (emb5 t y).symm)
  refine (congrArg _ (one3 y)).trans ?_
  exact row5 m c t (y 1) (y 2)

theorem emb6 (y : S1x1x256x512.Idx) : ((cfg0.win 6).blk t).view.emb y = (ix4 0 (bat t) (y 2) (rowOf t (y 3)) : S1x8x256x4096.Idx) := by
  blk_ext [idx t, bat, rowOf]

theorem final6 : (dats m 0 c).arrAt 6 cfg0.N = (fun y => key (aX m c) (aN m c) (aW m c) (y 1) (y 3) (y 2) : S1x8x256x4096.Idx → EReal) := by
  refine (dats m 0 c).arrAt_eq_of_covers 6 _ (by decide +kernel) fun t _ y => ?_
  blk_simp [idx t]
  rw [after0_6, out6]
  refine Eq.trans ?_ (congrArg (fun i : S1x8x256x4096.Idx => key (aX m c) (aN m c) (aW m c) (i 1) (i 3) (i 2)) (emb6 t y).symm)
  refine (congrArg _ (one4 y)).trans ?_
  exact row6 m c t (y 2) (y 3)

theorem emb7 (y : S1x1x256x512.Idx) : ((cfg0.win 7).blk t).view.emb y = (ix4 0 (bat t) (y 2) (rowOf t (y 3)) : S1x8x256x4096.Idx) := by
  blk_ext [idx t, bat, rowOf]

theorem final7 : (dats m 0 c).arrAt 7 cfg0.N = (fun y => value (aX m c) (aN m c) (aW m c) (y 1) (y 3) (y 2) : S1x8x256x4096.Idx → EReal) := by
  refine (dats m 0 c).arrAt_eq_of_covers 7 _ (by decide +kernel) fun t _ y => ?_
  blk_simp [idx t]
  rw [after0_7, out7]
  refine Eq.trans ?_ (congrArg (fun i : S1x8x256x4096.Idx => value (aX m c) (aN m c) (aW m c) (i 1) (i 3) (i 2)) (emb7 t y).symm)
  refine (congrArg _ (one4 y)).trans ?_
  exact row7 m c t (y 2) (y 3)

theorem emb8 (y : S1x256x512.Idx) : ((cfg0.win 8).blk t).view.emb y = (ix3 (bat t) (y 1) (rowOf t (y 2)) : S8x256x4096.Idx) := by
  blk_ext [idx t, bat, rowOf]

theorem final8 : (dats m 0 c).arrAt 8 cfg0.N = (fun y => value (aX m c) (aN m c) (aW m c) (y 0) (y 2) (y 1) : S8x256x4096.Idx → EReal) := by
  refine (dats m 0 c).arrAt_eq_of_covers 8 _ (by decide +kernel) fun t _ y => ?_
  blk_simp [idx t]
  rw [after0_8, out8]
  refine Eq.trans ?_ (congrArg (fun i : S8x256x4096.Idx => value (aX m c) (aN m c) (aW m c) (i 0) (i 2) (i 1)) (emb8 t y).symm)
  refine (congrArg _ (one3 y)).trans ?_
  exact row8 m c t (y 1) (y 2)

theorem emb9 (y : S1x512x1408.Idx) : ((cfg0.win 9).blk t).view.emb y = (ix3 (bat t) (rowOf t (y 1)) (y 2) : S8x4096x1408.Idx) := by
  blk_ext [idx t, bat, rowOf]

theorem final9 : (dats m 0 c).arrAt 9 cfg0.N = (fun y => rest (aX m c) (aN m c) (aW m c) (y 0) (y 1) (y 2) : S8x4096x1408.Idx → EReal) := by
  refine (dats m 0 c).arrAt_eq_of_covers 9 _ (by decide +kernel) fun t _ y => ?_
  blk_simp [idx t]
  rw [after0_9, out9]
  refine Eq.trans ?_ (congrArg (fun i : S8x4096x1408.Idx => rest (aX m c) (aN m c) (aW m c) (i 0) (i 1) (i 2)) (emb9 t y).symm)
  refine (congrArg _ (one3 y)).trans ?_
  exact row9 m c t (y 1) (y 2)

end Cert.Kernel5Ideal.Proj

end
-- ==== Proof.ProjRef.lean ====
/- The reference of the input projection, read at an index. -/
module

public import proofs.«01_k».proof.Proof.Gen.Reference5Ideal.Run
public import proofs.«01_k».proof.Proof.ProjMath
public import Idealize.ShloMosaic.Lib.Pipeline.ValueKit
public import Idealize.ShloMosaic.PureOps.Ideal

@[expose] public section

set_option maxRecDepth 16384
set_option maxHeartbeats 400000

noncomputable section

namespace Cert.Reference5Ideal.Proj

open Idealize.ShloMosaic Idealize.ShloMosaic.TcCoe Cert.Reference5Ideal Cert.Reference5Ideal.Gen Cert.Ffn Cert.Proj
local notation "𝕀" => Idealize.ShloMosaic.Ideal

variable (x : FVec 𝕀 S8x4096x1024 .f32) (n : FVec 𝕀 S1024 .f32) (w : FVec 𝕀 S2x1024x3724 .f32)

/-- The norm of the rows. -/
def normR : FVec 𝕀 S8x4096x1024 .f32 :=
  mulf (mulf x (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf x x) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 n))

theorem normR_apply (b : Fin 8) (p : Fin 4096) (d : Fin 1024) :
    normR x n (ix3 b p d) = rms (fun d => x (ix3 b p d)) (fun d => n (ix1 d)) d := by
  unfold normR
  pointwise
  rfl

/-- The first layer's weights. -/
def layerR : FVec 𝕀 S1024x3724 .f32 := shapeCast _ (extractStridedSlice S1x1024x3724 ![0, 0, 0] w slices_S2x1024x3724_S1x1024x3724_0_0_0) shapeCasts_S1x1024x3724_S1024x3724

theorem layerR_apply (d : Fin 1024) (f : Fin 3724) : layerR w (ix2 d f) = w (ix3 0 d f) := by
  unfold layerR
  pointwise

/-- Every column of every row. -/
def colsR : FVec 𝕀 S8x4096x3724 .f32 := Host.dotGeneral dot_S8x4096x1024_S1024x3724_S8x4096x3724_2_0_01_1_n_n none (normR x n) (layerR w)

theorem colsR_apply (b : Fin 8) (p : Fin 4096) (f : Fin 3724) : colsR x n w (ix3 b p f) = col x n w b p f := by
  unfold colsR col dotc
  pointwise
  exact Finset.sum_congr rfl fun d _ => congrArg₂ (fun u v : EReal => u * v) (normR_apply x n b p d) (layerR_apply w d f)

section parts

variable (z : FVec 𝕀 S8x4096x3724 .f32)

/-- The first columns, padded. -/
def wideR : FVec 𝕀 S8x4096x1664 .f32 :=
  pad S8x4096x1664 ![0, 0, 0] ![0, 0, 116] ![0, 0, 0] (extractStridedSlice S8x4096x1548 ![0, 0, 0] z slices_S8x4096x3724_S8x4096x1548_0_0_0) (sitofp .f32 (constantI S_ 32 0#32)) pads_S8x4096x1548_S8x4096x1664_000_000_01160 h_S_

def partQ : FVec 𝕀 S8x4096x256 .f32 := extractStridedSlice S8x4096x256 ![0, 0, 1548] z slices_S8x4096x3724_S8x4096x256_0_0_1548
def partK : FVec 𝕀 S8x4096x256 .f32 := extractStridedSlice S8x4096x256 ![0, 0, 1804] z slices_S8x4096x3724_S8x4096x256_0_0_1804
def partV : FVec 𝕀 S8x4096x256 .f32 := extractStridedSlice S8x4096x256 ![0, 0, 2060] z slices_S8x4096x3724_S8x4096x256_0_0_2060

def queryR : FVec 𝕀 S8x256x4096 .bf16 :=
  truncf .bf16 (transpose S8x256x4096 [0, 2, 1] (mulf (partQ z) (broadcastInDim S8x4096x256 ![] bcast_S_S8x4096x256 (constant S_ .f32 0x3E3504F3#32))) transposes_S8x4096x256_S8x256x4096_0_2_1) bitsLt_bf16_f32
def keyR : FVec 𝕀 S8x4096x256 .bf16 := truncf .bf16 (partK z) bitsLt_bf16_f32
def keyT : FVec 𝕀 S1x8x256x4096 .f32 :=
  broadcastInDim S1x8x256x4096 ![1, 2, 3] bcast_S8x256x4096_S1x8x256x4096_1_2_3 (transpose S8x256x4096 [0, 2, 1] (partK z) transposes_S8x4096x256_S8x256x4096_0_2_1)
def valueT : FVec 𝕀 S1x8x256x4096 .f32 :=
  broadcastInDim S1x8x256x4096 ![1, 2, 3] bcast_S8x256x4096_S1x8x256x4096_1_2_3 (transpose S8x256x4096 [0, 2, 1] (partV z) transposes_S8x4096x256_S8x256x4096_0_2_1)
def valueR : FVec 𝕀 S8x256x4096 .bf16 := truncf .bf16 (transpose S8x256x4096 [0, 2, 1] (partV z) transposes_S8x4096x256_S8x256x4096_0_2_1) bitsLt_bf16_f32
def restR : FVec 𝕀 S8x4096x1408 .f32 := extractStridedSlice S8x4096x1408 ![0, 0, 2316] z slices_S8x4096x3724_S8x4096x1408_0_0_2316

variable (b : Fin 8) (p : Fin 4096)

theorem zero_word : FloatOps.sitofp (F := 𝕀) .f32 0#32 = (0 : EReal) := by
  show (((0#32 : BitVec 32).toInt : ℝ) : EReal) = 0
  simp

theorem wideR_apply (e : Fin 1664) : wideR z (ix3 b p e) = if h : e.val < 1548 then z (ix3 b p ⟨e.val, by omega⟩) else (0 : EReal) := by
  unfold wideR
  pointwise
  rw [zero_word]

theorem partQ_apply (e : Fin 256) : partQ z (ix3 b p e) = z (ix3 b p ⟨1548 + e.val, by omega⟩) := by
  unfold partQ
  pointwise
theorem partK_apply (e : Fin 256) : partK z (ix3 b p e) = z (ix3 b p ⟨1804 + e.val, by omega⟩) := by
  unfold partK
  pointwise
theorem partV_apply (e : Fin 256) : partV z (ix3 b p e) = z (ix3 b p ⟨2060 + e.val, by omega⟩) := by
  unfold partV
  pointwise
theorem queryR_apply (e : Fin 256) : queryR z (ix3 b e p) = partQ z (ix3 b p e) * factor := by
  unfold queryR factor
  pointwise
theorem keyR_apply (e : Fin 256) : keyR z (ix3 b p e) = partK z (ix3 b p e) := by
  unfold keyR
  pointwise
theorem keyT_apply (e : Fin 256) : keyT z (ix4 0 b e p) = partK z (ix3 b p e) := by
  unfold keyT
  pointwise
theorem valueT_apply (e : Fin 256) : valueT z (ix4 0 b e p) = partV z (ix3 b p e) := by
  unfold valueT
  pointwise
theorem valueR_apply (e : Fin 256) : valueR z (ix3 b e p) = partV z (ix3 b p e) := by
  unfold valueR
  pointwise
theorem restR_apply (e : Fin 1408) : restR z (ix3 b p e) = z (ix3 b p ⟨2316 + e.val, by omega⟩) := by
  unfold restR
  pointwise

end parts

variable (b : Fin 8) (p : Fin 4096)

theorem wide_same (e : Fin 1664) : wideR (colsR x n w) (ix3 b p e) = wide x n w b p e := by
  rw [wideR_apply]
  unfold wide
  by_cases h : e.val < 1548
  · rw [dif_pos h, dif_pos h]
    exact colsR_apply x n w b p _
  · rw [dif_neg h, dif_neg h]

theorem partK_same (e : Fin 256) : partK (colsR x n w) (ix3 b p e) = key x n w b p e := (partK_apply _ b p e).trans (colsR_apply x n w b p _)
theorem partV_same (e : Fin 256) : partV (colsR x n w) (ix3 b p e) = value x n w b p e := (partV_apply _ b p e).trans (colsR_apply x n w b p _)
theorem query_same (e : Fin 256) : queryR (colsR x n w) (ix3 b e p) = query x n w b p e :=
  (queryR_apply _ b p e).trans (congrArg (fun u : EReal => u * factor) ((partQ_apply _ b p e).trans (colsR_apply x n w b p _)))
theorem key_same (e : Fin 256) : keyR (colsR x n w) (ix3 b p e) = key x n w b p e := (keyR_apply _ b p e).trans (partK_same x n w b p e)
theorem keyT_same (e : Fin 256) : keyT (colsR x n w) (ix4 0 b e p) = key x n w b p e := (keyT_apply _ b p e).trans (partK_same x n w b p e)
theorem valueT_same (e : Fin 256) : valueT (colsR x n w) (ix4 0 b e p) = value x n w b p e := (valueT_apply _ b p e).trans (partV_same x n w b p e)
theorem value_same (e : Fin 256) : valueR (colsR x n w) (ix3 b e p) = value x n w b p e := (valueR_apply _ b p e).trans (partV_same x n w b p e)
theorem rest_same (e : Fin 1408) : restR (colsR x n w) (ix3 b p e) = rest x n w b p e := (restR_apply _ b p e).trans (colsR_apply x n w b p _)

/-- An index of an array with one of its first axis. -/
theorem one_first {a b c : ℕ} (y : (⟨4, ![1, a, b, c]⟩ : Shape).Idx) : y = ix4 0 (y 1) (y 2) (y 3) := by
  have h : (y 0).val < 1 := (y 0).isLt
  funext k; apply Fin.ext; fin_cases k
  · show (y 0).val = 0; omega
  · rfl
  · rfl
  · rfl

/-! The seven results, whole. -/

theorem wide_all : wideR (colsR x n w) = (fun y => wide x n w (y 0) (y 1) (y 2) : S8x4096x1664.Idx → EReal) :=
  funext fun y => (congrArg _ (eq_ix3 (n0 := 8) (n1 := 4096) (n2 := 1664) y)).trans (wide_same x n w (y 0) (y 1) (y 2))

theorem query_all : queryR (colsR x n w) = (fun y => query x n w (y 0) (y 2) (y 1) : S8x256x4096.Idx → EReal) :=
  funext fun y => (congrArg _ (eq_ix3 (n0 := 8) (n1 := 256) (n2 := 4096) y)).trans (query_same x n w (y 0) (y 2) (y 1))

theorem key_all : keyR (colsR x n w) = (fun y => key x n w (y 0) (y 1) (y 2) : S8x4096x256.Idx → EReal) :=
  funext fun y => (congrArg _ (eq_ix3 (n0 := 8) (n1 := 4096) (n2 := 256) y)).trans (key_same x n w (y 0) (y 1) (y 2))

theorem keyT_all : keyT (colsR x n w) = (fun y => key x n w (y 1) (y 3) (y 2) : S1x8x256x4096.Idx → EReal) :=
  funext fun y => (congrArg _ (one_first y)).trans (keyT_same x n w (y 1) (y 3) (y 2))

theorem valueT_all : valueT (colsR x n w) = (fun y => value x n w (y 1) (y 3) (y 2) : S1x8x256x4096.Idx → EReal) :=
  funext fun y => (congrArg _ (one_first y)).trans (valueT_same x n w (y 1) (y 3) (y 2))

theorem value_all : valueR (colsR x n w) = (fun y => value x n w (y 0) (y 2) (y 1) : S8x256x4096.Idx → EReal) :=
  funext fun y => (congrArg _ (eq_ix3 (n0 := 8) (n1 := 256) (n2 := 4096) y)).trans (value_same x n w (y 0) (y 2) (y 1))

theorem rest_all : restR (colsR x n w) = (fun y => rest x n w (y 0) (y 1) (y 2) : S8x4096x1408.Idx → EReal) :=
  funext fun y => (congrArg _ (eq_ix3 (n0 := 8) (n1 := 4096) (n2 := 1408) y)).trans (rest_same x n w (y 0) (y 1) (y 2))

end Cert.Reference5Ideal.Proj

end
-- ==== Proof.lean ====
/- The certificate, assembled: the prompt's differential attention, the feed-forward part, the memory's projection and the memory's attention. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Launch
public import proofs.«01_k».proof.Proof.Gen.ReferenceIdeal
public import proofs.«01_k».proof.Proof.Gen.ReferenceIdeal.Run
public import proofs.«01_k».proof.Proof.Gen.Pre_finite_values
public import proofs.«01_k».proof.Proof.RunI.Launch
public import proofs.«01_k».proof.Proof.RunB.Launch
public import proofs.«01_k».proof.Proof.Bridge
public import proofs.«01_k».proof.Proof.Entered
public import proofs.«01_k».proof.Proof.Finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Value
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Value
public import proofs.«01_k».proof.Proof.Gen.Reference2Ideal
public import proofs.«01_k».proof.Proof.Gen.Reference2Ideal.Run
public import proofs.«01_k».proof.Proof.FfnSame
public import proofs.«01_k».proof.Proof.MemKv
public import proofs.«01_k».proof.Proof.MemKvRef
public import proofs.«01_k».proof.Proof.MixOut
public import proofs.«01_k».proof.Proof.MixRef
public import proofs.«01_k».proof.Proof.ProjOut
public import proofs.«01_k».proof.Proof.ProjRef
public import proofs.«01_k».proof.Proof.Gen.Kernel3
public import proofs.«01_k».proof.Proof.Gen.Kernel3.Skeleton
public import proofs.«01_k».proof.Proof.Gen.Kernel3.Launch
public import proofs.«01_k».proof.Proof.Gen.Kernel3.Value
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Value
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Value
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Value
public import proofs.«01_k».proof.Proof.Gen.Reference5Ideal
public import proofs.«01_k».proof.Proof.Gen.Reference5Ideal.Run
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The kernel at the machine's own floats ends with its arguments unchanged and every counter at zero. -/
theorem frame_kernel : Cert.quiescent_Kernel := fun m ρ _ => Cert.Kernel.Gen.frame m ρ

/-- The same of the kernel at the extended reals. -/
theorem frame_ideal : Cert.quiescent_KernelIdeal := fun m ρ _ => Cert.KernelIdeal.Gen.frame m ρ

/-- The same where the values are finite. -/
theorem frame_ideal_pre : Cert.quiescent_KernelIdeal_pre_finite_values := fun m ρ _ => Cert.KernelIdeal.Gen.frame m ρ

/-- The reference ends with its arguments unchanged; it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same where the values are finite. -/
theorem frame_reference_pre : Cert.quiescent_ReferenceIdeal_pre_finite_values := fun m ρ _ => frame_reference m ρ trivial

/-- The kernel's output array is the reference's result of the same arguments, where the values and the weights of lambda are finite. -/
theorem result_same (m : (ℓ : Loc Cert.KernelIdeal.nD Cert.KernelIdeal.τ Cert.KernelIdeal.sig) → Buf (Elt Ideal) ℓ) (ρ : Dev Cert.KernelIdeal.nD → PrngReg)
    (hp : Cert.Pre_KernelIdeal_finite_values m) (c : Dev Cert.KernelIdeal.nD) :
    (Cert.KernelIdeal.Gen.dats 0 (Cert.KernelIdeal.Gen.entry m) ρ 0 c).arrAt 5 (Cert.KernelIdeal.Gen.cfgA 0).N
      = (Cert.ReferenceIdeal.Att.resR (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4)) : Cert.KernelIdeal.S8x4096x256.Idx → EReal) := by
  obtain ⟨hv, hx⟩ := Cert.Finite.decode _ _ _ _ _ (hp c)
  have hl := Cert.KernelIdeal.Att.lam_real _ hx
  have hv' : ∀ x, Cert.KernelIdeal.Att.av (Cert.KernelIdeal.Gen.entry m) c x = ((Cert.KernelIdeal.Att.av (Cert.KernelIdeal.Gen.entry m) c x).toReal : EReal) := by
    rw [Cert.KernelIdeal.Att.v_entered]; exact hv
  have hl' : Cert.KernelIdeal.Att.lamAt (Cert.KernelIdeal.Att.al (Cert.KernelIdeal.Gen.entry m) c)
      = ((Cert.KernelIdeal.Att.lamAt (Cert.KernelIdeal.Att.al (Cert.KernelIdeal.Gen.entry m) c)).toReal : EReal) := by
    rw [Cert.KernelIdeal.Att.l_entered]; exact hl
  refine (Cert.KernelIdeal.Att.final ρ hv' hl').trans ?_
  rw [Cert.KernelIdeal.Att.q_entered, Cert.KernelIdeal.Att.k_entered, Cert.KernelIdeal.Att.v_entered, Cert.KernelIdeal.Att.l_entered, Cert.KernelIdeal.Att.scale_entered]
  funext y
  refine (Cert.KernelIdeal.Att.res_same _ _ _ _ _ hv hl _ (fun r => Cert.KernelIdeal.Att.tiled_apply _ r) (y 0) (y 1) (y 2)).trans ?_
  exact congrArg _ (eq_ix3 y).symm

/-- At the extended reals the kernel and the reference end with the same result, where the values and the weights of lambda are finite. -/
theorem same : Cert.algebraic_KernelIdeal_ReferenceIdeal_pre_finite_values := by
  intro m g m' g' hp hm
  refine ⟨fun c => (Cert.KernelIdeal.Gen.dats 0 (Cert.KernelIdeal.Gen.entry m) g 0 c).arrAt 5 (Cert.KernelIdeal.Gen.cfgA 0).N, ?_, ?_⟩
  · refine (θ_run Cert.KernelIdeal.defs _ _).mono (fun r h c => ?_) (Cert.KernelIdeal.Gen.run_main_quiescent m g)
    have e (w : Fin 6) (hw : ((Cert.KernelIdeal.Gen.cfgA 0).win w).isOut = false) :=
      ((h.1 c).1 w).trans ((Cert.KernelIdeal.Gen.dats 0 (Cert.KernelIdeal.Gen.entry m) g 0 c).arrAt_in w hw _)
    exact ⟨(h.1 c).1 5, (e 1 rfl).trans (Cert.KernelIdeal.Att.q_entered m c), (e 2 rfl).trans (Cert.KernelIdeal.Att.k_entered m c),
      (e 3 rfl).trans (Cert.KernelIdeal.Att.v_entered m c), (e 0 rfl).trans (Cert.KernelIdeal.Att.l_entered m c), (h.1 c).2⟩
  · refine (θ_run Cert.ReferenceIdeal.defs _ _).mono (fun r h c => ⟨(h c).1.trans ?_, (h c).2⟩) (Cert.ReferenceIdeal.Value.run (F := Ideal) m' g')
    obtain ⟨h0, h1, h2, h3, h4⟩ := hm c
    rw [Cert.ReferenceIdeal.Att.res_eq, h0, h1, h2, h3, h4]
    exact (result_same m g hp c).symm

/-- The feed-forward kernel ends with its arguments unchanged and every counter at zero, at the machine's own floats and at the extended reals. -/
theorem frame_kernel2 : Cert.quiescent_Kernel2 := fun m ρ _ => Cert.Kernel2.Gen.frame m ρ
theorem frame_ideal2 : Cert.quiescent_Kernel2Ideal := fun m ρ _ => Cert.Kernel2Ideal.Gen.frame m ρ

/-- Its reference ends with its arguments unchanged; it declares no semaphore. -/
theorem frame_reference2 : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)

/-- At the extended reals the feed-forward kernel and its reference end with the same two results. -/
theorem same2 : Cert.algebraic_Kernel2Ideal_Reference2Ideal := by
  intro m g m' g' _ hm
  refine ⟨fun c => Cert.Kernel2Ideal.Value.G9 m c, fun c => Cert.Kernel2Ideal.Value.G10 m c, Cert.Kernel2Ideal.Value.run (F := Ideal) m g, ?_⟩
  refine (θ_run Cert.Reference2Ideal.defs _ _).mono (fun r h c => ⟨(h c).1.trans ?_, (h c).2.1.trans ?_, (h c).2.2⟩)
    (Cert.Reference2Ideal.Value.run (F := Ideal) m' g')
  · obtain ⟨h0, h1, h2, h3, h4, h5, h6, h7⟩ := hm c
    rw [Cert.Reference2Ideal.Ffn.res_eq, h0, h1, h2, h3, h4, h5, h6, h7]
    exact Cert.Kernel2Ideal.Ffn.out_ref m c
  · obtain ⟨h0, h1, h2, h3, -⟩ := hm c
    rw [h0, h1, h2, h3]
    exact Cert.Kernel2Ideal.Ffn.tail_ref m c

/-- The memory's projection ends with its arguments unchanged and every counter at zero, at both kinds of floats, and so does its reference. -/
theorem frame_kernel3 : Cert.quiescent_Kernel3 := fun m ρ _ => Cert.Kernel3.Gen.frame m ρ
theorem frame_ideal3 : Cert.quiescent_Kernel3Ideal := fun m ρ _ => Cert.Kernel3Ideal.Gen.frame m ρ
theorem frame_reference3 : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)

/-- At the extended reals the memory's keys and values are the reference's. -/
theorem same3 : Cert.algebraic_Kernel3Ideal_Reference3Ideal := by
  intro m g m' g' _ hm
  refine ⟨fun c => (Cert.Kernel3Ideal.Gen.dats m 0 c).arrAt 4 Cert.Kernel3Ideal.cfg0.N,
    fun c => (Cert.Kernel3Ideal.Gen.dats m 0 c).arrAt 5 Cert.Kernel3Ideal.cfg0.N, Cert.Kernel3Ideal.Value.run_blocks (F := Ideal) m g, ?_⟩
  refine (θ_run Cert.Reference3Ideal.defs _ _).mono (fun r h c => ⟨(h c).1.trans ?_, (h c).2.1.trans ?_, (h c).2.2⟩)
    (Cert.Reference3Ideal.Value.run (F := Ideal) m' g')
  · obtain ⟨h0, h1, h2, h3⟩ := hm c
    rw [h0, h1, h2]
    refine Eq.trans (funext fun y => ?_) (Cert.Kernel3Ideal.Kv.final_k m c).symm
    exact (congrArg _ (eq_ix2 (n0 := 2048) (n1 := 512) y)).trans (Cert.Reference3Ideal.Kv.out_same _ _ _ (y 0) (y 1))
  · obtain ⟨h0, h1, h2, h3⟩ := hm c
    rw [h0, h1, h3]
    refine Eq.trans (funext fun y => ?_) (Cert.Kernel3Ideal.Kv.final_v m c).symm
    exact (congrArg _ (eq_ix2 (n0 := 2048) (n1 := 512) y)).trans (Cert.Reference3Ideal.Kv.out_same _ _ _ (y 0) (y 1))

/-- The mixing of the heads and the attention over the memory, with the reference of the same lines: arguments unchanged, counters at zero. -/
theorem frame_kernel4 : Cert.quiescent_Kernel4 := fun m ρ _ => Cert.Kernel4.Gen.frame m ρ
theorem frame_ideal4 : Cert.quiescent_Kernel4Ideal := fun m ρ _ => Cert.Kernel4Ideal.Gen.frame m ρ
theorem frame_reference4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- At the extended reals the rows after the attention over the memory are the reference's. -/
theorem same4 : Cert.algebraic_Kernel4Ideal_Reference4Ideal := by
  intro m g m' g' _ hm
  refine ⟨fun c => (Cert.Kernel4Ideal.Gen.dats m 0 c).arrAt 10 Cert.Kernel4Ideal.cfg0.N, Cert.Kernel4Ideal.Value.run_blocks (F := Ideal) m g, ?_⟩
  refine (θ_run Cert.Reference4Ideal.defs _ _).mono (fun r h c => ⟨(h c).1.trans ?_, (h c).2⟩)
    (Cert.Reference4Ideal.Value.run (F := Ideal) m' g')
  obtain ⟨h0, h1, h2, h3, h4, h5, h6, h7, h8, h9⟩ := hm c
  rw [Cert.Reference4Ideal.Mix.res_eq, h0, h1, h2, h3, h4, h5, h6, h7, h8, h9]
  refine Eq.trans (funext fun y => ?_) (Cert.Kernel4Ideal.Mix.final m c).symm
  exact (congrArg _ (eq_ix3 (n0 := 8) (n1 := 4096) (n2 := 1024) y)).trans (Cert.Reference4Ideal.Mix.out_same _ _ _ _ _ _ _ _ _ _ (y 0) (y 1) (y 2))

/-- The input projection ends with its arguments unchanged and every counter at zero, at both kinds of floats, and so does its reference. -/
theorem frame_kernel5 : Cert.quiescent_Kernel5 := fun m ρ _ => Cert.Kernel5.Gen.frame m ρ
theorem frame_ideal5 : Cert.quiescent_Kernel5Ideal := fun m ρ _ => Cert.Kernel5Ideal.Gen.frame m ρ
theorem frame_reference5 : Cert.quiescent_Reference5Ideal := fun m ρ _ =>
  (θ_run Cert.Reference5Ideal.defs _ _).mono (fun r h => ⟨fun c => (h c).2.2.2.2.2.2.2, sem_eq_zero_of_no_sems (by decide) r.2⟩)
    (Cert.Reference5Ideal.Value.run (F := Ideal) m ρ)

/-- At the extended reals the seven results of the input projection are the reference's. -/
theorem same5 : Cert.algebraic_Kernel5Ideal_Reference5Ideal := by
  intro m g m' g' _ hm
  refine ⟨fun c => (Cert.Kernel5Ideal.Gen.dats m 0 c).arrAt 3 Cert.Kernel5Ideal.cfg0.N, fun c => (Cert.Kernel5Ideal.Gen.dats m 0 c).arrAt 4 Cert.Kernel5Ideal.cfg0.N, fun c => (Cert.Kernel5Ideal.Gen.dats m 0 c).arrAt 5 Cert.Kernel5Ideal.cfg0.N, fun c => (Cert.Kernel5Ideal.Gen.dats m 0 c).arrAt 6 Cert.Kernel5Ideal.cfg0.N, fun c => (Cert.Kernel5Ideal.Gen.dats m 0 c).arrAt 7 Cert.Kernel5Ideal.cfg0.N, fun c => (Cert.Kernel5Ideal.Gen.dats m 0 c).arrAt 8 Cert.Kernel5Ideal.cfg0.N, fun c => (Cert.Kernel5Ideal.Gen.dats m 0 c).arrAt 9 Cert.Kernel5Ideal.cfg0.N,
    Cert.Kernel5Ideal.Value.run_blocks (F := Ideal) m g, ?_⟩
  refine (θ_run Cert.Reference5Ideal.defs _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2⟩)
    (Cert.Reference5Ideal.Value.run (F := Ideal) m' g')
  all_goals obtain ⟨h0, h1, h2⟩ := hm c
  all_goals rw [h0, h1, h2]
  · exact (Cert.Reference5Ideal.Proj.wide_all _ _ _).trans (Cert.Kernel5Ideal.Proj.final3 m c).symm
  · exact (Cert.Reference5Ideal.Proj.query_all _ _ _).trans (Cert.Kernel5Ideal.Proj.final4 m c).symm
  · exact (Cert.Reference5Ideal.Proj.key_all _ _ _).trans (Cert.Kernel5Ideal.Proj.final5 m c).symm
  · exact (Cert.Reference5Ideal.Proj.keyT_all _ _ _).trans (Cert.Kernel5Ideal.Proj.final6 m c).symm
  · exact (Cert.Reference5Ideal.Proj.valueT_all _ _ _).trans (Cert.Kernel5Ideal.Proj.final7 m c).symm
  · exact (Cert.Reference5Ideal.Proj.value_all _ _ _).trans (Cert.Kernel5Ideal.Proj.final8 m c).symm
  · exact (Cert.Reference5Ideal.Proj.rest_all _ _ _).trans (Cert.Kernel5Ideal.Proj.final9 m c).symm

/-- The certificate: the programs run and leave their arguments, each ideal kernel is the kernel's own text, and it computes what its reference does. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Pre_finite_values.Gen.facts, frame_kernel, frame_ideal, frame_ideal_pre, frame_reference, frame_reference_pre,
  frame_kernel2, frame_ideal2, frame_reference2, frame_kernel3, frame_ideal3, frame_reference3, frame_kernel4, frame_ideal4, frame_reference4,
  frame_kernel5, frame_ideal5, frame_reference5,
  trivial, same, trivial, same2, trivial, same3, trivial, same4, trivial, same5⟩

end Cert.Proof
